-- ==== Defs.lean ====
def Pre_Kernel [hPre_ids_name_rows : Cert.Pre_ids_name_rows.Facts] (m : (ℓ : Loc Cert.Kernel.nD Cert.Kernel.τ Cert.Kernel.sig) → Buf (Elt Bits) ℓ) : Prop :=
  ∀ c : Dev Cert.Kernel.nD,
    (Cert.Pre_ids_name_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_ids_name_rows : Cert.Pre_ids_name_rows.Facts] (m : (ℓ : Loc Cert.KernelIdeal.nD Cert.KernelIdeal.τ Cert.KernelIdeal.sig) → Buf (Elt Ideal) ℓ) : Prop :=
  ∀ c : Dev Cert.KernelIdeal.nD,
    (Cert.Pre_ids_name_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_name_rows [hPre_ids_name_rows : Cert.Pre_ids_name_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_name_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_ids_name_rows : Cert.Pre_ids_name_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_ids_name_rows : Cert.Pre_ids_name_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_ids_name_rows [hReferenceIdeal : Cert.ReferenceIdeal.Facts] [hPre_ids_name_rows : Cert.Pre_ids_name_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_name_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S79360x2x128 Cert.KernelIdeal.S79360x1x128
  ∧ IdealRules.bf16_pair.BufferStatement Cert.KernelIdeal.S320x2x128 Cert.KernelIdeal.S320x1x128
  ∧ IdealRules.bf16_pair.Statement Cert.KernelIdeal.S128x128 Cert.KernelIdeal.S64x128
  ∧ IdealRules.bf16_pair.Statement Cert.KernelIdeal.S64x2x128 Cert.KernelIdeal.S64x1x128
  ∧ IdealRules.bf16_pair.Statement Cert.KernelIdeal.S10x2x128 Cert.KernelIdeal.S10x1x128
  ∧ IdealRules.bf16_pair.Statement Cert.KernelIdeal.S8x2x128 Cert.KernelIdeal.S8x1x128
  ∧ IdealRules.bf16_pair.Statement Cert.KernelIdeal.S16x128 Cert.KernelIdeal.S8x128
  ∧ IdealRules.bf16_pair.PackStatement Cert.KernelIdeal.S8x128

def algebraic_KernelIdeal_ReferenceIdeal [hKernelIdeal : Cert.KernelIdeal.Facts] [hReferenceIdeal : Cert.ReferenceIdeal.Facts] [hPre_ids_name_rows : Cert.Pre_ids_name_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_ids_name_rows : Cert.Pre_ids_name_rows.Facts),
    quiescent_Kernel (hKernel := hKernel) (hPre_ids_name_rows := hPre_ids_name_rows)
    ∧ quiescent_KernelIdeal (hKernelIdeal := hKernelIdeal) (hPre_ids_name_rows := hPre_ids_name_rows)
    ∧ quiescent_ReferenceIdeal (hReferenceIdeal := hReferenceIdeal)
    ∧ quiescent_ReferenceIdeal_pre_ids_name_rows (hReferenceIdeal := hReferenceIdeal) (hPre_ids_name_rows := hPre_ids_name_rows)
    ∧ preserves_Kernel_KernelIdeal
    ∧ algebraic_KernelIdeal_ReferenceIdeal (hKernelIdeal := hKernelIdeal) (hReferenceIdeal := hReferenceIdeal) (hPre_ids_name_rows := hPre_ids_name_rows)
-- ==== Pre_ids_name_rows.lean ====
abbrev S8x4096 : Shape := ⟨2, ![8, 4096]⟩
abbrev S7936x2560 : Shape := ⟨2, ![7936, 2560]⟩
abbrev S7936 : Shape := ⟨1, ![7936]⟩
abbrev S2560 : Shape := ⟨1, ![2560]⟩
abbrev S_ : Shape := ⟨0, ![]⟩

class Facts : Prop where
  bcast_S_S8x4096 : S_.BroadcastsInDim S8x4096 (![] : Fin 0 → Fin S8x4096.rank)

variable [Facts]

def fn {F : FTy → Type} [FloatOps F] (main_arg0 : IVec S8x4096 32) (main_arg1 : IVec S7936x2560 8) (main_arg2 : FVec F S7936 .f32) (main_arg3 : FVec F S7936 .bf16) (main_arg4 : FVec F S2560 .bf16) : IVec S8x4096 1 :=
  let main_c : IVec S_ 32 := constantI S_ 32 0#32
  let main_v0 : IVec S8x4096 32 := broadcastInDim S8x4096 ![] bcast_S_S8x4096 main_c
  let main_v1 : IVec S8x4096 1 := cmpi .sge main_arg0 main_v0
  let main_c_0 : IVec S_ 32 := constantI S_ 32 7936#32
  let main_v2 : IVec S8x4096 32 := broadcastInDim S8x4096 ![] bcast_S_S8x4096 main_c_0
  let main_v3 : IVec S8x4096 1 := cmpi .slt main_arg0 main_v2
  let main_v4 : IVec S8x4096 1 := andi main_v1 main_v3
  main_v4
-- ==== Kernel.lean ====
abbrev S8x4096 : Shape := ⟨2, ![8, 4096]⟩
abbrev S7936x2560 : Shape := ⟨2, ![7936, 2560]⟩
abbrev S7936 : Shape := ⟨1, ![7936]⟩
abbrev S2560 : Shape := ⟨1, ![2560]⟩
abbrev S128x1x256 : Shape := ⟨3, ![128, 1, 256]⟩
abbrev S62x128 : Shape := ⟨2, ![62, 128]⟩
abbrev S1x2560 : Shape := ⟨2, ![1, 2560]⟩
abbrev S655360x128 : Shape := ⟨2, ![655360, 128]⟩
abbrev S1x1x256 : Shape := ⟨3, ![1, 1, 256]⟩
abbrev S5120x128 : Shape := ⟨2, ![5120, 128]⟩
abbrev S79360x128 : Shape := ⟨2, ![79360, 128]⟩
abbrev S15872x128 : Shape := ⟨2, ![15872, 128]⟩
abbrev S80x128 : Shape := ⟨2, ![80, 128]⟩
abbrev S320x128 : Shape := ⟨2, ![320, 128]⟩
abbrev S64x128 : Shape := ⟨2, ![64, 128]⟩
abbrev S8x128x2560 : Shape := ⟨3, ![8, 128, 2560]⟩
abbrev S8 : Shape := ⟨1, ![8]⟩
abbrev S1 : Shape := ⟨1, ![1]⟩
abbrev S_ : Shape := ⟨0, ![]⟩
abbrev S1x128x2560 : Shape := ⟨3, ![1, 128, 2560]⟩
abbrev S128x2560 : Shape := ⟨2, ![128, 2560]⟩
abbrev S1x128 : Shape := ⟨2, ![1, 128]⟩
abbrev S128x128 : Shape := ⟨2, ![128, 128]⟩
abbrev S128 : Shape := ⟨1, ![128]⟩
abbrev S128x1 : Shape := ⟨2, ![128, 1]⟩
abbrev S4x128 : Shape := ⟨2, ![4, 128]⟩
abbrev S8x128 : Shape := ⟨2, ![8, 128]⟩
abbrev S1x1x1 : Shape := ⟨3, ![1, 1, 1]⟩
abbrev S10x128 : Shape := ⟨2, ![10, 128]⟩
abbrev S2x128 : Shape := ⟨2, ![2, 128]⟩
abbrev S16x128 : Shape := ⟨2, ![16, 128]⟩
abbrev S4096x20x8x128 : Shape := ⟨4, ![4096, 20, 8, 128]⟩
abbrev S4096x8x20x128 : Shape := ⟨4, ![4096, 8, 20, 128]⟩
abbrev S8x4096x2560 : Shape := ⟨3, ![8, 4096, 2560]⟩

abbrev nBuf : Space → Nat
  | .hbm => 18
  | .vmem => 13
  | .smem => 2
  | _ => 0

abbrev bufTy : (tb : Table) → Fin (tcTables nBuf tb) → BufTy
  | .hbm, ⟨0, _⟩ => ⟨S8x4096, .i32⟩
  | .hbm, ⟨1, _⟩ => ⟨S7936x2560, .i8⟩
  | .hbm, ⟨2, _⟩ => ⟨S7936, .f32⟩
  | .hbm, ⟨3, _⟩ => ⟨S7936, .bf16⟩
  | .hbm, ⟨4, _⟩ => ⟨S2560, .bf16⟩
  | .hbm, ⟨5, _⟩ => ⟨S128x1x256, .i32⟩
  | .hbm, ⟨6, _⟩ => ⟨S62x128, .f32⟩
  | .hbm, ⟨7, _⟩ => ⟨S7936, .f32⟩
  | .hbm, ⟨8, _⟩ => ⟨S62x128, .f32⟩
  | .hbm, ⟨9, _⟩ => ⟨S1x2560, .bf16⟩
  | .hbm, ⟨10, _⟩ => ⟨S655360x128, .bf16⟩
  | .hbm, ⟨11, _⟩ => ⟨S655360x128, .bf16⟩
  | .hbm, ⟨12, _⟩ => ⟨S4096x20x8x128, .bf16⟩
  | .hbm, ⟨13, _⟩ => ⟨S4096x8x20x128, .bf16⟩
  | .hbm, ⟨14, _⟩ => ⟨S8x4096x2560, .bf16⟩
  | .hbm, ⟨15, _⟩ => ⟨S4096x20x8x128, .bf16⟩
  | .hbm, ⟨16, _⟩ => ⟨S4096x8x20x128, .bf16⟩
  | .hbm, ⟨17, _⟩ => ⟨S8x4096x2560, .bf16⟩
  | .local _ .vmem, ⟨0, _⟩ => ⟨S62x128, .f32⟩
  | .local _ .vmem, ⟨1, _⟩ => ⟨S62x128, .f32⟩
  | .local _ .vmem, ⟨2, _⟩ => ⟨S1x2560, .bf16⟩
  | .local _ .vmem, ⟨3, _⟩ => ⟨S5120x128, .bf16⟩
  | .local _ .vmem, ⟨4, _⟩ => ⟨S5120x128, .bf16⟩
  | .local _ .vmem, ⟨5, _⟩ => ⟨S5120x128, .bf16⟩
  | .local _ .vmem, ⟨6, _⟩ => ⟨S5120x128, .bf16⟩
  | .local _ .vmem, ⟨7, _⟩ => ⟨S79360x128, .i32⟩
  | .local _ .vmem, ⟨8, _⟩ => ⟨S15872x128, .f32⟩
  | .local _ .vmem, ⟨9, _⟩ => ⟨S80x128, .f32⟩
  | .local _ .vmem, ⟨10, _⟩ => ⟨S320x128, .i32⟩
  | .local _ .vmem, ⟨11, _⟩ => ⟨S64x128, .f32⟩
  | .local _ .vmem, ⟨12, _⟩ => ⟨S8x128x2560, .i8⟩
  | .local _ .smem, ⟨0, _⟩ => ⟨S1x1x256, .i32⟩
  | .local _ .smem, ⟨1, _⟩ => ⟨S1x1x256, .i32⟩
  | _, _ => ⟨S8x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [BitOps F]

abbrev grid0 : Pipeline.Grid := ⟨1, ![128], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_13 : BitVec 32 := 0#32
  c0_i32_13
def k0_mult2 : BitVec 32 :=
  let c128_i32 : BitVec 32 := 128#32
  c128_i32
def k0_mult3 : BitVec 32 :=
  let c256_i32 : BitVec 32 := 256#32
  c256_i32
def k0_mult4 : BitVec 32 :=
  let c384_i32 : BitVec 32 := 384#32
  c384_i32
def k0_mult5 : BitVec 32 :=
  let c512_i32 : BitVec 32 := 512#32
  c512_i32
def k0_mult6 : BitVec 32 :=
  let c640_i32 : BitVec 32 := 640#32
  c640_i32
def k0_mult7 : BitVec 32 :=
  let c768_i32 : BitVec 32 := 768#32
  c768_i32
def k0_mult8 : BitVec 32 :=
  let c896_i32 : BitVec 32 := 896#32
  c896_i32
@[reducible] def k0_t1_loop : Scf.Loop 32 :=
  let c0_i32_48 : BitVec 32 := 0#32
  let c62_i32 : BitVec 32 := 62#32
  let v62 : BitVec 32 := Scalar.addi c0_i32_48 c62_i32
  let c1_i32_49 : BitVec 32 := 1#32
  ⟨c0_i32_48, v62, c1_i32_49⟩
def k0_mult9 (k0_t1 : Fin k0_t1_loop.trips) : BitVec 32 :=
  let c0_i32_48 : BitVec 32 := 0#32
  let c1_i32_49 : BitVec 32 := 1#32
  let arg15 : BitVec 32 := Scf.iv c0_i32_48 c1_i32_49 k0_t1
  let c128_i32_89 : BitVec 32 := 128#32
  let v196 : BitVec 32 := Scalar.muli arg15 c128_i32_89
  v196
def k0_off1 (k0_t1 : Fin k0_t1_loop.trips) : Fin 1 → Nat :=
  let c0_i32_48 : BitVec 32 := 0#32
  let c1_i32_49 : BitVec 32 := 1#32
  let arg15 : BitVec 32 := Scf.iv c0_i32_48 c1_i32_49 k0_t1
  let c8_i32_83 : BitVec 32 := 8#32
  let c0_i32_84 : BitVec 32 := 0#32
  let v186 : BitVec 1 := Scalar.cmpi .eq c8_i32_83 c0_i32_84
  let c1_i32_85 : BitVec 32 := 1#32
  let v187 : BitVec 32 := Scalar.select v186 c1_i32_85 c8_i32_83
  let v188 : BitVec 32 := Scalar.remsi arg15 v187
  let c0_i32_87 : BitVec 32 := 0#32
  let v190 : BitVec 1 := Scalar.cmpi .slt v188 c0_i32_87
  let c0_i32_88 : BitVec 32 := 0#32
  let v191 : BitVec 1 := Scalar.cmpi .slt v187 c0_i32_88
  let v192 : BitVec 1 := Scalar.xori v190 v191
  let c0_i32_86 : BitVec 32 := 0#32
  let v189 : BitVec 1 := Scalar.cmpi .ne v188 c0_i32_86
  let v193 : BitVec 1 := Scalar.andi v192 v189
  let v194 : BitVec 32 := Scalar.addi v188 v187
  let v195 : BitVec 32 := Scalar.select v193 v194 v188
  ![v195.toNat]
def k0_off2 (k0_t1 : Fin k0_t1_loop.trips) : Fin 3 → Nat :=
  let c0_i32_48 : BitVec 32 := 0#32
  let c1_i32_49 : BitVec 32 := 1#32
  let arg15 : BitVec 32 := Scf.iv c0_i32_48 c1_i32_49 k0_t1
  let c8_i32_83 : BitVec 32 := 8#32
  let c0_i32_84 : BitVec 32 := 0#32
  let v186 : BitVec 1 := Scalar.cmpi .eq c8_i32_83 c0_i32_84
  let c1_i32_85 : BitVec 32 := 1#32
  let v187 : BitVec 32 := Scalar.select v186 c1_i32_85 c8_i32_83
  let v188 : BitVec 32 := Scalar.remsi arg15 v187
  let c0_i32_87 : BitVec 32 := 0#32
  let v190 : BitVec 1 := Scalar.cmpi .slt v188 c0_i32_87
  let c0_i32_88 : BitVec 32 := 0#32
  let v191 : BitVec 1 := Scalar.cmpi .slt v187 c0_i32_88
  let v192 : BitVec 1 := Scalar.xori v190 v191
  let c0_i32_86 : BitVec 32 := 0#32
  let v189 : BitVec 1 := Scalar.cmpi .ne v188 c0_i32_86
  let v193 : BitVec 1 := Scalar.andi v192 v189
  let v194 : BitVec 32 := Scalar.addi v188 v187
  let v195 : BitVec 32 := Scalar.select v193 v194 v188
  let c0_i32_90 : BitVec 32 := 0#32
  let c0_i32_91 : BitVec 32 := 0#32
  ![v195.toNat, 0, 0]
def k0_off3 (k0_t1 : Fin k0_t1_loop.trips) : Fin 2 → Nat :=
  let c0_i32_48 : BitVec 32 := 0#32
  let c1_i32_49 : BitVec 32 := 1#32
  let arg15 : BitVec 32 := Scf.iv c0_i32_48 c1_i32_49 k0_t1
  let c128_i32_89 : BitVec 32 := 128#32
  let v196 : BitVec 32 := Scalar.muli arg15 c128_i32_89
  let v197 : BitVec 32 := v196
  let c0_i32_92 : BitVec 32 := 0#32
  ![v197.toNat, 0]
def k0_off4 (k0_t1 : Fin k0_t1_loop.trips) : Fin 2 → Nat :=
  let c0_i32_48 : BitVec 32 := 0#32
  let c1_i32_49 : BitVec 32 := 1#32
  let arg15 : BitVec 32 := Scf.iv c0_i32_48 c1_i32_49 k0_t1
  let v213 : Index := Scalar.indexCast arg15
  let c0_99 : Index := 0#32
  ![v213.toNat, 0]
def k0_off5 (k0_t1 : Fin k0_t1_loop.trips) (c0_i32_115 : BitVec 32) : Fin 2 → Nat :=
  let c0_i32_48 : BitVec 32 := 0#32
  let c1_i32_49 : BitVec 32 := 1#32
  let arg15 : BitVec 32 := Scf.iv c0_i32_48 c1_i32_49 k0_t1
  let c1280_i32 : BitVec 32 := 1280#32
  let v227 : BitVec 32 := Scalar.muli arg15 c1280_i32
  let v279 : BitVec 32 := Scalar.addi v227 c0_i32_115
  let v280 : Index := Scalar.indexCast v279
  let c0_116 : Index := 0#32
  ![v280.toNat, 0]
def k0_off6 (k0_t1 : Fin k0_t1_loop.trips) (c0_i32_117 : BitVec 32) : Fin 2 → Nat :=
  let c0_i32_48 : BitVec 32 := 0#32
  let c1_i32_49 : BitVec 32 := 1#32
  let arg15 : BitVec 32 := Scf.iv c0_i32_48 c1_i32_49 k0_t1
  let c1280_i32 : BitVec 32 := 1280#32
  let v227 : BitVec 32 := Scalar.muli arg15 c1280_i32
  let v284 : BitVec 32 := Scalar.addi v227 c0_i32_117
  let c10_i32 : BitVec 32 := 10#32
  let v285 : BitVec 32 := Scalar.addi v284 c10_i32
  let v286 : Index := Scalar.indexCast v285
  let c0_118 : Index := 0#32
  ![v286.toNat, 0]
def k0_off7 (k0_t1 : Fin k0_t1_loop.trips) : Fin 2 → Nat :=
  let c0_i32_48 : BitVec 32 := 0#32
  let c1_i32_49 : BitVec 32 := 1#32
  let arg15 : BitVec 32 := Scf.iv c0_i32_48 c1_i32_49 k0_t1
  let c256_i32_250 : BitVec 32 := 256#32
  let v648 : BitVec 32 := Scalar.muli arg15 c256_i32_250
  let v649 : Index := Scalar.indexCast v648
  let c0_251 : Index := 0#32
  ![v649.toNat, 0]
def k0_off8 (k0_t1 : Fin k0_t1_loop.trips) : Fin 2 → Nat :=
  let c0_i32_48 : BitVec 32 := 0#32
  let c1_i32_49 : BitVec 32 := 1#32
  let arg15 : BitVec 32 := Scf.iv c0_i32_48 c1_i32_49 k0_t1
  let c256_i32_250 : BitVec 32 := 256#32
  let v648 : BitVec 32 := Scalar.muli arg15 c256_i32_250
  let c1_i32_252 : BitVec 32 := 1#32
  let v653 : BitVec 32 := Scalar.addi v648 c1_i32_252
  let v654 : Index := Scalar.indexCast v653
  let c0_253 : Index := 0#32
  ![v654.toNat, 0]
def k0_cond2 (k0_t1 : Fin k0_t1_loop.trips) : BitVec 1 :=
  let c0_i32_48 : BitVec 32 := 0#32
  let c1_i32_49 : BitVec 32 := 1#32
  let arg15 : BitVec 32 := Scf.iv c0_i32_48 c1_i32_49 k0_t1
  let c8_i32_254 : BitVec 32 := 8#32
  let v658 : BitVec 32 := Scalar.addi arg15 c8_i32_254
  let c62_i32_255 : BitVec 32 := 62#32
  let v659 : BitVec 1 := Scalar.cmpi .slt v658 c62_i32_255
  let v660 : BitVec 32 := Scalar.extui v659
  let c0_i32_256 : BitVec 32 := 0#32
  let v661 : BitVec 1 := Scalar.cmpi .ne v660 c0_i32_256
  v661

def k0_mult10 (k0_t1 : Fin k0_t1_loop.trips) : BitVec 32 :=
  let c0_i32_48 : BitVec 32 := 0#32
  let c1_i32_49 : BitVec 32 := 1#32
  let arg15 : BitVec 32 := Scf.iv c0_i32_48 c1_i32_49 k0_t1
  let c8_i32_257 : BitVec 32 := 8#32
  let v662 : BitVec 32 := Scalar.addi arg15 c8_i32_257
  let c128_i32_264 : BitVec 32 := 128#32
  let v673 : BitVec 32 := Scalar.muli v662 c128_i32_264
  v673
def k0_off9 (k0_t1 : Fin k0_t1_loop.trips) : Fin 1 → Nat :=
  let c0_i32_48 : BitVec 32 := 0#32
  let c1_i32_49 : BitVec 32 := 1#32
  let arg15 : BitVec 32 := Scf.iv c0_i32_48 c1_i32_49 k0_t1
  let c8_i32_257 : BitVec 32 := 8#32
  let v662 : BitVec 32 := Scalar.addi arg15 c8_i32_257
  let c8_i32_258 : BitVec 32 := 8#32
  let c0_i32_259 : BitVec 32 := 0#32
  let v663 : BitVec 1 := Scalar.cmpi .eq c8_i32_258 c0_i32_259
  let c1_i32_260 : BitVec 32 := 1#32
  let v664 : BitVec 32 := Scalar.select v663 c1_i32_260 c8_i32_258
  let v665 : BitVec 32 := Scalar.remsi v662 v664
  let c0_i32_262 : BitVec 32 := 0#32
  let v667 : BitVec 1 := Scalar.cmpi .slt v665 c0_i32_262
  let c0_i32_263 : BitVec 32 := 0#32
  let v668 : BitVec 1 := Scalar.cmpi .slt v664 c0_i32_263
  let v669 : BitVec 1 := Scalar.xori v667 v668
  let c0_i32_261 : BitVec 32 := 0#32
  let v666 : BitVec 1 := Scalar.cmpi .ne v665 c0_i32_261
  let v670 : BitVec 1 := Scalar.andi v669 v666
  let v671 : BitVec 32 := Scalar.addi v665 v664
  let v672 : BitVec 32 := Scalar.select v670 v671 v665
  ![v672.toNat]
def k0_off10 (k0_t1 : Fin k0_t1_loop.trips) : Fin 3 → Nat :=
  let c0_i32_48 : BitVec 32 := 0#32
  let c1_i32_49 : BitVec 32 := 1#32
  let arg15 : BitVec 32 := Scf.iv c0_i32_48 c1_i32_49 k0_t1
  let c8_i32_257 : BitVec 32 := 8#32
  let v662 : BitVec 32 := Scalar.addi arg15 c8_i32_257
  let c8_i32_258 : BitVec 32 := 8#32
  let c0_i32_259 : BitVec 32 := 0#32
  let v663 : BitVec 1 := Scalar.cmpi .eq c8_i32_258 c0_i32_259
  let c1_i32_260 : BitVec 32 := 1#32
  let v664 : BitVec 32 := Scalar.select v663 c1_i32_260 c8_i32_258
  let v665 : BitVec 32 := Scalar.remsi v662 v664
  let c0_i32_262 : BitVec 32 := 0#32
  let v667 : BitVec 1 := Scalar.cmpi .slt v665 c0_i32_262
  let c0_i32_263 : BitVec 32 := 0#32
  let v668 : BitVec 1 := Scalar.cmpi .slt v664 c0_i32_263
  let v669 : BitVec 1 := Scalar.xori v667 v668
  let c0_i32_261 : BitVec 32 := 0#32
  let v666 : BitVec 1 := Scalar.cmpi .ne v665 c0_i32_261
  let v670 : BitVec 1 := Scalar.andi v669 v666
  let v671 : BitVec 32 := Scalar.addi v665 v664
  let v672 : BitVec 32 := Scalar.select v670 v671 v665
  let c0_i32_265 : BitVec 32 := 0#32
  let c0_i32_266 : BitVec 32 := 0#32
  ![v672.toNat, 0, 0]
def k0_off11 (k0_t1 : Fin k0_t1_loop.trips) : Fin 2 → Nat :=
  let c0_i32_48 : BitVec 32 := 0#32
  let c1_i32_49 : BitVec 32 := 1#32
  let arg15 : BitVec 32 := Scf.iv c0_i32_48 c1_i32_49 k0_t1
  let c8_i32_257 : BitVec 32 := 8#32
  let v662 : BitVec 32 := Scalar.addi arg15 c8_i32_257
  let c128_i32_264 : BitVec 32 := 128#32
  let v673 : BitVec 32 := Scalar.muli v662 c128_i32_264
  let v674 : BitVec 32 := v673
  let c0_i32_267 : BitVec 32 := 0#32
  ![v674.toNat, 0]
@[reducible] def k0_t2_loop : Scf.Loop 32 :=
  let c0_i32_11 : BitVec 32 := 0#32
  let c8_i32 : BitVec 32 := 8#32
  let v13 : BitVec 32 := Scalar.addi c0_i32_11 c8_i32
  let c1_i32 : BitVec 32 := 1#32
  ⟨c0_i32_11, v13, c1_i32⟩
def k0_off12 (k0_t2 : Fin k0_t2_loop.trips) : Fin 3 → Nat :=
  let c0_16 : Index := 0#32
  let c0_17 : Index := 0#32
  let c0_i32_11 : BitVec 32 := 0#32
  let c1_i32 : BitVec 32 := 1#32
  let arg15 : BitVec 32 := Scf.iv c0_i32_11 c1_i32 k0_t2
  let c4_i32 : BitVec 32 := 4#32
  let v14 : BitVec 32 := Scalar.muli arg15 c4_i32
  let c0_i32_13 : BitVec 32 := 0#32
  let v15 : BitVec 32 := Scalar.addi v14 c0_i32_13
  let c8_i32_14 : BitVec 32 := 8#32
  let v16 : BitVec 32 := Scalar.muli v15 c8_i32_14
  let c0_i32_15 : BitVec 32 := 0#32
  let v17 : BitVec 32 := Scalar.addi v16 c0_i32_15
  let v18 : Index := Scalar.indexCast v17
  ![0, 0, v18.toNat]
def k0_mult11 (v19 : BitVec 32) : BitVec 32 :=
  let c10_i32 : BitVec 32 := 10#32
  let v20 : BitVec 32 := Scalar.muli v19 c10_i32
  v20

def k0_off13 (v19 : BitVec 32) : Fin 2 → Nat :=
  let c10_i32 : BitVec 32 := 10#32
  let v20 : BitVec 32 := Scalar.muli v19 c10_i32
  let v21 : BitVec 32 := v20
  let v22 : Index := Scalar.indexCast v21
  let c0_18 : Index := 0#32
  ![v22.toNat, 0]

def k0_chk1 (v19 : BitVec 32) : Prop :=
  (2 ∣ (k0_mult11 v19).toNat) ∧
  (∀ a, (k0_off13 v19) a + S10x128.size a ≤ S79360x128.size a)
theorem k0_mult11_dvd : ∀ (v19 : BitVec 32) (k0_hw1 : k0_chk1 v19), 2 ∣ (k0_mult11 v19).toNat := fun v19 k0_hw1 => k0_hw1.1
theorem k0_off13_inb : ∀ (v19 : BitVec 32) (k0_hw1 : k0_chk1 v19), ∀ a, (k0_off13 v19) a + S10x128.size a ≤ S79360x128.size a := fun v19 k0_hw1 => k0_hw1.2

def k0_off14 (k0_t2 : Fin k0_t2_loop.trips) : Fin 3 → Nat :=
  let c0_22 : Index := 0#32
  let c0_23 : Index := 0#32
  let c0_i32_11 : BitVec 32 := 0#32
  let c1_i32 : BitVec 32 := 1#32
  let arg15 : BitVec 32 := Scf.iv c0_i32_11 c1_i32 k0_t2
  let c4_i32 : BitVec 32 := 4#32
  let v14 : BitVec 32 := Scalar.muli arg15 c4_i32
  let c0_i32_13 : BitVec 32 := 0#32
  let v15 : BitVec 32 := Scalar.addi v14 c0_i32_13
  let c8_i32_14 : BitVec 32 := 8#32
  let v16 : BitVec 32 := Scalar.muli v15 c8_i32_14
  let c0_i32_21 : BitVec 32 := 0#32
  let v27 : BitVec 32 := Scalar.addi v16 c0_i32_21
  let v28 : Index := Scalar.indexCast v27
  ![0, 0, v28.toNat]
def k0_mult12 (v29 : BitVec 32) : BitVec 32 :=
  let c2_i32 : BitVec 32 := 2#32
  let v30 : BitVec 32 := Scalar.muli v29 c2_i32
  v30

def k0_off15 (v29 : BitVec 32) : Fin 2 → Nat :=
  let c2_i32 : BitVec 32 := 2#32
  let v30 : BitVec 32 := Scalar.muli v29 c2_i32
  let v31 : BitVec 32 := v30
  let v32 : Index := Scalar.indexCast v31
  let c0_24 : Index := 0#32
  ![v32.toNat, 0]

def k0_chk2 (v29 : BitVec 32) : Prop :=
  (2 ∣ (k0_mult12 v29).toNat) ∧
  (∀ a, (k0_off15 v29) a + S2x128.size a ≤ S15872x128.size a)
theorem k0_mult12_dvd : ∀ (v29 : BitVec 32) (k0_hw2 : k0_chk2 v29), 2 ∣ (k0_mult12 v29).toNat := fun v29 k0_hw2 => k0_hw2.1
theorem k0_off15_inb : ∀ (v29 : BitVec 32) (k0_hw2 : k0_chk2 v29), ∀ a, (k0_off15 v29) a + S2x128.size a ≤ S15872x128.size a := fun v29 k0_hw2 => k0_hw2.2

def k0_off16 (k0_t2 : Fin k0_t2_loop.trips) : Fin 3 → Nat :=
  let c0_28 : Index := 0#32
  let c0_29 : Index := 0#32
  let c0_i32_11 : BitVec 32 := 0#32
  let c1_i32 : BitVec 32 := 1#32
  let arg15 : BitVec 32 := Scf.iv c0_i32_11 c1_i32 k0_t2
  let c4_i32 : BitVec 32 := 4#32
  let v14 : BitVec 32 := Scalar.muli arg15 c4_i32
  let c0_i32_13 : BitVec 32 := 0#32
  let v15 : BitVec 32 := Scalar.addi v14 c0_i32_13
  let c8_i32_14 : BitVec 32 := 8#32
  let v16 : BitVec 32 := Scalar.muli v15 c8_i32_14
  let c1_i32_27 : BitVec 32 := 1#32
  let v37 : BitVec 32 := Scalar.addi v16 c1_i32_27
  let v38 : Index := Scalar.indexCast v37
  ![0, 0, v38.toNat]
def k0_mult13 (v39 : BitVec 32) : BitVec 32 :=
  let c10_i32_30 : BitVec 32 := 10#32
  let v40 : BitVec 32 := Scalar.muli v39 c10_i32_30
  v40

def k0_off17 (v39 : BitVec 32) : Fin 2 → Nat :=
  let c10_i32_30 : BitVec 32 := 10#32
  let v40 : BitVec 32 := Scalar.muli v39 c10_i32_30
  let v41 : BitVec 32 := v40
  let v42 : Index := Scalar.indexCast v41
  let c0_31 : Index := 0#32
  ![v42.toNat, 0]

def k0_chk3 (v39 : BitVec 32) : Prop :=
  (2 ∣ (k0_mult13 v39).toNat) ∧
  (∀ a, (k0_off17 v39) a + S10x128.size a ≤ S79360x128.size a)
theorem k0_mult13_dvd : ∀ (v39 : BitVec 32) (k0_hw3 : k0_chk3 v39), 2 ∣ (k0_mult13 v39).toNat := fun v39 k0_hw3 => k0_hw3.1
theorem k0_off17_inb : ∀ (v39 : BitVec 32) (k0_hw3 : k0_chk3 v39), ∀ a, (k0_off17 v39) a + S10x128.size a ≤ S79360x128.size a := fun v39 k0_hw3 => k0_hw3.2

def k0_off18 (k0_t2 : Fin k0_t2_loop.trips) : Fin 3 → Nat :=
  let c0_35 : Index := 0#32
  let c0_36 : Index := 0#32
  let c0_i32_11 : BitVec 32 := 0#32
  let c1_i32 : BitVec 32 := 1#32
  let arg15 : BitVec 32 := Scf.iv c0_i32_11 c1_i32 k0_t2
  let c4_i32 : BitVec 32 := 4#32
  let v14 : BitVec 32 := Scalar.muli arg15 c4_i32
  let c0_i32_13 : BitVec 32 := 0#32
  let v15 : BitVec 32 := Scalar.addi v14 c0_i32_13
  let c8_i32_14 : BitVec 32 := 8#32
  let v16 : BitVec 32 := Scalar.muli v15 c8_i32_14
  let c1_i32_34 : BitVec 32 := 1#32
  let v47 : BitVec 32 := Scalar.addi v16 c1_i32_34
  let v48 : Index := Scalar.indexCast v47
  ![0, 0, v48.toNat]
def k0_mult14 (v49 : BitVec 32) : BitVec 32 :=
  let c2_i32_37 : BitVec 32 := 2#32
  let v50 : BitVec 32 := Scalar.muli v49 c2_i32_37
  v50

def k0_off19 (v49 : BitVec 32) : Fin 2 → Nat :=
  let c2_i32_37 : BitVec 32 := 2#32
  let v50 : BitVec 32 := Scalar.muli v49 c2_i32_37
  let v51 : BitVec 32 := v50
  let v52 : Index := Scalar.indexCast v51
  let c0_38 : Index := 0#32
  ![v52.toNat, 0]

def k0_chk4 (v49 : BitVec 32) : Prop :=
  (2 ∣ (k0_mult14 v49).toNat) ∧
  (∀ a, (k0_off19 v49) a + S2x128.size a ≤ S15872x128.size a)
theorem k0_mult14_dvd : ∀ (v49 : BitVec 32) (k0_hw4 : k0_chk4 v49), 2 ∣ (k0_mult14 v49).toNat := fun v49 k0_hw4 => k0_hw4.1
theorem k0_off19_inb : ∀ (v49 : BitVec 32) (k0_hw4 : k0_chk4 v49), ∀ a, (k0_off19 v49) a + S2x128.size a ≤ S15872x128.size a := fun v49 k0_hw4 => k0_hw4.2

def k0_off20 (k0_t2 : Fin k0_t2_loop.trips) : Fin 3 → Nat :=
  let c0_42 : Index := 0#32
  let c0_43 : Index := 0#32
  let c0_i32_11 : BitVec 32 := 0#32
  let c1_i32 : BitVec 32 := 1#32
  let arg15 : BitVec 32 := Scf.iv c0_i32_11 c1_i32 k0_t2
  let c4_i32 : BitVec 32 := 4#32
  let v14 : BitVec 32 := Scalar.muli arg15 c4_i32
  let c0_i32_13 : BitVec 32 := 0#32
  let v15 : BitVec 32 := Scalar.addi v14 c0_i32_13
  let c8_i32_14 : BitVec 32 := 8#32
  let v16 : BitVec 32 := Scalar.muli v15 c8_i32_14
  let c2_i32_41 : BitVec 32 := 2#32
  let v57 : BitVec 32 := Scalar.addi v16 c2_i32_41
  let v58 : Index := Scalar.indexCast v57
  ![0, 0, v58.toNat]
def k0_mult15 (v59 : BitVec 32) : BitVec 32 :=
  let c10_i32_44 : BitVec 32 := 10#32
  let v60 : BitVec 32 := Scalar.muli v59 c10_i32_44
  v60

def k0_off21 (v59 : BitVec 32) : Fin 2 → Nat :=
  let c10_i32_44 : BitVec 32 := 10#32
  let v60 : BitVec 32 := Scalar.muli v59 c10_i32_44
  let v61 : BitVec 32 := v60
  let v62 : Index := Scalar.indexCast v61
  let c0_45 : Index := 0#32
  ![v62.toNat, 0]

def k0_chk5 (v59 : BitVec 32) : Prop :=
  (2 ∣ (k0_mult15 v59).toNat) ∧
  (∀ a, (k0_off21 v59) a + S10x128.size a ≤ S79360x128.size a)
theorem k0_mult15_dvd : ∀ (v59 : BitVec 32) (k0_hw5 : k0_chk5 v59), 2 ∣ (k0_mult15 v59).toNat := fun v59 k0_hw5 => k0_hw5.1
theorem k0_off21_inb : ∀ (v59 : BitVec 32) (k0_hw5 : k0_chk5 v59), ∀ a, (k0_off21 v59) a + S10x128.size a ≤ S79360x128.size a := fun v59 k0_hw5 => k0_hw5.2

def k0_off22 (k0_t2 : Fin k0_t2_loop.trips) : Fin 3 → Nat :=
  let c0_48 : Index := 0#32
  let c0_49 : Index := 0#32
  let c0_i32_11 : BitVec 32 := 0#32
  let c1_i32 : BitVec 32 := 1#32
  let arg15 : BitVec 32 := Scf.iv c0_i32_11 c1_i32 k0_t2
  let c4_i32 : BitVec 32 := 4#32
  let v14 : BitVec 32 := Scalar.muli arg15 c4_i32
  let c0_i32_13 : BitVec 32 := 0#32
  let v15 : BitVec 32 := Scalar.addi v14 c0_i32_13
  let c8_i32_14 : BitVec 32 := 8#32
  let v16 : BitVec 32 := Scalar.muli v15 c8_i32_14
  let c2_i32_47 : BitVec 32 := 2#32
  let v67 : BitVec 32 := Scalar.addi v16 c2_i32_47
  let v68 : Index := Scalar.indexCast v67
  ![0, 0, v68.toNat]
def k0_mult16 (v69 : BitVec 32) : BitVec 32 :=
  let c2_i32_50 : BitVec 32 := 2#32
  let v70 : BitVec 32 := Scalar.muli v69 c2_i32_50
  v70

def k0_off23 (v69 : BitVec 32) : Fin 2 → Nat :=
  let c2_i32_50 : BitVec 32 := 2#32
  let v70 : BitVec 32 := Scalar.muli v69 c2_i32_50
  let v71 : BitVec 32 := v70
  let v72 : Index := Scalar.indexCast v71
  let c0_51 : Index := 0#32
  ![v72.toNat, 0]

def k0_chk6 (v69 : BitVec 32) : Prop :=
  (2 ∣ (k0_mult16 v69).toNat) ∧
  (∀ a, (k0_off23 v69) a + S2x128.size a ≤ S15872x128.size a)
theorem k0_mult16_dvd : ∀ (v69 : BitVec 32) (k0_hw6 : k0_chk6 v69), 2 ∣ (k0_mult16 v69).toNat := fun v69 k0_hw6 => k0_hw6.1
theorem k0_off23_inb : ∀ (v69 : BitVec 32) (k0_hw6 : k0_chk6 v69), ∀ a, (k0_off23 v69) a + S2x128.size a ≤ S15872x128.size a := fun v69 k0_hw6 => k0_hw6.2

def k0_off24 (k0_t2 : Fin k0_t2_loop.trips) : Fin 3 → Nat :=
  let c0_54 : Index := 0#32
  let c0_55 : Index := 0#32
  let c0_i32_11 : BitVec 32 := 0#32
  let c1_i32 : BitVec 32 := 1#32
  let arg15 : BitVec 32 := Scf.iv c0_i32_11 c1_i32 k0_t2
  let c4_i32 : BitVec 32 := 4#32
  let v14 : BitVec 32 := Scalar.muli arg15 c4_i32
  let c0_i32_13 : BitVec 32 := 0#32
  let v15 : BitVec 32 := Scalar.addi v14 c0_i32_13
  let c8_i32_14 : BitVec 32 := 8#32
  let v16 : BitVec 32 := Scalar.muli v15 c8_i32_14
  let c3_i32 : BitVec 32 := 3#32
  let v77 : BitVec 32 := Scalar.addi v16 c3_i32
  let v78 : Index := Scalar.indexCast v77
  ![0, 0, v78.toNat]
def k0_mult17 (v79 : BitVec 32) : BitVec 32 :=
  let c10_i32_56 : BitVec 32 := 10#32
  let v80 : BitVec 32 := Scalar.muli v79 c10_i32_56
  v80

def k0_off25 (v79 : BitVec 32) : Fin 2 → Nat :=
  let c10_i32_56 : BitVec 32 := 10#32
  let v80 : BitVec 32 := Scalar.muli v79 c10_i32_56
  let v81 : BitVec 32 := v80
  let v82 : Index := Scalar.indexCast v81
  let c0_57 : Index := 0#32
  ![v82.toNat, 0]

def k0_chk7 (v79 : BitVec 32) : Prop :=
  (2 ∣ (k0_mult17 v79).toNat) ∧
  (∀ a, (k0_off25 v79) a + S10x128.size a ≤ S79360x128.size a)
theorem k0_mult17_dvd : ∀ (v79 : BitVec 32) (k0_hw7 : k0_chk7 v79), 2 ∣ (k0_mult17 v79).toNat := fun v79 k0_hw7 => k0_hw7.1
theorem k0_off25_inb : ∀ (v79 : BitVec 32) (k0_hw7 : k0_chk7 v79), ∀ a, (k0_off25 v79) a + S10x128.size a ≤ S79360x128.size a := fun v79 k0_hw7 => k0_hw7.2

def k0_off26 (k0_t2 : Fin k0_t2_loop.trips) : Fin 3 → Nat :=
  let c0_60 : Index := 0#32
  let c0_61 : Index := 0#32
  let c0_i32_11 : BitVec 32 := 0#32
  let c1_i32 : BitVec 32 := 1#32
  let arg15 : BitVec 32 := Scf.iv c0_i32_11 c1_i32 k0_t2
  let c4_i32 : BitVec 32 := 4#32
  let v14 : BitVec 32 := Scalar.muli arg15 c4_i32
  let c0_i32_13 : BitVec 32 := 0#32
  let v15 : BitVec 32 := Scalar.addi v14 c0_i32_13
  let c8_i32_14 : BitVec 32 := 8#32
  let v16 : BitVec 32 := Scalar.muli v15 c8_i32_14
  let c3_i32_59 : BitVec 32 := 3#32
  let v87 : BitVec 32 := Scalar.addi v16 c3_i32_59
  let v88 : Index := Scalar.indexCast v87
  ![0, 0, v88.toNat]
def k0_mult18 (v89 : BitVec 32) : BitVec 32 :=
  let c2_i32_62 : BitVec 32 := 2#32
  let v90 : BitVec 32 := Scalar.muli v89 c2_i32_62
  v90

def k0_off27 (v89 : BitVec 32) : Fin 2 → Nat :=
  let c2_i32_62 : BitVec 32 := 2#32
  let v90 : BitVec 32 := Scalar.muli v89 c2_i32_62
  let v91 : BitVec 32 := v90
  let v92 : Index := Scalar.indexCast v91
  let c0_63 : Index := 0#32
  ![v92.toNat, 0]

def k0_chk8 (v89 : BitVec 32) : Prop :=
  (2 ∣ (k0_mult18 v89).toNat) ∧
  (∀ a, (k0_off27 v89) a + S2x128.size a ≤ S15872x128.size a)
theorem k0_mult18_dvd : ∀ (v89 : BitVec 32) (k0_hw8 : k0_chk8 v89), 2 ∣ (k0_mult18 v89).toNat := fun v89 k0_hw8 => k0_hw8.1
theorem k0_off27_inb : ∀ (v89 : BitVec 32) (k0_hw8 : k0_chk8 v89), ∀ a, (k0_off27 v89) a + S2x128.size a ≤ S15872x128.size a := fun v89 k0_hw8 => k0_hw8.2

def k0_off28 (k0_t2 : Fin k0_t2_loop.trips) : Fin 3 → Nat :=
  let c0_66 : Index := 0#32
  let c0_67 : Index := 0#32
  let c0_i32_11 : BitVec 32 := 0#32
  let c1_i32 : BitVec 32 := 1#32
  let arg15 : BitVec 32 := Scf.iv c0_i32_11 c1_i32 k0_t2
  let c4_i32 : BitVec 32 := 4#32
  let v14 : BitVec 32 := Scalar.muli arg15 c4_i32
  let c0_i32_13 : BitVec 32 := 0#32
  let v15 : BitVec 32 := Scalar.addi v14 c0_i32_13
  let c8_i32_14 : BitVec 32 := 8#32
  let v16 : BitVec 32 := Scalar.muli v15 c8_i32_14
  let c4_i32_65 : BitVec 32 := 4#32
  let v97 : BitVec 32 := Scalar.addi v16 c4_i32_65
  let v98 : Index := Scalar.indexCast v97
  ![0, 0, v98.toNat]
def k0_mult19 (v99 : BitVec 32) : BitVec 32 :=
  let c10_i32_68 : BitVec 32 := 10#32
  let v100 : BitVec 32 := Scalar.muli v99 c10_i32_68
  v100

def k0_off29 (v99 : BitVec 32) : Fin 2 → Nat :=
  let c10_i32_68 : BitVec 32 := 10#32
  let v100 : BitVec 32 := Scalar.muli v99 c10_i32_68
  let v101 : BitVec 32 := v100
  let v102 : Index := Scalar.indexCast v101
  let c0_69 : Index := 0#32
  ![v102.toNat, 0]

def k0_chk9 (v99 : BitVec 32) : Prop :=
  (2 ∣ (k0_mult19 v99).toNat) ∧
  (∀ a, (k0_off29 v99) a + S10x128.size a ≤ S79360x128.size a)
theorem k0_mult19_dvd : ∀ (v99 : BitVec 32) (k0_hw9 : k0_chk9 v99), 2 ∣ (k0_mult19 v99).toNat := fun v99 k0_hw9 => k0_hw9.1
theorem k0_off29_inb : ∀ (v99 : BitVec 32) (k0_hw9 : k0_chk9 v99), ∀ a, (k0_off29 v99) a + S10x128.size a ≤ S79360x128.size a := fun v99 k0_hw9 => k0_hw9.2

def k0_off30 (k0_t2 : Fin k0_t2_loop.trips) : Fin 3 → Nat :=
  let c0_72 : Index := 0#32
  let c0_73 : Index := 0#32
  let c0_i32_11 : BitVec 32 := 0#32
  let c1_i32 : BitVec 32 := 1#32
  let arg15 : BitVec 32 := Scf.iv c0_i32_11 c1_i32 k0_t2
  let c4_i32 : BitVec 32 := 4#32
  let v14 : BitVec 32 := Scalar.muli arg15 c4_i32
  let c0_i32_13 : BitVec 32 := 0#32
  let v15 : BitVec 32 := Scalar.addi v14 c0_i32_13
  let c8_i32_14 : BitVec 32 := 8#32
  let v16 : BitVec 32 := Scalar.muli v15 c8_i32_14
  let c4_i32_71 : BitVec 32 := 4#32
  let v107 : BitVec 32 := Scalar.addi v16 c4_i32_71
  let v108 : Index := Scalar.indexCast v107
  ![0, 0, v108.toNat]
def k0_mult20 (v109 : BitVec 32) : BitVec 32 :=
  let c2_i32_74 : BitVec 32 := 2#32
  let v110 : BitVec 32 := Scalar.muli v109 c2_i32_74
  v110

def k0_off31 (v109 : BitVec 32) : Fin 2 → Nat :=
  let c2_i32_74 : BitVec 32 := 2#32
  let v110 : BitVec 32 := Scalar.muli v109 c2_i32_74
  let v111 : BitVec 32 := v110
  let v112 : Index := Scalar.indexCast v111
  let c0_75 : Index := 0#32
  ![v112.toNat, 0]

def k0_chk10 (v109 : BitVec 32) : Prop :=
  (2 ∣ (k0_mult20 v109).toNat) ∧
  (∀ a, (k0_off31 v109) a + S2x128.size a ≤ S15872x128.size a)
theorem k0_mult20_dvd : ∀ (v109 : BitVec 32) (k0_hw10 : k0_chk10 v109), 2 ∣ (k0_mult20 v109).toNat := fun v109 k0_hw10 => k0_hw10.1
theorem k0_off31_inb : ∀ (v109 : BitVec 32) (k0_hw10 : k0_chk10 v109), ∀ a, (k0_off31 v109) a + S2x128.size a ≤ S15872x128.size a := fun v109 k0_hw10 => k0_hw10.2

def k0_off32 (k0_t2 : Fin k0_t2_loop.trips) : Fin 3 → Nat :=
  let c0_78 : Index := 0#32
  let c0_79 : Index := 0#32
  let c0_i32_11 : BitVec 32 := 0#32
  let c1_i32 : BitVec 32 := 1#32
  let arg15 : BitVec 32 := Scf.iv c0_i32_11 c1_i32 k0_t2
  let c4_i32 : BitVec 32 := 4#32
  let v14 : BitVec 32 := Scalar.muli arg15 c4_i32
  let c0_i32_13 : BitVec 32 := 0#32
  let v15 : BitVec 32 := Scalar.addi v14 c0_i32_13
  let c8_i32_14 : BitVec 32 := 8#32
  let v16 : BitVec 32 := Scalar.muli v15 c8_i32_14
  let c5_i32 : BitVec 32 := 5#32
  let v117 : BitVec 32 := Scalar.addi v16 c5_i32
  let v118 : Index := Scalar.indexCast v117
  ![0, 0, v118.toNat]
def k0_mult21 (v119 : BitVec 32) : BitVec 32 :=
  let c10_i32_80 : BitVec 32 := 10#32
  let v120 : BitVec 32 := Scalar.muli v119 c10_i32_80
  v120

def k0_off33 (v119 : BitVec 32) : Fin 2 → Nat :=
  let c10_i32_80 : BitVec 32 := 10#32
  let v120 : BitVec 32 := Scalar.muli v119 c10_i32_80
  let v121 : BitVec 32 := v120
  let v122 : Index := Scalar.indexCast v121
  let c0_81 : Index := 0#32
  ![v122.toNat, 0]

def k0_chk11 (v119 : BitVec 32) : Prop :=
  (2 ∣ (k0_mult21 v119).toNat) ∧
  (∀ a, (k0_off33 v119) a + S10x128.size a ≤ S79360x128.size a)
theorem k0_mult21_dvd : ∀ (v119 : BitVec 32) (k0_hw11 : k0_chk11 v119), 2 ∣ (k0_mult21 v119).toNat := fun v119 k0_hw11 => k0_hw11.1
theorem k0_off33_inb : ∀ (v119 : BitVec 32) (k0_hw11 : k0_chk11 v119), ∀ a, (k0_off33 v119) a + S10x128.size a ≤ S79360x128.size a := fun v119 k0_hw11 => k0_hw11.2

def k0_off34 (k0_t2 : Fin k0_t2_loop.trips) : Fin 3 → Nat :=
  let c0_84 : Index := 0#32
  let c0_85 : Index := 0#32
  let c0_i32_11 : BitVec 32 := 0#32
  let c1_i32 : BitVec 32 := 1#32
  let arg15 : BitVec 32 := Scf.iv c0_i32_11 c1_i32 k0_t2
  let c4_i32 : BitVec 32 := 4#32
  let v14 : BitVec 32 := Scalar.muli arg15 c4_i32
  let c0_i32_13 : BitVec 32 := 0#32
  let v15 : BitVec 32 := Scalar.addi v14 c0_i32_13
  let c8_i32_14 : BitVec 32 := 8#32
  let v16 : BitVec 32 := Scalar.muli v15 c8_i32_14
  let c5_i32_83 : BitVec 32 := 5#32
  let v127 : BitVec 32 := Scalar.addi v16 c5_i32_83
  let v128 : Index := Scalar.indexCast v127
  ![0, 0, v128.toNat]
def k0_mult22 (v129 : BitVec 32) : BitVec 32 :=
  let c2_i32_86 : BitVec 32 := 2#32
  let v130 : BitVec 32 := Scalar.muli v129 c2_i32_86
  v130

def k0_off35 (v129 : BitVec 32) : Fin 2 → Nat :=
  let c2_i32_86 : BitVec 32 := 2#32
  let v130 : BitVec 32 := Scalar.muli v129 c2_i32_86
  let v131 : BitVec 32 := v130
  let v132 : Index := Scalar.indexCast v131
  let c0_87 : Index := 0#32
  ![v132.toNat, 0]

def k0_chk12 (v129 : BitVec 32) : Prop :=
  (2 ∣ (k0_mult22 v129).toNat) ∧
  (∀ a, (k0_off35 v129) a + S2x128.size a ≤ S15872x128.size a)
theorem k0_mult22_dvd : ∀ (v129 : BitVec 32) (k0_hw12 : k0_chk12 v129), 2 ∣ (k0_mult22 v129).toNat := fun v129 k0_hw12 => k0_hw12.1
theorem k0_off35_inb : ∀ (v129 : BitVec 32) (k0_hw12 : k0_chk12 v129), ∀ a, (k0_off35 v129) a + S2x128.size a ≤ S15872x128.size a := fun v129 k0_hw12 => k0_hw12.2

def k0_off36 (k0_t2 : Fin k0_t2_loop.trips) : Fin 3 → Nat :=
  let c0_89 : Index := 0#32
  let c0_90 : Index := 0#32
  let c0_i32_11 : BitVec 32 := 0#32
  let c1_i32 : BitVec 32 := 1#32
  let arg15 : BitVec 32 := Scf.iv c0_i32_11 c1_i32 k0_t2
  let c4_i32 : BitVec 32 := 4#32
  let v14 : BitVec 32 := Scalar.muli arg15 c4_i32
  let c0_i32_13 : BitVec 32 := 0#32
  let v15 : BitVec 32 := Scalar.addi v14 c0_i32_13
  let c8_i32_14 : BitVec 32 := 8#32
  let v16 : BitVec 32 := Scalar.muli v15 c8_i32_14
  let c6_i32 : BitVec 32 := 6#32
  let v137 : BitVec 32 := Scalar.addi v16 c6_i32
  let v138 : Index := Scalar.indexCast v137
  ![0, 0, v138.toNat]
def k0_mult23 (v139 : BitVec 32) : BitVec 32 :=
  let c10_i32_91 : BitVec 32 := 10#32
  let v140 : BitVec 32 := Scalar.muli v139 c10_i32_91
  v140

def k0_off37 (v139 : BitVec 32) : Fin 2 → Nat :=
  let c10_i32_91 : BitVec 32 := 10#32
  let v140 : BitVec 32 := Scalar.muli v139 c10_i32_91
  let v141 : BitVec 32 := v140
  let v142 : Index := Scalar.indexCast v141
  let c0_92 : Index := 0#32
  ![v142.toNat, 0]

def k0_chk13 (v139 : BitVec 32) : Prop :=
  (2 ∣ (k0_mult23 v139).toNat) ∧
  (∀ a, (k0_off37 v139) a + S10x128.size a ≤ S79360x128.size a)
theorem k0_mult23_dvd : ∀ (v139 : BitVec 32) (k0_hw13 : k0_chk13 v139), 2 ∣ (k0_mult23 v139).toNat := fun v139 k0_hw13 => k0_hw13.1
theorem k0_off37_inb : ∀ (v139 : BitVec 32) (k0_hw13 : k0_chk13 v139), ∀ a, (k0_off37 v139) a + S10x128.size a ≤ S79360x128.size a := fun v139 k0_hw13 => k0_hw13.2

def k0_off38 (k0_t2 : Fin k0_t2_loop.trips) : Fin 3 → Nat :=
  let c0_95 : Index := 0#32
  let c0_96 : Index := 0#32
  let c0_i32_11 : BitVec 32 := 0#32
  let c1_i32 : BitVec 32 := 1#32
  let arg15 : BitVec 32 := Scf.iv c0_i32_11 c1_i32 k0_t2
  let c4_i32 : BitVec 32 := 4#32
  let v14 : BitVec 32 := Scalar.muli arg15 c4_i32
  let c0_i32_13 : BitVec 32 := 0#32
  let v15 : BitVec 32 := Scalar.addi v14 c0_i32_13
  let c8_i32_14 : BitVec 32 := 8#32
  let v16 : BitVec 32 := Scalar.muli v15 c8_i32_14
  let c6_i32_94 : BitVec 32 := 6#32
  let v147 : BitVec 32 := Scalar.addi v16 c6_i32_94
  let v148 : Index := Scalar.indexCast v147
  ![0, 0, v148.toNat]
def k0_mult24 (v149 : BitVec 32) : BitVec 32 :=
  let c2_i32_97 : BitVec 32 := 2#32
  let v150 : BitVec 32 := Scalar.muli v149 c2_i32_97
  v150

def k0_off39 (v149 : BitVec 32) : Fin 2 → Nat :=
  let c2_i32_97 : BitVec 32 := 2#32
  let v150 : BitVec 32 := Scalar.muli v149 c2_i32_97
  let v151 : BitVec 32 := v150
  let v152 : Index := Scalar.indexCast v151
  let c0_98 : Index := 0#32
  ![v152.toNat, 0]

def k0_chk14 (v149 : BitVec 32) : Prop :=
  (2 ∣ (k0_mult24 v149).toNat) ∧
  (∀ a, (k0_off39 v149) a + S2x128.size a ≤ S15872x128.size a)
theorem k0_mult24_dvd : ∀ (v149 : BitVec 32) (k0_hw14 : k0_chk14 v149), 2 ∣ (k0_mult24 v149).toNat := fun v149 k0_hw14 => k0_hw14.1
theorem k0_off39_inb : ∀ (v149 : BitVec 32) (k0_hw14 : k0_chk14 v149), ∀ a, (k0_off39 v149) a + S2x128.size a ≤ S15872x128.size a := fun v149 k0_hw14 => k0_hw14.2

def k0_off40 (k0_t2 : Fin k0_t2_loop.trips) : Fin 3 → Nat :=
  let c0_101 : Index := 0#32
  let c0_102 : Index := 0#32
  let c0_i32_11 : BitVec 32 := 0#32
  let c1_i32 : BitVec 32 := 1#32
  let arg15 : BitVec 32 := Scf.iv c0_i32_11 c1_i32 k0_t2
  let c4_i32 : BitVec 32 := 4#32
  let v14 : BitVec 32 := Scalar.muli arg15 c4_i32
  let c0_i32_13 : BitVec 32 := 0#32
  let v15 : BitVec 32 := Scalar.addi v14 c0_i32_13
  let c8_i32_14 : BitVec 32 := 8#32
  let v16 : BitVec 32 := Scalar.muli v15 c8_i32_14
  let c7_i32 : BitVec 32 := 7#32
  let v157 : BitVec 32 := Scalar.addi v16 c7_i32
  let v158 : Index := Scalar.indexCast v157
  ![0, 0, v158.toNat]
def k0_mult25 (v159 : BitVec 32) : BitVec 32 :=
  let c10_i32_103 : BitVec 32 := 10#32
  let v160 : BitVec 32 := Scalar.muli v159 c10_i32_103
  v160

def k0_off41 (v159 : BitVec 32) : Fin 2 → Nat :=
  let c10_i32_103 : BitVec 32 := 10#32
  let v160 : BitVec 32 := Scalar.muli v159 c10_i32_103
  let v161 : BitVec 32 := v160
  let v162 : Index := Scalar.indexCast v161
  let c0_104 : Index := 0#32
  ![v162.toNat, 0]

def k0_chk15 (v159 : BitVec 32) : Prop :=
  (2 ∣ (k0_mult25 v159).toNat) ∧
  (∀ a, (k0_off41 v159) a + S10x128.size a ≤ S79360x128.size a)
theorem k0_mult25_dvd : ∀ (v159 : BitVec 32) (k0_hw15 : k0_chk15 v159), 2 ∣ (k0_mult25 v159).toNat := fun v159 k0_hw15 => k0_hw15.1
theorem k0_off41_inb : ∀ (v159 : BitVec 32) (k0_hw15 : k0_chk15 v159), ∀ a, (k0_off41 v159) a + S10x128.size a ≤ S79360x128.size a := fun v159 k0_hw15 => k0_hw15.2

def k0_off42 (k0_t2 : Fin k0_t2_loop.trips) : Fin 3 → Nat :=
  let c0_107 : Index := 0#32
  let c0_108 : Index := 0#32
  let c0_i32_11 : BitVec 32 := 0#32
  let c1_i32 : BitVec 32 := 1#32
  let arg15 : BitVec 32 := Scf.iv c0_i32_11 c1_i32 k0_t2
  let c4_i32 : BitVec 32 := 4#32
  let v14 : BitVec 32 := Scalar.muli arg15 c4_i32
  let c0_i32_13 : BitVec 32 := 0#32
  let v15 : BitVec 32 := Scalar.addi v14 c0_i32_13
  let c8_i32_14 : BitVec 32 := 8#32
  let v16 : BitVec 32 := Scalar.muli v15 c8_i32_14
  let c7_i32_106 : BitVec 32 := 7#32
  let v167 : BitVec 32 := Scalar.addi v16 c7_i32_106
  let v168 : Index := Scalar.indexCast v167
  ![0, 0, v168.toNat]
def k0_mult26 (v169 : BitVec 32) : BitVec 32 :=
  let c2_i32_109 : BitVec 32 := 2#32
  let v170 : BitVec 32 := Scalar.muli v169 c2_i32_109
  v170

def k0_off43 (v169 : BitVec 32) : Fin 2 → Nat :=
  let c2_i32_109 : BitVec 32 := 2#32
  let v170 : BitVec 32 := Scalar.muli v169 c2_i32_109
  let v171 : BitVec 32 := v170
  let v172 : Index := Scalar.indexCast v171
  let c0_110 : Index := 0#32
  ![v172.toNat, 0]

def k0_chk16 (v169 : BitVec 32) : Prop :=
  (2 ∣ (k0_mult26 v169).toNat) ∧
  (∀ a, (k0_off43 v169) a + S2x128.size a ≤ S15872x128.size a)
theorem k0_mult26_dvd : ∀ (v169 : BitVec 32) (k0_hw16 : k0_chk16 v169), 2 ∣ (k0_mult26 v169).toNat := fun v169 k0_hw16 => k0_hw16.1
theorem k0_off43_inb : ∀ (v169 : BitVec 32) (k0_hw16 : k0_chk16 v169), ∀ a, (k0_off43 v169) a + S2x128.size a ≤ S15872x128.size a := fun v169 k0_hw16 => k0_hw16.2

def k0_off44 (k0_t2 : Fin k0_t2_loop.trips) : Fin 3 → Nat :=
  let c0_116 : Index := 0#32
  let c0_117 : Index := 0#32
  let c0_i32_11 : BitVec 32 := 0#32
  let c1_i32 : BitVec 32 := 1#32
  let arg15 : BitVec 32 := Scf.iv c0_i32_11 c1_i32 k0_t2
  let c4_i32_112 : BitVec 32 := 4#32
  let v177 : BitVec 32 := Scalar.muli arg15 c4_i32_112
  let c1_i32_113 : BitVec 32 := 1#32
  let v178 : BitVec 32 := Scalar.addi v177 c1_i32_113
  let c8_i32_114 : BitVec 32 := 8#32
  let v179 : BitVec 32 := Scalar.muli v178 c8_i32_114
  let c0_i32_115 : BitVec 32 := 0#32
  let v180 : BitVec 32 := Scalar.addi v179 c0_i32_115
  let v181 : Index := Scalar.indexCast v180
  ![0, 0, v181.toNat]
def k0_mult27 (v182 : BitVec 32) : BitVec 32 :=
  let c10_i32_118 : BitVec 32 := 10#32
  let v183 : BitVec 32 := Scalar.muli v182 c10_i32_118
  v183

def k0_off45 (v182 : BitVec 32) : Fin 2 → Nat :=
  let c10_i32_118 : BitVec 32 := 10#32
  let v183 : BitVec 32 := Scalar.muli v182 c10_i32_118
  let v184 : BitVec 32 := v183
  let v185 : Index := Scalar.indexCast v184
  let c0_119 : Index := 0#32
  ![v185.toNat, 0]

def k0_chk17 (v182 : BitVec 32) : Prop :=
  (2 ∣ (k0_mult27 v182).toNat) ∧
  (∀ a, (k0_off45 v182) a + S10x128.size a ≤ S79360x128.size a)
theorem k0_mult27_dvd : ∀ (v182 : BitVec 32) (k0_hw17 : k0_chk17 v182), 2 ∣ (k0_mult27 v182).toNat := fun v182 k0_hw17 => k0_hw17.1
theorem k0_off45_inb : ∀ (v182 : BitVec 32) (k0_hw17 : k0_chk17 v182), ∀ a, (k0_off45 v182) a + S10x128.size a ≤ S79360x128.size a := fun v182 k0_hw17 => k0_hw17.2

def k0_off46 (k0_t2 : Fin k0_t2_loop.trips) : Fin 3 → Nat :=
  let c0_122 : Index := 0#32
  let c0_123 : Index := 0#32
  let c0_i32_11 : BitVec 32 := 0#32
  let c1_i32 : BitVec 32 := 1#32
  let arg15 : BitVec 32 := Scf.iv c0_i32_11 c1_i32 k0_t2
  let c4_i32_112 : BitVec 32 := 4#32
  let v177 : BitVec 32 := Scalar.muli arg15 c4_i32_112
  let c1_i32_113 : BitVec 32 := 1#32
  let v178 : BitVec 32 := Scalar.addi v177 c1_i32_113
  let c8_i32_114 : BitVec 32 := 8#32
  let v179 : BitVec 32 := Scalar.muli v178 c8_i32_114
  let c0_i32_121 : BitVec 32 := 0#32
  let v190 : BitVec 32 := Scalar.addi v179 c0_i32_121
  let v191 : Index := Scalar.indexCast v190
  ![0, 0, v191.toNat]
def k0_mult28 (v192 : BitVec 32) : BitVec 32 :=
  let c2_i32_124 : BitVec 32 := 2#32
  let v193 : BitVec 32 := Scalar.muli v192 c2_i32_124
  v193

def k0_off47 (v192 : BitVec 32) : Fin 2 → Nat :=
  let c2_i32_124 : BitVec 32 := 2#32
  let v193 : BitVec 32 := Scalar.muli v192 c2_i32_124
  let v194 : BitVec 32 := v193
  let v195 : Index := Scalar.indexCast v194
  let c0_125 : Index := 0#32
  ![v195.toNat, 0]

def k0_chk18 (v192 : BitVec 32) : Prop :=
  (2 ∣ (k0_mult28 v192).toNat) ∧
  (∀ a, (k0_off47 v192) a + S2x128.size a ≤ S15872x128.size a)
theorem k0_mult28_dvd : ∀ (v192 : BitVec 32) (k0_hw18 : k0_chk18 v192), 2 ∣ (k0_mult28 v192).toNat := fun v192 k0_hw18 => k0_hw18.1
theorem k0_off47_inb : ∀ (v192 : BitVec 32) (k0_hw18 : k0_chk18 v192), ∀ a, (k0_off47 v192) a + S2x128.size a ≤ S15872x128.size a := fun v192 k0_hw18 => k0_hw18.2

def k0_off48 (k0_t2 : Fin k0_t2_loop.trips) : Fin 3 → Nat :=
  let c0_129 : Index := 0#32
  let c0_130 : Index := 0#32
  let c0_i32_11 : BitVec 32 := 0#32
  let c1_i32 : BitVec 32 := 1#32
  let arg15 : BitVec 32 := Scf.iv c0_i32_11 c1_i32 k0_t2
  let c4_i32_112 : BitVec 32 := 4#32
  let v177 : BitVec 32 := Scalar.muli arg15 c4_i32_112
  let c1_i32_113 : BitVec 32 := 1#32
  let v178 : BitVec 32 := Scalar.addi v177 c1_i32_113
  let c8_i32_114 : BitVec 32 := 8#32
  let v179 : BitVec 32 := Scalar.muli v178 c8_i32_114
  let c1_i32_128 : BitVec 32 := 1#32
  let v200 : BitVec 32 := Scalar.addi v179 c1_i32_128
  let v201 : Index := Scalar.indexCast v200
  ![0, 0, v201.toNat]
def k0_mult29 (v202 : BitVec 32) : BitVec 32 :=
  let c10_i32_131 : BitVec 32 := 10#32
  let v203 : BitVec 32 := Scalar.muli v202 c10_i32_131
  v203

def k0_off49 (v202 : BitVec 32) : Fin 2 → Nat :=
  let c10_i32_131 : BitVec 32 := 10#32
  let v203 : BitVec 32 := Scalar.muli v202 c10_i32_131
  let v204 : BitVec 32 := v203
  let v205 : Index := Scalar.indexCast v204
  let c0_132 : Index := 0#32
  ![v205.toNat, 0]

def k0_chk19 (v202 : BitVec 32) : Prop :=
  (2 ∣ (k0_mult29 v202).toNat) ∧
  (∀ a, (k0_off49 v202) a + S10x128.size a ≤ S79360x128.size a)
theorem k0_mult29_dvd : ∀ (v202 : BitVec 32) (k0_hw19 : k0_chk19 v202), 2 ∣ (k0_mult29 v202).toNat := fun v202 k0_hw19 => k0_hw19.1
theorem k0_off49_inb : ∀ (v202 : BitVec 32) (k0_hw19 : k0_chk19 v202), ∀ a, (k0_off49 v202) a + S10x128.size a ≤ S79360x128.size a := fun v202 k0_hw19 => k0_hw19.2

def k0_off50 (k0_t2 : Fin k0_t2_loop.trips) : Fin 3 → Nat :=
  let c0_135 : Index := 0#32
  let c0_136 : Index := 0#32
  let c0_i32_11 : BitVec 32 := 0#32
  let c1_i32 : BitVec 32 := 1#32
  let arg15 : BitVec 32 := Scf.iv c0_i32_11 c1_i32 k0_t2
  let c4_i32_112 : BitVec 32 := 4#32
  let v177 : BitVec 32 := Scalar.muli arg15 c4_i32_112
  let c1_i32_113 : BitVec 32 := 1#32
  let v178 : BitVec 32 := Scalar.addi v177 c1_i32_113
  let c8_i32_114 : BitVec 32 := 8#32
  let v179 : BitVec 32 := Scalar.muli v178 c8_i32_114
  let c1_i32_134 : BitVec 32 := 1#32
  let v210 : BitVec 32 := Scalar.addi v179 c1_i32_134
  let v211 : Index := Scalar.indexCast v210
  ![0, 0, v211.toNat]
def k0_mult30 (v212 : BitVec 32) : BitVec 32 :=
  let c2_i32_137 : BitVec 32 := 2#32
  let v213 : BitVec 32 := Scalar.muli v212 c2_i32_137
  v213

def k0_off51 (v212 : BitVec 32) : Fin 2 → Nat :=
  let c2_i32_137 : BitVec 32 := 2#32
  let v213 : BitVec 32 := Scalar.muli v212 c2_i32_137
  let v214 : BitVec 32 := v213
  let v215 : Index := Scalar.indexCast v214
  let c0_138 : Index := 0#32
  ![v215.toNat, 0]

def k0_chk20 (v212 : BitVec 32) : Prop :=
  (2 ∣ (k0_mult30 v212).toNat) ∧
  (∀ a, (k0_off51 v212) a + S2x128.size a ≤ S15872x128.size a)
theorem k0_mult30_dvd : ∀ (v212 : BitVec 32) (k0_hw20 : k0_chk20 v212), 2 ∣ (k0_mult30 v212).toNat := fun v212 k0_hw20 => k0_hw20.1
theorem k0_off51_inb : ∀ (v212 : BitVec 32) (k0_hw20 : k0_chk20 v212), ∀ a, (k0_off51 v212) a + S2x128.size a ≤ S15872x128.size a := fun v212 k0_hw20 => k0_hw20.2

def k0_off52 (k0_t2 : Fin k0_t2_loop.trips) : Fin 3 → Nat :=
  let c0_142 : Index := 0#32
  let c0_143 : Index := 0#32
  let c0_i32_11 : BitVec 32 := 0#32
  let c1_i32 : BitVec 32 := 1#32
  let arg15 : BitVec 32 := Scf.iv c0_i32_11 c1_i32 k0_t2
  let c4_i32_112 : BitVec 32 := 4#32
  let v177 : BitVec 32 := Scalar.muli arg15 c4_i32_112
  let c1_i32_113 : BitVec 32 := 1#32
  let v178 : BitVec 32 := Scalar.addi v177 c1_i32_113
  let c8_i32_114 : BitVec 32 := 8#32
  let v179 : BitVec 32 := Scalar.muli v178 c8_i32_114
  let c2_i32_141 : BitVec 32 := 2#32
  let v220 : BitVec 32 := Scalar.addi v179 c2_i32_141
  let v221 : Index := Scalar.indexCast v220
  ![0, 0, v221.toNat]
def k0_mult31 (v222 : BitVec 32) : BitVec 32 :=
  let c10_i32_144 : BitVec 32 := 10#32
  let v223 : BitVec 32 := Scalar.muli v222 c10_i32_144
  v223

def k0_off53 (v222 : BitVec 32) : Fin 2 → Nat :=
  let c10_i32_144 : BitVec 32 := 10#32
  let v223 : BitVec 32 := Scalar.muli v222 c10_i32_144
  let v224 : BitVec 32 := v223
  let v225 : Index := Scalar.indexCast v224
  let c0_145 : Index := 0#32
  ![v225.toNat, 0]

def k0_chk21 (v222 : BitVec 32) : Prop :=
  (2 ∣ (k0_mult31 v222).toNat) ∧
  (∀ a, (k0_off53 v222) a + S10x128.size a ≤ S79360x128.size a)
theorem k0_mult31_dvd : ∀ (v222 : BitVec 32) (k0_hw21 : k0_chk21 v222), 2 ∣ (k0_mult31 v222).toNat := fun v222 k0_hw21 => k0_hw21.1
theorem k0_off53_inb : ∀ (v222 : BitVec 32) (k0_hw21 : k0_chk21 v222), ∀ a, (k0_off53 v222) a + S10x128.size a ≤ S79360x128.size a := fun v222 k0_hw21 => k0_hw21.2

def k0_off54 (k0_t2 : Fin k0_t2_loop.trips) : Fin 3 → Nat :=
  let c0_148 : Index := 0#32
  let c0_149 : Index := 0#32
  let c0_i32_11 : BitVec 32 := 0#32
  let c1_i32 : BitVec 32 := 1#32
  let arg15 : BitVec 32 := Scf.iv c0_i32_11 c1_i32 k0_t2
  let c4_i32_112 : BitVec 32 := 4#32
  let v177 : BitVec 32 := Scalar.muli arg15 c4_i32_112
  let c1_i32_113 : BitVec 32 := 1#32
  let v178 : BitVec 32 := Scalar.addi v177 c1_i32_113
  let c8_i32_114 : BitVec 32 := 8#32
  let v179 : BitVec 32 := Scalar.muli v178 c8_i32_114
  let c2_i32_147 : BitVec 32 := 2#32
  let v230 : BitVec 32 := Scalar.addi v179 c2_i32_147
  let v231 : Index := Scalar.indexCast v230
  ![0, 0, v231.toNat]
def k0_mult32 (v232 : BitVec 32) : BitVec 32 :=
  let c2_i32_150 : BitVec 32 := 2#32
  let v233 : BitVec 32 := Scalar.muli v232 c2_i32_150
  v233

def k0_off55 (v232 : BitVec 32) : Fin 2 → Nat :=
  let c2_i32_150 : BitVec 32 := 2#32
  let v233 : BitVec 32 := Scalar.muli v232 c2_i32_150
  let v234 : BitVec 32 := v233
  let v235 : Index := Scalar.indexCast v234
  let c0_151 : Index := 0#32
  ![v235.toNat, 0]

def k0_chk22 (v232 : BitVec 32) : Prop :=
  (2 ∣ (k0_mult32 v232).toNat) ∧
  (∀ a, (k0_off55 v232) a + S2x128.size a ≤ S15872x128.size a)
theorem k0_mult32_dvd : ∀ (v232 : BitVec 32) (k0_hw22 : k0_chk22 v232), 2 ∣ (k0_mult32 v232).toNat := fun v232 k0_hw22 => k0_hw22.1
theorem k0_off55_inb : ∀ (v232 : BitVec 32) (k0_hw22 : k0_chk22 v232), ∀ a, (k0_off55 v232) a + S2x128.size a ≤ S15872x128.size a := fun v232 k0_hw22 => k0_hw22.2

def k0_off56 (k0_t2 : Fin k0_t2_loop.trips) : Fin 3 → Nat :=
  let c0_154 : Index := 0#32
  let c0_155 : Index := 0#32
  let c0_i32_11 : BitVec 32 := 0#32
  let c1_i32 : BitVec 32 := 1#32
  let arg15 : BitVec 32 := Scf.iv c0_i32_11 c1_i32 k0_t2
  let c4_i32_112 : BitVec 32 := 4#32
  let v177 : BitVec 32 := Scalar.muli arg15 c4_i32_112
  let c1_i32_113 : BitVec 32 := 1#32
  let v178 : BitVec 32 := Scalar.addi v177 c1_i32_113
  let c8_i32_114 : BitVec 32 := 8#32
  let v179 : BitVec 32 := Scalar.muli v178 c8_i32_114
  let c3_i32_153 : BitVec 32 := 3#32
  let v240 : BitVec 32 := Scalar.addi v179 c3_i32_153
  let v241 : Index := Scalar.indexCast v240
  ![0, 0, v241.toNat]
def k0_mult33 (v242 : BitVec 32) : BitVec 32 :=
  let c10_i32_156 : BitVec 32 := 10#32
  let v243 : BitVec 32 := Scalar.muli v242 c10_i32_156
  v243

def k0_off57 (v242 : BitVec 32) : Fin 2 → Nat :=
  let c10_i32_156 : BitVec 32 := 10#32
  let v243 : BitVec 32 := Scalar.muli v242 c10_i32_156
  let v244 : BitVec 32 := v243
  let v245 : Index := Scalar.indexCast v244
  let c0_157 : Index := 0#32
  ![v245.toNat, 0]

def k0_chk23 (v242 : BitVec 32) : Prop :=
  (2 ∣ (k0_mult33 v242).toNat) ∧
  (∀ a, (k0_off57 v242) a + S10x128.size a ≤ S79360x128.size a)
theorem k0_mult33_dvd : ∀ (v242 : BitVec 32) (k0_hw23 : k0_chk23 v242), 2 ∣ (k0_mult33 v242).toNat := fun v242 k0_hw23 => k0_hw23.1
theorem k0_off57_inb : ∀ (v242 : BitVec 32) (k0_hw23 : k0_chk23 v242), ∀ a, (k0_off57 v242) a + S10x128.size a ≤ S79360x128.size a := fun v242 k0_hw23 => k0_hw23.2

def k0_off58 (k0_t2 : Fin k0_t2_loop.trips) : Fin 3 → Nat :=
  let c0_160 : Index := 0#32
  let c0_161 : Index := 0#32
  let c0_i32_11 : BitVec 32 := 0#32
  let c1_i32 : BitVec 32 := 1#32
  let arg15 : BitVec 32 := Scf.iv c0_i32_11 c1_i32 k0_t2
  let c4_i32_112 : BitVec 32 := 4#32
  let v177 : BitVec 32 := Scalar.muli arg15 c4_i32_112
  let c1_i32_113 : BitVec 32 := 1#32
  let v178 : BitVec 32 := Scalar.addi v177 c1_i32_113
  let c8_i32_114 : BitVec 32 := 8#32
  let v179 : BitVec 32 := Scalar.muli v178 c8_i32_114
  let c3_i32_159 : BitVec 32 := 3#32
  let v250 : BitVec 32 := Scalar.addi v179 c3_i32_159
  let v251 : Index := Scalar.indexCast v250
  ![0, 0, v251.toNat]
def k0_mult34 (v252 : BitVec 32) : BitVec 32 :=
  let c2_i32_162 : BitVec 32 := 2#32
  let v253 : BitVec 32 := Scalar.muli v252 c2_i32_162
  v253

def k0_off59 (v252 : BitVec 32) : Fin 2 → Nat :=
  let c2_i32_162 : BitVec 32 := 2#32
  let v253 : BitVec 32 := Scalar.muli v252 c2_i32_162
  let v254 : BitVec 32 := v253
  let v255 : Index := Scalar.indexCast v254
  let c0_163 : Index := 0#32
  ![v255.toNat, 0]

def k0_chk24 (v252 : BitVec 32) : Prop :=
  (2 ∣ (k0_mult34 v252).toNat) ∧
  (∀ a, (k0_off59 v252) a + S2x128.size a ≤ S15872x128.size a)
theorem k0_mult34_dvd : ∀ (v252 : BitVec 32) (k0_hw24 : k0_chk24 v252), 2 ∣ (k0_mult34 v252).toNat := fun v252 k0_hw24 => k0_hw24.1
theorem k0_off59_inb : ∀ (v252 : BitVec 32) (k0_hw24 : k0_chk24 v252), ∀ a, (k0_off59 v252) a + S2x128.size a ≤ S15872x128.size a := fun v252 k0_hw24 => k0_hw24.2

def k0_off60 (k0_t2 : Fin k0_t2_loop.trips) : Fin 3 → Nat :=
  let c0_166 : Index := 0#32
  let c0_167 : Index := 0#32
  let c0_i32_11 : BitVec 32 := 0#32
  let c1_i32 : BitVec 32 := 1#32
  let arg15 : BitVec 32 := Scf.iv c0_i32_11 c1_i32 k0_t2
  let c4_i32_112 : BitVec 32 := 4#32
  let v177 : BitVec 32 := Scalar.muli arg15 c4_i32_112
  let c1_i32_113 : BitVec 32 := 1#32
  let v178 : BitVec 32 := Scalar.addi v177 c1_i32_113
  let c8_i32_114 : BitVec 32 := 8#32
  let v179 : BitVec 32 := Scalar.muli v178 c8_i32_114
  let c4_i32_165 : BitVec 32 := 4#32
  let v260 : BitVec 32 := Scalar.addi v179 c4_i32_165
  let v261 : Index := Scalar.indexCast v260
  ![0, 0, v261.toNat]
def k0_mult35 (v262 : BitVec 32) : BitVec 32 :=
  let c10_i32_168 : BitVec 32 := 10#32
  let v263 : BitVec 32 := Scalar.muli v262 c10_i32_168
  v263

def k0_off61 (v262 : BitVec 32) : Fin 2 → Nat :=
  let c10_i32_168 : BitVec 32 := 10#32
  let v263 : BitVec 32 := Scalar.muli v262 c10_i32_168
  let v264 : BitVec 32 := v263
  let v265 : Index := Scalar.indexCast v264
  let c0_169 : Index := 0#32
  ![v265.toNat, 0]

def k0_chk25 (v262 : BitVec 32) : Prop :=
  (2 ∣ (k0_mult35 v262).toNat) ∧
  (∀ a, (k0_off61 v262) a + S10x128.size a ≤ S79360x128.size a)
theorem k0_mult35_dvd : ∀ (v262 : BitVec 32) (k0_hw25 : k0_chk25 v262), 2 ∣ (k0_mult35 v262).toNat := fun v262 k0_hw25 => k0_hw25.1
theorem k0_off61_inb : ∀ (v262 : BitVec 32) (k0_hw25 : k0_chk25 v262), ∀ a, (k0_off61 v262) a + S10x128.size a ≤ S79360x128.size a := fun v262 k0_hw25 => k0_hw25.2

def k0_off62 (k0_t2 : Fin k0_t2_loop.trips) : Fin 3 → Nat :=
  let c0_172 : Index := 0#32
  let c0_173 : Index := 0#32
  let c0_i32_11 : BitVec 32 := 0#32
  let c1_i32 : BitVec 32 := 1#32
  let arg15 : BitVec 32 := Scf.iv c0_i32_11 c1_i32 k0_t2
  let c4_i32_112 : BitVec 32 := 4#32
  let v177 : BitVec 32 := Scalar.muli arg15 c4_i32_112
  let c1_i32_113 : BitVec 32 := 1#32
  let v178 : BitVec 32 := Scalar.addi v177 c1_i32_113
  let c8_i32_114 : BitVec 32 := 8#32
  let v179 : BitVec 32 := Scalar.muli v178 c8_i32_114
  let c4_i32_171 : BitVec 32 := 4#32
  let v270 : BitVec 32 := Scalar.addi v179 c4_i32_171
  let v271 : Index := Scalar.indexCast v270
  ![0, 0, v271.toNat]
def k0_mult36 (v272 : BitVec 32) : BitVec 32 :=
  let c2_i32_174 : BitVec 32 := 2#32
  let v273 : BitVec 32 := Scalar.muli v272 c2_i32_174
  v273

def k0_off63 (v272 : BitVec 32) : Fin 2 → Nat :=
  let c2_i32_174 : BitVec 32 := 2#32
  let v273 : BitVec 32 := Scalar.muli v272 c2_i32_174
  let v274 : BitVec 32 := v273
  let v275 : Index := Scalar.indexCast v274
  let c0_175 : Index := 0#32
  ![v275.toNat, 0]

def k0_chk26 (v272 : BitVec 32) : Prop :=
  (2 ∣ (k0_mult36 v272).toNat) ∧
  (∀ a, (k0_off63 v272) a + S2x128.size a ≤ S15872x128.size a)
theorem k0_mult36_dvd : ∀ (v272 : BitVec 32) (k0_hw26 : k0_chk26 v272), 2 ∣ (k0_mult36 v272).toNat := fun v272 k0_hw26 => k0_hw26.1
theorem k0_off63_inb : ∀ (v272 : BitVec 32) (k0_hw26 : k0_chk26 v272), ∀ a, (k0_off63 v272) a + S2x128.size a ≤ S15872x128.size a := fun v272 k0_hw26 => k0_hw26.2

def k0_off64 (k0_t2 : Fin k0_t2_loop.trips) : Fin 3 → Nat :=
  let c0_178 : Index := 0#32
  let c0_179 : Index := 0#32
  let c0_i32_11 : BitVec 32 := 0#32
  let c1_i32 : BitVec 32 := 1#32
  let arg15 : BitVec 32 := Scf.iv c0_i32_11 c1_i32 k0_t2
  let c4_i32_112 : BitVec 32 := 4#32
  let v177 : BitVec 32 := Scalar.muli arg15 c4_i32_112
  let c1_i32_113 : BitVec 32 := 1#32
  let v178 : BitVec 32 := Scalar.addi v177 c1_i32_113
  let c8_i32_114 : BitVec 32 := 8#32
  let v179 : BitVec 32 := Scalar.muli v178 c8_i32_114
  let c5_i32_177 : BitVec 32 := 5#32
  let v280 : BitVec 32 := Scalar.addi v179 c5_i32_177
  let v281 : Index := Scalar.indexCast v280
  ![0, 0, v281.toNat]
def k0_mult37 (v282 : BitVec 32) : BitVec 32 :=
  let c10_i32_180 : BitVec 32 := 10#32
  let v283 : BitVec 32 := Scalar.muli v282 c10_i32_180
  v283

def k0_off65 (v282 : BitVec 32) : Fin 2 → Nat :=
  let c10_i32_180 : BitVec 32 := 10#32
  let v283 : BitVec 32 := Scalar.muli v282 c10_i32_180
  let v284 : BitVec 32 := v283
  let v285 : Index := Scalar.indexCast v284
  let c0_181 : Index := 0#32
  ![v285.toNat, 0]

def k0_chk27 (v282 : BitVec 32) : Prop :=
  (2 ∣ (k0_mult37 v282).toNat) ∧
  (∀ a, (k0_off65 v282) a + S10x128.size a ≤ S79360x128.size a)
theorem k0_mult37_dvd : ∀ (v282 : BitVec 32) (k0_hw27 : k0_chk27 v282), 2 ∣ (k0_mult37 v282).toNat := fun v282 k0_hw27 => k0_hw27.1
theorem k0_off65_inb : ∀ (v282 : BitVec 32) (k0_hw27 : k0_chk27 v282), ∀ a, (k0_off65 v282) a + S10x128.size a ≤ S79360x128.size a := fun v282 k0_hw27 => k0_hw27.2

def k0_off66 (k0_t2 : Fin k0_t2_loop.trips) : Fin 3 → Nat :=
  let c0_184 : Index := 0#32
  let c0_185 : Index := 0#32
  let c0_i32_11 : BitVec 32 := 0#32
  let c1_i32 : BitVec 32 := 1#32
  let arg15 : BitVec 32 := Scf.iv c0_i32_11 c1_i32 k0_t2
  let c4_i32_112 : BitVec 32 := 4#32
  let v177 : BitVec 32 := Scalar.muli arg15 c4_i32_112
  let c1_i32_113 : BitVec 32 := 1#32
  let v178 : BitVec 32 := Scalar.addi v177 c1_i32_113
  let c8_i32_114 : BitVec 32 := 8#32
  let v179 : BitVec 32 := Scalar.muli v178 c8_i32_114
  let c5_i32_183 : BitVec 32 := 5#32
  let v290 : BitVec 32 := Scalar.addi v179 c5_i32_183
  let v291 : Index := Scalar.indexCast v290
  ![0, 0, v291.toNat]
def k0_mult38 (v292 : BitVec 32) : BitVec 32 :=
  let c2_i32_186 : BitVec 32 := 2#32
  let v293 : BitVec 32 := Scalar.muli v292 c2_i32_186
  v293

def k0_off67 (v292 : BitVec 32) : Fin 2 → Nat :=
  let c2_i32_186 : BitVec 32 := 2#32
  let v293 : BitVec 32 := Scalar.muli v292 c2_i32_186
  let v294 : BitVec 32 := v293
  let v295 : Index := Scalar.indexCast v294
  let c0_187 : Index := 0#32
  ![v295.toNat, 0]

def k0_chk28 (v292 : BitVec 32) : Prop :=
  (2 ∣ (k0_mult38 v292).toNat) ∧
  (∀ a, (k0_off67 v292) a + S2x128.size a ≤ S15872x128.size a)
theorem k0_mult38_dvd : ∀ (v292 : BitVec 32) (k0_hw28 : k0_chk28 v292), 2 ∣ (k0_mult38 v292).toNat := fun v292 k0_hw28 => k0_hw28.1
theorem k0_off67_inb : ∀ (v292 : BitVec 32) (k0_hw28 : k0_chk28 v292), ∀ a, (k0_off67 v292) a + S2x128.size a ≤ S15872x128.size a := fun v292 k0_hw28 => k0_hw28.2

def k0_off68 (k0_t2 : Fin k0_t2_loop.trips) : Fin 3 → Nat :=
  let c0_190 : Index := 0#32
  let c0_191 : Index := 0#32
  let c0_i32_11 : BitVec 32 := 0#32
  let c1_i32 : BitVec 32 := 1#32
  let arg15 : BitVec 32 := Scf.iv c0_i32_11 c1_i32 k0_t2
  let c4_i32_112 : BitVec 32 := 4#32
  let v177 : BitVec 32 := Scalar.muli arg15 c4_i32_112
  let c1_i32_113 : BitVec 32 := 1#32
  let v178 : BitVec 32 := Scalar.addi v177 c1_i32_113
  let c8_i32_114 : BitVec 32 := 8#32
  let v179 : BitVec 32 := Scalar.muli v178 c8_i32_114
  let c6_i32_189 : BitVec 32 := 6#32
  let v300 : BitVec 32 := Scalar.addi v179 c6_i32_189
  let v301 : Index := Scalar.indexCast v300
  ![0, 0, v301.toNat]
def k0_mult39 (v302 : BitVec 32) : BitVec 32 :=
  let c10_i32_192 : BitVec 32 := 10#32
  let v303 : BitVec 32 := Scalar.muli v302 c10_i32_192
  v303

def k0_off69 (v302 : BitVec 32) : Fin 2 → Nat :=
  let c10_i32_192 : BitVec 32 := 10#32
  let v303 : BitVec 32 := Scalar.muli v302 c10_i32_192
  let v304 : BitVec 32 := v303
  let v305 : Index := Scalar.indexCast v304
  let c0_193 : Index := 0#32
  ![v305.toNat, 0]

def k0_chk29 (v302 : BitVec 32) : Prop :=
  (2 ∣ (k0_mult39 v302).toNat) ∧
  (∀ a, (k0_off69 v302) a + S10x128.size a ≤ S79360x128.size a)
theorem k0_mult39_dvd : ∀ (v302 : BitVec 32) (k0_hw29 : k0_chk29 v302), 2 ∣ (k0_mult39 v302).toNat := fun v302 k0_hw29 => k0_hw29.1
theorem k0_off69_inb : ∀ (v302 : BitVec 32) (k0_hw29 : k0_chk29 v302), ∀ a, (k0_off69 v302) a + S10x128.size a ≤ S79360x128.size a := fun v302 k0_hw29 => k0_hw29.2

def k0_off70 (k0_t2 : Fin k0_t2_loop.trips) : Fin 3 → Nat :=
  let c0_196 : Index := 0#32
  let c0_197 : Index := 0#32
  let c0_i32_11 : BitVec 32 := 0#32
  let c1_i32 : BitVec 32 := 1#32
  let arg15 : BitVec 32 := Scf.iv c0_i32_11 c1_i32 k0_t2
  let c4_i32_112 : BitVec 32 := 4#32
  let v177 : BitVec 32 := Scalar.muli arg15 c4_i32_112
  let c1_i32_113 : BitVec 32 := 1#32
  let v178 : BitVec 32 := Scalar.addi v177 c1_i32_113
  let c8_i32_114 : BitVec 32 := 8#32
  let v179 : BitVec 32 := Scalar.muli v178 c8_i32_114
  let c6_i32_195 : BitVec 32 := 6#32
  let v310 : BitVec 32 := Scalar.addi v179 c6_i32_195
  let v311 : Index := Scalar.indexCast v310
  ![0, 0, v311.toNat]
def k0_mult40 (v312 : BitVec 32) : BitVec 32 :=
  let c2_i32_198 : BitVec 32 := 2#32
  let v313 : BitVec 32 := Scalar.muli v312 c2_i32_198
  v313

def k0_off71 (v312 : BitVec 32) : Fin 2 → Nat :=
  let c2_i32_198 : BitVec 32 := 2#32
  let v313 : BitVec 32 := Scalar.muli v312 c2_i32_198
  let v314 : BitVec 32 := v313
  let v315 : Index := Scalar.indexCast v314
  let c0_199 : Index := 0#32
  ![v315.toNat, 0]

def k0_chk30 (v312 : BitVec 32) : Prop :=
  (2 ∣ (k0_mult40 v312).toNat) ∧
  (∀ a, (k0_off71 v312) a + S2x128.size a ≤ S15872x128.size a)
theorem k0_mult40_dvd : ∀ (v312 : BitVec 32) (k0_hw30 : k0_chk30 v312), 2 ∣ (k0_mult40 v312).toNat := fun v312 k0_hw30 => k0_hw30.1
theorem k0_off71_inb : ∀ (v312 : BitVec 32) (k0_hw30 : k0_chk30 v312), ∀ a, (k0_off71 v312) a + S2x128.size a ≤ S15872x128.size a := fun v312 k0_hw30 => k0_hw30.2

def k0_off72 (k0_t2 : Fin k0_t2_loop.trips) : Fin 3 → Nat :=
  let c0_202 : Index := 0#32
  let c0_203 : Index := 0#32
  let c0_i32_11 : BitVec 32 := 0#32
  let c1_i32 : BitVec 32 := 1#32
  let arg15 : BitVec 32 := Scf.iv c0_i32_11 c1_i32 k0_t2
  let c4_i32_112 : BitVec 32 := 4#32
  let v177 : BitVec 32 := Scalar.muli arg15 c4_i32_112
  let c1_i32_113 : BitVec 32 := 1#32
  let v178 : BitVec 32 := Scalar.addi v177 c1_i32_113
  let c8_i32_114 : BitVec 32 := 8#32
  let v179 : BitVec 32 := Scalar.muli v178 c8_i32_114
  let c7_i32_201 : BitVec 32 := 7#32
  let v320 : BitVec 32 := Scalar.addi v179 c7_i32_201
  let v321 : Index := Scalar.indexCast v320
  ![0, 0, v321.toNat]
def k0_mult41 (v322 : BitVec 32) : BitVec 32 :=
  let c10_i32_204 : BitVec 32 := 10#32
  let v323 : BitVec 32 := Scalar.muli v322 c10_i32_204
  v323

def k0_off73 (v322 : BitVec 32) : Fin 2 → Nat :=
  let c10_i32_204 : BitVec 32 := 10#32
  let v323 : BitVec 32 := Scalar.muli v322 c10_i32_204
  let v324 : BitVec 32 := v323
  let v325 : Index := Scalar.indexCast v324
  let c0_205 : Index := 0#32
  ![v325.toNat, 0]

def k0_chk31 (v322 : BitVec 32) : Prop :=
  (2 ∣ (k0_mult41 v322).toNat) ∧
  (∀ a, (k0_off73 v322) a + S10x128.size a ≤ S79360x128.size a)
theorem k0_mult41_dvd : ∀ (v322 : BitVec 32) (k0_hw31 : k0_chk31 v322), 2 ∣ (k0_mult41 v322).toNat := fun v322 k0_hw31 => k0_hw31.1
theorem k0_off73_inb : ∀ (v322 : BitVec 32) (k0_hw31 : k0_chk31 v322), ∀ a, (k0_off73 v322) a + S10x128.size a ≤ S79360x128.size a := fun v322 k0_hw31 => k0_hw31.2

def k0_off74 (k0_t2 : Fin k0_t2_loop.trips) : Fin 3 → Nat :=
  let c0_208 : Index := 0#32
  let c0_209 : Index := 0#32
  let c0_i32_11 : BitVec 32 := 0#32
  let c1_i32 : BitVec 32 := 1#32
  let arg15 : BitVec 32 := Scf.iv c0_i32_11 c1_i32 k0_t2
  let c4_i32_112 : BitVec 32 := 4#32
  let v177 : BitVec 32 := Scalar.muli arg15 c4_i32_112
  let c1_i32_113 : BitVec 32 := 1#32
  let v178 : BitVec 32 := Scalar.addi v177 c1_i32_113
  let c8_i32_114 : BitVec 32 := 8#32
  let v179 : BitVec 32 := Scalar.muli v178 c8_i32_114
  let c7_i32_207 : BitVec 32 := 7#32
  let v330 : BitVec 32 := Scalar.addi v179 c7_i32_207
  let v331 : Index := Scalar.indexCast v330
  ![0, 0, v331.toNat]
def k0_mult42 (v332 : BitVec 32) : BitVec 32 :=
  let c2_i32_210 : BitVec 32 := 2#32
  let v333 : BitVec 32 := Scalar.muli v332 c2_i32_210
  v333

def k0_off75 (v332 : BitVec 32) : Fin 2 → Nat :=
  let c2_i32_210 : BitVec 32 := 2#32
  let v333 : BitVec 32 := Scalar.muli v332 c2_i32_210
  let v334 : BitVec 32 := v333
  let v335 : Index := Scalar.indexCast v334
  let c0_211 : Index := 0#32
  ![v335.toNat, 0]

def k0_chk32 (v332 : BitVec 32) : Prop :=
  (2 ∣ (k0_mult42 v332).toNat) ∧
  (∀ a, (k0_off75 v332) a + S2x128.size a ≤ S15872x128.size a)
theorem k0_mult42_dvd : ∀ (v332 : BitVec 32) (k0_hw32 : k0_chk32 v332), 2 ∣ (k0_mult42 v332).toNat := fun v332 k0_hw32 => k0_hw32.1
theorem k0_off75_inb : ∀ (v332 : BitVec 32) (k0_hw32 : k0_chk32 v332), ∀ a, (k0_off75 v332) a + S2x128.size a ≤ S15872x128.size a := fun v332 k0_hw32 => k0_hw32.2

def k0_off76 (k0_t2 : Fin k0_t2_loop.trips) : Fin 3 → Nat :=
  let c0_217 : Index := 0#32
  let c0_218 : Index := 0#32
  let c0_i32_11 : BitVec 32 := 0#32
  let c1_i32 : BitVec 32 := 1#32
  let arg15 : BitVec 32 := Scf.iv c0_i32_11 c1_i32 k0_t2
  let c4_i32_213 : BitVec 32 := 4#32
  let v340 : BitVec 32 := Scalar.muli arg15 c4_i32_213
  let c2_i32_214 : BitVec 32 := 2#32
  let v341 : BitVec 32 := Scalar.addi v340 c2_i32_214
  let c8_i32_215 : BitVec 32 := 8#32
  let v342 : BitVec 32 := Scalar.muli v341 c8_i32_215
  let c0_i32_216 : BitVec 32 := 0#32
  let v343 : BitVec 32 := Scalar.addi v342 c0_i32_216
  let v344 : Index := Scalar.indexCast v343
  ![0, 0, v344.toNat]
def k0_mult43 (v345 : BitVec 32) : BitVec 32 :=
  let c10_i32_219 : BitVec 32 := 10#32
  let v346 : BitVec 32 := Scalar.muli v345 c10_i32_219
  v346

def k0_off77 (v345 : BitVec 32) : Fin 2 → Nat :=
  let c10_i32_219 : BitVec 32 := 10#32
  let v346 : BitVec 32 := Scalar.muli v345 c10_i32_219
  let v347 : BitVec 32 := v346
  let v348 : Index := Scalar.indexCast v347
  let c0_220 : Index := 0#32
  ![v348.toNat, 0]

def k0_chk33 (v345 : BitVec 32) : Prop :=
  (2 ∣ (k0_mult43 v345).toNat) ∧
  (∀ a, (k0_off77 v345) a + S10x128.size a ≤ S79360x128.size a)
theorem k0_mult43_dvd : ∀ (v345 : BitVec 32) (k0_hw33 : k0_chk33 v345), 2 ∣ (k0_mult43 v345).toNat := fun v345 k0_hw33 => k0_hw33.1
theorem k0_off77_inb : ∀ (v345 : BitVec 32) (k0_hw33 : k0_chk33 v345), ∀ a, (k0_off77 v345) a + S10x128.size a ≤ S79360x128.size a := fun v345 k0_hw33 => k0_hw33.2

def k0_off78 (k0_t2 : Fin k0_t2_loop.trips) : Fin 3 → Nat :=
  let c0_223 : Index := 0#32
  let c0_224 : Index := 0#32
  let c0_i32_11 : BitVec 32 := 0#32
  let c1_i32 : BitVec 32 := 1#32
  let arg15 : BitVec 32 := Scf.iv c0_i32_11 c1_i32 k0_t2
  let c4_i32_213 : BitVec 32 := 4#32
  let v340 : BitVec 32 := Scalar.muli arg15 c4_i32_213
  let c2_i32_214 : BitVec 32 := 2#32
  let v341 : BitVec 32 := Scalar.addi v340 c2_i32_214
  let c8_i32_215 : BitVec 32 := 8#32
  let v342 : BitVec 32 := Scalar.muli v341 c8_i32_215
  let c0_i32_222 : BitVec 32 := 0#32
  let v353 : BitVec 32 := Scalar.addi v342 c0_i32_222
  let v354 : Index := Scalar.indexCast v353
  ![0, 0, v354.toNat]
def k0_mult44 (v355 : BitVec 32) : BitVec 32 :=
  let c2_i32_225 : BitVec 32 := 2#32
  let v356 : BitVec 32 := Scalar.muli v355 c2_i32_225
  v356

def k0_off79 (v355 : BitVec 32) : Fin 2 → Nat :=
  let c2_i32_225 : BitVec 32 := 2#32
  let v356 : BitVec 32 := Scalar.muli v355 c2_i32_225
  let v357 : BitVec 32 := v356
  let v358 : Index := Scalar.indexCast v357
  let c0_226 : Index := 0#32
  ![v358.toNat, 0]

def k0_chk34 (v355 : BitVec 32) : Prop :=
  (2 ∣ (k0_mult44 v355).toNat) ∧
  (∀ a, (k0_off79 v355) a + S2x128.size a ≤ S15872x128.size a)
theorem k0_mult44_dvd : ∀ (v355 : BitVec 32) (k0_hw34 : k0_chk34 v355), 2 ∣ (k0_mult44 v355).toNat := fun v355 k0_hw34 => k0_hw34.1
theorem k0_off79_inb : ∀ (v355 : BitVec 32) (k0_hw34 : k0_chk34 v355), ∀ a, (k0_off79 v355) a + S2x128.size a ≤ S15872x128.size a := fun v355 k0_hw34 => k0_hw34.2

def k0_off80 (k0_t2 : Fin k0_t2_loop.trips) : Fin 3 → Nat :=
  let c0_230 : Index := 0#32
  let c0_231 : Index := 0#32
  let c0_i32_11 : BitVec 32 := 0#32
  let c1_i32 : BitVec 32 := 1#32
  let arg15 : BitVec 32 := Scf.iv c0_i32_11 c1_i32 k0_t2
  let c4_i32_213 : BitVec 32 := 4#32
  let v340 : BitVec 32 := Scalar.muli arg15 c4_i32_213
  let c2_i32_214 : BitVec 32 := 2#32
  let v341 : BitVec 32 := Scalar.addi v340 c2_i32_214
  let c8_i32_215 : BitVec 32 := 8#32
  let v342 : BitVec 32 := Scalar.muli v341 c8_i32_215
  let c1_i32_229 : BitVec 32 := 1#32
  let v363 : BitVec 32 := Scalar.addi v342 c1_i32_229
  let v364 : Index := Scalar.indexCast v363
  ![0, 0, v364.toNat]
def k0_mult45 (v365 : BitVec 32) : BitVec 32 :=
  let c10_i32_232 : BitVec 32 := 10#32
  let v366 : BitVec 32 := Scalar.muli v365 c10_i32_232
  v366

def k0_off81 (v365 : BitVec 32) : Fin 2 → Nat :=
  let c10_i32_232 : BitVec 32 := 10#32
  let v366 : BitVec 32 := Scalar.muli v365 c10_i32_232
  let v367 : BitVec 32 := v366
  let v368 : Index := Scalar.indexCast v367
  let c0_233 : Index := 0#32
  ![v368.toNat, 0]

def k0_chk35 (v365 : BitVec 32) : Prop :=
  (2 ∣ (k0_mult45 v365).toNat) ∧
  (∀ a, (k0_off81 v365) a + S10x128.size a ≤ S79360x128.size a)
theorem k0_mult45_dvd : ∀ (v365 : BitVec 32) (k0_hw35 : k0_chk35 v365), 2 ∣ (k0_mult45 v365).toNat := fun v365 k0_hw35 => k0_hw35.1
theorem k0_off81_inb : ∀ (v365 : BitVec 32) (k0_hw35 : k0_chk35 v365), ∀ a, (k0_off81 v365) a + S10x128.size a ≤ S79360x128.size a := fun v365 k0_hw35 => k0_hw35.2

def k0_off82 (k0_t2 : Fin k0_t2_loop.trips) : Fin 3 → Nat :=
  let c0_236 : Index := 0#32
  let c0_237 : Index := 0#32
  let c0_i32_11 : BitVec 32 := 0#32
  let c1_i32 : BitVec 32 := 1#32
  let arg15 : BitVec 32 := Scf.iv c0_i32_11 c1_i32 k0_t2
  let c4_i32_213 : BitVec 32 := 4#32
  let v340 : BitVec 32 := Scalar.muli arg15 c4_i32_213
  let c2_i32_214 : BitVec 32 := 2#32
  let v341 : BitVec 32 := Scalar.addi v340 c2_i32_214
  let c8_i32_215 : BitVec 32 := 8#32
  let v342 : BitVec 32 := Scalar.muli v341 c8_i32_215
  let c1_i32_235 : BitVec 32 := 1#32
  let v373 : BitVec 32 := Scalar.addi v342 c1_i32_235
  let v374 : Index := Scalar.indexCast v373
  ![0, 0, v374.toNat]
def k0_mult46 (v375 : BitVec 32) : BitVec 32 :=
  let c2_i32_238 : BitVec 32 := 2#32
  let v376 : BitVec 32 := Scalar.muli v375 c2_i32_238
  v376

def k0_off83 (v375 : BitVec 32) : Fin 2 → Nat :=
  let c2_i32_238 : BitVec 32 := 2#32
  let v376 : BitVec 32 := Scalar.muli v375 c2_i32_238
  let v377 : BitVec 32 := v376
  let v378 : Index := Scalar.indexCast v377
  let c0_239 : Index := 0#32
  ![v378.toNat, 0]

def k0_chk36 (v375 : BitVec 32) : Prop :=
  (2 ∣ (k0_mult46 v375).toNat) ∧
  (∀ a, (k0_off83 v375) a + S2x128.size a ≤ S15872x128.size a)
theorem k0_mult46_dvd : ∀ (v375 : BitVec 32) (k0_hw36 : k0_chk36 v375), 2 ∣ (k0_mult46 v375).toNat := fun v375 k0_hw36 => k0_hw36.1
theorem k0_off83_inb : ∀ (v375 : BitVec 32) (k0_hw36 : k0_chk36 v375), ∀ a, (k0_off83 v375) a + S2x128.size a ≤ S15872x128.size a := fun v375 k0_hw36 => k0_hw36.2

def k0_off84 (k0_t2 : Fin k0_t2_loop.trips) : Fin 3 → Nat :=
  let c0_243 : Index := 0#32
  let c0_244 : Index := 0#32
  let c0_i32_11 : BitVec 32 := 0#32
  let c1_i32 : BitVec 32 := 1#32
  let arg15 : BitVec 32 := Scf.iv c0_i32_11 c1_i32 k0_t2
  let c4_i32_213 : BitVec 32 := 4#32
  let v340 : BitVec 32 := Scalar.muli arg15 c4_i32_213
  let c2_i32_214 : BitVec 32 := 2#32
  let v341 : BitVec 32 := Scalar.addi v340 c2_i32_214
  let c8_i32_215 : BitVec 32 := 8#32
  let v342 : BitVec 32 := Scalar.muli v341 c8_i32_215
  let c2_i32_242 : BitVec 32 := 2#32
  let v383 : BitVec 32 := Scalar.addi v342 c2_i32_242
  let v384 : Index := Scalar.indexCast v383
  ![0, 0, v384.toNat]
def k0_mult47 (v385 : BitVec 32) : BitVec 32 :=
  let c10_i32_245 : BitVec 32 := 10#32
  let v386 : BitVec 32 := Scalar.muli v385 c10_i32_245
  v386

def k0_off85 (v385 : BitVec 32) : Fin 2 → Nat :=
  let c10_i32_245 : BitVec 32 := 10#32
  let v386 : BitVec 32 := Scalar.muli v385 c10_i32_245
  let v387 : BitVec 32 := v386
  let v388 : Index := Scalar.indexCast v387
  let c0_246 : Index := 0#32
  ![v388.toNat, 0]

def k0_chk37 (v385 : BitVec 32) : Prop :=
  (2 ∣ (k0_mult47 v385).toNat) ∧
  (∀ a, (k0_off85 v385) a + S10x128.size a ≤ S79360x128.size a)
theorem k0_mult47_dvd : ∀ (v385 : BitVec 32) (k0_hw37 : k0_chk37 v385), 2 ∣ (k0_mult47 v385).toNat := fun v385 k0_hw37 => k0_hw37.1
theorem k0_off85_inb : ∀ (v385 : BitVec 32) (k0_hw37 : k0_chk37 v385), ∀ a, (k0_off85 v385) a + S10x128.size a ≤ S79360x128.size a := fun v385 k0_hw37 => k0_hw37.2

def k0_off86 (k0_t2 : Fin k0_t2_loop.trips) : Fin 3 → Nat :=
  let c0_249 : Index := 0#32
  let c0_250 : Index := 0#32
  let c0_i32_11 : BitVec 32 := 0#32
  let c1_i32 : BitVec 32 := 1#32
  let arg15 : BitVec 32 := Scf.iv c0_i32_11 c1_i32 k0_t2
  let c4_i32_213 : BitVec 32 := 4#32
  let v340 : BitVec 32 := Scalar.muli arg15 c4_i32_213
  let c2_i32_214 : BitVec 32 := 2#32
  let v341 : BitVec 32 := Scalar.addi v340 c2_i32_214
  let c8_i32_215 : BitVec 32 := 8#32
  let v342 : BitVec 32 := Scalar.muli v341 c8_i32_215
  let c2_i32_248 : BitVec 32 := 2#32
  let v393 : BitVec 32 := Scalar.addi v342 c2_i32_248
  let v394 : Index := Scalar.indexCast v393
  ![0, 0, v394.toNat]
def k0_mult48 (v395 : BitVec 32) : BitVec 32 :=
  let c2_i32_251 : BitVec 32 := 2#32
  let v396 : BitVec 32 := Scalar.muli v395 c2_i32_251
  v396

def k0_off87 (v395 : BitVec 32) : Fin 2 → Nat :=
  let c2_i32_251 : BitVec 32 := 2#32
  let v396 : BitVec 32 := Scalar.muli v395 c2_i32_251
  let v397 : BitVec 32 := v396
  let v398 : Index := Scalar.indexCast v397
  let c0_252 : Index := 0#32
  ![v398.toNat, 0]

def k0_chk38 (v395 : BitVec 32) : Prop :=
  (2 ∣ (k0_mult48 v395).toNat) ∧
  (∀ a, (k0_off87 v395) a + S2x128.size a ≤ S15872x128.size a)
theorem k0_mult48_dvd : ∀ (v395 : BitVec 32) (k0_hw38 : k0_chk38 v395), 2 ∣ (k0_mult48 v395).toNat := fun v395 k0_hw38 => k0_hw38.1
theorem k0_off87_inb : ∀ (v395 : BitVec 32) (k0_hw38 : k0_chk38 v395), ∀ a, (k0_off87 v395) a + S2x128.size a ≤ S15872x128.size a := fun v395 k0_hw38 => k0_hw38.2

def k0_off88 (k0_t2 : Fin k0_t2_loop.trips) : Fin 3 → Nat :=
  let c0_255 : Index := 0#32
  let c0_256 : Index := 0#32
  let c0_i32_11 : BitVec 32 := 0#32
  let c1_i32 : BitVec 32 := 1#32
  let arg15 : BitVec 32 := Scf.iv c0_i32_11 c1_i32 k0_t2
  let c4_i32_213 : BitVec 32 := 4#32
  let v340 : BitVec 32 := Scalar.muli arg15 c4_i32_213
  let c2_i32_214 : BitVec 32 := 2#32
  let v341 : BitVec 32 := Scalar.addi v340 c2_i32_214
  let c8_i32_215 : BitVec 32 := 8#32
  let v342 : BitVec 32 := Scalar.muli v341 c8_i32_215
  let c3_i32_254 : BitVec 32 := 3#32
  let v403 : BitVec 32 := Scalar.addi v342 c3_i32_254
  let v404 : Index := Scalar.indexCast v403
  ![0, 0, v404.toNat]
def k0_mult49 (v405 : BitVec 32) : BitVec 32 :=
  let c10_i32_257 : BitVec 32 := 10#32
  let v406 : BitVec 32 := Scalar.muli v405 c10_i32_257
  v406

def k0_off89 (v405 : BitVec 32) : Fin 2 → Nat :=
  let c10_i32_257 : BitVec 32 := 10#32
  let v406 : BitVec 32 := Scalar.muli v405 c10_i32_257
  let v407 : BitVec 32 := v406
  let v408 : Index := Scalar.indexCast v407
  let c0_258 : Index := 0#32
  ![v408.toNat, 0]

def k0_chk39 (v405 : BitVec 32) : Prop :=
  (2 ∣ (k0_mult49 v405).toNat) ∧
  (∀ a, (k0_off89 v405) a + S10x128.size a ≤ S79360x128.size a)
theorem k0_mult49_dvd : ∀ (v405 : BitVec 32) (k0_hw39 : k0_chk39 v405), 2 ∣ (k0_mult49 v405).toNat := fun v405 k0_hw39 => k0_hw39.1
theorem k0_off89_inb : ∀ (v405 : BitVec 32) (k0_hw39 : k0_chk39 v405), ∀ a, (k0_off89 v405) a + S10x128.size a ≤ S79360x128.size a := fun v405 k0_hw39 => k0_hw39.2

def k0_off90 (k0_t2 : Fin k0_t2_loop.trips) : Fin 3 → Nat :=
  let c0_261 : Index := 0#32
  let c0_262 : Index := 0#32
  let c0_i32_11 : BitVec 32 := 0#32
  let c1_i32 : BitVec 32 := 1#32
  let arg15 : BitVec 32 := Scf.iv c0_i32_11 c1_i32 k0_t2
  let c4_i32_213 : BitVec 32 := 4#32
  let v340 : BitVec 32 := Scalar.muli arg15 c4_i32_213
  let c2_i32_214 : BitVec 32 := 2#32
  let v341 : BitVec 32 := Scalar.addi v340 c2_i32_214
  let c8_i32_215 : BitVec 32 := 8#32
  let v342 : BitVec 32 := Scalar.muli v341 c8_i32_215
  let c3_i32_260 : BitVec 32 := 3#32
  let v413 : BitVec 32 := Scalar.addi v342 c3_i32_260
  let v414 : Index := Scalar.indexCast v413
  ![0, 0, v414.toNat]
def k0_mult50 (v415 : BitVec 32) : BitVec 32 :=
  let c2_i32_263 : BitVec 32 := 2#32
  let v416 : BitVec 32 := Scalar.muli v415 c2_i32_263
  v416

def k0_off91 (v415 : BitVec 32) : Fin 2 → Nat :=
  let c2_i32_263 : BitVec 32 := 2#32
  let v416 : BitVec 32 := Scalar.muli v415 c2_i32_263
  let v417 : BitVec 32 := v416
  let v418 : Index := Scalar.indexCast v417
  let c0_264 : Index := 0#32
  ![v418.toNat, 0]

def k0_chk40 (v415 : BitVec 32) : Prop :=
  (2 ∣ (k0_mult50 v415).toNat) ∧
  (∀ a, (k0_off91 v415) a + S2x128.size a ≤ S15872x128.size a)
theorem k0_mult50_dvd : ∀ (v415 : BitVec 32) (k0_hw40 : k0_chk40 v415), 2 ∣ (k0_mult50 v415).toNat := fun v415 k0_hw40 => k0_hw40.1
theorem k0_off91_inb : ∀ (v415 : BitVec 32) (k0_hw40 : k0_chk40 v415), ∀ a, (k0_off91 v415) a + S2x128.size a ≤ S15872x128.size a := fun v415 k0_hw40 => k0_hw40.2

def k0_off92 (k0_t2 : Fin k0_t2_loop.trips) : Fin 3 → Nat :=
  let c0_268 : Index := 0#32
  let c0_269 : Index := 0#32
  let c0_i32_11 : BitVec 32 := 0#32
  let c1_i32 : BitVec 32 := 1#32
  let arg15 : BitVec 32 := Scf.iv c0_i32_11 c1_i32 k0_t2
  let c4_i32_213 : BitVec 32 := 4#32
  let v340 : BitVec 32 := Scalar.muli arg15 c4_i32_213
  let c2_i32_214 : BitVec 32 := 2#32
  let v341 : BitVec 32 := Scalar.addi v340 c2_i32_214
  let c8_i32_215 : BitVec 32 := 8#32
  let v342 : BitVec 32 := Scalar.muli v341 c8_i32_215
  let c4_i32_267 : BitVec 32 := 4#32
  let v423 : BitVec 32 := Scalar.addi v342 c4_i32_267
  let v424 : Index := Scalar.indexCast v423
  ![0, 0, v424.toNat]
def k0_mult51 (v425 : BitVec 32) : BitVec 32 :=
  let c10_i32_270 : BitVec 32 := 10#32
  let v426 : BitVec 32 := Scalar.muli v425 c10_i32_270
  v426

def k0_off93 (v425 : BitVec 32) : Fin 2 → Nat :=
  let c10_i32_270 : BitVec 32 := 10#32
  let v426 : BitVec 32 := Scalar.muli v425 c10_i32_270
  let v427 : BitVec 32 := v426
  let v428 : Index := Scalar.indexCast v427
  let c0_271 : Index := 0#32
  ![v428.toNat, 0]

def k0_chk41 (v425 : BitVec 32) : Prop :=
  (2 ∣ (k0_mult51 v425).toNat) ∧
  (∀ a, (k0_off93 v425) a + S10x128.size a ≤ S79360x128.size a)
theorem k0_mult51_dvd : ∀ (v425 : BitVec 32) (k0_hw41 : k0_chk41 v425), 2 ∣ (k0_mult51 v425).toNat := fun v425 k0_hw41 => k0_hw41.1
theorem k0_off93_inb : ∀ (v425 : BitVec 32) (k0_hw41 : k0_chk41 v425), ∀ a, (k0_off93 v425) a + S10x128.size a ≤ S79360x128.size a := fun v425 k0_hw41 => k0_hw41.2

def k0_off94 (k0_t2 : Fin k0_t2_loop.trips) : Fin 3 → Nat :=
  let c0_274 : Index := 0#32
  let c0_275 : Index := 0#32
  let c0_i32_11 : BitVec 32 := 0#32
  let c1_i32 : BitVec 32 := 1#32
  let arg15 : BitVec 32 := Scf.iv c0_i32_11 c1_i32 k0_t2
  let c4_i32_213 : BitVec 32 := 4#32
  let v340 : BitVec 32 := Scalar.muli arg15 c4_i32_213
  let c2_i32_214 : BitVec 32 := 2#32
  let v341 : BitVec 32 := Scalar.addi v340 c2_i32_214
  let c8_i32_215 : BitVec 32 := 8#32
  let v342 : BitVec 32 := Scalar.muli v341 c8_i32_215
  let c4_i32_273 : BitVec 32 := 4#32
  let v433 : BitVec 32 := Scalar.addi v342 c4_i32_273
  let v434 : Index := Scalar.indexCast v433
  ![0, 0, v434.toNat]
def k0_mult52 (v435 : BitVec 32) : BitVec 32 :=
  let c2_i32_276 : BitVec 32 := 2#32
  let v436 : BitVec 32 := Scalar.muli v435 c2_i32_276
  v436

def k0_off95 (v435 : BitVec 32) : Fin 2 → Nat :=
  let c2_i32_276 : BitVec 32 := 2#32
  let v436 : BitVec 32 := Scalar.muli v435 c2_i32_276
  let v437 : BitVec 32 := v436
  let v438 : Index := Scalar.indexCast v437
  let c0_277 : Index := 0#32
  ![v438.toNat, 0]

def k0_chk42 (v435 : BitVec 32) : Prop :=
  (2 ∣ (k0_mult52 v435).toNat) ∧
  (∀ a, (k0_off95 v435) a + S2x128.size a ≤ S15872x128.size a)
theorem k0_mult52_dvd : ∀ (v435 : BitVec 32) (k0_hw42 : k0_chk42 v435), 2 ∣ (k0_mult52 v435).toNat := fun v435 k0_hw42 => k0_hw42.1
theorem k0_off95_inb : ∀ (v435 : BitVec 32) (k0_hw42 : k0_chk42 v435), ∀ a, (k0_off95 v435) a + S2x128.size a ≤ S15872x128.size a := fun v435 k0_hw42 => k0_hw42.2

def k0_off96 (k0_t2 : Fin k0_t2_loop.trips) : Fin 3 → Nat :=
  let c0_280 : Index := 0#32
  let c0_281 : Index := 0#32
  let c0_i32_11 : BitVec 32 := 0#32
  let c1_i32 : BitVec 32 := 1#32
  let arg15 : BitVec 32 := Scf.iv c0_i32_11 c1_i32 k0_t2
  let c4_i32_213 : BitVec 32 := 4#32
  let v340 : BitVec 32 := Scalar.muli arg15 c4_i32_213
  let c2_i32_214 : BitVec 32 := 2#32
  let v341 : BitVec 32 := Scalar.addi v340 c2_i32_214
  let c8_i32_215 : BitVec 32 := 8#32
  let v342 : BitVec 32 := Scalar.muli v341 c8_i32_215
  let c5_i32_279 : BitVec 32 := 5#32
  let v443 : BitVec 32 := Scalar.addi v342 c5_i32_279
  let v444 : Index := Scalar.indexCast v443
  ![0, 0, v444.toNat]
def k0_mult53 (v445 : BitVec 32) : BitVec 32 :=
  let c10_i32_282 : BitVec 32 := 10#32
  let v446 : BitVec 32 := Scalar.muli v445 c10_i32_282
  v446

def k0_off97 (v445 : BitVec 32) : Fin 2 → Nat :=
  let c10_i32_282 : BitVec 32 := 10#32
  let v446 : BitVec 32 := Scalar.muli v445 c10_i32_282
  let v447 : BitVec 32 := v446
  let v448 : Index := Scalar.indexCast v447
  let c0_283 : Index := 0#32
  ![v448.toNat, 0]

def k0_chk43 (v445 : BitVec 32) : Prop :=
  (2 ∣ (k0_mult53 v445).toNat) ∧
  (∀ a, (k0_off97 v445) a + S10x128.size a ≤ S79360x128.size a)
theorem k0_mult53_dvd : ∀ (v445 : BitVec 32) (k0_hw43 : k0_chk43 v445), 2 ∣ (k0_mult53 v445).toNat := fun v445 k0_hw43 => k0_hw43.1
theorem k0_off97_inb : ∀ (v445 : BitVec 32) (k0_hw43 : k0_chk43 v445), ∀ a, (k0_off97 v445) a + S10x128.size a ≤ S79360x128.size a := fun v445 k0_hw43 => k0_hw43.2

def k0_off98 (k0_t2 : Fin k0_t2_loop.trips) : Fin 3 → Nat :=
  let c0_286 : Index := 0#32
  let c0_287 : Index := 0#32
  let c0_i32_11 : BitVec 32 := 0#32
  let c1_i32 : BitVec 32 := 1#32
  let arg15 : BitVec 32 := Scf.iv c0_i32_11 c1_i32 k0_t2
  let c4_i32_213 : BitVec 32 := 4#32
  let v340 : BitVec 32 := Scalar.muli arg15 c4_i32_213
  let c2_i32_214 : BitVec 32 := 2#32
  let v341 : BitVec 32 := Scalar.addi v340 c2_i32_214
  let c8_i32_215 : BitVec 32 := 8#32
  let v342 : BitVec 32 := Scalar.muli v341 c8_i32_215
  let c5_i32_285 : BitVec 32 := 5#32
  let v453 : BitVec 32 := Scalar.addi v342 c5_i32_285
  let v454 : Index := Scalar.indexCast v453
  ![0, 0, v454.toNat]
def k0_mult54 (v455 : BitVec 32) : BitVec 32 :=
  let c2_i32_288 : BitVec 32 := 2#32
  let v456 : BitVec 32 := Scalar.muli v455 c2_i32_288
  v456

def k0_off99 (v455 : BitVec 32) : Fin 2 → Nat :=
  let c2_i32_288 : BitVec 32 := 2#32
  let v456 : BitVec 32 := Scalar.muli v455 c2_i32_288
  let v457 : BitVec 32 := v456
  let v458 : Index := Scalar.indexCast v457
  let c0_289 : Index := 0#32
  ![v458.toNat, 0]

def k0_chk44 (v455 : BitVec 32) : Prop :=
  (2 ∣ (k0_mult54 v455).toNat) ∧
  (∀ a, (k0_off99 v455) a + S2x128.size a ≤ S15872x128.size a)
theorem k0_mult54_dvd : ∀ (v455 : BitVec 32) (k0_hw44 : k0_chk44 v455), 2 ∣ (k0_mult54 v455).toNat := fun v455 k0_hw44 => k0_hw44.1
theorem k0_off99_inb : ∀ (v455 : BitVec 32) (k0_hw44 : k0_chk44 v455), ∀ a, (k0_off99 v455) a + S2x128.size a ≤ S15872x128.size a := fun v455 k0_hw44 => k0_hw44.2

def k0_off100 (k0_t2 : Fin k0_t2_loop.trips) : Fin 3 → Nat :=
  let c0_293 : Index := 0#32
  let c0_294 : Index := 0#32
  let c0_i32_11 : BitVec 32 := 0#32
  let c1_i32 : BitVec 32 := 1#32
  let arg15 : BitVec 32 := Scf.iv c0_i32_11 c1_i32 k0_t2
  let c4_i32_213 : BitVec 32 := 4#32
  let v340 : BitVec 32 := Scalar.muli arg15 c4_i32_213
  let c2_i32_214 : BitVec 32 := 2#32
  let v341 : BitVec 32 := Scalar.addi v340 c2_i32_214
  let c8_i32_215 : BitVec 32 := 8#32
  let v342 : BitVec 32 := Scalar.muli v341 c8_i32_215
  let c6_i32_292 : BitVec 32 := 6#32
  let v463 : BitVec 32 := Scalar.addi v342 c6_i32_292
  let v464 : Index := Scalar.indexCast v463
  ![0, 0, v464.toNat]
def k0_mult55 (v465 : BitVec 32) : BitVec 32 :=
  let c10_i32_295 : BitVec 32 := 10#32
  let v466 : BitVec 32 := Scalar.muli v465 c10_i32_295
  v466

def k0_off101 (v465 : BitVec 32) : Fin 2 → Nat :=
  let c10_i32_295 : BitVec 32 := 10#32
  let v466 : BitVec 32 := Scalar.muli v465 c10_i32_295
  let v467 : BitVec 32 := v466
  let v468 : Index := Scalar.indexCast v467
  let c0_296 : Index := 0#32
  ![v468.toNat, 0]

def k0_chk45 (v465 : BitVec 32) : Prop :=
  (2 ∣ (k0_mult55 v465).toNat) ∧
  (∀ a, (k0_off101 v465) a + S10x128.size a ≤ S79360x128.size a)
theorem k0_mult55_dvd : ∀ (v465 : BitVec 32) (k0_hw45 : k0_chk45 v465), 2 ∣ (k0_mult55 v465).toNat := fun v465 k0_hw45 => k0_hw45.1
theorem k0_off101_inb : ∀ (v465 : BitVec 32) (k0_hw45 : k0_chk45 v465), ∀ a, (k0_off101 v465) a + S10x128.size a ≤ S79360x128.size a := fun v465 k0_hw45 => k0_hw45.2

def k0_off102 (k0_t2 : Fin k0_t2_loop.trips) : Fin 3 → Nat :=
  let c0_299 : Index := 0#32
  let c0_300 : Index := 0#32
  let c0_i32_11 : BitVec 32 := 0#32
  let c1_i32 : BitVec 32 := 1#32
  let arg15 : BitVec 32 := Scf.iv c0_i32_11 c1_i32 k0_t2
  let c4_i32_213 : BitVec 32 := 4#32
  let v340 : BitVec 32 := Scalar.muli arg15 c4_i32_213
  let c2_i32_214 : BitVec 32 := 2#32
  let v341 : BitVec 32 := Scalar.addi v340 c2_i32_214
  let c8_i32_215 : BitVec 32 := 8#32
  let v342 : BitVec 32 := Scalar.muli v341 c8_i32_215
  let c6_i32_298 : BitVec 32 := 6#32
  let v473 : BitVec 32 := Scalar.addi v342 c6_i32_298
  let v474 : Index := Scalar.indexCast v473
  ![0, 0, v474.toNat]
def k0_mult56 (v475 : BitVec 32) : BitVec 32 :=
  let c2_i32_301 : BitVec 32 := 2#32
  let v476 : BitVec 32 := Scalar.muli v475 c2_i32_301
  v476

def k0_off103 (v475 : BitVec 32) : Fin 2 → Nat :=
  let c2_i32_301 : BitVec 32 := 2#32
  let v476 : BitVec 32 := Scalar.muli v475 c2_i32_301
  let v477 : BitVec 32 := v476
  let v478 : Index := Scalar.indexCast v477
  let c0_302 : Index := 0#32
  ![v478.toNat, 0]

def k0_chk46 (v475 : BitVec 32) : Prop :=
  (2 ∣ (k0_mult56 v475).toNat) ∧
  (∀ a, (k0_off103 v475) a + S2x128.size a ≤ S15872x128.size a)
theorem k0_mult56_dvd : ∀ (v475 : BitVec 32) (k0_hw46 : k0_chk46 v475), 2 ∣ (k0_mult56 v475).toNat := fun v475 k0_hw46 => k0_hw46.1
theorem k0_off103_inb : ∀ (v475 : BitVec 32) (k0_hw46 : k0_chk46 v475), ∀ a, (k0_off103 v475) a + S2x128.size a ≤ S15872x128.size a := fun v475 k0_hw46 => k0_hw46.2

def k0_off104 (k0_t2 : Fin k0_t2_loop.trips) : Fin 3 → Nat :=
  let c0_305 : Index := 0#32
  let c0_306 : Index := 0#32
  let c0_i32_11 : BitVec 32 := 0#32
  let c1_i32 : BitVec 32 := 1#32
  let arg15 : BitVec 32 := Scf.iv c0_i32_11 c1_i32 k0_t2
  let c4_i32_213 : BitVec 32 := 4#32
  let v340 : BitVec 32 := Scalar.muli arg15 c4_i32_213
  let c2_i32_214 : BitVec 32 := 2#32
  let v341 : BitVec 32 := Scalar.addi v340 c2_i32_214
  let c8_i32_215 : BitVec 32 := 8#32
  let v342 : BitVec 32 := Scalar.muli v341 c8_i32_215
  let c7_i32_304 : BitVec 32 := 7#32
  let v483 : BitVec 32 := Scalar.addi v342 c7_i32_304
  let v484 : Index := Scalar.indexCast v483
  ![0, 0, v484.toNat]
def k0_mult57 (v485 : BitVec 32) : BitVec 32 :=
  let c10_i32_307 : BitVec 32 := 10#32
  let v486 : BitVec 32 := Scalar.muli v485 c10_i32_307
  v486

def k0_off105 (v485 : BitVec 32) : Fin 2 → Nat :=
  let c10_i32_307 : BitVec 32 := 10#32
  let v486 : BitVec 32 := Scalar.muli v485 c10_i32_307
  let v487 : BitVec 32 := v486
  let v488 : Index := Scalar.indexCast v487
  let c0_308 : Index := 0#32
  ![v488.toNat, 0]

def k0_chk47 (v485 : BitVec 32) : Prop :=
  (2 ∣ (k0_mult57 v485).toNat) ∧
  (∀ a, (k0_off105 v485) a + S10x128.size a ≤ S79360x128.size a)
theorem k0_mult57_dvd : ∀ (v485 : BitVec 32) (k0_hw47 : k0_chk47 v485), 2 ∣ (k0_mult57 v485).toNat := fun v485 k0_hw47 => k0_hw47.1
theorem k0_off105_inb : ∀ (v485 : BitVec 32) (k0_hw47 : k0_chk47 v485), ∀ a, (k0_off105 v485) a + S10x128.size a ≤ S79360x128.size a := fun v485 k0_hw47 => k0_hw47.2

def k0_off106 (k0_t2 : Fin k0_t2_loop.trips) : Fin 3 → Nat :=
  let c0_311 : Index := 0#32
  let c0_312 : Index := 0#32
  let c0_i32_11 : BitVec 32 := 0#32
  let c1_i32 : BitVec 32 := 1#32
  let arg15 : BitVec 32 := Scf.iv c0_i32_11 c1_i32 k0_t2
  let c4_i32_213 : BitVec 32 := 4#32
  let v340 : BitVec 32 := Scalar.muli arg15 c4_i32_213
  let c2_i32_214 : BitVec 32 := 2#32
  let v341 : BitVec 32 := Scalar.addi v340 c2_i32_214
  let c8_i32_215 : BitVec 32 := 8#32
  let v342 : BitVec 32 := Scalar.muli v341 c8_i32_215
  let c7_i32_310 : BitVec 32 := 7#32
  let v493 : BitVec 32 := Scalar.addi v342 c7_i32_310
  let v494 : Index := Scalar.indexCast v493
  ![0, 0, v494.toNat]
def k0_mult58 (v495 : BitVec 32) : BitVec 32 :=
  let c2_i32_313 : BitVec 32 := 2#32
  let v496 : BitVec 32 := Scalar.muli v495 c2_i32_313
  v496

def k0_off107 (v495 : BitVec 32) : Fin 2 → Nat :=
  let c2_i32_313 : BitVec 32 := 2#32
  let v496 : BitVec 32 := Scalar.muli v495 c2_i32_313
  let v497 : BitVec 32 := v496
  let v498 : Index := Scalar.indexCast v497
  let c0_314 : Index := 0#32
  ![v498.toNat, 0]

def k0_chk48 (v495 : BitVec 32) : Prop :=
  (2 ∣ (k0_mult58 v495).toNat) ∧
  (∀ a, (k0_off107 v495) a + S2x128.size a ≤ S15872x128.size a)
theorem k0_mult58_dvd : ∀ (v495 : BitVec 32) (k0_hw48 : k0_chk48 v495), 2 ∣ (k0_mult58 v495).toNat := fun v495 k0_hw48 => k0_hw48.1
theorem k0_off107_inb : ∀ (v495 : BitVec 32) (k0_hw48 : k0_chk48 v495), ∀ a, (k0_off107 v495) a + S2x128.size a ≤ S15872x128.size a := fun v495 k0_hw48 => k0_hw48.2

def k0_off108 (k0_t2 : Fin k0_t2_loop.trips) : Fin 3 → Nat :=
  let c0_321 : Index := 0#32
  let c0_322 : Index := 0#32
  let c0_i32_11 : BitVec 32 := 0#32
  let c1_i32 : BitVec 32 := 1#32
  let arg15 : BitVec 32 := Scf.iv c0_i32_11 c1_i32 k0_t2
  let c4_i32_317 : BitVec 32 := 4#32
  let v503 : BitVec 32 := Scalar.muli arg15 c4_i32_317
  let c3_i32_318 : BitVec 32 := 3#32
  let v504 : BitVec 32 := Scalar.addi v503 c3_i32_318
  let c8_i32_319 : BitVec 32 := 8#32
  let v505 : BitVec 32 := Scalar.muli v504 c8_i32_319
  let c0_i32_320 : BitVec 32 := 0#32
  let v506 : BitVec 32 := Scalar.addi v505 c0_i32_320
  let v507 : Index := Scalar.indexCast v506
  ![0, 0, v507.toNat]
def k0_mult59 (v508 : BitVec 32) : BitVec 32 :=
  let c10_i32_323 : BitVec 32 := 10#32
  let v509 : BitVec 32 := Scalar.muli v508 c10_i32_323
  v509

def k0_off109 (v508 : BitVec 32) : Fin 2 → Nat :=
  let c10_i32_323 : BitVec 32 := 10#32
  let v509 : BitVec 32 := Scalar.muli v508 c10_i32_323
  let v510 : BitVec 32 := v509
  let v511 : Index := Scalar.indexCast v510
  let c0_324 : Index := 0#32
  ![v511.toNat, 0]

def k0_chk49 (v508 : BitVec 32) : Prop :=
  (2 ∣ (k0_mult59 v508).toNat) ∧
  (∀ a, (k0_off109 v508) a + S10x128.size a ≤ S79360x128.size a)
theorem k0_mult59_dvd : ∀ (v508 : BitVec 32) (k0_hw49 : k0_chk49 v508), 2 ∣ (k0_mult59 v508).toNat := fun v508 k0_hw49 => k0_hw49.1
theorem k0_off109_inb : ∀ (v508 : BitVec 32) (k0_hw49 : k0_chk49 v508), ∀ a, (k0_off109 v508) a + S10x128.size a ≤ S79360x128.size a := fun v508 k0_hw49 => k0_hw49.2

def k0_off110 (k0_t2 : Fin k0_t2_loop.trips) : Fin 3 → Nat :=
  let c0_327 : Index := 0#32
  let c0_328 : Index := 0#32
  let c0_i32_11 : BitVec 32 := 0#32
  let c1_i32 : BitVec 32 := 1#32
  let arg15 : BitVec 32 := Scf.iv c0_i32_11 c1_i32 k0_t2
  let c4_i32_317 : BitVec 32 := 4#32
  let v503 : BitVec 32 := Scalar.muli arg15 c4_i32_317
  let c3_i32_318 : BitVec 32 := 3#32
  let v504 : BitVec 32 := Scalar.addi v503 c3_i32_318
  let c8_i32_319 : BitVec 32 := 8#32
  let v505 : BitVec 32 := Scalar.muli v504 c8_i32_319
  let c0_i32_326 : BitVec 32 := 0#32
  let v516 : BitVec 32 := Scalar.addi v505 c0_i32_326
  let v517 : Index := Scalar.indexCast v516
  ![0, 0, v517.toNat]
def k0_mult60 (v518 : BitVec 32) : BitVec 32 :=
  let c2_i32_329 : BitVec 32 := 2#32
  let v519 : BitVec 32 := Scalar.muli v518 c2_i32_329
  v519

def k0_off111 (v518 : BitVec 32) : Fin 2 → Nat :=
  let c2_i32_329 : BitVec 32 := 2#32
  let v519 : BitVec 32 := Scalar.muli v518 c2_i32_329
  let v520 : BitVec 32 := v519
  let v521 : Index := Scalar.indexCast v520
  let c0_330 : Index := 0#32
  ![v521.toNat, 0]

def k0_chk50 (v518 : BitVec 32) : Prop :=
  (2 ∣ (k0_mult60 v518).toNat) ∧
  (∀ a, (k0_off111 v518) a + S2x128.size a ≤ S15872x128.size a)
theorem k0_mult60_dvd : ∀ (v518 : BitVec 32) (k0_hw50 : k0_chk50 v518), 2 ∣ (k0_mult60 v518).toNat := fun v518 k0_hw50 => k0_hw50.1
theorem k0_off111_inb : ∀ (v518 : BitVec 32) (k0_hw50 : k0_chk50 v518), ∀ a, (k0_off111 v518) a + S2x128.size a ≤ S15872x128.size a := fun v518 k0_hw50 => k0_hw50.2

def k0_off112 (k0_t2 : Fin k0_t2_loop.trips) : Fin 3 → Nat :=
  let c0_334 : Index := 0#32
  let c0_335 : Index := 0#32
  let c0_i32_11 : BitVec 32 := 0#32
  let c1_i32 : BitVec 32 := 1#32
  let arg15 : BitVec 32 := Scf.iv c0_i32_11 c1_i32 k0_t2
  let c4_i32_317 : BitVec 32 := 4#32
  let v503 : BitVec 32 := Scalar.muli arg15 c4_i32_317
  let c3_i32_318 : BitVec 32 := 3#32
  let v504 : BitVec 32 := Scalar.addi v503 c3_i32_318
  let c8_i32_319 : BitVec 32 := 8#32
  let v505 : BitVec 32 := Scalar.muli v504 c8_i32_319
  let c1_i32_333 : BitVec 32 := 1#32
  let v526 : BitVec 32 := Scalar.addi v505 c1_i32_333
  let v527 : Index := Scalar.indexCast v526
  ![0, 0, v527.toNat]
def k0_mult61 (v528 : BitVec 32) : BitVec 32 :=
  let c10_i32_336 : BitVec 32 := 10#32
  let v529 : BitVec 32 := Scalar.muli v528 c10_i32_336
  v529

def k0_off113 (v528 : BitVec 32) : Fin 2 → Nat :=
  let c10_i32_336 : BitVec 32 := 10#32
  let v529 : BitVec 32 := Scalar.muli v528 c10_i32_336
  let v530 : BitVec 32 := v529
  let v531 : Index := Scalar.indexCast v530
  let c0_337 : Index := 0#32
  ![v531.toNat, 0]

def k0_chk51 (v528 : BitVec 32) : Prop :=
  (2 ∣ (k0_mult61 v528).toNat) ∧
  (∀ a, (k0_off113 v528) a + S10x128.size a ≤ S79360x128.size a)
theorem k0_mult61_dvd : ∀ (v528 : BitVec 32) (k0_hw51 : k0_chk51 v528), 2 ∣ (k0_mult61 v528).toNat := fun v528 k0_hw51 => k0_hw51.1
theorem k0_off113_inb : ∀ (v528 : BitVec 32) (k0_hw51 : k0_chk51 v528), ∀ a, (k0_off113 v528) a + S10x128.size a ≤ S79360x128.size a := fun v528 k0_hw51 => k0_hw51.2

def k0_off114 (k0_t2 : Fin k0_t2_loop.trips) : Fin 3 → Nat :=
  let c0_340 : Index := 0#32
  let c0_341 : Index := 0#32
  let c0_i32_11 : BitVec 32 := 0#32
  let c1_i32 : BitVec 32 := 1#32
  let arg15 : BitVec 32 := Scf.iv c0_i32_11 c1_i32 k0_t2
  let c4_i32_317 : BitVec 32 := 4#32
  let v503 : BitVec 32 := Scalar.muli arg15 c4_i32_317
  let c3_i32_318 : BitVec 32 := 3#32
  let v504 : BitVec 32 := Scalar.addi v503 c3_i32_318
  let c8_i32_319 : BitVec 32 := 8#32
  let v505 : BitVec 32 := Scalar.muli v504 c8_i32_319
  let c1_i32_339 : BitVec 32 := 1#32
  let v536 : BitVec 32 := Scalar.addi v505 c1_i32_339
  let v537 : Index := Scalar.indexCast v536
  ![0, 0, v537.toNat]
def k0_mult62 (v538 : BitVec 32) : BitVec 32 :=
  let c2_i32_342 : BitVec 32 := 2#32
  let v539 : BitVec 32 := Scalar.muli v538 c2_i32_342
  v539

def k0_off115 (v538 : BitVec 32) : Fin 2 → Nat :=
  let c2_i32_342 : BitVec 32 := 2#32
  let v539 : BitVec 32 := Scalar.muli v538 c2_i32_342
  let v540 : BitVec 32 := v539
  let v541 : Index := Scalar.indexCast v540
  let c0_343 : Index := 0#32
  ![v541.toNat, 0]

def k0_chk52 (v538 : BitVec 32) : Prop :=
  (2 ∣ (k0_mult62 v538).toNat) ∧
  (∀ a, (k0_off115 v538) a + S2x128.size a ≤ S15872x128.size a)
theorem k0_mult62_dvd : ∀ (v538 : BitVec 32) (k0_hw52 : k0_chk52 v538), 2 ∣ (k0_mult62 v538).toNat := fun v538 k0_hw52 => k0_hw52.1
theorem k0_off115_inb : ∀ (v538 : BitVec 32) (k0_hw52 : k0_chk52 v538), ∀ a, (k0_off115 v538) a + S2x128.size a ≤ S15872x128.size a := fun v538 k0_hw52 => k0_hw52.2

def k0_off116 (k0_t2 : Fin k0_t2_loop.trips) : Fin 3 → Nat :=
  let c0_347 : Index := 0#32
  let c0_348 : Index := 0#32
  let c0_i32_11 : BitVec 32 := 0#32
  let c1_i32 : BitVec 32 := 1#32
  let arg15 : BitVec 32 := Scf.iv c0_i32_11 c1_i32 k0_t2
  let c4_i32_317 : BitVec 32 := 4#32
  let v503 : BitVec 32 := Scalar.muli arg15 c4_i32_317
  let c3_i32_318 : BitVec 32 := 3#32
  let v504 : BitVec 32 := Scalar.addi v503 c3_i32_318
  let c8_i32_319 : BitVec 32 := 8#32
  let v505 : BitVec 32 := Scalar.muli v504 c8_i32_319
  let c2_i32_346 : BitVec 32 := 2#32
  let v546 : BitVec 32 := Scalar.addi v505 c2_i32_346
  let v547 : Index := Scalar.indexCast v546
  ![0, 0, v547.toNat]
def k0_mult63 (v548 : BitVec 32) : BitVec 32 :=
  let c10_i32_349 : BitVec 32 := 10#32
  let v549 : BitVec 32 := Scalar.muli v548 c10_i32_349
  v549

def k0_off117 (v548 : BitVec 32) : Fin 2 → Nat :=
  let c10_i32_349 : BitVec 32 := 10#32
  let v549 : BitVec 32 := Scalar.muli v548 c10_i32_349
  let v550 : BitVec 32 := v549
  let v551 : Index := Scalar.indexCast v550
  let c0_350 : Index := 0#32
  ![v551.toNat, 0]

def k0_chk53 (v548 : BitVec 32) : Prop :=
  (2 ∣ (k0_mult63 v548).toNat) ∧
  (∀ a, (k0_off117 v548) a + S10x128.size a ≤ S79360x128.size a)
theorem k0_mult63_dvd : ∀ (v548 : BitVec 32) (k0_hw53 : k0_chk53 v548), 2 ∣ (k0_mult63 v548).toNat := fun v548 k0_hw53 => k0_hw53.1
theorem k0_off117_inb : ∀ (v548 : BitVec 32) (k0_hw53 : k0_chk53 v548), ∀ a, (k0_off117 v548) a + S10x128.size a ≤ S79360x128.size a := fun v548 k0_hw53 => k0_hw53.2

def k0_off118 (k0_t2 : Fin k0_t2_loop.trips) : Fin 3 → Nat :=
  let c0_353 : Index := 0#32
  let c0_354 : Index := 0#32
  let c0_i32_11 : BitVec 32 := 0#32
  let c1_i32 : BitVec 32 := 1#32
  let arg15 : BitVec 32 := Scf.iv c0_i32_11 c1_i32 k0_t2
  let c4_i32_317 : BitVec 32 := 4#32
  let v503 : BitVec 32 := Scalar.muli arg15 c4_i32_317
  let c3_i32_318 : BitVec 32 := 3#32
  let v504 : BitVec 32 := Scalar.addi v503 c3_i32_318
  let c8_i32_319 : BitVec 32 := 8#32
  let v505 : BitVec 32 := Scalar.muli v504 c8_i32_319
  let c2_i32_352 : BitVec 32 := 2#32
  let v556 : BitVec 32 := Scalar.addi v505 c2_i32_352
  let v557 : Index := Scalar.indexCast v556
  ![0, 0, v557.toNat]
def k0_mult64 (v558 : BitVec 32) : BitVec 32 :=
  let c2_i32_355 : BitVec 32 := 2#32
  let v559 : BitVec 32 := Scalar.muli v558 c2_i32_355
  v559

def k0_off119 (v558 : BitVec 32) : Fin 2 → Nat :=
  let c2_i32_355 : BitVec 32 := 2#32
  let v559 : BitVec 32 := Scalar.muli v558 c2_i32_355
  let v560 : BitVec 32 := v559
  let v561 : Index := Scalar.indexCast v560
  let c0_356 : Index := 0#32
  ![v561.toNat, 0]

def k0_chk54 (v558 : BitVec 32) : Prop :=
  (2 ∣ (k0_mult64 v558).toNat) ∧
  (∀ a, (k0_off119 v558) a + S2x128.size a ≤ S15872x128.size a)
theorem k0_mult64_dvd : ∀ (v558 : BitVec 32) (k0_hw54 : k0_chk54 v558), 2 ∣ (k0_mult64 v558).toNat := fun v558 k0_hw54 => k0_hw54.1
theorem k0_off119_inb : ∀ (v558 : BitVec 32) (k0_hw54 : k0_chk54 v558), ∀ a, (k0_off119 v558) a + S2x128.size a ≤ S15872x128.size a := fun v558 k0_hw54 => k0_hw54.2

def k0_off120 (k0_t2 : Fin k0_t2_loop.trips) : Fin 3 → Nat :=
  let c0_359 : Index := 0#32
  let c0_360 : Index := 0#32
  let c0_i32_11 : BitVec 32 := 0#32
  let c1_i32 : BitVec 32 := 1#32
  let arg15 : BitVec 32 := Scf.iv c0_i32_11 c1_i32 k0_t2
  let c4_i32_317 : BitVec 32 := 4#32
  let v503 : BitVec 32 := Scalar.muli arg15 c4_i32_317
  let c3_i32_318 : BitVec 32 := 3#32
  let v504 : BitVec 32 := Scalar.addi v503 c3_i32_318
  let c8_i32_319 : BitVec 32 := 8#32
  let v505 : BitVec 32 := Scalar.muli v504 c8_i32_319
  let c3_i32_358 : BitVec 32 := 3#32
  let v566 : BitVec 32 := Scalar.addi v505 c3_i32_358
  let v567 : Index := Scalar.indexCast v566
  ![0, 0, v567.toNat]
def k0_mult65 (v568 : BitVec 32) : BitVec 32 :=
  let c10_i32_361 : BitVec 32 := 10#32
  let v569 : BitVec 32 := Scalar.muli v568 c10_i32_361
  v569

def k0_off121 (v568 : BitVec 32) : Fin 2 → Nat :=
  let c10_i32_361 : BitVec 32 := 10#32
  let v569 : BitVec 32 := Scalar.muli v568 c10_i32_361
  let v570 : BitVec 32 := v569
  let v571 : Index := Scalar.indexCast v570
  let c0_362 : Index := 0#32
  ![v571.toNat, 0]

def k0_chk55 (v568 : BitVec 32) : Prop :=
  (2 ∣ (k0_mult65 v568).toNat) ∧
  (∀ a, (k0_off121 v568) a + S10x128.size a ≤ S79360x128.size a)
theorem k0_mult65_dvd : ∀ (v568 : BitVec 32) (k0_hw55 : k0_chk55 v568), 2 ∣ (k0_mult65 v568).toNat := fun v568 k0_hw55 => k0_hw55.1
theorem k0_off121_inb : ∀ (v568 : BitVec 32) (k0_hw55 : k0_chk55 v568), ∀ a, (k0_off121 v568) a + S10x128.size a ≤ S79360x128.size a := fun v568 k0_hw55 => k0_hw55.2

def k0_off122 (k0_t2 : Fin k0_t2_loop.trips) : Fin 3 → Nat :=
  let c0_365 : Index := 0#32
  let c0_366 : Index := 0#32
  let c0_i32_11 : BitVec 32 := 0#32
  let c1_i32 : BitVec 32 := 1#32
  let arg15 : BitVec 32 := Scf.iv c0_i32_11 c1_i32 k0_t2
  let c4_i32_317 : BitVec 32 := 4#32
  let v503 : BitVec 32 := Scalar.muli arg15 c4_i32_317
  let c3_i32_318 : BitVec 32 := 3#32
  let v504 : BitVec 32 := Scalar.addi v503 c3_i32_318
  let c8_i32_319 : BitVec 32 := 8#32
  let v505 : BitVec 32 := Scalar.muli v504 c8_i32_319
  let c3_i32_364 : BitVec 32 := 3#32
  let v576 : BitVec 32 := Scalar.addi v505 c3_i32_364
  let v577 : Index := Scalar.indexCast v576
  ![0, 0, v577.toNat]
def k0_mult66 (v578 : BitVec 32) : BitVec 32 :=
  let c2_i32_367 : BitVec 32 := 2#32
  let v579 : BitVec 32 := Scalar.muli v578 c2_i32_367
  v579

def k0_off123 (v578 : BitVec 32) : Fin 2 → Nat :=
  let c2_i32_367 : BitVec 32 := 2#32
  let v579 : BitVec 32 := Scalar.muli v578 c2_i32_367
  let v580 : BitVec 32 := v579
  let v581 : Index := Scalar.indexCast v580
  let c0_368 : Index := 0#32
  ![v581.toNat, 0]

def k0_chk56 (v578 : BitVec 32) : Prop :=
  (2 ∣ (k0_mult66 v578).toNat) ∧
  (∀ a, (k0_off123 v578) a + S2x128.size a ≤ S15872x128.size a)
theorem k0_mult66_dvd : ∀ (v578 : BitVec 32) (k0_hw56 : k0_chk56 v578), 2 ∣ (k0_mult66 v578).toNat := fun v578 k0_hw56 => k0_hw56.1
theorem k0_off123_inb : ∀ (v578 : BitVec 32) (k0_hw56 : k0_chk56 v578), ∀ a, (k0_off123 v578) a + S2x128.size a ≤ S15872x128.size a := fun v578 k0_hw56 => k0_hw56.2

def k0_off124 (k0_t2 : Fin k0_t2_loop.trips) : Fin 3 → Nat :=
  let c0_371 : Index := 0#32
  let c0_372 : Index := 0#32
  let c0_i32_11 : BitVec 32 := 0#32
  let c1_i32 : BitVec 32 := 1#32
  let arg15 : BitVec 32 := Scf.iv c0_i32_11 c1_i32 k0_t2
  let c4_i32_317 : BitVec 32 := 4#32
  let v503 : BitVec 32 := Scalar.muli arg15 c4_i32_317
  let c3_i32_318 : BitVec 32 := 3#32
  let v504 : BitVec 32 := Scalar.addi v503 c3_i32_318
  let c8_i32_319 : BitVec 32 := 8#32
  let v505 : BitVec 32 := Scalar.muli v504 c8_i32_319
  let c4_i32_370 : BitVec 32 := 4#32
  let v586 : BitVec 32 := Scalar.addi v505 c4_i32_370
  let v587 : Index := Scalar.indexCast v586
  ![0, 0, v587.toNat]
def k0_mult67 (v588 : BitVec 32) : BitVec 32 :=
  let c10_i32_373 : BitVec 32 := 10#32
  let v589 : BitVec 32 := Scalar.muli v588 c10_i32_373
  v589

def k0_off125 (v588 : BitVec 32) : Fin 2 → Nat :=
  let c10_i32_373 : BitVec 32 := 10#32
  let v589 : BitVec 32 := Scalar.muli v588 c10_i32_373
  let v590 : BitVec 32 := v589
  let v591 : Index := Scalar.indexCast v590
  let c0_374 : Index := 0#32
  ![v591.toNat, 0]

def k0_chk57 (v588 : BitVec 32) : Prop :=
  (2 ∣ (k0_mult67 v588).toNat) ∧
  (∀ a, (k0_off125 v588) a + S10x128.size a ≤ S79360x128.size a)
theorem k0_mult67_dvd : ∀ (v588 : BitVec 32) (k0_hw57 : k0_chk57 v588), 2 ∣ (k0_mult67 v588).toNat := fun v588 k0_hw57 => k0_hw57.1
theorem k0_off125_inb : ∀ (v588 : BitVec 32) (k0_hw57 : k0_chk57 v588), ∀ a, (k0_off125 v588) a + S10x128.size a ≤ S79360x128.size a := fun v588 k0_hw57 => k0_hw57.2

def k0_off126 (k0_t2 : Fin k0_t2_loop.trips) : Fin 3 → Nat :=
  let c0_377 : Index := 0#32
  let c0_378 : Index := 0#32
  let c0_i32_11 : BitVec 32 := 0#32
  let c1_i32 : BitVec 32 := 1#32
  let arg15 : BitVec 32 := Scf.iv c0_i32_11 c1_i32 k0_t2
  let c4_i32_317 : BitVec 32 := 4#32
  let v503 : BitVec 32 := Scalar.muli arg15 c4_i32_317
  let c3_i32_318 : BitVec 32 := 3#32
  let v504 : BitVec 32 := Scalar.addi v503 c3_i32_318
  let c8_i32_319 : BitVec 32 := 8#32
  let v505 : BitVec 32 := Scalar.muli v504 c8_i32_319
  let c4_i32_376 : BitVec 32 := 4#32
  let v596 : BitVec 32 := Scalar.addi v505 c4_i32_376
  let v597 : Index := Scalar.indexCast v596
  ![0, 0, v597.toNat]
def k0_mult68 (v598 : BitVec 32) : BitVec 32 :=
  let c2_i32_379 : BitVec 32 := 2#32
  let v599 : BitVec 32 := Scalar.muli v598 c2_i32_379
  v599

def k0_off127 (v598 : BitVec 32) : Fin 2 → Nat :=
  let c2_i32_379 : BitVec 32 := 2#32
  let v599 : BitVec 32 := Scalar.muli v598 c2_i32_379
  let v600 : BitVec 32 := v599
  let v601 : Index := Scalar.indexCast v600
  let c0_380 : Index := 0#32
  ![v601.toNat, 0]

def k0_chk58 (v598 : BitVec 32) : Prop :=
  (2 ∣ (k0_mult68 v598).toNat) ∧
  (∀ a, (k0_off127 v598) a + S2x128.size a ≤ S15872x128.size a)
theorem k0_mult68_dvd : ∀ (v598 : BitVec 32) (k0_hw58 : k0_chk58 v598), 2 ∣ (k0_mult68 v598).toNat := fun v598 k0_hw58 => k0_hw58.1
theorem k0_off127_inb : ∀ (v598 : BitVec 32) (k0_hw58 : k0_chk58 v598), ∀ a, (k0_off127 v598) a + S2x128.size a ≤ S15872x128.size a := fun v598 k0_hw58 => k0_hw58.2

def k0_off128 (k0_t2 : Fin k0_t2_loop.trips) : Fin 3 → Nat :=
  let c0_383 : Index := 0#32
  let c0_384 : Index := 0#32
  let c0_i32_11 : BitVec 32 := 0#32
  let c1_i32 : BitVec 32 := 1#32
  let arg15 : BitVec 32 := Scf.iv c0_i32_11 c1_i32 k0_t2
  let c4_i32_317 : BitVec 32 := 4#32
  let v503 : BitVec 32 := Scalar.muli arg15 c4_i32_317
  let c3_i32_318 : BitVec 32 := 3#32
  let v504 : BitVec 32 := Scalar.addi v503 c3_i32_318
  let c8_i32_319 : BitVec 32 := 8#32
  let v505 : BitVec 32 := Scalar.muli v504 c8_i32_319
  let c5_i32_382 : BitVec 32 := 5#32
  let v606 : BitVec 32 := Scalar.addi v505 c5_i32_382
  let v607 : Index := Scalar.indexCast v606
  ![0, 0, v607.toNat]
def k0_mult69 (v608 : BitVec 32) : BitVec 32 :=
  let c10_i32_385 : BitVec 32 := 10#32
  let v609 : BitVec 32 := Scalar.muli v608 c10_i32_385
  v609

def k0_off129 (v608 : BitVec 32) : Fin 2 → Nat :=
  let c10_i32_385 : BitVec 32 := 10#32
  let v609 : BitVec 32 := Scalar.muli v608 c10_i32_385
  let v610 : BitVec 32 := v609
  let v611 : Index := Scalar.indexCast v610
  let c0_386 : Index := 0#32
  ![v611.toNat, 0]

def k0_chk59 (v608 : BitVec 32) : Prop :=
  (2 ∣ (k0_mult69 v608).toNat) ∧
  (∀ a, (k0_off129 v608) a + S10x128.size a ≤ S79360x128.size a)
theorem k0_mult69_dvd : ∀ (v608 : BitVec 32) (k0_hw59 : k0_chk59 v608), 2 ∣ (k0_mult69 v608).toNat := fun v608 k0_hw59 => k0_hw59.1
theorem k0_off129_inb : ∀ (v608 : BitVec 32) (k0_hw59 : k0_chk59 v608), ∀ a, (k0_off129 v608) a + S10x128.size a ≤ S79360x128.size a := fun v608 k0_hw59 => k0_hw59.2

def k0_off130 (k0_t2 : Fin k0_t2_loop.trips) : Fin 3 → Nat :=
  let c0_389 : Index := 0#32
  let c0_390 : Index := 0#32
  let c0_i32_11 : BitVec 32 := 0#32
  let c1_i32 : BitVec 32 := 1#32
  let arg15 : BitVec 32 := Scf.iv c0_i32_11 c1_i32 k0_t2
  let c4_i32_317 : BitVec 32 := 4#32
  let v503 : BitVec 32 := Scalar.muli arg15 c4_i32_317
  let c3_i32_318 : BitVec 32 := 3#32
  let v504 : BitVec 32 := Scalar.addi v503 c3_i32_318
  let c8_i32_319 : BitVec 32 := 8#32
  let v505 : BitVec 32 := Scalar.muli v504 c8_i32_319
  let c5_i32_388 : BitVec 32 := 5#32
  let v616 : BitVec 32 := Scalar.addi v505 c5_i32_388
  let v617 : Index := Scalar.indexCast v616
  ![0, 0, v617.toNat]
def k0_mult70 (v618 : BitVec 32) : BitVec 32 :=
  let c2_i32_391 : BitVec 32 := 2#32
  let v619 : BitVec 32 := Scalar.muli v618 c2_i32_391
  v619

def k0_off131 (v618 : BitVec 32) : Fin 2 → Nat :=
  let c2_i32_391 : BitVec 32 := 2#32
  let v619 : BitVec 32 := Scalar.muli v618 c2_i32_391
  let v620 : BitVec 32 := v619
  let v621 : Index := Scalar.indexCast v620
  let c0_392 : Index := 0#32
  ![v621.toNat, 0]

def k0_chk60 (v618 : BitVec 32) : Prop :=
  (2 ∣ (k0_mult70 v618).toNat) ∧
  (∀ a, (k0_off131 v618) a + S2x128.size a ≤ S15872x128.size a)
theorem k0_mult70_dvd : ∀ (v618 : BitVec 32) (k0_hw60 : k0_chk60 v618), 2 ∣ (k0_mult70 v618).toNat := fun v618 k0_hw60 => k0_hw60.1
theorem k0_off131_inb : ∀ (v618 : BitVec 32) (k0_hw60 : k0_chk60 v618), ∀ a, (k0_off131 v618) a + S2x128.size a ≤ S15872x128.size a := fun v618 k0_hw60 => k0_hw60.2

def k0_off132 (k0_t2 : Fin k0_t2_loop.trips) : Fin 3 → Nat :=
  let c0_395 : Index := 0#32
  let c0_396 : Index := 0#32
  let c0_i32_11 : BitVec 32 := 0#32
  let c1_i32 : BitVec 32 := 1#32
  let arg15 : BitVec 32 := Scf.iv c0_i32_11 c1_i32 k0_t2
  let c4_i32_317 : BitVec 32 := 4#32
  let v503 : BitVec 32 := Scalar.muli arg15 c4_i32_317
  let c3_i32_318 : BitVec 32 := 3#32
  let v504 : BitVec 32 := Scalar.addi v503 c3_i32_318
  let c8_i32_319 : BitVec 32 := 8#32
  let v505 : BitVec 32 := Scalar.muli v504 c8_i32_319
  let c6_i32_394 : BitVec 32 := 6#32
  let v626 : BitVec 32 := Scalar.addi v505 c6_i32_394
  let v627 : Index := Scalar.indexCast v626
  ![0, 0, v627.toNat]
def k0_mult71 (v628 : BitVec 32) : BitVec 32 :=
  let c10_i32_397 : BitVec 32 := 10#32
  let v629 : BitVec 32 := Scalar.muli v628 c10_i32_397
  v629

def k0_off133 (v628 : BitVec 32) : Fin 2 → Nat :=
  let c10_i32_397 : BitVec 32 := 10#32
  let v629 : BitVec 32 := Scalar.muli v628 c10_i32_397
  let v630 : BitVec 32 := v629
  let v631 : Index := Scalar.indexCast v630
  let c0_398 : Index := 0#32
  ![v631.toNat, 0]

def k0_chk61 (v628 : BitVec 32) : Prop :=
  (2 ∣ (k0_mult71 v628).toNat) ∧
  (∀ a, (k0_off133 v628) a + S10x128.size a ≤ S79360x128.size a)
theorem k0_mult71_dvd : ∀ (v628 : BitVec 32) (k0_hw61 : k0_chk61 v628), 2 ∣ (k0_mult71 v628).toNat := fun v628 k0_hw61 => k0_hw61.1
theorem k0_off133_inb : ∀ (v628 : BitVec 32) (k0_hw61 : k0_chk61 v628), ∀ a, (k0_off133 v628) a + S10x128.size a ≤ S79360x128.size a := fun v628 k0_hw61 => k0_hw61.2

def k0_off134 (k0_t2 : Fin k0_t2_loop.trips) : Fin 3 → Nat :=
  let c0_401 : Index := 0#32
  let c0_402 : Index := 0#32
  let c0_i32_11 : BitVec 32 := 0#32
  let c1_i32 : BitVec 32 := 1#32
  let arg15 : BitVec 32 := Scf.iv c0_i32_11 c1_i32 k0_t2
  let c4_i32_317 : BitVec 32 := 4#32
  let v503 : BitVec 32 := Scalar.muli arg15 c4_i32_317
  let c3_i32_318 : BitVec 32 := 3#32
  let v504 : BitVec 32 := Scalar.addi v503 c3_i32_318
  let c8_i32_319 : BitVec 32 := 8#32
  let v505 : BitVec 32 := Scalar.muli v504 c8_i32_319
  let c6_i32_400 : BitVec 32 := 6#32
  let v636 : BitVec 32 := Scalar.addi v505 c6_i32_400
  let v637 : Index := Scalar.indexCast v636
  ![0, 0, v637.toNat]
def k0_mult72 (v638 : BitVec 32) : BitVec 32 :=
  let c2_i32_403 : BitVec 32 := 2#32
  let v639 : BitVec 32 := Scalar.muli v638 c2_i32_403
  v639

def k0_off135 (v638 : BitVec 32) : Fin 2 → Nat :=
  let c2_i32_403 : BitVec 32 := 2#32
  let v639 : BitVec 32 := Scalar.muli v638 c2_i32_403
  let v640 : BitVec 32 := v639
  let v641 : Index := Scalar.indexCast v640
  let c0_404 : Index := 0#32
  ![v641.toNat, 0]

def k0_chk62 (v638 : BitVec 32) : Prop :=
  (2 ∣ (k0_mult72 v638).toNat) ∧
  (∀ a, (k0_off135 v638) a + S2x128.size a ≤ S15872x128.size a)
theorem k0_mult72_dvd : ∀ (v638 : BitVec 32) (k0_hw62 : k0_chk62 v638), 2 ∣ (k0_mult72 v638).toNat := fun v638 k0_hw62 => k0_hw62.1
theorem k0_off135_inb : ∀ (v638 : BitVec 32) (k0_hw62 : k0_chk62 v638), ∀ a, (k0_off135 v638) a + S2x128.size a ≤ S15872x128.size a := fun v638 k0_hw62 => k0_hw62.2

def k0_off136 (k0_t2 : Fin k0_t2_loop.trips) : Fin 3 → Nat :=
  let c0_407 : Index := 0#32
  let c0_408 : Index := 0#32
  let c0_i32_11 : BitVec 32 := 0#32
  let c1_i32 : BitVec 32 := 1#32
  let arg15 : BitVec 32 := Scf.iv c0_i32_11 c1_i32 k0_t2
  let c4_i32_317 : BitVec 32 := 4#32
  let v503 : BitVec 32 := Scalar.muli arg15 c4_i32_317
  let c3_i32_318 : BitVec 32 := 3#32
  let v504 : BitVec 32 := Scalar.addi v503 c3_i32_318
  let c8_i32_319 : BitVec 32 := 8#32
  let v505 : BitVec 32 := Scalar.muli v504 c8_i32_319
  let c7_i32_406 : BitVec 32 := 7#32
  let v646 : BitVec 32 := Scalar.addi v505 c7_i32_406
  let v647 : Index := Scalar.indexCast v646
  ![0, 0, v647.toNat]
def k0_mult73 (v648 : BitVec 32) : BitVec 32 :=
  let c10_i32_409 : BitVec 32 := 10#32
  let v649 : BitVec 32 := Scalar.muli v648 c10_i32_409
  v649

def k0_off137 (v648 : BitVec 32) : Fin 2 → Nat :=
  let c10_i32_409 : BitVec 32 := 10#32
  let v649 : BitVec 32 := Scalar.muli v648 c10_i32_409
  let v650 : BitVec 32 := v649
  let v651 : Index := Scalar.indexCast v650
  let c0_410 : Index := 0#32
  ![v651.toNat, 0]

def k0_chk63 (v648 : BitVec 32) : Prop :=
  (2 ∣ (k0_mult73 v648).toNat) ∧
  (∀ a, (k0_off137 v648) a + S10x128.size a ≤ S79360x128.size a)
theorem k0_mult73_dvd : ∀ (v648 : BitVec 32) (k0_hw63 : k0_chk63 v648), 2 ∣ (k0_mult73 v648).toNat := fun v648 k0_hw63 => k0_hw63.1
theorem k0_off137_inb : ∀ (v648 : BitVec 32) (k0_hw63 : k0_chk63 v648), ∀ a, (k0_off137 v648) a + S10x128.size a ≤ S79360x128.size a := fun v648 k0_hw63 => k0_hw63.2

def k0_off138 (k0_t2 : Fin k0_t2_loop.trips) : Fin 3 → Nat :=
  let c0_413 : Index := 0#32
  let c0_414 : Index := 0#32
  let c0_i32_11 : BitVec 32 := 0#32
  let c1_i32 : BitVec 32 := 1#32
  let arg15 : BitVec 32 := Scf.iv c0_i32_11 c1_i32 k0_t2
  let c4_i32_317 : BitVec 32 := 4#32
  let v503 : BitVec 32 := Scalar.muli arg15 c4_i32_317
  let c3_i32_318 : BitVec 32 := 3#32
  let v504 : BitVec 32 := Scalar.addi v503 c3_i32_318
  let c8_i32_319 : BitVec 32 := 8#32
  let v505 : BitVec 32 := Scalar.muli v504 c8_i32_319
  let c7_i32_412 : BitVec 32 := 7#32
  let v656 : BitVec 32 := Scalar.addi v505 c7_i32_412
  let v657 : Index := Scalar.indexCast v656
  ![0, 0, v657.toNat]
def k0_mult74 (v658 : BitVec 32) : BitVec 32 :=
  let c2_i32_415 : BitVec 32 := 2#32
  let v659 : BitVec 32 := Scalar.muli v658 c2_i32_415
  v659

def k0_off139 (v658 : BitVec 32) : Fin 2 → Nat :=
  let c2_i32_415 : BitVec 32 := 2#32
  let v659 : BitVec 32 := Scalar.muli v658 c2_i32_415
  let v660 : BitVec 32 := v659
  let v661 : Index := Scalar.indexCast v660
  let c0_416 : Index := 0#32
  ![v661.toNat, 0]

def k0_chk64 (v658 : BitVec 32) : Prop :=
  (2 ∣ (k0_mult74 v658).toNat) ∧
  (∀ a, (k0_off139 v658) a + S2x128.size a ≤ S15872x128.size a)
theorem k0_mult74_dvd : ∀ (v658 : BitVec 32) (k0_hw64 : k0_chk64 v658), 2 ∣ (k0_mult74 v658).toNat := fun v658 k0_hw64 => k0_hw64.1
theorem k0_off139_inb : ∀ (v658 : BitVec 32) (k0_hw64 : k0_chk64 v658), ∀ a, (k0_off139 v658) a + S2x128.size a ≤ S15872x128.size a := fun v658 k0_hw64 => k0_hw64.2

def k0_mult75 (k0_t2 : Fin k0_t2_loop.trips) : BitVec 32 :=
  let c0_i32_11 : BitVec 32 := 0#32
  let c1_i32 : BitVec 32 := 1#32
  let arg15 : BitVec 32 := Scf.iv c0_i32_11 c1_i32 k0_t2
  let c4_i32_418 : BitVec 32 := 4#32
  let v666 : BitVec 32 := Scalar.muli arg15 c4_i32_418
  let c0_i32_419 : BitVec 32 := 0#32
  let v667 : BitVec 32 := Scalar.addi v666 c0_i32_419
  let c160_i32 : BitVec 32 := 160#32
  let v668 : BitVec 32 := Scalar.muli v667 c160_i32
  v668
def k0_off140 (k0_t2 : Fin k0_t2_loop.trips) (c0_i32_419 : BitVec 32) (c0_i32_429 : BitVec 32) : Fin 2 → Nat :=
  let c0_i32_11 : BitVec 32 := 0#32
  let c1_i32 : BitVec 32 := 1#32
  let arg15 : BitVec 32 := Scf.iv c0_i32_11 c1_i32 k0_t2
  let c4_i32_418 : BitVec 32 := 4#32
  let v666 : BitVec 32 := Scalar.muli arg15 c4_i32_418
  let v667 : BitVec 32 := Scalar.addi v666 c0_i32_419
  let c160_i32 : BitVec 32 := 160#32
  let v668 : BitVec 32 := Scalar.muli v667 c160_i32
  let v669 : BitVec 32 := v668
  let v680 : BitVec 32 := Scalar.addi v669 c0_i32_429
  let v683 : Index := Scalar.indexCast v680
  let c0_430 : Index := 0#32
  ![v683.toNat, 0]
def k0_mult76 (k0_t2 : Fin k0_t2_loop.trips) : BitVec 32 :=
  let c0_i32_11 : BitVec 32 := 0#32
  let c1_i32 : BitVec 32 := 1#32
  let arg15 : BitVec 32 := Scf.iv c0_i32_11 c1_i32 k0_t2
  let c4_i32_484 : BitVec 32 := 4#32
  let v872 : BitVec 32 := Scalar.muli arg15 c4_i32_484
  let c1_i32_485 : BitVec 32 := 1#32
  let v873 : BitVec 32 := Scalar.addi v872 c1_i32_485
  let c160_i32_486 : BitVec 32 := 160#32
  let v874 : BitVec 32 := Scalar.muli v873 c160_i32_486
  v874
def k0_mult77 (k0_t2 : Fin k0_t2_loop.trips) : BitVec 32 :=
  let c0_i32_11 : BitVec 32 := 0#32
  let c1_i32 : BitVec 32 := 1#32
  let arg15 : BitVec 32 := Scf.iv c0_i32_11 c1_i32 k0_t2
  let c4_i32_553 : BitVec 32 := 4#32
  let v1078 : BitVec 32 := Scalar.muli arg15 c4_i32_553
  let c2_i32_554 : BitVec 32 := 2#32
  let v1079 : BitVec 32 := Scalar.addi v1078 c2_i32_554
  let c160_i32_555 : BitVec 32 := 160#32
  let v1080 : BitVec 32 := Scalar.muli v1079 c160_i32_555
  v1080
def k0_mult78 (k0_t2 : Fin k0_t2_loop.trips) : BitVec 32 :=
  let c0_i32_11 : BitVec 32 := 0#32
  let c1_i32 : BitVec 32 := 1#32
  let arg15 : BitVec 32 := Scf.iv c0_i32_11 c1_i32 k0_t2
  let c4_i32_622 : BitVec 32 := 4#32
  let v1284 : BitVec 32 := Scalar.muli arg15 c4_i32_622
  let c3_i32_623 : BitVec 32 := 3#32
  let v1285 : BitVec 32 := Scalar.addi v1284 c3_i32_623
  let c160_i32_624 : BitVec 32 := 160#32
  let v1286 : BitVec 32 := Scalar.muli v1285 c160_i32_624
  v1286
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S62x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S62x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5120x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5120x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
abbrev S8x4096 : Shape := ⟨2, ![8, 4096]⟩
abbrev S7936x2560 : Shape := ⟨2, ![7936, 2560]⟩
abbrev S7936 : Shape := ⟨1, ![7936]⟩
abbrev S2560 : Shape := ⟨1, ![2560]⟩
abbrev S128x1x256 : Shape := ⟨3, ![128, 1, 256]⟩
abbrev S62x128 : Shape := ⟨2, ![62, 128]⟩
abbrev S1x2560 : Shape := ⟨2, ![1, 2560]⟩
abbrev S655360x128 : Shape := ⟨2, ![655360, 128]⟩
abbrev S1x1x256 : Shape := ⟨3, ![1, 1, 256]⟩
abbrev S5120x128 : Shape := ⟨2, ![5120, 128]⟩
abbrev S79360x128 : Shape := ⟨2, ![79360, 128]⟩
abbrev S79360x2x128 : Shape := ⟨3, ![79360, 2, 128]⟩
abbrev S79360x1x128 : Shape := ⟨3, ![79360, 1, 128]⟩
abbrev S15872x128 : Shape := ⟨2, ![15872, 128]⟩
abbrev S80x128 : Shape := ⟨2, ![80, 128]⟩
abbrev S320x128 : Shape := ⟨2, ![320, 128]⟩
abbrev S320x2x128 : Shape := ⟨3, ![320, 2, 128]⟩
abbrev S320x1x128 : Shape := ⟨3, ![320, 1, 128]⟩
abbrev S64x128 : Shape := ⟨2, ![64, 128]⟩
abbrev S8x128x2560 : Shape := ⟨3, ![8, 128, 2560]⟩
abbrev S8 : Shape := ⟨1, ![8]⟩
abbrev S1 : Shape := ⟨1, ![1]⟩
abbrev S_ : Shape := ⟨0, ![]⟩
abbrev S1x128x2560 : Shape := ⟨3, ![1, 128, 2560]⟩
abbrev S128x2560 : Shape := ⟨2, ![128, 2560]⟩
abbrev S1x128 : Shape := ⟨2, ![1, 128]⟩
abbrev S128x128 : Shape := ⟨2, ![128, 128]⟩
abbrev S64x2x128 : Shape := ⟨3, ![64, 2, 128]⟩
abbrev S64x1x128 : Shape := ⟨3, ![64, 1, 128]⟩
abbrev S128 : Shape := ⟨1, ![128]⟩
abbrev S128x1 : Shape := ⟨2, ![128, 1]⟩
abbrev S4x128 : Shape := ⟨2, ![4, 128]⟩
abbrev S8x128 : Shape := ⟨2, ![8, 128]⟩
abbrev S1x1x1 : Shape := ⟨3, ![1, 1, 1]⟩
abbrev S10x128 : Shape := ⟨2, ![10, 128]⟩
abbrev S10x2x128 : Shape := ⟨3, ![10, 2, 128]⟩
abbrev S10x1x128 : Shape := ⟨3, ![10, 1, 128]⟩
abbrev S2x128 : Shape := ⟨2, ![2, 128]⟩
abbrev S8x2x128 : Shape := ⟨3, ![8, 2, 128]⟩
abbrev S8x1x128 : Shape := ⟨3, ![8, 1, 128]⟩
abbrev S16x128 : Shape := ⟨2, ![16, 128]⟩
abbrev S4096x20x8x128 : Shape := ⟨4, ![4096, 20, 8, 128]⟩
abbrev S4096x8x20x128 : Shape := ⟨4, ![4096, 8, 20, 128]⟩
abbrev S8x4096x2560 : Shape := ⟨3, ![8, 4096, 2560]⟩

abbrev nBuf : Space → Nat
  | .hbm => 18
  | .vmem => 13
  | .smem => 2
  | _ => 0

abbrev bufTy : (tb : Table) → Fin (tcTables nBuf tb) → BufTy
  | .hbm, ⟨0, _⟩ => ⟨S8x4096, .i32⟩
  | .hbm, ⟨1, _⟩ => ⟨S7936x2560, .i8⟩
  | .hbm, ⟨2, _⟩ => ⟨S7936, .f32⟩
  | .hbm, ⟨3, _⟩ => ⟨S7936, .bf16⟩
  | .hbm, ⟨4, _⟩ => ⟨S2560, .bf16⟩
  | .hbm, ⟨5, _⟩ => ⟨S128x1x256, .i32⟩
  | .hbm, ⟨6, _⟩ => ⟨S62x128, .f32⟩
  | .hbm, ⟨7, _⟩ => ⟨S7936, .f32⟩
  | .hbm, ⟨8, _⟩ => ⟨S62x128, .f32⟩
  | .hbm, ⟨9, _⟩ => ⟨S1x2560, .bf16⟩
  | .hbm, ⟨10, _⟩ => ⟨S655360x128, .bf16⟩
  | .hbm, ⟨11, _⟩ => ⟨S655360x128, .bf16⟩
  | .hbm, ⟨12, _⟩ => ⟨S4096x20x8x128, .bf16⟩
  | .hbm, ⟨13, _⟩ => ⟨S4096x8x20x128, .bf16⟩
  | .hbm, ⟨14, _⟩ => ⟨S8x4096x2560, .bf16⟩
  | .hbm, ⟨15, _⟩ => ⟨S4096x20x8x128, .bf16⟩
  | .hbm, ⟨16, _⟩ => ⟨S4096x8x20x128, .bf16⟩
  | .hbm, ⟨17, _⟩ => ⟨S8x4096x2560, .bf16⟩
  | .local _ .vmem, ⟨0, _⟩ => ⟨S62x128, .f32⟩
  | .local _ .vmem, ⟨1, _⟩ => ⟨S62x128, .f32⟩
  | .local _ .vmem, ⟨2, _⟩ => ⟨S1x2560, .bf16⟩
  | .local _ .vmem, ⟨3, _⟩ => ⟨S5120x128, .bf16⟩
  | .local _ .vmem, ⟨4, _⟩ => ⟨S5120x128, .bf16⟩
  | .local _ .vmem, ⟨5, _⟩ => ⟨S5120x128, .bf16⟩
  | .local _ .vmem, ⟨6, _⟩ => ⟨S5120x128, .bf16⟩
  | .local _ .vmem, ⟨7, _⟩ => ⟨S79360x2x128, .bf16⟩
  | .local _ .vmem, ⟨8, _⟩ => ⟨S15872x128, .f32⟩
  | .local _ .vmem, ⟨9, _⟩ => ⟨S80x128, .f32⟩
  | .local _ .vmem, ⟨10, _⟩ => ⟨S320x2x128, .bf16⟩
  | .local _ .vmem, ⟨11, _⟩ => ⟨S64x128, .f32⟩
  | .local _ .vmem, ⟨12, _⟩ => ⟨S8x128x2560, .i8⟩
  | .local _ .smem, ⟨0, _⟩ => ⟨S1x1x256, .i32⟩
  | .local _ .smem, ⟨1, _⟩ => ⟨S1x1x256, .i32⟩
  | _, _ => ⟨S8x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![128], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_13 : BitVec 32 := 0#32
  c0_i32_13
def k0_mult2 : BitVec 32 :=
  let c128_i32 : BitVec 32 := 128#32
  c128_i32
def k0_mult3 : BitVec 32 :=
  let c256_i32 : BitVec 32 := 256#32
  c256_i32
def k0_mult4 : BitVec 32 :=
  let c384_i32 : BitVec 32 := 384#32
  c384_i32
def k0_mult5 : BitVec 32 :=
  let c512_i32 : BitVec 32 := 512#32
  c512_i32
def k0_mult6 : BitVec 32 :=
  let c640_i32 : BitVec 32 := 640#32
  c640_i32
def k0_mult7 : BitVec 32 :=
  let c768_i32 : BitVec 32 := 768#32
  c768_i32
def k0_mult8 : BitVec 32 :=
  let c896_i32 : BitVec 32 := 896#32
  c896_i32
@[reducible] def k0_t1_loop : Scf.Loop 32 :=
  let c0_i32_48 : BitVec 32 := 0#32
  let c62_i32 : BitVec 32 := 62#32
  let v62 : BitVec 32 := Scalar.addi c0_i32_48 c62_i32
  let c1_i32_49 : BitVec 32 := 1#32
  ⟨c0_i32_48, v62, c1_i32_49⟩
def k0_mult9 (k0_t1 : Fin k0_t1_loop.trips) : BitVec 32 :=
  let c0_i32_48 : BitVec 32 := 0#32
  let c1_i32_49 : BitVec 32 := 1#32
  let arg15 : BitVec 32 := Scf.iv c0_i32_48 c1_i32_49 k0_t1
  let c128_i32_89 : BitVec 32 := 128#32
  let v196 : BitVec 32 := Scalar.muli arg15 c128_i32_89
  v196
def k0_off1 (k0_t1 : Fin k0_t1_loop.trips) : Fin 1 → Nat :=
  let c0_i32_48 : BitVec 32 := 0#32
  let c1_i32_49 : BitVec 32 := 1#32
  let arg15 : BitVec 32 := Scf.iv c0_i32_48 c1_i32_49 k0_t1
  let c8_i32_83 : BitVec 32 := 8#32
  let c0_i32_84 : BitVec 32 := 0#32
  let v186 : BitVec 1 := Scalar.cmpi .eq c8_i32_83 c0_i32_84
  let c1_i32_85 : BitVec 32 := 1#32
  let v187 : BitVec 32 := Scalar.select v186 c1_i32_85 c8_i32_83
  let v188 : BitVec 32 := Scalar.remsi arg15 v187
  let c0_i32_87 : BitVec 32 := 0#32
  let v190 : BitVec 1 := Scalar.cmpi .slt v188 c0_i32_87
  let c0_i32_88 : BitVec 32 := 0#32
  let v191 : BitVec 1 := Scalar.cmpi .slt v187 c0_i32_88
  let v192 : BitVec 1 := Scalar.xori v190 v191
  let c0_i32_86 : BitVec 32 := 0#32
  let v189 : BitVec 1 := Scalar.cmpi .ne v188 c0_i32_86
  let v193 : BitVec 1 := Scalar.andi v192 v189
  let v194 : BitVec 32 := Scalar.addi v188 v187
  let v195 : BitVec 32 := Scalar.select v193 v194 v188
  ![v195.toNat]
def k0_off2 (k0_t1 : Fin k0_t1_loop.trips) : Fin 3 → Nat :=
  let c0_i32_48 : BitVec 32 := 0#32
  let c1_i32_49 : BitVec 32 := 1#32
  let arg15 : BitVec 32 := Scf.iv c0_i32_48 c1_i32_49 k0_t1
  let c8_i32_83 : BitVec 32 := 8#32
  let c0_i32_84 : BitVec 32 := 0#32
  let v186 : BitVec 1 := Scalar.cmpi .eq c8_i32_83 c0_i32_84
  let c1_i32_85 : BitVec 32 := 1#32
  let v187 : BitVec 32 := Scalar.select v186 c1_i32_85 c8_i32_83
  let v188 : BitVec 32 := Scalar.remsi arg15 v187
  let c0_i32_87 : BitVec 32 := 0#32
  let v190 : BitVec 1 := Scalar.cmpi .slt v188 c0_i32_87
  let c0_i32_88 : BitVec 32 := 0#32
  let v191 : BitVec 1 := Scalar.cmpi .slt v187 c0_i32_88
  let v192 : BitVec 1 := Scalar.xori v190 v191
  let c0_i32_86 : BitVec 32 := 0#32
  let v189 : BitVec 1 := Scalar.cmpi .ne v188 c0_i32_86
  let v193 : BitVec 1 := Scalar.andi v192 v189
  let v194 : BitVec 32 := Scalar.addi v188 v187
  let v195 : BitVec 32 := Scalar.select v193 v194 v188
  let c0_i32_90 : BitVec 32 := 0#32
  let c0_i32_91 : BitVec 32 := 0#32
  ![v195.toNat, 0, 0]
def k0_off3 (k0_t1 : Fin k0_t1_loop.trips) : Fin 2 → Nat :=
  let c0_i32_48 : BitVec 32 := 0#32
  let c1_i32_49 : BitVec 32 := 1#32
  let arg15 : BitVec 32 := Scf.iv c0_i32_48 c1_i32_49 k0_t1
  let c128_i32_89 : BitVec 32 := 128#32
  let v196 : BitVec 32 := Scalar.muli arg15 c128_i32_89
  let v197 : BitVec 32 := v196
  let c0_i32_92 : BitVec 32 := 0#32
  ![v197.toNat, 0]
def k0_off4 (k0_t1 : Fin k0_t1_loop.trips) : Fin 2 → Nat :=
  let c0_i32_48 : BitVec 32 := 0#32
  let c1_i32_49 : BitVec 32 := 1#32
  let arg15 : BitVec 32 := Scf.iv c0_i32_48 c1_i32_49 k0_t1
  let v213 : Index := Scalar.indexCast arg15
  let c0_99 : Index := 0#32
  ![v213.toNat, 0]
def k0_off5 (k0_t1 : Fin k0_t1_loop.trips) (c0_i32_115 : BitVec 32) : Fin 3 → Nat :=
  let c0_i32_48 : BitVec 32 := 0#32
  let c1_i32_49 : BitVec 32 := 1#32
  let arg15 : BitVec 32 := Scf.iv c0_i32_48 c1_i32_49 k0_t1
  let c1280_i32 : BitVec 32 := 1280#32
  let v227 : BitVec 32 := Scalar.muli arg15 c1280_i32
  let v279 : BitVec 32 := Scalar.addi v227 c0_i32_115
  let v280 : Index := Scalar.indexCast v279
  let c0_116 : Index := 0#32
  ![v280.toNat, 0, 0]
def k0_off6 (k0_t1 : Fin k0_t1_loop.trips) (c0_i32_117 : BitVec 32) : Fin 3 → Nat :=
  let c0_i32_48 : BitVec 32 := 0#32
  let c1_i32_49 : BitVec 32 := 1#32
  let arg15 : BitVec 32 := Scf.iv c0_i32_48 c1_i32_49 k0_t1
  let c1280_i32 : BitVec 32 := 1280#32
  let v227 : BitVec 32 := Scalar.muli arg15 c1280_i32
  let v284 : BitVec 32 := Scalar.addi v227 c0_i32_117
  let c10_i32 : BitVec 32 := 10#32
  let v285 : BitVec 32 := Scalar.addi v284 c10_i32
  let v286 : Index := Scalar.indexCast v285
  let c0_118 : Index := 0#32
  ![v286.toNat, 0, 0]
def k0_off7 (k0_t1 : Fin k0_t1_loop.trips) : Fin 2 → Nat :=
  let c0_i32_48 : BitVec 32 := 0#32
  let c1_i32_49 : BitVec 32 := 1#32
  let arg15 : BitVec 32 := Scf.iv c0_i32_48 c1_i32_49 k0_t1
  let c256_i32_250 : BitVec 32 := 256#32
  let v648 : BitVec 32 := Scalar.muli arg15 c256_i32_250
  let v649 : Index := Scalar.indexCast v648
  let c0_251 : Index := 0#32
  ![v649.toNat, 0]
def k0_off8 (k0_t1 : Fin k0_t1_loop.trips) : Fin 2 → Nat :=
  let c0_i32_48 : BitVec 32 := 0#32
  let c1_i32_49 : BitVec 32 := 1#32
  let arg15 : BitVec 32 := Scf.iv c0_i32_48 c1_i32_49 k0_t1
  let c256_i32_250 : BitVec 32 := 256#32
  let v648 : BitVec 32 := Scalar.muli arg15 c256_i32_250
  let c1_i32_252 : BitVec 32 := 1#32
  let v653 : BitVec 32 := Scalar.addi v648 c1_i32_252
  let v654 : Index := Scalar.indexCast v653
  let c0_253 : Index := 0#32
  ![v654.toNat, 0]
def k0_cond2 (k0_t1 : Fin k0_t1_loop.trips) : BitVec 1 :=
  let c0_i32_48 : BitVec 32 := 0#32
  let c1_i32_49 : BitVec 32 := 1#32
  let arg15 : BitVec 32 := Scf.iv c0_i32_48 c1_i32_49 k0_t1
  let c8_i32_254 : BitVec 32 := 8#32
  let v658 : BitVec 32 := Scalar.addi arg15 c8_i32_254
  let c62_i32_255 : BitVec 32 := 62#32
  let v659 : BitVec 1 := Scalar.cmpi .slt v658 c62_i32_255
  let v660 : BitVec 32 := Scalar.extui v659
  let c0_i32_256 : BitVec 32 := 0#32
  let v661 : BitVec 1 := Scalar.cmpi .ne v660 c0_i32_256
  v661

def k0_mult10 (k0_t1 : Fin k0_t1_loop.trips) : BitVec 32 :=
  let c0_i32_48 : BitVec 32 := 0#32
  let c1_i32_49 : BitVec 32 := 1#32
  let arg15 : BitVec 32 := Scf.iv c0_i32_48 c1_i32_49 k0_t1
  let c8_i32_257 : BitVec 32 := 8#32
  let v662 : BitVec 32 := Scalar.addi arg15 c8_i32_257
  let c128_i32_264 : BitVec 32 := 128#32
  let v673 : BitVec 32 := Scalar.muli v662 c128_i32_264
  v673
def k0_off9 (k0_t1 : Fin k0_t1_loop.trips) : Fin 1 → Nat :=
  let c0_i32_48 : BitVec 32 := 0#32
  let c1_i32_49 : BitVec 32 := 1#32
  let arg15 : BitVec 32 := Scf.iv c0_i32_48 c1_i32_49 k0_t1
  let c8_i32_257 : BitVec 32 := 8#32
  let v662 : BitVec 32 := Scalar.addi arg15 c8_i32_257
  let c8_i32_258 : BitVec 32 := 8#32
  let c0_i32_259 : BitVec 32 := 0#32
  let v663 : BitVec 1 := Scalar.cmpi .eq c8_i32_258 c0_i32_259
  let c1_i32_260 : BitVec 32 := 1#32
  let v664 : BitVec 32 := Scalar.select v663 c1_i32_260 c8_i32_258
  let v665 : BitVec 32 := Scalar.remsi v662 v664
  let c0_i32_262 : BitVec 32 := 0#32
  let v667 : BitVec 1 := Scalar.cmpi .slt v665 c0_i32_262
  let c0_i32_263 : BitVec 32 := 0#32
  let v668 : BitVec 1 := Scalar.cmpi .slt v664 c0_i32_263
  let v669 : BitVec 1 := Scalar.xori v667 v668
  let c0_i32_261 : BitVec 32 := 0#32
  let v666 : BitVec 1 := Scalar.cmpi .ne v665 c0_i32_261
  let v670 : BitVec 1 := Scalar.andi v669 v666
  let v671 : BitVec 32 := Scalar.addi v665 v664
  let v672 : BitVec 32 := Scalar.select v670 v671 v665
  ![v672.toNat]
def k0_off10 (k0_t1 : Fin k0_t1_loop.trips) : Fin 3 → Nat :=
  let c0_i32_48 : BitVec 32 := 0#32
  let c1_i32_49 : BitVec 32 := 1#32
  let arg15 : BitVec 32 := Scf.iv c0_i32_48 c1_i32_49 k0_t1
  let c8_i32_257 : BitVec 32 := 8#32
  let v662 : BitVec 32 := Scalar.addi arg15 c8_i32_257
  let c8_i32_258 : BitVec 32 := 8#32
  let c0_i32_259 : BitVec 32 := 0#32
  let v663 : BitVec 1 := Scalar.cmpi .eq c8_i32_258 c0_i32_259
  let c1_i32_260 : BitVec 32 := 1#32
  let v664 : BitVec 32 := Scalar.select v663 c1_i32_260 c8_i32_258
  let v665 : BitVec 32 := Scalar.remsi v662 v664
  let c0_i32_262 : BitVec 32 := 0#32
  let v667 : BitVec 1 := Scalar.cmpi .slt v665 c0_i32_262
  let c0_i32_263 : BitVec 32 := 0#32
  let v668 : BitVec 1 := Scalar.cmpi .slt v664 c0_i32_263
  let v669 : BitVec 1 := Scalar.xori v667 v668
  let c0_i32_261 : BitVec 32 := 0#32
  let v666 : BitVec 1 := Scalar.cmpi .ne v665 c0_i32_261
  let v670 : BitVec 1 := Scalar.andi v669 v666
  let v671 : BitVec 32 := Scalar.addi v665 v664
  let v672 : BitVec 32 := Scalar.select v670 v671 v665
  let c0_i32_265 : BitVec 32 := 0#32
  let c0_i32_266 : BitVec 32 := 0#32
  ![v672.toNat, 0, 0]
def k0_off11 (k0_t1 : Fin k0_t1_loop.trips) : Fin 2 → Nat :=
  let c0_i32_48 : BitVec 32 := 0#32
  let c1_i32_49 : BitVec 32 := 1#32
  let arg15 : BitVec 32 := Scf.iv c0_i32_48 c1_i32_49 k0_t1
  let c8_i32_257 : BitVec 32 := 8#32
  let v662 : BitVec 32 := Scalar.addi arg15 c8_i32_257
  let c128_i32_264 : BitVec 32 := 128#32
  let v673 : BitVec 32 := Scalar.muli v662 c128_i32_264
  let v674 : BitVec 32 := v673
  let c0_i32_267 : BitVec 32 := 0#32
  ![v674.toNat, 0]
@[reducible] def k0_t2_loop : Scf.Loop 32 :=
  let c0_i32_11 : BitVec 32 := 0#32
  let c8_i32 : BitVec 32 := 8#32
  let v13 : BitVec 32 := Scalar.addi c0_i32_11 c8_i32
  let c1_i32 : BitVec 32 := 1#32
  ⟨c0_i32_11, v13, c1_i32⟩
def k0_off12 (k0_t2 : Fin k0_t2_loop.trips) : Fin 3 → Nat :=
  let c0_16 : Index := 0#32
  let c0_17 : Index := 0#32
  let c0_i32_11 : BitVec 32 := 0#32
  let c1_i32 : BitVec 32 := 1#32
  let arg15 : BitVec 32 := Scf.iv c0_i32_11 c1_i32 k0_t2
  let c4_i32 : BitVec 32 := 4#32
  let v14 : BitVec 32 := Scalar.muli arg15 c4_i32
  let c0_i32_13 : BitVec 32 := 0#32
  let v15 : BitVec 32 := Scalar.addi v14 c0_i32_13
  let c8_i32_14 : BitVec 32 := 8#32
  let v16 : BitVec 32 := Scalar.muli v15 c8_i32_14
  let c0_i32_15 : BitVec 32 := 0#32
  let v17 : BitVec 32 := Scalar.addi v16 c0_i32_15
  let v18 : Index := Scalar.indexCast v17
  ![0, 0, v18.toNat]
def k0_mult11 (v19 : BitVec 32) : BitVec 32 :=
  let c10_i32 : BitVec 32 := 10#32
  let v20 : BitVec 32 := Scalar.muli v19 c10_i32
  v20

def k0_off13 (v19 : BitVec 32) : Fin 3 → Nat :=
  let c10_i32 : BitVec 32 := 10#32
  let v20 : BitVec 32 := Scalar.muli v19 c10_i32
  let v21 : BitVec 32 := v20
  let v22 : Index := Scalar.indexCast v21
  let c0_18 : Index := 0#32
  ![v22.toNat, 0, 0]

def k0_chk1 (v19 : BitVec 32) : Prop :=
  (2 ∣ (k0_mult11 v19).toNat) ∧
  (∀ a, (k0_off13 v19) a + S10x2x128.size a ≤ S79360x2x128.size a)
theorem k0_mult11_dvd : ∀ (v19 : BitVec 32) (k0_hw1 : k0_chk1 v19), 2 ∣ (k0_mult11 v19).toNat := fun v19 k0_hw1 => k0_hw1.1
theorem k0_off13_inb : ∀ (v19 : BitVec 32) (k0_hw1 : k0_chk1 v19), ∀ a, (k0_off13 v19) a + S10x2x128.size a ≤ S79360x2x128.size a := fun v19 k0_hw1 => k0_hw1.2

def k0_off14 (k0_t2 : Fin k0_t2_loop.trips) : Fin 3 → Nat :=
  let c0_22 : Index := 0#32
  let c0_23 : Index := 0#32
  let c0_i32_11 : BitVec 32 := 0#32
  let c1_i32 : BitVec 32 := 1#32
  let arg15 : BitVec 32 := Scf.iv c0_i32_11 c1_i32 k0_t2
  let c4_i32 : BitVec 32 := 4#32
  let v14 : BitVec 32 := Scalar.muli arg15 c4_i32
  let c0_i32_13 : BitVec 32 := 0#32
  let v15 : BitVec 32 := Scalar.addi v14 c0_i32_13
  let c8_i32_14 : BitVec 32 := 8#32
  let v16 : BitVec 32 := Scalar.muli v15 c8_i32_14
  let c0_i32_21 : BitVec 32 := 0#32
  let v27 : BitVec 32 := Scalar.addi v16 c0_i32_21
  let v28 : Index := Scalar.indexCast v27
  ![0, 0, v28.toNat]
def k0_mult12 (v29 : BitVec 32) : BitVec 32 :=
  let c2_i32 : BitVec 32 := 2#32
  let v30 : BitVec 32 := Scalar.muli v29 c2_i32
  v30

def k0_off15 (v29 : BitVec 32) : Fin 2 → Nat :=
  let c2_i32 : BitVec 32 := 2#32
  let v30 : BitVec 32 := Scalar.muli v29 c2_i32
  let v31 : BitVec 32 := v30
  let v32 : Index := Scalar.indexCast v31
  let c0_24 : Index := 0#32
  ![v32.toNat, 0]

def k0_chk2 (v29 : BitVec 32) : Prop :=
  (2 ∣ (k0_mult12 v29).toNat) ∧
  (∀ a, (k0_off15 v29) a + S2x128.size a ≤ S15872x128.size a)
theorem k0_mult12_dvd : ∀ (v29 : BitVec 32) (k0_hw2 : k0_chk2 v29), 2 ∣ (k0_mult12 v29).toNat := fun v29 k0_hw2 => k0_hw2.1
theorem k0_off15_inb : ∀ (v29 : BitVec 32) (k0_hw2 : k0_chk2 v29), ∀ a, (k0_off15 v29) a + S2x128.size a ≤ S15872x128.size a := fun v29 k0_hw2 => k0_hw2.2

def k0_off16 (k0_t2 : Fin k0_t2_loop.trips) : Fin 3 → Nat :=
  let c0_28 : Index := 0#32
  let c0_29 : Index := 0#32
  let c0_i32_11 : BitVec 32 := 0#32
  let c1_i32 : BitVec 32 := 1#32
  let arg15 : BitVec 32 := Scf.iv c0_i32_11 c1_i32 k0_t2
  let c4_i32 : BitVec 32 := 4#32
  let v14 : BitVec 32 := Scalar.muli arg15 c4_i32
  let c0_i32_13 : BitVec 32 := 0#32
  let v15 : BitVec 32 := Scalar.addi v14 c0_i32_13
  let c8_i32_14 : BitVec 32 := 8#32
  let v16 : BitVec 32 := Scalar.muli v15 c8_i32_14
  let c1_i32_27 : BitVec 32 := 1#32
  let v37 : BitVec 32 := Scalar.addi v16 c1_i32_27
  let v38 : Index := Scalar.indexCast v37
  ![0, 0, v38.toNat]
def k0_mult13 (v39 : BitVec 32) : BitVec 32 :=
  let c10_i32_30 : BitVec 32 := 10#32
  let v40 : BitVec 32 := Scalar.muli v39 c10_i32_30
  v40

def k0_off17 (v39 : BitVec 32) : Fin 3 → Nat :=
  let c10_i32_30 : BitVec 32 := 10#32
  let v40 : BitVec 32 := Scalar.muli v39 c10_i32_30
  let v41 : BitVec 32 := v40
  let v42 : Index := Scalar.indexCast v41
  let c0_31 : Index := 0#32
  ![v42.toNat, 0, 0]

def k0_chk3 (v39 : BitVec 32) : Prop :=
  (2 ∣ (k0_mult13 v39).toNat) ∧
  (∀ a, (k0_off17 v39) a + S10x2x128.size a ≤ S79360x2x128.size a)
theorem k0_mult13_dvd : ∀ (v39 : BitVec 32) (k0_hw3 : k0_chk3 v39), 2 ∣ (k0_mult13 v39).toNat := fun v39 k0_hw3 => k0_hw3.1
theorem k0_off17_inb : ∀ (v39 : BitVec 32) (k0_hw3 : k0_chk3 v39), ∀ a, (k0_off17 v39) a + S10x2x128.size a ≤ S79360x2x128.size a := fun v39 k0_hw3 => k0_hw3.2

def k0_off18 (k0_t2 : Fin k0_t2_loop.trips) : Fin 3 → Nat :=
  let c0_35 : Index := 0#32
  let c0_36 : Index := 0#32
  let c0_i32_11 : BitVec 32 := 0#32
  let c1_i32 : BitVec 32 := 1#32
  let arg15 : BitVec 32 := Scf.iv c0_i32_11 c1_i32 k0_t2
  let c4_i32 : BitVec 32 := 4#32
  let v14 : BitVec 32 := Scalar.muli arg15 c4_i32
  let c0_i32_13 : BitVec 32 := 0#32
  let v15 : BitVec 32 := Scalar.addi v14 c0_i32_13
  let c8_i32_14 : BitVec 32 := 8#32
  let v16 : BitVec 32 := Scalar.muli v15 c8_i32_14
  let c1_i32_34 : BitVec 32 := 1#32
  let v47 : BitVec 32 := Scalar.addi v16 c1_i32_34
  let v48 : Index := Scalar.indexCast v47
  ![0, 0, v48.toNat]
def k0_mult14 (v49 : BitVec 32) : BitVec 32 :=
  let c2_i32_37 : BitVec 32 := 2#32
  let v50 : BitVec 32 := Scalar.muli v49 c2_i32_37
  v50

def k0_off19 (v49 : BitVec 32) : Fin 2 → Nat :=
  let c2_i32_37 : BitVec 32 := 2#32
  let v50 : BitVec 32 := Scalar.muli v49 c2_i32_37
  let v51 : BitVec 32 := v50
  let v52 : Index := Scalar.indexCast v51
  let c0_38 : Index := 0#32
  ![v52.toNat, 0]

def k0_chk4 (v49 : BitVec 32) : Prop :=
  (2 ∣ (k0_mult14 v49).toNat) ∧
  (∀ a, (k0_off19 v49) a + S2x128.size a ≤ S15872x128.size a)
theorem k0_mult14_dvd : ∀ (v49 : BitVec 32) (k0_hw4 : k0_chk4 v49), 2 ∣ (k0_mult14 v49).toNat := fun v49 k0_hw4 => k0_hw4.1
theorem k0_off19_inb : ∀ (v49 : BitVec 32) (k0_hw4 : k0_chk4 v49), ∀ a, (k0_off19 v49) a + S2x128.size a ≤ S15872x128.size a := fun v49 k0_hw4 => k0_hw4.2

def k0_off20 (k0_t2 : Fin k0_t2_loop.trips) : Fin 3 → Nat :=
  let c0_42 : Index := 0#32
  let c0_43 : Index := 0#32
  let c0_i32_11 : BitVec 32 := 0#32
  let c1_i32 : BitVec 32 := 1#32
  let arg15 : BitVec 32 := Scf.iv c0_i32_11 c1_i32 k0_t2
  let c4_i32 : BitVec 32 := 4#32
  let v14 : BitVec 32 := Scalar.muli arg15 c4_i32
  let c0_i32_13 : BitVec 32 := 0#32
  let v15 : BitVec 32 := Scalar.addi v14 c0_i32_13
  let c8_i32_14 : BitVec 32 := 8#32
  let v16 : BitVec 32 := Scalar.muli v15 c8_i32_14
  let c2_i32_41 : BitVec 32 := 2#32
  let v57 : BitVec 32 := Scalar.addi v16 c2_i32_41
  let v58 : Index := Scalar.indexCast v57
  ![0, 0, v58.toNat]
def k0_mult15 (v59 : BitVec 32) : BitVec 32 :=
  let c10_i32_44 : BitVec 32 := 10#32
  let v60 : BitVec 32 := Scalar.muli v59 c10_i32_44
  v60

def k0_off21 (v59 : BitVec 32) : Fin 3 → Nat :=
  let c10_i32_44 : BitVec 32 := 10#32
  let v60 : BitVec 32 := Scalar.muli v59 c10_i32_44
  let v61 : BitVec 32 := v60
  let v62 : Index := Scalar.indexCast v61
  let c0_45 : Index := 0#32
  ![v62.toNat, 0, 0]

def k0_chk5 (v59 : BitVec 32) : Prop :=
  (2 ∣ (k0_mult15 v59).toNat) ∧
  (∀ a, (k0_off21 v59) a + S10x2x128.size a ≤ S79360x2x128.size a)
theorem k0_mult15_dvd : ∀ (v59 : BitVec 32) (k0_hw5 : k0_chk5 v59), 2 ∣ (k0_mult15 v59).toNat := fun v59 k0_hw5 => k0_hw5.1
theorem k0_off21_inb : ∀ (v59 : BitVec 32) (k0_hw5 : k0_chk5 v59), ∀ a, (k0_off21 v59) a + S10x2x128.size a ≤ S79360x2x128.size a := fun v59 k0_hw5 => k0_hw5.2

def k0_off22 (k0_t2 : Fin k0_t2_loop.trips) : Fin 3 → Nat :=
  let c0_48 : Index := 0#32
  let c0_49 : Index := 0#32
  let c0_i32_11 : BitVec 32 := 0#32
  let c1_i32 : BitVec 32 := 1#32
  let arg15 : BitVec 32 := Scf.iv c0_i32_11 c1_i32 k0_t2
  let c4_i32 : BitVec 32 := 4#32
  let v14 : BitVec 32 := Scalar.muli arg15 c4_i32
  let c0_i32_13 : BitVec 32 := 0#32
  let v15 : BitVec 32 := Scalar.addi v14 c0_i32_13
  let c8_i32_14 : BitVec 32 := 8#32
  let v16 : BitVec 32 := Scalar.muli v15 c8_i32_14
  let c2_i32_47 : BitVec 32 := 2#32
  let v67 : BitVec 32 := Scalar.addi v16 c2_i32_47
  let v68 : Index := Scalar.indexCast v67
  ![0, 0, v68.toNat]
def k0_mult16 (v69 : BitVec 32) : BitVec 32 :=
  let c2_i32_50 : BitVec 32 := 2#32
  let v70 : BitVec 32 := Scalar.muli v69 c2_i32_50
  v70

def k0_off23 (v69 : BitVec 32) : Fin 2 → Nat :=
  let c2_i32_50 : BitVec 32 := 2#32
  let v70 : BitVec 32 := Scalar.muli v69 c2_i32_50
  let v71 : BitVec 32 := v70
  let v72 : Index := Scalar.indexCast v71
  let c0_51 : Index := 0#32
  ![v72.toNat, 0]

def k0_chk6 (v69 : BitVec 32) : Prop :=
  (2 ∣ (k0_mult16 v69).toNat) ∧
  (∀ a, (k0_off23 v69) a + S2x128.size a ≤ S15872x128.size a)
theorem k0_mult16_dvd : ∀ (v69 : BitVec 32) (k0_hw6 : k0_chk6 v69), 2 ∣ (k0_mult16 v69).toNat := fun v69 k0_hw6 => k0_hw6.1
theorem k0_off23_inb : ∀ (v69 : BitVec 32) (k0_hw6 : k0_chk6 v69), ∀ a, (k0_off23 v69) a + S2x128.size a ≤ S15872x128.size a := fun v69 k0_hw6 => k0_hw6.2

def k0_off24 (k0_t2 : Fin k0_t2_loop.trips) : Fin 3 → Nat :=
  let c0_54 : Index := 0#32
  let c0_55 : Index := 0#32
  let c0_i32_11 : BitVec 32 := 0#32
  let c1_i32 : BitVec 32 := 1#32
  let arg15 : BitVec 32 := Scf.iv c0_i32_11 c1_i32 k0_t2
  let c4_i32 : BitVec 32 := 4#32
  let v14 : BitVec 32 := Scalar.muli arg15 c4_i32
  let c0_i32_13 : BitVec 32 := 0#32
  let v15 : BitVec 32 := Scalar.addi v14 c0_i32_13
  let c8_i32_14 : BitVec 32 := 8#32
  let v16 : BitVec 32 := Scalar.muli v15 c8_i32_14
  let c3_i32 : BitVec 32 := 3#32
  let v77 : BitVec 32 := Scalar.addi v16 c3_i32
  let v78 : Index := Scalar.indexCast v77
  ![0, 0, v78.toNat]
def k0_mult17 (v79 : BitVec 32) : BitVec 32 :=
  let c10_i32_56 : BitVec 32 := 10#32
  let v80 : BitVec 32 := Scalar.muli v79 c10_i32_56
  v80

def k0_off25 (v79 : BitVec 32) : Fin 3 → Nat :=
  let c10_i32_56 : BitVec 32 := 10#32
  let v80 : BitVec 32 := Scalar.muli v79 c10_i32_56
  let v81 : BitVec 32 := v80
  let v82 : Index := Scalar.indexCast v81
  let c0_57 : Index := 0#32
  ![v82.toNat, 0, 0]

def k0_chk7 (v79 : BitVec 32) : Prop :=
  (2 ∣ (k0_mult17 v79).toNat) ∧
  (∀ a, (k0_off25 v79) a + S10x2x128.size a ≤ S79360x2x128.size a)
theorem k0_mult17_dvd : ∀ (v79 : BitVec 32) (k0_hw7 : k0_chk7 v79), 2 ∣ (k0_mult17 v79).toNat := fun v79 k0_hw7 => k0_hw7.1
theorem k0_off25_inb : ∀ (v79 : BitVec 32) (k0_hw7 : k0_chk7 v79), ∀ a, (k0_off25 v79) a + S10x2x128.size a ≤ S79360x2x128.size a := fun v79 k0_hw7 => k0_hw7.2

def k0_off26 (k0_t2 : Fin k0_t2_loop.trips) : Fin 3 → Nat :=
  let c0_60 : Index := 0#32
  let c0_61 : Index := 0#32
  let c0_i32_11 : BitVec 32 := 0#32
  let c1_i32 : BitVec 32 := 1#32
  let arg15 : BitVec 32 := Scf.iv c0_i32_11 c1_i32 k0_t2
  let c4_i32 : BitVec 32 := 4#32
  let v14 : BitVec 32 := Scalar.muli arg15 c4_i32
  let c0_i32_13 : BitVec 32 := 0#32
  let v15 : BitVec 32 := Scalar.addi v14 c0_i32_13
  let c8_i32_14 : BitVec 32 := 8#32
  let v16 : BitVec 32 := Scalar.muli v15 c8_i32_14
  let c3_i32_59 : BitVec 32 := 3#32
  let v87 : BitVec 32 := Scalar.addi v16 c3_i32_59
  let v88 : Index := Scalar.indexCast v87
  ![0, 0, v88.toNat]
def k0_mult18 (v89 : BitVec 32) : BitVec 32 :=
  let c2_i32_62 : BitVec 32 := 2#32
  let v90 : BitVec 32 := Scalar.muli v89 c2_i32_62
  v90

def k0_off27 (v89 : BitVec 32) : Fin 2 → Nat :=
  let c2_i32_62 : BitVec 32 := 2#32
  let v90 : BitVec 32 := Scalar.muli v89 c2_i32_62
  let v91 : BitVec 32 := v90
  let v92 : Index := Scalar.indexCast v91
  let c0_63 : Index := 0#32
  ![v92.toNat, 0]

def k0_chk8 (v89 : BitVec 32) : Prop :=
  (2 ∣ (k0_mult18 v89).toNat) ∧
  (∀ a, (k0_off27 v89) a + S2x128.size a ≤ S15872x128.size a)
theorem k0_mult18_dvd : ∀ (v89 : BitVec 32) (k0_hw8 : k0_chk8 v89), 2 ∣ (k0_mult18 v89).toNat := fun v89 k0_hw8 => k0_hw8.1
theorem k0_off27_inb : ∀ (v89 : BitVec 32) (k0_hw8 : k0_chk8 v89), ∀ a, (k0_off27 v89) a + S2x128.size a ≤ S15872x128.size a := fun v89 k0_hw8 => k0_hw8.2

def k0_off28 (k0_t2 : Fin k0_t2_loop.trips) : Fin 3 → Nat :=
  let c0_66 : Index := 0#32
  let c0_67 : Index := 0#32
  let c0_i32_11 : BitVec 32 := 0#32
  let c1_i32 : BitVec 32 := 1#32
  let arg15 : BitVec 32 := Scf.iv c0_i32_11 c1_i32 k0_t2
  let c4_i32 : BitVec 32 := 4#32
  let v14 : BitVec 32 := Scalar.muli arg15 c4_i32
  let c0_i32_13 : BitVec 32 := 0#32
  let v15 : BitVec 32 := Scalar.addi v14 c0_i32_13
  let c8_i32_14 : BitVec 32 := 8#32
  let v16 : BitVec 32 := Scalar.muli v15 c8_i32_14
  let c4_i32_65 : BitVec 32 := 4#32
  let v97 : BitVec 32 := Scalar.addi v16 c4_i32_65
  let v98 : Index := Scalar.indexCast v97
  ![0, 0, v98.toNat]
def k0_mult19 (v99 : BitVec 32) : BitVec 32 :=
  let c10_i32_68 : BitVec 32 := 10#32
  let v100 : BitVec 32 := Scalar.muli v99 c10_i32_68
  v100

def k0_off29 (v99 : BitVec 32) : Fin 3 → Nat :=
  let c10_i32_68 : BitVec 32 := 10#32
  let v100 : BitVec 32 := Scalar.muli v99 c10_i32_68
  let v101 : BitVec 32 := v100
  let v102 : Index := Scalar.indexCast v101
  let c0_69 : Index := 0#32
  ![v102.toNat, 0, 0]

def k0_chk9 (v99 : BitVec 32) : Prop :=
  (2 ∣ (k0_mult19 v99).toNat) ∧
  (∀ a, (k0_off29 v99) a + S10x2x128.size a ≤ S79360x2x128.size a)
theorem k0_mult19_dvd : ∀ (v99 : BitVec 32) (k0_hw9 : k0_chk9 v99), 2 ∣ (k0_mult19 v99).toNat := fun v99 k0_hw9 => k0_hw9.1
theorem k0_off29_inb : ∀ (v99 : BitVec 32) (k0_hw9 : k0_chk9 v99), ∀ a, (k0_off29 v99) a + S10x2x128.size a ≤ S79360x2x128.size a := fun v99 k0_hw9 => k0_hw9.2

def k0_off30 (k0_t2 : Fin k0_t2_loop.trips) : Fin 3 → Nat :=
  let c0_72 : Index := 0#32
  let c0_73 : Index := 0#32
  let c0_i32_11 : BitVec 32 := 0#32
  let c1_i32 : BitVec 32 := 1#32
  let arg15 : BitVec 32 := Scf.iv c0_i32_11 c1_i32 k0_t2
  let c4_i32 : BitVec 32 := 4#32
  let v14 : BitVec 32 := Scalar.muli arg15 c4_i32
  let c0_i32_13 : BitVec 32 := 0#32
  let v15 : BitVec 32 := Scalar.addi v14 c0_i32_13
  let c8_i32_14 : BitVec 32 := 8#32
  let v16 : BitVec 32 := Scalar.muli v15 c8_i32_14
  let c4_i32_71 : BitVec 32 := 4#32
  let v107 : BitVec 32 := Scalar.addi v16 c4_i32_71
  let v108 : Index := Scalar.indexCast v107
  ![0, 0, v108.toNat]
def k0_mult20 (v109 : BitVec 32) : BitVec 32 :=
  let c2_i32_74 : BitVec 32 := 2#32
  let v110 : BitVec 32 := Scalar.muli v109 c2_i32_74
  v110

def k0_off31 (v109 : BitVec 32) : Fin 2 → Nat :=
  let c2_i32_74 : BitVec 32 := 2#32
  let v110 : BitVec 32 := Scalar.muli v109 c2_i32_74
  let v111 : BitVec 32 := v110
  let v112 : Index := Scalar.indexCast v111
  let c0_75 : Index := 0#32
  ![v112.toNat, 0]

def k0_chk10 (v109 : BitVec 32) : Prop :=
  (2 ∣ (k0_mult20 v109).toNat) ∧
  (∀ a, (k0_off31 v109) a + S2x128.size a ≤ S15872x128.size a)
theorem k0_mult20_dvd : ∀ (v109 : BitVec 32) (k0_hw10 : k0_chk10 v109), 2 ∣ (k0_mult20 v109).toNat := fun v109 k0_hw10 => k0_hw10.1
theorem k0_off31_inb : ∀ (v109 : BitVec 32) (k0_hw10 : k0_chk10 v109), ∀ a, (k0_off31 v109) a + S2x128.size a ≤ S15872x128.size a := fun v109 k0_hw10 => k0_hw10.2

def k0_off32 (k0_t2 : Fin k0_t2_loop.trips) : Fin 3 → Nat :=
  let c0_78 : Index := 0#32
  let c0_79 : Index := 0#32
  let c0_i32_11 : BitVec 32 := 0#32
  let c1_i32 : BitVec 32 := 1#32
  let arg15 : BitVec 32 := Scf.iv c0_i32_11 c1_i32 k0_t2
  let c4_i32 : BitVec 32 := 4#32
  let v14 : BitVec 32 := Scalar.muli arg15 c4_i32
  let c0_i32_13 : BitVec 32 := 0#32
  let v15 : BitVec 32 := Scalar.addi v14 c0_i32_13
  let c8_i32_14 : BitVec 32 := 8#32
  let v16 : BitVec 32 := Scalar.muli v15 c8_i32_14
  let c5_i32 : BitVec 32 := 5#32
  let v117 : BitVec 32 := Scalar.addi v16 c5_i32
  let v118 : Index := Scalar.indexCast v117
  ![0, 0, v118.toNat]
def k0_mult21 (v119 : BitVec 32) : BitVec 32 :=
  let c10_i32_80 : BitVec 32 := 10#32
  let v120 : BitVec 32 := Scalar.muli v119 c10_i32_80
  v120

def k0_off33 (v119 : BitVec 32) : Fin 3 → Nat :=
  let c10_i32_80 : BitVec 32 := 10#32
  let v120 : BitVec 32 := Scalar.muli v119 c10_i32_80
  let v121 : BitVec 32 := v120
  let v122 : Index := Scalar.indexCast v121
  let c0_81 : Index := 0#32
  ![v122.toNat, 0, 0]

def k0_chk11 (v119 : BitVec 32) : Prop :=
  (2 ∣ (k0_mult21 v119).toNat) ∧
  (∀ a, (k0_off33 v119) a + S10x2x128.size a ≤ S79360x2x128.size a)
theorem k0_mult21_dvd : ∀ (v119 : BitVec 32) (k0_hw11 : k0_chk11 v119), 2 ∣ (k0_mult21 v119).toNat := fun v119 k0_hw11 => k0_hw11.1
theorem k0_off33_inb : ∀ (v119 : BitVec 32) (k0_hw11 : k0_chk11 v119), ∀ a, (k0_off33 v119) a + S10x2x128.size a ≤ S79360x2x128.size a := fun v119 k0_hw11 => k0_hw11.2

def k0_off34 (k0_t2 : Fin k0_t2_loop.trips) : Fin 3 → Nat :=
  let c0_84 : Index := 0#32
  let c0_85 : Index := 0#32
  let c0_i32_11 : BitVec 32 := 0#32
  let c1_i32 : BitVec 32 := 1#32
  let arg15 : BitVec 32 := Scf.iv c0_i32_11 c1_i32 k0_t2
  let c4_i32 : BitVec 32 := 4#32
  let v14 : BitVec 32 := Scalar.muli arg15 c4_i32
  let c0_i32_13 : BitVec 32 := 0#32
  let v15 : BitVec 32 := Scalar.addi v14 c0_i32_13
  let c8_i32_14 : BitVec 32 := 8#32
  let v16 : BitVec 32 := Scalar.muli v15 c8_i32_14
  let c5_i32_83 : BitVec 32 := 5#32
  let v127 : BitVec 32 := Scalar.addi v16 c5_i32_83
  let v128 : Index := Scalar.indexCast v127
  ![0, 0, v128.toNat]
def k0_mult22 (v129 : BitVec 32) : BitVec 32 :=
  let c2_i32_86 : BitVec 32 := 2#32
  let v130 : BitVec 32 := Scalar.muli v129 c2_i32_86
  v130

def k0_off35 (v129 : BitVec 32) : Fin 2 → Nat :=
  let c2_i32_86 : BitVec 32 := 2#32
  let v130 : BitVec 32 := Scalar.muli v129 c2_i32_86
  let v131 : BitVec 32 := v130
  let v132 : Index := Scalar.indexCast v131
  let c0_87 : Index := 0#32
  ![v132.toNat, 0]

def k0_chk12 (v129 : BitVec 32) : Prop :=
  (2 ∣ (k0_mult22 v129).toNat) ∧
  (∀ a, (k0_off35 v129) a + S2x128.size a ≤ S15872x128.size a)
theorem k0_mult22_dvd : ∀ (v129 : BitVec 32) (k0_hw12 : k0_chk12 v129), 2 ∣ (k0_mult22 v129).toNat := fun v129 k0_hw12 => k0_hw12.1
theorem k0_off35_inb : ∀ (v129 : BitVec 32) (k0_hw12 : k0_chk12 v129), ∀ a, (k0_off35 v129) a + S2x128.size a ≤ S15872x128.size a := fun v129 k0_hw12 => k0_hw12.2

def k0_off36 (k0_t2 : Fin k0_t2_loop.trips) : Fin 3 → Nat :=
  let c0_89 : Index := 0#32
  let c0_90 : Index := 0#32
  let c0_i32_11 : BitVec 32 := 0#32
  let c1_i32 : BitVec 32 := 1#32
  let arg15 : BitVec 32 := Scf.iv c0_i32_11 c1_i32 k0_t2
  let c4_i32 : BitVec 32 := 4#32
  let v14 : BitVec 32 := Scalar.muli arg15 c4_i32
  let c0_i32_13 : BitVec 32 := 0#32
  let v15 : BitVec 32 := Scalar.addi v14 c0_i32_13
  let c8_i32_14 : BitVec 32 := 8#32
  let v16 : BitVec 32 := Scalar.muli v15 c8_i32_14
  let c6_i32 : BitVec 32 := 6#32
  let v137 : BitVec 32 := Scalar.addi v16 c6_i32
  let v138 : Index := Scalar.indexCast v137
  ![0, 0, v138.toNat]
def k0_mult23 (v139 : BitVec 32) : BitVec 32 :=
  let c10_i32_91 : BitVec 32 := 10#32
  let v140 : BitVec 32 := Scalar.muli v139 c10_i32_91
  v140

def k0_off37 (v139 : BitVec 32) : Fin 3 → Nat :=
  let c10_i32_91 : BitVec 32 := 10#32
  let v140 : BitVec 32 := Scalar.muli v139 c10_i32_91
  let v141 : BitVec 32 := v140
  let v142 : Index := Scalar.indexCast v141
  let c0_92 : Index := 0#32
  ![v142.toNat, 0, 0]

def k0_chk13 (v139 : BitVec 32) : Prop :=
  (2 ∣ (k0_mult23 v139).toNat) ∧
  (∀ a, (k0_off37 v139) a + S10x2x128.size a ≤ S79360x2x128.size a)
theorem k0_mult23_dvd : ∀ (v139 : BitVec 32) (k0_hw13 : k0_chk13 v139), 2 ∣ (k0_mult23 v139).toNat := fun v139 k0_hw13 => k0_hw13.1
theorem k0_off37_inb : ∀ (v139 : BitVec 32) (k0_hw13 : k0_chk13 v139), ∀ a, (k0_off37 v139) a + S10x2x128.size a ≤ S79360x2x128.size a := fun v139 k0_hw13 => k0_hw13.2

def k0_off38 (k0_t2 : Fin k0_t2_loop.trips) : Fin 3 → Nat :=
  let c0_95 : Index := 0#32
  let c0_96 : Index := 0#32
  let c0_i32_11 : BitVec 32 := 0#32
  let c1_i32 : BitVec 32 := 1#32
  let arg15 : BitVec 32 := Scf.iv c0_i32_11 c1_i32 k0_t2
  let c4_i32 : BitVec 32 := 4#32
  let v14 : BitVec 32 := Scalar.muli arg15 c4_i32
  let c0_i32_13 : BitVec 32 := 0#32
  let v15 : BitVec 32 := Scalar.addi v14 c0_i32_13
  let c8_i32_14 : BitVec 32 := 8#32
  let v16 : BitVec 32 := Scalar.muli v15 c8_i32_14
  let c6_i32_94 : BitVec 32 := 6#32
  let v147 : BitVec 32 := Scalar.addi v16 c6_i32_94
  let v148 : Index := Scalar.indexCast v147
  ![0, 0, v148.toNat]
def k0_mult24 (v149 : BitVec 32) : BitVec 32 :=
  let c2_i32_97 : BitVec 32 := 2#32
  let v150 : BitVec 32 := Scalar.muli v149 c2_i32_97
  v150

def k0_off39 (v149 : BitVec 32) : Fin 2 → Nat :=
  let c2_i32_97 : BitVec 32 := 2#32
  let v150 : BitVec 32 := Scalar.muli v149 c2_i32_97
  let v151 : BitVec 32 := v150
  let v152 : Index := Scalar.indexCast v151
  let c0_98 : Index := 0#32
  ![v152.toNat, 0]

def k0_chk14 (v149 : BitVec 32) : Prop :=
  (2 ∣ (k0_mult24 v149).toNat) ∧
  (∀ a, (k0_off39 v149) a + S2x128.size a ≤ S15872x128.size a)
theorem k0_mult24_dvd : ∀ (v149 : BitVec 32) (k0_hw14 : k0_chk14 v149), 2 ∣ (k0_mult24 v149).toNat := fun v149 k0_hw14 => k0_hw14.1
theorem k0_off39_inb : ∀ (v149 : BitVec 32) (k0_hw14 : k0_chk14 v149), ∀ a, (k0_off39 v149) a + S2x128.size a ≤ S15872x128.size a := fun v149 k0_hw14 => k0_hw14.2

def k0_off40 (k0_t2 : Fin k0_t2_loop.trips) : Fin 3 → Nat :=
  let c0_101 : Index := 0#32
  let c0_102 : Index := 0#32
  let c0_i32_11 : BitVec 32 := 0#32
  let c1_i32 : BitVec 32 := 1#32
  let arg15 : BitVec 32 := Scf.iv c0_i32_11 c1_i32 k0_t2
  let c4_i32 : BitVec 32 := 4#32
  let v14 : BitVec 32 := Scalar.muli arg15 c4_i32
  let c0_i32_13 : BitVec 32 := 0#32
  let v15 : BitVec 32 := Scalar.addi v14 c0_i32_13
  let c8_i32_14 : BitVec 32 := 8#32
  let v16 : BitVec 32 := Scalar.muli v15 c8_i32_14
  let c7_i32 : BitVec 32 := 7#32
  let v157 : BitVec 32 := Scalar.addi v16 c7_i32
  let v158 : Index := Scalar.indexCast v157
  ![0, 0, v158.toNat]
def k0_mult25 (v159 : BitVec 32) : BitVec 32 :=
  let c10_i32_103 : BitVec 32 := 10#32
  let v160 : BitVec 32 := Scalar.muli v159 c10_i32_103
  v160

def k0_off41 (v159 : BitVec 32) : Fin 3 → Nat :=
  let c10_i32_103 : BitVec 32 := 10#32
  let v160 : BitVec 32 := Scalar.muli v159 c10_i32_103
  let v161 : BitVec 32 := v160
  let v162 : Index := Scalar.indexCast v161
  let c0_104 : Index := 0#32
  ![v162.toNat, 0, 0]

def k0_chk15 (v159 : BitVec 32) : Prop :=
  (2 ∣ (k0_mult25 v159).toNat) ∧
  (∀ a, (k0_off41 v159) a + S10x2x128.size a ≤ S79360x2x128.size a)
theorem k0_mult25_dvd : ∀ (v159 : BitVec 32) (k0_hw15 : k0_chk15 v159), 2 ∣ (k0_mult25 v159).toNat := fun v159 k0_hw15 => k0_hw15.1
theorem k0_off41_inb : ∀ (v159 : BitVec 32) (k0_hw15 : k0_chk15 v159), ∀ a, (k0_off41 v159) a + S10x2x128.size a ≤ S79360x2x128.size a := fun v159 k0_hw15 => k0_hw15.2

def k0_off42 (k0_t2 : Fin k0_t2_loop.trips) : Fin 3 → Nat :=
  let c0_107 : Index := 0#32
  let c0_108 : Index := 0#32
  let c0_i32_11 : BitVec 32 := 0#32
  let c1_i32 : BitVec 32 := 1#32
  let arg15 : BitVec 32 := Scf.iv c0_i32_11 c1_i32 k0_t2
  let c4_i32 : BitVec 32 := 4#32
  let v14 : BitVec 32 := Scalar.muli arg15 c4_i32
  let c0_i32_13 : BitVec 32 := 0#32
  let v15 : BitVec 32 := Scalar.addi v14 c0_i32_13
  let c8_i32_14 : BitVec 32 := 8#32
  let v16 : BitVec 32 := Scalar.muli v15 c8_i32_14
  let c7_i32_106 : BitVec 32 := 7#32
  let v167 : BitVec 32 := Scalar.addi v16 c7_i32_106
  let v168 : Index := Scalar.indexCast v167
  ![0, 0, v168.toNat]
def k0_mult26 (v169 : BitVec 32) : BitVec 32 :=
  let c2_i32_109 : BitVec 32 := 2#32
  let v170 : BitVec 32 := Scalar.muli v169 c2_i32_109
  v170

def k0_off43 (v169 : BitVec 32) : Fin 2 → Nat :=
  let c2_i32_109 : BitVec 32 := 2#32
  let v170 : BitVec 32 := Scalar.muli v169 c2_i32_109
  let v171 : BitVec 32 := v170
  let v172 : Index := Scalar.indexCast v171
  let c0_110 : Index := 0#32
  ![v172.toNat, 0]

def k0_chk16 (v169 : BitVec 32) : Prop :=
  (2 ∣ (k0_mult26 v169).toNat) ∧
  (∀ a, (k0_off43 v169) a + S2x128.size a ≤ S15872x128.size a)
theorem k0_mult26_dvd : ∀ (v169 : BitVec 32) (k0_hw16 : k0_chk16 v169), 2 ∣ (k0_mult26 v169).toNat := fun v169 k0_hw16 => k0_hw16.1
theorem k0_off43_inb : ∀ (v169 : BitVec 32) (k0_hw16 : k0_chk16 v169), ∀ a, (k0_off43 v169) a + S2x128.size a ≤ S15872x128.size a := fun v169 k0_hw16 => k0_hw16.2

def k0_off44 (k0_t2 : Fin k0_t2_loop.trips) : Fin 3 → Nat :=
  let c0_116 : Index := 0#32
  let c0_117 : Index := 0#32
  let c0_i32_11 : BitVec 32 := 0#32
  let c1_i32 : BitVec 32 := 1#32
  let arg15 : BitVec 32 := Scf.iv c0_i32_11 c1_i32 k0_t2
  let c4_i32_112 : BitVec 32 := 4#32
  let v177 : BitVec 32 := Scalar.muli arg15 c4_i32_112
  let c1_i32_113 : BitVec 32 := 1#32
  let v178 : BitVec 32 := Scalar.addi v177 c1_i32_113
  let c8_i32_114 : BitVec 32 := 8#32
  let v179 : BitVec 32 := Scalar.muli v178 c8_i32_114
  let c0_i32_115 : BitVec 32 := 0#32
  let v180 : BitVec 32 := Scalar.addi v179 c0_i32_115
  let v181 : Index := Scalar.indexCast v180
  ![0, 0, v181.toNat]
def k0_mult27 (v182 : BitVec 32) : BitVec 32 :=
  let c10_i32_118 : BitVec 32 := 10#32
  let v183 : BitVec 32 := Scalar.muli v182 c10_i32_118
  v183

def k0_off45 (v182 : BitVec 32) : Fin 3 → Nat :=
  let c10_i32_118 : BitVec 32 := 10#32
  let v183 : BitVec 32 := Scalar.muli v182 c10_i32_118
  let v184 : BitVec 32 := v183
  let v185 : Index := Scalar.indexCast v184
  let c0_119 : Index := 0#32
  ![v185.toNat, 0, 0]

def k0_chk17 (v182 : BitVec 32) : Prop :=
  (2 ∣ (k0_mult27 v182).toNat) ∧
  (∀ a, (k0_off45 v182) a + S10x2x128.size a ≤ S79360x2x128.size a)
theorem k0_mult27_dvd : ∀ (v182 : BitVec 32) (k0_hw17 : k0_chk17 v182), 2 ∣ (k0_mult27 v182).toNat := fun v182 k0_hw17 => k0_hw17.1
theorem k0_off45_inb : ∀ (v182 : BitVec 32) (k0_hw17 : k0_chk17 v182), ∀ a, (k0_off45 v182) a + S10x2x128.size a ≤ S79360x2x128.size a := fun v182 k0_hw17 => k0_hw17.2

def k0_off46 (k0_t2 : Fin k0_t2_loop.trips) : Fin 3 → Nat :=
  let c0_122 : Index := 0#32
  let c0_123 : Index := 0#32
  let c0_i32_11 : BitVec 32 := 0#32
  let c1_i32 : BitVec 32 := 1#32
  let arg15 : BitVec 32 := Scf.iv c0_i32_11 c1_i32 k0_t2
  let c4_i32_112 : BitVec 32 := 4#32
  let v177 : BitVec 32 := Scalar.muli arg15 c4_i32_112
  let c1_i32_113 : BitVec 32 := 1#32
  let v178 : BitVec 32 := Scalar.addi v177 c1_i32_113
  let c8_i32_114 : BitVec 32 := 8#32
  let v179 : BitVec 32 := Scalar.muli v178 c8_i32_114
  let c0_i32_121 : BitVec 32 := 0#32
  let v190 : BitVec 32 := Scalar.addi v179 c0_i32_121
  let v191 : Index := Scalar.indexCast v190
  ![0, 0, v191.toNat]
def k0_mult28 (v192 : BitVec 32) : BitVec 32 :=
  let c2_i32_124 : BitVec 32 := 2#32
  let v193 : BitVec 32 := Scalar.muli v192 c2_i32_124
  v193

def k0_off47 (v192 : BitVec 32) : Fin 2 → Nat :=
  let c2_i32_124 : BitVec 32 := 2#32
  let v193 : BitVec 32 := Scalar.muli v192 c2_i32_124
  let v194 : BitVec 32 := v193
  let v195 : Index := Scalar.indexCast v194
  let c0_125 : Index := 0#32
  ![v195.toNat, 0]

def k0_chk18 (v192 : BitVec 32) : Prop :=
  (2 ∣ (k0_mult28 v192).toNat) ∧
  (∀ a, (k0_off47 v192) a + S2x128.size a ≤ S15872x128.size a)
theorem k0_mult28_dvd : ∀ (v192 : BitVec 32) (k0_hw18 : k0_chk18 v192), 2 ∣ (k0_mult28 v192).toNat := fun v192 k0_hw18 => k0_hw18.1
theorem k0_off47_inb : ∀ (v192 : BitVec 32) (k0_hw18 : k0_chk18 v192), ∀ a, (k0_off47 v192) a + S2x128.size a ≤ S15872x128.size a := fun v192 k0_hw18 => k0_hw18.2

def k0_off48 (k0_t2 : Fin k0_t2_loop.trips) : Fin 3 → Nat :=
  let c0_129 : Index := 0#32
  let c0_130 : Index := 0#32
  let c0_i32_11 : BitVec 32 := 0#32
  let c1_i32 : BitVec 32 := 1#32
  let arg15 : BitVec 32 := Scf.iv c0_i32_11 c1_i32 k0_t2
  let c4_i32_112 : BitVec 32 := 4#32
  let v177 : BitVec 32 := Scalar.muli arg15 c4_i32_112
  let c1_i32_113 : BitVec 32 := 1#32
  let v178 : BitVec 32 := Scalar.addi v177 c1_i32_113
  let c8_i32_114 : BitVec 32 := 8#32
  let v179 : BitVec 32 := Scalar.muli v178 c8_i32_114
  let c1_i32_128 : BitVec 32 := 1#32
  let v200 : BitVec 32 := Scalar.addi v179 c1_i32_128
  let v201 : Index := Scalar.indexCast v200
  ![0, 0, v201.toNat]
def k0_mult29 (v202 : BitVec 32) : BitVec 32 :=
  let c10_i32_131 : BitVec 32 := 10#32
  let v203 : BitVec 32 := Scalar.muli v202 c10_i32_131
  v203

def k0_off49 (v202 : BitVec 32) : Fin 3 → Nat :=
  let c10_i32_131 : BitVec 32 := 10#32
  let v203 : BitVec 32 := Scalar.muli v202 c10_i32_131
  let v204 : BitVec 32 := v203
  let v205 : Index := Scalar.indexCast v204
  let c0_132 : Index := 0#32
  ![v205.toNat, 0, 0]

def k0_chk19 (v202 : BitVec 32) : Prop :=
  (2 ∣ (k0_mult29 v202).toNat) ∧
  (∀ a, (k0_off49 v202) a + S10x2x128.size a ≤ S79360x2x128.size a)
theorem k0_mult29_dvd : ∀ (v202 : BitVec 32) (k0_hw19 : k0_chk19 v202), 2 ∣ (k0_mult29 v202).toNat := fun v202 k0_hw19 => k0_hw19.1
theorem k0_off49_inb : ∀ (v202 : BitVec 32) (k0_hw19 : k0_chk19 v202), ∀ a, (k0_off49 v202) a + S10x2x128.size a ≤ S79360x2x128.size a := fun v202 k0_hw19 => k0_hw19.2

def k0_off50 (k0_t2 : Fin k0_t2_loop.trips) : Fin 3 → Nat :=
  let c0_135 : Index := 0#32
  let c0_136 : Index := 0#32
  let c0_i32_11 : BitVec 32 := 0#32
  let c1_i32 : BitVec 32 := 1#32
  let arg15 : BitVec 32 := Scf.iv c0_i32_11 c1_i32 k0_t2
  let c4_i32_112 : BitVec 32 := 4#32
  let v177 : BitVec 32 := Scalar.muli arg15 c4_i32_112
  let c1_i32_113 : BitVec 32 := 1#32
  let v178 : BitVec 32 := Scalar.addi v177 c1_i32_113
  let c8_i32_114 : BitVec 32 := 8#32
  let v179 : BitVec 32 := Scalar.muli v178 c8_i32_114
  let c1_i32_134 : BitVec 32 := 1#32
  let v210 : BitVec 32 := Scalar.addi v179 c1_i32_134
  let v211 : Index := Scalar.indexCast v210
  ![0, 0, v211.toNat]
def k0_mult30 (v212 : BitVec 32) : BitVec 32 :=
  let c2_i32_137 : BitVec 32 := 2#32
  let v213 : BitVec 32 := Scalar.muli v212 c2_i32_137
  v213

def k0_off51 (v212 : BitVec 32) : Fin 2 → Nat :=
  let c2_i32_137 : BitVec 32 := 2#32
  let v213 : BitVec 32 := Scalar.muli v212 c2_i32_137
  let v214 : BitVec 32 := v213
  let v215 : Index := Scalar.indexCast v214
  let c0_138 : Index := 0#32
  ![v215.toNat, 0]

def k0_chk20 (v212 : BitVec 32) : Prop :=
  (2 ∣ (k0_mult30 v212).toNat) ∧
  (∀ a, (k0_off51 v212) a + S2x128.size a ≤ S15872x128.size a)
theorem k0_mult30_dvd : ∀ (v212 : BitVec 32) (k0_hw20 : k0_chk20 v212), 2 ∣ (k0_mult30 v212).toNat := fun v212 k0_hw20 => k0_hw20.1
theorem k0_off51_inb : ∀ (v212 : BitVec 32) (k0_hw20 : k0_chk20 v212), ∀ a, (k0_off51 v212) a + S2x128.size a ≤ S15872x128.size a := fun v212 k0_hw20 => k0_hw20.2

def k0_off52 (k0_t2 : Fin k0_t2_loop.trips) : Fin 3 → Nat :=
  let c0_142 : Index := 0#32
  let c0_143 : Index := 0#32
  let c0_i32_11 : BitVec 32 := 0#32
  let c1_i32 : BitVec 32 := 1#32
  let arg15 : BitVec 32 := Scf.iv c0_i32_11 c1_i32 k0_t2
  let c4_i32_112 : BitVec 32 := 4#32
  let v177 : BitVec 32 := Scalar.muli arg15 c4_i32_112
  let c1_i32_113 : BitVec 32 := 1#32
  let v178 : BitVec 32 := Scalar.addi v177 c1_i32_113
  let c8_i32_114 : BitVec 32 := 8#32
  let v179 : BitVec 32 := Scalar.muli v178 c8_i32_114
  let c2_i32_141 : BitVec 32 := 2#32
  let v220 : BitVec 32 := Scalar.addi v179 c2_i32_141
  let v221 : Index := Scalar.indexCast v220
  ![0, 0, v221.toNat]
def k0_mult31 (v222 : BitVec 32) : BitVec 32 :=
  let c10_i32_144 : BitVec 32 := 10#32
  let v223 : BitVec 32 := Scalar.muli v222 c10_i32_144
  v223

def k0_off53 (v222 : BitVec 32) : Fin 3 → Nat :=
  let c10_i32_144 : BitVec 32 := 10#32
  let v223 : BitVec 32 := Scalar.muli v222 c10_i32_144
  let v224 : BitVec 32 := v223
  let v225 : Index := Scalar.indexCast v224
  let c0_145 : Index := 0#32
  ![v225.toNat, 0, 0]

def k0_chk21 (v222 : BitVec 32) : Prop :=
  (2 ∣ (k0_mult31 v222).toNat) ∧
  (∀ a, (k0_off53 v222) a + S10x2x128.size a ≤ S79360x2x128.size a)
theorem k0_mult31_dvd : ∀ (v222 : BitVec 32) (k0_hw21 : k0_chk21 v222), 2 ∣ (k0_mult31 v222).toNat := fun v222 k0_hw21 => k0_hw21.1
theorem k0_off53_inb : ∀ (v222 : BitVec 32) (k0_hw21 : k0_chk21 v222), ∀ a, (k0_off53 v222) a + S10x2x128.size a ≤ S79360x2x128.size a := fun v222 k0_hw21 => k0_hw21.2

def k0_off54 (k0_t2 : Fin k0_t2_loop.trips) : Fin 3 → Nat :=
  let c0_148 : Index := 0#32
  let c0_149 : Index := 0#32
  let c0_i32_11 : BitVec 32 := 0#32
  let c1_i32 : BitVec 32 := 1#32
  let arg15 : BitVec 32 := Scf.iv c0_i32_11 c1_i32 k0_t2
  let c4_i32_112 : BitVec 32 := 4#32
  let v177 : BitVec 32 := Scalar.muli arg15 c4_i32_112
  let c1_i32_113 : BitVec 32 := 1#32
  let v178 : BitVec 32 := Scalar.addi v177 c1_i32_113
  let c8_i32_114 : BitVec 32 := 8#32
  let v179 : BitVec 32 := Scalar.muli v178 c8_i32_114
  let c2_i32_147 : BitVec 32 := 2#32
  let v230 : BitVec 32 := Scalar.addi v179 c2_i32_147
  let v231 : Index := Scalar.indexCast v230
  ![0, 0, v231.toNat]
def k0_mult32 (v232 : BitVec 32) : BitVec 32 :=
  let c2_i32_150 : BitVec 32 := 2#32
  let v233 : BitVec 32 := Scalar.muli v232 c2_i32_150
  v233

def k0_off55 (v232 : BitVec 32) : Fin 2 → Nat :=
  let c2_i32_150 : BitVec 32 := 2#32
  let v233 : BitVec 32 := Scalar.muli v232 c2_i32_150
  let v234 : BitVec 32 := v233
  let v235 : Index := Scalar.indexCast v234
  let c0_151 : Index := 0#32
  ![v235.toNat, 0]

def k0_chk22 (v232 : BitVec 32) : Prop :=
  (2 ∣ (k0_mult32 v232).toNat) ∧
  (∀ a, (k0_off55 v232) a + S2x128.size a ≤ S15872x128.size a)
theorem k0_mult32_dvd : ∀ (v232 : BitVec 32) (k0_hw22 : k0_chk22 v232), 2 ∣ (k0_mult32 v232).toNat := fun v232 k0_hw22 => k0_hw22.1
theorem k0_off55_inb : ∀ (v232 : BitVec 32) (k0_hw22 : k0_chk22 v232), ∀ a, (k0_off55 v232) a + S2x128.size a ≤ S15872x128.size a := fun v232 k0_hw22 => k0_hw22.2

def k0_off56 (k0_t2 : Fin k0_t2_loop.trips) : Fin 3 → Nat :=
  let c0_154 : Index := 0#32
  let c0_155 : Index := 0#32
  let c0_i32_11 : BitVec 32 := 0#32
  let c1_i32 : BitVec 32 := 1#32
  let arg15 : BitVec 32 := Scf.iv c0_i32_11 c1_i32 k0_t2
  let c4_i32_112 : BitVec 32 := 4#32
  let v177 : BitVec 32 := Scalar.muli arg15 c4_i32_112
  let c1_i32_113 : BitVec 32 := 1#32
  let v178 : BitVec 32 := Scalar.addi v177 c1_i32_113
  let c8_i32_114 : BitVec 32 := 8#32
  let v179 : BitVec 32 := Scalar.muli v178 c8_i32_114
  let c3_i32_153 : BitVec 32 := 3#32
  let v240 : BitVec 32 := Scalar.addi v179 c3_i32_153
  let v241 : Index := Scalar.indexCast v240
  ![0, 0, v241.toNat]
def k0_mult33 (v242 : BitVec 32) : BitVec 32 :=
  let c10_i32_156 : BitVec 32 := 10#32
  let v243 : BitVec 32 := Scalar.muli v242 c10_i32_156
  v243

def k0_off57 (v242 : BitVec 32) : Fin 3 → Nat :=
  let c10_i32_156 : BitVec 32 := 10#32
  let v243 : BitVec 32 := Scalar.muli v242 c10_i32_156
  let v244 : BitVec 32 := v243
  let v245 : Index := Scalar.indexCast v244
  let c0_157 : Index := 0#32
  ![v245.toNat, 0, 0]

def k0_chk23 (v242 : BitVec 32) : Prop :=
  (2 ∣ (k0_mult33 v242).toNat) ∧
  (∀ a, (k0_off57 v242) a + S10x2x128.size a ≤ S79360x2x128.size a)
theorem k0_mult33_dvd : ∀ (v242 : BitVec 32) (k0_hw23 : k0_chk23 v242), 2 ∣ (k0_mult33 v242).toNat := fun v242 k0_hw23 => k0_hw23.1
theorem k0_off57_inb : ∀ (v242 : BitVec 32) (k0_hw23 : k0_chk23 v242), ∀ a, (k0_off57 v242) a + S10x2x128.size a ≤ S79360x2x128.size a := fun v242 k0_hw23 => k0_hw23.2

def k0_off58 (k0_t2 : Fin k0_t2_loop.trips) : Fin 3 → Nat :=
  let c0_160 : Index := 0#32
  let c0_161 : Index := 0#32
  let c0_i32_11 : BitVec 32 := 0#32
  let c1_i32 : BitVec 32 := 1#32
  let arg15 : BitVec 32 := Scf.iv c0_i32_11 c1_i32 k0_t2
  let c4_i32_112 : BitVec 32 := 4#32
  let v177 : BitVec 32 := Scalar.muli arg15 c4_i32_112
  let c1_i32_113 : BitVec 32 := 1#32
  let v178 : BitVec 32 := Scalar.addi v177 c1_i32_113
  let c8_i32_114 : BitVec 32 := 8#32
  let v179 : BitVec 32 := Scalar.muli v178 c8_i32_114
  let c3_i32_159 : BitVec 32 := 3#32
  let v250 : BitVec 32 := Scalar.addi v179 c3_i32_159
  let v251 : Index := Scalar.indexCast v250
  ![0, 0, v251.toNat]
def k0_mult34 (v252 : BitVec 32) : BitVec 32 :=
  let c2_i32_162 : BitVec 32 := 2#32
  let v253 : BitVec 32 := Scalar.muli v252 c2_i32_162
  v253

def k0_off59 (v252 : BitVec 32) : Fin 2 → Nat :=
  let c2_i32_162 : BitVec 32 := 2#32
  let v253 : BitVec 32 := Scalar.muli v252 c2_i32_162
  let v254 : BitVec 32 := v253
  let v255 : Index := Scalar.indexCast v254
  let c0_163 : Index := 0#32
  ![v255.toNat, 0]

def k0_chk24 (v252 : BitVec 32) : Prop :=
  (2 ∣ (k0_mult34 v252).toNat) ∧
  (∀ a, (k0_off59 v252) a + S2x128.size a ≤ S15872x128.size a)
theorem k0_mult34_dvd : ∀ (v252 : BitVec 32) (k0_hw24 : k0_chk24 v252), 2 ∣ (k0_mult34 v252).toNat := fun v252 k0_hw24 => k0_hw24.1
theorem k0_off59_inb : ∀ (v252 : BitVec 32) (k0_hw24 : k0_chk24 v252), ∀ a, (k0_off59 v252) a + S2x128.size a ≤ S15872x128.size a := fun v252 k0_hw24 => k0_hw24.2

def k0_off60 (k0_t2 : Fin k0_t2_loop.trips) : Fin 3 → Nat :=
  let c0_166 : Index := 0#32
  let c0_167 : Index := 0#32
  let c0_i32_11 : BitVec 32 := 0#32
  let c1_i32 : BitVec 32 := 1#32
  let arg15 : BitVec 32 := Scf.iv c0_i32_11 c1_i32 k0_t2
  let c4_i32_112 : BitVec 32 := 4#32
  let v177 : BitVec 32 := Scalar.muli arg15 c4_i32_112
  let c1_i32_113 : BitVec 32 := 1#32
  let v178 : BitVec 32 := Scalar.addi v177 c1_i32_113
  let c8_i32_114 : BitVec 32 := 8#32
  let v179 : BitVec 32 := Scalar.muli v178 c8_i32_114
  let c4_i32_165 : BitVec 32 := 4#32
  let v260 : BitVec 32 := Scalar.addi v179 c4_i32_165
  let v261 : Index := Scalar.indexCast v260
  ![0, 0, v261.toNat]
def k0_mult35 (v262 : BitVec 32) : BitVec 32 :=
  let c10_i32_168 : BitVec 32 := 10#32
  let v263 : BitVec 32 := Scalar.muli v262 c10_i32_168
  v263

def k0_off61 (v262 : BitVec 32) : Fin 3 → Nat :=
  let c10_i32_168 : BitVec 32 := 10#32
  let v263 : BitVec 32 := Scalar.muli v262 c10_i32_168
  let v264 : BitVec 32 := v263
  let v265 : Index := Scalar.indexCast v264
  let c0_169 : Index := 0#32
  ![v265.toNat, 0, 0]

def k0_chk25 (v262 : BitVec 32) : Prop :=
  (2 ∣ (k0_mult35 v262).toNat) ∧
  (∀ a, (k0_off61 v262) a + S10x2x128.size a ≤ S79360x2x128.size a)
theorem k0_mult35_dvd : ∀ (v262 : BitVec 32) (k0_hw25 : k0_chk25 v262), 2 ∣ (k0_mult35 v262).toNat := fun v262 k0_hw25 => k0_hw25.1
theorem k0_off61_inb : ∀ (v262 : BitVec 32) (k0_hw25 : k0_chk25 v262), ∀ a, (k0_off61 v262) a + S10x2x128.size a ≤ S79360x2x128.size a := fun v262 k0_hw25 => k0_hw25.2

def k0_off62 (k0_t2 : Fin k0_t2_loop.trips) : Fin 3 → Nat :=
  let c0_172 : Index := 0#32
  let c0_173 : Index := 0#32
  let c0_i32_11 : BitVec 32 := 0#32
  let c1_i32 : BitVec 32 := 1#32
  let arg15 : BitVec 32 := Scf.iv c0_i32_11 c1_i32 k0_t2
  let c4_i32_112 : BitVec 32 := 4#32
  let v177 : BitVec 32 := Scalar.muli arg15 c4_i32_112
  let c1_i32_113 : BitVec 32 := 1#32
  let v178 : BitVec 32 := Scalar.addi v177 c1_i32_113
  let c8_i32_114 : BitVec 32 := 8#32
  let v179 : BitVec 32 := Scalar.muli v178 c8_i32_114
  let c4_i32_171 : BitVec 32 := 4#32
  let v270 : BitVec 32 := Scalar.addi v179 c4_i32_171
  let v271 : Index := Scalar.indexCast v270
  ![0, 0, v271.toNat]
def k0_mult36 (v272 : BitVec 32) : BitVec 32 :=
  let c2_i32_174 : BitVec 32 := 2#32
  let v273 : BitVec 32 := Scalar.muli v272 c2_i32_174
  v273

def k0_off63 (v272 : BitVec 32) : Fin 2 → Nat :=
  let c2_i32_174 : BitVec 32 := 2#32
  let v273 : BitVec 32 := Scalar.muli v272 c2_i32_174
  let v274 : BitVec 32 := v273
  let v275 : Index := Scalar.indexCast v274
  let c0_175 : Index := 0#32
  ![v275.toNat, 0]

def k0_chk26 (v272 : BitVec 32) : Prop :=
  (2 ∣ (k0_mult36 v272).toNat) ∧
  (∀ a, (k0_off63 v272) a + S2x128.size a ≤ S15872x128.size a)
theorem k0_mult36_dvd : ∀ (v272 : BitVec 32) (k0_hw26 : k0_chk26 v272), 2 ∣ (k0_mult36 v272).toNat := fun v272 k0_hw26 => k0_hw26.1
theorem k0_off63_inb : ∀ (v272 : BitVec 32) (k0_hw26 : k0_chk26 v272), ∀ a, (k0_off63 v272) a + S2x128.size a ≤ S15872x128.size a := fun v272 k0_hw26 => k0_hw26.2

def k0_off64 (k0_t2 : Fin k0_t2_loop.trips) : Fin 3 → Nat :=
  let c0_178 : Index := 0#32
  let c0_179 : Index := 0#32
  let c0_i32_11 : BitVec 32 := 0#32
  let c1_i32 : BitVec 32 := 1#32
  let arg15 : BitVec 32 := Scf.iv c0_i32_11 c1_i32 k0_t2
  let c4_i32_112 : BitVec 32 := 4#32
  let v177 : BitVec 32 := Scalar.muli arg15 c4_i32_112
  let c1_i32_113 : BitVec 32 := 1#32
  let v178 : BitVec 32 := Scalar.addi v177 c1_i32_113
  let c8_i32_114 : BitVec 32 := 8#32
  let v179 : BitVec 32 := Scalar.muli v178 c8_i32_114
  let c5_i32_177 : BitVec 32 := 5#32
  let v280 : BitVec 32 := Scalar.addi v179 c5_i32_177
  let v281 : Index := Scalar.indexCast v280
  ![0, 0, v281.toNat]
def k0_mult37 (v282 : BitVec 32) : BitVec 32 :=
  let c10_i32_180 : BitVec 32 := 10#32
  let v283 : BitVec 32 := Scalar.muli v282 c10_i32_180
  v283

def k0_off65 (v282 : BitVec 32) : Fin 3 → Nat :=
  let c10_i32_180 : BitVec 32 := 10#32
  let v283 : BitVec 32 := Scalar.muli v282 c10_i32_180
  let v284 : BitVec 32 := v283
  let v285 : Index := Scalar.indexCast v284
  let c0_181 : Index := 0#32
  ![v285.toNat, 0, 0]

def k0_chk27 (v282 : BitVec 32) : Prop :=
  (2 ∣ (k0_mult37 v282).toNat) ∧
  (∀ a, (k0_off65 v282) a + S10x2x128.size a ≤ S79360x2x128.size a)
theorem k0_mult37_dvd : ∀ (v282 : BitVec 32) (k0_hw27 : k0_chk27 v282), 2 ∣ (k0_mult37 v282).toNat := fun v282 k0_hw27 => k0_hw27.1
theorem k0_off65_inb : ∀ (v282 : BitVec 32) (k0_hw27 : k0_chk27 v282), ∀ a, (k0_off65 v282) a + S10x2x128.size a ≤ S79360x2x128.size a := fun v282 k0_hw27 => k0_hw27.2

def k0_off66 (k0_t2 : Fin k0_t2_loop.trips) : Fin 3 → Nat :=
  let c0_184 : Index := 0#32
  let c0_185 : Index := 0#32
  let c0_i32_11 : BitVec 32 := 0#32
  let c1_i32 : BitVec 32 := 1#32
  let arg15 : BitVec 32 := Scf.iv c0_i32_11 c1_i32 k0_t2
  let c4_i32_112 : BitVec 32 := 4#32
  let v177 : BitVec 32 := Scalar.muli arg15 c4_i32_112
  let c1_i32_113 : BitVec 32 := 1#32
  let v178 : BitVec 32 := Scalar.addi v177 c1_i32_113
  let c8_i32_114 : BitVec 32 := 8#32
  let v179 : BitVec 32 := Scalar.muli v178 c8_i32_114
  let c5_i32_183 : BitVec 32 := 5#32
  let v290 : BitVec 32 := Scalar.addi v179 c5_i32_183
  let v291 : Index := Scalar.indexCast v290
  ![0, 0, v291.toNat]
def k0_mult38 (v292 : BitVec 32) : BitVec 32 :=
  let c2_i32_186 : BitVec 32 := 2#32
  let v293 : BitVec 32 := Scalar.muli v292 c2_i32_186
  v293

def k0_off67 (v292 : BitVec 32) : Fin 2 → Nat :=
  let c2_i32_186 : BitVec 32 := 2#32
  let v293 : BitVec 32 := Scalar.muli v292 c2_i32_186
  let v294 : BitVec 32 := v293
  let v295 : Index := Scalar.indexCast v294
  let c0_187 : Index := 0#32
  ![v295.toNat, 0]

def k0_chk28 (v292 : BitVec 32) : Prop :=
  (2 ∣ (k0_mult38 v292).toNat) ∧
  (∀ a, (k0_off67 v292) a + S2x128.size a ≤ S15872x128.size a)
theorem k0_mult38_dvd : ∀ (v292 : BitVec 32) (k0_hw28 : k0_chk28 v292), 2 ∣ (k0_mult38 v292).toNat := fun v292 k0_hw28 => k0_hw28.1
theorem k0_off67_inb : ∀ (v292 : BitVec 32) (k0_hw28 : k0_chk28 v292), ∀ a, (k0_off67 v292) a + S2x128.size a ≤ S15872x128.size a := fun v292 k0_hw28 => k0_hw28.2

def k0_off68 (k0_t2 : Fin k0_t2_loop.trips) : Fin 3 → Nat :=
  let c0_190 : Index := 0#32
  let c0_191 : Index := 0#32
  let c0_i32_11 : BitVec 32 := 0#32
  let c1_i32 : BitVec 32 := 1#32
  let arg15 : BitVec 32 := Scf.iv c0_i32_11 c1_i32 k0_t2
  let c4_i32_112 : BitVec 32 := 4#32
  let v177 : BitVec 32 := Scalar.muli arg15 c4_i32_112
  let c1_i32_113 : BitVec 32 := 1#32
  let v178 : BitVec 32 := Scalar.addi v177 c1_i32_113
  let c8_i32_114 : BitVec 32 := 8#32
  let v179 : BitVec 32 := Scalar.muli v178 c8_i32_114
  let c6_i32_189 : BitVec 32 := 6#32
  let v300 : BitVec 32 := Scalar.addi v179 c6_i32_189
  let v301 : Index := Scalar.indexCast v300
  ![0, 0, v301.toNat]
def k0_mult39 (v302 : BitVec 32) : BitVec 32 :=
  let c10_i32_192 : BitVec 32 := 10#32
  let v303 : BitVec 32 := Scalar.muli v302 c10_i32_192
  v303

def k0_off69 (v302 : BitVec 32) : Fin 3 → Nat :=
  let c10_i32_192 : BitVec 32 := 10#32
  let v303 : BitVec 32 := Scalar.muli v302 c10_i32_192
  let v304 : BitVec 32 := v303
  let v305 : Index := Scalar.indexCast v304
  let c0_193 : Index := 0#32
  ![v305.toNat, 0, 0]

def k0_chk29 (v302 : BitVec 32) : Prop :=
  (2 ∣ (k0_mult39 v302).toNat) ∧
  (∀ a, (k0_off69 v302) a + S10x2x128.size a ≤ S79360x2x128.size a)
theorem k0_mult39_dvd : ∀ (v302 : BitVec 32) (k0_hw29 : k0_chk29 v302), 2 ∣ (k0_mult39 v302).toNat := fun v302 k0_hw29 => k0_hw29.1
theorem k0_off69_inb : ∀ (v302 : BitVec 32) (k0_hw29 : k0_chk29 v302), ∀ a, (k0_off69 v302) a + S10x2x128.size a ≤ S79360x2x128.size a := fun v302 k0_hw29 => k0_hw29.2

def k0_off70 (k0_t2 : Fin k0_t2_loop.trips) : Fin 3 → Nat :=
  let c0_196 : Index := 0#32
  let c0_197 : Index := 0#32
  let c0_i32_11 : BitVec 32 := 0#32
  let c1_i32 : BitVec 32 := 1#32
  let arg15 : BitVec 32 := Scf.iv c0_i32_11 c1_i32 k0_t2
  let c4_i32_112 : BitVec 32 := 4#32
  let v177 : BitVec 32 := Scalar.muli arg15 c4_i32_112
  let c1_i32_113 : BitVec 32 := 1#32
  let v178 : BitVec 32 := Scalar.addi v177 c1_i32_113
  let c8_i32_114 : BitVec 32 := 8#32
  let v179 : BitVec 32 := Scalar.muli v178 c8_i32_114
  let c6_i32_195 : BitVec 32 := 6#32
  let v310 : BitVec 32 := Scalar.addi v179 c6_i32_195
  let v311 : Index := Scalar.indexCast v310
  ![0, 0, v311.toNat]
def k0_mult40 (v312 : BitVec 32) : BitVec 32 :=
  let c2_i32_198 : BitVec 32 := 2#32
  let v313 : BitVec 32 := Scalar.muli v312 c2_i32_198
  v313

def k0_off71 (v312 : BitVec 32) : Fin 2 → Nat :=
  let c2_i32_198 : BitVec 32 := 2#32
  let v313 : BitVec 32 := Scalar.muli v312 c2_i32_198
  let v314 : BitVec 32 := v313
  let v315 : Index := Scalar.indexCast v314
  let c0_199 : Index := 0#32
  ![v315.toNat, 0]

def k0_chk30 (v312 : BitVec 32) : Prop :=
  (2 ∣ (k0_mult40 v312).toNat) ∧
  (∀ a, (k0_off71 v312) a + S2x128.size a ≤ S15872x128.size a)
theorem k0_mult40_dvd : ∀ (v312 : BitVec 32) (k0_hw30 : k0_chk30 v312), 2 ∣ (k0_mult40 v312).toNat := fun v312 k0_hw30 => k0_hw30.1
theorem k0_off71_inb : ∀ (v312 : BitVec 32) (k0_hw30 : k0_chk30 v312), ∀ a, (k0_off71 v312) a + S2x128.size a ≤ S15872x128.size a := fun v312 k0_hw30 => k0_hw30.2

def k0_off72 (k0_t2 : Fin k0_t2_loop.trips) : Fin 3 → Nat :=
  let c0_202 : Index := 0#32
  let c0_203 : Index := 0#32
  let c0_i32_11 : BitVec 32 := 0#32
  let c1_i32 : BitVec 32 := 1#32
  let arg15 : BitVec 32 := Scf.iv c0_i32_11 c1_i32 k0_t2
  let c4_i32_112 : BitVec 32 := 4#32
  let v177 : BitVec 32 := Scalar.muli arg15 c4_i32_112
  let c1_i32_113 : BitVec 32 := 1#32
  let v178 : BitVec 32 := Scalar.addi v177 c1_i32_113
  let c8_i32_114 : BitVec 32 := 8#32
  let v179 : BitVec 32 := Scalar.muli v178 c8_i32_114
  let c7_i32_201 : BitVec 32 := 7#32
  let v320 : BitVec 32 := Scalar.addi v179 c7_i32_201
  let v321 : Index := Scalar.indexCast v320
  ![0, 0, v321.toNat]
def k0_mult41 (v322 : BitVec 32) : BitVec 32 :=
  let c10_i32_204 : BitVec 32 := 10#32
  let v323 : BitVec 32 := Scalar.muli v322 c10_i32_204
  v323

def k0_off73 (v322 : BitVec 32) : Fin 3 → Nat :=
  let c10_i32_204 : BitVec 32 := 10#32
  let v323 : BitVec 32 := Scalar.muli v322 c10_i32_204
  let v324 : BitVec 32 := v323
  let v325 : Index := Scalar.indexCast v324
  let c0_205 : Index := 0#32
  ![v325.toNat, 0, 0]

def k0_chk31 (v322 : BitVec 32) : Prop :=
  (2 ∣ (k0_mult41 v322).toNat) ∧
  (∀ a, (k0_off73 v322) a + S10x2x128.size a ≤ S79360x2x128.size a)
theorem k0_mult41_dvd : ∀ (v322 : BitVec 32) (k0_hw31 : k0_chk31 v322), 2 ∣ (k0_mult41 v322).toNat := fun v322 k0_hw31 => k0_hw31.1
theorem k0_off73_inb : ∀ (v322 : BitVec 32) (k0_hw31 : k0_chk31 v322), ∀ a, (k0_off73 v322) a + S10x2x128.size a ≤ S79360x2x128.size a := fun v322 k0_hw31 => k0_hw31.2

def k0_off74 (k0_t2 : Fin k0_t2_loop.trips) : Fin 3 → Nat :=
  let c0_208 : Index := 0#32
  let c0_209 : Index := 0#32
  let c0_i32_11 : BitVec 32 := 0#32
  let c1_i32 : BitVec 32 := 1#32
  let arg15 : BitVec 32 := Scf.iv c0_i32_11 c1_i32 k0_t2
  let c4_i32_112 : BitVec 32 := 4#32
  let v177 : BitVec 32 := Scalar.muli arg15 c4_i32_112
  let c1_i32_113 : BitVec 32 := 1#32
  let v178 : BitVec 32 := Scalar.addi v177 c1_i32_113
  let c8_i32_114 : BitVec 32 := 8#32
  let v179 : BitVec 32 := Scalar.muli v178 c8_i32_114
  let c7_i32_207 : BitVec 32 := 7#32
  let v330 : BitVec 32 := Scalar.addi v179 c7_i32_207
  let v331 : Index := Scalar.indexCast v330
  ![0, 0, v331.toNat]
def k0_mult42 (v332 : BitVec 32) : BitVec 32 :=
  let c2_i32_210 : BitVec 32 := 2#32
  let v333 : BitVec 32 := Scalar.muli v332 c2_i32_210
  v333

def k0_off75 (v332 : BitVec 32) : Fin 2 → Nat :=
  let c2_i32_210 : BitVec 32 := 2#32
  let v333 : BitVec 32 := Scalar.muli v332 c2_i32_210
  let v334 : BitVec 32 := v333
  let v335 : Index := Scalar.indexCast v334
  let c0_211 : Index := 0#32
  ![v335.toNat, 0]

def k0_chk32 (v332 : BitVec 32) : Prop :=
  (2 ∣ (k0_mult42 v332).toNat) ∧
  (∀ a, (k0_off75 v332) a + S2x128.size a ≤ S15872x128.size a)
theorem k0_mult42_dvd : ∀ (v332 : BitVec 32) (k0_hw32 : k0_chk32 v332), 2 ∣ (k0_mult42 v332).toNat := fun v332 k0_hw32 => k0_hw32.1
theorem k0_off75_inb : ∀ (v332 : BitVec 32) (k0_hw32 : k0_chk32 v332), ∀ a, (k0_off75 v332) a + S2x128.size a ≤ S15872x128.size a := fun v332 k0_hw32 => k0_hw32.2

def k0_off76 (k0_t2 : Fin k0_t2_loop.trips) : Fin 3 → Nat :=
  let c0_217 : Index := 0#32
  let c0_218 : Index := 0#32
  let c0_i32_11 : BitVec 32 := 0#32
  let c1_i32 : BitVec 32 := 1#32
  let arg15 : BitVec 32 := Scf.iv c0_i32_11 c1_i32 k0_t2
  let c4_i32_213 : BitVec 32 := 4#32
  let v340 : BitVec 32 := Scalar.muli arg15 c4_i32_213
  let c2_i32_214 : BitVec 32 := 2#32
  let v341 : BitVec 32 := Scalar.addi v340 c2_i32_214
  let c8_i32_215 : BitVec 32 := 8#32
  let v342 : BitVec 32 := Scalar.muli v341 c8_i32_215
  let c0_i32_216 : BitVec 32 := 0#32
  let v343 : BitVec 32 := Scalar.addi v342 c0_i32_216
  let v344 : Index := Scalar.indexCast v343
  ![0, 0, v344.toNat]
def k0_mult43 (v345 : BitVec 32) : BitVec 32 :=
  let c10_i32_219 : BitVec 32 := 10#32
  let v346 : BitVec 32 := Scalar.muli v345 c10_i32_219
  v346

def k0_off77 (v345 : BitVec 32) : Fin 3 → Nat :=
  let c10_i32_219 : BitVec 32 := 10#32
  let v346 : BitVec 32 := Scalar.muli v345 c10_i32_219
  let v347 : BitVec 32 := v346
  let v348 : Index := Scalar.indexCast v347
  let c0_220 : Index := 0#32
  ![v348.toNat, 0, 0]

def k0_chk33 (v345 : BitVec 32) : Prop :=
  (2 ∣ (k0_mult43 v345).toNat) ∧
  (∀ a, (k0_off77 v345) a + S10x2x128.size a ≤ S79360x2x128.size a)
theorem k0_mult43_dvd : ∀ (v345 : BitVec 32) (k0_hw33 : k0_chk33 v345), 2 ∣ (k0_mult43 v345).toNat := fun v345 k0_hw33 => k0_hw33.1
theorem k0_off77_inb : ∀ (v345 : BitVec 32) (k0_hw33 : k0_chk33 v345), ∀ a, (k0_off77 v345) a + S10x2x128.size a ≤ S79360x2x128.size a := fun v345 k0_hw33 => k0_hw33.2

def k0_off78 (k0_t2 : Fin k0_t2_loop.trips) : Fin 3 → Nat :=
  let c0_223 : Index := 0#32
  let c0_224 : Index := 0#32
  let c0_i32_11 : BitVec 32 := 0#32
  let c1_i32 : BitVec 32 := 1#32
  let arg15 : BitVec 32 := Scf.iv c0_i32_11 c1_i32 k0_t2
  let c4_i32_213 : BitVec 32 := 4#32
  let v340 : BitVec 32 := Scalar.muli arg15 c4_i32_213
  let c2_i32_214 : BitVec 32 := 2#32
  let v341 : BitVec 32 := Scalar.addi v340 c2_i32_214
  let c8_i32_215 : BitVec 32 := 8#32
  let v342 : BitVec 32 := Scalar.muli v341 c8_i32_215
  let c0_i32_222 : BitVec 32 := 0#32
  let v353 : BitVec 32 := Scalar.addi v342 c0_i32_222
  let v354 : Index := Scalar.indexCast v353
  ![0, 0, v354.toNat]
def k0_mult44 (v355 : BitVec 32) : BitVec 32 :=
  let c2_i32_225 : BitVec 32 := 2#32
  let v356 : BitVec 32 := Scalar.muli v355 c2_i32_225
  v356

def k0_off79 (v355 : BitVec 32) : Fin 2 → Nat :=
  let c2_i32_225 : BitVec 32 := 2#32
  let v356 : BitVec 32 := Scalar.muli v355 c2_i32_225
  let v357 : BitVec 32 := v356
  let v358 : Index := Scalar.indexCast v357
  let c0_226 : Index := 0#32
  ![v358.toNat, 0]

def k0_chk34 (v355 : BitVec 32) : Prop :=
  (2 ∣ (k0_mult44 v355).toNat) ∧
  (∀ a, (k0_off79 v355) a + S2x128.size a ≤ S15872x128.size a)
theorem k0_mult44_dvd : ∀ (v355 : BitVec 32) (k0_hw34 : k0_chk34 v355), 2 ∣ (k0_mult44 v355).toNat := fun v355 k0_hw34 => k0_hw34.1
theorem k0_off79_inb : ∀ (v355 : BitVec 32) (k0_hw34 : k0_chk34 v355), ∀ a, (k0_off79 v355) a + S2x128.size a ≤ S15872x128.size a := fun v355 k0_hw34 => k0_hw34.2

def k0_off80 (k0_t2 : Fin k0_t2_loop.trips) : Fin 3 → Nat :=
  let c0_230 : Index := 0#32
  let c0_231 : Index := 0#32
  let c0_i32_11 : BitVec 32 := 0#32
  let c1_i32 : BitVec 32 := 1#32
  let arg15 : BitVec 32 := Scf.iv c0_i32_11 c1_i32 k0_t2
  let c4_i32_213 : BitVec 32 := 4#32
  let v340 : BitVec 32 := Scalar.muli arg15 c4_i32_213
  let c2_i32_214 : BitVec 32 := 2#32
  let v341 : BitVec 32 := Scalar.addi v340 c2_i32_214
  let c8_i32_215 : BitVec 32 := 8#32
  let v342 : BitVec 32 := Scalar.muli v341 c8_i32_215
  let c1_i32_229 : BitVec 32 := 1#32
  let v363 : BitVec 32 := Scalar.addi v342 c1_i32_229
  let v364 : Index := Scalar.indexCast v363
  ![0, 0, v364.toNat]
def k0_mult45 (v365 : BitVec 32) : BitVec 32 :=
  let c10_i32_232 : BitVec 32 := 10#32
  let v366 : BitVec 32 := Scalar.muli v365 c10_i32_232
  v366

def k0_off81 (v365 : BitVec 32) : Fin 3 → Nat :=
  let c10_i32_232 : BitVec 32 := 10#32
  let v366 : BitVec 32 := Scalar.muli v365 c10_i32_232
  let v367 : BitVec 32 := v366
  let v368 : Index := Scalar.indexCast v367
  let c0_233 : Index := 0#32
  ![v368.toNat, 0, 0]

def k0_chk35 (v365 : BitVec 32) : Prop :=
  (2 ∣ (k0_mult45 v365).toNat) ∧
  (∀ a, (k0_off81 v365) a + S10x2x128.size a ≤ S79360x2x128.size a)
theorem k0_mult45_dvd : ∀ (v365 : BitVec 32) (k0_hw35 : k0_chk35 v365), 2 ∣ (k0_mult45 v365).toNat := fun v365 k0_hw35 => k0_hw35.1
theorem k0_off81_inb : ∀ (v365 : BitVec 32) (k0_hw35 : k0_chk35 v365), ∀ a, (k0_off81 v365) a + S10x2x128.size a ≤ S79360x2x128.size a := fun v365 k0_hw35 => k0_hw35.2

def k0_off82 (k0_t2 : Fin k0_t2_loop.trips) : Fin 3 → Nat :=
  let c0_236 : Index := 0#32
  let c0_237 : Index := 0#32
  let c0_i32_11 : BitVec 32 := 0#32
  let c1_i32 : BitVec 32 := 1#32
  let arg15 : BitVec 32 := Scf.iv c0_i32_11 c1_i32 k0_t2
  let c4_i32_213 : BitVec 32 := 4#32
  let v340 : BitVec 32 := Scalar.muli arg15 c4_i32_213
  let c2_i32_214 : BitVec 32 := 2#32
  let v341 : BitVec 32 := Scalar.addi v340 c2_i32_214
  let c8_i32_215 : BitVec 32 := 8#32
  let v342 : BitVec 32 := Scalar.muli v341 c8_i32_215
  let c1_i32_235 : BitVec 32 := 1#32
  let v373 : BitVec 32 := Scalar.addi v342 c1_i32_235
  let v374 : Index := Scalar.indexCast v373
  ![0, 0, v374.toNat]
def k0_mult46 (v375 : BitVec 32) : BitVec 32 :=
  let c2_i32_238 : BitVec 32 := 2#32
  let v376 : BitVec 32 := Scalar.muli v375 c2_i32_238
  v376

def k0_off83 (v375 : BitVec 32) : Fin 2 → Nat :=
  let c2_i32_238 : BitVec 32 := 2#32
  let v376 : BitVec 32 := Scalar.muli v375 c2_i32_238
  let v377 : BitVec 32 := v376
  let v378 : Index := Scalar.indexCast v377
  let c0_239 : Index := 0#32
  ![v378.toNat, 0]

def k0_chk36 (v375 : BitVec 32) : Prop :=
  (2 ∣ (k0_mult46 v375).toNat) ∧
  (∀ a, (k0_off83 v375) a + S2x128.size a ≤ S15872x128.size a)
theorem k0_mult46_dvd : ∀ (v375 : BitVec 32) (k0_hw36 : k0_chk36 v375), 2 ∣ (k0_mult46 v375).toNat := fun v375 k0_hw36 => k0_hw36.1
theorem k0_off83_inb : ∀ (v375 : BitVec 32) (k0_hw36 : k0_chk36 v375), ∀ a, (k0_off83 v375) a + S2x128.size a ≤ S15872x128.size a := fun v375 k0_hw36 => k0_hw36.2

def k0_off84 (k0_t2 : Fin k0_t2_loop.trips) : Fin 3 → Nat :=
  let c0_243 : Index := 0#32
  let c0_244 : Index := 0#32
  let c0_i32_11 : BitVec 32 := 0#32
  let c1_i32 : BitVec 32 := 1#32
  let arg15 : BitVec 32 := Scf.iv c0_i32_11 c1_i32 k0_t2
  let c4_i32_213 : BitVec 32 := 4#32
  let v340 : BitVec 32 := Scalar.muli arg15 c4_i32_213
  let c2_i32_214 : BitVec 32 := 2#32
  let v341 : BitVec 32 := Scalar.addi v340 c2_i32_214
  let c8_i32_215 : BitVec 32 := 8#32
  let v342 : BitVec 32 := Scalar.muli v341 c8_i32_215
  let c2_i32_242 : BitVec 32 := 2#32
  let v383 : BitVec 32 := Scalar.addi v342 c2_i32_242
  let v384 : Index := Scalar.indexCast v383
  ![0, 0, v384.toNat]
def k0_mult47 (v385 : BitVec 32) : BitVec 32 :=
  let c10_i32_245 : BitVec 32 := 10#32
  let v386 : BitVec 32 := Scalar.muli v385 c10_i32_245
  v386

def k0_off85 (v385 : BitVec 32) : Fin 3 → Nat :=
  let c10_i32_245 : BitVec 32 := 10#32
  let v386 : BitVec 32 := Scalar.muli v385 c10_i32_245
  let v387 : BitVec 32 := v386
  let v388 : Index := Scalar.indexCast v387
  let c0_246 : Index := 0#32
  ![v388.toNat, 0, 0]

def k0_chk37 (v385 : BitVec 32) : Prop :=
  (2 ∣ (k0_mult47 v385).toNat) ∧
  (∀ a, (k0_off85 v385) a + S10x2x128.size a ≤ S79360x2x128.size a)
theorem k0_mult47_dvd : ∀ (v385 : BitVec 32) (k0_hw37 : k0_chk37 v385), 2 ∣ (k0_mult47 v385).toNat := fun v385 k0_hw37 => k0_hw37.1
theorem k0_off85_inb : ∀ (v385 : BitVec 32) (k0_hw37 : k0_chk37 v385), ∀ a, (k0_off85 v385) a + S10x2x128.size a ≤ S79360x2x128.size a := fun v385 k0_hw37 => k0_hw37.2

def k0_off86 (k0_t2 : Fin k0_t2_loop.trips) : Fin 3 → Nat :=
  let c0_249 : Index := 0#32
  let c0_250 : Index := 0#32
  let c0_i32_11 : BitVec 32 := 0#32
  let c1_i32 : BitVec 32 := 1#32
  let arg15 : BitVec 32 := Scf.iv c0_i32_11 c1_i32 k0_t2
  let c4_i32_213 : BitVec 32 := 4#32
  let v340 : BitVec 32 := Scalar.muli arg15 c4_i32_213
  let c2_i32_214 : BitVec 32 := 2#32
  let v341 : BitVec 32 := Scalar.addi v340 c2_i32_214
  let c8_i32_215 : BitVec 32 := 8#32
  let v342 : BitVec 32 := Scalar.muli v341 c8_i32_215
  let c2_i32_248 : BitVec 32 := 2#32
  let v393 : BitVec 32 := Scalar.addi v342 c2_i32_248
  let v394 : Index := Scalar.indexCast v393
  ![0, 0, v394.toNat]
def k0_mult48 (v395 : BitVec 32) : BitVec 32 :=
  let c2_i32_251 : BitVec 32 := 2#32
  let v396 : BitVec 32 := Scalar.muli v395 c2_i32_251
  v396

def k0_off87 (v395 : BitVec 32) : Fin 2 → Nat :=
  let c2_i32_251 : BitVec 32 := 2#32
  let v396 : BitVec 32 := Scalar.muli v395 c2_i32_251
  let v397 : BitVec 32 := v396
  let v398 : Index := Scalar.indexCast v397
  let c0_252 : Index := 0#32
  ![v398.toNat, 0]

def k0_chk38 (v395 : BitVec 32) : Prop :=
  (2 ∣ (k0_mult48 v395).toNat) ∧
  (∀ a, (k0_off87 v395) a + S2x128.size a ≤ S15872x128.size a)
theorem k0_mult48_dvd : ∀ (v395 : BitVec 32) (k0_hw38 : k0_chk38 v395), 2 ∣ (k0_mult48 v395).toNat := fun v395 k0_hw38 => k0_hw38.1
theorem k0_off87_inb : ∀ (v395 : BitVec 32) (k0_hw38 : k0_chk38 v395), ∀ a, (k0_off87 v395) a + S2x128.size a ≤ S15872x128.size a := fun v395 k0_hw38 => k0_hw38.2

def k0_off88 (k0_t2 : Fin k0_t2_loop.trips) : Fin 3 → Nat :=
  let c0_255 : Index := 0#32
  let c0_256 : Index := 0#32
  let c0_i32_11 : BitVec 32 := 0#32
  let c1_i32 : BitVec 32 := 1#32
  let arg15 : BitVec 32 := Scf.iv c0_i32_11 c1_i32 k0_t2
  let c4_i32_213 : BitVec 32 := 4#32
  let v340 : BitVec 32 := Scalar.muli arg15 c4_i32_213
  let c2_i32_214 : BitVec 32 := 2#32
  let v341 : BitVec 32 := Scalar.addi v340 c2_i32_214
  let c8_i32_215 : BitVec 32 := 8#32
  let v342 : BitVec 32 := Scalar.muli v341 c8_i32_215
  let c3_i32_254 : BitVec 32 := 3#32
  let v403 : BitVec 32 := Scalar.addi v342 c3_i32_254
  let v404 : Index := Scalar.indexCast v403
  ![0, 0, v404.toNat]
def k0_mult49 (v405 : BitVec 32) : BitVec 32 :=
  let c10_i32_257 : BitVec 32 := 10#32
  let v406 : BitVec 32 := Scalar.muli v405 c10_i32_257
  v406

def k0_off89 (v405 : BitVec 32) : Fin 3 → Nat :=
  let c10_i32_257 : BitVec 32 := 10#32
  let v406 : BitVec 32 := Scalar.muli v405 c10_i32_257
  let v407 : BitVec 32 := v406
  let v408 : Index := Scalar.indexCast v407
  let c0_258 : Index := 0#32
  ![v408.toNat, 0, 0]

def k0_chk39 (v405 : BitVec 32) : Prop :=
  (2 ∣ (k0_mult49 v405).toNat) ∧
  (∀ a, (k0_off89 v405) a + S10x2x128.size a ≤ S79360x2x128.size a)
theorem k0_mult49_dvd : ∀ (v405 : BitVec 32) (k0_hw39 : k0_chk39 v405), 2 ∣ (k0_mult49 v405).toNat := fun v405 k0_hw39 => k0_hw39.1
theorem k0_off89_inb : ∀ (v405 : BitVec 32) (k0_hw39 : k0_chk39 v405), ∀ a, (k0_off89 v405) a + S10x2x128.size a ≤ S79360x2x128.size a := fun v405 k0_hw39 => k0_hw39.2

def k0_off90 (k0_t2 : Fin k0_t2_loop.trips) : Fin 3 → Nat :=
  let c0_261 : Index := 0#32
  let c0_262 : Index := 0#32
  let c0_i32_11 : BitVec 32 := 0#32
  let c1_i32 : BitVec 32 := 1#32
  let arg15 : BitVec 32 := Scf.iv c0_i32_11 c1_i32 k0_t2
  let c4_i32_213 : BitVec 32 := 4#32
  let v340 : BitVec 32 := Scalar.muli arg15 c4_i32_213
  let c2_i32_214 : BitVec 32 := 2#32
  let v341 : BitVec 32 := Scalar.addi v340 c2_i32_214
  let c8_i32_215 : BitVec 32 := 8#32
  let v342 : BitVec 32 := Scalar.muli v341 c8_i32_215
  let c3_i32_260 : BitVec 32 := 3#32
  let v413 : BitVec 32 := Scalar.addi v342 c3_i32_260
  let v414 : Index := Scalar.indexCast v413
  ![0, 0, v414.toNat]
def k0_mult50 (v415 : BitVec 32) : BitVec 32 :=
  let c2_i32_263 : BitVec 32 := 2#32
  let v416 : BitVec 32 := Scalar.muli v415 c2_i32_263
  v416

def k0_off91 (v415 : BitVec 32) : Fin 2 → Nat :=
  let c2_i32_263 : BitVec 32 := 2#32
  let v416 : BitVec 32 := Scalar.muli v415 c2_i32_263
  let v417 : BitVec 32 := v416
  let v418 : Index := Scalar.indexCast v417
  let c0_264 : Index := 0#32
  ![v418.toNat, 0]

def k0_chk40 (v415 : BitVec 32) : Prop :=
  (2 ∣ (k0_mult50 v415).toNat) ∧
  (∀ a, (k0_off91 v415) a + S2x128.size a ≤ S15872x128.size a)
theorem k0_mult50_dvd : ∀ (v415 : BitVec 32) (k0_hw40 : k0_chk40 v415), 2 ∣ (k0_mult50 v415).toNat := fun v415 k0_hw40 => k0_hw40.1
theorem k0_off91_inb : ∀ (v415 : BitVec 32) (k0_hw40 : k0_chk40 v415), ∀ a, (k0_off91 v415) a + S2x128.size a ≤ S15872x128.size a := fun v415 k0_hw40 => k0_hw40.2

def k0_off92 (k0_t2 : Fin k0_t2_loop.trips) : Fin 3 → Nat :=
  let c0_268 : Index := 0#32
  let c0_269 : Index := 0#32
  let c0_i32_11 : BitVec 32 := 0#32
  let c1_i32 : BitVec 32 := 1#32
  let arg15 : BitVec 32 := Scf.iv c0_i32_11 c1_i32 k0_t2
  let c4_i32_213 : BitVec 32 := 4#32
  let v340 : BitVec 32 := Scalar.muli arg15 c4_i32_213
  let c2_i32_214 : BitVec 32 := 2#32
  let v341 : BitVec 32 := Scalar.addi v340 c2_i32_214
  let c8_i32_215 : BitVec 32 := 8#32
  let v342 : BitVec 32 := Scalar.muli v341 c8_i32_215
  let c4_i32_267 : BitVec 32 := 4#32
  let v423 : BitVec 32 := Scalar.addi v342 c4_i32_267
  let v424 : Index := Scalar.indexCast v423
  ![0, 0, v424.toNat]
def k0_mult51 (v425 : BitVec 32) : BitVec 32 :=
  let c10_i32_270 : BitVec 32 := 10#32
  let v426 : BitVec 32 := Scalar.muli v425 c10_i32_270
  v426

def k0_off93 (v425 : BitVec 32) : Fin 3 → Nat :=
  let c10_i32_270 : BitVec 32 := 10#32
  let v426 : BitVec 32 := Scalar.muli v425 c10_i32_270
  let v427 : BitVec 32 := v426
  let v428 : Index := Scalar.indexCast v427
  let c0_271 : Index := 0#32
  ![v428.toNat, 0, 0]

def k0_chk41 (v425 : BitVec 32) : Prop :=
  (2 ∣ (k0_mult51 v425).toNat) ∧
  (∀ a, (k0_off93 v425) a + S10x2x128.size a ≤ S79360x2x128.size a)
theorem k0_mult51_dvd : ∀ (v425 : BitVec 32) (k0_hw41 : k0_chk41 v425), 2 ∣ (k0_mult51 v425).toNat := fun v425 k0_hw41 => k0_hw41.1
theorem k0_off93_inb : ∀ (v425 : BitVec 32) (k0_hw41 : k0_chk41 v425), ∀ a, (k0_off93 v425) a + S10x2x128.size a ≤ S79360x2x128.size a := fun v425 k0_hw41 => k0_hw41.2

def k0_off94 (k0_t2 : Fin k0_t2_loop.trips) : Fin 3 → Nat :=
  let c0_274 : Index := 0#32
  let c0_275 : Index := 0#32
  let c0_i32_11 : BitVec 32 := 0#32
  let c1_i32 : BitVec 32 := 1#32
  let arg15 : BitVec 32 := Scf.iv c0_i32_11 c1_i32 k0_t2
  let c4_i32_213 : BitVec 32 := 4#32
  let v340 : BitVec 32 := Scalar.muli arg15 c4_i32_213
  let c2_i32_214 : BitVec 32 := 2#32
  let v341 : BitVec 32 := Scalar.addi v340 c2_i32_214
  let c8_i32_215 : BitVec 32 := 8#32
  let v342 : BitVec 32 := Scalar.muli v341 c8_i32_215
  let c4_i32_273 : BitVec 32 := 4#32
  let v433 : BitVec 32 := Scalar.addi v342 c4_i32_273
  let v434 : Index := Scalar.indexCast v433
  ![0, 0, v434.toNat]
def k0_mult52 (v435 : BitVec 32) : BitVec 32 :=
  let c2_i32_276 : BitVec 32 := 2#32
  let v436 : BitVec 32 := Scalar.muli v435 c2_i32_276
  v436

def k0_off95 (v435 : BitVec 32) : Fin 2 → Nat :=
  let c2_i32_276 : BitVec 32 := 2#32
  let v436 : BitVec 32 := Scalar.muli v435 c2_i32_276
  let v437 : BitVec 32 := v436
  let v438 : Index := Scalar.indexCast v437
  let c0_277 : Index := 0#32
  ![v438.toNat, 0]

def k0_chk42 (v435 : BitVec 32) : Prop :=
  (2 ∣ (k0_mult52 v435).toNat) ∧
  (∀ a, (k0_off95 v435) a + S2x128.size a ≤ S15872x128.size a)
theorem k0_mult52_dvd : ∀ (v435 : BitVec 32) (k0_hw42 : k0_chk42 v435), 2 ∣ (k0_mult52 v435).toNat := fun v435 k0_hw42 => k0_hw42.1
theorem k0_off95_inb : ∀ (v435 : BitVec 32) (k0_hw42 : k0_chk42 v435), ∀ a, (k0_off95 v435) a + S2x128.size a ≤ S15872x128.size a := fun v435 k0_hw42 => k0_hw42.2

def k0_off96 (k0_t2 : Fin k0_t2_loop.trips) : Fin 3 → Nat :=
  let c0_280 : Index := 0#32
  let c0_281 : Index := 0#32
  let c0_i32_11 : BitVec 32 := 0#32
  let c1_i32 : BitVec 32 := 1#32
  let arg15 : BitVec 32 := Scf.iv c0_i32_11 c1_i32 k0_t2
  let c4_i32_213 : BitVec 32 := 4#32
  let v340 : BitVec 32 := Scalar.muli arg15 c4_i32_213
  let c2_i32_214 : BitVec 32 := 2#32
  let v341 : BitVec 32 := Scalar.addi v340 c2_i32_214
  let c8_i32_215 : BitVec 32 := 8#32
  let v342 : BitVec 32 := Scalar.muli v341 c8_i32_215
  let c5_i32_279 : BitVec 32 := 5#32
  let v443 : BitVec 32 := Scalar.addi v342 c5_i32_279
  let v444 : Index := Scalar.indexCast v443
  ![0, 0, v444.toNat]
def k0_mult53 (v445 : BitVec 32) : BitVec 32 :=
  let c10_i32_282 : BitVec 32 := 10#32
  let v446 : BitVec 32 := Scalar.muli v445 c10_i32_282
  v446

def k0_off97 (v445 : BitVec 32) : Fin 3 → Nat :=
  let c10_i32_282 : BitVec 32 := 10#32
  let v446 : BitVec 32 := Scalar.muli v445 c10_i32_282
  let v447 : BitVec 32 := v446
  let v448 : Index := Scalar.indexCast v447
  let c0_283 : Index := 0#32
  ![v448.toNat, 0, 0]

def k0_chk43 (v445 : BitVec 32) : Prop :=
  (2 ∣ (k0_mult53 v445).toNat) ∧
  (∀ a, (k0_off97 v445) a + S10x2x128.size a ≤ S79360x2x128.size a)
theorem k0_mult53_dvd : ∀ (v445 : BitVec 32) (k0_hw43 : k0_chk43 v445), 2 ∣ (k0_mult53 v445).toNat := fun v445 k0_hw43 => k0_hw43.1
theorem k0_off97_inb : ∀ (v445 : BitVec 32) (k0_hw43 : k0_chk43 v445), ∀ a, (k0_off97 v445) a + S10x2x128.size a ≤ S79360x2x128.size a := fun v445 k0_hw43 => k0_hw43.2

def k0_off98 (k0_t2 : Fin k0_t2_loop.trips) : Fin 3 → Nat :=
  let c0_286 : Index := 0#32
  let c0_287 : Index := 0#32
  let c0_i32_11 : BitVec 32 := 0#32
  let c1_i32 : BitVec 32 := 1#32
  let arg15 : BitVec 32 := Scf.iv c0_i32_11 c1_i32 k0_t2
  let c4_i32_213 : BitVec 32 := 4#32
  let v340 : BitVec 32 := Scalar.muli arg15 c4_i32_213
  let c2_i32_214 : BitVec 32 := 2#32
  let v341 : BitVec 32 := Scalar.addi v340 c2_i32_214
  let c8_i32_215 : BitVec 32 := 8#32
  let v342 : BitVec 32 := Scalar.muli v341 c8_i32_215
  let c5_i32_285 : BitVec 32 := 5#32
  let v453 : BitVec 32 := Scalar.addi v342 c5_i32_285
  let v454 : Index := Scalar.indexCast v453
  ![0, 0, v454.toNat]
def k0_mult54 (v455 : BitVec 32) : BitVec 32 :=
  let c2_i32_288 : BitVec 32 := 2#32
  let v456 : BitVec 32 := Scalar.muli v455 c2_i32_288
  v456

def k0_off99 (v455 : BitVec 32) : Fin 2 → Nat :=
  let c2_i32_288 : BitVec 32 := 2#32
  let v456 : BitVec 32 := Scalar.muli v455 c2_i32_288
  let v457 : BitVec 32 := v456
  let v458 : Index := Scalar.indexCast v457
  let c0_289 : Index := 0#32
  ![v458.toNat, 0]

def k0_chk44 (v455 : BitVec 32) : Prop :=
  (2 ∣ (k0_mult54 v455).toNat) ∧
  (∀ a, (k0_off99 v455) a + S2x128.size a ≤ S15872x128.size a)
theorem k0_mult54_dvd : ∀ (v455 : BitVec 32) (k0_hw44 : k0_chk44 v455), 2 ∣ (k0_mult54 v455).toNat := fun v455 k0_hw44 => k0_hw44.1
theorem k0_off99_inb : ∀ (v455 : BitVec 32) (k0_hw44 : k0_chk44 v455), ∀ a, (k0_off99 v455) a + S2x128.size a ≤ S15872x128.size a := fun v455 k0_hw44 => k0_hw44.2

def k0_off100 (k0_t2 : Fin k0_t2_loop.trips) : Fin 3 → Nat :=
  let c0_293 : Index := 0#32
  let c0_294 : Index := 0#32
  let c0_i32_11 : BitVec 32 := 0#32
  let c1_i32 : BitVec 32 := 1#32
  let arg15 : BitVec 32 := Scf.iv c0_i32_11 c1_i32 k0_t2
  let c4_i32_213 : BitVec 32 := 4#32
  let v340 : BitVec 32 := Scalar.muli arg15 c4_i32_213
  let c2_i32_214 : BitVec 32 := 2#32
  let v341 : BitVec 32 := Scalar.addi v340 c2_i32_214
  let c8_i32_215 : BitVec 32 := 8#32
  let v342 : BitVec 32 := Scalar.muli v341 c8_i32_215
  let c6_i32_292 : BitVec 32 := 6#32
  let v463 : BitVec 32 := Scalar.addi v342 c6_i32_292
  let v464 : Index := Scalar.indexCast v463
  ![0, 0, v464.toNat]
def k0_mult55 (v465 : BitVec 32) : BitVec 32 :=
  let c10_i32_295 : BitVec 32 := 10#32
  let v466 : BitVec 32 := Scalar.muli v465 c10_i32_295
  v466

def k0_off101 (v465 : BitVec 32) : Fin 3 → Nat :=
  let c10_i32_295 : BitVec 32 := 10#32
  let v466 : BitVec 32 := Scalar.muli v465 c10_i32_295
  let v467 : BitVec 32 := v466
  let v468 : Index := Scalar.indexCast v467
  let c0_296 : Index := 0#32
  ![v468.toNat, 0, 0]

def k0_chk45 (v465 : BitVec 32) : Prop :=
  (2 ∣ (k0_mult55 v465).toNat) ∧
  (∀ a, (k0_off101 v465) a + S10x2x128.size a ≤ S79360x2x128.size a)
theorem k0_mult55_dvd : ∀ (v465 : BitVec 32) (k0_hw45 : k0_chk45 v465), 2 ∣ (k0_mult55 v465).toNat := fun v465 k0_hw45 => k0_hw45.1
theorem k0_off101_inb : ∀ (v465 : BitVec 32) (k0_hw45 : k0_chk45 v465), ∀ a, (k0_off101 v465) a + S10x2x128.size a ≤ S79360x2x128.size a := fun v465 k0_hw45 => k0_hw45.2

def k0_off102 (k0_t2 : Fin k0_t2_loop.trips) : Fin 3 → Nat :=
  let c0_299 : Index := 0#32
  let c0_300 : Index := 0#32
  let c0_i32_11 : BitVec 32 := 0#32
  let c1_i32 : BitVec 32 := 1#32
  let arg15 : BitVec 32 := Scf.iv c0_i32_11 c1_i32 k0_t2
  let c4_i32_213 : BitVec 32 := 4#32
  let v340 : BitVec 32 := Scalar.muli arg15 c4_i32_213
  let c2_i32_214 : BitVec 32 := 2#32
  let v341 : BitVec 32 := Scalar.addi v340 c2_i32_214
  let c8_i32_215 : BitVec 32 := 8#32
  let v342 : BitVec 32 := Scalar.muli v341 c8_i32_215
  let c6_i32_298 : BitVec 32 := 6#32
  let v473 : BitVec 32 := Scalar.addi v342 c6_i32_298
  let v474 : Index := Scalar.indexCast v473
  ![0, 0, v474.toNat]
def k0_mult56 (v475 : BitVec 32) : BitVec 32 :=
  let c2_i32_301 : BitVec 32 := 2#32
  let v476 : BitVec 32 := Scalar.muli v475 c2_i32_301
  v476

def k0_off103 (v475 : BitVec 32) : Fin 2 → Nat :=
  let c2_i32_301 : BitVec 32 := 2#32
  let v476 : BitVec 32 := Scalar.muli v475 c2_i32_301
  let v477 : BitVec 32 := v476
  let v478 : Index := Scalar.indexCast v477
  let c0_302 : Index := 0#32
  ![v478.toNat, 0]

def k0_chk46 (v475 : BitVec 32) : Prop :=
  (2 ∣ (k0_mult56 v475).toNat) ∧
  (∀ a, (k0_off103 v475) a + S2x128.size a ≤ S15872x128.size a)
theorem k0_mult56_dvd : ∀ (v475 : BitVec 32) (k0_hw46 : k0_chk46 v475), 2 ∣ (k0_mult56 v475).toNat := fun v475 k0_hw46 => k0_hw46.1
theorem k0_off103_inb : ∀ (v475 : BitVec 32) (k0_hw46 : k0_chk46 v475), ∀ a, (k0_off103 v475) a + S2x128.size a ≤ S15872x128.size a := fun v475 k0_hw46 => k0_hw46.2

def k0_off104 (k0_t2 : Fin k0_t2_loop.trips) : Fin 3 → Nat :=
  let c0_305 : Index := 0#32
  let c0_306 : Index := 0#32
  let c0_i32_11 : BitVec 32 := 0#32
  let c1_i32 : BitVec 32 := 1#32
  let arg15 : BitVec 32 := Scf.iv c0_i32_11 c1_i32 k0_t2
  let c4_i32_213 : BitVec 32 := 4#32
  let v340 : BitVec 32 := Scalar.muli arg15 c4_i32_213
  let c2_i32_214 : BitVec 32 := 2#32
  let v341 : BitVec 32 := Scalar.addi v340 c2_i32_214
  let c8_i32_215 : BitVec 32 := 8#32
  let v342 : BitVec 32 := Scalar.muli v341 c8_i32_215
  let c7_i32_304 : BitVec 32 := 7#32
  let v483 : BitVec 32 := Scalar.addi v342 c7_i32_304
  let v484 : Index := Scalar.indexCast v483
  ![0, 0, v484.toNat]
def k0_mult57 (v485 : BitVec 32) : BitVec 32 :=
  let c10_i32_307 : BitVec 32 := 10#32
  let v486 : BitVec 32 := Scalar.muli v485 c10_i32_307
  v486

def k0_off105 (v485 : BitVec 32) : Fin 3 → Nat :=
  let c10_i32_307 : BitVec 32 := 10#32
  let v486 : BitVec 32 := Scalar.muli v485 c10_i32_307
  let v487 : BitVec 32 := v486
  let v488 : Index := Scalar.indexCast v487
  let c0_308 : Index := 0#32
  ![v488.toNat, 0, 0]

def k0_chk47 (v485 : BitVec 32) : Prop :=
  (2 ∣ (k0_mult57 v485).toNat) ∧
  (∀ a, (k0_off105 v485) a + S10x2x128.size a ≤ S79360x2x128.size a)
theorem k0_mult57_dvd : ∀ (v485 : BitVec 32) (k0_hw47 : k0_chk47 v485), 2 ∣ (k0_mult57 v485).toNat := fun v485 k0_hw47 => k0_hw47.1
theorem k0_off105_inb : ∀ (v485 : BitVec 32) (k0_hw47 : k0_chk47 v485), ∀ a, (k0_off105 v485) a + S10x2x128.size a ≤ S79360x2x128.size a := fun v485 k0_hw47 => k0_hw47.2

def k0_off106 (k0_t2 : Fin k0_t2_loop.trips) : Fin 3 → Nat :=
  let c0_311 : Index := 0#32
  let c0_312 : Index := 0#32
  let c0_i32_11 : BitVec 32 := 0#32
  let c1_i32 : BitVec 32 := 1#32
  let arg15 : BitVec 32 := Scf.iv c0_i32_11 c1_i32 k0_t2
  let c4_i32_213 : BitVec 32 := 4#32
  let v340 : BitVec 32 := Scalar.muli arg15 c4_i32_213
  let c2_i32_214 : BitVec 32 := 2#32
  let v341 : BitVec 32 := Scalar.addi v340 c2_i32_214
  let c8_i32_215 : BitVec 32 := 8#32
  let v342 : BitVec 32 := Scalar.muli v341 c8_i32_215
  let c7_i32_310 : BitVec 32 := 7#32
  let v493 : BitVec 32 := Scalar.addi v342 c7_i32_310
  let v494 : Index := Scalar.indexCast v493
  ![0, 0, v494.toNat]
def k0_mult58 (v495 : BitVec 32) : BitVec 32 :=
  let c2_i32_313 : BitVec 32 := 2#32
  let v496 : BitVec 32 := Scalar.muli v495 c2_i32_313
  v496

def k0_off107 (v495 : BitVec 32) : Fin 2 → Nat :=
  let c2_i32_313 : BitVec 32 := 2#32
  let v496 : BitVec 32 := Scalar.muli v495 c2_i32_313
  let v497 : BitVec 32 := v496
  let v498 : Index := Scalar.indexCast v497
  let c0_314 : Index := 0#32
  ![v498.toNat, 0]

def k0_chk48 (v495 : BitVec 32) : Prop :=
  (2 ∣ (k0_mult58 v495).toNat) ∧
  (∀ a, (k0_off107 v495) a + S2x128.size a ≤ S15872x128.size a)
theorem k0_mult58_dvd : ∀ (v495 : BitVec 32) (k0_hw48 : k0_chk48 v495), 2 ∣ (k0_mult58 v495).toNat := fun v495 k0_hw48 => k0_hw48.1
theorem k0_off107_inb : ∀ (v495 : BitVec 32) (k0_hw48 : k0_chk48 v495), ∀ a, (k0_off107 v495) a + S2x128.size a ≤ S15872x128.size a := fun v495 k0_hw48 => k0_hw48.2

def k0_off108 (k0_t2 : Fin k0_t2_loop.trips) : Fin 3 → Nat :=
  let c0_321 : Index := 0#32
  let c0_322 : Index := 0#32
  let c0_i32_11 : BitVec 32 := 0#32
  let c1_i32 : BitVec 32 := 1#32
  let arg15 : BitVec 32 := Scf.iv c0_i32_11 c1_i32 k0_t2
  let c4_i32_317 : BitVec 32 := 4#32
  let v503 : BitVec 32 := Scalar.muli arg15 c4_i32_317
  let c3_i32_318 : BitVec 32 := 3#32
  let v504 : BitVec 32 := Scalar.addi v503 c3_i32_318
  let c8_i32_319 : BitVec 32 := 8#32
  let v505 : BitVec 32 := Scalar.muli v504 c8_i32_319
  let c0_i32_320 : BitVec 32 := 0#32
  let v506 : BitVec 32 := Scalar.addi v505 c0_i32_320
  let v507 : Index := Scalar.indexCast v506
  ![0, 0, v507.toNat]
def k0_mult59 (v508 : BitVec 32) : BitVec 32 :=
  let c10_i32_323 : BitVec 32 := 10#32
  let v509 : BitVec 32 := Scalar.muli v508 c10_i32_323
  v509

def k0_off109 (v508 : BitVec 32) : Fin 3 → Nat :=
  let c10_i32_323 : BitVec 32 := 10#32
  let v509 : BitVec 32 := Scalar.muli v508 c10_i32_323
  let v510 : BitVec 32 := v509
  let v511 : Index := Scalar.indexCast v510
  let c0_324 : Index := 0#32
  ![v511.toNat, 0, 0]

def k0_chk49 (v508 : BitVec 32) : Prop :=
  (2 ∣ (k0_mult59 v508).toNat) ∧
  (∀ a, (k0_off109 v508) a + S10x2x128.size a ≤ S79360x2x128.size a)
theorem k0_mult59_dvd : ∀ (v508 : BitVec 32) (k0_hw49 : k0_chk49 v508), 2 ∣ (k0_mult59 v508).toNat := fun v508 k0_hw49 => k0_hw49.1
theorem k0_off109_inb : ∀ (v508 : BitVec 32) (k0_hw49 : k0_chk49 v508), ∀ a, (k0_off109 v508) a + S10x2x128.size a ≤ S79360x2x128.size a := fun v508 k0_hw49 => k0_hw49.2

def k0_off110 (k0_t2 : Fin k0_t2_loop.trips) : Fin 3 → Nat :=
  let c0_327 : Index := 0#32
  let c0_328 : Index := 0#32
  let c0_i32_11 : BitVec 32 := 0#32
  let c1_i32 : BitVec 32 := 1#32
  let arg15 : BitVec 32 := Scf.iv c0_i32_11 c1_i32 k0_t2
  let c4_i32_317 : BitVec 32 := 4#32
  let v503 : BitVec 32 := Scalar.muli arg15 c4_i32_317
  let c3_i32_318 : BitVec 32 := 3#32
  let v504 : BitVec 32 := Scalar.addi v503 c3_i32_318
  let c8_i32_319 : BitVec 32 := 8#32
  let v505 : BitVec 32 := Scalar.muli v504 c8_i32_319
  let c0_i32_326 : BitVec 32 := 0#32
  let v516 : BitVec 32 := Scalar.addi v505 c0_i32_326
  let v517 : Index := Scalar.indexCast v516
  ![0, 0, v517.toNat]
def k0_mult60 (v518 : BitVec 32) : BitVec 32 :=
  let c2_i32_329 : BitVec 32 := 2#32
  let v519 : BitVec 32 := Scalar.muli v518 c2_i32_329
  v519

def k0_off111 (v518 : BitVec 32) : Fin 2 → Nat :=
  let c2_i32_329 : BitVec 32 := 2#32
  let v519 : BitVec 32 := Scalar.muli v518 c2_i32_329
  let v520 : BitVec 32 := v519
  let v521 : Index := Scalar.indexCast v520
  let c0_330 : Index := 0#32
  ![v521.toNat, 0]

def k0_chk50 (v518 : BitVec 32) : Prop :=
  (2 ∣ (k0_mult60 v518).toNat) ∧
  (∀ a, (k0_off111 v518) a + S2x128.size a ≤ S15872x128.size a)
theorem k0_mult60_dvd : ∀ (v518 : BitVec 32) (k0_hw50 : k0_chk50 v518), 2 ∣ (k0_mult60 v518).toNat := fun v518 k0_hw50 => k0_hw50.1
theorem k0_off111_inb : ∀ (v518 : BitVec 32) (k0_hw50 : k0_chk50 v518), ∀ a, (k0_off111 v518) a + S2x128.size a ≤ S15872x128.size a := fun v518 k0_hw50 => k0_hw50.2

def k0_off112 (k0_t2 : Fin k0_t2_loop.trips) : Fin 3 → Nat :=
  let c0_334 : Index := 0#32
  let c0_335 : Index := 0#32
  let c0_i32_11 : BitVec 32 := 0#32
  let c1_i32 : BitVec 32 := 1#32
  let arg15 : BitVec 32 := Scf.iv c0_i32_11 c1_i32 k0_t2
  let c4_i32_317 : BitVec 32 := 4#32
  let v503 : BitVec 32 := Scalar.muli arg15 c4_i32_317
  let c3_i32_318 : BitVec 32 := 3#32
  let v504 : BitVec 32 := Scalar.addi v503 c3_i32_318
  let c8_i32_319 : BitVec 32 := 8#32
  let v505 : BitVec 32 := Scalar.muli v504 c8_i32_319
  let c1_i32_333 : BitVec 32 := 1#32
  let v526 : BitVec 32 := Scalar.addi v505 c1_i32_333
  let v527 : Index := Scalar.indexCast v526
  ![0, 0, v527.toNat]
def k0_mult61 (v528 : BitVec 32) : BitVec 32 :=
  let c10_i32_336 : BitVec 32 := 10#32
  let v529 : BitVec 32 := Scalar.muli v528 c10_i32_336
  v529

def k0_off113 (v528 : BitVec 32) : Fin 3 → Nat :=
  let c10_i32_336 : BitVec 32 := 10#32
  let v529 : BitVec 32 := Scalar.muli v528 c10_i32_336
  let v530 : BitVec 32 := v529
  let v531 : Index := Scalar.indexCast v530
  let c0_337 : Index := 0#32
  ![v531.toNat, 0, 0]

def k0_chk51 (v528 : BitVec 32) : Prop :=
  (2 ∣ (k0_mult61 v528).toNat) ∧
  (∀ a, (k0_off113 v528) a + S10x2x128.size a ≤ S79360x2x128.size a)
theorem k0_mult61_dvd : ∀ (v528 : BitVec 32) (k0_hw51 : k0_chk51 v528), 2 ∣ (k0_mult61 v528).toNat := fun v528 k0_hw51 => k0_hw51.1
theorem k0_off113_inb : ∀ (v528 : BitVec 32) (k0_hw51 : k0_chk51 v528), ∀ a, (k0_off113 v528) a + S10x2x128.size a ≤ S79360x2x128.size a := fun v528 k0_hw51 => k0_hw51.2

def k0_off114 (k0_t2 : Fin k0_t2_loop.trips) : Fin 3 → Nat :=
  let c0_340 : Index := 0#32
  let c0_341 : Index := 0#32
  let c0_i32_11 : BitVec 32 := 0#32
  let c1_i32 : BitVec 32 := 1#32
  let arg15 : BitVec 32 := Scf.iv c0_i32_11 c1_i32 k0_t2
  let c4_i32_317 : BitVec 32 := 4#32
  let v503 : BitVec 32 := Scalar.muli arg15 c4_i32_317
  let c3_i32_318 : BitVec 32 := 3#32
  let v504 : BitVec 32 := Scalar.addi v503 c3_i32_318
  let c8_i32_319 : BitVec 32 := 8#32
  let v505 : BitVec 32 := Scalar.muli v504 c8_i32_319
  let c1_i32_339 : BitVec 32 := 1#32
  let v536 : BitVec 32 := Scalar.addi v505 c1_i32_339
  let v537 : Index := Scalar.indexCast v536
  ![0, 0, v537.toNat]
def k0_mult62 (v538 : BitVec 32) : BitVec 32 :=
  let c2_i32_342 : BitVec 32 := 2#32
  let v539 : BitVec 32 := Scalar.muli v538 c2_i32_342
  v539

def k0_off115 (v538 : BitVec 32) : Fin 2 → Nat :=
  let c2_i32_342 : BitVec 32 := 2#32
  let v539 : BitVec 32 := Scalar.muli v538 c2_i32_342
  let v540 : BitVec 32 := v539
  let v541 : Index := Scalar.indexCast v540
  let c0_343 : Index := 0#32
  ![v541.toNat, 0]

def k0_chk52 (v538 : BitVec 32) : Prop :=
  (2 ∣ (k0_mult62 v538).toNat) ∧
  (∀ a, (k0_off115 v538) a + S2x128.size a ≤ S15872x128.size a)
theorem k0_mult62_dvd : ∀ (v538 : BitVec 32) (k0_hw52 : k0_chk52 v538), 2 ∣ (k0_mult62 v538).toNat := fun v538 k0_hw52 => k0_hw52.1
theorem k0_off115_inb : ∀ (v538 : BitVec 32) (k0_hw52 : k0_chk52 v538), ∀ a, (k0_off115 v538) a + S2x128.size a ≤ S15872x128.size a := fun v538 k0_hw52 => k0_hw52.2

def k0_off116 (k0_t2 : Fin k0_t2_loop.trips) : Fin 3 → Nat :=
  let c0_347 : Index := 0#32
  let c0_348 : Index := 0#32
  let c0_i32_11 : BitVec 32 := 0#32
  let c1_i32 : BitVec 32 := 1#32
  let arg15 : BitVec 32 := Scf.iv c0_i32_11 c1_i32 k0_t2
  let c4_i32_317 : BitVec 32 := 4#32
  let v503 : BitVec 32 := Scalar.muli arg15 c4_i32_317
  let c3_i32_318 : BitVec 32 := 3#32
  let v504 : BitVec 32 := Scalar.addi v503 c3_i32_318
  let c8_i32_319 : BitVec 32 := 8#32
  let v505 : BitVec 32 := Scalar.muli v504 c8_i32_319
  let c2_i32_346 : BitVec 32 := 2#32
  let v546 : BitVec 32 := Scalar.addi v505 c2_i32_346
  let v547 : Index := Scalar.indexCast v546
  ![0, 0, v547.toNat]
def k0_mult63 (v548 : BitVec 32) : BitVec 32 :=
  let c10_i32_349 : BitVec 32 := 10#32
  let v549 : BitVec 32 := Scalar.muli v548 c10_i32_349
  v549

def k0_off117 (v548 : BitVec 32) : Fin 3 → Nat :=
  let c10_i32_349 : BitVec 32 := 10#32
  let v549 : BitVec 32 := Scalar.muli v548 c10_i32_349
  let v550 : BitVec 32 := v549
  let v551 : Index := Scalar.indexCast v550
  let c0_350 : Index := 0#32
  ![v551.toNat, 0, 0]

def k0_chk53 (v548 : BitVec 32) : Prop :=
  (2 ∣ (k0_mult63 v548).toNat) ∧
  (∀ a, (k0_off117 v548) a + S10x2x128.size a ≤ S79360x2x128.size a)
theorem k0_mult63_dvd : ∀ (v548 : BitVec 32) (k0_hw53 : k0_chk53 v548), 2 ∣ (k0_mult63 v548).toNat := fun v548 k0_hw53 => k0_hw53.1
theorem k0_off117_inb : ∀ (v548 : BitVec 32) (k0_hw53 : k0_chk53 v548), ∀ a, (k0_off117 v548) a + S10x2x128.size a ≤ S79360x2x128.size a := fun v548 k0_hw53 => k0_hw53.2

def k0_off118 (k0_t2 : Fin k0_t2_loop.trips) : Fin 3 → Nat :=
  let c0_353 : Index := 0#32
  let c0_354 : Index := 0#32
  let c0_i32_11 : BitVec 32 := 0#32
  let c1_i32 : BitVec 32 := 1#32
  let arg15 : BitVec 32 := Scf.iv c0_i32_11 c1_i32 k0_t2
  let c4_i32_317 : BitVec 32 := 4#32
  let v503 : BitVec 32 := Scalar.muli arg15 c4_i32_317
  let c3_i32_318 : BitVec 32 := 3#32
  let v504 : BitVec 32 := Scalar.addi v503 c3_i32_318
  let c8_i32_319 : BitVec 32 := 8#32
  let v505 : BitVec 32 := Scalar.muli v504 c8_i32_319
  let c2_i32_352 : BitVec 32 := 2#32
  let v556 : BitVec 32 := Scalar.addi v505 c2_i32_352
  let v557 : Index := Scalar.indexCast v556
  ![0, 0, v557.toNat]
def k0_mult64 (v558 : BitVec 32) : BitVec 32 :=
  let c2_i32_355 : BitVec 32 := 2#32
  let v559 : BitVec 32 := Scalar.muli v558 c2_i32_355
  v559

def k0_off119 (v558 : BitVec 32) : Fin 2 → Nat :=
  let c2_i32_355 : BitVec 32 := 2#32
  let v559 : BitVec 32 := Scalar.muli v558 c2_i32_355
  let v560 : BitVec 32 := v559
  let v561 : Index := Scalar.indexCast v560
  let c0_356 : Index := 0#32
  ![v561.toNat, 0]

def k0_chk54 (v558 : BitVec 32) : Prop :=
  (2 ∣ (k0_mult64 v558).toNat) ∧
  (∀ a, (k0_off119 v558) a + S2x128.size a ≤ S15872x128.size a)
theorem k0_mult64_dvd : ∀ (v558 : BitVec 32) (k0_hw54 : k0_chk54 v558), 2 ∣ (k0_mult64 v558).toNat := fun v558 k0_hw54 => k0_hw54.1
theorem k0_off119_inb : ∀ (v558 : BitVec 32) (k0_hw54 : k0_chk54 v558), ∀ a, (k0_off119 v558) a + S2x128.size a ≤ S15872x128.size a := fun v558 k0_hw54 => k0_hw54.2

def k0_off120 (k0_t2 : Fin k0_t2_loop.trips) : Fin 3 → Nat :=
  let c0_359 : Index := 0#32
  let c0_360 : Index := 0#32
  let c0_i32_11 : BitVec 32 := 0#32
  let c1_i32 : BitVec 32 := 1#32
  let arg15 : BitVec 32 := Scf.iv c0_i32_11 c1_i32 k0_t2
  let c4_i32_317 : BitVec 32 := 4#32
  let v503 : BitVec 32 := Scalar.muli arg15 c4_i32_317
  let c3_i32_318 : BitVec 32 := 3#32
  let v504 : BitVec 32 := Scalar.addi v503 c3_i32_318
  let c8_i32_319 : BitVec 32 := 8#32
  let v505 : BitVec 32 := Scalar.muli v504 c8_i32_319
  let c3_i32_358 : BitVec 32 := 3#32
  let v566 : BitVec 32 := Scalar.addi v505 c3_i32_358
  let v567 : Index := Scalar.indexCast v566
  ![0, 0, v567.toNat]
def k0_mult65 (v568 : BitVec 32) : BitVec 32 :=
  let c10_i32_361 : BitVec 32 := 10#32
  let v569 : BitVec 32 := Scalar.muli v568 c10_i32_361
  v569

def k0_off121 (v568 : BitVec 32) : Fin 3 → Nat :=
  let c10_i32_361 : BitVec 32 := 10#32
  let v569 : BitVec 32 := Scalar.muli v568 c10_i32_361
  let v570 : BitVec 32 := v569
  let v571 : Index := Scalar.indexCast v570
  let c0_362 : Index := 0#32
  ![v571.toNat, 0, 0]

def k0_chk55 (v568 : BitVec 32) : Prop :=
  (2 ∣ (k0_mult65 v568).toNat) ∧
  (∀ a, (k0_off121 v568) a + S10x2x128.size a ≤ S79360x2x128.size a)
theorem k0_mult65_dvd : ∀ (v568 : BitVec 32) (k0_hw55 : k0_chk55 v568), 2 ∣ (k0_mult65 v568).toNat := fun v568 k0_hw55 => k0_hw55.1
theorem k0_off121_inb : ∀ (v568 : BitVec 32) (k0_hw55 : k0_chk55 v568), ∀ a, (k0_off121 v568) a + S10x2x128.size a ≤ S79360x2x128.size a := fun v568 k0_hw55 => k0_hw55.2

def k0_off122 (k0_t2 : Fin k0_t2_loop.trips) : Fin 3 → Nat :=
  let c0_365 : Index := 0#32
  let c0_366 : Index := 0#32
  let c0_i32_11 : BitVec 32 := 0#32
  let c1_i32 : BitVec 32 := 1#32
  let arg15 : BitVec 32 := Scf.iv c0_i32_11 c1_i32 k0_t2
  let c4_i32_317 : BitVec 32 := 4#32
  let v503 : BitVec 32 := Scalar.muli arg15 c4_i32_317
  let c3_i32_318 : BitVec 32 := 3#32
  let v504 : BitVec 32 := Scalar.addi v503 c3_i32_318
  let c8_i32_319 : BitVec 32 := 8#32
  let v505 : BitVec 32 := Scalar.muli v504 c8_i32_319
  let c3_i32_364 : BitVec 32 := 3#32
  let v576 : BitVec 32 := Scalar.addi v505 c3_i32_364
  let v577 : Index := Scalar.indexCast v576
  ![0, 0, v577.toNat]
def k0_mult66 (v578 : BitVec 32) : BitVec 32 :=
  let c2_i32_367 : BitVec 32 := 2#32
  let v579 : BitVec 32 := Scalar.muli v578 c2_i32_367
  v579

def k0_off123 (v578 : BitVec 32) : Fin 2 → Nat :=
  let c2_i32_367 : BitVec 32 := 2#32
  let v579 : BitVec 32 := Scalar.muli v578 c2_i32_367
  let v580 : BitVec 32 := v579
  let v581 : Index := Scalar.indexCast v580
  let c0_368 : Index := 0#32
  ![v581.toNat, 0]

def k0_chk56 (v578 : BitVec 32) : Prop :=
  (2 ∣ (k0_mult66 v578).toNat) ∧
  (∀ a, (k0_off123 v578) a + S2x128.size a ≤ S15872x128.size a)
theorem k0_mult66_dvd : ∀ (v578 : BitVec 32) (k0_hw56 : k0_chk56 v578), 2 ∣ (k0_mult66 v578).toNat := fun v578 k0_hw56 => k0_hw56.1
theorem k0_off123_inb : ∀ (v578 : BitVec 32) (k0_hw56 : k0_chk56 v578), ∀ a, (k0_off123 v578) a + S2x128.size a ≤ S15872x128.size a := fun v578 k0_hw56 => k0_hw56.2

def k0_off124 (k0_t2 : Fin k0_t2_loop.trips) : Fin 3 → Nat :=
  let c0_371 : Index := 0#32
  let c0_372 : Index := 0#32
  let c0_i32_11 : BitVec 32 := 0#32
  let c1_i32 : BitVec 32 := 1#32
  let arg15 : BitVec 32 := Scf.iv c0_i32_11 c1_i32 k0_t2
  let c4_i32_317 : BitVec 32 := 4#32
  let v503 : BitVec 32 := Scalar.muli arg15 c4_i32_317
  let c3_i32_318 : BitVec 32 := 3#32
  let v504 : BitVec 32 := Scalar.addi v503 c3_i32_318
  let c8_i32_319 : BitVec 32 := 8#32
  let v505 : BitVec 32 := Scalar.muli v504 c8_i32_319
  let c4_i32_370 : BitVec 32 := 4#32
  let v586 : BitVec 32 := Scalar.addi v505 c4_i32_370
  let v587 : Index := Scalar.indexCast v586
  ![0, 0, v587.toNat]
def k0_mult67 (v588 : BitVec 32) : BitVec 32 :=
  let c10_i32_373 : BitVec 32 := 10#32
  let v589 : BitVec 32 := Scalar.muli v588 c10_i32_373
  v589

def k0_off125 (v588 : BitVec 32) : Fin 3 → Nat :=
  let c10_i32_373 : BitVec 32 := 10#32
  let v589 : BitVec 32 := Scalar.muli v588 c10_i32_373
  let v590 : BitVec 32 := v589
  let v591 : Index := Scalar.indexCast v590
  let c0_374 : Index := 0#32
  ![v591.toNat, 0, 0]

def k0_chk57 (v588 : BitVec 32) : Prop :=
  (2 ∣ (k0_mult67 v588).toNat) ∧
  (∀ a, (k0_off125 v588) a + S10x2x128.size a ≤ S79360x2x128.size a)
theorem k0_mult67_dvd : ∀ (v588 : BitVec 32) (k0_hw57 : k0_chk57 v588), 2 ∣ (k0_mult67 v588).toNat := fun v588 k0_hw57 => k0_hw57.1
theorem k0_off125_inb : ∀ (v588 : BitVec 32) (k0_hw57 : k0_chk57 v588), ∀ a, (k0_off125 v588) a + S10x2x128.size a ≤ S79360x2x128.size a := fun v588 k0_hw57 => k0_hw57.2

def k0_off126 (k0_t2 : Fin k0_t2_loop.trips) : Fin 3 → Nat :=
  let c0_377 : Index := 0#32
  let c0_378 : Index := 0#32
  let c0_i32_11 : BitVec 32 := 0#32
  let c1_i32 : BitVec 32 := 1#32
  let arg15 : BitVec 32 := Scf.iv c0_i32_11 c1_i32 k0_t2
  let c4_i32_317 : BitVec 32 := 4#32
  let v503 : BitVec 32 := Scalar.muli arg15 c4_i32_317
  let c3_i32_318 : BitVec 32 := 3#32
  let v504 : BitVec 32 := Scalar.addi v503 c3_i32_318
  let c8_i32_319 : BitVec 32 := 8#32
  let v505 : BitVec 32 := Scalar.muli v504 c8_i32_319
  let c4_i32_376 : BitVec 32 := 4#32
  let v596 : BitVec 32 := Scalar.addi v505 c4_i32_376
  let v597 : Index := Scalar.indexCast v596
  ![0, 0, v597.toNat]
def k0_mult68 (v598 : BitVec 32) : BitVec 32 :=
  let c2_i32_379 : BitVec 32 := 2#32
  let v599 : BitVec 32 := Scalar.muli v598 c2_i32_379
  v599

def k0_off127 (v598 : BitVec 32) : Fin 2 → Nat :=
  let c2_i32_379 : BitVec 32 := 2#32
  let v599 : BitVec 32 := Scalar.muli v598 c2_i32_379
  let v600 : BitVec 32 := v599
  let v601 : Index := Scalar.indexCast v600
  let c0_380 : Index := 0#32
  ![v601.toNat, 0]

def k0_chk58 (v598 : BitVec 32) : Prop :=
  (2 ∣ (k0_mult68 v598).toNat) ∧
  (∀ a, (k0_off127 v598) a + S2x128.size a ≤ S15872x128.size a)
theorem k0_mult68_dvd : ∀ (v598 : BitVec 32) (k0_hw58 : k0_chk58 v598), 2 ∣ (k0_mult68 v598).toNat := fun v598 k0_hw58 => k0_hw58.1
theorem k0_off127_inb : ∀ (v598 : BitVec 32) (k0_hw58 : k0_chk58 v598), ∀ a, (k0_off127 v598) a + S2x128.size a ≤ S15872x128.size a := fun v598 k0_hw58 => k0_hw58.2

def k0_off128 (k0_t2 : Fin k0_t2_loop.trips) : Fin 3 → Nat :=
  let c0_383 : Index := 0#32
  let c0_384 : Index := 0#32
  let c0_i32_11 : BitVec 32 := 0#32
  let c1_i32 : BitVec 32 := 1#32
  let arg15 : BitVec 32 := Scf.iv c0_i32_11 c1_i32 k0_t2
  let c4_i32_317 : BitVec 32 := 4#32
  let v503 : BitVec 32 := Scalar.muli arg15 c4_i32_317
  let c3_i32_318 : BitVec 32 := 3#32
  let v504 : BitVec 32 := Scalar.addi v503 c3_i32_318
  let c8_i32_319 : BitVec 32 := 8#32
  let v505 : BitVec 32 := Scalar.muli v504 c8_i32_319
  let c5_i32_382 : BitVec 32 := 5#32
  let v606 : BitVec 32 := Scalar.addi v505 c5_i32_382
  let v607 : Index := Scalar.indexCast v606
  ![0, 0, v607.toNat]
def k0_mult69 (v608 : BitVec 32) : BitVec 32 :=
  let c10_i32_385 : BitVec 32 := 10#32
  let v609 : BitVec 32 := Scalar.muli v608 c10_i32_385
  v609

def k0_off129 (v608 : BitVec 32) : Fin 3 → Nat :=
  let c10_i32_385 : BitVec 32 := 10#32
  let v609 : BitVec 32 := Scalar.muli v608 c10_i32_385
  let v610 : BitVec 32 := v609
  let v611 : Index := Scalar.indexCast v610
  let c0_386 : Index := 0#32
  ![v611.toNat, 0, 0]

def k0_chk59 (v608 : BitVec 32) : Prop :=
  (2 ∣ (k0_mult69 v608).toNat) ∧
  (∀ a, (k0_off129 v608) a + S10x2x128.size a ≤ S79360x2x128.size a)
theorem k0_mult69_dvd : ∀ (v608 : BitVec 32) (k0_hw59 : k0_chk59 v608), 2 ∣ (k0_mult69 v608).toNat := fun v608 k0_hw59 => k0_hw59.1
theorem k0_off129_inb : ∀ (v608 : BitVec 32) (k0_hw59 : k0_chk59 v608), ∀ a, (k0_off129 v608) a + S10x2x128.size a ≤ S79360x2x128.size a := fun v608 k0_hw59 => k0_hw59.2

def k0_off130 (k0_t2 : Fin k0_t2_loop.trips) : Fin 3 → Nat :=
  let c0_389 : Index := 0#32
  let c0_390 : Index := 0#32
  let c0_i32_11 : BitVec 32 := 0#32
  let c1_i32 : BitVec 32 := 1#32
  let arg15 : BitVec 32 := Scf.iv c0_i32_11 c1_i32 k0_t2
  let c4_i32_317 : BitVec 32 := 4#32
  let v503 : BitVec 32 := Scalar.muli arg15 c4_i32_317
  let c3_i32_318 : BitVec 32 := 3#32
  let v504 : BitVec 32 := Scalar.addi v503 c3_i32_318
  let c8_i32_319 : BitVec 32 := 8#32
  let v505 : BitVec 32 := Scalar.muli v504 c8_i32_319
  let c5_i32_388 : BitVec 32 := 5#32
  let v616 : BitVec 32 := Scalar.addi v505 c5_i32_388
  let v617 : Index := Scalar.indexCast v616
  ![0, 0, v617.toNat]
def k0_mult70 (v618 : BitVec 32) : BitVec 32 :=
  let c2_i32_391 : BitVec 32 := 2#32
  let v619 : BitVec 32 := Scalar.muli v618 c2_i32_391
  v619

def k0_off131 (v618 : BitVec 32) : Fin 2 → Nat :=
  let c2_i32_391 : BitVec 32 := 2#32
  let v619 : BitVec 32 := Scalar.muli v618 c2_i32_391
  let v620 : BitVec 32 := v619
  let v621 : Index := Scalar.indexCast v620
  let c0_392 : Index := 0#32
  ![v621.toNat, 0]

def k0_chk60 (v618 : BitVec 32) : Prop :=
  (2 ∣ (k0_mult70 v618).toNat) ∧
  (∀ a, (k0_off131 v618) a + S2x128.size a ≤ S15872x128.size a)
theorem k0_mult70_dvd : ∀ (v618 : BitVec 32) (k0_hw60 : k0_chk60 v618), 2 ∣ (k0_mult70 v618).toNat := fun v618 k0_hw60 => k0_hw60.1
theorem k0_off131_inb : ∀ (v618 : BitVec 32) (k0_hw60 : k0_chk60 v618), ∀ a, (k0_off131 v618) a + S2x128.size a ≤ S15872x128.size a := fun v618 k0_hw60 => k0_hw60.2

def k0_off132 (k0_t2 : Fin k0_t2_loop.trips) : Fin 3 → Nat :=
  let c0_395 : Index := 0#32
  let c0_396 : Index := 0#32
  let c0_i32_11 : BitVec 32 := 0#32
  let c1_i32 : BitVec 32 := 1#32
  let arg15 : BitVec 32 := Scf.iv c0_i32_11 c1_i32 k0_t2
  let c4_i32_317 : BitVec 32 := 4#32
  let v503 : BitVec 32 := Scalar.muli arg15 c4_i32_317
  let c3_i32_318 : BitVec 32 := 3#32
  let v504 : BitVec 32 := Scalar.addi v503 c3_i32_318
  let c8_i32_319 : BitVec 32 := 8#32
  let v505 : BitVec 32 := Scalar.muli v504 c8_i32_319
  let c6_i32_394 : BitVec 32 := 6#32
  let v626 : BitVec 32 := Scalar.addi v505 c6_i32_394
  let v627 : Index := Scalar.indexCast v626
  ![0, 0, v627.toNat]
def k0_mult71 (v628 : BitVec 32) : BitVec 32 :=
  let c10_i32_397 : BitVec 32 := 10#32
  let v629 : BitVec 32 := Scalar.muli v628 c10_i32_397
  v629

def k0_off133 (v628 : BitVec 32) : Fin 3 → Nat :=
  let c10_i32_397 : BitVec 32 := 10#32
  let v629 : BitVec 32 := Scalar.muli v628 c10_i32_397
  let v630 : BitVec 32 := v629
  let v631 : Index := Scalar.indexCast v630
  let c0_398 : Index := 0#32
  ![v631.toNat, 0, 0]

def k0_chk61 (v628 : BitVec 32) : Prop :=
  (2 ∣ (k0_mult71 v628).toNat) ∧
  (∀ a, (k0_off133 v628) a + S10x2x128.size a ≤ S79360x2x128.size a)
theorem k0_mult71_dvd : ∀ (v628 : BitVec 32) (k0_hw61 : k0_chk61 v628), 2 ∣ (k0_mult71 v628).toNat := fun v628 k0_hw61 => k0_hw61.1
theorem k0_off133_inb : ∀ (v628 : BitVec 32) (k0_hw61 : k0_chk61 v628), ∀ a, (k0_off133 v628) a + S10x2x128.size a ≤ S79360x2x128.size a := fun v628 k0_hw61 => k0_hw61.2

def k0_off134 (k0_t2 : Fin k0_t2_loop.trips) : Fin 3 → Nat :=
  let c0_401 : Index := 0#32
  let c0_402 : Index := 0#32
  let c0_i32_11 : BitVec 32 := 0#32
  let c1_i32 : BitVec 32 := 1#32
  let arg15 : BitVec 32 := Scf.iv c0_i32_11 c1_i32 k0_t2
  let c4_i32_317 : BitVec 32 := 4#32
  let v503 : BitVec 32 := Scalar.muli arg15 c4_i32_317
  let c3_i32_318 : BitVec 32 := 3#32
  let v504 : BitVec 32 := Scalar.addi v503 c3_i32_318
  let c8_i32_319 : BitVec 32 := 8#32
  let v505 : BitVec 32 := Scalar.muli v504 c8_i32_319
  let c6_i32_400 : BitVec 32 := 6#32
  let v636 : BitVec 32 := Scalar.addi v505 c6_i32_400
  let v637 : Index := Scalar.indexCast v636
  ![0, 0, v637.toNat]
def k0_mult72 (v638 : BitVec 32) : BitVec 32 :=
  let c2_i32_403 : BitVec 32 := 2#32
  let v639 : BitVec 32 := Scalar.muli v638 c2_i32_403
  v639

def k0_off135 (v638 : BitVec 32) : Fin 2 → Nat :=
  let c2_i32_403 : BitVec 32 := 2#32
  let v639 : BitVec 32 := Scalar.muli v638 c2_i32_403
  let v640 : BitVec 32 := v639
  let v641 : Index := Scalar.indexCast v640
  let c0_404 : Index := 0#32
  ![v641.toNat, 0]

def k0_chk62 (v638 : BitVec 32) : Prop :=
  (2 ∣ (k0_mult72 v638).toNat) ∧
  (∀ a, (k0_off135 v638) a + S2x128.size a ≤ S15872x128.size a)
theorem k0_mult72_dvd : ∀ (v638 : BitVec 32) (k0_hw62 : k0_chk62 v638), 2 ∣ (k0_mult72 v638).toNat := fun v638 k0_hw62 => k0_hw62.1
theorem k0_off135_inb : ∀ (v638 : BitVec 32) (k0_hw62 : k0_chk62 v638), ∀ a, (k0_off135 v638) a + S2x128.size a ≤ S15872x128.size a := fun v638 k0_hw62 => k0_hw62.2

def k0_off136 (k0_t2 : Fin k0_t2_loop.trips) : Fin 3 → Nat :=
  let c0_407 : Index := 0#32
  let c0_408 : Index := 0#32
  let c0_i32_11 : BitVec 32 := 0#32
  let c1_i32 : BitVec 32 := 1#32
  let arg15 : BitVec 32 := Scf.iv c0_i32_11 c1_i32 k0_t2
  let c4_i32_317 : BitVec 32 := 4#32
  let v503 : BitVec 32 := Scalar.muli arg15 c4_i32_317
  let c3_i32_318 : BitVec 32 := 3#32
  let v504 : BitVec 32 := Scalar.addi v503 c3_i32_318
  let c8_i32_319 : BitVec 32 := 8#32
  let v505 : BitVec 32 := Scalar.muli v504 c8_i32_319
  let c7_i32_406 : BitVec 32 := 7#32
  let v646 : BitVec 32 := Scalar.addi v505 c7_i32_406
  let v647 : Index := Scalar.indexCast v646
  ![0, 0, v647.toNat]
def k0_mult73 (v648 : BitVec 32) : BitVec 32 :=
  let c10_i32_409 : BitVec 32 := 10#32
  let v649 : BitVec 32 := Scalar.muli v648 c10_i32_409
  v649

def k0_off137 (v648 : BitVec 32) : Fin 3 → Nat :=
  let c10_i32_409 : BitVec 32 := 10#32
  let v649 : BitVec 32 := Scalar.muli v648 c10_i32_409
  let v650 : BitVec 32 := v649
  let v651 : Index := Scalar.indexCast v650
  let c0_410 : Index := 0#32
  ![v651.toNat, 0, 0]

def k0_chk63 (v648 : BitVec 32) : Prop :=
  (2 ∣ (k0_mult73 v648).toNat) ∧
  (∀ a, (k0_off137 v648) a + S10x2x128.size a ≤ S79360x2x128.size a)
theorem k0_mult73_dvd : ∀ (v648 : BitVec 32) (k0_hw63 : k0_chk63 v648), 2 ∣ (k0_mult73 v648).toNat := fun v648 k0_hw63 => k0_hw63.1
theorem k0_off137_inb : ∀ (v648 : BitVec 32) (k0_hw63 : k0_chk63 v648), ∀ a, (k0_off137 v648) a + S10x2x128.size a ≤ S79360x2x128.size a := fun v648 k0_hw63 => k0_hw63.2

def k0_off138 (k0_t2 : Fin k0_t2_loop.trips) : Fin 3 → Nat :=
  let c0_413 : Index := 0#32
  let c0_414 : Index := 0#32
  let c0_i32_11 : BitVec 32 := 0#32
  let c1_i32 : BitVec 32 := 1#32
  let arg15 : BitVec 32 := Scf.iv c0_i32_11 c1_i32 k0_t2
  let c4_i32_317 : BitVec 32 := 4#32
  let v503 : BitVec 32 := Scalar.muli arg15 c4_i32_317
  let c3_i32_318 : BitVec 32 := 3#32
  let v504 : BitVec 32 := Scalar.addi v503 c3_i32_318
  let c8_i32_319 : BitVec 32 := 8#32
  let v505 : BitVec 32 := Scalar.muli v504 c8_i32_319
  let c7_i32_412 : BitVec 32 := 7#32
  let v656 : BitVec 32 := Scalar.addi v505 c7_i32_412
  let v657 : Index := Scalar.indexCast v656
  ![0, 0, v657.toNat]
def k0_mult74 (v658 : BitVec 32) : BitVec 32 :=
  let c2_i32_415 : BitVec 32 := 2#32
  let v659 : BitVec 32 := Scalar.muli v658 c2_i32_415
  v659

def k0_off139 (v658 : BitVec 32) : Fin 2 → Nat :=
  let c2_i32_415 : BitVec 32 := 2#32
  let v659 : BitVec 32 := Scalar.muli v658 c2_i32_415
  let v660 : BitVec 32 := v659
  let v661 : Index := Scalar.indexCast v660
  let c0_416 : Index := 0#32
  ![v661.toNat, 0]

def k0_chk64 (v658 : BitVec 32) : Prop :=
  (2 ∣ (k0_mult74 v658).toNat) ∧
  (∀ a, (k0_off139 v658) a + S2x128.size a ≤ S15872x128.size a)
theorem k0_mult74_dvd : ∀ (v658 : BitVec 32) (k0_hw64 : k0_chk64 v658), 2 ∣ (k0_mult74 v658).toNat := fun v658 k0_hw64 => k0_hw64.1
theorem k0_off139_inb : ∀ (v658 : BitVec 32) (k0_hw64 : k0_chk64 v658), ∀ a, (k0_off139 v658) a + S2x128.size a ≤ S15872x128.size a := fun v658 k0_hw64 => k0_hw64.2

def k0_mult75 (k0_t2 : Fin k0_t2_loop.trips) : BitVec 32 :=
  let c0_i32_11 : BitVec 32 := 0#32
  let c1_i32 : BitVec 32 := 1#32
  let arg15 : BitVec 32 := Scf.iv c0_i32_11 c1_i32 k0_t2
  let c4_i32_418 : BitVec 32 := 4#32
  let v666 : BitVec 32 := Scalar.muli arg15 c4_i32_418
  let c0_i32_419 : BitVec 32 := 0#32
  let v667 : BitVec 32 := Scalar.addi v666 c0_i32_419
  let c160_i32 : BitVec 32 := 160#32
  let v668 : BitVec 32 := Scalar.muli v667 c160_i32
  v668
def k0_off140 (k0_t2 : Fin k0_t2_loop.trips) (c0_i32_419 : BitVec 32) (c0_i32_429 : BitVec 32) : Fin 2 → Nat :=
  let c0_i32_11 : BitVec 32 := 0#32
  let c1_i32 : BitVec 32 := 1#32
  let arg15 : BitVec 32 := Scf.iv c0_i32_11 c1_i32 k0_t2
  let c4_i32_418 : BitVec 32 := 4#32
  let v666 : BitVec 32 := Scalar.muli arg15 c4_i32_418
  let v667 : BitVec 32 := Scalar.addi v666 c0_i32_419
  let c160_i32 : BitVec 32 := 160#32
  let v668 : BitVec 32 := Scalar.muli v667 c160_i32
  let v669 : BitVec 32 := v668
  let v680 : BitVec 32 := Scalar.addi v669 c0_i32_429
  let v683 : Index := Scalar.indexCast v680
  let c0_430 : Index := 0#32
  ![v683.toNat, 0]
def k0_mult76 (k0_t2 : Fin k0_t2_loop.trips) : BitVec 32 :=
  let c0_i32_11 : BitVec 32 := 0#32
  let c1_i32 : BitVec 32 := 1#32
  let arg15 : BitVec 32 := Scf.iv c0_i32_11 c1_i32 k0_t2
  let c4_i32_484 : BitVec 32 := 4#32
  let v872 : BitVec 32 := Scalar.muli arg15 c4_i32_484
  let c1_i32_485 : BitVec 32 := 1#32
  let v873 : BitVec 32 := Scalar.addi v872 c1_i32_485
  let c160_i32_486 : BitVec 32 := 160#32
  let v874 : BitVec 32 := Scalar.muli v873 c160_i32_486
  v874
def k0_mult77 (k0_t2 : Fin k0_t2_loop.trips) : BitVec 32 :=
  let c0_i32_11 : BitVec 32 := 0#32
  let c1_i32 : BitVec 32 := 1#32
  let arg15 : BitVec 32 := Scf.iv c0_i32_11 c1_i32 k0_t2
  let c4_i32_553 : BitVec 32 := 4#32
  let v1078 : BitVec 32 := Scalar.muli arg15 c4_i32_553
  let c2_i32_554 : BitVec 32 := 2#32
  let v1079 : BitVec 32 := Scalar.addi v1078 c2_i32_554
  let c160_i32_555 : BitVec 32 := 160#32
  let v1080 : BitVec 32 := Scalar.muli v1079 c160_i32_555
  v1080
def k0_mult78 (k0_t2 : Fin k0_t2_loop.trips) : BitVec 32 :=
  let c0_i32_11 : BitVec 32 := 0#32
  let c1_i32 : BitVec 32 := 1#32
  let arg15 : BitVec 32 := Scf.iv c0_i32_11 c1_i32 k0_t2
  let c4_i32_622 : BitVec 32 := 4#32
  let v1284 : BitVec 32 := Scalar.muli arg15 c4_i32_622
  let c3_i32_623 : BitVec 32 := 3#32
  let v1285 : BitVec 32 := Scalar.addi v1284 c3_i32_623
  let c160_i32_624 : BitVec 32 := 160#32
  let v1286 : BitVec 32 := Scalar.muli v1285 c160_i32_624
  v1286
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S62x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S62x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5120x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5120x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8x4096 : Shape := ⟨2, ![8, 4096]⟩
abbrev S7936x2560 : Shape := ⟨2, ![7936, 2560]⟩
abbrev S7936 : Shape := ⟨1, ![7936]⟩
abbrev S2560 : Shape := ⟨1, ![2560]⟩
abbrev S7936x1 : Shape := ⟨2, ![7936, 1]⟩
abbrev S1x2560 : Shape := ⟨2, ![1, 2560]⟩
abbrev S_ : Shape := ⟨0, ![]⟩
abbrev S8x4096x1 : Shape := ⟨3, ![8, 4096, 1]⟩
abbrev S8x4096x2560 : Shape := ⟨3, ![8, 4096, 2560]⟩

abbrev nBuf : Space → Nat
  | .hbm => 28
  | .vmem => 6
  | .smem => 0
  | _ => 0

abbrev bufTy : (tb : Table) → Fin (tcTables nBuf tb) → BufTy
  | .hbm, ⟨0, _⟩ => ⟨S8x4096, .i32⟩
  | .hbm, ⟨1, _⟩ => ⟨S7936x2560, .i8⟩
  | .hbm, ⟨2, _⟩ => ⟨S7936, .f32⟩
  | .hbm, ⟨3, _⟩ => ⟨S7936, .bf16⟩
  | .hbm, ⟨4, _⟩ => ⟨S2560, .bf16⟩
  | .hbm, ⟨5, _⟩ => ⟨S7936x1, .f32⟩
  | .hbm, ⟨6, _⟩ => ⟨S7936x1, .bf16⟩
  | .hbm, ⟨7, _⟩ => ⟨S1x2560, .bf16⟩
  | .hbm, ⟨8, _⟩ => ⟨S7936x2560, .bf16⟩
  | .hbm, ⟨9, _⟩ => ⟨S7936x2560, .bf16⟩
  | .hbm, ⟨10, _⟩ => ⟨S_, .i32⟩
  | .hbm, ⟨11, _⟩ => ⟨S8x4096, .i32⟩
  | .hbm, ⟨12, _⟩ => ⟨S8x4096, .i1⟩
  | .hbm, ⟨13, _⟩ => ⟨S_, .i32⟩
  | .hbm, ⟨14, _⟩ => ⟨S8x4096, .i32⟩
  | .hbm, ⟨15, _⟩ => ⟨S8x4096, .i32⟩
  | .hbm, ⟨16, _⟩ => ⟨S8x4096, .i32⟩
  | .hbm, ⟨17, _⟩ => ⟨S8x4096x1, .i32⟩
  | .hbm, ⟨18, _⟩ => ⟨S8x4096x2560, .bf16⟩
  | .hbm, ⟨19, _⟩ => ⟨S_, .i32⟩
  | .hbm, ⟨20, _⟩ => ⟨S8x4096, .i32⟩
  | .hbm, ⟨21, _⟩ => ⟨S8x4096, .i1⟩
  | .hbm, ⟨22, _⟩ => ⟨S_, .i32⟩
  | .hbm, ⟨23, _⟩ => ⟨S8x4096, .i32⟩
  | .hbm, ⟨24, _⟩ => ⟨S8x4096, .i32⟩
  | .hbm, ⟨25, _⟩ => ⟨S8x4096, .i32⟩
  | .hbm, ⟨26, _⟩ => ⟨S8x4096x1, .i32⟩
  | .hbm, ⟨27, _⟩ => ⟨S8x4096x2560, .bf16⟩
  | .local _ .vmem, ⟨0, _⟩ => ⟨S7936x2560, .i8⟩
  | .local _ .vmem, ⟨1, _⟩ => ⟨S7936x1, .f32⟩
  | .local _ .vmem, ⟨2, _⟩ => ⟨S7936x1, .bf16⟩
  | .local _ .vmem, ⟨3, _⟩ => ⟨S1x2560, .bf16⟩
  | .local _ .vmem, ⟨4, _⟩ => ⟨S7936x2560, .bf16⟩
  | .local _ .vmem, ⟨5, _⟩ => ⟨S7936x2560, .bf16⟩
  | _, _ => ⟨S8x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S7936x2560 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7936x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7936x1 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7936x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7936x2560 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Hoare.lean ====
/- Rules for stepping through a kernel body one memory operation at a time.

   A buffer is described by `Holds c m P T`: the core owns the whole buffer behind the memref `m`, and at every index
   where `P` holds the buffer reads as the target function `T`. A state is any separation-logic assertion from which
   the buffer an operation touches can be taken out and put back. -/
module

public import Idealize.ShloMosaic.Lib.Exec
public import Idealize.ShloMosaic.Lib.Tactic
public import Idealize.ShloMosaic.Lib.Pipeline.Kit

public import Idealize.ShloMosaic.Lib.Scf

@[expose] public section

noncomputable section

namespace Cert.Proof.Hoare

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U]
variable {Lvl : Type} {Λ : Labels}
local notation "𝕄" => MT nD τ sig Ix Val Name U Lvl

/-- The core owns the whole buffer of `m`, and where `P` holds it reads as `T`. -/
def Holds (c : Thread nD τ) {sp : Space} {s : Shape} {e : EltTy} (m : Memref sig c.2.kind sp s e)
    (P : s.Idx → Prop) (T : s.Idx → Val e) : sProp 𝕄 :=
  iprop(∃ f : Buf Val (m.view.loc c), (m.view.loc c ↦{fullShare} f) ∗ ⌜∀ y, P y → m.view.read Val f y = T y⌝)

/-- The core owns the whole buffer of `m`, whatever it holds. -/
def Own (c : Thread nD τ) {sp : Space} {s : Shape} {e : EltTy} (m : Memref sig c.2.kind sp s e) : sProp 𝕄 :=
  iprop(∃ f : Buf Val (m.view.loc c), (m.view.loc c ↦{fullShare} f))

/-- What the kernel body holds while it runs between transfers: the token ids, the two output blocks, the scratch
    buffers (table, inverse norms, gain, gathered rows, gathered norms), and a rest `R` it does not touch. -/
def Sts (A1 A6 A7 A8 A9 A10 A11 A12 R : sProp 𝕄) : sProp 𝕄 :=
  iprop(A1 ∗ A6 ∗ A7 ∗ A8 ∗ A9 ∗ A10 ∗ A11 ∗ A12 ∗ R)

section Take
variable {A1 A6 A7 A8 A9 A10 A11 A12 R : sProp (MT nD τ sig Ix Val Name U Lvl)}
/-- Taking part 1 out, to put back what becomes of it. -/
theorem Sts.t1 {A1' : sProp 𝕄} : (Sts A1 A6 A7 A8 A9 A10 A11 A12 R : sProp 𝕄) ⊢ iprop(A1 ∗ (A1' -∗ (Sts A1' A6 A7 A8 A9 A10 A11 A12 R : sProp 𝕄))) := by
  unfold Sts
  iintro ⟨H1, H6, H7, H8, H9, H10, H11, H12, HR⟩
  isplitl [H1]; · iexact H1
  iintro H'
  isplitl [H']; · iexact H'
  isplitl [H6]; · iexact H6
  isplitl [H7]; · iexact H7
  isplitl [H8]; · iexact H8
  isplitl [H9]; · iexact H9
  isplitl [H10]; · iexact H10
  isplitl [H11]; · iexact H11
  isplitl [H12]; · iexact H12
  iexact HR

/-- Taking part 6 out, to put back what becomes of it. -/
theorem Sts.t6 {A6' : sProp 𝕄} : (Sts A1 A6 A7 A8 A9 A10 A11 A12 R : sProp 𝕄) ⊢ iprop(A6 ∗ (A6' -∗ (Sts A1 A6' A7 A8 A9 A10 A11 A12 R : sProp 𝕄))) := by
  unfold Sts
  iintro ⟨H1, H6, H7, H8, H9, H10, H11, H12, HR⟩
  isplitl [H6]; · iexact H6
  iintro H'
  isplitl [H1]; · iexact H1
  isplitl [H']; · iexact H'
  isplitl [H7]; · iexact H7
  isplitl [H8]; · iexact H8
  isplitl [H9]; · iexact H9
  isplitl [H10]; · iexact H10
  isplitl [H11]; · iexact H11
  isplitl [H12]; · iexact H12
  iexact HR

/-- Taking part 7 out, to put back what becomes of it. -/
theorem Sts.t7 {A7' : sProp 𝕄} : (Sts A1 A6 A7 A8 A9 A10 A11 A12 R : sProp 𝕄) ⊢ iprop(A7 ∗ (A7' -∗ (Sts A1 A6 A7' A8 A9 A10 A11 A12 R : sProp 𝕄))) := by
  unfold Sts
  iintro ⟨H1, H6, H7, H8, H9, H10, H11, H12, HR⟩
  isplitl [H7]; · iexact H7
  iintro H'
  isplitl [H1]; · iexact H1
  isplitl [H6]; · iexact H6
  isplitl [H']; · iexact H'
  isplitl [H8]; · iexact H8
  isplitl [H9]; · iexact H9
  isplitl [H10]; · iexact H10
  isplitl [H11]; · iexact H11
  isplitl [H12]; · iexact H12
  iexact HR

/-- Taking part 8 out, to put back what becomes of it. -/
theorem Sts.t8 {A8' : sProp 𝕄} : (Sts A1 A6 A7 A8 A9 A10 A11 A12 R : sProp 𝕄) ⊢ iprop(A8 ∗ (A8' -∗ (Sts A1 A6 A7 A8' A9 A10 A11 A12 R : sProp 𝕄))) := by
  unfold Sts
  iintro ⟨H1, H6, H7, H8, H9, H10, H11, H12, HR⟩
  isplitl [H8]; · iexact H8
  iintro H'
  isplitl [H1]; · iexact H1
  isplitl [H6]; · iexact H6
  isplitl [H7]; · iexact H7
  isplitl [H']; · iexact H'
  isplitl [H9]; · iexact H9
  isplitl [H10]; · iexact H10
  isplitl [H11]; · iexact H11
  isplitl [H12]; · iexact H12
  iexact HR

/-- Taking part 9 out, to put back what becomes of it. -/
theorem Sts.t9 {A9' : sProp 𝕄} : (Sts A1 A6 A7 A8 A9 A10 A11 A12 R : sProp 𝕄) ⊢ iprop(A9 ∗ (A9' -∗ (Sts A1 A6 A7 A8 A9' A10 A11 A12 R : sProp 𝕄))) := by
  unfold Sts
  iintro ⟨H1, H6, H7, H8, H9, H10, H11, H12, HR⟩
  isplitl [H9]; · iexact H9
  iintro H'
  isplitl [H1]; · iexact H1
  isplitl [H6]; · iexact H6
  isplitl [H7]; · iexact H7
  isplitl [H8]; · iexact H8
  isplitl [H']; · iexact H'
  isplitl [H10]; · iexact H10
  isplitl [H11]; · iexact H11
  isplitl [H12]; · iexact H12
  iexact HR

/-- Taking part 10 out, to put back what becomes of it. -/
theorem Sts.t10 {A10' : sProp 𝕄} : (Sts A1 A6 A7 A8 A9 A10 A11 A12 R : sProp 𝕄) ⊢ iprop(A10 ∗ (A10' -∗ (Sts A1 A6 A7 A8 A9 A10' A11 A12 R : sProp 𝕄))) := by
  unfold Sts
  iintro ⟨H1, H6, H7, H8, H9, H10, H11, H12, HR⟩
  isplitl [H10]; · iexact H10
  iintro H'
  isplitl [H1]; · iexact H1
  isplitl [H6]; · iexact H6
  isplitl [H7]; · iexact H7
  isplitl [H8]; · iexact H8
  isplitl [H9]; · iexact H9
  isplitl [H']; · iexact H'
  isplitl [H11]; · iexact H11
  isplitl [H12]; · iexact H12
  iexact HR

/-- Taking part 11 out, to put back what becomes of it. -/
theorem Sts.t11 {A11' : sProp 𝕄} : (Sts A1 A6 A7 A8 A9 A10 A11 A12 R : sProp 𝕄) ⊢ iprop(A11 ∗ (A11' -∗ (Sts A1 A6 A7 A8 A9 A10 A11' A12 R : sProp 𝕄))) := by
  unfold Sts
  iintro ⟨H1, H6, H7, H8, H9, H10, H11, H12, HR⟩
  isplitl [H11]; · iexact H11
  iintro H'
  isplitl [H1]; · iexact H1
  isplitl [H6]; · iexact H6
  isplitl [H7]; · iexact H7
  isplitl [H8]; · iexact H8
  isplitl [H9]; · iexact H9
  isplitl [H10]; · iexact H10
  isplitl [H']; · iexact H'
  isplitl [H12]; · iexact H12
  iexact HR

/-- Taking the rest out, to put back what becomes of it. -/
theorem Sts.tR {R' : sProp 𝕄} : (Sts A1 A6 A7 A8 A9 A10 A11 A12 R : sProp 𝕄) ⊢ iprop(R ∗ (R' -∗ (Sts A1 A6 A7 A8 A9 A10 A11 A12 R' : sProp 𝕄))) := by
  unfold Sts
  iintro ⟨H1, H6, H7, H8, H9, H10, H11, H12, HR⟩
  isplitl [HR]; · iexact HR
  iintro H'
  isplitl [H1]; · iexact H1
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H'

/-- Taking part 12 out, to put back what becomes of it. -/
theorem Sts.t12 {A12' : sProp 𝕄} : (Sts A1 A6 A7 A8 A9 A10 A11 A12 R : sProp 𝕄) ⊢ iprop(A12 ∗ (A12' -∗ (Sts A1 A6 A7 A8 A9 A10 A11 A12' R : sProp 𝕄))) := by
  unfold Sts
  iintro ⟨H1, H6, H7, H8, H9, H10, H11, H12, HR⟩
  isplitl [H12]; · iexact H12
  iintro H'
  isplitl [H1]; · iexact H1
  isplitl [H6]; · iexact H6
  isplitl [H7]; · iexact H7
  isplitl [H8]; · iexact H8
  isplitl [H9]; · iexact H9
  isplitl [H10]; · iexact H10
  isplitl [H11]; · iexact H11
  isplitl [H']; · iexact H'
  iexact HR

end Take

section Rules

variable [Preorder Lvl] {defs : Defs nD τ sig Val Λ} {𝒱 : Variants} {c : Thread nD τ}
  {bd : Option 𝒱.V} {E : Set Name}
variable {s : Shape} {e : EltTy} {α : Type} {Q : α → sProp (MT nD τ sig Ix Val Name U Lvl)}
  {St St' : sProp (MT nD τ sig Ix Val Name U Lvl)}

omit [Preorder Lvl] in
/-- What is known of a buffer may be weakened, and moved to a target that agrees with the old one. -/
theorem Holds.mono {sp : Space} {m : Memref sig c.2.kind sp s e} {P P' : s.Idx → Prop} {T T' : s.Idx → Val e}
    (h : ∀ y, P' y → P y ∧ T y = T' y) : (Holds c m P T : sProp 𝕄) ⊢ Holds c m P' T' := by
  unfold Holds
  iintro ⟨%f, Hf, %hf⟩
  iexists f
  isplitl [Hf]; · iexact Hf
  ipureintro; exact fun y hy => (hf y (h y hy).1).trans (h y hy).2

/-- A load: the vector read agrees with the target at every index the buffer is known at. -/
theorem load {cs : CoreSpace} {m : Memref sig c.2.kind cs s e} {r : LoadRect s} {hl : m.view.LoadsAt r}
    {k : (r.shape.Idx → Val e) → Prog (TpuEff nD τ sig Val Λ c.2) α} {P : s.Idx → Prop} {T : s.Idx → Val e}
    (hst : St ⊢ (iprop((Holds c m P T : sProp 𝕄) ∗ ((Holds c m P T : sProp 𝕄) -∗ St)) : sProp 𝕄))
    (hk : ∀ v : r.shape.Idx → Val e, (∀ x, P (r.idx x) → v x = T (r.idx x)) → St ⊢ wp frame (wpE defs 𝒱 c bd) E (k v) Q) :
    St ⊢ wp frame (wpE defs 𝒱 c bd) E (Prog.lift (.load m r hl) >>= k) Q := by
  simp only [Prog.lift, Prog.bind_op, Prog.bind_ret]
  refine hst.trans ?_
  unfold Holds
  iintro ⟨⟨%f, Hf, %hf⟩, Hback⟩
  iapply (wp_load 𝒱 c bd E (m := m) (r := r) (hl := hl) (S := Finset.univ) (f := f) (Finset.subset_univ _)) $$ Hf
  iintro Hf
  iapply (hk (m.view.readAt Val r f) (fun x hx => hf _ hx))
  iapply Hback
  iexists f
  isplitl [Hf]; · iexact Hf
  ipureintro; exact hf

/-- A load from a buffer of which only ownership is known. -/
theorem load_own {cs : CoreSpace} {m : Memref sig c.2.kind cs s e} {r : LoadRect s} {hl : m.view.LoadsAt r}
    {k : (r.shape.Idx → Val e) → Prog (TpuEff nD τ sig Val Λ c.2) α}
    (hst : St ⊢ (iprop((Own c m : sProp 𝕄) ∗ ((Own c m : sProp 𝕄) -∗ St)) : sProp 𝕄))
    (hk : ∀ v : r.shape.Idx → Val e, St ⊢ wp frame (wpE defs 𝒱 c bd) E (k v) Q) :
    St ⊢ wp frame (wpE defs 𝒱 c bd) E (Prog.lift (.load m r hl) >>= k) Q := by
  simp only [Prog.lift, Prog.bind_op, Prog.bind_ret]
  refine hst.trans ?_
  unfold Own
  iintro ⟨⟨%f, Hf⟩, Hback⟩
  iapply (wp_load 𝒱 c bd E (m := m) (r := r) (hl := hl) (S := Finset.univ) (f := f) (Finset.subset_univ _)) $$ Hf
  iintro Hf
  iapply (hk (m.view.readAt Val r f))
  iapply Hback
  iexists f
  iexact Hf

/-- A store into a buffer of which only ownership is known. -/
theorem store_own {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α}
    (hst : St ⊢ (iprop((Own c m : sProp 𝕄) ∗ ((Own c m : sProp 𝕄) -∗ St)) : sProp 𝕄))
    (hk : St ⊢ wp frame (wpE defs 𝒱 c bd) E (k ⟨⟩) Q) :
    St ⊢ wp frame (wpE defs 𝒱 c bd) E (Prog.lift (.store m r w Finset.univ hx hm) >>= k) Q := by
  simp only [Prog.lift, Prog.bind_op, Prog.bind_ret]
  refine hst.trans ?_
  unfold Own
  iintro ⟨⟨%f, Hf⟩, Hback⟩
  iapply (wp_store 𝒱 c bd E (m := m) (r := r) (w := w) (Mk := Finset.univ) (hx := hx) (hm := hm) (S := Finset.univ) (f := f) (Finset.subset_univ _)) $$ Hf
  iintro Hf
  iapply hk
  iapply Hback
  iexists ((m.access r).write Val f w Finset.univ)
  iexact Hf

/-- A load of one word of scalar memory. -/
theorem sload {m : Memref sig c.2.kind .smem s e} {r : Rect s} {h1 : r.shape.numel = 1} {hp : e.packing = 1}
    {k : Val e → Prog (TpuEff nD τ sig Val Λ c.2) α} {P : s.Idx → Prop} {T : s.Idx → Val e}
    (hst : St ⊢ (iprop((Holds c m P T : sProp 𝕄) ∗ ((Holds c m P T : sProp 𝕄) -∗ St)) : sProp 𝕄))
    (hk : ∀ v : Val e, (∀ x, P (r.emb x) → v = T (r.emb x)) → St ⊢ wp frame (wpE defs 𝒱 c bd) E (k v) Q) :
    St ⊢ wp frame (wpE defs 𝒱 c bd) E (smemLoad m r h1 hp >>= k) Q := by
  unfold smemLoad smemLoadElt
  simp only [Prog.bind_op, Prog.bind_ret]
  refine hst.trans ?_
  unfold Holds
  iintro ⟨⟨%f, Hf, %hf⟩, Hback⟩
  iapply (wp_load_rect 𝒱 c bd E (m := m) (r := r) (S := Finset.univ) (f := f) (Finset.subset_univ _)) $$ Hf
  iintro Hf
  iapply (hk _ (fun x hx => by
    have hs : Fintype.card r.shape.Idx ≤ 1 := le_of_eq ((Shape.card_idx r.shape).trans h1)
    have hx0 : x = Shape.Idx.first (h1.symm ▸ Nat.one_pos) := Fintype.card_le_one_iff.mp hs _ _
    subst hx0
    exact hf _ hx))
  iapply Hback
  iexists f
  isplitl [Hf]; · iexact Hf
  ipureintro; exact hf

/-- A load of one word of a buffer all of whose words have a property. -/
theorem sload_of {m : Memref sig c.2.kind .smem s e} {r : Rect s} {h1 : r.shape.numel = 1} {hp : e.packing = 1}
    {k : Val e → Prog (TpuEff nD τ sig Val Λ c.2) α} {T : s.Idx → Val e} (p : Val e → Prop) (hT : ∀ x, p (T x))
    (hst : St ⊢ (iprop((Holds c m (fun _ => True) T : sProp 𝕄) ∗ ((Holds c m (fun _ => True) T : sProp 𝕄) -∗ St)) : sProp 𝕄))
    (hk : ∀ v : Val e, p v → St ⊢ wp frame (wpE defs 𝒱 c bd) E (k v) Q) :
    St ⊢ wp frame (wpE defs 𝒱 c bd) E (smemLoad m r h1 hp >>= k) Q :=
  sload hst fun v hv => hk v (by
    have h := hv (Shape.Idx.first (h1.symm ▸ Nat.one_pos)) trivial
    rw [h]; exact hT _)

/-- A store of a vector that agrees with the target: the buffer is known on what it was known on and on what the
    store wrote. -/
theorem store {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {P P' : s.Idx → Prop} {T : s.Idx → Val e}
    (hst : St ⊢ (iprop((Holds c m P T : sProp 𝕄) ∗ ((Holds c m P' T : sProp 𝕄) -∗ St')) : sProp 𝕄))
    (hw : ∀ x, P' (r.emb x) → w x = T (r.emb x))
    (hP : ∀ y, P' y → P y ∨ ∃ x, r.emb x = y)
    (hk : St' ⊢ wp frame (wpE defs 𝒱 c bd) E (k ⟨⟩) Q) :
    St ⊢ wp frame (wpE defs 𝒱 c bd) E (Prog.lift (.store m r w Finset.univ hx hm) >>= k) Q := by
  simp only [Prog.lift, Prog.bind_op, Prog.bind_ret]
  refine hst.trans ?_
  unfold Holds
  iintro ⟨⟨%f, Hf, %hf⟩, Hback⟩
  iapply (wp_store 𝒱 c bd E (m := m) (r := r) (w := w) (Mk := Finset.univ) (hx := hx) (hm := hm) (S := Finset.univ) (f := f) (Finset.subset_univ _)) $$ Hf
  iintro Hf
  iapply hk
  iapply Hback
  iexists ((m.access r).write Val f w Finset.univ)
  isplitl [Hf]; · iexact Hf
  ipureintro
  intro y hy
  by_cases hmem : ∃ x, r.emb x = y
  · obtain ⟨x, rfl⟩ := hmem
    exact (View.read_slice_write_emb (v := m.view) r f w (Finset.mem_univ x)).trans (hw x hy)
  · rw [View.read_slice_write_of_not_mem (v := m.view) r f w Finset.univ (y := y) (by simpa using hmem)]
    exact hf y (((hP y hy)).resolve_right hmem)

/-- A side condition that holds. -/
theorem assume {P : Prop} {d : Decidable P} {k : PLift P → Prog (TpuEff nD τ sig Val Λ c.2) α} (h : P)
    (hk : ∀ h : P, St ⊢ wp frame (wpE defs 𝒱 c bd) E (k ⟨h⟩) Q) :
    St ⊢ wp frame (wpE defs 𝒱 c bd) E (Prog.lift (.assume P d) >>= k) Q := by
  simp only [Prog.lift, Prog.bind_op, Prog.bind_ret]
  exact (hk h).trans (wp_assume 𝒱 c bd E h)

/-- A program in front of another, in front of a third. -/
theorem assoc {β γ : Type} {a : Prog (TpuEff nD τ sig Val Λ c.2) β} {f : β → Prog (TpuEff nD τ sig Val Λ c.2) γ}
    {k : γ → Prog (TpuEff nD τ sig Val Λ c.2) α}
    (h : St ⊢ wp frame (wpE defs 𝒱 c bd) E (a >>= fun x => f x >>= k) Q) :
    St ⊢ wp frame (wpE defs 𝒱 c bd) E (a >>= f >>= k) Q := by
  rwa [bind_assoc]

/-- A returned value in front of a program. -/
theorem ret {β : Type} {b : β} {k : β → Prog (TpuEff nD τ sig Val Λ c.2) α}
    (h : St ⊢ wp frame (wpE defs 𝒱 c bd) E (k b) Q) :
    St ⊢ wp frame (wpE defs 𝒱 c bd) E ((pure b : Prog (TpuEff nD τ sig Val Λ c.2) β) >>= k) Q := by
  rwa [pure_bind]

/-- The end of a program. -/
theorem done {b : α} (h : St ⊢ Q b) : St ⊢ wp frame (wpE defs 𝒱 c bd) E (pure b : Prog (TpuEff nD τ sig Val Λ c.2) α) Q :=
  h.trans fupd_intro

/-- A loop at the head of a program, by an invariant. -/
theorem for_bind {w : ℕ} {σ : Type} {init : σ} (L : Scf.Loop w) (hok) (body : Fin L.trips → σ → Prog (TpuEff nD τ sig Val Λ c.2) σ) (I : ℕ → σ → sProp 𝕄)
    (hbody : ∀ (k : Fin L.trips) (a : σ), I k.val a ⊢ wp frame (wpE defs 𝒱 c bd) E (body k a) (I (k.val + 1)))
    {k : σ → Prog (TpuEff nD τ sig Val Λ c.2) α} (hk : ∀ a, I L.trips a ⊢ wp frame (wpE defs 𝒱 c bd) E (k a) Q) :
    I 0 init ⊢ wp frame (wpE defs 𝒱 c bd) E (Scf.Loop.for L hok init body >>= k) Q := by
  iintro H
  iapply (Scf.wp_for_bind frame (wpE defs 𝒱 c bd) E _ _ _ hok init body I hbody) $$ H
  iintro %a H
  iapply (hk a); iexact H

end Rules

end Cert.Proof.Hoare

end
-- ==== Proof.Dma.lean ====
/- Rules for a kernel's own copies: a copy into a slot of a ring buffer is started, waited for, and the slot read.

   `Busy` is a slot with a copy on its way into it, `Ready` a slot whose contents are known, `Owes` the core's record
   of the waits it has made. -/
module

public import proofs.«01_k».proof.Proof.Hoare
public import Idealize.ShloMosaic.Lib.Transfers
public import Idealize.ShloMosaic.Lib.Ring

@[expose] public section

noncomputable section

namespace Cert.Proof.Hoare

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers

variable {nD : Nat} {τ : Topo} {sig : RefSig} {Val : EltTy → Type}
variable {Ix : Type} [DecidableEq Ix] {Name : Type} [DecidableEq Name] {U : Type} [URA U]
variable {Lvl : Type} [Preorder Lvl] {Λ : Labels}
local notation "𝕄" => MT nD τ sig Ix Val Name U Lvl

/-- The core owns the elements of the memref `m`, and it reads as `T`. -/
def Ready (c : Thread nD τ) {sp : Space} {s : Shape} {e : EltTy} (m : Memref sig c.2.kind sp s e)
    (T : s.Idx → Val e) : sProp 𝕄 :=
  iprop(∃ f : Buf Val (m.view.loc c), (m.view.loc c ↦[m.view.set]{fullShare} f) ∗ ⌜∀ y, m.view.read Val f y = T y⌝)

/-- The core owns the elements of the memref `m`, whatever they hold. -/
def Free (c : Thread nD τ) {sp : Space} {s : Shape} {e : EltTy} (m : Memref sig c.2.kind sp s e) : sProp 𝕄 :=
  iprop(∃ f : Buf Val (m.view.loc c), (m.view.loc c ↦[m.view.set]{fullShare} f))

/-- The core's record of waits, owing nothing. -/
def Owes (c : Thread nD τ) : sProp 𝕄 := iprop(∃ W : Waits sig Ix, owes c 0 W)

/-- A share of a whole array. -/
def Part (c : Thread nD τ) {sp : Space} {s : Shape} {e : EltTy} (m : Memref sig c.2.kind sp s e)
    (q : PosShare TreeShare) (X : Buf Val (m.view.loc c)) : sProp 𝕄 := iprop(m.view.loc c ↦{q} X)

/-- A copy from `src` to `dst` on the cell `sm` has been started and not yet waited for; `q` is the share of the source's
    array that the slot holds. -/
def Busy [CountersIn U] (c : Thread nD τ) {sp sp' : Space} {s : Shape} {e : EltTy} (src : Memref sig c.2.kind sp s e)
    (dst : Memref sig c.2.kind sp' s e) (sm : DmaSem sig) (ι : Ix) (q : PosShare TreeShare)
    (X : Buf Val (src.view.loc c)) : sProp 𝕄 :=
  iprop((∃ fd : Buf Val (dst.view.loc c), Flight (countersEmb) c (.dma sm) ι (dst.view.amount (.dma sm))
      iprop((dst.view.loc c ↦[dst.view.set]{fullShare} (dst.view.write Val fd (src.view.read Val X) Finset.univ))
        ∗ (src.view.loc c ↦[src.view.set]{q} X)))
    ∗ (src.view.loc c ↦[Finset.univ \ src.view.set]{q} X))

section Rules

variable {defs : Defs nD τ sig Val Λ} {𝒱 : Variants} {c : Thread nD τ}
  {bd : Option 𝒱.V}
variable {s : Shape} {e : EltTy} {α : Type} {Q : α → sProp (MT nD τ sig Ix Val Name U Lvl)}
  {St St' : sProp (MT nD τ sig Ix Val Name U Lvl)}

/-- A slot whose contents are known is free again. -/
theorem Ready.free {sp : Space} {m : Memref sig c.2.kind sp s e} {T : s.Idx → Val e} :
    (Ready c m T : sProp 𝕄) ⊢ Free c m := by
  unfold Ready Free
  iintro ⟨%f, Hf, -⟩
  iexists f; iexact Hf

/-- A load from a slot whose contents are known. -/
theorem load_ready {E : Set Name} {cs : CoreSpace} {m : Memref sig c.2.kind cs s e} {r : LoadRect s} {hl : m.view.LoadsAt r}
    {k : (r.shape.Idx → Val e) → Prog (TpuEff nD τ sig Val Λ c.2) α} {T : s.Idx → Val e}
    (hst : St ⊢ (iprop((Ready c m T : sProp 𝕄) ∗ ((Ready c m T : sProp 𝕄) -∗ St)) : sProp 𝕄))
    (hk : ∀ v : r.shape.Idx → Val e, (v = fun x => T (r.idx x)) → St ⊢ wp frame (wpE defs 𝒱 c bd) E (k v) Q) :
    St ⊢ wp frame (wpE defs 𝒱 c bd) E (Prog.lift (.load m r hl) >>= k) Q := by
  simp only [Prog.lift, Prog.bind_op, Prog.bind_ret]
  refine hst.trans ?_
  unfold Ready
  iintro ⟨⟨%f, Hf, %hf⟩, Hback⟩
  iapply (wp_load 𝒱 c bd E (m := m) (r := r) (hl := hl) (S := m.view.set) (f := f) (View.setOn_subset_set _ _)) $$ Hf
  iintro Hf
  iapply (hk (m.view.readAt Val r f) (funext fun x => hf _))
  iapply Hback
  iexists f
  isplitl [Hf]; · iexact Hf
  ipureintro; exact hf

variable [Infinite Name] [CountersIn U]

/-- Starting a copy into a free slot. -/
theorem enqueue {sp sp' : Space} {src : Memref sig c.2.kind sp s e} {dst : Memref sig c.2.kind sp' s e} {sm : DmaSem sig}
    {hsrc : src.view.WordExact} {hdst : dst.view.WordExact} {hsem : DmaTarget.Typed (nD := nD) sp (.dma sm) (.here dst)}
    {k : PUnit → Prog (TpuEff nD τ sig Val Λ c.2) α} {q : PosShare TreeShare} {X : Buf Val (src.view.loc c)} (ι : Ix)
    (hN0 : 0 < dst.view.amount (.dma sm))
    (hst : St ⊢ (iprop((Free c dst : sProp 𝕄) ∗ semVal (c, .dma sm) 0 ∗ (Part c src q X : sProp 𝕄)
      ∗ ((Busy c src dst sm ι q X : sProp 𝕄) -∗ St')) : sProp 𝕄))
    (hk : St' ⊢ wp frame (wpE defs 𝒱 c bd) Set.univ (k ⟨⟩) Q) :
    St ⊢ wp frame (wpE defs 𝒱 c bd) Set.univ (Prog.lift (.enqueueDma src (.here dst) (.dma sm) hsrc hdst hsem) >>= k) Q := by
  simp only [Prog.lift, Prog.bind_op, Prog.bind_ret]
  refine hst.trans ?_
  unfold Free Part Busy
  iintro ⟨⟨%fd, Hd⟩, Hs, Hx, Hback⟩
  ihave Hx2 := (pointsTo_split_subset (Finset.subset_univ src.view.set)).1 $$ Hx
  icases Hx2 with ⟨Hx, Hrest⟩
  iapply (wp_dmaLocal countersEmb 𝒱 c bd (src := src) (dst := dst) (sm := .dma sm) (q := q) (fs := X) (fd := fd)
    (Sd := dst.view.set) ι (dst.view.amount (.dma sm)) rfl hN0 (Finset.Subset.refl _)) $$ [Hd Hs Hx]
  · isplitl [Hx]; · iexact Hx
    isplitl [Hd]; · iexact Hd
    iexact Hs
  iintro HF
  iapply hk
  iapply Hback
  isplitl [HF]
  · iexists fd; iexact HF
  iexact Hrest

/-- Waiting for a slot's copy: the slot reads as the source did. -/
theorem waitCopy {sp sp' sp₂ sp₃ : Space} {s₂ : Shape} {e₂ : EltTy} {src : Memref sig c.2.kind sp s e} {dst : Memref sig c.2.kind sp' s e} {sm : DmaSem sig}
    {srcw : Memref sig c.2.kind sp₂ s₂ e₂} {dstw : Memref sig c.2.kind sp₃ s e}
    {hsrc : srcw.view.WordExact} {hdst : dstw.view.WordExact}
    {k : PUnit → Prog (TpuEff nD τ sig Val Λ c.2) α} {q : PosShare TreeShare} {X : Buf Val (src.view.loc c)} (ι : Ix)
    (hN : dstw.view.dmaCredit = dst.view.amount (.dma sm))
    (hst : St ⊢ (iprop((Busy c src dst sm ι q X : sProp 𝕄) ∗ (Owes (Ix := Ix) c : sProp 𝕄)
      ∗ (iprop((Ready c dst (src.view.read Val X) : sProp 𝕄) ∗ semVal (c, .dma sm) 0 ∗ (Part c src q X : sProp 𝕄) ∗ (Owes (Ix := Ix) c : sProp 𝕄)) -∗ St')) : sProp 𝕄))
    (hk : St' ⊢ wp frame (wpE defs 𝒱 c bd) Set.univ (k ⟨⟩) Q) :
    St ⊢ wp frame (wpE defs 𝒱 c bd) Set.univ (Prog.lift (.waitDma2 sm srcw dstw hsrc hdst) >>= k) Q := by
  simp only [Prog.lift, Prog.bind_op, Prog.bind_ret]
  refine hst.trans ?_
  unfold Busy Owes Ready Part
  iintro ⟨⟨⟨%fd, HF⟩, Hrest⟩, ⟨%W, HW⟩, Hback⟩
  iapply (wp_waitLocal countersEmb 𝒱 c bd (sem := sm) (srcw := srcw) (dstw := dstw) (hsrc := hsrc) (hdst := hdst) ι hN) $$ [HF HW]
  · isplitl [HF]; · iexact HF
    iexact HW
  iintro ⟨⟨Hd, Hx⟩, Hs, HW⟩
  iapply hk
  iapply Hback
  isplitl [Hd]
  · iexists _
    isplitl [Hd]; · iexact Hd
    ipureintro
    intro y
    rw [View.read_write_univ]
  isplitl [Hs]; · iexact Hs
  isplitl [Hx Hrest]
  · iapply (pointsTo_split_subset (Finset.subset_univ src.view.set)).2
    isplitl [Hx]; · iexact Hx
    iexact Hrest
  iexists _; iexact HW

end Rules

end Cert.Proof.Hoare

end
-- ==== Proof.RingBuf.lean ====
/- The staging ring of the table-building loop: eight slots of 128 table rows each, filled by copies from the code
   table's 62 blocks. Before trip `k` the slot `p` waits for the first block from `k` on whose number is `p` modulo 8, if
   there is one, and is free otherwise. Each slot keeps its own share of the code table, so that a copy can read it. -/
module

public import proofs.«01_k».proof.Proof.Dma
public import Idealize.ShloMosaic.Lib.Ring.Tabled
public import Idealize.ShloMosaic.Lib.Tactic

@[expose] public section

set_option maxRecDepth 16384

noncomputable section

namespace Cert.Proof.Hoare

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers

/-- The ring buffer, one slot, one slot's copy cell and the code table, by shape. -/
abbrev Rg : Shape := ⟨3, ![8, 128, 2560]⟩
abbrev Rg1 : Shape := ⟨3, ![1, 128, 2560]⟩
abbrev Sl : Shape := ⟨2, ![128, 2560]⟩
abbrev Ct : Shape := ⟨2, ![7936, 2560]⟩
abbrev Sm8 : Shape := ⟨1, ![8]⟩
abbrev Sm1 : Shape := ⟨1, ![1]⟩
abbrev Sm0 : Shape := ⟨0, ![]⟩

theorem sq1 : Rg1.Squeezes Sl := by decide
theorem sq0 : Sm1.Squeezes Sm0 := by decide

theorem inbSlot (p : Fin 8) : ∀ a, (![p.val, 0, 0] : Fin 3 → ℕ) a + Rg1.size a ≤ Rg.size a := by
  intro a; fin_cases a
  · show p.val + 1 ≤ 8; omega
  · show 0 + 128 ≤ 128; omega
  · show 0 + 2560 ≤ 2560; omega
theorem inbSem (p : Fin 8) : ∀ a, (![p.val] : Fin 1 → ℕ) a + Sm1.size a ≤ Sm8.size a := by
  intro a; fin_cases a
  show p.val + 1 ≤ 8; omega
theorem inbBlk {b : ℕ} (h : b < 62) : ∀ a, (![128 * b, 0] : Fin 2 → ℕ) a + Sl.size a ≤ Ct.size a := by
  intro a; fin_cases a
  · show 128 * b + 128 ≤ 7936; omega
  · show 0 + 2560 ≤ 2560; omega

/-- The block a slot is waiting for before trip `k`. -/
def nxt (k : ℕ) (p : Fin 8) : ℕ := k + (p.val + 8 - k % 8) % 8
/-- The slot of block `k`. -/
def at8 (k : ℕ) : Fin 8 := ⟨k % 8, by omega⟩
theorem nxt_at (k : ℕ) : nxt k (at8 k) = k := by unfold nxt at8; dsimp only; omega
theorem nxt_succ_at (k : ℕ) : nxt (k + 1) (at8 k) = k + 8 := by unfold nxt at8; dsimp only; omega
theorem nxt_succ_ne {k : ℕ} {p : Fin 8} (h : p ≠ at8 k) : nxt (k + 1) p = nxt k p := by
  have h' : p.val ≠ k % 8 := fun e => h (Fin.ext e)
  unfold nxt; have := p.isLt; omega
theorem at8_add (k : ℕ) : at8 (k + 8) = at8 k := by unfold at8; simp
theorem nxt_zero (p : Fin 8) : nxt 0 p = p.val := by unfold nxt; have := p.isLt; omega
theorem nxt_last (p : Fin 8) : ¬ nxt 62 p < 62 := by unfold nxt; omega

variable {nD : Nat} {τ : Topo} {sig : RefSig} {Val : EltTy → Type}
variable {U : Type} [URA U]
local notation "𝕄" => MT nD τ sig Unit Val ℕ U ℕ

section Views
variable (arg13 : Memref sig .tc .vmem Rg .i8) (arg2 : Memref sig .tc .hbm Ct .i8) (arg14 : DmaSems sig Sm8)

/-- Slot `p`, its cell, and block `b` of the code table. -/
abbrev slotOf (p : Fin 8) : Memref sig .tc .vmem Sl .i8 :=
  (arg13.slice (Rect.unit (s := Rg) ![p.val, 0, 0] Rg1.size (inbSlot p)) (fun _ => rfl)).squeeze Sl sq1
abbrev semOf (p : Fin 8) : DmaSem sig := ((arg14.slice (Rect.unit (s := Sm8) ![p.val] Sm1.size (inbSem p))).squeeze Sm0 sq0).sem
abbrev blkOf (b : ℕ) (h : b < 62) : Memref sig .tc .hbm Sl .i8 :=
  arg2.slice (Rect.unit (s := Ct) ![128 * b, 0] Sl.size (inbBlk h)) (fun _ => rfl)

theorem slot_congr {off : Fin 3 → ℕ} {p : Fin 8} (e : off = ![p.val, 0, 0]) (hh hs hq) :
    (arg13.slice (Rect.unit (s := Rg) off Rg1.size hh) hs).squeeze Sl hq = slotOf arg13 p := by
  subst e; rfl
theorem sem_congr {off : Fin 1 → ℕ} {p : Fin 8} (e : off = ![p.val]) (hh hq) :
    ((arg14.slice (Rect.unit (s := Sm8) off Sm1.size hh)).squeeze Sm0 hq).sem = semOf arg14 p := by
  subst e; rfl
theorem blk_congr {off : Fin 2 → ℕ} {b : ℕ} (hb : b < 62) (e : off = ![128 * b, 0]) (hh hs) :
    arg2.slice (Rect.unit (s := Ct) off Sl.size hh) hs = blkOf arg2 b hb := by
  subst e; rfl

theorem slot_set (p : Fin 8) : (slotOf arg13 p).view.set = (Rect.unit (s := Rg) ![p.val, 0, 0] Rg1.size (inbSlot p)).set.map arg13.view.emb :=
  (View.set_reshape _ _).trans (View.set_slice _ _)

theorem mem_slot (p : Fin 8) (y : Rg.Idx) : y ∈ (Rect.unit (s := Rg) ![p.val, 0, 0] Rg1.size (inbSlot p)).set ↔ (y 0).val = p.val := by
  rw [Rect.mem_set_unit]
  have h1 : (y 1).val < 128 := (y 1).isLt
  have h2 : (y 2).val < 2560 := (y 2).isLt
  constructor
  · intro H; have a0 : p.val ≤ (y 0).val ∧ (y 0).val < p.val + 1 := H 0; omega
  · intro H i; fin_cases i
    · show p.val ≤ (y 0).val ∧ (y 0).val < p.val + 1; omega
    · show 0 ≤ (y 1).val ∧ (y 1).val < 0 + 128; omega
    · show 0 ≤ (y 2).val ∧ (y 2).val < 0 + 2560; omega

/-- A slot's elements. -/
def slotSet (p : Fin 8) : Finset arg13.view.ty.Idx := (Rect.unit (s := Rg) ![p.val, 0, 0] Rg1.size (inbSlot p)).set.map arg13.view.emb
theorem slot_disjoint : ∀ p p' : Fin 8, p ≠ p' → Disjoint (slotSet arg13 p) (slotSet arg13 p') := by
  intro p p' hne
  rw [slotSet, slotSet, Finset.disjoint_map, Finset.disjoint_left]
  intro y hy hy'
  rw [mem_slot] at hy hy'
  exact hne (Fin.ext (hy.symm.trans hy'))
theorem slot_cover (h13 : arg13.IsWhole) : (Finset.univ : Finset (Fin 8)).biUnion (slotSet arg13) = Finset.univ := by
  ext z
  simp only [Finset.mem_biUnion, Finset.mem_univ, true_and, iff_true]
  have hz : z ∈ arg13.view.set := by rw [h13.set_eq_univ]; exact Finset.mem_univ _
  obtain ⟨y, -, rfl⟩ := Finset.mem_map.mp hz
  refine ⟨(y 0).cast (by rfl), ?_⟩
  exact Finset.mem_map_of_mem _ ((mem_slot _ _).mpr rfl)
end Views

variable [CountersIn U] (c : Dev nD)
variable (arg13 : Memref sig .tc .vmem Rg .i8) (arg2 : Memref sig .tc .hbm Ct .i8) (arg14 : DmaSems sig Sm8)
variable (X : Buf Val (arg2.view.loc (c : Thread nD τ)))

theorem entails_of_eq {P Q : sProp 𝕄} (e : P = Q) : P ⊢ Q := e ▸ .rfl
theorem ex_intro {α : Sort*} (Φ : α → sProp 𝕄) (a : α) : Φ a ⊢ iprop(∃ x, Φ x) := by
  iintro H; iexists a; iexact H
theorem free_eq (p : Fin 8) : (Free (c : Thread nD τ) (slotOf arg13 p) : sProp 𝕄) = iprop(∃ f, arg13.view.loc (c : Thread nD τ) ↦[slotSet arg13 p]{fullShare} f) := by
  unfold Free
  exact congrArg (fun S => (iprop(∃ f, arg13.view.loc (c : Thread nD τ) ↦[S]{fullShare} f) : sProp 𝕄)) (slot_set arg13 p)
theorem sep8 (Φ Ψ : Fin 8 → sProp 𝕄) : bigSep Finset.univ (fun p => iprop(Φ p ∗ Ψ p)) = iprop(bigSep Finset.univ Φ ∗ bigSep Finset.univ Ψ) := bigSep_sep _ _ _
theorem erase8 (p : Fin 8) (Φ : Fin 8 → sProp 𝕄) : bigSep Finset.univ Φ = iprop(Φ p ∗ bigSep (Finset.univ.erase p) Φ) := bigSep_erase (Finset.mem_univ p)
/-- A slot with nothing on its way. -/
def Idle (p : Fin 8) : sProp 𝕄 :=
  iprop((Free (c : Thread nD τ) (slotOf arg13 p) : sProp 𝕄) ∗ semVal ((c : Thread nD τ), .dma (semOf arg14 p)) 0
    ∗ (Part (c : Thread nD τ) arg2 (Ring.sharesN 8 fullShare p) X : sProp 𝕄))
/-- Slot `p` with block `b` on its way. -/
def Coming (b : ℕ) (h : b < 62) (p : Fin 8) : sProp 𝕄 :=
  Busy (c : Thread nD τ) (blkOf arg2 b h) (slotOf arg13 p) (semOf arg14 p) () (Ring.sharesN 8 fullShare p) X
/-- Slot `p` before trip `k`. -/
def SlotAt (k : ℕ) (p : Fin 8) : sProp 𝕄 :=
  if h : nxt k p < 62 then Coming c arg13 arg2 arg14 X (nxt k p) h p else Idle c arg13 arg2 arg14 X p
/-- The ring before trip `k`. -/
def RingAt (k : ℕ) : sProp 𝕄 := bigSep Finset.univ (SlotAt c arg13 arg2 arg14 X k)
/-- The slots other than that of block `k`. -/
def Others (k : ℕ) : sProp 𝕄 := bigSep (Finset.univ.erase (at8 k)) (SlotAt c arg13 arg2 arg14 X k)

/-- Before trip `k` the slot of block `k` has it on its way. -/
theorem RingAt.take {k : ℕ} (h : k < 62) :
    (RingAt c arg13 arg2 arg14 X k : sProp 𝕄) = iprop((Coming c arg13 arg2 arg14 X k h (at8 k) : sProp 𝕄) ∗ (Others c arg13 arg2 arg14 X k : sProp 𝕄)) := by
  unfold RingAt Others
  rw [bigSep_erase (Finset.mem_univ (at8 k))]
  have e : (SlotAt c arg13 arg2 arg14 X k (at8 k) : sProp 𝕄) = Coming c arg13 arg2 arg14 X k h (at8 k) := by
    unfold SlotAt
    have e1 := nxt_at k
    simp only [e1, h, dite_true]
  rw [e]; rfl
theorem others_succ (k : ℕ) : (Others c arg13 arg2 arg14 X k : sProp 𝕄) = bigSep (Finset.univ.erase (at8 k)) (SlotAt c arg13 arg2 arg14 X (k + 1)) := by
  unfold Others
  refine bigSep_congr fun p hp => ?_
  have e1 := nxt_succ_ne (Finset.ne_of_mem_erase hp)
  unfold SlotAt
  simp only [e1]
/-- After trip `k` it has block `k + 8` on its way; -/
theorem RingAt.put {k : ℕ} (h : k + 8 < 62) :
    iprop((Coming c arg13 arg2 arg14 X (k + 8) h (at8 k) : sProp 𝕄) ∗ (Others c arg13 arg2 arg14 X k : sProp 𝕄)) = (RingAt c arg13 arg2 arg14 X (k + 1) : sProp 𝕄) := by
  unfold RingAt
  rw [bigSep_erase (Finset.mem_univ (at8 k)), others_succ]
  have e : (SlotAt c arg13 arg2 arg14 X (k + 1) (at8 k) : sProp 𝕄) = Coming c arg13 arg2 arg14 X (k + 8) h (at8 k) := by
    unfold SlotAt
    have e1 := nxt_succ_at k
    simp only [e1, h, dite_true]
  rw [e]; rfl
/-- or nothing, in the last eight trips. -/
theorem RingAt.put_idle {k : ℕ} (h : ¬ k + 8 < 62) :
    iprop((Idle c arg13 arg2 arg14 X (at8 k) : sProp 𝕄) ∗ (Others c arg13 arg2 arg14 X k : sProp 𝕄)) = (RingAt c arg13 arg2 arg14 X (k + 1) : sProp 𝕄) := by
  unfold RingAt
  rw [bigSep_erase (Finset.mem_univ (at8 k)), others_succ]
  have e : (SlotAt c arg13 arg2 arg14 X (k + 1) (at8 k) : sProp 𝕄) = Idle c arg13 arg2 arg14 X (at8 k) := by
    unfold SlotAt
    have e1 := nxt_succ_at k
    simp only [e1, h, dite_false]
  rw [e]; rfl

theorem bigSep8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

/-- At the loop's entry block `p` is on its way to slot `p`. -/
theorem ring_start : (bigSep Finset.univ (fun p : Fin 8 => (Coming c arg13 arg2 arg14 X p.val (by omega) p : sProp 𝕄))) = RingAt c arg13 arg2 arg14 X 0 := by
  unfold RingAt
  refine bigSep_congr fun p _ => ?_
  have e1 := nxt_zero p
  have h : p.val < 62 := by omega
  unfold SlotAt
  simp only [e1, h, dite_true]
/-- At its end every slot is idle. -/
theorem ring_end : (RingAt c arg13 arg2 arg14 X 62 : sProp 𝕄) = bigSep Finset.univ (Idle c arg13 arg2 arg14 X) := by
  unfold RingAt
  refine bigSep_congr fun p _ => ?_
  unfold SlotAt
  rw [dif_neg (nxt_last p)]

/-- The ring buffer, its cells at zero and the code table are eight idle slots, -/
theorem idle_split (h13 : arg13.IsWhole) :
    iprop((Own (c : Thread nD τ) arg13 : sProp 𝕄) ∗ bigSep Finset.univ (fun p : Fin 8 => (semVal ((c : Thread nD τ), .dma (semOf arg14 p)) 0 : sProp 𝕄))
      ∗ (Part (c : Thread nD τ) arg2 fullShare X : sProp 𝕄)) ⊢ bigSep Finset.univ (Idle c arg13 arg2 arg14 X) := by
  unfold Idle
  simp only [free_eq]
  rw [sep8, sep8]
  unfold Own Part
  iintro ⟨⟨%f, Hf⟩, Hs, Hx⟩
  isplitl [Hf]
  · ihave Hf' := (entails_of_eq (Ring.pointsTo_blocks (ℓ := arg13.view.loc (c : Thread nD τ)) (slotSet arg13) (slot_disjoint arg13) (slot_cover arg13 h13) f)) $$ Hf
    have hm : bigSep Finset.univ (fun p => (arg13.view.loc (c : Thread nD τ) ↦[slotSet arg13 p]{fullShare} f : sProp 𝕄))
        ⊢ bigSep Finset.univ (fun p => (iprop(∃ f, arg13.view.loc (c : Thread nD τ) ↦[slotSet arg13 p]{fullShare} f) : sProp 𝕄)) :=
      bigSep_mono fun p _ => ex_intro (fun f => (arg13.view.loc (c : Thread nD τ) ↦[slotSet arg13 p]{fullShare} f : sProp 𝕄)) f
    iapply hm $$ Hf'
  isplitl [Hs]; · iexact Hs
  ihave Hx' := (Ring.pointsTo_nths X 7 fullShare).1 $$ Hx
  iapply (entails_of_eq (bigSep_univ_eq_bigSepL (List.finRange 8) (by decide) (by decide) _).symm)
  iexact Hx'
/-- and back. -/
theorem idle_join (h13 : arg13.IsWhole) :
    bigSep Finset.univ (Idle c arg13 arg2 arg14 X) ⊢ iprop((Own (c : Thread nD τ) arg13 : sProp 𝕄) ∗ bigSep Finset.univ (fun p : Fin 8 => (semVal ((c : Thread nD τ), .dma (semOf arg14 p)) 0 : sProp 𝕄))
      ∗ (Part (c : Thread nD τ) arg2 fullShare X : sProp 𝕄)) := by
  unfold Idle
  simp only [free_eq]
  rw [sep8, sep8]
  unfold Own Part
  iintro ⟨HF, HS, HX⟩
  isplitl [HF]
  · ihave HF' := (entails_of_eq (erase8 0 _)) $$ HF
    icases HF' with ⟨⟨%f0, F0⟩, HF⟩
    iapply (Ring.pointsTo_blocks_join_exists (ℓ := arg13.view.loc (c : Thread nD τ)) (slotSet arg13) (slot_disjoint arg13) (slot_cover arg13 h13) f0)
    iapply (entails_of_eq (erase8 0 _).symm)
    isplitl [F0]; · iexists f0; iexact F0
    iexact HF
  isplitl [HS]; · iexact HS
  iapply (Ring.pointsTo_nths X 7 fullShare).2
  iapply (entails_of_eq (bigSep_univ_eq_bigSepL (List.finRange 8) (by decide) (by decide) _))
  iexact HX

/-- The first `j` slots have their blocks on their way. -/
def Filling (j : ℕ) : sProp 𝕄 := bigSep Finset.univ (fun p : Fin 8 =>
  if p.val < j then (Coming c arg13 arg2 arg14 X p.val (by omega) p : sProp 𝕄) else Idle c arg13 arg2 arg14 X p)
theorem filling_zero : (Filling c arg13 arg2 arg14 X 0 : sProp 𝕄) = bigSep Finset.univ (Idle c arg13 arg2 arg14 X) := by
  unfold Filling
  exact bigSep_congr fun p _ => if_neg (Nat.not_lt_zero _)
theorem filling_all : (Filling c arg13 arg2 arg14 X 8 : sProp 𝕄) = RingAt c arg13 arg2 arg14 X 0 := by
  rw [← ring_start]
  unfold Filling
  exact bigSep_congr fun p _ => if_pos p.isLt
theorem filling_next (p : Fin 8) : (Filling c arg13 arg2 arg14 X p.val : sProp 𝕄) ⊢ iprop((Idle c arg13 arg2 arg14 X p : sProp 𝕄)
    ∗ ((Coming c arg13 arg2 arg14 X p.val (by omega) p : sProp 𝕄) -∗ (Filling c arg13 arg2 arg14 X (p.val + 1) : sProp 𝕄))) := by
  unfold Filling
  rw [erase8 p, erase8 p, if_neg (Nat.lt_irrefl _), if_pos (Nat.lt_succ_self _)]
  have e : bigSep (Finset.univ.erase p) (fun p' : Fin 8 => if p'.val < p.val then (Coming c arg13 arg2 arg14 X p'.val (by omega) p' : sProp 𝕄) else Idle c arg13 arg2 arg14 X p')
      = bigSep (Finset.univ.erase p) (fun p' : Fin 8 => if p'.val < p.val + 1 then (Coming c arg13 arg2 arg14 X p'.val (by omega) p' : sProp 𝕄) else Idle c arg13 arg2 arg14 X p') := by
    refine bigSep_congr fun p' hp => ?_
    have hne : p'.val ≠ p.val := fun h => Finset.ne_of_mem_erase hp (Fin.ext h)
    have : (p'.val < p.val) = (p'.val < p.val + 1) := by apply propext; omega
    simp only [this]
  rw [e]
  iintro ⟨H0, HR⟩
  isplitl [H0]; · iexact H0
  iintro H
  isplitl [H]; · iexact H
  iexact HR

/-- The kernel body's rest: scales, zeros, weight, the ring and the core's record of waits. -/
def Rst (A3 A4 A5 G O : sProp 𝕄) : sProp 𝕄 := iprop(A3 ∗ A4 ∗ A5 ∗ G ∗ O)

variable {A1 A3 A4 A5 A6 A7 A8 A9 A10 A11 A12 O : sProp (MT nD τ sig Unit Val ℕ U ℕ)}
theorem Rst.ring {G G' : sProp 𝕄} : (Sts A1 A6 A7 A8 A9 A10 A11 A12 (Rst A3 A4 A5 G O) : sProp 𝕄) ⊢ iprop(G ∗ (G' -∗ (Sts A1 A6 A7 A8 A9 A10 A11 A12 (Rst A3 A4 A5 G' O) : sProp 𝕄))) := by
  unfold Sts Rst
  iintro ⟨H1, H6, H7, H8, H9, H10, H11, H12, H3, H4, H5, HG, HO⟩
  isplitl [HG]; · iexact HG
  iintro H
  iframe
theorem Rst.t5 {G A5' : sProp 𝕄} : (Sts A1 A6 A7 A8 A9 A10 A11 A12 (Rst A3 A4 A5 G O) : sProp 𝕄) ⊢ iprop(A5 ∗ (A5' -∗ (Sts A1 A6 A7 A8 A9 A10 A11 A12 (Rst A3 A4 A5' G O) : sProp 𝕄))) := by
  unfold Sts Rst
  iintro ⟨H1, H6, H7, H8, H9, H10, H11, H12, H3, H4, H5, HG, HO⟩
  isplitl [H5]; · iexact H5
  iintro H
  iframe

/-- Starting the copy of block `p` before the loop. -/
theorem fill (p : Fin 8) {b : ℕ} (e : p.val = b) (h : b < 62) : (Sts A1 A6 A7 A8 A9 A10 A11 A12 (Rst A3 A4 A5 (Filling c arg13 arg2 arg14 X p.val) O) : sProp 𝕄)
    ⊢ iprop((Free (c : Thread nD τ) (slotOf arg13 p) : sProp 𝕄) ∗ semVal ((c : Thread nD τ), .dma (semOf arg14 p)) 0
      ∗ (Part (c : Thread nD τ) (blkOf arg2 b h) (Ring.sharesN 8 fullShare p) X : sProp 𝕄)
      ∗ ((Busy (c : Thread nD τ) (blkOf arg2 b h) (slotOf arg13 p) (semOf arg14 p) () (Ring.sharesN 8 fullShare p) X : sProp 𝕄)
        -∗ (Sts A1 A6 A7 A8 A9 A10 A11 A12 (Rst A3 A4 A5 (Filling c arg13 arg2 arg14 X (p.val + 1)) O) : sProp 𝕄))) := by
  subst e
  unfold Sts Rst
  iintro ⟨H1, H6, H7, H8, H9, H10, H11, H12, H3, H4, H5, HG, HO⟩
  ihave HG := (filling_next c arg13 arg2 arg14 X p) $$ HG
  unfold Idle Coming
  icases HG with ⟨⟨HF, HS, HP⟩, HB⟩
  isplitl [HF]; · iexact HF
  isplitl [HS]; · iexact HS
  isplitl [HP]; · iexact HP
  iintro HC
  ihave HG := HB $$ HC
  iframe

/-- The state inside trip `k`: its slot is ready, its cell and its share of the code table are at hand. -/
def InTrip (k : ℕ) (T : Sl.Idx → Val .i8) (A1 A3 A4 A5 A6 A7 A8 A9 A10 A11 A12 : sProp 𝕄) : sProp 𝕄 :=
  Sts A3 A4 (Ready (c : Thread nD τ) (slotOf arg13 (at8 k)) T) A8 A9 (semVal ((c : Thread nD τ), .dma (semOf arg14 (at8 k))) 0)
    (Part (c : Thread nD τ) arg2 (Ring.sharesN 8 fullShare (at8 k)) X) (Owes (c : Thread nD τ))
    iprop(A1 ∗ A5 ∗ A6 ∗ A7 ∗ A10 ∗ A11 ∗ A12 ∗ (Others c arg13 arg2 arg14 X k : sProp 𝕄))
/-- Into trip `k`, when its copy has come, -/
theorem ring_wait {k : ℕ} (h : k < 62) : (Sts A1 A6 A7 A8 A9 A10 A11 A12 (Rst A3 A4 A5 (RingAt c arg13 arg2 arg14 X k) (Owes (c : Thread nD τ))) : sProp 𝕄)
    ⊢ iprop((Busy (c : Thread nD τ) (blkOf arg2 k h) (slotOf arg13 (at8 k)) (semOf arg14 (at8 k)) () (Ring.sharesN 8 fullShare (at8 k)) X : sProp 𝕄) ∗ (Owes (c : Thread nD τ) : sProp 𝕄)
      ∗ (((Ready (c : Thread nD τ) (slotOf arg13 (at8 k)) ((blkOf arg2 k h).view.read Val X) : sProp 𝕄) ∗ semVal ((c : Thread nD τ), .dma (semOf arg14 (at8 k))) 0
        ∗ (Part (c : Thread nD τ) (blkOf arg2 k h) (Ring.sharesN 8 fullShare (at8 k)) X : sProp 𝕄) ∗ (Owes (c : Thread nD τ) : sProp 𝕄))
        -∗ (InTrip c arg13 arg2 arg14 X k ((blkOf arg2 k h).view.read Val X) A1 A3 A4 A5 A6 A7 A8 A9 A10 A11 A12 : sProp 𝕄))) := by
  unfold InTrip
  rw [RingAt.take c arg13 arg2 arg14 X h]
  unfold Sts Rst Coming
  iintro ⟨H1, H6, H7, H8, H9, H10, H11, H12, H3, H4, H5, ⟨HC, HR⟩, HO⟩
  isplitl [HC]; · iexact HC
  isplitl [HO]; · iexact HO
  iintro ⟨HY, HS, HP, HO⟩
  isplitl [H3]; · iexact H3
  isplitl [H4]; · iexact H4
  isplitl [HY]; · iexact HY
  isplitl [H8]; · iexact H8
  isplitl [H9]; · iexact H9
  isplitl [HS]; · iexact HS
  isplitl [HP]; · iexact HP
  isplitl [HO]; · iexact HO
  iframe
/-- out of it, starting the next copy, -/
theorem ring_next {k : ℕ} {T : Sl.Idx → Val .i8} (h : k + 8 < 62) : (InTrip c arg13 arg2 arg14 X k T A1 A3 A4 A5 A6 A7 A8 A9 A10 A11 A12 : sProp 𝕄)
    ⊢ iprop((Free (c : Thread nD τ) (slotOf arg13 (at8 k)) : sProp 𝕄) ∗ semVal ((c : Thread nD τ), .dma (semOf arg14 (at8 k))) 0
      ∗ (Part (c : Thread nD τ) (blkOf arg2 (k + 8) h) (Ring.sharesN 8 fullShare (at8 k)) X : sProp 𝕄)
      ∗ ((Busy (c : Thread nD τ) (blkOf arg2 (k + 8) h) (slotOf arg13 (at8 k)) (semOf arg14 (at8 k)) () (Ring.sharesN 8 fullShare (at8 k)) X : sProp 𝕄)
        -∗ (Sts A1 A6 A7 A8 A9 A10 A11 A12 (Rst A3 A4 A5 (RingAt c arg13 arg2 arg14 X (k + 1)) (Owes (c : Thread nD τ))) : sProp 𝕄))) := by
  unfold InTrip
  rw [← RingAt.put c arg13 arg2 arg14 X h]
  unfold Sts Rst Coming
  iintro ⟨H3, H4, HY, H8, H9, HS, HP, HO, H1, H5, H6, H7, H10, H11, H12, HR⟩
  isplitl [HY]; · iapply Ready.free; iexact HY
  isplitl [HS]; · iexact HS
  isplitl [HP]; · iexact HP
  iintro HC
  iframe
/-- or none. -/
theorem ring_last {k : ℕ} {T : Sl.Idx → Val .i8} (h : ¬ k + 8 < 62) : (InTrip c arg13 arg2 arg14 X k T A1 A3 A4 A5 A6 A7 A8 A9 A10 A11 A12 : sProp 𝕄)
    ⊢ (Sts A1 A6 A7 A8 A9 A10 A11 A12 (Rst A3 A4 A5 (RingAt c arg13 arg2 arg14 X (k + 1)) (Owes (c : Thread nD τ))) : sProp 𝕄) := by
  unfold InTrip
  rw [← RingAt.put_idle c arg13 arg2 arg14 X h]
  unfold Sts Rst Idle
  iintro ⟨H3, H4, HY, H8, H9, HS, HP, HO, H1, H5, H6, H7, H10, H11, H12, HR⟩
  ihave HF := Ready.free $$ HY
  iframe

end Cert.Proof.Hoare

end
-- ==== Proof.KernelBuild.lean ====
/- One trip of the kernel's table-building loop stays inside its buffers, whatever they hold (Kernel). One theorem per
   part of the loop body, in continuation form; then the trip, over what it waits for and what it may start. -/
module

public import proofs.«01_k».proof.Proof.RingBuf
public import proofs.«01_k».proof.Proof.Gen.Kernel.Skeleton
public import proofs.«01_k».proof.Proof.Gen.Kernel.Frame

@[expose] public section

set_option maxRecDepth 16384

noncomputable section

namespace Cert.Proof.KernelBuild

open Cert.Kernel Cert.Kernel.Gen Cert.Proof.Hoare
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [BitOps F]
local notation "𝕄" => MT nD τ sig Unit (Elt F) ℕ (Pipeline.UD sig nD τ) ℕ

/-- The ring slot of trip `k`. -/
abbrev slot (i : grid0.Coords) (arg13 : Memref sig .tc .vmem S8x128x2560 .i8) (k0_h1 : k0_cond1 i = 1#1) (k0_t1 : Fin k0_t1_loop.trips) : Memref sig .tc .vmem S128x2560 .i8 :=
  (arg13.slice (Rect.unit (s := S8x128x2560) (k0_off2 k0_t1) S1x128x2560.size (k0_off2_inb i k0_t1 k0_h1)) (fun _ => rfl)).squeeze S128x2560 squeezes_S1x128x2560_S128x2560
/-- The state of the building loop: the scales, the zeros, the trip's slot, the table and the inverse norms. -/
abbrev S (c : Dev nD) {s3 s4 s8 s9 : Shape} {e3 e4 e8 e9 : EltTy} (arg3 : Memref sig .tc .vmem s3 e3) (arg4 : Memref sig .tc .vmem s4 e4)
    (arg8 : Memref sig .tc .vmem s8 e8) (arg9 : Memref sig .tc .vmem s9 e9) (sl : Memref sig .tc .vmem S128x2560 .i8)
    (T : S128x2560.Idx → Elt F .i8) (B10 B11 B12 R : sProp 𝕄) : sProp 𝕄 :=
  Sts (Own (c : Thread nD τ) arg3) (Own (c : Thread nD τ) arg4) (Ready (c : Thread nD τ) sl T) (Own (c : Thread nD τ) arg8) (Own (c : Thread nD τ) arg9) B10 B11 B12 R

variable {𝒱 : Variants} {c : Dev nD} {bd : Option 𝒱.V} {β : Type}
  {Q : β → sProp (MT nD τ sig Unit (Elt F) ℕ (Pipeline.UD sig nD τ) ℕ)} {T : S128x2560.Idx → Elt F .i8}
  {B10 B11 B12 R : sProp (MT nD τ sig Unit (Elt F) ℕ (Pipeline.UD sig nD τ) ℕ)}
variable (i : grid0.Coords) (arg1 : Memref sig .tc .smem S1x1x256 .i32) (harg1 : arg1.IsWhole) (arg2 : Memref sig .tc .hbm S7936x2560 .i8) (harg2 : arg2.IsWhole) (arg3 : Memref sig .tc .vmem S62x128 .f32) (harg3 : arg3.IsWhole) (arg4 : Memref sig .tc .vmem S62x128 .f32) (harg4 : arg4.IsWhole) (arg5 : Memref sig .tc .vmem S1x2560 .bf16) (harg5 : arg5.IsWhole) (arg6 : Memref sig .tc .vmem S5120x128 .bf16) (harg6 : arg6.IsWhole) (arg7 : Memref sig .tc .vmem S5120x128 .bf16) (harg7 : arg7.IsWhole) (arg8 : Memref sig .tc .vmem S79360x128 .i32) (harg8 : arg8.IsWhole) (arg9 : Memref sig .tc .vmem S15872x128 .f32) (harg9 : arg9.IsWhole) (arg10 : Memref sig .tc .vmem S80x128 .f32) (harg10 : arg10.IsWhole) (arg11 : Memref sig .tc .vmem S320x128 .i32) (harg11 : arg11.IsWhole) (arg12 : Memref sig .tc .vmem S64x128 .f32) (harg12 : arg12.IsWhole) (arg13 : Memref sig .tc .vmem S8x128x2560 .i8) (harg13 : arg13.IsWhole) (arg14 : DmaSems sig S8)

theorem part1 (k0_h1 : k0_cond1 i = 1#1) (c0_i32_48 : BitVec 32) (c1_i32_49 : BitVec 32) (k0_t1 : Fin k0_t1_loop.trips) {St : sProp 𝕄} {src : Memref sig .tc .hbm S128x2560 .i8} {dst : Memref sig .tc .vmem S128x2560 .i8} {sm : DmaSem sig} {q} {X}
    (esm : ((arg14.slice (Rect.unit (s := S8) (k0_off1 k0_t1) S1.size (k0_off1_inb i k0_t1 k0_h1))).squeeze S_ squeezes_S1_S_).sem = sm) (edst : slot i arg13 k0_h1 k0_t1 = dst)
    (hst : St ⊢ iprop((Busy (c : Thread nD τ) src dst sm () q X : sProp 𝕄) ∗ (Owes (c : Thread nD τ) : sProp 𝕄) ∗ (((Ready (c : Thread nD τ) dst (src.view.read (Elt F) X) : sProp 𝕄)
      ∗ semVal ((c : Thread nD τ), .dma sm) 0 ∗ (Part (c : Thread nD τ) src q X : sProp 𝕄) ∗ (Owes (c : Thread nD τ) : sProp 𝕄)) -∗ (S c arg3 arg4 arg8 arg9 dst (src.view.read (Elt F) X) B10 B11 B12 R))))
    {K : (Σ' (arg15 : BitVec 32) (v219 : FVec F S128x128 .bf16), FVec F S128x128 .f32) → Prog (TpuEff nD τ sig (Elt F) Λ₀ .tc) β}
    (hk : ∀ r, S c arg3 arg4 arg8 arg9 (slot i arg13 k0_h1 k0_t1) (src.view.read (Elt F) X) B10 B11 B12 R ⊢ wp frame (wpE defs₀ 𝒱 (c : Thread nD τ) bd) Set.univ (K r) Q) :
    St ⊢ wp frame (wpE defs₀ 𝒱 (c : Thread nD τ) bd) Set.univ (k0_part1 (F := F) i arg1 harg1 arg2 harg2 arg3 harg3 arg4 harg4 arg5 harg5 arg6 harg6 arg7 harg7 arg8 harg8 arg9 harg9 arg10 harg10 arg11 harg11 arg12 harg12 arg13 harg13 arg14 k0_h1 c0_i32_48 c1_i32_49 k0_t1 >>= K) Q := by
  rw [k0_part1_eq_skeleton]
  unfold k0_part1_skel
  subst esm edst
  refine assoc (waitCopy () rfl hst ?_)
  refine assoc (load_own Sts.t1 fun v214 => ?_)
  refine assoc (load_own Sts.t6 fun v221 => ?_)
  exact ret (hk _)

theorem part2 (k0_h1 : k0_cond1 i = 1#1) (k0_t1 : Fin k0_t1_loop.trips) (arg15 : BitVec 32) (v219 : FVec F S128x128 .bf16) (v225 : FVec F S128x128 .f32) {K : (Σ' (v226 : FVec F S128x128 .bf16) (v227 : BitVec 32) (v252 : FVec F S128x128 .bf16) (v264 : FVec F S128x128 .f32) (v265 : IVec S64x128 32) (v266 : IVec S64x128 32), IVec S64x128 32) → Prog (TpuEff nD τ sig (Elt F) Λ₀ .tc) β}
    (hk : ∀ r, S c arg3 arg4 arg8 arg9 (slot i arg13 k0_h1 k0_t1) T B10 B11 B12 R ⊢ wp frame (wpE defs₀ 𝒱 (c : Thread nD τ) bd) Set.univ (K r) Q) :
    S c arg3 arg4 arg8 arg9 (slot i arg13 k0_h1 k0_t1) T B10 B11 B12 R ⊢ wp frame (wpE defs₀ 𝒱 (c : Thread nD τ) bd) Set.univ (k0_part2 (F := F) i arg1 harg1 arg2 harg2 arg3 harg3 arg4 harg4 arg5 harg5 arg6 harg6 arg7 harg7 arg8 harg8 arg9 harg9 arg10 harg10 arg11 harg11 arg12 harg12 arg13 harg13 arg14 k0_h1 k0_t1 arg15 v219 v225 >>= K) Q := by
  rw [k0_part2_eq_skeleton]
  unfold k0_part2_skel
  refine assoc (load_ready Sts.t7 fun v231 hv231 => ?_)
  refine assoc (load_ready Sts.t7 fun v237 hv237 => ?_)
  refine assoc (load_ready Sts.t7 fun v243 hv243 => ?_)
  refine assoc (load_ready Sts.t7 fun v249 hv249 => ?_)
  exact ret (hk _)

theorem part3 (k0_h1 : k0_cond1 i = 1#1) (k0_t1 : Fin k0_t1_loop.trips) (v227 : BitVec 32) (v252 : FVec F S128x128 .bf16) (v265 : IVec S64x128 32) (v266 : IVec S64x128 32) (v267 : IVec S64x128 32) {K : (IVec S64x128 32) → Prog (TpuEff nD τ sig (Elt F) Λ₀ .tc) β}
    (hk : ∀ r, S c arg3 arg4 arg8 arg9 (slot i arg13 k0_h1 k0_t1) T B10 B11 B12 R ⊢ wp frame (wpE defs₀ 𝒱 (c : Thread nD τ) bd) Set.univ (K r) Q) :
    S c arg3 arg4 arg8 arg9 (slot i arg13 k0_h1 k0_t1) T B10 B11 B12 R ⊢ wp frame (wpE defs₀ 𝒱 (c : Thread nD τ) bd) Set.univ (k0_part3 (F := F) i arg1 harg1 arg2 harg2 arg3 harg3 arg4 harg4 arg5 harg5 arg6 harg6 arg7 harg7 arg8 harg8 arg9 harg9 arg10 harg10 arg11 harg11 arg12 harg12 arg13 harg13 arg14 k0_h1 k0_t1 v227 v252 v265 v266 v267 >>= K) Q := by
  rw [k0_part3_eq_skeleton]
  unfold k0_part3_skel
  refine assoc (load_own Sts.t8 fun v281 => ?_)
  refine assoc (store_own Sts.t8 ?_)
  refine assoc (load_own Sts.t8 fun v287 => ?_)
  refine assoc (store_own Sts.t8 ?_)
  refine assoc (load_own Sts.t8 fun v302 => ?_)
  refine assoc (store_own Sts.t8 ?_)
  exact ret (hk _)

theorem part4 (k0_h1 : k0_cond1 i = 1#1) (k0_t1 : Fin k0_t1_loop.trips) (v219 : FVec F S128x128 .bf16) (v226 : FVec F S128x128 .bf16) (v264 : FVec F S128x128 .f32) (v299 : IVec S64x128 32) {K : (Σ' (v334 : FVec F S128x128 .bf16) (v346 : FVec F S128x128 .f32) (v347 : IVec S64x128 32) (v348 : IVec S64x128 32), IVec S64x128 32) → Prog (TpuEff nD τ sig (Elt F) Λ₀ .tc) β}
    (hk : ∀ r, S c arg3 arg4 arg8 arg9 (slot i arg13 k0_h1 k0_t1) T B10 B11 B12 R ⊢ wp frame (wpE defs₀ 𝒱 (c : Thread nD τ) bd) Set.univ (K r) Q) :
    S c arg3 arg4 arg8 arg9 (slot i arg13 k0_h1 k0_t1) T B10 B11 B12 R ⊢ wp frame (wpE defs₀ 𝒱 (c : Thread nD τ) bd) Set.univ (k0_part4 (F := F) i arg1 harg1 arg2 harg2 arg3 harg3 arg4 harg4 arg5 harg5 arg6 harg6 arg7 harg7 arg8 harg8 arg9 harg9 arg10 harg10 arg11 harg11 arg12 harg12 arg13 harg13 arg14 k0_h1 k0_t1 v219 v226 v264 v299 >>= K) Q := by
  rw [k0_part4_eq_skeleton]
  unfold k0_part4_skel
  refine assoc (load_own Sts.t8 fun v308 => ?_)
  refine assoc (store_own Sts.t8 ?_)
  refine assoc (load_ready Sts.t7 fun v313 hv313 => ?_)
  refine assoc (load_ready Sts.t7 fun v319 hv319 => ?_)
  refine assoc (load_ready Sts.t7 fun v325 hv325 => ?_)
  refine assoc (load_ready Sts.t7 fun v331 hv331 => ?_)
  exact ret (hk _)

theorem part5 (k0_h1 : k0_cond1 i = 1#1) (k0_t1 : Fin k0_t1_loop.trips) (v227 : BitVec 32) (v334 : FVec F S128x128 .bf16) (v347 : IVec S64x128 32) (v348 : IVec S64x128 32) (v349 : IVec S64x128 32) {K : (IVec S64x128 32) → Prog (TpuEff nD τ sig (Elt F) Λ₀ .tc) β}
    (hk : ∀ r, S c arg3 arg4 arg8 arg9 (slot i arg13 k0_h1 k0_t1) T B10 B11 B12 R ⊢ wp frame (wpE defs₀ 𝒱 (c : Thread nD τ) bd) Set.univ (K r) Q) :
    S c arg3 arg4 arg8 arg9 (slot i arg13 k0_h1 k0_t1) T B10 B11 B12 R ⊢ wp frame (wpE defs₀ 𝒱 (c : Thread nD τ) bd) Set.univ (k0_part5 (F := F) i arg1 harg1 arg2 harg2 arg3 harg3 arg4 harg4 arg5 harg5 arg6 harg6 arg7 harg7 arg8 harg8 arg9 harg9 arg10 harg10 arg11 harg11 arg12 harg12 arg13 harg13 arg14 k0_h1 k0_t1 v227 v334 v347 v348 v349 >>= K) Q := by
  rw [k0_part5_eq_skeleton]
  unfold k0_part5_skel
  refine assoc (load_own Sts.t8 fun v363 => ?_)
  refine assoc (store_own Sts.t8 ?_)
  refine assoc (load_own Sts.t8 fun v369 => ?_)
  refine assoc (store_own Sts.t8 ?_)
  refine assoc (load_own Sts.t8 fun v384 => ?_)
  refine assoc (store_own Sts.t8 ?_)
  exact ret (hk _)

theorem part6 (k0_h1 : k0_cond1 i = 1#1) (k0_t1 : Fin k0_t1_loop.trips) (v219 : FVec F S128x128 .bf16) (v226 : FVec F S128x128 .bf16) (v346 : FVec F S128x128 .f32) (v381 : IVec S64x128 32) {K : (Σ' (v416 : FVec F S128x128 .bf16) (v428 : FVec F S128x128 .f32) (v429 : IVec S64x128 32) (v430 : IVec S64x128 32), IVec S64x128 32) → Prog (TpuEff nD τ sig (Elt F) Λ₀ .tc) β}
    (hk : ∀ r, S c arg3 arg4 arg8 arg9 (slot i arg13 k0_h1 k0_t1) T B10 B11 B12 R ⊢ wp frame (wpE defs₀ 𝒱 (c : Thread nD τ) bd) Set.univ (K r) Q) :
    S c arg3 arg4 arg8 arg9 (slot i arg13 k0_h1 k0_t1) T B10 B11 B12 R ⊢ wp frame (wpE defs₀ 𝒱 (c : Thread nD τ) bd) Set.univ (k0_part6 (F := F) i arg1 harg1 arg2 harg2 arg3 harg3 arg4 harg4 arg5 harg5 arg6 harg6 arg7 harg7 arg8 harg8 arg9 harg9 arg10 harg10 arg11 harg11 arg12 harg12 arg13 harg13 arg14 k0_h1 k0_t1 v219 v226 v346 v381 >>= K) Q := by
  rw [k0_part6_eq_skeleton]
  unfold k0_part6_skel
  refine assoc (load_own Sts.t8 fun v390 => ?_)
  refine assoc (store_own Sts.t8 ?_)
  refine assoc (load_ready Sts.t7 fun v395 hv395 => ?_)
  refine assoc (load_ready Sts.t7 fun v401 hv401 => ?_)
  refine assoc (load_ready Sts.t7 fun v407 hv407 => ?_)
  refine assoc (load_ready Sts.t7 fun v413 hv413 => ?_)
  exact ret (hk _)

theorem part7 (k0_h1 : k0_cond1 i = 1#1) (k0_t1 : Fin k0_t1_loop.trips) (v227 : BitVec 32) (v416 : FVec F S128x128 .bf16) (v429 : IVec S64x128 32) (v430 : IVec S64x128 32) (v431 : IVec S64x128 32) {K : (IVec S64x128 32) → Prog (TpuEff nD τ sig (Elt F) Λ₀ .tc) β}
    (hk : ∀ r, S c arg3 arg4 arg8 arg9 (slot i arg13 k0_h1 k0_t1) T B10 B11 B12 R ⊢ wp frame (wpE defs₀ 𝒱 (c : Thread nD τ) bd) Set.univ (K r) Q) :
    S c arg3 arg4 arg8 arg9 (slot i arg13 k0_h1 k0_t1) T B10 B11 B12 R ⊢ wp frame (wpE defs₀ 𝒱 (c : Thread nD τ) bd) Set.univ (k0_part7 (F := F) i arg1 harg1 arg2 harg2 arg3 harg3 arg4 harg4 arg5 harg5 arg6 harg6 arg7 harg7 arg8 harg8 arg9 harg9 arg10 harg10 arg11 harg11 arg12 harg12 arg13 harg13 arg14 k0_h1 k0_t1 v227 v416 v429 v430 v431 >>= K) Q := by
  rw [k0_part7_eq_skeleton]
  unfold k0_part7_skel
  refine assoc (load_own Sts.t8 fun v445 => ?_)
  refine assoc (store_own Sts.t8 ?_)
  refine assoc (load_own Sts.t8 fun v451 => ?_)
  refine assoc (store_own Sts.t8 ?_)
  refine assoc (load_own Sts.t8 fun v466 => ?_)
  refine assoc (store_own Sts.t8 ?_)
  exact ret (hk _)

theorem part8 (k0_h1 : k0_cond1 i = 1#1) (k0_t1 : Fin k0_t1_loop.trips) (v219 : FVec F S128x128 .bf16) (v226 : FVec F S128x128 .bf16) (v428 : FVec F S128x128 .f32) (v463 : IVec S64x128 32) {K : (Σ' (v498 : FVec F S128x128 .bf16) (v510 : FVec F S128x128 .f32) (v511 : IVec S64x128 32) (v512 : IVec S64x128 32), IVec S64x128 32) → Prog (TpuEff nD τ sig (Elt F) Λ₀ .tc) β}
    (hk : ∀ r, S c arg3 arg4 arg8 arg9 (slot i arg13 k0_h1 k0_t1) T B10 B11 B12 R ⊢ wp frame (wpE defs₀ 𝒱 (c : Thread nD τ) bd) Set.univ (K r) Q) :
    S c arg3 arg4 arg8 arg9 (slot i arg13 k0_h1 k0_t1) T B10 B11 B12 R ⊢ wp frame (wpE defs₀ 𝒱 (c : Thread nD τ) bd) Set.univ (k0_part8 (F := F) i arg1 harg1 arg2 harg2 arg3 harg3 arg4 harg4 arg5 harg5 arg6 harg6 arg7 harg7 arg8 harg8 arg9 harg9 arg10 harg10 arg11 harg11 arg12 harg12 arg13 harg13 arg14 k0_h1 k0_t1 v219 v226 v428 v463 >>= K) Q := by
  rw [k0_part8_eq_skeleton]
  unfold k0_part8_skel
  refine assoc (load_own Sts.t8 fun v472 => ?_)
  refine assoc (store_own Sts.t8 ?_)
  refine assoc (load_ready Sts.t7 fun v477 hv477 => ?_)
  refine assoc (load_ready Sts.t7 fun v483 hv483 => ?_)
  refine assoc (load_ready Sts.t7 fun v489 hv489 => ?_)
  refine assoc (load_ready Sts.t7 fun v495 hv495 => ?_)
  exact ret (hk _)

theorem part9 (k0_h1 : k0_cond1 i = 1#1) (k0_t1 : Fin k0_t1_loop.trips) (v227 : BitVec 32) (v498 : FVec F S128x128 .bf16) (v511 : IVec S64x128 32) (v512 : IVec S64x128 32) (v513 : IVec S64x128 32) {K : (IVec S64x128 32) → Prog (TpuEff nD τ sig (Elt F) Λ₀ .tc) β}
    (hk : ∀ r, S c arg3 arg4 arg8 arg9 (slot i arg13 k0_h1 k0_t1) T B10 B11 B12 R ⊢ wp frame (wpE defs₀ 𝒱 (c : Thread nD τ) bd) Set.univ (K r) Q) :
    S c arg3 arg4 arg8 arg9 (slot i arg13 k0_h1 k0_t1) T B10 B11 B12 R ⊢ wp frame (wpE defs₀ 𝒱 (c : Thread nD τ) bd) Set.univ (k0_part9 (F := F) i arg1 harg1 arg2 harg2 arg3 harg3 arg4 harg4 arg5 harg5 arg6 harg6 arg7 harg7 arg8 harg8 arg9 harg9 arg10 harg10 arg11 harg11 arg12 harg12 arg13 harg13 arg14 k0_h1 k0_t1 v227 v498 v511 v512 v513 >>= K) Q := by
  rw [k0_part9_eq_skeleton]
  unfold k0_part9_skel
  refine assoc (load_own Sts.t8 fun v527 => ?_)
  refine assoc (store_own Sts.t8 ?_)
  refine assoc (load_own Sts.t8 fun v533 => ?_)
  refine assoc (store_own Sts.t8 ?_)
  refine assoc (load_own Sts.t8 fun v548 => ?_)
  refine assoc (store_own Sts.t8 ?_)
  exact ret (hk _)

theorem part10 (k0_h1 : k0_cond1 i = 1#1) (k0_t1 : Fin k0_t1_loop.trips) (v219 : FVec F S128x128 .bf16) (v226 : FVec F S128x128 .bf16) (v510 : FVec F S128x128 .f32) (v545 : IVec S64x128 32) {K : (Σ' (v580 : FVec F S128x128 .bf16) (v592 : FVec F S128x128 .f32) (v593 : IVec S64x128 32) (v594 : IVec S64x128 32), IVec S64x128 32) → Prog (TpuEff nD τ sig (Elt F) Λ₀ .tc) β}
    (hk : ∀ r, S c arg3 arg4 arg8 arg9 (slot i arg13 k0_h1 k0_t1) T B10 B11 B12 R ⊢ wp frame (wpE defs₀ 𝒱 (c : Thread nD τ) bd) Set.univ (K r) Q) :
    S c arg3 arg4 arg8 arg9 (slot i arg13 k0_h1 k0_t1) T B10 B11 B12 R ⊢ wp frame (wpE defs₀ 𝒱 (c : Thread nD τ) bd) Set.univ (k0_part10 (F := F) i arg1 harg1 arg2 harg2 arg3 harg3 arg4 harg4 arg5 harg5 arg6 harg6 arg7 harg7 arg8 harg8 arg9 harg9 arg10 harg10 arg11 harg11 arg12 harg12 arg13 harg13 arg14 k0_h1 k0_t1 v219 v226 v510 v545 >>= K) Q := by
  rw [k0_part10_eq_skeleton]
  unfold k0_part10_skel
  refine assoc (load_own Sts.t8 fun v554 => ?_)
  refine assoc (store_own Sts.t8 ?_)
  refine assoc (load_ready Sts.t7 fun v559 hv559 => ?_)
  refine assoc (load_ready Sts.t7 fun v565 hv565 => ?_)
  refine assoc (load_ready Sts.t7 fun v571 hv571 => ?_)
  refine assoc (load_ready Sts.t7 fun v577 hv577 => ?_)
  exact ret (hk _)

theorem part11 (k0_h1 : k0_cond1 i = 1#1) (k0_t1 : Fin k0_t1_loop.trips) (v227 : BitVec 32) (v580 : FVec F S128x128 .bf16) (v593 : IVec S64x128 32) (v594 : IVec S64x128 32) (v595 : IVec S64x128 32) {K : (IVec S64x128 32) → Prog (TpuEff nD τ sig (Elt F) Λ₀ .tc) β}
    (hk : ∀ r, S c arg3 arg4 arg8 arg9 (slot i arg13 k0_h1 k0_t1) T B10 B11 B12 R ⊢ wp frame (wpE defs₀ 𝒱 (c : Thread nD τ) bd) Set.univ (K r) Q) :
    S c arg3 arg4 arg8 arg9 (slot i arg13 k0_h1 k0_t1) T B10 B11 B12 R ⊢ wp frame (wpE defs₀ 𝒱 (c : Thread nD τ) bd) Set.univ (k0_part11 (F := F) i arg1 harg1 arg2 harg2 arg3 harg3 arg4 harg4 arg5 harg5 arg6 harg6 arg7 harg7 arg8 harg8 arg9 harg9 arg10 harg10 arg11 harg11 arg12 harg12 arg13 harg13 arg14 k0_h1 k0_t1 v227 v580 v593 v594 v595 >>= K) Q := by
  rw [k0_part11_eq_skeleton]
  unfold k0_part11_skel
  refine assoc (load_own Sts.t8 fun v609 => ?_)
  refine assoc (store_own Sts.t8 ?_)
  refine assoc (load_own Sts.t8 fun v615 => ?_)
  refine assoc (store_own Sts.t8 ?_)
  refine assoc (load_own Sts.t8 fun v630 => ?_)
  refine assoc (store_own Sts.t8 ?_)
  exact ret (hk _)

/-- The trip: from what gives it the slot's copy, to `Fin`, which the trip reaches by starting the copy eight blocks
    on, if there is one. -/
theorem trip (k0_h1 : k0_cond1 i = 1#1) (k0_t1 : Fin k0_t1_loop.trips) {St Fin : sProp 𝕄} {src : Memref sig .tc .hbm S128x2560 .i8} {dst : Memref sig .tc .vmem S128x2560 .i8} {sm : DmaSem sig} {q} {X} {src' : Memref sig .tc .hbm S128x2560 .i8} {dst' : Memref sig .tc .vmem S128x2560 .i8} {sm' : DmaSem sig} {X'}
    (esm : ((arg14.slice (Rect.unit (s := S8) (k0_off1 k0_t1) S1.size (k0_off1_inb i k0_t1 k0_h1))).squeeze S_ squeezes_S1_S_).sem = sm) (edst : slot i arg13 k0_h1 k0_t1 = dst)
    (hst : St ⊢ iprop((Busy (c : Thread nD τ) src dst sm () q X : sProp 𝕄) ∗ (Owes (c : Thread nD τ) : sProp 𝕄) ∗ (((Ready (c : Thread nD τ) dst (src.view.read (Elt F) X) : sProp 𝕄)
      ∗ semVal ((c : Thread nD τ), .dma sm) 0 ∗ (Part (c : Thread nD τ) src q X : sProp 𝕄) ∗ (Owes (c : Thread nD τ) : sProp 𝕄)) -∗ (S c arg3 arg4 arg8 arg9 dst (src.view.read (Elt F) X) B10 B11 B12 R))))
    (e9 : ∀ k0_h2, ((arg14.slice (Rect.unit (s := S8) (k0_off9 k0_t1) S1.size (k0_off9_inb i k0_t1 k0_h1 k0_h2))).squeeze S_ squeezes_S1_S_).sem = sm')
    (e10 : ∀ k0_h2, (arg13.slice (Rect.unit (s := S8x128x2560) (k0_off10 k0_t1) S1x128x2560.size (k0_off10_inb i k0_t1 k0_h1 k0_h2)) (fun _ => rfl)).squeeze S128x2560 squeezes_S1x128x2560_S128x2560 = dst')
    (e11 : ∀ k0_h2, arg2.slice (Rect.unit (s := S7936x2560) (k0_off11 k0_t1) S128x2560.size (k0_off11_inb i k0_t1 k0_h1 k0_h2)) (fun _ => rfl) = src')
    (hnext : ∀ k0_h2 : k0_cond2 k0_t1 = 1#1, (S c arg3 arg4 arg8 arg9 dst (src.view.read (Elt F) X) B10 B11 B12 R) ⊢ iprop((Free (c : Thread nD τ) dst' : sProp 𝕄) ∗ semVal ((c : Thread nD τ), .dma sm') 0 ∗ (Part (c : Thread nD τ) src' q X' : sProp 𝕄) ∗ ((Busy (c : Thread nD τ) src' dst' sm' () q X' : sProp 𝕄) -∗ Fin)))
    (hlast : ¬ k0_cond2 k0_t1 = 1#1 → (S c arg3 arg4 arg8 arg9 dst (src.view.read (Elt F) X) B10 B11 B12 R) ⊢ Fin) :
    St ⊢ wp frame (wpE defs₀ 𝒱 (c : Thread nD τ) bd) Set.univ (k0_t1_body (F := F) i arg1 harg1 arg2 harg2 arg3 harg3 arg4 harg4 arg5 harg5 arg6 harg6 arg7 harg7 arg8 harg8 arg9 harg9 arg10 harg10 arg11 harg11 arg12 harg12 arg13 harg13 arg14 k0_h1 k0_t1 ⟨⟩) (fun _ => Fin) := by
  unfold k0_t1_body
  dsimp only
  subst esm edst
  refine part1 _ _ _ _ _ _ _ _ _ _ _ _ _ _ _ _ _ _ _ _ _ _ _ _ _ _ _ _ _ _ _ _ rfl rfl hst fun r => ?_
  obtain ⟨arg15, v219, v225⟩ := r
  refine part2 _ _ _ _ _ _ _ _ _ _ _ _ _ _ _ _ _ _ _ _ _ _ _ _ _ _ _ _ _ _ _ _ _ fun r => ?_
  obtain ⟨v226, v227, v252, v264, v265, v266, v267⟩ := r
  refine part3 _ _ _ _ _ _ _ _ _ _ _ _ _ _ _ _ _ _ _ _ _ _ _ _ _ _ _ _ _ _ _ _ _ _ _ fun r => ?_
  refine part4 _ _ _ _ _ _ _ _ _ _ _ _ _ _ _ _ _ _ _ _ _ _ _ _ _ _ _ _ _ _ _ _ _ _ fun r => ?_
  obtain ⟨v334, v346, v347, v348, v349⟩ := r
  refine part5 _ _ _ _ _ _ _ _ _ _ _ _ _ _ _ _ _ _ _ _ _ _ _ _ _ _ _ _ _ _ _ _ _ _ _ fun r => ?_
  refine part6 _ _ _ _ _ _ _ _ _ _ _ _ _ _ _ _ _ _ _ _ _ _ _ _ _ _ _ _ _ _ _ _ _ _ fun r => ?_
  obtain ⟨v416, v428, v429, v430, v431⟩ := r
  refine part7 _ _ _ _ _ _ _ _ _ _ _ _ _ _ _ _ _ _ _ _ _ _ _ _ _ _ _ _ _ _ _ _ _ _ _ fun r => ?_
  refine part8 _ _ _ _ _ _ _ _ _ _ _ _ _ _ _ _ _ _ _ _ _ _ _ _ _ _ _ _ _ _ _ _ _ _ fun r => ?_
  obtain ⟨v498, v510, v511, v512, v513⟩ := r
  refine part9 _ _ _ _ _ _ _ _ _ _ _ _ _ _ _ _ _ _ _ _ _ _ _ _ _ _ _ _ _ _ _ _ _ _ _ fun r => ?_
  refine part10 _ _ _ _ _ _ _ _ _ _ _ _ _ _ _ _ _ _ _ _ _ _ _ _ _ _ _ _ _ _ _ _ _ _ fun r => ?_
  obtain ⟨v580, v592, v593, v594, v595⟩ := r
  refine part11 _ _ _ _ _ _ _ _ _ _ _ _ _ _ _ _ _ _ _ _ _ _ _ _ _ _ _ _ _ _ _ _ _ _ _ fun r => ?_
  refine load_own Sts.t8 fun v636 => ?_
  refine store_own Sts.t8 ?_
  refine load_own Sts.t9 fun v650 => ?_
  refine store_own Sts.t9 ?_
  refine load_own Sts.t9 fun v655 => ?_
  refine store_own Sts.t9 ?_
  by_cases k0_h2 : k0_cond2 k0_t1 = 1#1
  · rw [dif_pos k0_h2]
    obtain rfl := e9 k0_h2
    obtain rfl := e10 k0_h2
    obtain rfl := e11 k0_h2
    exact assoc (enqueue () (View.amount_pos _ _ (by decide +kernel)) (hnext k0_h2) (ret (done .rfl)))
  · rw [dif_neg k0_h2]
    exact ret (done (hlast k0_h2))

end Cert.Proof.KernelBuild

end
-- ==== Proof.KernelSafe.lean ====
/- One trip of the kernel's emission loop stays inside its buffers, whatever they hold (Kernel): the token ids are rows of
   the table, so every gathered row lies in it. One theorem per part of the loop body, in continuation form. -/
module

public import proofs.«01_k».proof.Proof.Hoare
public import proofs.«01_k».proof.Proof.Gen.Kernel.Skeleton
public import proofs.«01_k».proof.Proof.Gen.Kernel.Frame

@[expose] public section

set_option maxRecDepth 16384

noncomputable section

namespace Cert.Proof.KernelSafe

open Cert.Kernel Cert.Kernel.Gen Cert.Proof.Hoare
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [BitOps F]
local notation "𝕄" => MT nD τ sig Unit (Elt F) ℕ (Pipeline.UD sig nD τ) ℕ

/-- A token id that names a row of the table names ten rows of the word table. -/
theorem chkTab {v : BitVec 32} (h : v.toNat < 7936) : k0_chk1 v := by
  have e : (v * 10#32).toNat = v.toNat * 10 := by rw [BitVec.toNat_mul]; simp; omega
  refine ⟨?_, ?_⟩
  · show 2 ∣ (v * 10#32).toNat
    omega
  · intro a
    have h0 : (k0_off13 v) 0 = v.toNat * 10 := e
    fin_cases a
    · show (k0_off13 v) 0 + 10 ≤ 79360
      omega
    all_goals exact of_decide_eq_true rfl
/-- And two rows of the table of inverse norms. -/
theorem chkNorm {v : BitVec 32} (h : v.toNat < 7936) : k0_chk2 v := by
  have e : (v * 2#32).toNat = v.toNat * 2 := by rw [BitVec.toNat_mul]; simp; omega
  refine ⟨?_, ?_⟩
  · show 2 ∣ (v * 2#32).toNat
    omega
  · intro a
    have h0 : (k0_off15 v) 0 = v.toNat * 2 := e
    fin_cases a
    · show (k0_off15 v) 0 + 2 ≤ 15872
      omega
    all_goals exact of_decide_eq_true rfl

/-- The state of the emission loop: every buffer it touches is held, the token ids at `X`. -/
abbrev S (c : Dev nD) (arg1 : Memref sig .tc .smem S1x1x256 .i32) (X : S1x1x256.Idx → Elt F .i32)
    {s6 s7 s8 s9 s10 s11 s12 : Shape} {e6 e7 e8 e9 e10 e11 e12 : EltTy}
    (arg6 : Memref sig .tc .vmem s6 e6) (arg7 : Memref sig .tc .vmem s7 e7) (arg8 : Memref sig .tc .vmem s8 e8)
    (arg9 : Memref sig .tc .vmem s9 e9) (arg10 : Memref sig .tc .vmem s10 e10) (arg11 : Memref sig .tc .vmem s11 e11)
    (arg12 : Memref sig .tc .vmem s12 e12) (R : sProp 𝕄) : sProp 𝕄 :=
  Sts (Holds (c : Thread nD τ) arg1 (fun _ => True) X) (Own (c : Thread nD τ) arg6) (Own (c : Thread nD τ) arg7) (Own (c : Thread nD τ) arg8) (Own (c : Thread nD τ) arg9)
    (Own (c : Thread nD τ) arg10) (Own (c : Thread nD τ) arg11) (Own (c : Thread nD τ) arg12) R
variable {𝒱 : Variants} {c : Dev nD} {bd : Option 𝒱.V} {E : Set ℕ} {β : Type}
  {Q : β → sProp (MT nD τ sig Unit (Elt F) ℕ (Pipeline.UD sig nD τ) ℕ)} {X : S1x1x256.Idx → Elt F .i32}
  {R : sProp (MT nD τ sig Unit (Elt F) ℕ (Pipeline.UD sig nD τ) ℕ)}
variable (i : grid0.Coords) (arg1 : Memref sig .tc .smem S1x1x256 .i32) (harg1 : arg1.IsWhole) (arg2 : Memref sig .tc .hbm S7936x2560 .i8) (harg2 : arg2.IsWhole) (arg3 : Memref sig .tc .vmem S62x128 .f32) (harg3 : arg3.IsWhole) (arg4 : Memref sig .tc .vmem S62x128 .f32) (harg4 : arg4.IsWhole) (arg5 : Memref sig .tc .vmem S1x2560 .bf16) (harg5 : arg5.IsWhole) (arg6 : Memref sig .tc .vmem S5120x128 .bf16) (harg6 : arg6.IsWhole) (arg7 : Memref sig .tc .vmem S5120x128 .bf16) (harg7 : arg7.IsWhole) (arg8 : Memref sig .tc .vmem S79360x128 .i32) (harg8 : arg8.IsWhole) (arg9 : Memref sig .tc .vmem S15872x128 .f32) (harg9 : arg9.IsWhole) (arg10 : Memref sig .tc .vmem S80x128 .f32) (harg10 : arg10.IsWhole) (arg11 : Memref sig .tc .vmem S320x128 .i32) (harg11 : arg11.IsWhole) (arg12 : Memref sig .tc .vmem S64x128 .f32) (harg12 : arg12.IsWhole) (arg13 : Memref sig .tc .vmem S8x128x2560 .i8) (harg13 : arg13.IsWhole) (arg14 : DmaSems sig S8)

theorem part16 (hX : ∀ x, (X x).toNat < 7936) (c0_i32_11 : BitVec 32) (c1_i32 : BitVec 32) (k0_t2 : Fin k0_t2_loop.trips)
    {K : (Σ' (arg15 : BitVec 32) (v16 : BitVec 32), Vec F S10x128 .i32) → Prog (TpuEff nD τ sig (Elt F) Λ₀ .tc) β}
    (hk : ∀ r, S c arg1 X arg6 arg7 arg8 arg9 arg10 arg11 arg12 R ⊢ wp frame (wpE defs₀ 𝒱 (c : Thread nD τ) bd) E (K r) Q) :
    S c arg1 X arg6 arg7 arg8 arg9 arg10 arg11 arg12 R ⊢ wp frame (wpE defs₀ 𝒱 (c : Thread nD τ) bd) E (k0_part16 (F := F) i arg1 harg1 arg2 harg2 arg3 harg3 arg4 harg4 arg5 harg5 arg6 harg6 arg7 harg7 arg8 harg8 arg9 harg9 arg10 harg10 arg11 harg11 arg12 harg12 arg13 harg13 arg14 c0_i32_11 c1_i32 k0_t2 >>= K) Q := by
  rw [k0_part16_eq_skeleton]
  unfold k0_part16_skel
  refine assoc (sload_of (fun v => v.toNat < 7936) hX Sts.t1 fun v19 hv19 => ?_)
  refine assoc (assume (chkTab hv19) fun k0_hw1 => ?_)
  refine assoc (load_own Sts.t8 fun v23 => ?_)
  refine assoc (load_own Sts.t11 fun v24 => ?_)
  refine assoc (store_own Sts.t11 ?_)
  refine assoc (sload_of (fun v => v.toNat < 7936) hX Sts.t1 fun v29 hv29 => ?_)
  refine assoc (assume (chkNorm hv29) fun k0_hw2 => ?_)
  refine assoc (load_own Sts.t9 fun v33 => ?_)
  refine assoc (load_own Sts.t12 fun v34 => ?_)
  refine assoc (store_own Sts.t12 ?_)
  refine assoc (sload_of (fun v => v.toNat < 7936) hX Sts.t1 fun v39 hv39 => ?_)
  refine assoc (assume (chkTab hv39) fun k0_hw3 => ?_)
  refine assoc (load_own Sts.t8 fun v43 => ?_)
  exact ret (hk _)

theorem part17 (hX : ∀ x, (X x).toNat < 7936) (k0_t2 : Fin k0_t2_loop.trips) (v16 : BitVec 32) (v43 : Vec F S10x128 .i32)
    {K : (FVec F S2x128 .f32) → Prog (TpuEff nD τ sig (Elt F) Λ₀ .tc) β}
    (hk : ∀ r, S c arg1 X arg6 arg7 arg8 arg9 arg10 arg11 arg12 R ⊢ wp frame (wpE defs₀ 𝒱 (c : Thread nD τ) bd) E (K r) Q) :
    S c arg1 X arg6 arg7 arg8 arg9 arg10 arg11 arg12 R ⊢ wp frame (wpE defs₀ 𝒱 (c : Thread nD τ) bd) E (k0_part17 (F := F) i arg1 harg1 arg2 harg2 arg3 harg3 arg4 harg4 arg5 harg5 arg6 harg6 arg7 harg7 arg8 harg8 arg9 harg9 arg10 harg10 arg11 harg11 arg12 harg12 arg13 harg13 arg14 k0_t2 v16 v43 >>= K) Q := by
  rw [k0_part17_eq_skeleton]
  unfold k0_part17_skel
  refine assoc (load_own Sts.t11 fun v44 => ?_)
  refine assoc (store_own Sts.t11 ?_)
  refine assoc (sload_of (fun v => v.toNat < 7936) hX Sts.t1 fun v49 hv49 => ?_)
  refine assoc (assume (chkNorm hv49) fun k0_hw4 => ?_)
  refine assoc (load_own Sts.t9 fun v53 => ?_)
  refine assoc (load_own Sts.t12 fun v54 => ?_)
  refine assoc (store_own Sts.t12 ?_)
  refine assoc (sload_of (fun v => v.toNat < 7936) hX Sts.t1 fun v59 hv59 => ?_)
  refine assoc (assume (chkTab hv59) fun k0_hw5 => ?_)
  refine assoc (load_own Sts.t8 fun v63 => ?_)
  refine assoc (load_own Sts.t11 fun v64 => ?_)
  refine assoc (store_own Sts.t11 ?_)
  refine assoc (sload_of (fun v => v.toNat < 7936) hX Sts.t1 fun v69 hv69 => ?_)
  refine assoc (assume (chkNorm hv69) fun k0_hw6 => ?_)
  refine assoc (load_own Sts.t9 fun v73 => ?_)
  refine assoc (load_own Sts.t12 fun v74 => ?_)
  exact ret (hk _)

theorem part18 (hX : ∀ x, (X x).toNat < 7936) (k0_t2 : Fin k0_t2_loop.trips) (v16 : BitVec 32) (v76 : FVec F S2x128 .f32)
    {K : (BitVec 32) → Prog (TpuEff nD τ sig (Elt F) Λ₀ .tc) β}
    (hk : ∀ r, S c arg1 X arg6 arg7 arg8 arg9 arg10 arg11 arg12 R ⊢ wp frame (wpE defs₀ 𝒱 (c : Thread nD τ) bd) E (K r) Q) :
    S c arg1 X arg6 arg7 arg8 arg9 arg10 arg11 arg12 R ⊢ wp frame (wpE defs₀ 𝒱 (c : Thread nD τ) bd) E (k0_part18 (F := F) i arg1 harg1 arg2 harg2 arg3 harg3 arg4 harg4 arg5 harg5 arg6 harg6 arg7 harg7 arg8 harg8 arg9 harg9 arg10 harg10 arg11 harg11 arg12 harg12 arg13 harg13 arg14 k0_t2 v16 v76 >>= K) Q := by
  rw [k0_part18_eq_skeleton]
  unfold k0_part18_skel
  refine assoc (store_own Sts.t12 ?_)
  refine assoc (sload_of (fun v => v.toNat < 7936) hX Sts.t1 fun v79 hv79 => ?_)
  refine assoc (assume (chkTab hv79) fun k0_hw7 => ?_)
  refine assoc (load_own Sts.t8 fun v83 => ?_)
  refine assoc (load_own Sts.t11 fun v84 => ?_)
  refine assoc (store_own Sts.t11 ?_)
  refine assoc (sload_of (fun v => v.toNat < 7936) hX Sts.t1 fun v89 hv89 => ?_)
  refine assoc (assume (chkNorm hv89) fun k0_hw8 => ?_)
  refine assoc (load_own Sts.t9 fun v93 => ?_)
  refine assoc (load_own Sts.t12 fun v94 => ?_)
  refine assoc (store_own Sts.t12 ?_)
  refine assoc (sload_of (fun v => v.toNat < 7936) hX Sts.t1 fun v99 hv99 => ?_)
  refine assoc (assume (chkTab hv99) fun k0_hw9 => ?_)
  refine assoc (load_own Sts.t8 fun v103 => ?_)
  refine assoc (load_own Sts.t11 fun v104 => ?_)
  refine assoc (store_own Sts.t11 ?_)
  exact ret (hk _)

theorem part19 (hX : ∀ x, (X x).toNat < 7936) (k0_t2 : Fin k0_t2_loop.trips) (v16 : BitVec 32) (v107 : BitVec 32)
    {K : (PUnit) → Prog (TpuEff nD τ sig (Elt F) Λ₀ .tc) β}
    (hk : ∀ r, S c arg1 X arg6 arg7 arg8 arg9 arg10 arg11 arg12 R ⊢ wp frame (wpE defs₀ 𝒱 (c : Thread nD τ) bd) E (K r) Q) :
    S c arg1 X arg6 arg7 arg8 arg9 arg10 arg11 arg12 R ⊢ wp frame (wpE defs₀ 𝒱 (c : Thread nD τ) bd) E (k0_part19 (F := F) i arg1 harg1 arg2 harg2 arg3 harg3 arg4 harg4 arg5 harg5 arg6 harg6 arg7 harg7 arg8 harg8 arg9 harg9 arg10 harg10 arg11 harg11 arg12 harg12 arg13 harg13 arg14 k0_t2 v16 v107 >>= K) Q := by
  rw [k0_part19_eq_skeleton]
  unfold k0_part19_skel
  refine assoc (sload_of (fun v => v.toNat < 7936) hX Sts.t1 fun v109 hv109 => ?_)
  refine assoc (assume (chkNorm hv109) fun k0_hw10 => ?_)
  refine assoc (load_own Sts.t9 fun v113 => ?_)
  refine assoc (load_own Sts.t12 fun v114 => ?_)
  refine assoc (store_own Sts.t12 ?_)
  refine assoc (sload_of (fun v => v.toNat < 7936) hX Sts.t1 fun v119 hv119 => ?_)
  refine assoc (assume (chkTab hv119) fun k0_hw11 => ?_)
  refine assoc (load_own Sts.t8 fun v123 => ?_)
  refine assoc (load_own Sts.t11 fun v124 => ?_)
  refine assoc (store_own Sts.t11 ?_)
  refine assoc (sload_of (fun v => v.toNat < 7936) hX Sts.t1 fun v129 hv129 => ?_)
  refine assoc (assume (chkNorm hv129) fun k0_hw12 => ?_)
  refine assoc (load_own Sts.t9 fun v133 => ?_)
  refine assoc (load_own Sts.t12 fun v134 => ?_)
  refine assoc (store_own Sts.t12 ?_)
  exact ret (hk _)

theorem part20 (hX : ∀ x, (X x).toNat < 7936) (k0_t2 : Fin k0_t2_loop.trips) (v16 : BitVec 32)
    {K : (Σ' (v169 : Elt F .i32) (k0_hw16 : k0_chk16 v169), BitVec 32) → Prog (TpuEff nD τ sig (Elt F) Λ₀ .tc) β}
    (hk : ∀ r, S c arg1 X arg6 arg7 arg8 arg9 arg10 arg11 arg12 R ⊢ wp frame (wpE defs₀ 𝒱 (c : Thread nD τ) bd) E (K r) Q) :
    S c arg1 X arg6 arg7 arg8 arg9 arg10 arg11 arg12 R ⊢ wp frame (wpE defs₀ 𝒱 (c : Thread nD τ) bd) E (k0_part20 (F := F) i arg1 harg1 arg2 harg2 arg3 harg3 arg4 harg4 arg5 harg5 arg6 harg6 arg7 harg7 arg8 harg8 arg9 harg9 arg10 harg10 arg11 harg11 arg12 harg12 arg13 harg13 arg14 k0_t2 v16 >>= K) Q := by
  rw [k0_part20_eq_skeleton]
  unfold k0_part20_skel
  refine assoc (sload_of (fun v => v.toNat < 7936) hX Sts.t1 fun v139 hv139 => ?_)
  refine assoc (assume (chkTab hv139) fun k0_hw13 => ?_)
  refine assoc (load_own Sts.t8 fun v143 => ?_)
  refine assoc (load_own Sts.t11 fun v144 => ?_)
  refine assoc (store_own Sts.t11 ?_)
  refine assoc (sload_of (fun v => v.toNat < 7936) hX Sts.t1 fun v149 hv149 => ?_)
  refine assoc (assume (chkNorm hv149) fun k0_hw14 => ?_)
  refine assoc (load_own Sts.t9 fun v153 => ?_)
  refine assoc (load_own Sts.t12 fun v154 => ?_)
  refine assoc (store_own Sts.t12 ?_)
  refine assoc (sload_of (fun v => v.toNat < 7936) hX Sts.t1 fun v159 hv159 => ?_)
  refine assoc (assume (chkTab hv159) fun k0_hw15 => ?_)
  refine assoc (load_own Sts.t8 fun v163 => ?_)
  refine assoc (load_own Sts.t11 fun v164 => ?_)
  refine assoc (store_own Sts.t11 ?_)
  refine assoc (sload_of (fun v => v.toNat < 7936) hX Sts.t1 fun v169 hv169 => ?_)
  refine assoc (assume (chkNorm hv169) fun k0_hw16 => ?_)
  exact ret (hk _)

theorem part21 (hX : ∀ x, (X x).toNat < 7936) (k0_t2 : Fin k0_t2_loop.trips) (arg15 : BitVec 32) (v169 : Elt F .i32) (k0_hw16 : k0_chk16 v169) (c2_i32_109 : BitVec 32)
    {K : (BitVec 32) → Prog (TpuEff nD τ sig (Elt F) Λ₀ .tc) β}
    (hk : ∀ r, S c arg1 X arg6 arg7 arg8 arg9 arg10 arg11 arg12 R ⊢ wp frame (wpE defs₀ 𝒱 (c : Thread nD τ) bd) E (K r) Q) :
    S c arg1 X arg6 arg7 arg8 arg9 arg10 arg11 arg12 R ⊢ wp frame (wpE defs₀ 𝒱 (c : Thread nD τ) bd) E (k0_part21 (F := F) i arg1 harg1 arg2 harg2 arg3 harg3 arg4 harg4 arg5 harg5 arg6 harg6 arg7 harg7 arg8 harg8 arg9 harg9 arg10 harg10 arg11 harg11 arg12 harg12 arg13 harg13 arg14 k0_t2 arg15 v169 k0_hw16 c2_i32_109 >>= K) Q := by
  rw [k0_part21_eq_skeleton]
  unfold k0_part21_skel
  refine assoc (load_own Sts.t9 fun v173 => ?_)
  refine assoc (load_own Sts.t12 fun v174 => ?_)
  refine assoc (store_own Sts.t12 ?_)
  refine assoc (sload_of (fun v => v.toNat < 7936) hX Sts.t1 fun v182 hv182 => ?_)
  refine assoc (assume (chkTab hv182) fun k0_hw17 => ?_)
  refine assoc (load_own Sts.t8 fun v186 => ?_)
  refine assoc (load_own Sts.t11 fun v187 => ?_)
  refine assoc (store_own Sts.t11 ?_)
  refine assoc (sload_of (fun v => v.toNat < 7936) hX Sts.t1 fun v192 hv192 => ?_)
  refine assoc (assume (chkNorm hv192) fun k0_hw18 => ?_)
  refine assoc (load_own Sts.t9 fun v196 => ?_)
  refine assoc (load_own Sts.t12 fun v197 => ?_)
  refine assoc (store_own Sts.t12 ?_)
  exact ret (hk _)

theorem part22 (hX : ∀ x, (X x).toNat < 7936) (k0_t2 : Fin k0_t2_loop.trips) (v179 : BitVec 32)
    {K : (Σ' (v232 : Elt F .i32) (k0_hw22 : k0_chk22 v232), BitVec 32) → Prog (TpuEff nD τ sig (Elt F) Λ₀ .tc) β}
    (hk : ∀ r, S c arg1 X arg6 arg7 arg8 arg9 arg10 arg11 arg12 R ⊢ wp frame (wpE defs₀ 𝒱 (c : Thread nD τ) bd) E (K r) Q) :
    S c arg1 X arg6 arg7 arg8 arg9 arg10 arg11 arg12 R ⊢ wp frame (wpE defs₀ 𝒱 (c : Thread nD τ) bd) E (k0_part22 (F := F) i arg1 harg1 arg2 harg2 arg3 harg3 arg4 harg4 arg5 harg5 arg6 harg6 arg7 harg7 arg8 harg8 arg9 harg9 arg10 harg10 arg11 harg11 arg12 harg12 arg13 harg13 arg14 k0_t2 v179 >>= K) Q := by
  rw [k0_part22_eq_skeleton]
  unfold k0_part22_skel
  refine assoc (sload_of (fun v => v.toNat < 7936) hX Sts.t1 fun v202 hv202 => ?_)
  refine assoc (assume (chkTab hv202) fun k0_hw19 => ?_)
  refine assoc (load_own Sts.t8 fun v206 => ?_)
  refine assoc (load_own Sts.t11 fun v207 => ?_)
  refine assoc (store_own Sts.t11 ?_)
  refine assoc (sload_of (fun v => v.toNat < 7936) hX Sts.t1 fun v212 hv212 => ?_)
  refine assoc (assume (chkNorm hv212) fun k0_hw20 => ?_)
  refine assoc (load_own Sts.t9 fun v216 => ?_)
  refine assoc (load_own Sts.t12 fun v217 => ?_)
  refine assoc (store_own Sts.t12 ?_)
  refine assoc (sload_of (fun v => v.toNat < 7936) hX Sts.t1 fun v222 hv222 => ?_)
  refine assoc (assume (chkTab hv222) fun k0_hw21 => ?_)
  refine assoc (load_own Sts.t8 fun v226 => ?_)
  refine assoc (load_own Sts.t11 fun v227 => ?_)
  refine assoc (store_own Sts.t11 ?_)
  refine assoc (sload_of (fun v => v.toNat < 7936) hX Sts.t1 fun v232 hv232 => ?_)
  refine assoc (assume (chkNorm hv232) fun k0_hw22 => ?_)
  exact ret (hk _)

theorem part23 (hX : ∀ x, (X x).toNat < 7936) (k0_t2 : Fin k0_t2_loop.trips) (v179 : BitVec 32) (v232 : Elt F .i32) (k0_hw22 : k0_chk22 v232) (c2_i32_150 : BitVec 32)
    {K : (Σ' (v262 : Elt F .i32), k0_chk25 v262) → Prog (TpuEff nD τ sig (Elt F) Λ₀ .tc) β}
    (hk : ∀ r, S c arg1 X arg6 arg7 arg8 arg9 arg10 arg11 arg12 R ⊢ wp frame (wpE defs₀ 𝒱 (c : Thread nD τ) bd) E (K r) Q) :
    S c arg1 X arg6 arg7 arg8 arg9 arg10 arg11 arg12 R ⊢ wp frame (wpE defs₀ 𝒱 (c : Thread nD τ) bd) E (k0_part23 (F := F) i arg1 harg1 arg2 harg2 arg3 harg3 arg4 harg4 arg5 harg5 arg6 harg6 arg7 harg7 arg8 harg8 arg9 harg9 arg10 harg10 arg11 harg11 arg12 harg12 arg13 harg13 arg14 k0_t2 v179 v232 k0_hw22 c2_i32_150 >>= K) Q := by
  rw [k0_part23_eq_skeleton]
  unfold k0_part23_skel
  refine assoc (load_own Sts.t9 fun v236 => ?_)
  refine assoc (load_own Sts.t12 fun v237 => ?_)
  refine assoc (store_own Sts.t12 ?_)
  refine assoc (sload_of (fun v => v.toNat < 7936) hX Sts.t1 fun v242 hv242 => ?_)
  refine assoc (assume (chkTab hv242) fun k0_hw23 => ?_)
  refine assoc (load_own Sts.t8 fun v246 => ?_)
  refine assoc (load_own Sts.t11 fun v247 => ?_)
  refine assoc (store_own Sts.t11 ?_)
  refine assoc (sload_of (fun v => v.toNat < 7936) hX Sts.t1 fun v252 hv252 => ?_)
  refine assoc (assume (chkNorm hv252) fun k0_hw24 => ?_)
  refine assoc (load_own Sts.t9 fun v256 => ?_)
  refine assoc (load_own Sts.t12 fun v257 => ?_)
  refine assoc (store_own Sts.t12 ?_)
  refine assoc (sload_of (fun v => v.toNat < 7936) hX Sts.t1 fun v262 hv262 => ?_)
  refine assoc (assume (chkTab hv262) fun k0_hw25 => ?_)
  exact ret (hk _)

theorem part24 (hX : ∀ x, (X x).toNat < 7936) (k0_t2 : Fin k0_t2_loop.trips) (v179 : BitVec 32) (v262 : Elt F .i32) (k0_hw25 : k0_chk25 v262)
    {K : (Vec F S2x128 .f32) → Prog (TpuEff nD τ sig (Elt F) Λ₀ .tc) β}
    (hk : ∀ r, S c arg1 X arg6 arg7 arg8 arg9 arg10 arg11 arg12 R ⊢ wp frame (wpE defs₀ 𝒱 (c : Thread nD τ) bd) E (K r) Q) :
    S c arg1 X arg6 arg7 arg8 arg9 arg10 arg11 arg12 R ⊢ wp frame (wpE defs₀ 𝒱 (c : Thread nD τ) bd) E (k0_part24 (F := F) i arg1 harg1 arg2 harg2 arg3 harg3 arg4 harg4 arg5 harg5 arg6 harg6 arg7 harg7 arg8 harg8 arg9 harg9 arg10 harg10 arg11 harg11 arg12 harg12 arg13 harg13 arg14 k0_t2 v179 v262 k0_hw25 >>= K) Q := by
  rw [k0_part24_eq_skeleton]
  unfold k0_part24_skel
  refine assoc (load_own Sts.t8 fun v266 => ?_)
  refine assoc (load_own Sts.t11 fun v267 => ?_)
  refine assoc (store_own Sts.t11 ?_)
  refine assoc (sload_of (fun v => v.toNat < 7936) hX Sts.t1 fun v272 hv272 => ?_)
  refine assoc (assume (chkNorm hv272) fun k0_hw26 => ?_)
  refine assoc (load_own Sts.t9 fun v276 => ?_)
  refine assoc (load_own Sts.t12 fun v277 => ?_)
  refine assoc (store_own Sts.t12 ?_)
  refine assoc (sload_of (fun v => v.toNat < 7936) hX Sts.t1 fun v282 hv282 => ?_)
  refine assoc (assume (chkTab hv282) fun k0_hw27 => ?_)
  refine assoc (load_own Sts.t8 fun v286 => ?_)
  refine assoc (load_own Sts.t11 fun v287 => ?_)
  refine assoc (store_own Sts.t11 ?_)
  refine assoc (sload_of (fun v => v.toNat < 7936) hX Sts.t1 fun v292 hv292 => ?_)
  refine assoc (assume (chkNorm hv292) fun k0_hw28 => ?_)
  refine assoc (load_own Sts.t9 fun v296 => ?_)
  exact ret (hk _)

theorem part25 (hX : ∀ x, (X x).toNat < 7936) (k0_t2 : Fin k0_t2_loop.trips) (v179 : BitVec 32) (v296 : Vec F S2x128 .f32)
    {K : (Vec F S10x128 .i32) → Prog (TpuEff nD τ sig (Elt F) Λ₀ .tc) β}
    (hk : ∀ r, S c arg1 X arg6 arg7 arg8 arg9 arg10 arg11 arg12 R ⊢ wp frame (wpE defs₀ 𝒱 (c : Thread nD τ) bd) E (K r) Q) :
    S c arg1 X arg6 arg7 arg8 arg9 arg10 arg11 arg12 R ⊢ wp frame (wpE defs₀ 𝒱 (c : Thread nD τ) bd) E (k0_part25 (F := F) i arg1 harg1 arg2 harg2 arg3 harg3 arg4 harg4 arg5 harg5 arg6 harg6 arg7 harg7 arg8 harg8 arg9 harg9 arg10 harg10 arg11 harg11 arg12 harg12 arg13 harg13 arg14 k0_t2 v179 v296 >>= K) Q := by
  rw [k0_part25_eq_skeleton]
  unfold k0_part25_skel
  refine assoc (load_own Sts.t12 fun v297 => ?_)
  refine assoc (store_own Sts.t12 ?_)
  refine assoc (sload_of (fun v => v.toNat < 7936) hX Sts.t1 fun v302 hv302 => ?_)
  refine assoc (assume (chkTab hv302) fun k0_hw29 => ?_)
  refine assoc (load_own Sts.t8 fun v306 => ?_)
  refine assoc (load_own Sts.t11 fun v307 => ?_)
  refine assoc (store_own Sts.t11 ?_)
  refine assoc (sload_of (fun v => v.toNat < 7936) hX Sts.t1 fun v312 hv312 => ?_)
  refine assoc (assume (chkNorm hv312) fun k0_hw30 => ?_)
  refine assoc (load_own Sts.t9 fun v316 => ?_)
  refine assoc (load_own Sts.t12 fun v317 => ?_)
  refine assoc (store_own Sts.t12 ?_)
  refine assoc (sload_of (fun v => v.toNat < 7936) hX Sts.t1 fun v322 hv322 => ?_)
  refine assoc (assume (chkTab hv322) fun k0_hw31 => ?_)
  refine assoc (load_own Sts.t8 fun v326 => ?_)
  refine assoc (load_own Sts.t11 fun v327 => ?_)
  exact ret (hk _)

theorem part26 (hX : ∀ x, (X x).toNat < 7936) (k0_t2 : Fin k0_t2_loop.trips) (arg15 : BitVec 32) (v179 : BitVec 32) (v326 : Vec F S10x128 .i32)
    {K : (Σ' (v342 : BitVec 32), Vec F S2x128 .f32) → Prog (TpuEff nD τ sig (Elt F) Λ₀ .tc) β}
    (hk : ∀ r, S c arg1 X arg6 arg7 arg8 arg9 arg10 arg11 arg12 R ⊢ wp frame (wpE defs₀ 𝒱 (c : Thread nD τ) bd) E (K r) Q) :
    S c arg1 X arg6 arg7 arg8 arg9 arg10 arg11 arg12 R ⊢ wp frame (wpE defs₀ 𝒱 (c : Thread nD τ) bd) E (k0_part26 (F := F) i arg1 harg1 arg2 harg2 arg3 harg3 arg4 harg4 arg5 harg5 arg6 harg6 arg7 harg7 arg8 harg8 arg9 harg9 arg10 harg10 arg11 harg11 arg12 harg12 arg13 harg13 arg14 k0_t2 arg15 v179 v326 >>= K) Q := by
  rw [k0_part26_eq_skeleton]
  unfold k0_part26_skel
  refine assoc (store_own Sts.t11 ?_)
  refine assoc (sload_of (fun v => v.toNat < 7936) hX Sts.t1 fun v332 hv332 => ?_)
  refine assoc (assume (chkNorm hv332) fun k0_hw32 => ?_)
  refine assoc (load_own Sts.t9 fun v336 => ?_)
  refine assoc (load_own Sts.t12 fun v337 => ?_)
  refine assoc (store_own Sts.t12 ?_)
  refine assoc (sload_of (fun v => v.toNat < 7936) hX Sts.t1 fun v345 hv345 => ?_)
  refine assoc (assume (chkTab hv345) fun k0_hw33 => ?_)
  refine assoc (load_own Sts.t8 fun v349 => ?_)
  refine assoc (load_own Sts.t11 fun v350 => ?_)
  refine assoc (store_own Sts.t11 ?_)
  refine assoc (sload_of (fun v => v.toNat < 7936) hX Sts.t1 fun v355 hv355 => ?_)
  refine assoc (assume (chkNorm hv355) fun k0_hw34 => ?_)
  refine assoc (load_own Sts.t9 fun v359 => ?_)
  exact ret (hk _)

theorem part27 (hX : ∀ x, (X x).toNat < 7936) (k0_t2 : Fin k0_t2_loop.trips) (v342 : BitVec 32) (v359 : Vec F S2x128 .f32)
    {K : (Vec F S10x128 .i32) → Prog (TpuEff nD τ sig (Elt F) Λ₀ .tc) β}
    (hk : ∀ r, S c arg1 X arg6 arg7 arg8 arg9 arg10 arg11 arg12 R ⊢ wp frame (wpE defs₀ 𝒱 (c : Thread nD τ) bd) E (K r) Q) :
    S c arg1 X arg6 arg7 arg8 arg9 arg10 arg11 arg12 R ⊢ wp frame (wpE defs₀ 𝒱 (c : Thread nD τ) bd) E (k0_part27 (F := F) i arg1 harg1 arg2 harg2 arg3 harg3 arg4 harg4 arg5 harg5 arg6 harg6 arg7 harg7 arg8 harg8 arg9 harg9 arg10 harg10 arg11 harg11 arg12 harg12 arg13 harg13 arg14 k0_t2 v342 v359 >>= K) Q := by
  rw [k0_part27_eq_skeleton]
  unfold k0_part27_skel
  refine assoc (load_own Sts.t12 fun v360 => ?_)
  refine assoc (store_own Sts.t12 ?_)
  refine assoc (sload_of (fun v => v.toNat < 7936) hX Sts.t1 fun v365 hv365 => ?_)
  refine assoc (assume (chkTab hv365) fun k0_hw35 => ?_)
  refine assoc (load_own Sts.t8 fun v369 => ?_)
  refine assoc (load_own Sts.t11 fun v370 => ?_)
  refine assoc (store_own Sts.t11 ?_)
  refine assoc (sload_of (fun v => v.toNat < 7936) hX Sts.t1 fun v375 hv375 => ?_)
  refine assoc (assume (chkNorm hv375) fun k0_hw36 => ?_)
  refine assoc (load_own Sts.t9 fun v379 => ?_)
  refine assoc (load_own Sts.t12 fun v380 => ?_)
  refine assoc (store_own Sts.t12 ?_)
  refine assoc (sload_of (fun v => v.toNat < 7936) hX Sts.t1 fun v385 hv385 => ?_)
  refine assoc (assume (chkTab hv385) fun k0_hw37 => ?_)
  refine assoc (load_own Sts.t8 fun v389 => ?_)
  refine assoc (load_own Sts.t11 fun v390 => ?_)
  exact ret (hk _)

theorem part28 (hX : ∀ x, (X x).toNat < 7936) (k0_t2 : Fin k0_t2_loop.trips) (v342 : BitVec 32) (v389 : Vec F S10x128 .i32)
    {K : (BitVec 32) → Prog (TpuEff nD τ sig (Elt F) Λ₀ .tc) β}
    (hk : ∀ r, S c arg1 X arg6 arg7 arg8 arg9 arg10 arg11 arg12 R ⊢ wp frame (wpE defs₀ 𝒱 (c : Thread nD τ) bd) E (K r) Q) :
    S c arg1 X arg6 arg7 arg8 arg9 arg10 arg11 arg12 R ⊢ wp frame (wpE defs₀ 𝒱 (c : Thread nD τ) bd) E (k0_part28 (F := F) i arg1 harg1 arg2 harg2 arg3 harg3 arg4 harg4 arg5 harg5 arg6 harg6 arg7 harg7 arg8 harg8 arg9 harg9 arg10 harg10 arg11 harg11 arg12 harg12 arg13 harg13 arg14 k0_t2 v342 v389 >>= K) Q := by
  rw [k0_part28_eq_skeleton]
  unfold k0_part28_skel
  refine assoc (store_own Sts.t11 ?_)
  refine assoc (sload_of (fun v => v.toNat < 7936) hX Sts.t1 fun v395 hv395 => ?_)
  refine assoc (assume (chkNorm hv395) fun k0_hw38 => ?_)
  refine assoc (load_own Sts.t9 fun v399 => ?_)
  refine assoc (load_own Sts.t12 fun v400 => ?_)
  refine assoc (store_own Sts.t12 ?_)
  refine assoc (sload_of (fun v => v.toNat < 7936) hX Sts.t1 fun v405 hv405 => ?_)
  refine assoc (assume (chkTab hv405) fun k0_hw39 => ?_)
  refine assoc (load_own Sts.t8 fun v409 => ?_)
  refine assoc (load_own Sts.t11 fun v410 => ?_)
  refine assoc (store_own Sts.t11 ?_)
  refine assoc (sload_of (fun v => v.toNat < 7936) hX Sts.t1 fun v415 hv415 => ?_)
  refine assoc (assume (chkNorm hv415) fun k0_hw40 => ?_)
  refine assoc (load_own Sts.t9 fun v419 => ?_)
  refine assoc (load_own Sts.t12 fun v420 => ?_)
  refine assoc (store_own Sts.t12 ?_)
  exact ret (hk _)

theorem part29 (hX : ∀ x, (X x).toNat < 7936) (k0_t2 : Fin k0_t2_loop.trips) (v342 : BitVec 32) (c4_i32_267 : BitVec 32)
    {K : (BitVec 32) → Prog (TpuEff nD τ sig (Elt F) Λ₀ .tc) β}
    (hk : ∀ r, S c arg1 X arg6 arg7 arg8 arg9 arg10 arg11 arg12 R ⊢ wp frame (wpE defs₀ 𝒱 (c : Thread nD τ) bd) E (K r) Q) :
    S c arg1 X arg6 arg7 arg8 arg9 arg10 arg11 arg12 R ⊢ wp frame (wpE defs₀ 𝒱 (c : Thread nD τ) bd) E (k0_part29 (F := F) i arg1 harg1 arg2 harg2 arg3 harg3 arg4 harg4 arg5 harg5 arg6 harg6 arg7 harg7 arg8 harg8 arg9 harg9 arg10 harg10 arg11 harg11 arg12 harg12 arg13 harg13 arg14 k0_t2 v342 c4_i32_267 >>= K) Q := by
  rw [k0_part29_eq_skeleton]
  unfold k0_part29_skel
  refine assoc (sload_of (fun v => v.toNat < 7936) hX Sts.t1 fun v425 hv425 => ?_)
  refine assoc (assume (chkTab hv425) fun k0_hw41 => ?_)
  refine assoc (load_own Sts.t8 fun v429 => ?_)
  refine assoc (load_own Sts.t11 fun v430 => ?_)
  refine assoc (store_own Sts.t11 ?_)
  refine assoc (sload_of (fun v => v.toNat < 7936) hX Sts.t1 fun v435 hv435 => ?_)
  refine assoc (assume (chkNorm hv435) fun k0_hw42 => ?_)
  refine assoc (load_own Sts.t9 fun v439 => ?_)
  refine assoc (load_own Sts.t12 fun v440 => ?_)
  refine assoc (store_own Sts.t12 ?_)
  refine assoc (sload_of (fun v => v.toNat < 7936) hX Sts.t1 fun v445 hv445 => ?_)
  refine assoc (assume (chkTab hv445) fun k0_hw43 => ?_)
  refine assoc (load_own Sts.t8 fun v449 => ?_)
  refine assoc (load_own Sts.t11 fun v450 => ?_)
  refine assoc (store_own Sts.t11 ?_)
  exact ret (hk _)

theorem part30 (hX : ∀ x, (X x).toNat < 7936) (k0_t2 : Fin k0_t2_loop.trips) (v342 : BitVec 32) (v453 : BitVec 32)
    {K : (Σ' (v485 : Elt F .i32), k0_chk47 v485) → Prog (TpuEff nD τ sig (Elt F) Λ₀ .tc) β}
    (hk : ∀ r, S c arg1 X arg6 arg7 arg8 arg9 arg10 arg11 arg12 R ⊢ wp frame (wpE defs₀ 𝒱 (c : Thread nD τ) bd) E (K r) Q) :
    S c arg1 X arg6 arg7 arg8 arg9 arg10 arg11 arg12 R ⊢ wp frame (wpE defs₀ 𝒱 (c : Thread nD τ) bd) E (k0_part30 (F := F) i arg1 harg1 arg2 harg2 arg3 harg3 arg4 harg4 arg5 harg5 arg6 harg6 arg7 harg7 arg8 harg8 arg9 harg9 arg10 harg10 arg11 harg11 arg12 harg12 arg13 harg13 arg14 k0_t2 v342 v453 >>= K) Q := by
  rw [k0_part30_eq_skeleton]
  unfold k0_part30_skel
  refine assoc (sload_of (fun v => v.toNat < 7936) hX Sts.t1 fun v455 hv455 => ?_)
  refine assoc (assume (chkNorm hv455) fun k0_hw44 => ?_)
  refine assoc (load_own Sts.t9 fun v459 => ?_)
  refine assoc (load_own Sts.t12 fun v460 => ?_)
  refine assoc (store_own Sts.t12 ?_)
  refine assoc (sload_of (fun v => v.toNat < 7936) hX Sts.t1 fun v465 hv465 => ?_)
  refine assoc (assume (chkTab hv465) fun k0_hw45 => ?_)
  refine assoc (load_own Sts.t8 fun v469 => ?_)
  refine assoc (load_own Sts.t11 fun v470 => ?_)
  refine assoc (store_own Sts.t11 ?_)
  refine assoc (sload_of (fun v => v.toNat < 7936) hX Sts.t1 fun v475 hv475 => ?_)
  refine assoc (assume (chkNorm hv475) fun k0_hw46 => ?_)
  refine assoc (load_own Sts.t9 fun v479 => ?_)
  refine assoc (load_own Sts.t12 fun v480 => ?_)
  refine assoc (store_own Sts.t12 ?_)
  refine assoc (sload_of (fun v => v.toNat < 7936) hX Sts.t1 fun v485 hv485 => ?_)
  refine assoc (assume (chkTab hv485) fun k0_hw47 => ?_)
  exact ret (hk _)

theorem part31 (hX : ∀ x, (X x).toNat < 7936) (k0_t2 : Fin k0_t2_loop.trips) (arg15 : BitVec 32) (v342 : BitVec 32) (v485 : Elt F .i32) (k0_hw47 : k0_chk47 v485)
    {K : (Σ' (v505 : BitVec 32), BitVec 32) → Prog (TpuEff nD τ sig (Elt F) Λ₀ .tc) β}
    (hk : ∀ r, S c arg1 X arg6 arg7 arg8 arg9 arg10 arg11 arg12 R ⊢ wp frame (wpE defs₀ 𝒱 (c : Thread nD τ) bd) E (K r) Q) :
    S c arg1 X arg6 arg7 arg8 arg9 arg10 arg11 arg12 R ⊢ wp frame (wpE defs₀ 𝒱 (c : Thread nD τ) bd) E (k0_part31 (F := F) i arg1 harg1 arg2 harg2 arg3 harg3 arg4 harg4 arg5 harg5 arg6 harg6 arg7 harg7 arg8 harg8 arg9 harg9 arg10 harg10 arg11 harg11 arg12 harg12 arg13 harg13 arg14 k0_t2 arg15 v342 v485 k0_hw47 >>= K) Q := by
  rw [k0_part31_eq_skeleton]
  unfold k0_part31_skel
  refine assoc (load_own Sts.t8 fun v489 => ?_)
  refine assoc (load_own Sts.t11 fun v490 => ?_)
  refine assoc (store_own Sts.t11 ?_)
  refine assoc (sload_of (fun v => v.toNat < 7936) hX Sts.t1 fun v495 hv495 => ?_)
  refine assoc (assume (chkNorm hv495) fun k0_hw48 => ?_)
  refine assoc (load_own Sts.t9 fun v499 => ?_)
  refine assoc (load_own Sts.t12 fun v500 => ?_)
  refine assoc (store_own Sts.t12 ?_)
  refine assoc (sload_of (fun v => v.toNat < 7936) hX Sts.t1 fun v508 hv508 => ?_)
  refine assoc (assume (chkTab hv508) fun k0_hw49 => ?_)
  refine assoc (load_own Sts.t8 fun v512 => ?_)
  refine assoc (load_own Sts.t11 fun v513 => ?_)
  refine assoc (store_own Sts.t11 ?_)
  exact ret (hk _)

theorem part32 (hX : ∀ x, (X x).toNat < 7936) (k0_t2 : Fin k0_t2_loop.trips) (v505 : BitVec 32) (v516 : BitVec 32)
    {K : (Σ' (v548 : Elt F .i32), k0_chk53 v548) → Prog (TpuEff nD τ sig (Elt F) Λ₀ .tc) β}
    (hk : ∀ r, S c arg1 X arg6 arg7 arg8 arg9 arg10 arg11 arg12 R ⊢ wp frame (wpE defs₀ 𝒱 (c : Thread nD τ) bd) E (K r) Q) :
    S c arg1 X arg6 arg7 arg8 arg9 arg10 arg11 arg12 R ⊢ wp frame (wpE defs₀ 𝒱 (c : Thread nD τ) bd) E (k0_part32 (F := F) i arg1 harg1 arg2 harg2 arg3 harg3 arg4 harg4 arg5 harg5 arg6 harg6 arg7 harg7 arg8 harg8 arg9 harg9 arg10 harg10 arg11 harg11 arg12 harg12 arg13 harg13 arg14 k0_t2 v505 v516 >>= K) Q := by
  rw [k0_part32_eq_skeleton]
  unfold k0_part32_skel
  refine assoc (sload_of (fun v => v.toNat < 7936) hX Sts.t1 fun v518 hv518 => ?_)
  refine assoc (assume (chkNorm hv518) fun k0_hw50 => ?_)
  refine assoc (load_own Sts.t9 fun v522 => ?_)
  refine assoc (load_own Sts.t12 fun v523 => ?_)
  refine assoc (store_own Sts.t12 ?_)
  refine assoc (sload_of (fun v => v.toNat < 7936) hX Sts.t1 fun v528 hv528 => ?_)
  refine assoc (assume (chkTab hv528) fun k0_hw51 => ?_)
  refine assoc (load_own Sts.t8 fun v532 => ?_)
  refine assoc (load_own Sts.t11 fun v533 => ?_)
  refine assoc (store_own Sts.t11 ?_)
  refine assoc (sload_of (fun v => v.toNat < 7936) hX Sts.t1 fun v538 hv538 => ?_)
  refine assoc (assume (chkNorm hv538) fun k0_hw52 => ?_)
  refine assoc (load_own Sts.t9 fun v542 => ?_)
  refine assoc (load_own Sts.t12 fun v543 => ?_)
  refine assoc (store_own Sts.t12 ?_)
  refine assoc (sload_of (fun v => v.toNat < 7936) hX Sts.t1 fun v548 hv548 => ?_)
  refine assoc (assume (chkTab hv548) fun k0_hw53 => ?_)
  exact ret (hk _)

theorem part33 (hX : ∀ x, (X x).toNat < 7936) (k0_t2 : Fin k0_t2_loop.trips) (v505 : BitVec 32) (v548 : Elt F .i32) (k0_hw53 : k0_chk53 v548)
    {K : (Σ' (v578 : Elt F .i32) (k0_hw56 : k0_chk56 v578), BitVec 32) → Prog (TpuEff nD τ sig (Elt F) Λ₀ .tc) β}
    (hk : ∀ r, S c arg1 X arg6 arg7 arg8 arg9 arg10 arg11 arg12 R ⊢ wp frame (wpE defs₀ 𝒱 (c : Thread nD τ) bd) E (K r) Q) :
    S c arg1 X arg6 arg7 arg8 arg9 arg10 arg11 arg12 R ⊢ wp frame (wpE defs₀ 𝒱 (c : Thread nD τ) bd) E (k0_part33 (F := F) i arg1 harg1 arg2 harg2 arg3 harg3 arg4 harg4 arg5 harg5 arg6 harg6 arg7 harg7 arg8 harg8 arg9 harg9 arg10 harg10 arg11 harg11 arg12 harg12 arg13 harg13 arg14 k0_t2 v505 v548 k0_hw53 >>= K) Q := by
  rw [k0_part33_eq_skeleton]
  unfold k0_part33_skel
  refine assoc (load_own Sts.t8 fun v552 => ?_)
  refine assoc (load_own Sts.t11 fun v553 => ?_)
  refine assoc (store_own Sts.t11 ?_)
  refine assoc (sload_of (fun v => v.toNat < 7936) hX Sts.t1 fun v558 hv558 => ?_)
  refine assoc (assume (chkNorm hv558) fun k0_hw54 => ?_)
  refine assoc (load_own Sts.t9 fun v562 => ?_)
  refine assoc (load_own Sts.t12 fun v563 => ?_)
  refine assoc (store_own Sts.t12 ?_)
  refine assoc (sload_of (fun v => v.toNat < 7936) hX Sts.t1 fun v568 hv568 => ?_)
  refine assoc (assume (chkTab hv568) fun k0_hw55 => ?_)
  refine assoc (load_own Sts.t8 fun v572 => ?_)
  refine assoc (load_own Sts.t11 fun v573 => ?_)
  refine assoc (store_own Sts.t11 ?_)
  refine assoc (sload_of (fun v => v.toNat < 7936) hX Sts.t1 fun v578 hv578 => ?_)
  refine assoc (assume (chkNorm hv578) fun k0_hw56 => ?_)
  exact ret (hk _)

theorem part34 (hX : ∀ x, (X x).toNat < 7936) (k0_t2 : Fin k0_t2_loop.trips) (v505 : BitVec 32) (v578 : Elt F .i32) (k0_hw56 : k0_chk56 v578) (v580 : BitVec 32)
    {K : (Vec F S10x128 .i32) → Prog (TpuEff nD τ sig (Elt F) Λ₀ .tc) β}
    (hk : ∀ r, S c arg1 X arg6 arg7 arg8 arg9 arg10 arg11 arg12 R ⊢ wp frame (wpE defs₀ 𝒱 (c : Thread nD τ) bd) E (K r) Q) :
    S c arg1 X arg6 arg7 arg8 arg9 arg10 arg11 arg12 R ⊢ wp frame (wpE defs₀ 𝒱 (c : Thread nD τ) bd) E (k0_part34 (F := F) i arg1 harg1 arg2 harg2 arg3 harg3 arg4 harg4 arg5 harg5 arg6 harg6 arg7 harg7 arg8 harg8 arg9 harg9 arg10 harg10 arg11 harg11 arg12 harg12 arg13 harg13 arg14 k0_t2 v505 v578 k0_hw56 v580 >>= K) Q := by
  rw [k0_part34_eq_skeleton]
  unfold k0_part34_skel
  refine assoc (load_own Sts.t9 fun v582 => ?_)
  refine assoc (load_own Sts.t12 fun v583 => ?_)
  refine assoc (store_own Sts.t12 ?_)
  refine assoc (sload_of (fun v => v.toNat < 7936) hX Sts.t1 fun v588 hv588 => ?_)
  refine assoc (assume (chkTab hv588) fun k0_hw57 => ?_)
  refine assoc (load_own Sts.t8 fun v592 => ?_)
  refine assoc (load_own Sts.t11 fun v593 => ?_)
  refine assoc (store_own Sts.t11 ?_)
  refine assoc (sload_of (fun v => v.toNat < 7936) hX Sts.t1 fun v598 hv598 => ?_)
  refine assoc (assume (chkNorm hv598) fun k0_hw58 => ?_)
  refine assoc (load_own Sts.t9 fun v602 => ?_)
  refine assoc (load_own Sts.t12 fun v603 => ?_)
  refine assoc (store_own Sts.t12 ?_)
  refine assoc (sload_of (fun v => v.toNat < 7936) hX Sts.t1 fun v608 hv608 => ?_)
  refine assoc (assume (chkTab hv608) fun k0_hw59 => ?_)
  refine load_own Sts.t8 fun v612 => ?_
  exact hk _

theorem part35 (hX : ∀ x, (X x).toNat < 7936) (k0_t2 : Fin k0_t2_loop.trips) (v505 : BitVec 32) (v612 : Vec F S10x128 .i32)
    {K : (Σ' (v642 : Vec F S2x128 .f32), Vec F S2x128 .f32) → Prog (TpuEff nD τ sig (Elt F) Λ₀ .tc) β}
    (hk : ∀ r, S c arg1 X arg6 arg7 arg8 arg9 arg10 arg11 arg12 R ⊢ wp frame (wpE defs₀ 𝒱 (c : Thread nD τ) bd) E (K r) Q) :
    S c arg1 X arg6 arg7 arg8 arg9 arg10 arg11 arg12 R ⊢ wp frame (wpE defs₀ 𝒱 (c : Thread nD τ) bd) E (k0_part35 (F := F) i arg1 harg1 arg2 harg2 arg3 harg3 arg4 harg4 arg5 harg5 arg6 harg6 arg7 harg7 arg8 harg8 arg9 harg9 arg10 harg10 arg11 harg11 arg12 harg12 arg13 harg13 arg14 k0_t2 v505 v612 >>= K) Q := by
  rw [k0_part35_eq_skeleton]
  unfold k0_part35_skel
  refine assoc (load_own Sts.t11 fun v613 => ?_)
  refine assoc (store_own Sts.t11 ?_)
  refine assoc (sload_of (fun v => v.toNat < 7936) hX Sts.t1 fun v618 hv618 => ?_)
  refine assoc (assume (chkNorm hv618) fun k0_hw60 => ?_)
  refine assoc (load_own Sts.t9 fun v622 => ?_)
  refine assoc (load_own Sts.t12 fun v623 => ?_)
  refine assoc (store_own Sts.t12 ?_)
  refine assoc (sload_of (fun v => v.toNat < 7936) hX Sts.t1 fun v628 hv628 => ?_)
  refine assoc (assume (chkTab hv628) fun k0_hw61 => ?_)
  refine assoc (load_own Sts.t8 fun v632 => ?_)
  refine assoc (load_own Sts.t11 fun v633 => ?_)
  refine assoc (store_own Sts.t11 ?_)
  refine assoc (sload_of (fun v => v.toNat < 7936) hX Sts.t1 fun v638 hv638 => ?_)
  refine assoc (assume (chkNorm hv638) fun k0_hw62 => ?_)
  refine assoc (load_own Sts.t9 fun v642 => ?_)
  refine assoc (load_own Sts.t12 fun v643 => ?_)
  exact ret (hk _)

theorem part36 (hX : ∀ x, (X x).toNat < 7936) (k0_t2 : Fin k0_t2_loop.trips) (arg15 : BitVec 32) (v505 : BitVec 32) (v642 : Vec F S2x128 .f32) (v643 : Vec F S2x128 .f32)
    {K : (Σ' (v669 : BitVec 32) (v670 : Vec F S8x128 .f32) (v671 : Vec F S8x128 .f32) (v672 : Vec F S8x128 .i32), Vec F S8x128 .i32) → Prog (TpuEff nD τ sig (Elt F) Λ₀ .tc) β}
    (hk : ∀ r, S c arg1 X arg6 arg7 arg8 arg9 arg10 arg11 arg12 R ⊢ wp frame (wpE defs₀ 𝒱 (c : Thread nD τ) bd) E (K r) Q) :
    S c arg1 X arg6 arg7 arg8 arg9 arg10 arg11 arg12 R ⊢ wp frame (wpE defs₀ 𝒱 (c : Thread nD τ) bd) E (k0_part36 (F := F) i arg1 harg1 arg2 harg2 arg3 harg3 arg4 harg4 arg5 harg5 arg6 harg6 arg7 harg7 arg8 harg8 arg9 harg9 arg10 harg10 arg11 harg11 arg12 harg12 arg13 harg13 arg14 k0_t2 arg15 v505 v642 v643 >>= K) Q := by
  rw [k0_part36_eq_skeleton]
  unfold k0_part36_skel
  refine assoc (store_own Sts.t12 ?_)
  refine assoc (sload_of (fun v => v.toNat < 7936) hX Sts.t1 fun v648 hv648 => ?_)
  refine assoc (assume (chkTab hv648) fun k0_hw63 => ?_)
  refine assoc (load_own Sts.t8 fun v652 => ?_)
  refine assoc (load_own Sts.t11 fun v653 => ?_)
  refine assoc (store_own Sts.t11 ?_)
  refine assoc (sload_of (fun v => v.toNat < 7936) hX Sts.t1 fun v658 hv658 => ?_)
  refine assoc (assume (chkNorm hv658) fun k0_hw64 => ?_)
  refine assoc (load_own Sts.t9 fun v662 => ?_)
  refine assoc (load_own Sts.t12 fun v663 => ?_)
  refine assoc (store_own Sts.t12 ?_)
  refine assoc (load_own Sts.t12 fun v670 => ?_)
  refine assoc (load_own Sts.t12 fun v671 => ?_)
  refine assoc (load_own Sts.t11 fun v672 => ?_)
  refine assoc (load_own Sts.t11 fun v673 => ?_)
  exact ret (hk _)

theorem part37 (hX : ∀ x, (X x).toNat < 7936) (v3 : Vec F S8x128 .f32) (v4 : Vec F S8x128 .f32) (k0_t2 : Fin k0_t2_loop.trips) (v669 : BitVec 32) (v670 : Vec F S8x128 .f32) (v671 : Vec F S8x128 .f32) (v672 : Vec F S8x128 .i32) (v673 : Vec F S8x128 .i32)
    {K : (Σ' (v712 : Vec F S8x128 .i32) (v713 : Vec F S8x128 .i32), IVec S8x128 32) → Prog (TpuEff nD τ sig (Elt F) Λ₀ .tc) β}
    (hk : ∀ r, S c arg1 X arg6 arg7 arg8 arg9 arg10 arg11 arg12 R ⊢ wp frame (wpE defs₀ 𝒱 (c : Thread nD τ) bd) E (K r) Q) :
    S c arg1 X arg6 arg7 arg8 arg9 arg10 arg11 arg12 R ⊢ wp frame (wpE defs₀ 𝒱 (c : Thread nD τ) bd) E (k0_part37 (F := F) i arg1 harg1 arg2 harg2 arg3 harg3 arg4 harg4 arg5 harg5 arg6 harg6 arg7 harg7 arg8 harg8 arg9 harg9 arg10 harg10 arg11 harg11 arg12 harg12 arg13 harg13 arg14 v3 v4 k0_t2 v669 v670 v671 v672 v673 >>= K) Q := by
  rw [k0_part37_eq_skeleton]
  unfold k0_part37_skel
  refine assoc (load_own Sts.t7 fun v684 => ?_)
  refine assoc (store_own Sts.t7 ?_)
  refine assoc (load_own Sts.t6 fun v692 => ?_)
  refine assoc (store_own Sts.t6 ?_)
  refine assoc (load_own Sts.t7 fun v703 => ?_)
  refine assoc (store_own Sts.t7 ?_)
  refine assoc (load_own Sts.t6 fun v711 => ?_)
  refine assoc (store_own Sts.t6 ?_)
  refine assoc (load_own Sts.t11 fun v712 => ?_)
  refine assoc (load_own Sts.t11 fun v713 => ?_)
  exact ret (hk _)

theorem part38 (hX : ∀ x, (X x).toNat < 7936) (v5 : Vec F S8x128 .f32) (v6 : Vec F S8x128 .f32) (k0_t2 : Fin k0_t2_loop.trips) (v669 : BitVec 32) (v670 : Vec F S8x128 .f32) (v671 : Vec F S8x128 .f32) (v712 : Vec F S8x128 .i32) (v713 : Vec F S8x128 .i32) (v714 : IVec S8x128 32)
    {K : (Σ' (v752 : Vec F S8x128 .i32) (v753 : Vec F S8x128 .i32), FVec F S8x128 .f32) → Prog (TpuEff nD τ sig (Elt F) Λ₀ .tc) β}
    (hk : ∀ r, S c arg1 X arg6 arg7 arg8 arg9 arg10 arg11 arg12 R ⊢ wp frame (wpE defs₀ 𝒱 (c : Thread nD τ) bd) E (K r) Q) :
    S c arg1 X arg6 arg7 arg8 arg9 arg10 arg11 arg12 R ⊢ wp frame (wpE defs₀ 𝒱 (c : Thread nD τ) bd) E (k0_part38 (F := F) i arg1 harg1 arg2 harg2 arg3 harg3 arg4 harg4 arg5 harg5 arg6 harg6 arg7 harg7 arg8 harg8 arg9 harg9 arg10 harg10 arg11 harg11 arg12 harg12 arg13 harg13 arg14 v5 v6 k0_t2 v669 v670 v671 v712 v713 v714 >>= K) Q := by
  rw [k0_part38_eq_skeleton]
  unfold k0_part38_skel
  refine assoc (load_own Sts.t7 fun v724 => ?_)
  refine assoc (store_own Sts.t7 ?_)
  refine assoc (load_own Sts.t6 fun v732 => ?_)
  refine assoc (store_own Sts.t6 ?_)
  refine assoc (load_own Sts.t7 fun v743 => ?_)
  refine assoc (store_own Sts.t7 ?_)
  refine assoc (load_own Sts.t6 fun v751 => ?_)
  refine assoc (store_own Sts.t6 ?_)
  refine assoc (load_own Sts.t11 fun v752 => ?_)
  refine assoc (load_own Sts.t11 fun v753 => ?_)
  exact ret (hk _)

theorem part39 (hX : ∀ x, (X x).toNat < 7936) (v7 : Vec F S8x128 .f32) (v8 : Vec F S8x128 .f32) (k0_t2 : Fin k0_t2_loop.trips) (v669 : BitVec 32) (v670 : Vec F S8x128 .f32) (v671 : Vec F S8x128 .f32) (v752 : Vec F S8x128 .i32) (v753 : Vec F S8x128 .i32) (v756 : FVec F S8x128 .f32)
    {K : (Σ' (v792 : Vec F S8x128 .i32) (v793 : Vec F S8x128 .i32) (v796 : FVec F S8x128 .f32), IVec S8x128 32) → Prog (TpuEff nD τ sig (Elt F) Λ₀ .tc) β}
    (hk : ∀ r, S c arg1 X arg6 arg7 arg8 arg9 arg10 arg11 arg12 R ⊢ wp frame (wpE defs₀ 𝒱 (c : Thread nD τ) bd) E (K r) Q) :
    S c arg1 X arg6 arg7 arg8 arg9 arg10 arg11 arg12 R ⊢ wp frame (wpE defs₀ 𝒱 (c : Thread nD τ) bd) E (k0_part39 (F := F) i arg1 harg1 arg2 harg2 arg3 harg3 arg4 harg4 arg5 harg5 arg6 harg6 arg7 harg7 arg8 harg8 arg9 harg9 arg10 harg10 arg11 harg11 arg12 harg12 arg13 harg13 arg14 v7 v8 k0_t2 v669 v670 v671 v752 v753 v756 >>= K) Q := by
  rw [k0_part39_eq_skeleton]
  unfold k0_part39_skel
  refine assoc (load_own Sts.t7 fun v764 => ?_)
  refine assoc (store_own Sts.t7 ?_)
  refine assoc (load_own Sts.t6 fun v772 => ?_)
  refine assoc (store_own Sts.t6 ?_)
  refine assoc (load_own Sts.t7 fun v783 => ?_)
  refine assoc (store_own Sts.t7 ?_)
  refine assoc (load_own Sts.t6 fun v791 => ?_)
  refine assoc (store_own Sts.t6 ?_)
  refine assoc (load_own Sts.t11 fun v792 => ?_)
  refine assoc (load_own Sts.t11 fun v793 => ?_)
  exact ret (hk _)

theorem part40 (hX : ∀ x, (X x).toNat < 7936) (v9 : Vec F S8x128 .f32) (v10 : Vec F S8x128 .f32) (k0_t2 : Fin k0_t2_loop.trips) (v669 : BitVec 32) (v670 : Vec F S8x128 .f32) (v671 : Vec F S8x128 .f32) (v792 : Vec F S8x128 .i32) (v793 : Vec F S8x128 .i32) (v796 : FVec F S8x128 .f32) (v797 : IVec S8x128 32)
    {K : (Σ' (v832 : Vec F S8x128 .i32) (v833 : Vec F S8x128 .i32) (v836 : FVec F S8x128 .f32), FVec F S8x128 .f32) → Prog (TpuEff nD τ sig (Elt F) Λ₀ .tc) β}
    (hk : ∀ r, S c arg1 X arg6 arg7 arg8 arg9 arg10 arg11 arg12 R ⊢ wp frame (wpE defs₀ 𝒱 (c : Thread nD τ) bd) E (K r) Q) :
    S c arg1 X arg6 arg7 arg8 arg9 arg10 arg11 arg12 R ⊢ wp frame (wpE defs₀ 𝒱 (c : Thread nD τ) bd) E (k0_part40 (F := F) i arg1 harg1 arg2 harg2 arg3 harg3 arg4 harg4 arg5 harg5 arg6 harg6 arg7 harg7 arg8 harg8 arg9 harg9 arg10 harg10 arg11 harg11 arg12 harg12 arg13 harg13 arg14 v9 v10 k0_t2 v669 v670 v671 v792 v793 v796 v797 >>= K) Q := by
  rw [k0_part40_eq_skeleton]
  unfold k0_part40_skel
  refine assoc (load_own Sts.t7 fun v804 => ?_)
  refine assoc (store_own Sts.t7 ?_)
  refine assoc (load_own Sts.t6 fun v812 => ?_)
  refine assoc (store_own Sts.t6 ?_)
  refine assoc (load_own Sts.t7 fun v823 => ?_)
  refine assoc (store_own Sts.t7 ?_)
  refine assoc (load_own Sts.t6 fun v831 => ?_)
  refine assoc (store_own Sts.t6 ?_)
  refine assoc (load_own Sts.t11 fun v832 => ?_)
  refine assoc (load_own Sts.t11 fun v833 => ?_)
  exact ret (hk _)

theorem part41 (hX : ∀ x, (X x).toNat < 7936) (v11 : Vec F S8x128 .f32) (v12 : Vec F S8x128 .f32) (k0_t2 : Fin k0_t2_loop.trips) (arg15 : BitVec 32) (v669 : BitVec 32) (v670 : Vec F S8x128 .f32) (v671 : Vec F S8x128 .f32) (v832 : Vec F S8x128 .i32) (v833 : Vec F S8x128 .i32) (v836 : FVec F S8x128 .f32) (v839 : FVec F S8x128 .f32)
    {K : (Σ' (v875 : BitVec 32) (v876 : Vec F S8x128 .f32) (v877 : Vec F S8x128 .f32), Vec F S8x128 .i32) → Prog (TpuEff nD τ sig (Elt F) Λ₀ .tc) β}
    (hk : ∀ r, S c arg1 X arg6 arg7 arg8 arg9 arg10 arg11 arg12 R ⊢ wp frame (wpE defs₀ 𝒱 (c : Thread nD τ) bd) E (K r) Q) :
    S c arg1 X arg6 arg7 arg8 arg9 arg10 arg11 arg12 R ⊢ wp frame (wpE defs₀ 𝒱 (c : Thread nD τ) bd) E (k0_part41 (F := F) i arg1 harg1 arg2 harg2 arg3 harg3 arg4 harg4 arg5 harg5 arg6 harg6 arg7 harg7 arg8 harg8 arg9 harg9 arg10 harg10 arg11 harg11 arg12 harg12 arg13 harg13 arg14 v11 v12 k0_t2 arg15 v669 v670 v671 v832 v833 v836 v839 >>= K) Q := by
  rw [k0_part41_eq_skeleton]
  unfold k0_part41_skel
  refine assoc (load_own Sts.t7 fun v844 => ?_)
  refine assoc (store_own Sts.t7 ?_)
  refine assoc (load_own Sts.t6 fun v852 => ?_)
  refine assoc (store_own Sts.t6 ?_)
  refine assoc (load_own Sts.t7 fun v863 => ?_)
  refine assoc (store_own Sts.t7 ?_)
  refine assoc (load_own Sts.t6 fun v871 => ?_)
  refine assoc (store_own Sts.t6 ?_)
  refine assoc (load_own Sts.t12 fun v876 => ?_)
  refine assoc (load_own Sts.t12 fun v877 => ?_)
  refine assoc (load_own Sts.t11 fun v878 => ?_)
  exact ret (hk _)

theorem part42 (hX : ∀ x, (X x).toNat < 7936) (v3 : Vec F S8x128 .f32) (v4 : Vec F S8x128 .f32) (k0_t2 : Fin k0_t2_loop.trips) (v875 : BitVec 32) (v876 : Vec F S8x128 .f32) (v877 : Vec F S8x128 .f32) (v878 : Vec F S8x128 .i32)
    {K : (Vec F S8x128 .i32) → Prog (TpuEff nD τ sig (Elt F) Λ₀ .tc) β}
    (hk : ∀ r, S c arg1 X arg6 arg7 arg8 arg9 arg10 arg11 arg12 R ⊢ wp frame (wpE defs₀ 𝒱 (c : Thread nD τ) bd) E (K r) Q) :
    S c arg1 X arg6 arg7 arg8 arg9 arg10 arg11 arg12 R ⊢ wp frame (wpE defs₀ 𝒱 (c : Thread nD τ) bd) E (k0_part42 (F := F) i arg1 harg1 arg2 harg2 arg3 harg3 arg4 harg4 arg5 harg5 arg6 harg6 arg7 harg7 arg8 harg8 arg9 harg9 arg10 harg10 arg11 harg11 arg12 harg12 arg13 harg13 arg14 v3 v4 k0_t2 v875 v876 v877 v878 >>= K) Q := by
  rw [k0_part42_eq_skeleton]
  unfold k0_part42_skel
  refine assoc (load_own Sts.t11 fun v879 => ?_)
  refine assoc (load_own Sts.t7 fun v890 => ?_)
  refine assoc (store_own Sts.t7 ?_)
  refine assoc (load_own Sts.t6 fun v898 => ?_)
  refine assoc (store_own Sts.t6 ?_)
  refine assoc (load_own Sts.t7 fun v909 => ?_)
  refine assoc (store_own Sts.t7 ?_)
  refine assoc (load_own Sts.t6 fun v917 => ?_)
  refine assoc (store_own Sts.t6 ?_)
  refine assoc (load_own Sts.t11 fun v918 => ?_)
  exact ret (hk _)

theorem part43 (hX : ∀ x, (X x).toNat < 7936) (v5 : Vec F S8x128 .f32) (v6 : Vec F S8x128 .f32) (k0_t2 : Fin k0_t2_loop.trips) (v875 : BitVec 32) (v876 : Vec F S8x128 .f32) (v877 : Vec F S8x128 .f32) (v918 : Vec F S8x128 .i32)
    {K : (Σ' (v958 : Vec F S8x128 .i32) (v959 : Vec F S8x128 .i32), BitVec 32) → Prog (TpuEff nD τ sig (Elt F) Λ₀ .tc) β}
    (hk : ∀ r, S c arg1 X arg6 arg7 arg8 arg9 arg10 arg11 arg12 R ⊢ wp frame (wpE defs₀ 𝒱 (c : Thread nD τ) bd) E (K r) Q) :
    S c arg1 X arg6 arg7 arg8 arg9 arg10 arg11 arg12 R ⊢ wp frame (wpE defs₀ 𝒱 (c : Thread nD τ) bd) E (k0_part43 (F := F) i arg1 harg1 arg2 harg2 arg3 harg3 arg4 harg4 arg5 harg5 arg6 harg6 arg7 harg7 arg8 harg8 arg9 harg9 arg10 harg10 arg11 harg11 arg12 harg12 arg13 harg13 arg14 v5 v6 k0_t2 v875 v876 v877 v918 >>= K) Q := by
  rw [k0_part43_eq_skeleton]
  unfold k0_part43_skel
  refine assoc (load_own Sts.t11 fun v919 => ?_)
  refine assoc (load_own Sts.t7 fun v930 => ?_)
  refine assoc (store_own Sts.t7 ?_)
  refine assoc (load_own Sts.t6 fun v938 => ?_)
  refine assoc (store_own Sts.t6 ?_)
  refine assoc (load_own Sts.t7 fun v949 => ?_)
  refine assoc (store_own Sts.t7 ?_)
  refine assoc (load_own Sts.t6 fun v957 => ?_)
  refine assoc (store_own Sts.t6 ?_)
  refine assoc (load_own Sts.t11 fun v958 => ?_)
  refine assoc (load_own Sts.t11 fun v959 => ?_)
  exact ret (hk _)

theorem part44 (hX : ∀ x, (X x).toNat < 7936) (v7 : Vec F S8x128 .f32) (v8 : Vec F S8x128 .f32) (k0_t2 : Fin k0_t2_loop.trips) (v875 : BitVec 32) (v876 : Vec F S8x128 .f32) (v877 : Vec F S8x128 .f32) (v958 : Vec F S8x128 .i32) (v959 : Vec F S8x128 .i32) (c16_i32_519 : BitVec 32)
    {K : (Σ' (v998 : Vec F S8x128 .i32) (v999 : Vec F S8x128 .i32), IVec S8x128 32) → Prog (TpuEff nD τ sig (Elt F) Λ₀ .tc) β}
    (hk : ∀ r, S c arg1 X arg6 arg7 arg8 arg9 arg10 arg11 arg12 R ⊢ wp frame (wpE defs₀ 𝒱 (c : Thread nD τ) bd) E (K r) Q) :
    S c arg1 X arg6 arg7 arg8 arg9 arg10 arg11 arg12 R ⊢ wp frame (wpE defs₀ 𝒱 (c : Thread nD τ) bd) E (k0_part44 (F := F) i arg1 harg1 arg2 harg2 arg3 harg3 arg4 harg4 arg5 harg5 arg6 harg6 arg7 harg7 arg8 harg8 arg9 harg9 arg10 harg10 arg11 harg11 arg12 harg12 arg13 harg13 arg14 v7 v8 k0_t2 v875 v876 v877 v958 v959 c16_i32_519 >>= K) Q := by
  rw [k0_part44_eq_skeleton]
  unfold k0_part44_skel
  refine assoc (load_own Sts.t7 fun v970 => ?_)
  refine assoc (store_own Sts.t7 ?_)
  refine assoc (load_own Sts.t6 fun v978 => ?_)
  refine assoc (store_own Sts.t6 ?_)
  refine assoc (load_own Sts.t7 fun v989 => ?_)
  refine assoc (store_own Sts.t7 ?_)
  refine assoc (load_own Sts.t6 fun v997 => ?_)
  refine assoc (store_own Sts.t6 ?_)
  refine assoc (load_own Sts.t11 fun v998 => ?_)
  refine assoc (load_own Sts.t11 fun v999 => ?_)
  exact ret (hk _)

theorem part45 (hX : ∀ x, (X x).toNat < 7936) (v9 : Vec F S8x128 .f32) (v10 : Vec F S8x128 .f32) (k0_t2 : Fin k0_t2_loop.trips) (v875 : BitVec 32) (v876 : Vec F S8x128 .f32) (v877 : Vec F S8x128 .f32) (v998 : Vec F S8x128 .i32) (v999 : Vec F S8x128 .i32) (v1001 : IVec S8x128 32)
    {K : (Σ' (v1038 : Vec F S8x128 .i32) (v1039 : Vec F S8x128 .i32) (v1042 : FVec F S8x128 .f32), BitVec 32) → Prog (TpuEff nD τ sig (Elt F) Λ₀ .tc) β}
    (hk : ∀ r, S c arg1 X arg6 arg7 arg8 arg9 arg10 arg11 arg12 R ⊢ wp frame (wpE defs₀ 𝒱 (c : Thread nD τ) bd) E (K r) Q) :
    S c arg1 X arg6 arg7 arg8 arg9 arg10 arg11 arg12 R ⊢ wp frame (wpE defs₀ 𝒱 (c : Thread nD τ) bd) E (k0_part45 (F := F) i arg1 harg1 arg2 harg2 arg3 harg3 arg4 harg4 arg5 harg5 arg6 harg6 arg7 harg7 arg8 harg8 arg9 harg9 arg10 harg10 arg11 harg11 arg12 harg12 arg13 harg13 arg14 v9 v10 k0_t2 v875 v876 v877 v998 v999 v1001 >>= K) Q := by
  rw [k0_part45_eq_skeleton]
  unfold k0_part45_skel
  refine assoc (load_own Sts.t7 fun v1010 => ?_)
  refine assoc (store_own Sts.t7 ?_)
  refine assoc (load_own Sts.t6 fun v1018 => ?_)
  refine assoc (store_own Sts.t6 ?_)
  refine assoc (load_own Sts.t7 fun v1029 => ?_)
  refine assoc (store_own Sts.t7 ?_)
  refine assoc (load_own Sts.t6 fun v1037 => ?_)
  refine assoc (store_own Sts.t6 ?_)
  refine assoc (load_own Sts.t11 fun v1038 => ?_)
  refine assoc (load_own Sts.t11 fun v1039 => ?_)
  exact ret (hk _)

theorem part46 (hX : ∀ x, (X x).toNat < 7936) (v11 : Vec F S8x128 .f32) (v12 : Vec F S8x128 .f32) (k0_t2 : Fin k0_t2_loop.trips) (arg15 : BitVec 32) (v875 : BitVec 32) (v876 : Vec F S8x128 .f32) (v877 : Vec F S8x128 .f32) (v1038 : Vec F S8x128 .i32) (v1039 : Vec F S8x128 .i32) (v1042 : FVec F S8x128 .f32) (c16_i32_544 : BitVec 32)
    {K : (Σ' (v1081 : BitVec 32) (v1082 : Vec F S8x128 .f32), Vec F S8x128 .f32) → Prog (TpuEff nD τ sig (Elt F) Λ₀ .tc) β}
    (hk : ∀ r, S c arg1 X arg6 arg7 arg8 arg9 arg10 arg11 arg12 R ⊢ wp frame (wpE defs₀ 𝒱 (c : Thread nD τ) bd) E (K r) Q) :
    S c arg1 X arg6 arg7 arg8 arg9 arg10 arg11 arg12 R ⊢ wp frame (wpE defs₀ 𝒱 (c : Thread nD τ) bd) E (k0_part46 (F := F) i arg1 harg1 arg2 harg2 arg3 harg3 arg4 harg4 arg5 harg5 arg6 harg6 arg7 harg7 arg8 harg8 arg9 harg9 arg10 harg10 arg11 harg11 arg12 harg12 arg13 harg13 arg14 v11 v12 k0_t2 arg15 v875 v876 v877 v1038 v1039 v1042 c16_i32_544 >>= K) Q := by
  rw [k0_part46_eq_skeleton]
  unfold k0_part46_skel
  refine assoc (load_own Sts.t7 fun v1050 => ?_)
  refine assoc (store_own Sts.t7 ?_)
  refine assoc (load_own Sts.t6 fun v1058 => ?_)
  refine assoc (store_own Sts.t6 ?_)
  refine assoc (load_own Sts.t7 fun v1069 => ?_)
  refine assoc (store_own Sts.t7 ?_)
  refine assoc (load_own Sts.t6 fun v1077 => ?_)
  refine assoc (store_own Sts.t6 ?_)
  refine assoc (load_own Sts.t12 fun v1082 => ?_)
  refine assoc (load_own Sts.t12 fun v1083 => ?_)
  exact ret (hk _)

theorem part47 (hX : ∀ x, (X x).toNat < 7936) (v3 : Vec F S8x128 .f32) (v4 : Vec F S8x128 .f32) (k0_t2 : Fin k0_t2_loop.trips) (v1081 : BitVec 32) (v1082 : Vec F S8x128 .f32) (v1083 : Vec F S8x128 .f32)
    {K : (PUnit) → Prog (TpuEff nD τ sig (Elt F) Λ₀ .tc) β}
    (hk : ∀ r, S c arg1 X arg6 arg7 arg8 arg9 arg10 arg11 arg12 R ⊢ wp frame (wpE defs₀ 𝒱 (c : Thread nD τ) bd) E (K r) Q) :
    S c arg1 X arg6 arg7 arg8 arg9 arg10 arg11 arg12 R ⊢ wp frame (wpE defs₀ 𝒱 (c : Thread nD τ) bd) E (k0_part47 (F := F) i arg1 harg1 arg2 harg2 arg3 harg3 arg4 harg4 arg5 harg5 arg6 harg6 arg7 harg7 arg8 harg8 arg9 harg9 arg10 harg10 arg11 harg11 arg12 harg12 arg13 harg13 arg14 v3 v4 k0_t2 v1081 v1082 v1083 >>= K) Q := by
  rw [k0_part47_eq_skeleton]
  unfold k0_part47_skel
  refine assoc (load_own Sts.t11 fun v1084 => ?_)
  refine assoc (load_own Sts.t11 fun v1085 => ?_)
  refine assoc (load_own Sts.t7 fun v1096 => ?_)
  refine assoc (store_own Sts.t7 ?_)
  refine assoc (load_own Sts.t6 fun v1104 => ?_)
  refine assoc (store_own Sts.t6 ?_)
  refine assoc (load_own Sts.t7 fun v1115 => ?_)
  refine assoc (store_own Sts.t7 ?_)
  refine assoc (load_own Sts.t6 fun v1123 => ?_)
  refine assoc (store_own Sts.t6 ?_)
  exact ret (hk _)

theorem part48 (hX : ∀ x, (X x).toNat < 7936) (v5 : Vec F S8x128 .f32) (v6 : Vec F S8x128 .f32) (k0_t2 : Fin k0_t2_loop.trips) (v1081 : BitVec 32) (v1082 : Vec F S8x128 .f32) (v1083 : Vec F S8x128 .f32)
    {K : (Vec F S8x128 .i32) → Prog (TpuEff nD τ sig (Elt F) Λ₀ .tc) β}
    (hk : ∀ r, S c arg1 X arg6 arg7 arg8 arg9 arg10 arg11 arg12 R ⊢ wp frame (wpE defs₀ 𝒱 (c : Thread nD τ) bd) E (K r) Q) :
    S c arg1 X arg6 arg7 arg8 arg9 arg10 arg11 arg12 R ⊢ wp frame (wpE defs₀ 𝒱 (c : Thread nD τ) bd) E (k0_part48 (F := F) i arg1 harg1 arg2 harg2 arg3 harg3 arg4 harg4 arg5 harg5 arg6 harg6 arg7 harg7 arg8 harg8 arg9 harg9 arg10 harg10 arg11 harg11 arg12 harg12 arg13 harg13 arg14 v5 v6 k0_t2 v1081 v1082 v1083 >>= K) Q := by
  rw [k0_part48_eq_skeleton]
  unfold k0_part48_skel
  refine assoc (load_own Sts.t11 fun v1124 => ?_)
  refine assoc (load_own Sts.t11 fun v1125 => ?_)
  refine assoc (load_own Sts.t7 fun v1136 => ?_)
  refine assoc (store_own Sts.t7 ?_)
  refine assoc (load_own Sts.t6 fun v1144 => ?_)
  refine assoc (store_own Sts.t6 ?_)
  refine assoc (load_own Sts.t7 fun v1155 => ?_)
  refine assoc (store_own Sts.t7 ?_)
  refine assoc (load_own Sts.t6 fun v1163 => ?_)
  refine assoc (store_own Sts.t6 ?_)
  refine assoc (load_own Sts.t11 fun v1164 => ?_)
  exact ret (hk _)

theorem part49 (hX : ∀ x, (X x).toNat < 7936) (v7 : Vec F S8x128 .f32) (v8 : Vec F S8x128 .f32) (k0_t2 : Fin k0_t2_loop.trips) (v1081 : BitVec 32) (v1082 : Vec F S8x128 .f32) (v1083 : Vec F S8x128 .f32) (v1164 : Vec F S8x128 .i32)
    {K : (Σ' (v1204 : Vec F S8x128 .i32), Vec F S8x128 .i32) → Prog (TpuEff nD τ sig (Elt F) Λ₀ .tc) β}
    (hk : ∀ r, S c arg1 X arg6 arg7 arg8 arg9 arg10 arg11 arg12 R ⊢ wp frame (wpE defs₀ 𝒱 (c : Thread nD τ) bd) E (K r) Q) :
    S c arg1 X arg6 arg7 arg8 arg9 arg10 arg11 arg12 R ⊢ wp frame (wpE defs₀ 𝒱 (c : Thread nD τ) bd) E (k0_part49 (F := F) i arg1 harg1 arg2 harg2 arg3 harg3 arg4 harg4 arg5 harg5 arg6 harg6 arg7 harg7 arg8 harg8 arg9 harg9 arg10 harg10 arg11 harg11 arg12 harg12 arg13 harg13 arg14 v7 v8 k0_t2 v1081 v1082 v1083 v1164 >>= K) Q := by
  rw [k0_part49_eq_skeleton]
  unfold k0_part49_skel
  refine assoc (load_own Sts.t11 fun v1165 => ?_)
  refine assoc (load_own Sts.t7 fun v1176 => ?_)
  refine assoc (store_own Sts.t7 ?_)
  refine assoc (load_own Sts.t6 fun v1184 => ?_)
  refine assoc (store_own Sts.t6 ?_)
  refine assoc (load_own Sts.t7 fun v1195 => ?_)
  refine assoc (store_own Sts.t7 ?_)
  refine assoc (load_own Sts.t6 fun v1203 => ?_)
  refine assoc (store_own Sts.t6 ?_)
  refine assoc (load_own Sts.t11 fun v1204 => ?_)
  refine assoc (load_own Sts.t11 fun v1205 => ?_)
  exact ret (hk _)

theorem part50 (hX : ∀ x, (X x).toNat < 7936) (v9 : Vec F S8x128 .f32) (v10 : Vec F S8x128 .f32) (k0_t2 : Fin k0_t2_loop.trips) (v1081 : BitVec 32) (v1082 : Vec F S8x128 .f32) (v1083 : Vec F S8x128 .f32) (v1204 : Vec F S8x128 .i32) (v1205 : Vec F S8x128 .i32)
    {K : (Σ' (v1244 : Vec F S8x128 .i32) (v1245 : Vec F S8x128 .i32), IVec S8x128 32) → Prog (TpuEff nD τ sig (Elt F) Λ₀ .tc) β}
    (hk : ∀ r, S c arg1 X arg6 arg7 arg8 arg9 arg10 arg11 arg12 R ⊢ wp frame (wpE defs₀ 𝒱 (c : Thread nD τ) bd) E (K r) Q) :
    S c arg1 X arg6 arg7 arg8 arg9 arg10 arg11 arg12 R ⊢ wp frame (wpE defs₀ 𝒱 (c : Thread nD τ) bd) E (k0_part50 (F := F) i arg1 harg1 arg2 harg2 arg3 harg3 arg4 harg4 arg5 harg5 arg6 harg6 arg7 harg7 arg8 harg8 arg9 harg9 arg10 harg10 arg11 harg11 arg12 harg12 arg13 harg13 arg14 v9 v10 k0_t2 v1081 v1082 v1083 v1204 v1205 >>= K) Q := by
  rw [k0_part50_eq_skeleton]
  unfold k0_part50_skel
  refine assoc (load_own Sts.t7 fun v1216 => ?_)
  refine assoc (store_own Sts.t7 ?_)
  refine assoc (load_own Sts.t6 fun v1224 => ?_)
  refine assoc (store_own Sts.t6 ?_)
  refine assoc (load_own Sts.t7 fun v1235 => ?_)
  refine assoc (store_own Sts.t7 ?_)
  refine assoc (load_own Sts.t6 fun v1243 => ?_)
  refine assoc (store_own Sts.t6 ?_)
  refine assoc (load_own Sts.t11 fun v1244 => ?_)
  refine assoc (load_own Sts.t11 fun v1245 => ?_)
  exact ret (hk _)

theorem part51 (hX : ∀ x, (X x).toNat < 7936) (v11 : Vec F S8x128 .f32) (v12 : Vec F S8x128 .f32) (k0_t2 : Fin k0_t2_loop.trips) (arg15 : BitVec 32) (v1081 : BitVec 32) (v1082 : Vec F S8x128 .f32) (v1083 : Vec F S8x128 .f32) (v1244 : Vec F S8x128 .i32) (v1245 : Vec F S8x128 .i32) (v1246 : IVec S8x128 32)
    {K : (Σ' (v1287 : BitVec 32), Vec F S8x128 .f32) → Prog (TpuEff nD τ sig (Elt F) Λ₀ .tc) β}
    (hk : ∀ r, S c arg1 X arg6 arg7 arg8 arg9 arg10 arg11 arg12 R ⊢ wp frame (wpE defs₀ 𝒱 (c : Thread nD τ) bd) E (K r) Q) :
    S c arg1 X arg6 arg7 arg8 arg9 arg10 arg11 arg12 R ⊢ wp frame (wpE defs₀ 𝒱 (c : Thread nD τ) bd) E (k0_part51 (F := F) i arg1 harg1 arg2 harg2 arg3 harg3 arg4 harg4 arg5 harg5 arg6 harg6 arg7 harg7 arg8 harg8 arg9 harg9 arg10 harg10 arg11 harg11 arg12 harg12 arg13 harg13 arg14 v11 v12 k0_t2 arg15 v1081 v1082 v1083 v1244 v1245 v1246 >>= K) Q := by
  rw [k0_part51_eq_skeleton]
  unfold k0_part51_skel
  refine assoc (load_own Sts.t7 fun v1256 => ?_)
  refine assoc (store_own Sts.t7 ?_)
  refine assoc (load_own Sts.t6 fun v1264 => ?_)
  refine assoc (store_own Sts.t6 ?_)
  refine assoc (load_own Sts.t7 fun v1275 => ?_)
  refine assoc (store_own Sts.t7 ?_)
  refine assoc (load_own Sts.t6 fun v1283 => ?_)
  refine assoc (store_own Sts.t6 ?_)
  refine assoc (load_own Sts.t12 fun v1288 => ?_)
  exact ret (hk _)

theorem part52 (hX : ∀ x, (X x).toNat < 7936) (v3 : Vec F S8x128 .f32) (v4 : Vec F S8x128 .f32) (k0_t2 : Fin k0_t2_loop.trips) (v1287 : BitVec 32) (v1288 : Vec F S8x128 .f32)
    {K : (Σ' (v1289 : Vec F S8x128 .f32), FVec F S16x128 .bf16) → Prog (TpuEff nD τ sig (Elt F) Λ₀ .tc) β}
    (hk : ∀ r, S c arg1 X arg6 arg7 arg8 arg9 arg10 arg11 arg12 R ⊢ wp frame (wpE defs₀ 𝒱 (c : Thread nD τ) bd) E (K r) Q) :
    S c arg1 X arg6 arg7 arg8 arg9 arg10 arg11 arg12 R ⊢ wp frame (wpE defs₀ 𝒱 (c : Thread nD τ) bd) E (k0_part52 (F := F) i arg1 harg1 arg2 harg2 arg3 harg3 arg4 harg4 arg5 harg5 arg6 harg6 arg7 harg7 arg8 harg8 arg9 harg9 arg10 harg10 arg11 harg11 arg12 harg12 arg13 harg13 arg14 v3 v4 k0_t2 v1287 v1288 >>= K) Q := by
  rw [k0_part52_eq_skeleton]
  unfold k0_part52_skel
  refine assoc (load_own Sts.t12 fun v1289 => ?_)
  refine assoc (load_own Sts.t11 fun v1290 => ?_)
  refine assoc (load_own Sts.t11 fun v1291 => ?_)
  refine assoc (load_own Sts.t7 fun v1302 => ?_)
  refine assoc (store_own Sts.t7 ?_)
  refine assoc (load_own Sts.t6 fun v1310 => ?_)
  refine assoc (store_own Sts.t6 ?_)
  refine assoc (load_own Sts.t7 fun v1321 => ?_)
  refine assoc (store_own Sts.t7 ?_)
  refine assoc (load_own Sts.t6 fun v1329 => ?_)
  exact ret (hk _)

theorem part53 (hX : ∀ x, (X x).toNat < 7936) (v5 : Vec F S8x128 .f32) (v6 : Vec F S8x128 .f32) (k0_t2 : Fin k0_t2_loop.trips) (v1287 : BitVec 32) (v1288 : Vec F S8x128 .f32) (v1289 : Vec F S8x128 .f32) (v1327 : FVec F S16x128 .bf16)
    {K : (PUnit) → Prog (TpuEff nD τ sig (Elt F) Λ₀ .tc) β}
    (hk : ∀ r, S c arg1 X arg6 arg7 arg8 arg9 arg10 arg11 arg12 R ⊢ wp frame (wpE defs₀ 𝒱 (c : Thread nD τ) bd) E (K r) Q) :
    S c arg1 X arg6 arg7 arg8 arg9 arg10 arg11 arg12 R ⊢ wp frame (wpE defs₀ 𝒱 (c : Thread nD τ) bd) E (k0_part53 (F := F) i arg1 harg1 arg2 harg2 arg3 harg3 arg4 harg4 arg5 harg5 arg6 harg6 arg7 harg7 arg8 harg8 arg9 harg9 arg10 harg10 arg11 harg11 arg12 harg12 arg13 harg13 arg14 v5 v6 k0_t2 v1287 v1288 v1289 v1327 >>= K) Q := by
  rw [k0_part53_eq_skeleton]
  unfold k0_part53_skel
  refine assoc (store_own Sts.t6 ?_)
  refine assoc (load_own Sts.t11 fun v1330 => ?_)
  refine assoc (load_own Sts.t11 fun v1331 => ?_)
  refine assoc (load_own Sts.t7 fun v1342 => ?_)
  refine assoc (store_own Sts.t7 ?_)
  refine assoc (load_own Sts.t6 fun v1350 => ?_)
  refine assoc (store_own Sts.t6 ?_)
  refine assoc (load_own Sts.t7 fun v1361 => ?_)
  refine assoc (store_own Sts.t7 ?_)
  refine assoc (load_own Sts.t6 fun v1369 => ?_)
  refine assoc (store_own Sts.t6 ?_)
  exact ret (hk _)

theorem part54 (hX : ∀ x, (X x).toNat < 7936) (v7 : Vec F S8x128 .f32) (v8 : Vec F S8x128 .f32) (k0_t2 : Fin k0_t2_loop.trips) (v1287 : BitVec 32) (v1288 : Vec F S8x128 .f32) (v1289 : Vec F S8x128 .f32)
    {K : (Vec F S8x128 .i32) → Prog (TpuEff nD τ sig (Elt F) Λ₀ .tc) β}
    (hk : ∀ r, S c arg1 X arg6 arg7 arg8 arg9 arg10 arg11 arg12 R ⊢ wp frame (wpE defs₀ 𝒱 (c : Thread nD τ) bd) E (K r) Q) :
    S c arg1 X arg6 arg7 arg8 arg9 arg10 arg11 arg12 R ⊢ wp frame (wpE defs₀ 𝒱 (c : Thread nD τ) bd) E (k0_part54 (F := F) i arg1 harg1 arg2 harg2 arg3 harg3 arg4 harg4 arg5 harg5 arg6 harg6 arg7 harg7 arg8 harg8 arg9 harg9 arg10 harg10 arg11 harg11 arg12 harg12 arg13 harg13 arg14 v7 v8 k0_t2 v1287 v1288 v1289 >>= K) Q := by
  rw [k0_part54_eq_skeleton]
  unfold k0_part54_skel
  refine assoc (load_own Sts.t11 fun v1370 => ?_)
  refine assoc (load_own Sts.t11 fun v1371 => ?_)
  refine assoc (load_own Sts.t7 fun v1382 => ?_)
  refine assoc (store_own Sts.t7 ?_)
  refine assoc (load_own Sts.t6 fun v1390 => ?_)
  refine assoc (store_own Sts.t6 ?_)
  refine assoc (load_own Sts.t7 fun v1401 => ?_)
  refine assoc (store_own Sts.t7 ?_)
  refine assoc (load_own Sts.t6 fun v1409 => ?_)
  refine assoc (store_own Sts.t6 ?_)
  refine load_own Sts.t11 fun v1410 => ?_
  exact hk _

theorem part55 (hX : ∀ x, (X x).toNat < 7936) (v9 : Vec F S8x128 .f32) (v10 : Vec F S8x128 .f32) (k0_t2 : Fin k0_t2_loop.trips) (v1287 : BitVec 32) (v1288 : Vec F S8x128 .f32) (v1289 : Vec F S8x128 .f32) (v1410 : Vec F S8x128 .i32)
    {K : (Vec F S8x128 .i32) → Prog (TpuEff nD τ sig (Elt F) Λ₀ .tc) β}
    (hk : ∀ r, S c arg1 X arg6 arg7 arg8 arg9 arg10 arg11 arg12 R ⊢ wp frame (wpE defs₀ 𝒱 (c : Thread nD τ) bd) E (K r) Q) :
    S c arg1 X arg6 arg7 arg8 arg9 arg10 arg11 arg12 R ⊢ wp frame (wpE defs₀ 𝒱 (c : Thread nD τ) bd) E (k0_part55 (F := F) i arg1 harg1 arg2 harg2 arg3 harg3 arg4 harg4 arg5 harg5 arg6 harg6 arg7 harg7 arg8 harg8 arg9 harg9 arg10 harg10 arg11 harg11 arg12 harg12 arg13 harg13 arg14 v9 v10 k0_t2 v1287 v1288 v1289 v1410 >>= K) Q := by
  rw [k0_part55_eq_skeleton]
  unfold k0_part55_skel
  refine assoc (load_own Sts.t11 fun v1411 => ?_)
  refine assoc (load_own Sts.t7 fun v1422 => ?_)
  refine assoc (store_own Sts.t7 ?_)
  refine assoc (load_own Sts.t6 fun v1430 => ?_)
  refine assoc (store_own Sts.t6 ?_)
  refine assoc (load_own Sts.t7 fun v1441 => ?_)
  refine assoc (store_own Sts.t7 ?_)
  refine assoc (load_own Sts.t6 fun v1449 => ?_)
  refine assoc (store_own Sts.t6 ?_)
  refine assoc (load_own Sts.t11 fun v1450 => ?_)
  exact ret (hk _)

theorem part56 (hX : ∀ x, (X x).toNat < 7936) (v3 : Vec F S8x128 .f32) (v4 : Vec F S8x128 .f32) (v5 : Vec F S8x128 .f32) (v6 : Vec F S8x128 .f32) (v7 : Vec F S8x128 .f32) (v8 : Vec F S8x128 .f32) (v9 : Vec F S8x128 .f32) (v10 : Vec F S8x128 .f32) (v11 : Vec F S8x128 .f32) (v12 : Vec F S8x128 .f32) (c0_i32_11 : BitVec 32) (c1_i32 : BitVec 32) (k0_t2 : Fin k0_t2_loop.trips)
    {K : (Σ' (v1287 : BitVec 32) (v1288 : Vec F S8x128 .f32) (v1289 : Vec F S8x128 .f32) (v1450 : Vec F S8x128 .i32) (v1451 : Vec F S8x128 .i32) (v1458 : BitVec 32) (v1464 : FVec F S8x128 .f32), FVec F S8x128 .f32) → Prog (TpuEff nD τ sig (Elt F) Λ₀ .tc) β}
    (hk : ∀ r, S c arg1 X arg6 arg7 arg8 arg9 arg10 arg11 arg12 R ⊢ wp frame (wpE defs₀ 𝒱 (c : Thread nD τ) bd) E (K r) Q) :
    S c arg1 X arg6 arg7 arg8 arg9 arg10 arg11 arg12 R ⊢ wp frame (wpE defs₀ 𝒱 (c : Thread nD τ) bd) E (k0_part56 (F := F) i arg1 harg1 arg2 harg2 arg3 harg3 arg4 harg4 arg5 harg5 arg6 harg6 arg7 harg7 arg8 harg8 arg9 harg9 arg10 harg10 arg11 harg11 arg12 harg12 arg13 harg13 arg14 v3 v4 v5 v6 v7 v8 v9 v10 v11 v12 c0_i32_11 c1_i32 k0_t2 >>= K) Q := by
  rw [k0_part56_eq_skeleton]
  unfold k0_part56_skel
  refine assoc (part16 _ _ _ _ _ _ _ _ _ _ _ _ _ _ _ _ _ _ _ _ _ _ _ _ _ _ _ _ hX _ _ _ fun r => ?_)
  obtain ⟨arg15, v16, v43⟩ := r
  refine assoc (part17 _ _ _ _ _ _ _ _ _ _ _ _ _ _ _ _ _ _ _ _ _ _ _ _ _ _ _ _ hX _ _ _ fun r => ?_)
  refine assoc (part18 _ _ _ _ _ _ _ _ _ _ _ _ _ _ _ _ _ _ _ _ _ _ _ _ _ _ _ _ hX _ _ _ fun r => ?_)
  refine assoc (part19 _ _ _ _ _ _ _ _ _ _ _ _ _ _ _ _ _ _ _ _ _ _ _ _ _ _ _ _ hX _ _ _ fun r => ?_)
  refine assoc (part20 _ _ _ _ _ _ _ _ _ _ _ _ _ _ _ _ _ _ _ _ _ _ _ _ _ _ _ _ hX _ _ fun r => ?_)
  obtain ⟨v169, k0_hw16, c2_i32_109⟩ := r
  refine assoc (part21 _ _ _ _ _ _ _ _ _ _ _ _ _ _ _ _ _ _ _ _ _ _ _ _ _ _ _ _ hX _ _ _ _ _ fun r => ?_)
  refine assoc (part22 _ _ _ _ _ _ _ _ _ _ _ _ _ _ _ _ _ _ _ _ _ _ _ _ _ _ _ _ hX _ _ fun r => ?_)
  obtain ⟨v232, k0_hw22, c2_i32_150⟩ := r
  refine assoc (part23 _ _ _ _ _ _ _ _ _ _ _ _ _ _ _ _ _ _ _ _ _ _ _ _ _ _ _ _ hX _ _ _ _ _ fun r => ?_)
  obtain ⟨v262, k0_hw25⟩ := r
  refine assoc (part24 _ _ _ _ _ _ _ _ _ _ _ _ _ _ _ _ _ _ _ _ _ _ _ _ _ _ _ _ hX _ _ _ _ fun r => ?_)
  refine assoc (part25 _ _ _ _ _ _ _ _ _ _ _ _ _ _ _ _ _ _ _ _ _ _ _ _ _ _ _ _ hX _ _ _ fun r => ?_)
  refine assoc (part26 _ _ _ _ _ _ _ _ _ _ _ _ _ _ _ _ _ _ _ _ _ _ _ _ _ _ _ _ hX _ _ _ _ fun r => ?_)
  obtain ⟨v342, v359⟩ := r
  refine assoc (part27 _ _ _ _ _ _ _ _ _ _ _ _ _ _ _ _ _ _ _ _ _ _ _ _ _ _ _ _ hX _ _ _ fun r => ?_)
  refine assoc (part28 _ _ _ _ _ _ _ _ _ _ _ _ _ _ _ _ _ _ _ _ _ _ _ _ _ _ _ _ hX _ _ _ fun r => ?_)
  refine assoc (part29 _ _ _ _ _ _ _ _ _ _ _ _ _ _ _ _ _ _ _ _ _ _ _ _ _ _ _ _ hX _ _ _ fun r => ?_)
  refine assoc (part30 _ _ _ _ _ _ _ _ _ _ _ _ _ _ _ _ _ _ _ _ _ _ _ _ _ _ _ _ hX _ _ _ fun r => ?_)
  obtain ⟨v485, k0_hw47⟩ := r
  refine assoc (part31 _ _ _ _ _ _ _ _ _ _ _ _ _ _ _ _ _ _ _ _ _ _ _ _ _ _ _ _ hX _ _ _ _ _ fun r => ?_)
  obtain ⟨v505, v516⟩ := r
  refine assoc (part32 _ _ _ _ _ _ _ _ _ _ _ _ _ _ _ _ _ _ _ _ _ _ _ _ _ _ _ _ hX _ _ _ fun r => ?_)
  obtain ⟨v548, k0_hw53⟩ := r
  refine assoc (part33 _ _ _ _ _ _ _ _ _ _ _ _ _ _ _ _ _ _ _ _ _ _ _ _ _ _ _ _ hX _ _ _ _ fun r => ?_)
  obtain ⟨v578, k0_hw56, v580⟩ := r
  refine assoc (part34 _ _ _ _ _ _ _ _ _ _ _ _ _ _ _ _ _ _ _ _ _ _ _ _ _ _ _ _ hX _ _ _ _ _ fun r => ?_)
  refine assoc (part35 _ _ _ _ _ _ _ _ _ _ _ _ _ _ _ _ _ _ _ _ _ _ _ _ _ _ _ _ hX _ _ _ fun r => ?_)
  obtain ⟨v642, v643⟩ := r
  refine assoc (part36 _ _ _ _ _ _ _ _ _ _ _ _ _ _ _ _ _ _ _ _ _ _ _ _ _ _ _ _ hX _ _ _ _ _ fun r => ?_)
  obtain ⟨v669, v670, v671, v672, v673⟩ := r
  refine assoc (part37 _ _ _ _ _ _ _ _ _ _ _ _ _ _ _ _ _ _ _ _ _ _ _ _ _ _ _ _ hX _ _ _ _ _ _ _ _ fun r => ?_)
  obtain ⟨v712, v713, v714⟩ := r
  refine assoc (part38 _ _ _ _ _ _ _ _ _ _ _ _ _ _ _ _ _ _ _ _ _ _ _ _ _ _ _ _ hX _ _ _ _ _ _ _ _ _ fun r => ?_)
  obtain ⟨v752, v753, v756⟩ := r
  refine assoc (part39 _ _ _ _ _ _ _ _ _ _ _ _ _ _ _ _ _ _ _ _ _ _ _ _ _ _ _ _ hX _ _ _ _ _ _ _ _ _ fun r => ?_)
  obtain ⟨v792, v793, v796, v797⟩ := r
  refine assoc (part40 _ _ _ _ _ _ _ _ _ _ _ _ _ _ _ _ _ _ _ _ _ _ _ _ _ _ _ _ hX _ _ _ _ _ _ _ _ _ _ fun r => ?_)
  obtain ⟨v832, v833, v836, v839⟩ := r
  refine assoc (part41 _ _ _ _ _ _ _ _ _ _ _ _ _ _ _ _ _ _ _ _ _ _ _ _ _ _ _ _ hX _ _ _ _ _ _ _ _ _ _ _ fun r => ?_)
  obtain ⟨v875, v876, v877, v878⟩ := r
  refine assoc (part42 _ _ _ _ _ _ _ _ _ _ _ _ _ _ _ _ _ _ _ _ _ _ _ _ _ _ _ _ hX _ _ _ _ _ _ _ fun r => ?_)
  refine assoc (part43 _ _ _ _ _ _ _ _ _ _ _ _ _ _ _ _ _ _ _ _ _ _ _ _ _ _ _ _ hX _ _ _ _ _ _ _ fun r => ?_)
  obtain ⟨v958, v959, c16_i32_519⟩ := r
  refine assoc (part44 _ _ _ _ _ _ _ _ _ _ _ _ _ _ _ _ _ _ _ _ _ _ _ _ _ _ _ _ hX _ _ _ _ _ _ _ _ _ fun r => ?_)
  obtain ⟨v998, v999, v1001⟩ := r
  refine assoc (part45 _ _ _ _ _ _ _ _ _ _ _ _ _ _ _ _ _ _ _ _ _ _ _ _ _ _ _ _ hX _ _ _ _ _ _ _ _ _ fun r => ?_)
  obtain ⟨v1038, v1039, v1042, c16_i32_544⟩ := r
  refine assoc (part46 _ _ _ _ _ _ _ _ _ _ _ _ _ _ _ _ _ _ _ _ _ _ _ _ _ _ _ _ hX _ _ _ _ _ _ _ _ _ _ _ fun r => ?_)
  obtain ⟨v1081, v1082, v1083⟩ := r
  refine assoc (part47 _ _ _ _ _ _ _ _ _ _ _ _ _ _ _ _ _ _ _ _ _ _ _ _ _ _ _ _ hX _ _ _ _ _ _ fun r => ?_)
  refine assoc (part48 _ _ _ _ _ _ _ _ _ _ _ _ _ _ _ _ _ _ _ _ _ _ _ _ _ _ _ _ hX _ _ _ _ _ _ fun r => ?_)
  refine assoc (part49 _ _ _ _ _ _ _ _ _ _ _ _ _ _ _ _ _ _ _ _ _ _ _ _ _ _ _ _ hX _ _ _ _ _ _ _ fun r => ?_)
  obtain ⟨v1204, v1205⟩ := r
  refine assoc (part50 _ _ _ _ _ _ _ _ _ _ _ _ _ _ _ _ _ _ _ _ _ _ _ _ _ _ _ _ hX _ _ _ _ _ _ _ _ fun r => ?_)
  obtain ⟨v1244, v1245, v1246⟩ := r
  refine assoc (part51 _ _ _ _ _ _ _ _ _ _ _ _ _ _ _ _ _ _ _ _ _ _ _ _ _ _ _ _ hX _ _ _ _ _ _ _ _ _ _ fun r => ?_)
  obtain ⟨v1287, v1288⟩ := r
  refine assoc (part52 _ _ _ _ _ _ _ _ _ _ _ _ _ _ _ _ _ _ _ _ _ _ _ _ _ _ _ _ hX _ _ _ _ _ fun r => ?_)
  obtain ⟨v1289, v1327⟩ := r
  refine assoc (part53 _ _ _ _ _ _ _ _ _ _ _ _ _ _ _ _ _ _ _ _ _ _ _ _ _ _ _ _ hX _ _ _ _ _ _ _ fun r => ?_)
  refine assoc (part54 _ _ _ _ _ _ _ _ _ _ _ _ _ _ _ _ _ _ _ _ _ _ _ _ _ _ _ _ hX _ _ _ _ _ _ fun r => ?_)
  refine assoc (part55 _ _ _ _ _ _ _ _ _ _ _ _ _ _ _ _ _ _ _ _ _ _ _ _ _ _ _ _ hX _ _ _ _ _ _ _ fun r => ?_)
  refine assoc (load_own Sts.t11 fun v1451 => ?_)
  refine assoc (load_own Sts.t7 fun v1462 => ?_)
  refine assoc (store_own Sts.t7 ?_)
  exact ret (hk _)

end Cert.Proof.KernelSafe

end
-- ==== Proof.KernelBody.lean ====
/- The kernel's body at one grid point stays inside its buffers and puts every copy it starts back (Kernel): the loops, the
   eight copies started before the first, and the gain rows, in order. -/
module

public import proofs.«01_k».proof.Proof.KernelBuild
public import proofs.«01_k».proof.Proof.KernelSafe
public import proofs.«01_k».proof.Proof.Gen.Kernel.Loops
public import proofs.«01_k».proof.Proof.Gen.Kernel.Points

@[expose] public section

set_option maxRecDepth 16384

noncomputable section

namespace Cert.Proof.KernelBody

open Cert.Kernel Cert.Kernel.Gen Cert.Proof.Hoare
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [BitOps F]
local notation "𝕄" => MT nD τ sig Unit (Elt F) ℕ (Pipeline.UD sig nD τ) ℕ

/-! The addresses of the ring: trip `k` uses slot `k % 8`, waits for block `k` and starts block `k + 8`. -/
theorem trips1 : k0_t1_loop.trips = 62 := by decide +kernel
theorem lt62 (k : Fin k0_t1_loop.trips) : k.val < 62 := lt_of_lt_of_eq k.isLt trips1
theorem off1_eq : ∀ k : Fin k0_t1_loop.trips, k0_off1 k = ![(at8 k.val).val] := by decide +kernel
theorem off2_eq : ∀ k : Fin k0_t1_loop.trips, k0_off2 k = ![(at8 k.val).val, 0, 0] := by decide +kernel
theorem off9_eq : ∀ k : Fin k0_t1_loop.trips, k0_cond2 k = 1#1 → k0_off9 k = ![(at8 k.val).val] := by decide +kernel
theorem off10_eq : ∀ k : Fin k0_t1_loop.trips, k0_cond2 k = 1#1 → k0_off10 k = ![(at8 k.val).val, 0, 0] := by decide +kernel
theorem off11_eq : ∀ k : Fin k0_t1_loop.trips, k0_cond2 k = 1#1 → k0_off11 k = ![128 * (k.val + 8), 0] := by decide +kernel
theorem cond2_iff : ∀ k : Fin k0_t1_loop.trips, k0_cond2 k = 1#1 ↔ k.val + 8 < 62 := by decide +kernel

/-- The state of the body: every buffer held, the token ids at `X`, the ring in state `G`. -/
abbrev Z (c : Dev nD) (arg1 : Memref sig .tc .smem S1x1x256 .i32) (X : S1x1x256.Idx → Elt F .i32)
    {s3 s4 s5 s6 s7 s8 s9 s10 s11 s12 : Shape} {e3 e4 e5 e6 e7 e8 e9 e10 e11 e12 : EltTy} (arg3 : Memref sig .tc .vmem s3 e3) (arg4 : Memref sig .tc .vmem s4 e4) (arg5 : Memref sig .tc .vmem s5 e5)
    (arg6 : Memref sig .tc .vmem s6 e6) (arg7 : Memref sig .tc .vmem s7 e7) (arg8 : Memref sig .tc .vmem s8 e8)
    (arg9 : Memref sig .tc .vmem s9 e9) (arg10 : Memref sig .tc .vmem s10 e10) (arg11 : Memref sig .tc .vmem s11 e11)
    (arg12 : Memref sig .tc .vmem s12 e12) (G : sProp 𝕄) : sProp 𝕄 :=
  KernelSafe.S c arg1 X arg6 arg7 arg8 arg9 arg10 arg11 arg12 (Rst (Own (c : Thread nD τ) arg3) (Own (c : Thread nD τ) arg4) (Own (c : Thread nD τ) arg5) G (Owes (c : Thread nD τ)))

variable {𝒱 : Variants} {c : Dev nD} {bd : Option 𝒱.V} {X : S1x1x256.Idx → Elt F .i32}
variable {R : sProp (MT nD τ sig Unit (Elt F) ℕ (Pipeline.UD sig nD τ) ℕ)}
variable (i : grid0.Coords) (arg1 : Memref sig .tc .smem S1x1x256 .i32) (harg1 : arg1.IsWhole) (arg2 : Memref sig .tc .hbm S7936x2560 .i8) (harg2 : arg2.IsWhole) (arg3 : Memref sig .tc .vmem S62x128 .f32) (harg3 : arg3.IsWhole) (arg4 : Memref sig .tc .vmem S62x128 .f32) (harg4 : arg4.IsWhole) (arg5 : Memref sig .tc .vmem S1x2560 .bf16) (harg5 : arg5.IsWhole) (arg6 : Memref sig .tc .vmem S5120x128 .bf16) (harg6 : arg6.IsWhole) (arg7 : Memref sig .tc .vmem S5120x128 .bf16) (harg7 : arg7.IsWhole) (arg8 : Memref sig .tc .vmem S79360x128 .i32) (harg8 : arg8.IsWhole) (arg9 : Memref sig .tc .vmem S15872x128 .f32) (harg9 : arg9.IsWhole) (arg10 : Memref sig .tc .vmem S80x128 .f32) (harg10 : arg10.IsWhole) (arg11 : Memref sig .tc .vmem S320x128 .i32) (harg11 : arg11.IsWhole) (arg12 : Memref sig .tc .vmem S64x128 .f32) (harg12 : arg12.IsWhole) (arg13 : Memref sig .tc .vmem S8x128x2560 .i8) (harg13 : arg13.IsWhole) (arg14 : DmaSems sig S8) (CT : Buf (Elt F) (arg2.view.loc (c : Thread nD τ)))

set_option backward.isDefEq.respectTransparency.types false in
/-- One trip of the table-building loop takes the ring one block on. -/
theorem t1_trip (k0_h1 : k0_cond1 i = 1#1) (k : Fin k0_t1_loop.trips) :
    Z c arg1 X arg3 arg4 arg5 arg6 arg7 arg8 arg9 arg10 arg11 arg12 (RingAt c arg13 arg2 arg14 CT k.val)
      ⊢ wp frame (wpE defs₀ 𝒱 (c : Thread nD τ) bd) Set.univ (k0_t1_body (F := F) i arg1 harg1 arg2 harg2 arg3 harg3 arg4 harg4 arg5 harg5 arg6 harg6 arg7 harg7 arg8 harg8 arg9 harg9 arg10 harg10 arg11 harg11 arg12 harg12 arg13 harg13 arg14 k0_h1 k ⟨⟩)
        (fun _ => Z c arg1 X arg3 arg4 arg5 arg6 arg7 arg8 arg9 arg10 arg11 arg12 (RingAt c arg13 arg2 arg14 CT (k.val + 1))) := by
  have hw := ring_wait (Val := Elt F) (U := Pipeline.UD sig nD τ) c arg13 arg2 arg14 CT (lt62 k) (A1 := Holds (c : Thread nD τ) arg1 (fun _ => True) X) (A3 := Own (c : Thread nD τ) arg3) (A4 := Own (c : Thread nD τ) arg4)
    (A5 := Own (c : Thread nD τ) arg5) (A6 := Own (c : Thread nD τ) arg6) (A7 := Own (c : Thread nD τ) arg7) (A8 := Own (c : Thread nD τ) arg8) (A9 := Own (c : Thread nD τ) arg9)
    (A10 := Own (c : Thread nD τ) arg10) (A11 := Own (c : Thread nD τ) arg11) (A12 := Own (c : Thread nD τ) arg12)
  unfold InTrip at hw
  by_cases h : k.val + 8 < 62
  · have hn := ring_next (Val := Elt F) (U := Pipeline.UD sig nD τ) c arg13 arg2 arg14 CT h (T := (blkOf arg2 k.val (lt62 k)).view.read (Elt F) CT) (A1 := Holds (c : Thread nD τ) arg1 (fun _ => True) X) (A3 := Own (c : Thread nD τ) arg3) (A4 := Own (c : Thread nD τ) arg4)
      (A5 := Own (c : Thread nD τ) arg5) (A6 := Own (c : Thread nD τ) arg6) (A7 := Own (c : Thread nD τ) arg7) (A8 := Own (c : Thread nD τ) arg8) (A9 := Own (c : Thread nD τ) arg9)
      (A10 := Own (c : Thread nD τ) arg10) (A11 := Own (c : Thread nD τ) arg11) (A12 := Own (c : Thread nD τ) arg12)
    unfold InTrip at hn
    exact KernelBuild.trip i arg1 harg1 arg2 harg2 arg3 harg3 arg4 harg4 arg5 harg5 arg6 harg6 arg7 harg7 arg8 harg8 arg9 harg9 arg10 harg10 arg11 harg11 arg12 harg12 arg13 harg13 arg14 k0_h1 k (sem_congr arg14 (off1_eq k) _ _) (slot_congr arg13 (off2_eq k) _ _ _) hw
      (fun h2 => sem_congr arg14 (off9_eq k h2) _ _) (fun h2 => slot_congr arg13 (off10_eq k h2) _ _ _) (fun h2 => blk_congr arg2 h (off11_eq k h2) _ _) (fun _ => hn) (fun h2 => absurd ((cond2_iff k).mpr h) h2)
  · have hn := ring_last (Val := Elt F) (U := Pipeline.UD sig nD τ) c arg13 arg2 arg14 CT h (T := (blkOf arg2 k.val (lt62 k)).view.read (Elt F) CT) (A1 := Holds (c : Thread nD τ) arg1 (fun _ => True) X) (A3 := Own (c : Thread nD τ) arg3) (A4 := Own (c : Thread nD τ) arg4)
      (A5 := Own (c : Thread nD τ) arg5) (A6 := Own (c : Thread nD τ) arg6) (A7 := Own (c : Thread nD τ) arg7) (A8 := Own (c : Thread nD τ) arg8) (A9 := Own (c : Thread nD τ) arg9)
      (A10 := Own (c : Thread nD τ) arg10) (A11 := Own (c : Thread nD τ) arg11) (A12 := Own (c : Thread nD τ) arg12)
    unfold InTrip at hn
    exact KernelBuild.trip i arg1 harg1 arg2 harg2 arg3 harg3 arg4 harg4 arg5 harg5 arg6 harg6 arg7 harg7 arg8 harg8 arg9 harg9 arg10 harg10 arg11 harg11 arg12 harg12 arg13 harg13 arg14 k0_h1 k (sm' := semOf arg14 (at8 k.val)) (dst' := slotOf arg13 (at8 k.val)) (src' := blkOf arg2 k.val (lt62 k)) (X' := CT) (sem_congr arg14 (off1_eq k) _ _) (slot_congr arg13 (off2_eq k) _ _ _) hw
      (fun h2 => absurd ((cond2_iff k).mp h2) h) (fun h2 => absurd ((cond2_iff k).mp h2) h) (fun h2 => absurd ((cond2_iff k).mp h2) h) (fun h2 => absurd ((cond2_iff k).mp h2) h) (fun _ => hn)

/-- One trip of the emission loop. -/
theorem t2_trip (hX : ∀ x, (X x).toNat < 7936) (v3 v4 v5 v6 v7 v8 v9 v10 v11 v12 : Vec F S8x128 .f32) (k : Fin k0_t2_loop.trips) :
    KernelSafe.S c arg1 X arg6 arg7 arg8 arg9 arg10 arg11 arg12 R
      ⊢ wp frame (wpE defs₀ 𝒱 (c : Thread nD τ) bd) Set.univ (k0_t2_body (F := F) i arg1 harg1 arg2 harg2 arg3 harg3 arg4 harg4 arg5 harg5 arg6 harg6 arg7 harg7 arg8 harg8 arg9 harg9 arg10 harg10 arg11 harg11 arg12 harg12 arg13 harg13 arg14 v3 v4 v5 v6 v7 v8 v9 v10 v11 v12 k ⟨⟩)
        (fun _ => KernelSafe.S c arg1 X arg6 arg7 arg8 arg9 arg10 arg11 arg12 R) := by
  unfold k0_t2_body
  dsimp only
  refine KernelSafe.part56 _ _ _ _ _ _ _ _ _ _ _ _ _ _ _ _ _ _ _ _ _ _ _ _ _ _ _ _ hX _ _ _ _ _ _ _ _ _ _ _ _ _ fun r => ?_
  obtain ⟨v1287, v1288, v1289, v1450, v1451, v1458, v1464, v1465⟩ := r
  refine load_own Sts.t6 fun v1470 => ?_
  refine store_own Sts.t6 ?_
  refine load_own Sts.t7 fun v1481 => ?_
  refine store_own Sts.t7 ?_
  refine load_own Sts.t6 fun v1489 => ?_
  refine store_own Sts.t6 ?_
  exact done .rfl

set_option backward.isDefEq.respectTransparency.types false in
theorem part12  {β : Type} {Q : β → sProp 𝕄} {K : (PUnit) → Prog (TpuEff nD τ sig (Elt F) Λ₀ .tc) β}
    (hk : ∀ r, Z c arg1 X arg3 arg4 arg5 arg6 arg7 arg8 arg9 arg10 arg11 arg12 (Filling c arg13 arg2 arg14 CT 4) ⊢ wp frame (wpE defs₀ 𝒱 (c : Thread nD τ) bd) Set.univ (K r) Q) :
    Z c arg1 X arg3 arg4 arg5 arg6 arg7 arg8 arg9 arg10 arg11 arg12 (Filling c arg13 arg2 arg14 CT 0) ⊢ wp frame (wpE defs₀ 𝒱 (c : Thread nD τ) bd) Set.univ (k0_part12 (F := F) i arg1 harg1 arg2 harg2 arg3 harg3 arg4 harg4 arg5 harg5 arg6 harg6 arg7 harg7 arg8 harg8 arg9 harg9 arg10 harg10 arg11 harg11 arg12 harg12 arg13 harg13 arg14  >>= K) Q := by
  rw [k0_part12_eq_skeleton]
  unfold k0_part12_skel
  refine assoc (enqueue () (View.amount_pos _ _ (by decide +kernel)) (fill c arg13 arg2 arg14 CT (0 : Fin 8) rfl (by decide)) ?_)
  refine assoc (enqueue () (View.amount_pos _ _ (by decide +kernel)) (fill c arg13 arg2 arg14 CT (1 : Fin 8) rfl (by decide)) ?_)
  refine assoc (enqueue () (View.amount_pos _ _ (by decide +kernel)) (fill c arg13 arg2 arg14 CT (2 : Fin 8) rfl (by decide)) ?_)
  refine assoc (enqueue () (View.amount_pos _ _ (by decide +kernel)) (fill c arg13 arg2 arg14 CT (3 : Fin 8) rfl (by decide)) ?_)
  exact ret (hk _)

set_option backward.isDefEq.respectTransparency.types false in
theorem part13 (k0_h1 : k0_cond1 i = 1#1) {β : Type} {Q : β → sProp 𝕄} {K : (Σ' (v65 : FVec F S1x2560 .f32), FVec F S4x128 .f32) → Prog (TpuEff nD τ sig (Elt F) Λ₀ .tc) β}
    (hk : ∀ r, Z c arg1 X arg3 arg4 arg5 arg6 arg7 arg8 arg9 arg10 arg11 arg12 (RingAt c arg13 arg2 arg14 CT k0_t1_loop.trips) ⊢ wp frame (wpE defs₀ 𝒱 (c : Thread nD τ) bd) Set.univ (K r) Q) :
    Z c arg1 X arg3 arg4 arg5 arg6 arg7 arg8 arg9 arg10 arg11 arg12 (Filling c arg13 arg2 arg14 CT 4) ⊢ wp frame (wpE defs₀ 𝒱 (c : Thread nD τ) bd) Set.univ (k0_part13 (F := F) i arg1 harg1 arg2 harg2 arg3 harg3 arg4 harg4 arg5 harg5 arg6 harg6 arg7 harg7 arg8 harg8 arg9 harg9 arg10 harg10 arg11 harg11 arg12 harg12 arg13 harg13 arg14 k0_h1 >>= K) Q := by
  rw [k0_part13_eq_skeleton]
  unfold k0_part13_skel
  refine assoc (enqueue () (View.amount_pos _ _ (by decide +kernel)) (fill c arg13 arg2 arg14 CT (4 : Fin 8) rfl (by decide)) ?_)
  refine assoc (enqueue () (View.amount_pos _ _ (by decide +kernel)) (fill c arg13 arg2 arg14 CT (5 : Fin 8) rfl (by decide)) ?_)
  refine assoc (enqueue () (View.amount_pos _ _ (by decide +kernel)) (fill c arg13 arg2 arg14 CT (6 : Fin 8) rfl (by decide)) ?_)
  refine assoc (enqueue () (View.amount_pos _ _ (by decide +kernel)) (fill c arg13 arg2 arg14 CT (7 : Fin 8) rfl (by decide)) ?_)
  refine assoc ?_
  refine (show Z c arg1 X arg3 arg4 arg5 arg6 arg7 arg8 arg9 arg10 arg11 arg12 (Filling c arg13 arg2 arg14 CT 8) ⊢ Z c arg1 X arg3 arg4 arg5 arg6 arg7 arg8 arg9 arg10 arg11 arg12 (RingAt c arg13 arg2 arg14 CT 0) by rw [filling_all]).trans ?_
  refine for_bind (c := (c : Thread nD τ)) (defs := defs₀) k0_t1_loop (k0_t1_ok i k0_h1) (k0_t1_body (F := F) i arg1 harg1 arg2 harg2 arg3 harg3 arg4 harg4 arg5 harg5 arg6 harg6 arg7 harg7 arg8 harg8 arg9 harg9 arg10 harg10 arg11 harg11 arg12 harg12 arg13 harg13 arg14 k0_h1)
    (fun k _ => Z c arg1 X arg3 arg4 arg5 arg6 arg7 arg8 arg9 arg10 arg11 arg12 (RingAt c arg13 arg2 arg14 CT k)) ?_ ?_
  · exact fun k _ => t1_trip i arg1 harg1 arg2 harg2 arg3 harg3 arg4 harg4 arg5 harg5 arg6 harg6 arg7 harg7 arg8 harg8 arg9 harg9 arg10 harg10 arg11 harg11 arg12 harg12 arg13 harg13 arg14 CT k0_h1 k
  intro _
  refine assoc (load_own Rst.t5 fun v63 => ?_)
  exact ret (hk _)

theorem part14 (v65 : FVec F S1x2560 .f32) (v68 : FVec F S4x128 .f32) {β : Type} {Q : β → sProp 𝕄} {K : (FVec F S1x128 .f32) → Prog (TpuEff nD τ sig (Elt F) Λ₀ .tc) β}
    (hk : ∀ r, KernelSafe.S c arg1 X arg6 arg7 arg8 arg9 arg10 arg11 arg12 R ⊢ wp frame (wpE defs₀ 𝒱 (c : Thread nD τ) bd) Set.univ (K r) Q) :
    KernelSafe.S c arg1 X arg6 arg7 arg8 arg9 arg10 arg11 arg12 R ⊢ wp frame (wpE defs₀ 𝒱 (c : Thread nD τ) bd) Set.univ (k0_part14 (F := F) i arg1 harg1 arg2 harg2 arg3 harg3 arg4 harg4 arg5 harg5 arg6 harg6 arg7 harg7 arg8 harg8 arg9 harg9 arg10 harg10 arg11 harg11 arg12 harg12 arg13 harg13 arg14 v65 v68 >>= K) Q := by
  rw [k0_part14_eq_skeleton]
  unfold k0_part14_skel
  refine assoc (load_own Sts.t10 fun v69 => ?_)
  refine assoc (store_own Sts.t10 ?_)
  refine assoc (load_own Sts.t10 fun v75 => ?_)
  refine assoc (store_own Sts.t10 ?_)
  refine assoc (load_own Sts.t10 fun v81 => ?_)
  refine assoc (store_own Sts.t10 ?_)
  refine assoc (load_own Sts.t10 fun v87 => ?_)
  refine assoc (store_own Sts.t10 ?_)
  refine assoc (load_own Sts.t10 fun v93 => ?_)
  refine assoc (store_own Sts.t10 ?_)
  refine assoc (load_own Sts.t10 fun v99 => ?_)
  refine assoc (store_own Sts.t10 ?_)
  refine assoc (load_own Sts.t10 fun v105 => ?_)
  refine assoc (store_own Sts.t10 ?_)
  exact ret (hk _)

theorem part15 (v65 : FVec F S1x2560 .f32) (v109 : FVec F S1x128 .f32) {β : Type} {Q : β → sProp 𝕄} {K : (FVec F S4x128 .f32) → Prog (TpuEff nD τ sig (Elt F) Λ₀ .tc) β}
    (hk : ∀ r, KernelSafe.S c arg1 X arg6 arg7 arg8 arg9 arg10 arg11 arg12 R ⊢ wp frame (wpE defs₀ 𝒱 (c : Thread nD τ) bd) Set.univ (K r) Q) :
    KernelSafe.S c arg1 X arg6 arg7 arg8 arg9 arg10 arg11 arg12 R ⊢ wp frame (wpE defs₀ 𝒱 (c : Thread nD τ) bd) Set.univ (k0_part15 (F := F) i arg1 harg1 arg2 harg2 arg3 harg3 arg4 harg4 arg5 harg5 arg6 harg6 arg7 harg7 arg8 harg8 arg9 harg9 arg10 harg10 arg11 harg11 arg12 harg12 arg13 harg13 arg14 v65 v109 >>= K) Q := by
  rw [k0_part15_eq_skeleton]
  unfold k0_part15_skel
  refine assoc (load_own Sts.t10 fun v111 => ?_)
  refine assoc (store_own Sts.t10 ?_)
  refine assoc (load_own Sts.t10 fun v117 => ?_)
  refine assoc (store_own Sts.t10 ?_)
  refine assoc (load_own Sts.t10 fun v123 => ?_)
  refine assoc (store_own Sts.t10 ?_)
  refine assoc (load_own Sts.t10 fun v129 => ?_)
  refine assoc (store_own Sts.t10 ?_)
  refine assoc (load_own Sts.t10 fun v135 => ?_)
  refine assoc (store_own Sts.t10 ?_)
  refine assoc (load_own Sts.t10 fun v141 => ?_)
  refine assoc (store_own Sts.t10 ?_)
  refine assoc (load_own Sts.t10 fun v147 => ?_)
  exact ret (hk _)

/-- From the loads of the gain rows on. -/
theorem emit (hX : ∀ x, (X x).toNat < 7936) :
    KernelSafe.S c arg1 X arg6 arg7 arg8 arg9 arg10 arg11 arg12 R ⊢ wp frame (wpE defs₀ 𝒱 (c : Thread nD τ) bd) Set.univ ((do
    let v3 : Vec F S8x128 .f32 ← Prog.lift (.load arg10 (Rect.unit (s := S80x128) ![0, 0] S8x128.size inb_S80x128_S8x128_0_0).toLoadRect (View.loadsAt_vmem h_S8x128))
    let v4 : Vec F S8x128 .f32 ← Prog.lift (.load arg10 (Rect.unit (s := S80x128) ![8, 0] S8x128.size inb_S80x128_S8x128_8_0).toLoadRect (View.loadsAt_vmem h_S8x128))
    let v5 : Vec F S8x128 .f32 ← Prog.lift (.load arg10 (Rect.unit (s := S80x128) ![16, 0] S8x128.size inb_S80x128_S8x128_16_0).toLoadRect (View.loadsAt_vmem h_S8x128))
    let v6 : Vec F S8x128 .f32 ← Prog.lift (.load arg10 (Rect.unit (s := S80x128) ![24, 0] S8x128.size inb_S80x128_S8x128_24_0).toLoadRect (View.loadsAt_vmem h_S8x128))
    let v7 : Vec F S8x128 .f32 ← Prog.lift (.load arg10 (Rect.unit (s := S80x128) ![32, 0] S8x128.size inb_S80x128_S8x128_32_0).toLoadRect (View.loadsAt_vmem h_S8x128))
    let v8 : Vec F S8x128 .f32 ← Prog.lift (.load arg10 (Rect.unit (s := S80x128) ![40, 0] S8x128.size inb_S80x128_S8x128_40_0).toLoadRect (View.loadsAt_vmem h_S8x128))
    let v9 : Vec F S8x128 .f32 ← Prog.lift (.load arg10 (Rect.unit (s := S80x128) ![48, 0] S8x128.size inb_S80x128_S8x128_48_0).toLoadRect (View.loadsAt_vmem h_S8x128))
    let v10 : Vec F S8x128 .f32 ← Prog.lift (.load arg10 (Rect.unit (s := S80x128) ![56, 0] S8x128.size inb_S80x128_S8x128_56_0).toLoadRect (View.loadsAt_vmem h_S8x128))
    let v11 : Vec F S8x128 .f32 ← Prog.lift (.load arg10 (Rect.unit (s := S80x128) ![64, 0] S8x128.size inb_S80x128_S8x128_64_0).toLoadRect (View.loadsAt_vmem h_S8x128))
    let v12 : Vec F S8x128 .f32 ← Prog.lift (.load arg10 (Rect.unit (s := S80x128) ![72, 0] S8x128.size inb_S80x128_S8x128_72_0).toLoadRect (View.loadsAt_vmem h_S8x128))
    Scf.Loop.for k0_t2_loop k0_t2_ok ⟨⟩ (k0_t2_body i arg1 harg1 arg2 harg2 arg3 harg3 arg4 harg4 arg5 harg5 arg6 harg6 arg7 harg7 arg8 harg8 arg9 harg9 arg10 harg10 arg11 harg11 arg12 harg12 arg13 harg13 arg14 v3 v4 v5 v6 v7 v8 v9 v10 v11 v12)
    pure ⟨⟩) : Prog (TpuEff nD τ sig (Elt F) Λ₀ .tc) PUnit) (fun _ => KernelSafe.S c arg1 X arg6 arg7 arg8 arg9 arg10 arg11 arg12 R) := by
  refine load_own Sts.t10 fun v3 => ?_
  refine load_own Sts.t10 fun v4 => ?_
  refine load_own Sts.t10 fun v5 => ?_
  refine load_own Sts.t10 fun v6 => ?_
  refine load_own Sts.t10 fun v7 => ?_
  refine load_own Sts.t10 fun v8 => ?_
  refine load_own Sts.t10 fun v9 => ?_
  refine load_own Sts.t10 fun v10 => ?_
  refine load_own Sts.t10 fun v11 => ?_
  refine load_own Sts.t10 fun v12 => ?_
  refine for_bind (c := (c : Thread nD τ)) (defs := defs₀) k0_t2_loop k0_t2_ok (k0_t2_body (F := F) i arg1 harg1 arg2 harg2 arg3 harg3 arg4 harg4 arg5 harg5 arg6 harg6 arg7 harg7 arg8 harg8 arg9 harg9 arg10 harg10 arg11 harg11 arg12 harg12 arg13 harg13 arg14 v3 v4 v5 v6 v7 v8 v9 v10 v11 v12)
    (fun _ _ => KernelSafe.S c arg1 X arg6 arg7 arg8 arg9 arg10 arg11 arg12 R) ?_ ?_
  · exact fun k _ => t2_trip i arg1 harg1 arg2 harg2 arg3 harg3 arg4 harg4 arg5 harg5 arg6 harg6 arg7 harg7 arg8 harg8 arg9 harg9 arg10 harg10 arg11 harg11 arg12 harg12 arg13 harg13 arg14 hX v3 v4 v5 v6 v7 v8 v9 v10 v11 v12 k
  intro _
  exact done .rfl

/-- The body at a grid point: the ring is at rest before and after. -/
theorem body (hX : ∀ x, (X x).toNat < 7936) :
    Z c arg1 X arg3 arg4 arg5 arg6 arg7 arg8 arg9 arg10 arg11 arg12 (bigSep Finset.univ (Idle c arg13 arg2 arg14 CT))
      ⊢ wp frame (wpE defs₀ 𝒱 (c : Thread nD τ) bd) Set.univ (cc0_embed_rmsnorm (F := F) i arg1 harg1 arg2 harg2 arg3 harg3 arg4 harg4 arg5 harg5 arg6 harg6 arg7 harg7 arg8 harg8 arg9 harg9 arg10 harg10 arg11 harg11 arg12 harg12 arg13 harg13 arg14)
        (fun _ => Z c arg1 X arg3 arg4 arg5 arg6 arg7 arg8 arg9 arg10 arg11 arg12 (bigSep Finset.univ (Idle c arg13 arg2 arg14 CT))) := by
  rw [cc0_embed_rmsnorm_eq_skeleton]
  unfold cc0_embed_rmsnorm_skel
  have he := emit (c := c) (𝒱 := 𝒱) (bd := bd) (R := Rst (Own (c : Thread nD τ) arg3) (Own (c : Thread nD τ) arg4) (Own (c : Thread nD τ) arg5) (bigSep Finset.univ (Idle c arg13 arg2 arg14 CT)) (Owes (c : Thread nD τ))) i arg1 harg1 arg2 harg2 arg3 harg3 arg4 harg4 arg5 harg5 arg6 harg6 arg7 harg7 arg8 harg8 arg9 harg9 arg10 harg10 arg11 harg11 arg12 harg12 arg13 harg13 arg14 hX
  by_cases k0_h1 : k0_cond1 i = 1#1
  · rw [dif_pos k0_h1]
    rw [← filling_zero]
    rw [← filling_zero] at he
    have hend : Z c arg1 X arg3 arg4 arg5 arg6 arg7 arg8 arg9 arg10 arg11 arg12 (RingAt c arg13 arg2 arg14 CT k0_t1_loop.trips) ⊢ Z c arg1 X arg3 arg4 arg5 arg6 arg7 arg8 arg9 arg10 arg11 arg12 (Filling c arg13 arg2 arg14 CT 0) := by
      rw [trips1, ring_end, filling_zero]
    refine assoc (part12 i arg1 harg1 arg2 harg2 arg3 harg3 arg4 harg4 arg5 harg5 arg6 harg6 arg7 harg7 arg8 harg8 arg9 harg9 arg10 harg10 arg11 harg11 arg12 harg12 arg13 harg13 arg14 CT  fun r => ?_)
    refine assoc (part13 i arg1 harg1 arg2 harg2 arg3 harg3 arg4 harg4 arg5 harg5 arg6 harg6 arg7 harg7 arg8 harg8 arg9 harg9 arg10 harg10 arg11 harg11 arg12 harg12 arg13 harg13 arg14 CT _ fun r => ?_)
    obtain ⟨v65, v68⟩ := r
    refine hend.trans ?_
    refine assoc (part14 i arg1 harg1 arg2 harg2 arg3 harg3 arg4 harg4 arg5 harg5 arg6 harg6 arg7 harg7 arg8 harg8 arg9 harg9 arg10 harg10 arg11 harg11 arg12 harg12 arg13 harg13 arg14 _ _ fun r => ?_)
    refine assoc (part15 i arg1 harg1 arg2 harg2 arg3 harg3 arg4 harg4 arg5 harg5 arg6 harg6 arg7 harg7 arg8 harg8 arg9 harg9 arg10 harg10 arg11 harg11 arg12 harg12 arg13 harg13 arg14 _ _ fun r => ?_)
    refine assoc (store_own Sts.t10 ?_)
    refine assoc (load_own Sts.t10 fun v153 => ?_)
    refine assoc (store_own Sts.t10 ?_)
    refine assoc (load_own Sts.t10 fun v159 => ?_)
    refine assoc (store_own Sts.t10 ?_)
    refine assoc (load_own Sts.t10 fun v165 => ?_)
    refine assoc (store_own Sts.t10 ?_)
    refine assoc (load_own Sts.t10 fun v171 => ?_)
    refine assoc (store_own Sts.t10 ?_)
    refine assoc (load_own Sts.t10 fun v177 => ?_)
    refine assoc (store_own Sts.t10 ?_)
    refine assoc (load_own Sts.t10 fun v183 => ?_)
    refine assoc (store_own Sts.t10 ?_)
    show _ ⊢ wp _ _ _ _ _
    exact he
  · rw [dif_neg k0_h1]
    show _ ⊢ wp _ _ _ _ _
    exact he

end Cert.Proof.KernelBody

end
-- ==== Proof.Ids.lean ====
/- The precondition: every token id names a row of the table. -/
module

public import proofs.«01_k».proof.Defs
public import Idealize.ShloMosaic.Lib.Pipeline.Launch

@[expose] public section

namespace Cert.Proof.Ids

open Idealize.ShloMosaic

/-- Where the precondition's function answers true, the id is a row number below 7936. -/
theorem lt_of_pre [Cert.Pre_ids_name_rows.Facts] {F : FTy → Type} [FloatOps F] {a0 : IVec Cert.Pre_ids_name_rows.S8x4096 32}
    {a1 : IVec Cert.Pre_ids_name_rows.S7936x2560 8} {a2 : FVec F Cert.Pre_ids_name_rows.S7936 .f32} {a3 : FVec F Cert.Pre_ids_name_rows.S7936 .bf16}
    {a4 : FVec F Cert.Pre_ids_name_rows.S2560 .bf16} (h : Cert.Pre_ids_name_rows.fn a0 a1 a2 a3 a4 = fun _ => 1#1) (j : Cert.Pre_ids_name_rows.S8x4096.Idx) :
    (a0 j).toNat < 7936 := by
  have e := congrFun h j
  simp only [Cert.Pre_ids_name_rows.fn, andi, cmpi, broadcastInDim, constantI] at e
  have ha : ∀ p q : Bool, IntOp.andi (BitVec.ofBool p) (BitVec.ofBool q) = BitVec.ofBool (p && q) := by decide
  have ho : ∀ p : Bool, (BitVec.ofBool p = 1#1) ↔ p = true := by decide
  simp only [IntOp.cmpi, ha, ho, Bool.and_eq_true, BitVec.sle_eq_decide, BitVec.slt_eq_decide, decide_eq_true_eq] at e
  have e0 : (0#32).toInt = 0 := by decide
  have e3 : (7936#32).toInt = 7936 := by decide
  rw [e0, e3] at e
  have hb := BitVec.toInt_eq_toNat_cond (a0 j)
  have hl := (a0 j).isLt
  split at hb <;> omega

end Cert.Proof.Ids
-- ==== Proof.KernelFrame.lean ====
/- The frame of Kernel: every run ends without a fault, with the argument arrays as launched and every semaphore at zero,
   when every token id names a row of the table. What the kernel writes is not stated here. -/
module

public import proofs.«01_k».proof.Proof.KernelBody
public import proofs.«01_k».proof.Proof.Gen.Kernel.Frame
public import proofs.«01_k».proof.Proof.Ids
public import Idealize.ShloMosaic.Lib.Pipeline.FrameSuffixR
public import Idealize.ShloMosaic.Lib.Claim

@[expose] public section

set_option maxRecDepth 16384

noncomputable section

namespace Cert.Proof.KernelFrame

open Cert.Kernel Cert.Kernel.Gen Cert.Proof.Hoare
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

variable {F : FTy → Type} [BitOps F]
local notation "𝕄" => MT nD τ sig Unit (Elt F) ℕ (Pipeline.UD sig nD τ) ℕ

variable (m : (ℓ : Loc nD τ sig) → Buf (Elt F) ℓ) (ρ : Dev nD → PrngReg)

/-- The kernel's own copy cells. -/
abbrev osem : Fin 8 → SemLoc sig := fun p => .dma (semOf cc0_scratch6 p)
theorem osem_eq : osem = ![.dma 9, .dma 10, .dma 11, .dma 12, .dma 13, .dma 14, .dma 15, .dma 16] := by
  funext p; fin_cases p <;> rfl
theorem ownSemFacts : Pipeline.OwnSemFacts spec0 osem := by rw [osem_eq]; decide

/-- The one array the kernel's own copies read: the table of codes. -/
def H0 : Finset (Ref sig .tc) := {main_arg1}
theorem H0_sub : H0 ⊆ Pipeline.restRefs sig spec0 := by decide

/-- The whole table of codes. -/
abbrev codes : Memref sig .tc .hbm S7936x2560 .i8 := Memref.whole main_arg1

/-- The windows of which the frame says nothing: all but the token ids. -/
def fgt : Fin cfg0.W → Bool := fun w => decide (w.val ≠ 0)

/-- The proof data: the arrays as the region finds them, the ids' window unchanged by the body, and between grid points the
    scratch buffers, the copy cells at zero and the table of codes. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
  Φ _ := Pipeline.ΦDR osem spec0 H0 ∅ (V m) c
  q _ := fullShare
  owed _ := 0

theorem before_w0 (c : Dev nD) (t : Fin cfg0.N) (d) : (dats m 0 c).before 0 t d = iblk m c 0 t :=
  ((dats m 0 c).before_in_eq_fetched 0 rfl (fun _ => rfl) (fun _ _ _ => rfl) (fun t => rfl) t d).trans rfl

/-- The region's own part, conjunct by conjunct. -/
theorem own_eq (c : Dev nD) :
    (Pipeline.ΦDR osem spec0 H0 ∅ (V m) c : sProp 𝕄)
      = iprop((Own (c : Thread nD τ) (Memref.whole cc0_scratch0) ∗ Own (c : Thread nD τ) (Memref.whole cc0_scratch1) ∗ Own (c : Thread nD τ) (Memref.whole cc0_scratch2)
          ∗ Own (c : Thread nD τ) (Memref.whole cc0_scratch3) ∗ Own (c : Thread nD τ) (Memref.whole cc0_scratch4) ∗ Own (c : Thread nD τ) (Memref.whole cc0_scratch5))
        ∗ (∃ r, prngReg c r) ∗ bigSep Finset.univ (fun p : Fin 8 => (semVal ((c : Thread nD τ), .dma (semOf cc0_scratch6 p)) 0 : sProp 𝕄))
        ∗ Part (c : Thread nD τ) codes fullShare (V m c main_arg1) ∗ Pipeline.owned ∅ c) := by
  rw [Pipeline.ΦDR_eq, scopedRest0_eq, show (bigSep H0 fun b => ((c : Thread nD τ).loc b ↦{fullShare} V m c b) : sProp 𝕄) = Part (c : Thread nD τ) codes fullShare (V m c main_arg1) from by
    rw [BI.bigSep_eq_bigSepL_of_eq [main_arg1] (by decide) (by decide)]; rfl]
  rfl

/-- A staging buffer owned whole at given contents. -/
theorem owns_holds {sp : Space} {s : Shape} {e : EltTy} (c : Dev nD) (M : Memref sig .tc sp s e) (h : M.IsWhole) (X : s.Idx → Elt F e) :
    (owns (c : Thread nD τ) M fullShare X : sProp 𝕄) ⊢ Holds (c : Thread nD τ) M (fun _ => True) X := by
  unfold owns Holds
  rw [h.set_eq_univ]
  iintro ⟨%f, %hf, H⟩
  iexists f
  isplitl [H]
  · iexact H
  · ipureintro; intro y _; exact congrFun hf y
theorem holds_owns {sp : Space} {s : Shape} {e : EltTy} (c : Dev nD) (M : Memref sig .tc sp s e) (h : M.IsWhole) (X : s.Idx → Elt F e) :
    Holds (c : Thread nD τ) M (fun _ => True) X ⊢ (owns (c : Thread nD τ) M fullShare X : sProp 𝕄) := by
  unfold owns Holds
  rw [h.set_eq_univ]
  iintro ⟨%f, H, %hf⟩
  iexists f
  isplitr
  · ipureintro; funext y; exact hf y trivial
  · iexact H
theorem owns_own {sp : Space} {s : Shape} {e : EltTy} (c : Dev nD) (M : Memref sig .tc sp s e) (h : M.IsWhole) :
    (iprop(∃ X, owns (c : Thread nD τ) M fullShare X) : sProp 𝕄) ⊢ Own (c : Thread nD τ) M := by
  unfold owns Own
  rw [h.set_eq_univ]
  iintro ⟨%X, %f, %hf, H⟩
  iexists f
  iexact H
theorem own_owns {sp : Space} {s : Shape} {e : EltTy} (c : Dev nD) (M : Memref sig .tc sp s e) (h : M.IsWhole) :
    Own (c : Thread nD τ) M ⊢ (iprop(∃ X, owns (c : Thread nD τ) M fullShare X) : sProp 𝕄) := by
  unfold owns Own
  rw [h.set_eq_univ]
  iintro ⟨%f, H⟩
  iexists _, f
  isplitr
  · ipureintro; rfl
  · iexact H

theorem hst0 (t : Fin cfg0.N) : (st0_0 t).IsWhole := hstage0_0 ((cfg0.slots t 0).cast nbuf0_0)
theorem hst1 (t : Fin cfg0.N) : (st0_1 t).IsWhole := hstage0_1 ((cfg0.slots t 1).cast nbuf0_1)
theorem hst2 (t : Fin cfg0.N) : (st0_2 t).IsWhole := hstage0_2 ((cfg0.slots t 2).cast nbuf0_2)
theorem hst3 (t : Fin cfg0.N) : (st0_3 t).IsWhole := hstage0_3 ((cfg0.slots t 3).cast nbuf0_3)
theorem hst4 (t : Fin cfg0.N) : (st0_4 t).IsWhole := hstage0_4 ((cfg0.slots t 4).cast nbuf0_4)
theorem hst5 (t : Fin cfg0.N) : (st0_5 t).IsWhole := hstage0_5 ((cfg0.slots t 5).cast nbuf0_5)

/-- The body at a grid point, from what the pipeline hands it. -/
theorem sound_body (c : Dev nD) (t : Fin cfg0.N) (hX : ∀ x, (iblk m c 0 t x).toNat < 7936) :
    iprop((Pipeline.ΦDR osem spec0 H0 ∅ (V m) c : sProp 𝕄) ∗ (∃ W : Waits sig Unit, owes (c : Thread nD τ) 0 W)
        ∗ (owns (c : Thread nD τ) (st0_0 t) fullShare (iblk m c 0 t)) ∗ (∃ X, owns (c : Thread nD τ) (st0_1 t) fullShare X) ∗ (∃ X, owns (c : Thread nD τ) (st0_2 t) fullShare X)
        ∗ (∃ X, owns (c : Thread nD τ) (st0_3 t) fullShare X) ∗ (∃ X, owns (c : Thread nD τ) (st0_4 t) fullShare X) ∗ (∃ X, owns (c : Thread nD τ) (st0_5 t) fullShare X))
      ⊢ wp frame (wpE (defs₀ (F := F)) Variants.none (c : Thread nD τ) none) Set.univ (bodyAt0 t) (fun _ =>
    iprop((Pipeline.ΦDR osem spec0 H0 ∅ (V m) c : sProp 𝕄) ∗ (∃ W : Waits sig Unit, owes (c : Thread nD τ) 0 W)
        ∗ (owns (c : Thread nD τ) (st0_0 t) fullShare (iblk m c 0 t)) ∗ (∃ X, owns (c : Thread nD τ) (st0_1 t) fullShare X) ∗ (∃ X, owns (c : Thread nD τ) (st0_2 t) fullShare X)
        ∗ (∃ X, owns (c : Thread nD τ) (st0_3 t) fullShare X) ∗ (∃ X, owns (c : Thread nD τ) (st0_4 t) fullShare X) ∗ (∃ X, owns (c : Thread nD τ) (st0_5 t) fullShare X))) := by
  have hb := KernelBody.body (𝒱 := Variants.none) (bd := none) (c := c) (grid0.coords t) (st0_0 t) (hst0 t) codes (Memref.isWhole_whole _) (st0_1 t) (hst1 t) (st0_2 t) (hst2 t) (st0_3 t) (hst3 t)
    (st0_4 t) (hst4 t) (st0_5 t) (hst5 t) (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _) cc0_scratch6 (V m c main_arg1) hX
  have hin : iprop((Pipeline.ΦDR osem spec0 H0 ∅ (V m) c : sProp 𝕄) ∗ (∃ W : Waits sig Unit, owes (c : Thread nD τ) 0 W)
        ∗ (owns (c : Thread nD τ) (st0_0 t) fullShare (iblk m c 0 t)) ∗ (∃ X, owns (c : Thread nD τ) (st0_1 t) fullShare X) ∗ (∃ X, owns (c : Thread nD τ) (st0_2 t) fullShare X)
        ∗ (∃ X, owns (c : Thread nD τ) (st0_3 t) fullShare X) ∗ (∃ X, owns (c : Thread nD τ) (st0_4 t) fullShare X) ∗ (∃ X, owns (c : Thread nD τ) (st0_5 t) fullShare X))
      ⊢ iprop(KernelBody.Z c (st0_0 t) (iblk m c 0 t) (st0_1 t) (st0_2 t) (st0_3 t) (st0_4 t) (st0_5 t) (Memref.whole cc0_scratch0) (Memref.whole cc0_scratch1) (Memref.whole cc0_scratch2)
        (Memref.whole cc0_scratch3) (Memref.whole cc0_scratch4) (bigSep Finset.univ (Idle c (Memref.whole cc0_scratch5) codes cc0_scratch6 (V m c main_arg1))) ∗ ((∃ r, prngReg c r) ∗ (Pipeline.owned ∅ c : sProp 𝕄))) := by
    rw [own_eq]
    unfold KernelBody.Z KernelSafe.S Sts Rst Hoare.Owes
    iintro ⟨⟨⟨S0, S1, S2, S3, S4, S5⟩, Hg, Hq, Hc, Hn⟩, HW, H0, H1, H2, H3, H4, H5⟩
    isplitr [Hg Hn]
    · isplitl [H0]; · iapply (owns_holds c (st0_0 t) (hst0 t) _); iexact H0
      isplitl [H4]; · iapply (owns_own c (st0_4 t) (hst4 t)); iexact H4
      isplitl [H5]; · iapply (owns_own c (st0_5 t) (hst5 t)); iexact H5
      isplitl [S0]; · iexact S0
      isplitl [S1]; · iexact S1
      isplitl [S2]; · iexact S2
      isplitl [S3]; · iexact S3
      isplitl [S4]; · iexact S4
      isplitl [H1]; · iapply (owns_own c (st0_1 t) (hst1 t)); iexact H1
      isplitl [H2]; · iapply (owns_own c (st0_2 t) (hst2 t)); iexact H2
      isplitl [H3]; · iapply (owns_own c (st0_3 t) (hst3 t)); iexact H3
      isplitl [S5 Hq Hc]
      · iapply (idle_split (Val := Elt F) (U := Pipeline.UD sig nD τ) c (Memref.whole cc0_scratch5) codes cc0_scratch6 (V m c main_arg1) (Memref.isWhole_whole _))
        isplitl [S5]; · iexact S5
        isplitl [Hq]; · iexact Hq
        iexact Hc
      · iexact HW
    · isplitl [Hg]; · iexact Hg
      iexact Hn
  refine hin.trans ((sep_mono hb .rfl).trans ((wp_frame_r _ _ _).trans (wp_mono _ _ _ fun _ => ?_)))
  rw [own_eq]
  unfold KernelBody.Z KernelSafe.S Sts Rst Hoare.Owes
  iintro ⟨⟨H0, H4, H5, S0, S1, S2, S3, S4, H1, H2, H3, HI, HW⟩, Hg, Hn⟩
  ihave HJ := (idle_join (Val := Elt F) (U := Pipeline.UD sig nD τ) c (Memref.whole cc0_scratch5) codes cc0_scratch6 (V m c main_arg1) (Memref.isWhole_whole _)) $$ HI
  icases HJ with ⟨S5, Hq, Hc⟩
  isplitl [S0 S1 S2 S3 S4 S5 Hg Hq Hc Hn]
  · isplitl [S0 S1 S2 S3 S4 S5]
    · isplitl [S0]; · iexact S0
      isplitl [S1]; · iexact S1
      isplitl [S2]; · iexact S2
      isplitl [S3]; · iexact S3
      isplitl [S4]; · iexact S4
      iexact S5
    isplitl [Hg]; · iexact Hg
    isplitl [Hq]; · iexact Hq
    isplitl [Hc]; · iexact Hc
    iexact Hn
  isplitl [HW]; · iexact HW
  isplitl [H0]; · iapply (holds_owns c (st0_0 t) (hst0 t) _); iexact H0
  isplitl [H1]; · iapply (own_owns c (st0_1 t) (hst1 t)); iexact H1
  isplitl [H2]; · iapply (own_owns c (st0_2 t) (hst2 t)); iexact H2
  isplitl [H3]; · iapply (own_owns c (st0_3 t) (hst3 t)); iexact H3
  isplitl [H4]; · iapply (own_owns c (st0_4 t) (hst4 t)); iexact H4
  iapply (own_owns c (st0_5 t) (hst5 t)); iexact H5

theorem prog_eq (t : Fin cfg0.N) : defs₀ (F := F) .tc cfg0.body (cfg0.bodyArgs t (cfg0.slots t)) = bodyAt0 t := by
  unfold defs₀; rw [Defs.onTc_tc]

/-- The pipeline's obligation on the body. -/
theorem body_obligation (c : Dev nD) (hX : ∀ t x, (iblk m c 0 t x).toNat < 7936) :
    BodyObligationLoose (dats m 0 c) (defs₀ (F := F)) Variants.none () Set.univ fgt := fun t => by
  rw [bigSep_W0, bigSep_W0, prog_eq]
  have hs := sound_body m c t (hX t)
  show iprop((Pipeline.ΦDR osem spec0 H0 ∅ (V m) c : sProp 𝕄) ∗ (dats m 0 c).owesAt () t.castSucc
        ∗ (∃ d, owns (c : Thread nD τ) (st0_0 t) fullShare ((dats m 0 c).before 0 t d)) ∗ (∃ X, owns (c : Thread nD τ) (st0_1 t) fullShare X) ∗ (∃ X, owns (c : Thread nD τ) (st0_2 t) fullShare X) ∗ (∃ X, owns (c : Thread nD τ) (st0_3 t) fullShare X) ∗ (∃ X, owns (c : Thread nD τ) (st0_4 t) fullShare X) ∗ (∃ X, owns (c : Thread nD τ) (st0_5 t) fullShare X))
      ⊢ wp frame (wpE (defs₀ (F := F)) Variants.none (c : Thread nD τ) none) Set.univ (bodyAt0 t) (fun _ =>
    iprop((Pipeline.ΦDR osem spec0 H0 ∅ (V m) c : sProp 𝕄) ∗ (dats m 0 c).owesAt () t.succ
        ∗ (owns (c : Thread nD τ) (st0_0 t) fullShare (iblk m c 0 t)) ∗ (∃ X, owns (c : Thread nD τ) (st0_1 t) fullShare X) ∗ (∃ X, owns (c : Thread nD τ) (st0_2 t) fullShare X) ∗ (∃ X, owns (c : Thread nD τ) (st0_3 t) fullShare X) ∗ (∃ X, owns (c : Thread nD τ) (st0_4 t) fullShare X) ∗ (∃ X, owns (c : Thread nD τ) (st0_5 t) fullShare X)))
  refine BIBase.Entails.trans ?_ (hs.trans (wp_mono _ _ _ fun _ => ?_))
  · unfold Dat.owesAt Pipeline.owesWithin
    iintro ⟨HP, ⟨%W, -, HW⟩, ⟨%d0, H0⟩, H1, H2, H3, H4, H5⟩
    isplitl [HP]; · iexact HP
    isplitl [HW]; · iexists W; iexact HW
    isplitl [H0]
    · rw [← before_w0 m c t d0]
      iexact H0
    isplitl [H1]; · iexact H1
    isplitl [H2]; · iexact H2
    isplitl [H3]; · iexact H3
    isplitl [H4]; · iexact H4
    iexact H5
  · unfold Dat.owesAt Pipeline.owesWithin
    iintro ⟨HP, ⟨%W, HW⟩, H0, H1, H2, H3, H4, H5⟩
    isplitl [HP]; · iexact HP
    isplitl [HW]
    · iexists W
      isplitr
      · ipureintro; exact fun _ _ => Or.inl trivial
      iexact HW
    isplitl [H0]; · iexact H0
    isplitl [H1]; · iexact H1
    isplitl [H2]; · iexact H2
    isplitl [H3]; · iexact H3
    isplitl [H4]; · iexact H4
    iexact H5

/-- What the kernel is launched on for the ids: the argument, reshaped. -/
theorem V_ids (c : Dev nD) : V m c main_v0 = shapeCast S128x1x256 (m ((c : Thread nD τ).loc main_arg0)) shapeCasts_S8x4096_S128x1x256 := by
  show StableHlo.after hostOps0 _ (Proc.devRef .tc main_v0) = _
  after_results
  rfl

/-- The ids the body reads name rows of the table when the argument's do. -/
theorem ids_lt (c : Dev nD) (h : ∀ j, ((m ((c : Thread nD τ).loc main_arg0) : S8x4096.Idx → BitVec 32) j).toNat < 7936) (t : Fin cfg0.N) (x) :
    (iblk m c 0 t x).toNat < 7936 := by
  have hv : ∀ j, ((V m c main_v0 : S128x1x256.Idx → BitVec 32) j).toNat < 7936 := by
    intro j
    rw [V_ids]
    exact h _
  exact hv _

/-- @main around its one region, at the algebra of kernels with copies of their own. -/
theorem hmain : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- What the host operations after the region write. -/
def T0 : Finset (Ref sig .tc) := {main_v6, main_v7, main_v8, main_v9, main_v10, main_v11}
theorem sfx_T : ∀ ops ∈ ([hostOps1] : List (List (HloOp τ sig (Elt F)))), ∀ op ∈ ops, ∀ b : Ref sig .tc,
    Proc.devRef .tc b ∈ op.writes → b ∈ T0 := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl
  all_goals
    intro b hb
    simp only [StableHlo.unary_writes, StableHlo.reshape_writes, Finset.mem_singleton] at hb
    by_contra hne
    exact absurd hb (StableHlo.devRef_ne_of_ne fun e => hne (by rw [e]; decide))

set_option backward.isDefEq.respectTransparency.types false in
/-- THE FRAME, for ids that name rows of the table. -/
theorem frame (h : ∀ (c : Dev nD) j, ((m ((c : Thread nD τ).loc main_arg0) : S8x4096.Idx → BitVec 32) j).toNat < 7936) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine Pipeline.θ_run_frame_dmaR_around_T_forget (Q' := _) cfgs (dats m) (0 : Fin 1) launch0 osem defs₀ Variants.none fgt ownSemFacts H0 ∅ T0 H0_sub (Finset.empty_subset _) m ρ main
    (hbody := fun c => body_obligation m c (fun t x => ids_lt m c (h c) t x)) (hshare := fun c => (dats m 0 c).share_full fun _ => rfl)
    (howed := fun _ _ => rfl) (V₀ := V0 m) (opss := [hostOps1]) (hsub := sfx_sub) (hfresh := sfx_fresh) (hkeep := sfx_keeps) (hT := sfx_T)
    (hmain := hmain m) (hA := fun _ _ => rfl) (hin := fun _ => .rfl) (hout := fun _ => .rfl) (hQ' := ?_)
  intro r hr
  refine ⟨fun c => ⟨?_, ?_, ?_, ?_, ?_⟩, hr.2⟩
  · exact ((hr.1 c).2 main_arg0 (Finset.mem_sdiff.mpr ⟨Pipeline.mem_restRefs_of main_arg0 (by decide) (by decide), by decide⟩)).trans (V_main_arg0 m c)
  · exact ((hr.1 c).2 main_arg1 (Finset.mem_sdiff.mpr ⟨Pipeline.mem_restRefs_of main_arg1 (by decide) (by decide), by decide⟩)).trans (V_main_arg1 m c)
  · exact ((hr.1 c).2 main_arg2 (Finset.mem_sdiff.mpr ⟨Pipeline.mem_restRefs_of main_arg2 (by decide) (by decide), by decide⟩)).trans (V_main_arg2 m c)
  · exact ((hr.1 c).2 main_arg3 (Finset.mem_sdiff.mpr ⟨Pipeline.mem_restRefs_of main_arg3 (by decide) (by decide), by decide⟩)).trans (V_main_arg3 m c)
  · exact ((hr.1 c).2 main_arg4 (Finset.mem_sdiff.mpr ⟨Pipeline.mem_restRefs_of main_arg4 (by decide) (by decide), by decide⟩)).trans (V_main_arg4 m c)

end Cert.Proof.KernelFrame

end
-- ==== Proof.KernelIdealRing.lean ====
/- The ring of the table-building loop: the slot of a trip, and the addresses at which it waits, reads and starts the next copy. -/
module

public import proofs.«01_k».proof.Proof.RingBuf
public import proofs.«01_k».proof.Proof.Gen.KernelIdeal.Loops
public import proofs.«01_k».proof.Proof.Gen.KernelIdeal.Points

@[expose] public section

set_option maxRecDepth 16384

noncomputable section

namespace Cert.Proof.KernelIdealRing

open Cert.KernelIdeal Cert.KernelIdeal.Gen Cert.Proof.Hoare
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-- The ring slot of trip `k`. -/
abbrev slot (i : grid0.Coords) (arg13 : Memref sig .tc .vmem S8x128x2560 .i8) (k0_h1 : k0_cond1 i = 1#1) (k0_t1 : Fin k0_t1_loop.trips) : Memref sig .tc .vmem S128x2560 .i8 :=
  (arg13.slice (Rect.unit (s := S8x128x2560) (k0_off2 k0_t1) S1x128x2560.size (k0_off2_inb i k0_t1 k0_h1)) (fun _ => rfl)).squeeze S128x2560 squeezes_S1x128x2560_S128x2560

/-! The addresses of the ring: trip `k` uses slot `k % 8`, waits for block `k` and starts block `k + 8`. -/
theorem trips1 : k0_t1_loop.trips = 62 := by decide +kernel
theorem lt62 (k : Fin k0_t1_loop.trips) : k.val < 62 := lt_of_lt_of_eq k.isLt trips1
theorem off1_eq : ∀ k : Fin k0_t1_loop.trips, k0_off1 k = ![(at8 k.val).val] := by decide +kernel
theorem off2_eq : ∀ k : Fin k0_t1_loop.trips, k0_off2 k = ![(at8 k.val).val, 0, 0] := by decide +kernel
theorem off9_eq : ∀ k : Fin k0_t1_loop.trips, k0_cond2 k = 1#1 → k0_off9 k = ![(at8 k.val).val] := by decide +kernel
theorem off10_eq : ∀ k : Fin k0_t1_loop.trips, k0_cond2 k = 1#1 → k0_off10 k = ![(at8 k.val).val, 0, 0] := by decide +kernel
theorem off11_eq : ∀ k : Fin k0_t1_loop.trips, k0_cond2 k = 1#1 → k0_off11 k = ![128 * (k.val + 8), 0] := by decide +kernel
theorem cond2_iff : ∀ k : Fin k0_t1_loop.trips, k0_cond2 k = 1#1 ↔ k.val + 8 < 62 := by decide +kernel

end Cert.Proof.KernelIdealRing

end
-- ==== Proof.KernelIdealRegion.lean ====
/- The region of KernelIdeal: its own copy cells and the array they read, its buffers, the ids it reads, and @main around it. -/
module

public import proofs.«01_k».proof.Proof.KernelIdealRing
public import proofs.«01_k».proof.Proof.Gen.KernelIdeal.Frame
public import proofs.«01_k».proof.Proof.Ids
public import Idealize.ShloMosaic.Lib.Pipeline.FrameSuffixR
public import Idealize.ShloMosaic.Lib.Claim

@[expose] public section

set_option maxRecDepth 16384

noncomputable section

namespace Cert.Proof.KernelIdealRegion

open Cert.KernelIdeal Cert.KernelIdeal.Gen Cert.Proof.Hoare
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

/-- The kernel's own copy cells. -/
abbrev osem : Fin 8 → SemLoc sig := fun p => .dma (semOf cc0_scratch6 p)
theorem osem_eq : osem = ![.dma 9, .dma 10, .dma 11, .dma 12, .dma 13, .dma 14, .dma 15, .dma 16] := by
  funext p; fin_cases p <;> rfl
theorem ownSemFacts : Pipeline.OwnSemFacts spec0 osem := by rw [osem_eq]; decide

/-- The one array the kernel's own copies read: the table of codes. -/
def H0 : Finset (Ref sig .tc) := {main_arg1}
theorem H0_sub : H0 ⊆ Pipeline.restRefs sig spec0 := by decide

/-- The whole table of codes. -/
abbrev codes : Memref sig .tc .hbm S7936x2560 .i8 := Memref.whole main_arg1

/-- A staging buffer owned whole at given contents. -/
theorem owns_holds {sp : Space} {s : Shape} {e : EltTy} (c : Dev nD) (M : Memref sig .tc sp s e) (h : M.IsWhole) (X : s.Idx → Elt F e) :
    (owns (c : Thread nD τ) M fullShare X : sProp 𝕄) ⊢ Holds (c : Thread nD τ) M (fun _ => True) X := by
  unfold owns Holds
  rw [h.set_eq_univ]
  iintro ⟨%f, %hf, H⟩
  iexists f
  isplitl [H]
  · iexact H
  · ipureintro; intro y _; exact congrFun hf y
theorem holds_owns {sp : Space} {s : Shape} {e : EltTy} (c : Dev nD) (M : Memref sig .tc sp s e) (h : M.IsWhole) (X : s.Idx → Elt F e) :
    Holds (c : Thread nD τ) M (fun _ => True) X ⊢ (owns (c : Thread nD τ) M fullShare X : sProp 𝕄) := by
  unfold owns Holds
  rw [h.set_eq_univ]
  iintro ⟨%f, H, %hf⟩
  iexists f
  isplitr
  · ipureintro; funext y; exact hf y trivial
  · iexact H
theorem owns_own {sp : Space} {s : Shape} {e : EltTy} (c : Dev nD) (M : Memref sig .tc sp s e) (h : M.IsWhole) :
    (iprop(∃ X, owns (c : Thread nD τ) M fullShare X) : sProp 𝕄) ⊢ Own (c : Thread nD τ) M := by
  unfold owns Own
  rw [h.set_eq_univ]
  iintro ⟨%X, %f, %hf, H⟩
  iexists f
  iexact H
theorem hst0 (t : Fin cfg0.N) : (st0_0 t).IsWhole := hstage0_0 ((cfg0.slots t 0).cast nbuf0_0)
theorem hst1 (t : Fin cfg0.N) : (st0_1 t).IsWhole := hstage0_1 ((cfg0.slots t 1).cast nbuf0_1)
theorem hst2 (t : Fin cfg0.N) : (st0_2 t).IsWhole := hstage0_2 ((cfg0.slots t 2).cast nbuf0_2)
theorem hst3 (t : Fin cfg0.N) : (st0_3 t).IsWhole := hstage0_3 ((cfg0.slots t 3).cast nbuf0_3)
theorem hst4 (t : Fin cfg0.N) : (st0_4 t).IsWhole := hstage0_4 ((cfg0.slots t 4).cast nbuf0_4)
theorem hst5 (t : Fin cfg0.N) : (st0_5 t).IsWhole := hstage0_5 ((cfg0.slots t 5).cast nbuf0_5)

theorem prog_eq (t : Fin cfg0.N) : defs₀ (F := F) .tc cfg0.body (cfg0.bodyArgs t (cfg0.slots t)) = bodyAt0 t := by
  unfold defs₀; rw [Defs.onTc_tc]

/-- What the kernel is launched on for the ids: the argument, reshaped. -/
theorem V_ids (c : Dev nD) : V m c main_v0 = shapeCast S128x1x256 (m ((c : Thread nD τ).loc main_arg0)) shapeCasts_S8x4096_S128x1x256 := by
  show StableHlo.after hostOps0 _ (Proc.devRef .tc main_v0) = _
  after_results
  rfl

/-- The ids the body reads name rows of the table when the argument's do. -/
theorem ids_lt (c : Dev nD) (h : ∀ j, ((m ((c : Thread nD τ).loc main_arg0) : S8x4096.Idx → BitVec 32) j).toNat < 7936) (t : Fin cfg0.N) (x) :
    (iblk m c 0 t x).toNat < 7936 := by
  have hv : ∀ j, ((V m c main_v0 : S128x1x256.Idx → BitVec 32) j).toNat < 7936 := by
    intro j
    rw [V_ids]
    exact h _
  exact hv _

/-- @main around its one region, at the algebra of kernels with copies of their own. -/
theorem hmain : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

end Cert.Proof.KernelIdealRegion

end
-- ==== Proof.Target.lean ====
/- What the buffers of KernelIdeal are to hold, as functions of row, half and lane: the rows gathered in a trip of the emission
   loop, the two output blocks, and how packed vectors are read and put together. -/
module

public import proofs.«01_k».proof.Proof.Hoare
public import proofs.«01_k».proof.Proof.Gen.KernelIdeal.Skeleton
public import proofs.«01_k».proof.Proof.Gen.KernelIdeal.Frame
public import Idealize.ShloMosaic.Lib.Bf16PairInverse
public import Idealize.ShloMosaic.Lib.Pointwise

@[expose] public section

set_option maxRecDepth 16384

noncomputable section

namespace Cert.Proof.Target

open Cert.KernelIdeal Cert.KernelIdeal.Gen
open Idealize.ShloMosaic Idealize.ShloMosaic.TcCoe

variable {F : FTy → Type} [FloatOps F]

/-- The casts between the two widths, on one value. -/
def extS (a : F .bf16) : F .f32 := FloatOps.extf .f32 bitsLt_bf16_f32 a
def truncS (a : F .f32) : F .bf16 := FloatOps.truncf .bf16 bitsLt_bf16_f32 a

/-- The token id at place `s` of the block of ids. -/
def xid (X : S1x1x256.Idx → Elt F .i32) (s : ℕ) : ℕ := if h : s < 256 then (X (ix3 0 0 ⟨s, h⟩)).toNat else 0

/-- The place, among the 32 tokens of a trip, of the token that row `r` of the gathered rows belongs to. -/
def slotR (r : ℕ) : ℕ := 8 * (r / 80) + 2 * (r % 4) + (r / 40) % 2
/-- The same for the gathered inverse norms. -/
def slotN (r : ℕ) : ℕ := 8 * (r / 16) + 2 * (r % 4) + (r / 8) % 2

/-- The gathered rows of trip `k`: entry `(r % 40) / 4` of the token's ten. -/
def t11 (X : S1x1x256.Idx → Elt F .i32) (t8 : ℕ → ℕ → ℕ → F .bf16) (k r h l : ℕ) : F .bf16 :=
  t8 (10 * xid X (32 * k + slotR r) + (r % 40) / 4) h l
/-- The gathered inverse norms of trip `k`. -/
def t12 (X : S1x1x256.Idx → Elt F .i32) (t9 : ℕ → ℕ → F .f32) (k r l : ℕ) : F .f32 :=
  t9 (2 * xid X (32 * k + slotN r) + (r % 8) / 4) l

/-- The token, among the block's 256, of row `R` of an output block. -/
def tokO (R : ℕ) : ℕ := 8 * (R / 160) + R % 8
/-- Its column tile. -/
def ctO (R : ℕ) : ℕ := (R % 160) / 8
/-- The embedding block. -/
def t7 (X : S1x1x256.Idx → Elt F .i32) (t8 : ℕ → ℕ → ℕ → F .bf16) (R l : ℕ) : F .bf16 :=
  truncS (extS (t8 (10 * xid X (tokO R) + (2 * (ctO R / 4) + ctO R % 2)) (ctO R % 4 / 2) l))
/-- The normalised block. -/
def t6 (X : S1x1x256.Idx → Elt F .i32) (t8 : ℕ → ℕ → ℕ → F .bf16) (t9 t10 : ℕ → ℕ → F .f32) (R l : ℕ) : F .bf16 :=
  truncS (FloatOps.mulf (FloatOps.mulf (extS (t8 (10 * xid X (tokO R) + (2 * (ctO R / 4) + ctO R % 2)) (ctO R % 4 / 2) l))
    (t9 (2 * xid X (tokO R) + ctO R % 2) l)) (t10 (4 * ctO R + R % 8 / 2) l))

/-! Packed vectors. -/

/-- Splitting a vector of pairs and putting it together again changes nothing. -/
theorem stack10 (v : Vec F S10x2x128 .bf16) :
    interleaveRows S10x2x128 (shapeCast S10x1x128 (shapeCast S10x128 (rowsOfParity 0 S10x1x128 v bitcasts_S10x2x128_w16_S10x1x128_w32) shapeCasts_S10x1x128_S10x128) shapeCasts_S10x128_S10x1x128)
      (shapeCast S10x1x128 (shapeCast S10x128 (rowsOfParity 1 S10x1x128 v bitcasts_S10x2x128_w16_S10x1x128_w32) shapeCasts_S10x1x128_S10x128) shapeCasts_S10x128_S10x1x128) bitcasts_S10x2x128_w16_S10x1x128_w32 = v := by
  rw [shapeCast_comp, shapeCast_comp, shapeCast_id, shapeCast_id, interleaveRows_rowsOfParity]

/-- One half of eight rows of pairs. -/
def half8 (p : Fin 2) (v : Vec F S8x2x128 .bf16) : FVec F S8x128 .bf16 :=
  shapeCast S8x128 (rowsOfParity p S8x1x128 v bitcasts_S8x2x128_w16_S8x1x128_w32) shapeCasts_S8x1x128_S8x128
theorem half8_apply (p : Fin 2) (v : Vec F S8x2x128 .bf16) (x : S8x128.Idx) : half8 p v x = v (ix3 (x 0) p (x 1)) := by
  unfold half8
  pointwise
/-- Two vectors of eight rows, interleaved. -/
theorem mix16 (lo hi : FVec F S8x128 .bf16) (x : S16x128.Idx) :
    interleaveRows S16x128 lo hi bitcasts_S16x128_w16_S8x128_w32 x = if (x 0).val % 2 = 0 then lo (ix2 ⟨(x 0).val / 2, by have := (x 0).isLt; have h : S16x128.size 0 = 16 := rfl; omega⟩ (x 1)) else hi (ix2 ⟨(x 0).val / 2, by have := (x 0).isLt; have h : S16x128.size 0 = 16 := rfl; omega⟩ (x 1)) := by
  rw [interleaveRows_apply]
  have hr : S16x128.row x = (x 0).val := rfl
  rw [hr]
  congr 1 <;> congr 1 <;> funext b <;> fin_cases b <;> rfl

/-- What the kernel stores of the embedding. -/
def embVec (p : Fin 2) (lo hi : Vec F S8x2x128 .bf16) : FVec F S16x128 .bf16 :=
  interleaveRows S16x128 (truncf .bf16 (extf .f32 (half8 p lo))) (truncf .bf16 (extf .f32 (half8 p hi))) bitcasts_S16x128_w16_S8x128_w32
/-- What the kernel stores of the normalised rows. -/
def outVec (p : Fin 2) (lo hi : Vec F S8x2x128 .bf16) (n0 n1 g : Vec F S8x128 .f32) : FVec F S16x128 .bf16 :=
  interleaveRows S16x128 (truncf .bf16 (mulf (mulf (extf .f32 (half8 p lo)) n0) g)) (truncf .bf16 (mulf (mulf (extf .f32 (half8 p hi)) n1) g)) bitcasts_S16x128_w16_S8x128_w32

end Cert.Proof.Target

end
-- ==== Proof.EmitRules.lean ====
/- The steps of a trip of KernelIdeal's emission loop, as rules: reading a token id, gathering its rows and its inverse norm, and
   storing sixteen rows of an output block, each with what the buffers hold before and after. -/
module

public import proofs.«01_k».proof.Proof.Target

@[expose] public section

set_option maxRecDepth 16384

noncomputable section

namespace Cert.Proof.EmitRules

open Cert.KernelIdeal Cert.KernelIdeal.Gen Cert.Proof.Hoare Cert.Proof.Target
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

/-- A token id that names a row of the table names ten rows of the word table. -/
theorem chkTab {v : BitVec 32} (h : v.toNat < 7936) : k0_chk1 v := by
  have e : (v * 10#32).toNat = v.toNat * 10 := by rw [BitVec.toNat_mul]; simp; omega
  refine ⟨?_, ?_⟩
  · show 2 ∣ (v * 10#32).toNat
    omega
  · intro a
    have h0 : (k0_off13 v) 0 = v.toNat * 10 := e
    fin_cases a
    · show (k0_off13 v) 0 + 10 ≤ 79360
      omega
    all_goals exact of_decide_eq_true rfl
/-- And two rows of the table of inverse norms. -/
theorem chkNorm {v : BitVec 32} (h : v.toNat < 7936) : k0_chk2 v := by
  have e : (v * 2#32).toNat = v.toNat * 2 := by rw [BitVec.toNat_mul]; simp; omega
  refine ⟨?_, ?_⟩
  · show 2 ∣ (v * 2#32).toNat
    omega
  · intro a
    have h0 : (k0_off15 v) 0 = v.toNat * 2 := e
    fin_cases a
    · show (k0_off15 v) 0 + 2 ≤ 15872
      omega
    all_goals exact of_decide_eq_true rfl

theorem off13_eq {v : BitVec 32} (h : v.toNat < 7936) : k0_off13 v = ![10 * v.toNat, 0, 0] := by
  have e : (v * 10#32).toNat = 10 * v.toNat := by rw [BitVec.toNat_mul]; simp; omega
  funext a
  fin_cases a
  · exact e
  all_goals rfl
theorem off15_eq {v : BitVec 32} (h : v.toNat < 7936) : k0_off15 v = ![2 * v.toNat, 0] := by
  have e : (v * 2#32).toNat = 2 * v.toNat := by rw [BitVec.toNat_mul]; simp; omega
  funext a
  fin_cases a
  · exact e
  all_goals rfl

/-! Which rows a trip gathers for its token `8 * u + t`. -/
theorem slotR_row : ∀ u < 4, ∀ t < 8, ∀ j < 10, slotR ((2 * u + t % 2) * 40 + t / 2 + 4 * j) = 8 * u + t ∧ (((2 * u + t % 2) * 40 + t / 2 + 4 * j) % 40) / 4 = j := by
  decide +kernel
theorem slotR_surj : ∀ r < 320, ∃ j < 10, r = (2 * (slotR r / 8) + slotR r % 8 % 2) * 40 + slotR r % 8 / 2 + 4 * j := by
  decide +kernel
theorem slotN_row : ∀ u < 4, ∀ t < 8, ∀ j < 2, slotN ((2 * u + t % 2) * 8 + t / 2 + 4 * j) = 8 * u + t ∧ (((2 * u + t % 2) * 8 + t / 2 + 4 * j) % 8) / 4 = j := by
  decide +kernel
theorem slotN_surj : ∀ r < 64, ∃ j < 2, r = (2 * (slotN r / 8) + slotN r % 8 % 2) * 8 + slotN r % 8 / 2 + 4 * j := by
  decide +kernel

variable {𝒱 : Variants} {c : Dev nD} {bd : Option 𝒱.V} {E : Set ℕ} {β : Type}
  {Q : β → sProp (MT nD τ sig Unit (Elt F) ℕ (Pipeline.UD sig nD τ) ℕ)} {X : S1x1x256.Idx → Elt F .i32}
  {A1 A6 A7 A8 A9 A10 A11 A12 R : sProp (MT nD τ sig Unit (Elt F) ℕ (Pipeline.UD sig nD τ) ℕ)}
  {arg1 : Memref sig .tc .smem S1x1x256 .i32} {arg6 arg7 : Memref sig .tc .vmem S5120x128 .bf16} {arg8 : Memref sig .tc .vmem S79360x2x128 .bf16}
  {arg9 : Memref sig .tc .vmem S15872x128 .f32} {arg10 : Memref sig .tc .vmem S80x128 .f32} {arg11 : Memref sig .tc .vmem S320x2x128 .bf16}
  {arg12 : Memref sig .tc .vmem S64x128 .f32}
  {t8 : ℕ → ℕ → ℕ → F .bf16} {t9 t10 : ℕ → ℕ → F .f32} {k : ℕ}

/-- A buffer of pairs holds the function `t` of row, half and lane where `P` holds of the row. -/
abbrev H3 (c : Dev nD) {n0 n1 n2 : ℕ} {e : EltTy} (m : Memref sig .tc .vmem ⟨3, ![n0, n1, n2]⟩ e) (P : ℕ → Prop) (t : ℕ → ℕ → ℕ → Elt F e) : sProp 𝕄 :=
  Holds (c : Thread nD τ) m (fun y => P (y 0).val) (fun y => t (y 0).val (y 1).val (y 2).val)
/-- The same for a buffer of rows. -/
abbrev H2 (c : Dev nD) {n0 n1 : ℕ} {e : EltTy} (m : Memref sig .tc .vmem ⟨2, ![n0, n1]⟩ e) (P : ℕ → Prop) (t : ℕ → ℕ → Elt F e) : sProp 𝕄 :=
  Holds (c : Thread nD τ) m (fun y => P (y 0).val) (fun y => t (y 0).val (y 1).val)

/-- Reading a token id. -/
theorem sl {off : Fin 3 → ℕ} {inb} {h1} {hp} {s : ℕ} (hoff : off = ![0, 0, s]) (hX : ∀ s, xid X s < 7936)
    {K : BitVec 32 → Prog (TpuEff nD τ sig (Elt F) Λ₀ .tc) β}
    (hk : ∀ v : BitVec 32, v.toNat = xid X s → v.toNat < 7936 → Sts (Holds (c : Thread nD τ) arg1 (fun _ => True) X) A6 A7 A8 A9 A10 A11 A12 R ⊢ wp frame (wpE defs₀ 𝒱 (c : Thread nD τ) bd) E (K v) Q) :
    Sts (Holds (c : Thread nD τ) arg1 (fun _ => True) X) A6 A7 A8 A9 A10 A11 A12 R ⊢ wp frame (wpE defs₀ 𝒱 (c : Thread nD τ) bd) E (smemLoad arg1 (Rect.unit (s := S1x1x256) off S1x1x1.size inb) h1 hp >>= K) Q := by
  subst hoff
  refine sload (c := (c : Thread nD τ)) Sts.t1 fun v hv => ?_
  have e : v.toNat = xid X s := by
    have h := hv (ix3 0 0 0 : S1x1x1.Idx) trivial
    have hs : s + 1 ≤ 256 := inb 2
    unfold xid
    rw [dif_pos (by omega), h]
    congr 2
    funext a
    fin_cases a <;> rfl
  exact hk v e (e ▸ hX s)

/-- Reading a token's ten rows of the table. -/
theorem ldTab {off : Fin 3 → ℕ} {inb} {hl} {v : BitVec 32} {i : ℕ} (hv : v.toNat = i) (hlt : v.toNat < 7936) (hoff : off = k0_off13 v)
    {K : (S10x2x128.Idx → Elt F .bf16) → Prog (TpuEff nD τ sig (Elt F) Λ₀ .tc) β}
    (hk : ∀ w : S10x2x128.Idx → Elt F .bf16, (∀ x, w x = t8 (10 * i + (x 0).val) (x 1).val (x 2).val) → Sts A1 A6 A7 (H3 c arg8 (fun _ => True) t8) A9 A10 A11 A12 R ⊢ wp frame (wpE defs₀ 𝒱 (c : Thread nD τ) bd) E (K w) Q) :
    Sts A1 A6 A7 (H3 c arg8 (fun _ => True) t8) A9 A10 A11 A12 R ⊢ wp frame (wpE defs₀ 𝒱 (c : Thread nD τ) bd) E (Prog.lift (.load arg8 (Rect.unit (s := S79360x2x128) off S10x2x128.size inb).toLoadRect hl) >>= K) Q := by
  rw [off13_eq hlt, hv] at hoff
  subst hoff
  refine load (c := (c : Thread nD τ)) Sts.t8 fun w hw => hk w fun x => ?_
  rw [hw x trivial]
  simp only [LoadRect.idx_eq_norm, Rect.unit, Rect.toLoadRect, Nat.one_mul]
  simp [Shape.Idx.norm]
/-- Reading its two rows of the inverse norms. -/
theorem ldNorm {off : Fin 2 → ℕ} {inb} {hl} {v : BitVec 32} {i : ℕ} (hv : v.toNat = i) (hlt : v.toNat < 7936) (hoff : off = k0_off15 v)
    {K : (S2x128.Idx → Elt F .f32) → Prog (TpuEff nD τ sig (Elt F) Λ₀ .tc) β}
    (hk : ∀ w : S2x128.Idx → Elt F .f32, (∀ x, w x = t9 (2 * i + (x 0).val) (x 1).val) → Sts A1 A6 A7 A8 (H2 c arg9 (fun _ => True) t9) A10 A11 A12 R ⊢ wp frame (wpE defs₀ 𝒱 (c : Thread nD τ) bd) E (K w) Q) :
    Sts A1 A6 A7 A8 (H2 c arg9 (fun _ => True) t9) A10 A11 A12 R ⊢ wp frame (wpE defs₀ 𝒱 (c : Thread nD τ) bd) E (Prog.lift (.load arg9 (Rect.unit (s := S15872x128) off S2x128.size inb).toLoadRect hl) >>= K) Q := by
  rw [off15_eq hlt, hv] at hoff
  subst hoff
  refine load (c := (c : Thread nD τ)) Sts.t9 fun w hw => hk w fun x => ?_
  rw [hw x trivial]
  simp only [LoadRect.idx_eq_norm, Rect.unit, Rect.toLoadRect, Nat.one_mul]
  simp [Shape.Idx.norm]
/-- Reading eight rows of the gain. -/
theorem ldGain {b j : ℕ} {inb} {hl} (hb : b = 8 * j)
    {K : (S8x128.Idx → Elt F .f32) → Prog (TpuEff nD τ sig (Elt F) Λ₀ .tc) β}
    (hk : ∀ w : S8x128.Idx → Elt F .f32, (∀ x, w x = t10 (8 * j + (x 0).val) (x 1).val) → Sts A1 A6 A7 A8 A9 (H2 c arg10 (fun _ => True) t10) A11 A12 R ⊢ wp frame (wpE defs₀ 𝒱 (c : Thread nD τ) bd) E (K w) Q) :
    Sts A1 A6 A7 A8 A9 (H2 c arg10 (fun _ => True) t10) A11 A12 R ⊢ wp frame (wpE defs₀ 𝒱 (c : Thread nD τ) bd) E (Prog.lift (.load arg10 (Rect.unit (s := S80x128) ![b, 0] S8x128.size inb).toLoadRect hl) >>= K) Q := by
  subst hb
  refine load (c := (c : Thread nD τ)) Sts.t10 fun w hw => hk w fun x => ?_
  rw [hw x trivial]
  simp only [LoadRect.idx_eq_norm, Rect.unit, Rect.toLoadRect, Nat.one_mul]
  simp [Shape.Idx.norm]
/-- Reading eight of the gathered rows. -/
theorem ldR {b n : ℕ} {inb} {hl} (hb : ∀ j < 8, slotR (b + j) < n)
    {K : (S8x2x128.Idx → Elt F .bf16) → Prog (TpuEff nD τ sig (Elt F) Λ₀ .tc) β}
    (hk : ∀ w : S8x2x128.Idx → Elt F .bf16, (∀ x, w x = t11 X t8 k (b + (x 0).val) (x 1).val (x 2).val) → Sts A1 A6 A7 A8 A9 A10 (H3 c arg11 (fun r => slotR r < n) (t11 X t8 k)) A12 R ⊢ wp frame (wpE defs₀ 𝒱 (c : Thread nD τ) bd) E (K w) Q) :
    Sts A1 A6 A7 A8 A9 A10 (H3 c arg11 (fun r => slotR r < n) (t11 X t8 k)) A12 R ⊢ wp frame (wpE defs₀ 𝒱 (c : Thread nD τ) bd) E (Prog.lift (.load arg11 (Rect.unit (s := S320x2x128) ![b, 0, 0] S8x2x128.size inb).toLoadRect hl) >>= K) Q := by
  refine load (c := (c : Thread nD τ)) Sts.t11 fun w hw => hk w fun x => ?_
  rw [hw x (by have h := hb (x 0).val (x 0).isLt; simp only [LoadRect.idx_eq_norm, Rect.unit, Rect.toLoadRect, Nat.one_mul]; simpa [Shape.Idx.norm] using h)]
  simp only [LoadRect.idx_eq_norm, Rect.unit, Rect.toLoadRect, Nat.one_mul]
  simp [Shape.Idx.norm]
/-- Reading eight of the gathered inverse norms. -/
theorem ldN {b n : ℕ} {inb} {hl} (hb : ∀ j < 8, slotN (b + j) < n)
    {K : (S8x128.Idx → Elt F .f32) → Prog (TpuEff nD τ sig (Elt F) Λ₀ .tc) β}
    (hk : ∀ w : S8x128.Idx → Elt F .f32, (∀ x, w x = t12 X t9 k (b + (x 0).val) (x 1).val) → Sts A1 A6 A7 A8 A9 A10 A11 (H2 c arg12 (fun r => slotN r < n) (t12 X t9 k)) R ⊢ wp frame (wpE defs₀ 𝒱 (c : Thread nD τ) bd) E (K w) Q) :
    Sts A1 A6 A7 A8 A9 A10 A11 (H2 c arg12 (fun r => slotN r < n) (t12 X t9 k)) R ⊢ wp frame (wpE defs₀ 𝒱 (c : Thread nD τ) bd) E (Prog.lift (.load arg12 (Rect.unit (s := S64x128) ![b, 0] S8x128.size inb).toLoadRect hl) >>= K) Q := by
  refine load (c := (c : Thread nD τ)) Sts.t12 fun w hw => hk w fun x => ?_
  rw [hw x (by have h := hb (x 0).val (x 0).isLt; simp only [LoadRect.idx_eq_norm, Rect.unit, Rect.toLoadRect, Nat.one_mul]; simpa [Shape.Idx.norm] using h)]
  simp only [LoadRect.idx_eq_norm, Rect.unit, Rect.toLoadRect, Nat.one_mul]
  simp [Shape.Idx.norm]

/-- Putting a token's ten rows among the gathered ones. -/
theorem stR {b n : ℕ} {inb} {sp} {hx} {hm} {w v : S10x2x128.Idx → Elt F .bf16} (u t : ℕ) (hu : u < 4) (ht : t < 8) (hn : n = 8 * u + t) (hb : b = (2 * u + t % 2) * 40 + t / 2)
    (hw : w = v) (hv : ∀ x, v x = t8 (10 * xid X (32 * k + n) + (x 0).val) (x 1).val (x 2).val)
    {K : PUnit → Prog (TpuEff nD τ sig (Elt F) Λ₀ .tc) β}
    (hk : Sts A1 A6 A7 A8 A9 A10 (H3 c arg11 (fun r => slotR r < n + 1) (t11 X t8 k)) A12 R ⊢ wp frame (wpE defs₀ 𝒱 (c : Thread nD τ) bd) E (K ⟨⟩) Q) :
    Sts A1 A6 A7 A8 A9 A10 (H3 c arg11 (fun r => slotR r < n) (t11 X t8 k)) A12 R ⊢ wp frame (wpE defs₀ 𝒱 (c : Thread nD τ) bd) E
      (Prog.lift (.store arg11 ⟨(⟨![b, 0, 0], S10x2x128.size, ![4, 1, 1], inb⟩ : LoadRect S320x2x128), sp⟩ w Finset.univ hx hm) >>= K) Q := by
  subst hw
  refine store (c := (c : Thread nD τ)) Sts.t11 (fun x _ => ?_) (fun y hy => ?_) hk
  · have h := slotR_row u hu t ht (x 0).val (x 0).isLt
    rw [← hb, ← hn] at h
    rw [hv x]
    show _ = t11 X t8 k (b + 4 * (x 0).val) (0 + 1 * (x 1).val) (0 + 1 * (x 2).val)
    unfold t11
    rw [h.1, h.2, Nat.zero_add, Nat.zero_add, Nat.one_mul, Nat.one_mul]
  · by_cases h : slotR (y 0).val < n
    · exact .inl h
    · right
      have e : slotR (y 0).val = n := by omega
      obtain ⟨j, hj, hr⟩ := slotR_surj (y 0).val (y 0).isLt
      rw [e, hn, show (8 * u + t) / 8 = u from by omega, show (8 * u + t) % 8 = t from by omega, ← hb] at hr
      refine ⟨ix3 ⟨j, hj⟩ (y 1) (y 2), ?_⟩
      funext a
      fin_cases a
      · exact Fin.ext hr.symm
      · exact Fin.ext (show 0 + 1 * (y 1).val = (y 1).val by omega)
      · exact Fin.ext (show 0 + 1 * (y 2).val = (y 2).val by omega)
/-- Putting a token's inverse norm among the gathered ones. -/
theorem stN {b n : ℕ} {inb} {sp} {hx} {hm} {w v : S2x128.Idx → Elt F .f32} (u t : ℕ) (hu : u < 4) (ht : t < 8) (hn : n = 8 * u + t) (hb : b = (2 * u + t % 2) * 8 + t / 2)
    (hw : w = v) (hv : ∀ x, v x = t9 (2 * xid X (32 * k + n) + (x 0).val) (x 1).val)
    {K : PUnit → Prog (TpuEff nD τ sig (Elt F) Λ₀ .tc) β}
    (hk : Sts A1 A6 A7 A8 A9 A10 A11 (H2 c arg12 (fun r => slotN r < n + 1) (t12 X t9 k)) R ⊢ wp frame (wpE defs₀ 𝒱 (c : Thread nD τ) bd) E (K ⟨⟩) Q) :
    Sts A1 A6 A7 A8 A9 A10 A11 (H2 c arg12 (fun r => slotN r < n) (t12 X t9 k)) R ⊢ wp frame (wpE defs₀ 𝒱 (c : Thread nD τ) bd) E
      (Prog.lift (.store arg12 ⟨(⟨![b, 0], S2x128.size, ![4, 1], inb⟩ : LoadRect S64x128), sp⟩ w Finset.univ hx hm) >>= K) Q := by
  subst hw
  refine store (c := (c : Thread nD τ)) Sts.t12 (fun x _ => ?_) (fun y hy => ?_) hk
  · have h := slotN_row u hu t ht (x 0).val (x 0).isLt
    rw [← hb, ← hn] at h
    rw [hv x]
    show _ = t12 X t9 k (b + 4 * (x 0).val) (0 + 1 * (x 1).val)
    unfold t12
    rw [h.1, h.2, Nat.zero_add, Nat.one_mul]
  · by_cases h : slotN (y 0).val < n
    · exact .inl h
    · right
      have e : slotN (y 0).val = n := by omega
      obtain ⟨j, hj, hr⟩ := slotN_surj (y 0).val (y 0).isLt
      rw [e, hn, show (8 * u + t) / 8 = u from by omega, show (8 * u + t) % 8 = t from by omega, ← hb] at hr
      refine ⟨ix2 ⟨j, hj⟩ (y 1), ?_⟩
      funext a
      fin_cases a
      · exact Fin.ext hr.symm
      · exact Fin.ext (show 0 + 1 * (y 1).val = (y 1).val by omega)

/-- Which gathered row, and which of a token's inverse norms and gains, a row of an output block is made of. -/
theorem out_row : ∀ u < 4, ∀ v < 10, ∀ x < 16,
    tokO (16 * (10 * u + v) + x) = slotR ((2 * u + x % 2) * 40 + 8 * (v / 2) + x / 2) ∧ tokO (16 * (10 * u + v) + x) = slotN ((2 * u + x % 2) * 8 + x / 2)
    ∧ 2 * (ctO (16 * (10 * u + v) + x) / 4) + ctO (16 * (10 * u + v) + x) % 2 = (((2 * u + x % 2) * 40 + 8 * (v / 2) + x / 2) % 40) / 4
    ∧ ctO (16 * (10 * u + v) + x) % 4 / 2 = v % 2 ∧ ctO (16 * (10 * u + v) + x) % 2 = (((2 * u + x % 2) * 8 + x / 2) % 8) / 4
    ∧ 4 * ctO (16 * (10 * u + v) + x) + (16 * (10 * u + v) + x) % 8 / 2 = 8 * v + x / 2 := by
  decide +kernel
theorem tokO_add (k a : ℕ) : tokO (16 * (40 * k + a)) = 32 * k + tokO (16 * a) := by unfold tokO; omega
theorem tokO_shift (k a x : ℕ) : tokO (16 * (40 * k + a) + x) = 32 * k + tokO (16 * a + x) := by unfold tokO; omega
theorem ctO_shift (k a x : ℕ) : ctO (16 * (40 * k + a) + x) = ctO (16 * a + x) := by unfold ctO; omega
theorem mod8_shift (k a x : ℕ) : (16 * (40 * k + a) + x) % 8 = (16 * a + x) % 8 := by omega

/-- Every row below the next multiple of sixteen is below this one or among the sixteen rows stored. -/
theorem next16 {a : ℕ} {off : Fin 2 → ℕ} {inb} (hoff : off = ![16 * a, 0]) (y : S5120x128.Idx) (hy : (y 0).val < 16 * (a + 1)) :
    (y 0).val < 16 * a ∨ ∃ x : S16x128.Idx, (Rect.unit (s := S5120x128) off S16x128.size inb).emb x = y := by
  subst hoff
  by_cases h : (y 0).val < 16 * a
  · exact .inl h
  · refine .inr ⟨ix2 ⟨(y 0).val - 16 * a, by omega⟩ (y 1), ?_⟩
    funext b
    fin_cases b
    · exact Fin.ext (show 16 * a + 1 * ((y 0).val - 16 * a) = (y 0).val by omega)
    · exact Fin.ext (show 0 + 1 * (y 1).val = (y 1).val by omega)

/-- Sixteen rows of embeddings, row by row. -/
theorem embVec_val {p : Fin 2} {lo hi : Vec F S8x2x128 .bf16} {L H : ℕ → ℕ → ℕ → F .bf16}
    (hlo : ∀ x, lo x = L (x 0).val (x 1).val (x 2).val) (hhi : ∀ x, hi x = H (x 0).val (x 1).val (x 2).val) (x : S16x128.Idx) :
    embVec p lo hi x = if (x 0).val % 2 = 0 then truncS (extS (L ((x 0).val / 2) p.val (x 1).val)) else truncS (extS (H ((x 0).val / 2) p.val (x 1).val)) := by
  unfold embVec
  rw [mix16]
  split
  · show truncS (extS (half8 p lo _)) = _
    rw [half8_apply, hlo]
    rfl
  · show truncS (extS (half8 p hi _)) = _
    rw [half8_apply, hhi]
    rfl
/-- Sixteen normalised rows, row by row. -/
theorem outVec_val {p : Fin 2} {lo hi : Vec F S8x2x128 .bf16} {n0 n1 g : Vec F S8x128 .f32} {L H : ℕ → ℕ → ℕ → F .bf16} {N M G : ℕ → ℕ → F .f32}
    (hlo : ∀ x, lo x = L (x 0).val (x 1).val (x 2).val) (hhi : ∀ x, hi x = H (x 0).val (x 1).val (x 2).val)
    (hn0 : ∀ x, n0 x = N (x 0).val (x 1).val) (hn1 : ∀ x, n1 x = M (x 0).val (x 1).val) (hg : ∀ x, g x = G (x 0).val (x 1).val) (x : S16x128.Idx) :
    outVec p lo hi n0 n1 g x = if (x 0).val % 2 = 0
      then truncS (FloatOps.mulf (FloatOps.mulf (extS (L ((x 0).val / 2) p.val (x 1).val)) (N ((x 0).val / 2) (x 1).val)) (G ((x 0).val / 2) (x 1).val))
      else truncS (FloatOps.mulf (FloatOps.mulf (extS (H ((x 0).val / 2) p.val (x 1).val)) (M ((x 0).val / 2) (x 1).val)) (G ((x 0).val / 2) (x 1).val)) := by
  unfold outVec
  rw [mix16]
  split
  · show truncS (FloatOps.mulf (FloatOps.mulf (extS (half8 p lo _)) (n0 _)) (g _)) = _
    rw [half8_apply, hlo, hn0, hg]
    rfl
  · show truncS (FloatOps.mulf (FloatOps.mulf (extS (half8 p hi _)) (n1 _)) (g _)) = _
    rw [half8_apply, hhi, hn1, hg]
    rfl

/-- Storing sixteen rows of the embedding block. -/
theorem st7 {off : Fin 2 → ℕ} {inb} {hx} {hm} {w : S16x128.Idx → Elt F .bf16} {a : ℕ} (u v : ℕ) (hu : u < 4) (hv : v < 10) (ha : a = 10 * u + v) (hoff : off = ![16 * (40 * k + a), 0])
    {p : Fin 2} (hp : p.val = v % 2) {lo hi : Vec F S8x2x128 .bf16} {bl bh : ℕ} (hbl : bl = 2 * u * 40 + 8 * (v / 2)) (hbh : bh = (2 * u + 1) * 40 + 8 * (v / 2))
    (hw : w = embVec p lo hi)
    (hlo : ∀ x, lo x = t11 X t8 k (bl + (x 0).val) (x 1).val (x 2).val) (hhi : ∀ x, hi x = t11 X t8 k (bh + (x 0).val) (x 1).val (x 2).val)
    {K : PUnit → Prog (TpuEff nD τ sig (Elt F) Λ₀ .tc) β}
    (hk : Sts A1 A6 (H2 c arg7 (fun r => r < 16 * (40 * k + (a + 1))) (t7 X t8)) A8 A9 A10 A11 A12 R ⊢ wp frame (wpE defs₀ 𝒱 (c : Thread nD τ) bd) E (K ⟨⟩) Q) :
    Sts A1 A6 (H2 c arg7 (fun r => r < 16 * (40 * k + a)) (t7 X t8)) A8 A9 A10 A11 A12 R ⊢ wp frame (wpE defs₀ 𝒱 (c : Thread nD τ) bd) E
      (Prog.lift (.store arg7 (Rect.unit (s := S5120x128) off S16x128.size inb) w Finset.univ hx hm) >>= K) Q := by
  subst hw
  refine store (c := (c : Thread nD τ)) Sts.t7 (fun x _ => ?_) (fun y hy => next16 hoff y hy) hk
  subst hoff
  show _ = t7 X t8 (16 * (40 * k + a) + 1 * (x 0).val) (0 + 1 * (x 1).val)
  have hx16 : (x 0).val < 16 := (x 0).isLt
  obtain ⟨h1, -, h3, h4, -, -⟩ := out_row u hu v hv (x 0).val hx16
  rw [← ha] at h1 h3 h4
  unfold t7
  rw [Nat.one_mul, Nat.one_mul, Nat.zero_add, tokO_shift, ctO_shift, h1, h3, h4]
  rw [embVec_val (L := fun i => t11 X t8 k (bl + i)) (H := fun i => t11 X t8 k (bh + i)) hlo hhi, hp]
  subst hbl hbh
  split <;> rename_i he
  · rw [he, Nat.add_zero]
    rfl
  · rw [show (x 0).val % 2 = 1 by omega]
    rfl

/-- Storing sixteen rows of the normalised block. -/
theorem st6 {off : Fin 2 → ℕ} {inb} {hx} {hm} {w : S16x128.Idx → Elt F .bf16} {a : ℕ} (u v : ℕ) (hu : u < 4) (hv : v < 10) (ha : a = 10 * u + v) (hoff : off = ![16 * (40 * k + a), 0])
    {p : Fin 2} (hp : p.val = v % 2) {lo hi : Vec F S8x2x128 .bf16} {n0 n1 g : Vec F S8x128 .f32} {bl bh ml mh : ℕ} (hbl : bl = 2 * u * 40 + 8 * (v / 2)) (hbh : bh = (2 * u + 1) * 40 + 8 * (v / 2))
    (hml : ml = 2 * u * 8) (hmh : mh = (2 * u + 1) * 8)
    (hw : w = outVec p lo hi n0 n1 g)
    (hlo : ∀ x, lo x = t11 X t8 k (bl + (x 0).val) (x 1).val (x 2).val) (hhi : ∀ x, hi x = t11 X t8 k (bh + (x 0).val) (x 1).val (x 2).val)
    (hn0 : ∀ x, n0 x = t12 X t9 k (ml + (x 0).val) (x 1).val) (hn1 : ∀ x, n1 x = t12 X t9 k (mh + (x 0).val) (x 1).val)
    (hg : ∀ x, g x = t10 (8 * v + (x 0).val) (x 1).val)
    {K : PUnit → Prog (TpuEff nD τ sig (Elt F) Λ₀ .tc) β}
    (hk : Sts A1 (H2 c arg6 (fun r => r < 16 * (40 * k + (a + 1))) (t6 X t8 t9 t10)) A7 A8 A9 A10 A11 A12 R ⊢ wp frame (wpE defs₀ 𝒱 (c : Thread nD τ) bd) E (K ⟨⟩) Q) :
    Sts A1 (H2 c arg6 (fun r => r < 16 * (40 * k + a)) (t6 X t8 t9 t10)) A7 A8 A9 A10 A11 A12 R ⊢ wp frame (wpE defs₀ 𝒱 (c : Thread nD τ) bd) E
      (Prog.lift (.store arg6 (Rect.unit (s := S5120x128) off S16x128.size inb) w Finset.univ hx hm) >>= K) Q := by
  subst hw
  refine store (c := (c : Thread nD τ)) Sts.t6 (fun x _ => ?_) (fun y hy => next16 hoff y hy) hk
  subst hoff
  show _ = t6 X t8 t9 t10 (16 * (40 * k + a) + 1 * (x 0).val) (0 + 1 * (x 1).val)
  have hx16 : (x 0).val < 16 := (x 0).isLt
  obtain ⟨h1, h2, h3, h4, h5, h6⟩ := out_row u hu v hv (x 0).val hx16
  rw [← ha] at h1 h2 h3 h4 h5 h6
  unfold t6
  rw [Nat.one_mul, Nat.one_mul, Nat.zero_add, tokO_shift, ctO_shift, mod8_shift, h3, h4, h5, h6]
  rw [outVec_val (L := fun i => t11 X t8 k (bl + i)) (H := fun i => t11 X t8 k (bh + i)) (N := fun i => t12 X t9 k (ml + i)) (M := fun i => t12 X t9 k (mh + i))
    (G := fun i => t10 (8 * v + i)) hlo hhi hn0 hn1 hg, hp]
  subst hbl hbh hml hmh
  unfold t11 t12
  split <;> rename_i he
  · rw [he, Nat.add_zero] at h1 h2 ⊢
    rw [← h1, ← h2]
  · rw [show (x 0).val % 2 = 1 by omega] at h1 h2 ⊢
    rw [← h1, ← h2]

end Cert.Proof.EmitRules

end
-- ==== Proof.BuildRules.lean ====
/- The steps of a trip of KernelIdeal's table-building loop, as rules: reading a column tile of the codes, and storing a pair of tiles
   among the table's rows and the inverse norms among theirs, each with what the buffers hold before and after. -/
module

public import proofs.«01_k».proof.Proof.EmitRules
public import proofs.«01_k».proof.Proof.RingBuf

@[expose] public section

set_option maxRecDepth 16384

noncomputable section

namespace Cert.Proof.BuildRules

open Cert.KernelIdeal Cert.KernelIdeal.Gen Cert.Proof.Hoare Cert.Proof.Target Cert.Proof.EmitRules
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

/-- Column tile `ct` of the rows of block `k` of the table `e`. -/
def eT (e : ℕ → ℕ → F .bf16) (k ct : ℕ) : FVec F S128x128 .bf16 := fun x => e (128 * k + (x 0).val) (128 * ct + (x 1).val)
/-- The sum of the squares of the first `n` column tiles, lane by lane. -/
def accN (f : ℕ → FVec F S128x128 .bf16) : ℕ → FVec F S128x128 .f32
  | 0 => broadcast S128x128 (Scalar.ofBits .f32 0x00000000#32)
  | n + 1 => addf (accN f n) (mulf (extf .f32 (f n) bitsLt_bf16_f32) (extf .f32 (f n) bitsLt_bf16_f32))
theorem accStep {f : ℕ → FVec F S128x128 .bf16} {n : ℕ} {a : FVec F S128x128 .f32} {A : FVec F S128x128 .bf16} (h : a = accN f n) (hA : A = f n) :
    addf a (mulf (extf .f32 A bitsLt_bf16_f32) (extf .f32 A bitsLt_bf16_f32)) = accN f (n + 1) := by
  subst h hA
  rfl
/-- The table as the words hold it: row, half, lane. -/
def t8 (e : ℕ → ℕ → F .bf16) (R h l : ℕ) : F .bf16 := e (R / 10) (128 * (4 * (R % 10 / 2) + R % 10 % 2 + 2 * h) + l)
/-- The inverse norms. -/
def t9 (e : ℕ → ℕ → F .bf16) (R l : ℕ) : F .f32 := k0_pay98 (accN (eT e (R / 256)) 20) (ix2 (Fin.ofNat 128 (R / 2)) (Fin.ofNat 128 l))
/-- The rows of the table stored before step `n` of trip `k`, and of the inverse norms. -/
def D8 (k n R : ℕ) : Prop := R < 1280 * k ∨ (R < 1280 * (k + 1) ∧ 2 * (R % 10) + (R / 10) % 2 < n)
def D9 (k n R : ℕ) : Prop := R < 256 * k ∨ (R < 256 * (k + 1) ∧ R % 2 < n)

/-- The rows of parity `p` of two tiles, paired. -/
def pairVec (p : Fin 2) (A B : FVec F S128x128 .bf16) : Vec F S64x2x128 .bf16 :=
  interleaveRows S64x2x128 (shapeCast S64x1x128 (rowsOfParity p S64x128 A bitcasts_S128x128_w16_S64x128_w32) shapeCasts_S64x128_S64x1x128)
    (shapeCast S64x1x128 (rowsOfParity p S64x128 B bitcasts_S128x128_w16_S64x128_w32) shapeCasts_S64x128_S64x1x128) bitcasts_S64x2x128_w16_S64x1x128_w32
theorem pairVec_eT (p : Fin 2) (e : ℕ → ℕ → F .bf16) (k a b : ℕ) (x : S64x2x128.Idx) :
    pairVec p (eT e k a) (eT e k b) x = e (128 * k + (2 * (x 0).val + p.val)) (128 * (if (x 1).val = 0 then a else b) + (x 2).val) := by
  unfold pairVec
  have hx1 : (x 1).val < 2 := (x 1).isLt
  have hm : (x 1).val % 2 = (x 1).val := by omega
  fin_cases p <;> pointwise <;> rw [hm] <;> split <;> rfl

variable {𝒱 : Variants} {c : Dev nD} {bd : Option 𝒱.V} {E : Set ℕ} {β : Type}
  {Q : β → sProp (MT nD τ sig Unit (Elt F) ℕ (Pipeline.UD sig nD τ) ℕ)} {T : S128x2560.Idx → Elt F .i8}
  {A1 A6 A7 A8 A9 A10 A11 A12 R : sProp (MT nD τ sig Unit (Elt F) ℕ (Pipeline.UD sig nD τ) ℕ)}
  {arg8 : Memref sig .tc .vmem S79360x2x128 .bf16} {arg9 : Memref sig .tc .vmem S15872x128 .f32} {arg10 : Memref sig .tc .vmem S80x128 .f32} {sl : Memref sig .tc .vmem S128x2560 .i8}
  {e : ℕ → ℕ → F .bf16} {k : ℕ}

/-- Of a block's codes `T`, with scales `s` and zeros `z`: every column tile, dequantised, is the table's. -/
def Deq (T : S128x2560.Idx → Elt F .i8) (s : FVec F S128x128 .bf16) (z : FVec F S128x128 .f32) (e : ℕ → ℕ → F .bf16) (k : ℕ) : Prop :=
  ∀ (ct : ℕ) (hct : ct < 20) (v : Vec F S128x128 .i8), (∀ x, v x = T (ix2 (x 0) ⟨128 * ct + (x 1).val, by have h : (x 1).val < 128 := (x 1).isLt; omega⟩)) → k0_pay16 s z v = eT e k ct

/-- Reading a column tile of the codes. -/
theorem ldCode {b : ℕ} {inb} {hl} (ct : ℕ) (hb : b = 128 * ct) (hct : ct < 20) {s : FVec F S128x128 .bf16} {z : FVec F S128x128 .f32} (hE : Deq T s z e k)
    {K : (S128x128.Idx → Elt F .i8) → Prog (TpuEff nD τ sig (Elt F) Λ₀ .tc) β}
    (hk : ∀ v : S128x128.Idx → Elt F .i8, k0_pay16 s z v = eT e k ct → Sts A1 A6 (Ready (c : Thread nD τ) sl T) A8 A9 A10 A11 A12 R ⊢ wp frame (wpE defs₀ 𝒱 (c : Thread nD τ) bd) E (K v) Q) :
    Sts A1 A6 (Ready (c : Thread nD τ) sl T) A8 A9 A10 A11 A12 R ⊢ wp frame (wpE defs₀ 𝒱 (c : Thread nD τ) bd) E (Prog.lift (.load sl (Rect.unit (s := S128x2560) ![0, b] S128x128.size inb).toLoadRect hl) >>= K) Q := by
  subst hb
  refine load_ready (c := (c : Thread nD τ)) Sts.t7 fun v hv => hk v (hE ct hct v fun x => ?_)
  rw [hv]
  show T _ = T _
  congr 1
  funext a
  fin_cases a
  · exact Fin.ext (show 0 + 1 * (x 0).val = (x 0).val by omega)
  · exact Fin.ext (show 128 * ct + 1 * (x 1).val = 128 * ct + (x 1).val by omega)

/-- Storing the rows of one parity of a pair of tiles. -/
theorem st8 {off : Fin 3 → ℕ} {inb} {sp} {hx} {hm} {w : S64x2x128.Idx → Elt F .bf16} {n : ℕ} (j : ℕ) (p : Fin 2) (hj : j < 10) (hn : n = 2 * j + p.val) (hoff : off = ![1280 * k + 10 * p.val + j, 0, 0])
    {A B : FVec F S128x128 .bf16} (hw : w = pairVec p A B) {a b : ℕ} (ha : a = 4 * (j / 2) + j % 2) (hb : b = 4 * (j / 2) + j % 2 + 2) (hA : A = eT e k a) (hB : B = eT e k b)
    {K : PUnit → Prog (TpuEff nD τ sig (Elt F) Λ₀ .tc) β}
    (hk : Sts A1 A6 A7 (H3 c arg8 (D8 k (n + 1)) (t8 e)) A9 A10 A11 A12 R ⊢ wp frame (wpE defs₀ 𝒱 (c : Thread nD τ) bd) E (K ⟨⟩) Q) :
    Sts A1 A6 A7 (H3 c arg8 (D8 k n) (t8 e)) A9 A10 A11 A12 R ⊢ wp frame (wpE defs₀ 𝒱 (c : Thread nD τ) bd) E
      (Prog.lift (.store arg8 ⟨(⟨off, S64x2x128.size, ![20, 1, 1], inb⟩ : LoadRect S79360x2x128), sp⟩ w Finset.univ hx hm) >>= K) Q := by
  subst hw hoff hA hB
  have hp2 : p.val < 2 := p.isLt
  refine store (c := (c : Thread nD τ)) Sts.t8 (fun x _ => ?_) (fun y hy => ?_) hk
  · have hx0 : (x 0).val < 64 := (x 0).isLt
    have hx1 : (x 1).val < 2 := (x 1).isLt
    rw [pairVec_eT]
    show _ = t8 e (1280 * k + 10 * p.val + j + 20 * (x 0).val) (0 + 1 * (x 1).val) (0 + 1 * (x 2).val)
    unfold t8
    have e1 : (1280 * k + 10 * p.val + j + 20 * (x 0).val) / 10 = 128 * k + (2 * (x 0).val + p.val) := by omega
    have e2 : (1280 * k + 10 * p.val + j + 20 * (x 0).val) % 10 = j := by omega
    rw [e1, e2, ha, hb]
    congr 2
    · congr 1
      split <;> omega
    · omega
  · unfold D8 at hy ⊢
    by_cases h : (y 0).val < 1280 * k ∨ ((y 0).val < 1280 * (k + 1) ∧ 2 * ((y 0).val % 10) + ((y 0).val / 10) % 2 < n)
    · exact .inl h
    · right
      have h1 : (y 0).val % 10 = j := by omega
      have h2 : (y 0).val / 10 % 2 = p.val := by omega
      have hlo : 1280 * k ≤ (y 0).val := by omega
      have hhi : (y 0).val < 1280 * (k + 1) := by omega
      have hr : ∃ q < 64, (y 0).val = 1280 * k + 10 * p.val + j + 20 * q := ⟨((y 0).val - 1280 * k) / 20, by omega, by omega⟩
      obtain ⟨q, hq, hr⟩ := hr
      refine ⟨ix3 ⟨q, hq⟩ (y 1) (y 2), ?_⟩
      funext b
      fin_cases b
      · exact Fin.ext hr.symm
      · exact Fin.ext (show 0 + 1 * (y 1).val = (y 1).val by omega)
      · exact Fin.ext (show 0 + 1 * (y 2).val = (y 2).val by omega)

/-- Storing a block's inverse norms in the rows of one parity. -/
theorem st9 {off : Fin 2 → ℕ} {inb} {sp} {hx} {hm} {w : S128x128.Idx → Elt F .f32} (n : ℕ) (hn : n < 2) (hoff : off = ![256 * k + n, 0])
    (hw : w = k0_pay98 (accN (eT e k) 20))
    {K : PUnit → Prog (TpuEff nD τ sig (Elt F) Λ₀ .tc) β}
    (hk : Sts A1 A6 A7 A8 (H2 c arg9 (D9 k (n + 1)) (t9 e)) A10 A11 A12 R ⊢ wp frame (wpE defs₀ 𝒱 (c : Thread nD τ) bd) E (K ⟨⟩) Q) :
    Sts A1 A6 A7 A8 (H2 c arg9 (D9 k n) (t9 e)) A10 A11 A12 R ⊢ wp frame (wpE defs₀ 𝒱 (c : Thread nD τ) bd) E
      (Prog.lift (.store arg9 ⟨(⟨off, S128x128.size, ![2, 1], inb⟩ : LoadRect S15872x128), sp⟩ w Finset.univ hx hm) >>= K) Q := by
  subst hw hoff
  refine store (c := (c : Thread nD τ)) Sts.t9 (fun x _ => ?_) (fun y hy => ?_) hk
  · have hx0 : (x 0).val < 128 := (x 0).isLt
    have hx1 : (x 1).val < 128 := (x 1).isLt
    show _ = t9 e (256 * k + n + 2 * (x 0).val) (0 + 1 * (x 1).val)
    unfold t9
    rw [show (256 * k + n + 2 * (x 0).val) / 256 = k by omega]
    congr 1
    funext b
    fin_cases b
    · exact Fin.ext (show (x 0).val = (256 * k + n + 2 * (x 0).val) / 2 % 128 by omega)
    · exact Fin.ext (show (x 1).val = (0 + 1 * (x 1).val) % 128 by omega)
  · unfold D9 at hy ⊢
    by_cases h : (y 0).val < 256 * k ∨ ((y 0).val < 256 * (k + 1) ∧ (y 0).val % 2 < n)
    · exact .inl h
    · right
      have hr : ∃ q < 128, (y 0).val = 256 * k + n + 2 * q := ⟨((y 0).val - 256 * k) / 2, by omega, by omega⟩
      obtain ⟨q, hq, hr⟩ := hr
      refine ⟨ix2 ⟨q, hq⟩ (y 1), ?_⟩
      funext b
      fin_cases b
      · exact Fin.ext hr.symm
      · exact Fin.ext (show 0 + 1 * (y 1).val = (y 1).val by omega)

/-- The gain: four equal rows to a column tile of the weights. -/
def t10 (W : ℕ → F .bf16) (R l : ℕ) : F .f32 := extS (W (128 * (R / 4) + l))
/-- Storing the four rows of a column tile. -/
theorem st10 {b n : ℕ} {inb} {hx} {hm} {w : S4x128.Idx → Elt F .f32} {W : ℕ → F .bf16} (hb : b = 4 * n) (hw : ∀ x, w x = extS (W (128 * n + (x 1).val)))
    {K : PUnit → Prog (TpuEff nD τ sig (Elt F) Λ₀ .tc) β}
    (hk : Sts A1 A6 A7 A8 A9 (H2 c arg10 (fun r => r < 4 * (n + 1)) (t10 W)) A11 A12 R ⊢ wp frame (wpE defs₀ 𝒱 (c : Thread nD τ) bd) E (K ⟨⟩) Q) :
    Sts A1 A6 A7 A8 A9 (H2 c arg10 (fun r => r < 4 * n) (t10 W)) A11 A12 R ⊢ wp frame (wpE defs₀ 𝒱 (c : Thread nD τ) bd) E
      (Prog.lift (.store arg10 (Rect.unit (s := S80x128) ![b, 0] S4x128.size inb) w Finset.univ hx hm) >>= K) Q := by
  subst hb
  refine store (c := (c : Thread nD τ)) Sts.t10 (fun x _ => ?_) (fun y hy => ?_) hk
  · have hx0 : (x 0).val < 4 := (x 0).isLt
    rw [hw]
    show _ = t10 W (4 * n + 1 * (x 0).val) (0 + 1 * (x 1).val)
    unfold t10
    congr 2
    omega
  · by_cases h : (y 0).val < 4 * n
    · exact .inl h
    · refine .inr ⟨ix2 ⟨(y 0).val - 4 * n, by omega⟩ (y 1), ?_⟩
      funext b
      fin_cases b
      · exact Fin.ext (show 4 * n + 1 * ((y 0).val - 4 * n) = (y 0).val by omega)
      · exact Fin.ext (show 0 + 1 * (y 1).val = (y 1).val by omega)
/-- The four rows of a column tile of the weights. -/
theorem gainRow {W : ℕ → F .bf16} {v63 : Vec F S1x2560 .bf16} (hv : ∀ x, v63 x = W (x 1).val) (n : ℕ) (hn : n < 20) (hs : S1x2560.Slices ![0, 128 * n] S1x128) (x : S4x128.Idx) :
    shapeCast S4x128 (broadcastTo S4x128 (shapeCast S1x128 (extractStridedSlice S1x128 ![0, 128 * n] (k0_pay101 v63) hs) shapeCasts_S1x128_S1x128) broadcasts_S1x128_S4x128) shapeCasts_S4x128_S4x128 x
      = extS (W (128 * n + (x 1).val)) := by
  pointwise [k0_pay101]
  rw [hv]
  rfl

theorem trips1 : k0_t1_loop.trips = 62 := by decide +kernel
theorem off5_eq (k : Fin k0_t1_loop.trips) (j : Fin 10) : k0_off5 k (BitVec.ofNat 32 j.val) = ![1280 * k.val + 10 * (0 : Fin 2).val + j.val, 0, 0] := by
  revert k j
  decide +kernel
theorem off6_eq (k : Fin k0_t1_loop.trips) (j : Fin 10) : k0_off6 k (BitVec.ofNat 32 j.val) = ![1280 * k.val + 10 * (1 : Fin 2).val + j.val, 0, 0] := by
  revert k j
  decide +kernel
theorem off7_eq (k : Fin k0_t1_loop.trips) : k0_off7 k = ![256 * k.val + 0, 0] := by
  revert k
  decide +kernel
theorem off8_eq (k : Fin k0_t1_loop.trips) : k0_off8 k = ![256 * k.val + 1, 0] := by
  revert k
  decide +kernel
theorem off4_eq (k : Fin k0_t1_loop.trips) : k0_off4 k = ![k.val, 0] := by
  revert k
  decide +kernel

end Cert.Proof.BuildRules

end
-- ==== Proof.BuildParts.lean ====
/- What the parts of a trip of KernelIdeal's table-building loop read and store. -/
module

public import proofs.«01_k».proof.Proof.BuildRules
public import proofs.«01_k».proof.Proof.KernelIdealRing

@[expose] public section

set_option maxRecDepth 16384

noncomputable section

namespace Cert.Proof.BuildParts

open Cert.KernelIdeal Cert.KernelIdeal.Gen Cert.Proof.Hoare Cert.Proof.Target Cert.Proof.EmitRules Cert.Proof.BuildRules
open Cert.Proof.KernelIdealRing (slot)
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

/-- The building loop in trip `k`, `n` of whose twenty stores into the table and `m` of whose two stores of inverse norms are done. -/
abbrev SB (c : Dev nD) (arg3 arg4 : Memref sig .tc .vmem S62x128 .f32) (arg8 : Memref sig .tc .vmem S79360x2x128 .bf16) (arg9 : Memref sig .tc .vmem S15872x128 .f32)
    (sl : Memref sig .tc .vmem S128x2560 .i8) (X3 X4 : S62x128.Idx → Elt F .f32) (T : S128x2560.Idx → Elt F .i8) (e : ℕ → ℕ → F .bf16) (k n m : ℕ) (B10 B11 B12 R : sProp 𝕄) : sProp 𝕄 :=
  Sts (Holds (c : Thread nD τ) arg3 (fun _ => True) X3) (Holds (c : Thread nD τ) arg4 (fun _ => True) X4) (Ready (c : Thread nD τ) sl T)
    (H3 c arg8 (D8 k n) (t8 e)) (H2 c arg9 (D9 k m) (t9 e)) B10 B11 B12 R

theorem row_idx {k : Fin k0_t1_loop.trips} {inb} (x : S1x128.Idx) {X : S62x128.Idx → Elt F .f32} :
    X ((Rect.unit (s := S62x128) (k0_off4 k) S1x128.size inb).toLoadRect.idx x) = X (ix2 (k.cast trips1) (x 1)) := by
  congr 1
  have h0 : (x 0).val = 0 := by have h : (x 0).val < 1 := (x 0).isLt; omega
  funext b
  fin_cases b
  · refine Fin.ext (?_ : k0_off4 k 0 + 1 * (x 0).val = k.val)
    rw [off4_eq, h0]; rfl
  · refine Fin.ext (?_ : k0_off4 k 1 + 1 * (x 1).val = (x 1).val)
    rw [off4_eq]; show 0 + 1 * (x 1).val = _; omega

variable {𝒱 : Variants} {c : Dev nD} {bd : Option 𝒱.V} {β : Type}
  {Q : β → sProp (MT nD τ sig Unit (Elt F) ℕ (Pipeline.UD sig nD τ) ℕ)} {T : S128x2560.Idx → Elt F .i8} {X3 X4 : S62x128.Idx → Elt F .f32} {e : ℕ → ℕ → F .bf16}
  {B10 B11 B12 R : sProp (MT nD τ sig Unit (Elt F) ℕ (Pipeline.UD sig nD τ) ℕ)}
variable (i : grid0.Coords) (arg1 : Memref sig .tc .smem S1x1x256 .i32) (harg1 : arg1.IsWhole) (arg2 : Memref sig .tc .hbm S7936x2560 .i8) (harg2 : arg2.IsWhole) (arg3 : Memref sig .tc .vmem S62x128 .f32) (harg3 : arg3.IsWhole) (arg4 : Memref sig .tc .vmem S62x128 .f32) (harg4 : arg4.IsWhole) (arg5 : Memref sig .tc .vmem S1x2560 .bf16) (harg5 : arg5.IsWhole) (arg6 : Memref sig .tc .vmem S5120x128 .bf16) (harg6 : arg6.IsWhole) (arg7 : Memref sig .tc .vmem S5120x128 .bf16) (harg7 : arg7.IsWhole) (arg8 : Memref sig .tc .vmem S79360x2x128 .bf16) (harg8 : arg8.IsWhole) (arg9 : Memref sig .tc .vmem S15872x128 .f32) (harg9 : arg9.IsWhole) (arg10 : Memref sig .tc .vmem S80x128 .f32) (harg10 : arg10.IsWhole) (arg11 : Memref sig .tc .vmem S320x2x128 .bf16) (harg11 : arg11.IsWhole) (arg12 : Memref sig .tc .vmem S64x128 .f32) (harg12 : arg12.IsWhole) (arg13 : Memref sig .tc .vmem S8x128x2560 .i8) (harg13 : arg13.IsWhole) (arg14 : DmaSems sig S8)

theorem part1 (k0_h1 : k0_cond1 i = 1#1) (c0_i32_48 : BitVec 32) (c1_i32_49 : BitVec 32) (k0_t1 : Fin k0_t1_loop.trips) {St : sProp 𝕄} {src : Memref sig .tc .hbm S128x2560 .i8} {dst : Memref sig .tc .vmem S128x2560 .i8} {sm : DmaSem sig} {q} {X}
    (esm : ((arg14.slice (Rect.unit (s := S8) (k0_off1 k0_t1) S1.size (k0_off1_inb i k0_t1 k0_h1))).squeeze S_ squeezes_S1_S_).sem = sm) (edst : slot i arg13 k0_h1 k0_t1 = dst)
    (hst : St ⊢ iprop((Busy (c : Thread nD τ) src dst sm () q X : sProp 𝕄) ∗ (Owes (c : Thread nD τ) : sProp 𝕄) ∗ (((Ready (c : Thread nD τ) dst (src.view.read (Elt F) X) : sProp 𝕄)
      ∗ semVal ((c : Thread nD τ), .dma sm) 0 ∗ (Part (c : Thread nD τ) src q X : sProp 𝕄) ∗ (Owes (c : Thread nD τ) : sProp 𝕄)) -∗ (SB c arg3 arg4 arg8 arg9 dst X3 X4 (src.view.read (Elt F) X) e k0_t1.val 0 0 B10 B11 B12 R))))
    {K : (Σ' (arg15 : BitVec 32) (v219 : FVec F S128x128 .bf16), FVec F S128x128 .f32) → Prog (TpuEff nD τ sig (Elt F) Λ₀ .tc) β}
    (hX : ∀ v214 v221 : Vec F S1x128 .f32, (∀ x : S1x128.Idx, v214 x = X3 (ix2 (k0_t1.cast trips1) (x 1))) → (∀ x : S1x128.Idx, v221 x = X4 (ix2 (k0_t1.cast trips1) (x 1))) → Deq (src.view.read (Elt F) X) (k0_pay13 v214) (k0_pay14 v221) e k0_t1.val)
    (hk : ∀ arg15 v219 v225, Deq (src.view.read (Elt F) X) v219 v225 e k0_t1.val → SB c arg3 arg4 arg8 arg9 (slot i arg13 k0_h1 k0_t1) X3 X4 (src.view.read (Elt F) X) e k0_t1.val 0 0 B10 B11 B12 R ⊢ wp frame (wpE defs₀ 𝒱 (c : Thread nD τ) bd) Set.univ (K ⟨arg15, v219, v225⟩) Q) :
    St ⊢ wp frame (wpE defs₀ 𝒱 (c : Thread nD τ) bd) Set.univ (k0_part1 (F := F) i arg1 harg1 arg2 harg2 arg3 harg3 arg4 harg4 arg5 harg5 arg6 harg6 arg7 harg7 arg8 harg8 arg9 harg9 arg10 harg10 arg11 harg11 arg12 harg12 arg13 harg13 arg14 k0_h1 c0_i32_48 c1_i32_49 k0_t1 >>= K) Q := by
  rw [k0_part1_eq_skeleton]
  unfold k0_part1_skel
  subst esm edst
  refine assoc (waitCopy () rfl hst ?_)
  refine assoc (load Sts.t1 fun v214 h214 => ?_)
  refine assoc (load Sts.t6 fun v221 h221 => ?_)
  refine ret (hk _ _ _ (hX v214 v221 (fun x => ?_) fun x => ?_))
  · exact (h214 x trivial).trans (row_idx x)
  · exact (h221 x trivial).trans (row_idx x)

theorem part2 (k0_h1 : k0_cond1 i = 1#1) (k0_t1 : Fin k0_t1_loop.trips) (v219 : FVec F S128x128 .bf16) (v225 : FVec F S128x128 .f32) (hE : Deq T v219 v225 e k0_t1.val) (arg15 : BitVec 32)
    {K : (Σ' (v226 : FVec F S128x128 .bf16) (v227 : BitVec 32) (v240 : FVec F S128x128 .bf16) (v246 : FVec F S128x128 .bf16) (v252 : FVec F S128x128 .bf16) (v264 : FVec F S128x128 .f32) (v265_lo : FVec F S64x128 .bf16) (v265_hi : FVec F S64x128 .bf16), FVec F S64x128 .bf16) → Prog (TpuEff nD τ sig (Elt F) Λ₀ .tc) β}
    (hk : ∀ (v227 : BitVec 32) (v237 : Vec F S128x128 .i8) (hv237 : k0_pay16 v219 v225 v237 = eT e k0_t1.val 1) (v243 : Vec F S128x128 .i8) (hv243 : k0_pay16 v219 v225 v243 = eT e k0_t1.val 2) (v249 : Vec F S128x128 .i8) (hv249 : k0_pay16 v219 v225 v249 = eT e k0_t1.val 3) (v264 : FVec F S128x128 .f32) (hv264 : v264 = accN (eT e k0_t1.val) 4) (v231 : Vec F S128x128 .i8) (hv231 : k0_pay16 v219 v225 v231 = eT e k0_t1.val 0), SB c arg3 arg4 arg8 arg9 (slot i arg13 k0_h1 k0_t1) X3 X4 T e k0_t1.val 0 0 B10 B11 B12 R ⊢ wp frame (wpE defs₀ 𝒱 (c : Thread nD τ) bd) Set.univ (K ⟨k0_pay15 v225, v227, k0_pay17 v219 v225 v237, k0_pay18 v219 v225 v243, k0_pay19 v219 v225 v249, v264, k0_pay21 v219 v225 v231, k0_pay22 v219 v225 v231, k0_pay23 v219 v225 v237⟩) Q) :
    SB c arg3 arg4 arg8 arg9 (slot i arg13 k0_h1 k0_t1) X3 X4 T e k0_t1.val 0 0 B10 B11 B12 R ⊢ wp frame (wpE defs₀ 𝒱 (c : Thread nD τ) bd) Set.univ (k0_part2 (F := F) i arg1 harg1 arg2 harg2 arg3 harg3 arg4 harg4 arg5 harg5 arg6 harg6 arg7 harg7 arg8 harg8 arg9 harg9 arg10 harg10 arg11 harg11 arg12 harg12 arg13 harg13 arg14 k0_h1 k0_t1 arg15 v219 v225 >>= K) Q := by
  rw [k0_part2_eq_skeleton]
  unfold k0_part2_skel
  refine assoc (ldCode 0 rfl (by decide) hE fun v231 hv231 => ?_)
  refine assoc (ldCode 1 rfl (by decide) hE fun v237 hv237 => ?_)
  refine assoc (ldCode 2 rfl (by decide) hE fun v243 hv243 => ?_)
  refine assoc (ldCode 3 rfl (by decide) hE fun v249 hv249 => ?_)
  exact ret (hk _ _ hv237 _ hv243 _ hv249 _ (accStep (accStep (accStep (accStep (n := 0) rfl hv231) hv237) hv243) hv249) _ hv231)

theorem part3 (k0_h1 : k0_cond1 i = 1#1) (k0_t1 : Fin k0_t1_loop.trips) (v219 : FVec F S128x128 .bf16) (v225 : FVec F S128x128 .f32) (hE : Deq T v219 v225 e k0_t1.val) (v227 : BitVec 32) (v237 : Vec F S128x128 .i8) (hv237 : k0_pay16 v219 v225 v237 = eT e k0_t1.val 1) (v243 : Vec F S128x128 .i8) (hv243 : k0_pay16 v219 v225 v243 = eT e k0_t1.val 2) (v249 : Vec F S128x128 .i8) (hv249 : k0_pay16 v219 v225 v249 = eT e k0_t1.val 3) (v231 : Vec F S128x128 .i8) (hv231 : k0_pay16 v219 v225 v231 = eT e k0_t1.val 0)
    {K : (Σ' (v266_hi : FVec F S64x128 .bf16) (v268_hi : FVec F S64x128 .bf16) (v304_lo : FVec F S64x128 .bf16), FVec F S64x128 .bf16) → Prog (TpuEff nD τ sig (Elt F) Λ₀ .tc) β}
    (hk : SB c arg3 arg4 arg8 arg9 (slot i arg13 k0_h1 k0_t1) X3 X4 T e k0_t1.val 2 0 B10 B11 B12 R ⊢ wp frame (wpE defs₀ 𝒱 (c : Thread nD τ) bd) Set.univ (K ⟨k0_pay24 (k0_pay17 v219 v225 v237), k0_pay25 (k0_pay19 v219 v225 v249), k0_pay28 (k0_pay23 v219 v225 v237), k0_pay29 (k0_pay19 v219 v225 v249)⟩) Q) :
    SB c arg3 arg4 arg8 arg9 (slot i arg13 k0_h1 k0_t1) X3 X4 T e k0_t1.val 0 0 B10 B11 B12 R ⊢ wp frame (wpE defs₀ 𝒱 (c : Thread nD τ) bd) Set.univ (k0_part3 (F := F) i arg1 harg1 arg2 harg2 arg3 harg3 arg4 harg4 arg5 harg5 arg6 harg6 arg7 harg7 arg8 harg8 arg9 harg9 arg10 harg10 arg11 harg11 arg12 harg12 arg13 harg13 arg14 k0_h1 k0_t1 v227 (k0_pay17 v219 v225 v237) (k0_pay18 v219 v225 v243) (k0_pay19 v219 v225 v249) (k0_pay21 v219 v225 v231) (k0_pay22 v219 v225 v231) (k0_pay23 v219 v225 v237) >>= K) Q := by
  rw [k0_part3_eq_skeleton]
  unfold k0_part3_skel
  refine assoc (load Sts.t8 fun v281_raw _ => ?_)
  refine assoc (st8 0 0 (by decide) rfl (k0_off5_eq k0_t1 0) rfl rfl rfl hv231 hv243 ?_)
  refine assoc (load Sts.t8 fun v287_raw _ => ?_)
  refine assoc (st8 0 1 (by decide) rfl (k0_off6_eq k0_t1 0) rfl rfl rfl hv231 hv243 ?_)
  refine assoc (load Sts.t8 fun v302_raw _ => ?_)
  exact ret (hk)

theorem part4 (k0_h1 : k0_cond1 i = 1#1) (k0_t1 : Fin k0_t1_loop.trips) (v219 : FVec F S128x128 .bf16) (v225 : FVec F S128x128 .f32) (hE : Deq T v219 v225 e k0_t1.val) (v227 : BitVec 32) (v264 : FVec F S128x128 .f32) (hv264 : v264 = accN (eT e k0_t1.val) 4) (v237 : Vec F S128x128 .i8) (hv237 : k0_pay16 v219 v225 v237 = eT e k0_t1.val 1) (v249 : Vec F S128x128 .i8) (hv249 : k0_pay16 v219 v225 v249 = eT e k0_t1.val 3)
    {K : (Σ' (v316 : FVec F S128x128 .bf16) (v322 : FVec F S128x128 .bf16) (v328 : FVec F S128x128 .bf16) (v334 : FVec F S128x128 .bf16), FVec F S128x128 .f32) → Prog (TpuEff nD τ sig (Elt F) Λ₀ .tc) β}
    (hk : ∀ (v313 : Vec F S128x128 .i8) (hv313 : k0_pay16 v219 v225 v313 = eT e k0_t1.val 4) (v319 : Vec F S128x128 .i8) (hv319 : k0_pay16 v219 v225 v319 = eT e k0_t1.val 5) (v325 : Vec F S128x128 .i8) (hv325 : k0_pay16 v219 v225 v325 = eT e k0_t1.val 6) (v331 : Vec F S128x128 .i8) (hv331 : k0_pay16 v219 v225 v331 = eT e k0_t1.val 7) (v337 : FVec F S128x128 .f32) (hv337 : v337 = accN (eT e k0_t1.val) 5), SB c arg3 arg4 arg8 arg9 (slot i arg13 k0_h1 k0_t1) X3 X4 T e k0_t1.val 4 0 B10 B11 B12 R ⊢ wp frame (wpE defs₀ 𝒱 (c : Thread nD τ) bd) Set.univ (K ⟨k0_pay32 v219 (k0_pay15 v225) v313, k0_pay33 v219 (k0_pay15 v225) v319, k0_pay34 v219 (k0_pay15 v225) v325, k0_pay35 v219 (k0_pay15 v225) v331, v337⟩) Q) :
    SB c arg3 arg4 arg8 arg9 (slot i arg13 k0_h1 k0_t1) X3 X4 T e k0_t1.val 2 0 B10 B11 B12 R ⊢ wp frame (wpE defs₀ 𝒱 (c : Thread nD τ) bd) Set.univ (k0_part4 (F := F) i arg1 harg1 arg2 harg2 arg3 harg3 arg4 harg4 arg5 harg5 arg6 harg6 arg7 harg7 arg8 harg8 arg9 harg9 arg10 harg10 arg11 harg11 arg12 harg12 arg13 harg13 arg14 k0_h1 k0_t1 v219 (k0_pay15 v225) v227 v264 (k0_pay24 (k0_pay17 v219 v225 v237)) (k0_pay25 (k0_pay19 v219 v225 v249)) (k0_pay28 (k0_pay23 v219 v225 v237)) (k0_pay29 (k0_pay19 v219 v225 v249)) >>= K) Q := by
  rw [k0_part4_eq_skeleton]
  unfold k0_part4_skel
  refine assoc (st8 1 0 (by decide) rfl (k0_off5_eq k0_t1 1) rfl rfl rfl hv237 hv249 ?_)
  refine assoc (load Sts.t8 fun v308_raw _ => ?_)
  refine assoc (st8 1 1 (by decide) rfl (k0_off6_eq k0_t1 1) rfl rfl rfl hv237 hv249 ?_)
  refine assoc (ldCode 4 rfl (by decide) hE fun v313 hv313 => ?_)
  refine assoc (ldCode 5 rfl (by decide) hE fun v319 hv319 => ?_)
  refine assoc (ldCode 6 rfl (by decide) hE fun v325 hv325 => ?_)
  refine assoc (ldCode 7 rfl (by decide) hE fun v331 hv331 => ?_)
  exact ret (hk _ hv313 _ hv319 _ hv325 _ hv331 _ (accStep hv264 hv313))

theorem part5 (k0_h1 : k0_cond1 i = 1#1) (k0_t1 : Fin k0_t1_loop.trips) (v219 : FVec F S128x128 .bf16) (v225 : FVec F S128x128 .f32) (hE : Deq T v219 v225 e k0_t1.val) (v227 : BitVec 32) (v313 : Vec F S128x128 .i8) (hv313 : k0_pay16 v219 v225 v313 = eT e k0_t1.val 4) (v319 : Vec F S128x128 .i8) (hv319 : k0_pay16 v219 v225 v319 = eT e k0_t1.val 5) (v325 : Vec F S128x128 .i8) (hv325 : k0_pay16 v219 v225 v325 = eT e k0_t1.val 6) (v331 : Vec F S128x128 .i8) (hv331 : k0_pay16 v219 v225 v331 = eT e k0_t1.val 7) (v337 : FVec F S128x128 .f32) (hv337 : v337 = accN (eT e k0_t1.val) 5)
    {K : (Σ' (v346 : FVec F S128x128 .f32) (v348_lo : FVec F S64x128 .bf16) (v348_hi : FVec F S64x128 .bf16) (v350_lo : FVec F S64x128 .bf16) (v350_hi : FVec F S64x128 .bf16), BitVec 32) → Prog (TpuEff nD τ sig (Elt F) Λ₀ .tc) β}
    (hk : ∀ (v346 : FVec F S128x128 .f32) (hv346 : v346 = accN (eT e k0_t1.val) 8) (c_m65536_i32_152 : BitVec 32), SB c arg3 arg4 arg8 arg9 (slot i arg13 k0_h1 k0_t1) X3 X4 T e k0_t1.val 6 0 B10 B11 B12 R ⊢ wp frame (wpE defs₀ 𝒱 (c : Thread nD τ) bd) Set.univ (K ⟨v346, k0_pay38 (k0_pay33 v219 (k0_pay15 v225) v319), k0_pay39 (k0_pay33 v219 (k0_pay15 v225) v319), k0_pay40 (k0_pay35 v219 (k0_pay15 v225) v331), k0_pay41 (k0_pay35 v219 (k0_pay15 v225) v331), c_m65536_i32_152⟩) Q) :
    SB c arg3 arg4 arg8 arg9 (slot i arg13 k0_h1 k0_t1) X3 X4 T e k0_t1.val 4 0 B10 B11 B12 R ⊢ wp frame (wpE defs₀ 𝒱 (c : Thread nD τ) bd) Set.univ (k0_part5 (F := F) i arg1 harg1 arg2 harg2 arg3 harg3 arg4 harg4 arg5 harg5 arg6 harg6 arg7 harg7 arg8 harg8 arg9 harg9 arg10 harg10 arg11 harg11 arg12 harg12 arg13 harg13 arg14 k0_h1 k0_t1 v227 (k0_pay32 v219 (k0_pay15 v225) v313) (k0_pay33 v219 (k0_pay15 v225) v319) (k0_pay34 v219 (k0_pay15 v225) v325) (k0_pay35 v219 (k0_pay15 v225) v331) v337 >>= K) Q := by
  rw [k0_part5_eq_skeleton]
  unfold k0_part5_skel
  refine assoc (load Sts.t8 fun v363_raw _ => ?_)
  refine assoc (st8 2 0 (by decide) rfl (k0_off5_eq k0_t1 2) rfl rfl rfl hv313 hv325 ?_)
  refine assoc (load Sts.t8 fun v369_raw _ => ?_)
  refine assoc (st8 2 1 (by decide) rfl (k0_off6_eq k0_t1 2) rfl rfl rfl hv313 hv325 ?_)
  exact ret (hk _ (accStep (accStep (accStep hv337 hv319) hv325) hv331) _)

theorem part6 (k0_h1 : k0_cond1 i = 1#1) (k0_t1 : Fin k0_t1_loop.trips) (v219 : FVec F S128x128 .bf16) (v225 : FVec F S128x128 .f32) (hE : Deq T v219 v225 e k0_t1.val) (v227 : BitVec 32) (v319 : Vec F S128x128 .i8) (hv319 : k0_pay16 v219 v225 v319 = eT e k0_t1.val 5) (v331 : Vec F S128x128 .i8) (hv331 : k0_pay16 v219 v225 v331 = eT e k0_t1.val 7) (c_m65536_i32_152 : BitVec 32)
    {K : (Σ' (v398 : FVec F S128x128 .bf16) (v404 : FVec F S128x128 .bf16), FVec F S128x128 .bf16) → Prog (TpuEff nD τ sig (Elt F) Λ₀ .tc) β}
    (hk : ∀ (v395 : Vec F S128x128 .i8) (hv395 : k0_pay16 v219 v225 v395 = eT e k0_t1.val 8) (v401 : Vec F S128x128 .i8) (hv401 : k0_pay16 v219 v225 v401 = eT e k0_t1.val 9) (v407 : Vec F S128x128 .i8) (hv407 : k0_pay16 v219 v225 v407 = eT e k0_t1.val 10), SB c arg3 arg4 arg8 arg9 (slot i arg13 k0_h1 k0_t1) X3 X4 T e k0_t1.val 8 0 B10 B11 B12 R ⊢ wp frame (wpE defs₀ 𝒱 (c : Thread nD τ) bd) Set.univ (K ⟨k0_pay46 v219 (k0_pay15 v225) v395, k0_pay47 v219 (k0_pay15 v225) v401, k0_pay48 v219 (k0_pay15 v225) v407⟩) Q) :
    SB c arg3 arg4 arg8 arg9 (slot i arg13 k0_h1 k0_t1) X3 X4 T e k0_t1.val 6 0 B10 B11 B12 R ⊢ wp frame (wpE defs₀ 𝒱 (c : Thread nD τ) bd) Set.univ (k0_part6 (F := F) i arg1 harg1 arg2 harg2 arg3 harg3 arg4 harg4 arg5 harg5 arg6 harg6 arg7 harg7 arg8 harg8 arg9 harg9 arg10 harg10 arg11 harg11 arg12 harg12 arg13 harg13 arg14 k0_h1 k0_t1 v219 (k0_pay15 v225) v227 (k0_pay38 (k0_pay33 v219 (k0_pay15 v225) v319)) (k0_pay39 (k0_pay33 v219 (k0_pay15 v225) v319)) (k0_pay40 (k0_pay35 v219 (k0_pay15 v225) v331)) (k0_pay41 (k0_pay35 v219 (k0_pay15 v225) v331)) c_m65536_i32_152 >>= K) Q := by
  rw [k0_part6_eq_skeleton]
  unfold k0_part6_skel
  refine assoc (load Sts.t8 fun v384_raw _ => ?_)
  refine assoc (st8 3 0 (by decide) rfl (k0_off5_eq k0_t1 3) rfl rfl rfl hv319 hv331 ?_)
  refine assoc (load Sts.t8 fun v390_raw _ => ?_)
  refine assoc (st8 3 1 (by decide) rfl (k0_off6_eq k0_t1 3) rfl rfl rfl hv319 hv331 ?_)
  refine assoc (ldCode 8 rfl (by decide) hE fun v395 hv395 => ?_)
  refine assoc (ldCode 9 rfl (by decide) hE fun v401 hv401 => ?_)
  refine assoc (ldCode 10 rfl (by decide) hE fun v407 hv407 => ?_)
  exact ret (hk _ hv395 _ hv401 _ hv407)

theorem part7 (k0_h1 : k0_cond1 i = 1#1) (k0_t1 : Fin k0_t1_loop.trips) (v219 : FVec F S128x128 .bf16) (v225 : FVec F S128x128 .f32) (hE : Deq T v219 v225 e k0_t1.val) (v227 : BitVec 32) (v346 : FVec F S128x128 .f32) (hv346 : v346 = accN (eT e k0_t1.val) 8) (v395 : Vec F S128x128 .i8) (hv395 : k0_pay16 v219 v225 v395 = eT e k0_t1.val 8) (v401 : Vec F S128x128 .i8) (hv401 : k0_pay16 v219 v225 v401 = eT e k0_t1.val 9) (v407 : Vec F S128x128 .i8) (hv407 : k0_pay16 v219 v225 v407 = eT e k0_t1.val 10)
    {K : (Σ' (v428 : FVec F S128x128 .f32) (v429_hi : FVec F S64x128 .bf16) (v430_lo : FVec F S64x128 .bf16) (v430_hi : FVec F S64x128 .bf16) (v431_hi : FVec F S64x128 .bf16) (v432_lo : FVec F S64x128 .bf16) (v432_hi : FVec F S64x128 .bf16), FVec F S64x128 .bf16) → Prog (TpuEff nD τ sig (Elt F) Λ₀ .tc) β}
    (hk : ∀ (v428 : FVec F S128x128 .f32) (hv428 : v428 = accN (eT e k0_t1.val) 12) (v413 : Vec F S128x128 .i8) (hv413 : k0_pay16 v219 v225 v413 = eT e k0_t1.val 11) (v451_raw : Vec F S64x2x128 .bf16), SB c arg3 arg4 arg8 arg9 (slot i arg13 k0_h1 k0_t1) X3 X4 T e k0_t1.val 9 0 B10 B11 B12 R ⊢ wp frame (wpE defs₀ 𝒱 (c : Thread nD τ) bd) Set.univ (K ⟨v428, k0_pay51 (k0_pay46 v219 (k0_pay15 v225) v395), k0_pay52 (k0_pay47 v219 (k0_pay15 v225) v401), k0_pay53 (k0_pay47 v219 (k0_pay15 v225) v401), k0_pay54 (k0_pay48 v219 (k0_pay15 v225) v407), k0_pay55 v219 (k0_pay15 v225) v413, k0_pay56 v219 (k0_pay15 v225) v413, k0_pay58 v451_raw⟩) Q) :
    SB c arg3 arg4 arg8 arg9 (slot i arg13 k0_h1 k0_t1) X3 X4 T e k0_t1.val 8 0 B10 B11 B12 R ⊢ wp frame (wpE defs₀ 𝒱 (c : Thread nD τ) bd) Set.univ (k0_part7 (F := F) i arg1 harg1 arg2 harg2 arg3 harg3 arg4 harg4 arg5 harg5 arg6 harg6 arg7 harg7 arg8 harg8 arg9 harg9 arg10 harg10 arg11 harg11 arg12 harg12 arg13 harg13 arg14 k0_h1 k0_t1 v219 (k0_pay15 v225) v227 v346 (k0_pay46 v219 (k0_pay15 v225) v395) (k0_pay47 v219 (k0_pay15 v225) v401) (k0_pay48 v219 (k0_pay15 v225) v407) >>= K) Q := by
  rw [k0_part7_eq_skeleton]
  unfold k0_part7_skel
  refine assoc (ldCode 11 rfl (by decide) hE fun v413 hv413 => ?_)
  refine assoc (load Sts.t8 fun v445_raw _ => ?_)
  refine assoc (st8 4 0 (by decide) rfl (k0_off5_eq k0_t1 4) rfl rfl rfl hv395 hv407 ?_)
  refine assoc (load Sts.t8 fun v451_raw _ => ?_)
  exact ret (hk _ (accStep (accStep (accStep (accStep hv346 hv395) hv401) hv407) hv413) _ hv413 _)

theorem part8 (k0_h1 : k0_cond1 i = 1#1) (k0_t1 : Fin k0_t1_loop.trips) (v219 : FVec F S128x128 .bf16) (v225 : FVec F S128x128 .f32) (hE : Deq T v219 v225 e k0_t1.val) (v227 : BitVec 32) (v395 : Vec F S128x128 .i8) (hv395 : k0_pay16 v219 v225 v395 = eT e k0_t1.val 8) (v401 : Vec F S128x128 .i8) (hv401 : k0_pay16 v219 v225 v401 = eT e k0_t1.val 9) (v407 : Vec F S128x128 .i8) (hv407 : k0_pay16 v219 v225 v407 = eT e k0_t1.val 10) (v413 : Vec F S128x128 .i8) (hv413 : k0_pay16 v219 v225 v413 = eT e k0_t1.val 11) (v451_raw : Vec F S64x2x128 .bf16)
    {K : (Σ' (v480 : FVec F S128x128 .bf16), FVec F S128x128 .bf16) → Prog (TpuEff nD τ sig (Elt F) Λ₀ .tc) β}
    (hk : ∀ (v477 : Vec F S128x128 .i8) (hv477 : k0_pay16 v219 v225 v477 = eT e k0_t1.val 12) (v483 : Vec F S128x128 .i8) (hv483 : k0_pay16 v219 v225 v483 = eT e k0_t1.val 13), SB c arg3 arg4 arg8 arg9 (slot i arg13 k0_h1 k0_t1) X3 X4 T e k0_t1.val 12 0 B10 B11 B12 R ⊢ wp frame (wpE defs₀ 𝒱 (c : Thread nD τ) bd) Set.univ (K ⟨k0_pay62 v219 (k0_pay15 v225) v477, k0_pay63 (k0_pay15 v225) v483⟩) Q) :
    SB c arg3 arg4 arg8 arg9 (slot i arg13 k0_h1 k0_t1) X3 X4 T e k0_t1.val 9 0 B10 B11 B12 R ⊢ wp frame (wpE defs₀ 𝒱 (c : Thread nD τ) bd) Set.univ (k0_part8 (F := F) i arg1 harg1 arg2 harg2 arg3 harg3 arg4 harg4 arg5 harg5 arg6 harg6 arg7 harg7 arg8 harg8 arg9 harg9 arg10 harg10 arg11 harg11 arg12 harg12 arg13 harg13 arg14 k0_h1 k0_t1 v219 (k0_pay15 v225) v227 (k0_pay51 (k0_pay46 v219 (k0_pay15 v225) v395)) (k0_pay52 (k0_pay47 v219 (k0_pay15 v225) v401)) (k0_pay53 (k0_pay47 v219 (k0_pay15 v225) v401)) (k0_pay54 (k0_pay48 v219 (k0_pay15 v225) v407)) (k0_pay55 v219 (k0_pay15 v225) v413) (k0_pay56 v219 (k0_pay15 v225) v413) (k0_pay58 v451_raw) >>= K) Q := by
  rw [k0_part8_eq_skeleton]
  unfold k0_part8_skel
  refine assoc (st8 4 1 (by decide) rfl (k0_off6_eq k0_t1 4) rfl rfl rfl hv395 hv407 ?_)
  refine assoc (load Sts.t8 fun v466_raw _ => ?_)
  refine assoc (st8 5 0 (by decide) rfl (k0_off5_eq k0_t1 5) rfl rfl rfl hv401 hv413 ?_)
  refine assoc (load Sts.t8 fun v472_raw _ => ?_)
  refine assoc (st8 5 1 (by decide) rfl (k0_off6_eq k0_t1 5) rfl rfl rfl hv401 hv413 ?_)
  refine assoc (ldCode 12 rfl (by decide) hE fun v477 hv477 => ?_)
  refine assoc (ldCode 13 rfl (by decide) hE fun v483 hv483 => ?_)
  exact ret (hk _ hv477 _ hv483)

theorem part9 (k0_h1 : k0_cond1 i = 1#1) (k0_t1 : Fin k0_t1_loop.trips) (v219 : FVec F S128x128 .bf16) (v225 : FVec F S128x128 .f32) (hE : Deq T v219 v225 e k0_t1.val) (v227 : BitVec 32) (v428 : FVec F S128x128 .f32) (hv428 : v428 = accN (eT e k0_t1.val) 12) (v477 : Vec F S128x128 .i8) (hv477 : k0_pay16 v219 v225 v477 = eT e k0_t1.val 12) (v483 : Vec F S128x128 .i8) (hv483 : k0_pay16 v219 v225 v483 = eT e k0_t1.val 13)
    {K : (Σ' (v510 : FVec F S128x128 .f32) (v511_hi : FVec F S64x128 .bf16) (v512_lo : FVec F S64x128 .bf16) (v512_hi : FVec F S64x128 .bf16) (v513_hi : FVec F S64x128 .bf16) (v514_lo : FVec F S64x128 .bf16) (v514_hi : FVec F S64x128 .bf16) (v529_lo : FVec F S64x128 .bf16), FVec F S64x128 .bf16) → Prog (TpuEff nD τ sig (Elt F) Λ₀ .tc) β}
    (hk : ∀ (v510 : FVec F S128x128 .f32) (hv510 : v510 = accN (eT e k0_t1.val) 16) (v489 : Vec F S128x128 .i8) (hv489 : k0_pay16 v219 v225 v489 = eT e k0_t1.val 14) (v495 : Vec F S128x128 .i8) (hv495 : k0_pay16 v219 v225 v495 = eT e k0_t1.val 15), SB c arg3 arg4 arg8 arg9 (slot i arg13 k0_h1 k0_t1) X3 X4 T e k0_t1.val 12 0 B10 B11 B12 R ⊢ wp frame (wpE defs₀ 𝒱 (c : Thread nD τ) bd) Set.univ (K ⟨v510, k0_pay68 (k0_pay62 v219 (k0_pay15 v225) v477), k0_pay69 v219 (k0_pay63 (k0_pay15 v225) v483), k0_pay70 v219 (k0_pay63 (k0_pay15 v225) v483), k0_pay71 v219 (k0_pay15 v225) v489, k0_pay72 v219 (k0_pay15 v225) v495, k0_pay73 v219 (k0_pay15 v225) v495, k0_pay74 (k0_pay62 v219 (k0_pay15 v225) v477), k0_pay75 v219 (k0_pay15 v225) v489⟩) Q) :
    SB c arg3 arg4 arg8 arg9 (slot i arg13 k0_h1 k0_t1) X3 X4 T e k0_t1.val 12 0 B10 B11 B12 R ⊢ wp frame (wpE defs₀ 𝒱 (c : Thread nD τ) bd) Set.univ (k0_part9 (F := F) i arg1 harg1 arg2 harg2 arg3 harg3 arg4 harg4 arg5 harg5 arg6 harg6 arg7 harg7 arg8 harg8 arg9 harg9 arg10 harg10 arg11 harg11 arg12 harg12 arg13 harg13 arg14 k0_h1 k0_t1 v219 (k0_pay15 v225) v227 v428 (k0_pay62 v219 (k0_pay15 v225) v477) (k0_pay63 (k0_pay15 v225) v483) >>= K) Q := by
  rw [k0_part9_eq_skeleton]
  unfold k0_part9_skel
  refine assoc (ldCode 14 rfl (by decide) hE fun v489 hv489 => ?_)
  refine assoc (ldCode 15 rfl (by decide) hE fun v495 hv495 => ?_)
  refine assoc (load Sts.t8 fun v527_raw _ => ?_)
  exact ret (hk _ (accStep (accStep (accStep (accStep hv428 hv477) hv483) hv489) hv495) _ hv489 _ hv495)

theorem part10 (k0_h1 : k0_cond1 i = 1#1) (k0_t1 : Fin k0_t1_loop.trips) (v219 : FVec F S128x128 .bf16) (v225 : FVec F S128x128 .f32) (hE : Deq T v219 v225 e k0_t1.val) (v227 : BitVec 32) (v477 : Vec F S128x128 .i8) (hv477 : k0_pay16 v219 v225 v477 = eT e k0_t1.val 12) (v483 : Vec F S128x128 .i8) (hv483 : k0_pay16 v219 v225 v483 = eT e k0_t1.val 13) (v489 : Vec F S128x128 .i8) (hv489 : k0_pay16 v219 v225 v489 = eT e k0_t1.val 14) (v495 : Vec F S128x128 .i8) (hv495 : k0_pay16 v219 v225 v495 = eT e k0_t1.val 15)
    {K : (Vec F S128x128 .i8) → Prog (TpuEff nD τ sig (Elt F) Λ₀ .tc) β}
    (hk : ∀ (v559 : Vec F S128x128 .i8) (hv559 : k0_pay16 v219 v225 v559 = eT e k0_t1.val 16), SB c arg3 arg4 arg8 arg9 (slot i arg13 k0_h1 k0_t1) X3 X4 T e k0_t1.val 16 0 B10 B11 B12 R ⊢ wp frame (wpE defs₀ 𝒱 (c : Thread nD τ) bd) Set.univ (K (v559)) Q) :
    SB c arg3 arg4 arg8 arg9 (slot i arg13 k0_h1 k0_t1) X3 X4 T e k0_t1.val 12 0 B10 B11 B12 R ⊢ wp frame (wpE defs₀ 𝒱 (c : Thread nD τ) bd) Set.univ (k0_part10 (F := F) i arg1 harg1 arg2 harg2 arg3 harg3 arg4 harg4 arg5 harg5 arg6 harg6 arg7 harg7 arg8 harg8 arg9 harg9 arg10 harg10 arg11 harg11 arg12 harg12 arg13 harg13 arg14 k0_h1 k0_t1 v227 (k0_pay68 (k0_pay62 v219 (k0_pay15 v225) v477)) (k0_pay69 v219 (k0_pay63 (k0_pay15 v225) v483)) (k0_pay70 v219 (k0_pay63 (k0_pay15 v225) v483)) (k0_pay71 v219 (k0_pay15 v225) v489) (k0_pay72 v219 (k0_pay15 v225) v495) (k0_pay73 v219 (k0_pay15 v225) v495) (k0_pay74 (k0_pay62 v219 (k0_pay15 v225) v477)) (k0_pay75 v219 (k0_pay15 v225) v489) >>= K) Q := by
  rw [k0_part10_eq_skeleton]
  unfold k0_part10_skel
  refine assoc (st8 6 0 (by decide) rfl (k0_off5_eq k0_t1 6) rfl rfl rfl hv477 hv489 ?_)
  refine assoc (load Sts.t8 fun v533_raw _ => ?_)
  refine assoc (st8 6 1 (by decide) rfl (k0_off6_eq k0_t1 6) rfl rfl rfl hv477 hv489 ?_)
  refine assoc (load Sts.t8 fun v548_raw _ => ?_)
  refine assoc (st8 7 0 (by decide) rfl (k0_off5_eq k0_t1 7) rfl rfl rfl hv483 hv495 ?_)
  refine assoc (load Sts.t8 fun v554_raw _ => ?_)
  refine assoc (st8 7 1 (by decide) rfl (k0_off6_eq k0_t1 7) rfl rfl rfl hv483 hv495 ?_)
  exact ldCode 16 rfl (by decide) hE hk

theorem part11 (k0_h1 : k0_cond1 i = 1#1) (k0_t1 : Fin k0_t1_loop.trips) (v219 : FVec F S128x128 .bf16) (v225 : FVec F S128x128 .f32) (hE : Deq T v219 v225 e k0_t1.val) (v510 : FVec F S128x128 .f32) (hv510 : v510 = accN (eT e k0_t1.val) 16) (v559 : Vec F S128x128 .i8) (hv559 : k0_pay16 v219 v225 v559 = eT e k0_t1.val 16)
    {K : (Σ' (v592 : FVec F S128x128 .f32) (v593_lo : FVec F S64x128 .bf16) (v593_hi : FVec F S64x128 .bf16) (v594_lo : FVec F S64x128 .bf16) (v594_hi : FVec F S64x128 .bf16) (v595_lo : FVec F S64x128 .bf16) (v595_hi : FVec F S64x128 .bf16) (v596_lo : FVec F S64x128 .bf16) (v596_hi : FVec F S64x128 .bf16), BitVec 32) → Prog (TpuEff nD τ sig (Elt F) Λ₀ .tc) β}
    (hk : ∀ (v592 : FVec F S128x128 .f32) (hv592 : v592 = accN (eT e k0_t1.val) 20) (v565 : Vec F S128x128 .i8) (hv565 : k0_pay16 v219 v225 v565 = eT e k0_t1.val 17) (v571 : Vec F S128x128 .i8) (hv571 : k0_pay16 v219 v225 v571 = eT e k0_t1.val 18) (v577 : Vec F S128x128 .i8) (hv577 : k0_pay16 v219 v225 v577 = eT e k0_t1.val 19) (c_m65536_i32_233 : BitVec 32), SB c arg3 arg4 arg8 arg9 (slot i arg13 k0_h1 k0_t1) X3 X4 T e k0_t1.val 16 0 B10 B11 B12 R ⊢ wp frame (wpE defs₀ 𝒱 (c : Thread nD τ) bd) Set.univ (K ⟨v592, k0_pay85 v219 (k0_pay15 v225) v559, k0_pay86 v219 (k0_pay15 v225) v559, k0_pay87 v219 (k0_pay15 v225) v565, k0_pay88 v219 (k0_pay15 v225) v565, k0_pay89 v219 (k0_pay15 v225) v571, k0_pay90 v219 (k0_pay15 v225) v571, k0_pay91 v219 (k0_pay15 v225) v577, k0_pay92 v219 (k0_pay15 v225) v577, c_m65536_i32_233⟩) Q) :
    SB c arg3 arg4 arg8 arg9 (slot i arg13 k0_h1 k0_t1) X3 X4 T e k0_t1.val 16 0 B10 B11 B12 R ⊢ wp frame (wpE defs₀ 𝒱 (c : Thread nD τ) bd) Set.univ (k0_part11 (F := F) i arg1 harg1 arg2 harg2 arg3 harg3 arg4 harg4 arg5 harg5 arg6 harg6 arg7 harg7 arg8 harg8 arg9 harg9 arg10 harg10 arg11 harg11 arg12 harg12 arg13 harg13 arg14 k0_h1 k0_t1 v219 (k0_pay15 v225) v510 v559 >>= K) Q := by
  rw [k0_part11_eq_skeleton]
  unfold k0_part11_skel
  refine assoc (ldCode 17 rfl (by decide) hE fun v565 hv565 => ?_)
  refine assoc (ldCode 18 rfl (by decide) hE fun v571 hv571 => ?_)
  refine assoc (ldCode 19 rfl (by decide) hE fun v577 hv577 => ?_)
  exact ret (hk _ (accStep (accStep (accStep (accStep hv510 hv559) hv565) hv571) hv577) _ hv565 _ hv571 _ hv577 _)

theorem part12 (k0_h1 : k0_cond1 i = 1#1) (k0_t1 : Fin k0_t1_loop.trips) (v219 : FVec F S128x128 .bf16) (v225 : FVec F S128x128 .f32) (hE : Deq T v219 v225 e k0_t1.val) (v227 : BitVec 32) (v559 : Vec F S128x128 .i8) (hv559 : k0_pay16 v219 v225 v559 = eT e k0_t1.val 16) (v565 : Vec F S128x128 .i8) (hv565 : k0_pay16 v219 v225 v565 = eT e k0_t1.val 17) (v571 : Vec F S128x128 .i8) (hv571 : k0_pay16 v219 v225 v571 = eT e k0_t1.val 18) (v577 : Vec F S128x128 .i8) (hv577 : k0_pay16 v219 v225 v577 = eT e k0_t1.val 19) (c_m65536_i32_233 : BitVec 32)
    {K : (FVec F S64x128 .bf16) → Prog (TpuEff nD τ sig (Elt F) Λ₀ .tc) β}
    (hk : ∀ (v636_raw : Vec F S64x2x128 .bf16), SB c arg3 arg4 arg8 arg9 (slot i arg13 k0_h1 k0_t1) X3 X4 T e k0_t1.val 19 0 B10 B11 B12 R ⊢ wp frame (wpE defs₀ 𝒱 (c : Thread nD τ) bd) Set.univ (K ((k0_pay96 v636_raw))) Q) :
    SB c arg3 arg4 arg8 arg9 (slot i arg13 k0_h1 k0_t1) X3 X4 T e k0_t1.val 16 0 B10 B11 B12 R ⊢ wp frame (wpE defs₀ 𝒱 (c : Thread nD τ) bd) Set.univ (k0_part12 (F := F) i arg1 harg1 arg2 harg2 arg3 harg3 arg4 harg4 arg5 harg5 arg6 harg6 arg7 harg7 arg8 harg8 arg9 harg9 arg10 harg10 arg11 harg11 arg12 harg12 arg13 harg13 arg14 k0_h1 k0_t1 v227 (k0_pay85 v219 (k0_pay15 v225) v559) (k0_pay86 v219 (k0_pay15 v225) v559) (k0_pay87 v219 (k0_pay15 v225) v565) (k0_pay89 v219 (k0_pay15 v225) v571) (k0_pay90 v219 (k0_pay15 v225) v571) (k0_pay91 v219 (k0_pay15 v225) v577) c_m65536_i32_233 >>= K) Q := by
  rw [k0_part12_eq_skeleton]
  unfold k0_part12_skel
  refine assoc (load Sts.t8 fun v609_raw _ => ?_)
  refine assoc (st8 8 0 (by decide) rfl (k0_off5_eq k0_t1 8) rfl rfl rfl hv559 hv571 ?_)
  refine assoc (load Sts.t8 fun v615_raw _ => ?_)
  refine assoc (st8 8 1 (by decide) rfl (k0_off6_eq k0_t1 8) rfl rfl rfl hv559 hv571 ?_)
  refine assoc (load Sts.t8 fun v630_raw _ => ?_)
  refine assoc (st8 9 0 (by decide) rfl (k0_off5_eq k0_t1 9) rfl rfl rfl hv565 hv577 ?_)
  refine assoc (load Sts.t8 fun v636_raw _ => ?_)
  exact ret (hk _)

end Cert.Proof.BuildParts

end
-- ==== Proof.BuildTrip.lean ====
/- A whole trip of KernelIdeal's table-building loop. -/
module

public import proofs.«01_k».proof.Proof.BuildParts
public import proofs.«01_k».proof.Proof.KernelIdealRing

@[expose] public section

set_option maxRecDepth 16384

noncomputable section

namespace Cert.Proof.BuildParts

open Cert.KernelIdeal Cert.KernelIdeal.Gen Cert.Proof.Hoare Cert.Proof.Target Cert.Proof.EmitRules Cert.Proof.BuildRules
open Cert.Proof.KernelIdealRing (slot)
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

variable {𝒱 : Variants} {c : Dev nD} {bd : Option 𝒱.V} {β : Type}
  {Q : β → sProp (MT nD τ sig Unit (Elt F) ℕ (Pipeline.UD sig nD τ) ℕ)} {T : S128x2560.Idx → Elt F .i8} {X3 X4 : S62x128.Idx → Elt F .f32} {e : ℕ → ℕ → F .bf16}
  {B10 B11 B12 R : sProp (MT nD τ sig Unit (Elt F) ℕ (Pipeline.UD sig nD τ) ℕ)}
variable (i : grid0.Coords) (arg1 : Memref sig .tc .smem S1x1x256 .i32) (harg1 : arg1.IsWhole) (arg2 : Memref sig .tc .hbm S7936x2560 .i8) (harg2 : arg2.IsWhole) (arg3 : Memref sig .tc .vmem S62x128 .f32) (harg3 : arg3.IsWhole) (arg4 : Memref sig .tc .vmem S62x128 .f32) (harg4 : arg4.IsWhole) (arg5 : Memref sig .tc .vmem S1x2560 .bf16) (harg5 : arg5.IsWhole) (arg6 : Memref sig .tc .vmem S5120x128 .bf16) (harg6 : arg6.IsWhole) (arg7 : Memref sig .tc .vmem S5120x128 .bf16) (harg7 : arg7.IsWhole) (arg8 : Memref sig .tc .vmem S79360x2x128 .bf16) (harg8 : arg8.IsWhole) (arg9 : Memref sig .tc .vmem S15872x128 .f32) (harg9 : arg9.IsWhole) (arg10 : Memref sig .tc .vmem S80x128 .f32) (harg10 : arg10.IsWhole) (arg11 : Memref sig .tc .vmem S320x2x128 .bf16) (harg11 : arg11.IsWhole) (arg12 : Memref sig .tc .vmem S64x128 .f32) (harg12 : arg12.IsWhole) (arg13 : Memref sig .tc .vmem S8x128x2560 .i8) (harg13 : arg13.IsWhole) (arg14 : DmaSems sig S8)

/-- The trip: from what gives it the slot's copy, to `Fn`, which the trip reaches by starting the copy eight blocks
    on, if there is one. -/
theorem trip (k0_h1 : k0_cond1 i = 1#1) (k0_t1 : Fin k0_t1_loop.trips) {St Fn : sProp 𝕄} {src : Memref sig .tc .hbm S128x2560 .i8} {dst : Memref sig .tc .vmem S128x2560 .i8} {sm : DmaSem sig} {q} {X} {src' : Memref sig .tc .hbm S128x2560 .i8} {dst' : Memref sig .tc .vmem S128x2560 .i8} {sm' : DmaSem sig} {X'}
    (esm : ((arg14.slice (Rect.unit (s := S8) (k0_off1 k0_t1) S1.size (k0_off1_inb i k0_t1 k0_h1))).squeeze S_ squeezes_S1_S_).sem = sm) (edst : slot i arg13 k0_h1 k0_t1 = dst)
    (hst : St ⊢ iprop((Busy (c : Thread nD τ) src dst sm () q X : sProp 𝕄) ∗ (Owes (c : Thread nD τ) : sProp 𝕄) ∗ (((Ready (c : Thread nD τ) dst (src.view.read (Elt F) X) : sProp 𝕄)
      ∗ semVal ((c : Thread nD τ), .dma sm) 0 ∗ (Part (c : Thread nD τ) src q X : sProp 𝕄) ∗ (Owes (c : Thread nD τ) : sProp 𝕄)) -∗ (SB c arg3 arg4 arg8 arg9 dst X3 X4 (src.view.read (Elt F) X) e k0_t1.val 0 0 B10 B11 B12 R))))
    (hX : ∀ v214 v221 : Vec F S1x128 .f32, (∀ x : S1x128.Idx, v214 x = X3 (ix2 (k0_t1.cast trips1) (x 1))) → (∀ x : S1x128.Idx, v221 x = X4 (ix2 (k0_t1.cast trips1) (x 1))) → Deq (src.view.read (Elt F) X) (k0_pay13 v214) (k0_pay14 v221) e k0_t1.val)
    (e9 : ∀ k0_h2, ((arg14.slice (Rect.unit (s := S8) (k0_off9 k0_t1) S1.size (k0_off9_inb i k0_t1 k0_h1 k0_h2))).squeeze S_ squeezes_S1_S_).sem = sm')
    (e10 : ∀ k0_h2, (arg13.slice (Rect.unit (s := S8x128x2560) (k0_off10 k0_t1) S1x128x2560.size (k0_off10_inb i k0_t1 k0_h1 k0_h2)) (fun _ => rfl)).squeeze S128x2560 squeezes_S1x128x2560_S128x2560 = dst')
    (e11 : ∀ k0_h2, arg2.slice (Rect.unit (s := S7936x2560) (k0_off11 k0_t1) S128x2560.size (k0_off11_inb i k0_t1 k0_h1 k0_h2)) (fun _ => rfl) = src')
    (hnext : ∀ k0_h2 : k0_cond2 k0_t1 = 1#1, (SB c arg3 arg4 arg8 arg9 dst X3 X4 (src.view.read (Elt F) X) e k0_t1.val 20 2 B10 B11 B12 R) ⊢ iprop((Free (c : Thread nD τ) dst' : sProp 𝕄) ∗ semVal ((c : Thread nD τ), .dma sm') 0 ∗ (Part (c : Thread nD τ) src' q X' : sProp 𝕄) ∗ ((Busy (c : Thread nD τ) src' dst' sm' () q X' : sProp 𝕄) -∗ Fn)))
    (hlast : ¬ k0_cond2 k0_t1 = 1#1 → (SB c arg3 arg4 arg8 arg9 dst X3 X4 (src.view.read (Elt F) X) e k0_t1.val 20 2 B10 B11 B12 R) ⊢ Fn) :
    St ⊢ wp frame (wpE defs₀ 𝒱 (c : Thread nD τ) bd) Set.univ (k0_t1_body (F := F) i arg1 harg1 arg2 harg2 arg3 harg3 arg4 harg4 arg5 harg5 arg6 harg6 arg7 harg7 arg8 harg8 arg9 harg9 arg10 harg10 arg11 harg11 arg12 harg12 arg13 harg13 arg14 k0_h1 k0_t1 ⟨⟩) (fun _ => Fn) := by
  unfold k0_t1_body
  dsimp only
  subst esm edst
  refine part1 _ _ _ _ _ _ _ _ _ _ _ _ _ _ _ _ _ _ _ _ _ _ _ _ _ _ _ _ k0_h1 _ _ k0_t1 rfl rfl hst hX fun arg15 v219 v225 hE => ?_
  refine part2 _ _ _ _ _ _ _ _ _ _ _ _ _ _ _ _ _ _ _ _ _ _ _ _ _ _ _ _ k0_h1 k0_t1 _ _ hE _ fun v227 v237 hv237 v243 hv243 v249 hv249 v264 hv264 v231 hv231 => ?_
  refine part3 _ _ _ _ _ _ _ _ _ _ _ _ _ _ _ _ _ _ _ _ _ _ _ _ _ _ _ _ k0_h1 k0_t1 _ _ hE _ _ hv237 _ hv243 _ hv249 _ hv231 ?_
  refine part4 _ _ _ _ _ _ _ _ _ _ _ _ _ _ _ _ _ _ _ _ _ _ _ _ _ _ _ _ k0_h1 k0_t1 _ _ hE _ _ hv264 _ hv237 _ hv249 fun v313 hv313 v319 hv319 v325 hv325 v331 hv331 v337 hv337 => ?_
  refine part5 _ _ _ _ _ _ _ _ _ _ _ _ _ _ _ _ _ _ _ _ _ _ _ _ _ _ _ _ k0_h1 k0_t1 _ _ hE _ _ hv313 _ hv319 _ hv325 _ hv331 _ hv337 fun v346 hv346 c_m65536_i32_152 => ?_
  refine part6 _ _ _ _ _ _ _ _ _ _ _ _ _ _ _ _ _ _ _ _ _ _ _ _ _ _ _ _ k0_h1 k0_t1 _ _ hE _ _ hv319 _ hv331 _ fun v395 hv395 v401 hv401 v407 hv407 => ?_
  refine part7 _ _ _ _ _ _ _ _ _ _ _ _ _ _ _ _ _ _ _ _ _ _ _ _ _ _ _ _ k0_h1 k0_t1 _ _ hE _ _ hv346 _ hv395 _ hv401 _ hv407 fun v428 hv428 v413 hv413 v451_raw => ?_
  refine part8 _ _ _ _ _ _ _ _ _ _ _ _ _ _ _ _ _ _ _ _ _ _ _ _ _ _ _ _ k0_h1 k0_t1 _ _ hE _ _ hv395 _ hv401 _ hv407 _ hv413 _ fun v477 hv477 v483 hv483 => ?_
  refine part9 _ _ _ _ _ _ _ _ _ _ _ _ _ _ _ _ _ _ _ _ _ _ _ _ _ _ _ _ k0_h1 k0_t1 _ _ hE _ _ hv428 _ hv477 _ hv483 fun v510 hv510 v489 hv489 v495 hv495 => ?_
  refine part10 _ _ _ _ _ _ _ _ _ _ _ _ _ _ _ _ _ _ _ _ _ _ _ _ _ _ _ _ k0_h1 k0_t1 _ _ hE _ _ hv477 _ hv483 _ hv489 _ hv495 fun v559 hv559 => ?_
  refine part11 _ _ _ _ _ _ _ _ _ _ _ _ _ _ _ _ _ _ _ _ _ _ _ _ _ _ _ _ k0_h1 k0_t1 _ _ hE _ hv510 _ hv559 fun v592 hv592 v565 hv565 v571 hv571 v577 hv577 c_m65536_i32_233 => ?_
  refine part12 _ _ _ _ _ _ _ _ _ _ _ _ _ _ _ _ _ _ _ _ _ _ _ _ _ _ _ _ k0_h1 k0_t1 _ _ hE _ _ hv559 _ hv565 _ hv571 _ hv577 _ fun v636_raw => ?_
  refine st8 9 1 (by decide) rfl (k0_off6_eq k0_t1 9) rfl rfl rfl hv565 hv577 ?_
  refine load Sts.t9 fun v650 _ => ?_
  refine st9 0 (by decide) (off7_eq k0_t1) ((shapeCast_id _ _).trans (congrArg k0_pay98 hv592)) ?_
  refine load Sts.t9 fun v655 _ => ?_
  refine st9 1 (by decide) (off8_eq k0_t1) ((shapeCast_id _ _).trans (congrArg k0_pay98 hv592)) ?_
  by_cases k0_h2 : k0_cond2 k0_t1 = 1#1
  · rw [dif_pos k0_h2]
    obtain rfl := e9 k0_h2
    obtain rfl := e10 k0_h2
    obtain rfl := e11 k0_h2
    exact assoc (enqueue () (View.amount_pos _ _ (by decide +kernel)) (hnext k0_h2) (ret (done .rfl)))
  · rw [dif_neg k0_h2]
    exact ret (done (hlast k0_h2))

end Cert.Proof.BuildParts

end
-- ==== Proof.EmitParts1.lean ====
/- What parts 17 to 27 of a trip of KernelIdeal's emission loop gather and store. -/
module

public import proofs.«01_k».proof.Proof.EmitRules

@[expose] public section

set_option maxRecDepth 16384

noncomputable section

namespace Cert.Proof.EmitParts

open Cert.KernelIdeal Cert.KernelIdeal.Gen Cert.Proof.Hoare Cert.Proof.Target Cert.Proof.EmitRules
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

/-- The emission loop in trip `k`: `n11`, `n12` tokens' rows and inverse norms are gathered, and `a7`, `a6` groups of sixteen rows of
    the trip's forty are stored in the two output blocks; every trip before is stored. -/
abbrev SV (c : Dev nD) (arg1 : Memref sig .tc .smem S1x1x256 .i32) (arg6 arg7 : Memref sig .tc .vmem S5120x128 .bf16) (arg8 : Memref sig .tc .vmem S79360x2x128 .bf16)
    (arg9 : Memref sig .tc .vmem S15872x128 .f32) (arg10 : Memref sig .tc .vmem S80x128 .f32) (arg11 : Memref sig .tc .vmem S320x2x128 .bf16)
    (arg12 : Memref sig .tc .vmem S64x128 .f32) (X : S1x1x256.Idx → Elt F .i32) (t8 : ℕ → ℕ → ℕ → F .bf16) (t9 t10 : ℕ → ℕ → F .f32) (k n11 n12 a7 a6 : ℕ) (R : sProp 𝕄) : sProp 𝕄 :=
  Sts (Holds (c : Thread nD τ) arg1 (fun _ => True) X) (H2 c arg6 (fun r => r < 16 * (40 * k + a6)) (t6 X t8 t9 t10)) (H2 c arg7 (fun r => r < 16 * (40 * k + a7)) (t7 X t8))
    (H3 c arg8 (fun _ => True) t8) (H2 c arg9 (fun _ => True) t9) (H2 c arg10 (fun _ => True) t10)
    (H3 c arg11 (fun r => slotR r < n11) (t11 X t8 k)) (H2 c arg12 (fun r => slotN r < n12) (t12 X t9 k)) R

theorem offAt {f : Fin k0_t2_loop.trips → Fin 3 → ℕ} {n : ℕ} (h : ∀ k, f k = ![0, 0, 32 * k.val + n]) (k : Fin k0_t2_loop.trips) : f k = ![0, 0, 32 * k.val + n] := h k
theorem offOut (k : Fin k0_t2_loop.trips) (u : Fin 4) (v : Fin 10) :
    k0_off140 k (BitVec.ofNat 32 u.val) (BitVec.ofNat 32 (16 * v.val)) = ![16 * (40 * k.val + (10 * u.val + v.val)), 0] := by
  revert k u v
  decide +kernel

variable {𝒱 : Variants} {c : Dev nD} {bd : Option 𝒱.V} {E : Set ℕ} {β : Type}
  {Q : β → sProp (MT nD τ sig Unit (Elt F) ℕ (Pipeline.UD sig nD τ) ℕ)} {X : S1x1x256.Idx → Elt F .i32}
  {R : sProp (MT nD τ sig Unit (Elt F) ℕ (Pipeline.UD sig nD τ) ℕ)} {t8 : ℕ → ℕ → ℕ → F .bf16} {t9 t10 : ℕ → ℕ → F .f32}
variable (i : grid0.Coords) (arg1 : Memref sig .tc .smem S1x1x256 .i32) (harg1 : arg1.IsWhole) (arg2 : Memref sig .tc .hbm S7936x2560 .i8) (harg2 : arg2.IsWhole) (arg3 : Memref sig .tc .vmem S62x128 .f32) (harg3 : arg3.IsWhole) (arg4 : Memref sig .tc .vmem S62x128 .f32) (harg4 : arg4.IsWhole) (arg5 : Memref sig .tc .vmem S1x2560 .bf16) (harg5 : arg5.IsWhole) (arg6 : Memref sig .tc .vmem S5120x128 .bf16) (harg6 : arg6.IsWhole) (arg7 : Memref sig .tc .vmem S5120x128 .bf16) (harg7 : arg7.IsWhole) (arg8 : Memref sig .tc .vmem S79360x2x128 .bf16) (harg8 : arg8.IsWhole) (arg9 : Memref sig .tc .vmem S15872x128 .f32) (harg9 : arg9.IsWhole) (arg10 : Memref sig .tc .vmem S80x128 .f32) (harg10 : arg10.IsWhole) (arg11 : Memref sig .tc .vmem S320x2x128 .bf16) (harg11 : arg11.IsWhole) (arg12 : Memref sig .tc .vmem S64x128 .f32) (harg12 : arg12.IsWhole) (arg13 : Memref sig .tc .vmem S8x128x2560 .i8) (harg13 : arg13.IsWhole) (arg14 : DmaSems sig S8)

theorem part17 (hX : ∀ s, xid X s < 7936) (c0_i32_11 : BitVec 32) (c1_i32 : BitVec 32) (k0_t2 : Fin k0_t2_loop.trips)
    {K : (Σ' (arg15 : BitVec 32) (v16 : BitVec 32) (v39 : Elt F .i32) (k0_hw3 : k0_chk3 v39), BitVec 32) → Prog (TpuEff nD τ sig (Elt F) Λ₀ .tc) β}
    (hk : ∀ (arg15 : BitVec 32) (v16 : BitVec 32) (v39 : BitVec 32) (hv39 : v39.toNat = xid X (32 * k0_t2.val + 1)) (lv39 : v39.toNat < 7936) (k0_hw3 : k0_chk3 v39) (c10_i32_30 : BitVec 32), SV c arg1 arg6 arg7 arg8 arg9 arg10 arg11 arg12 X t8 t9 t10 k0_t2.val 1 1 0 0 R ⊢ wp frame (wpE defs₀ 𝒱 (c : Thread nD τ) bd) E (K ⟨arg15, v16, v39, k0_hw3, c10_i32_30⟩) Q) :
    SV c arg1 arg6 arg7 arg8 arg9 arg10 arg11 arg12 X t8 t9 t10 k0_t2.val 0 0 0 0 R ⊢ wp frame (wpE defs₀ 𝒱 (c : Thread nD τ) bd) E (k0_part17 (F := F) i arg1 harg1 arg2 harg2 arg3 harg3 arg4 harg4 arg5 harg5 arg6 harg6 arg7 harg7 arg8 harg8 arg9 harg9 arg10 harg10 arg11 harg11 arg12 harg12 arg13 harg13 arg14 c0_i32_11 c1_i32 k0_t2 >>= K) Q := by
  rw [k0_part17_eq_skeleton]
  unfold k0_part17_skel
  refine assoc (sl (offAt (f := k0_off12) (n := 0) (by decide +kernel) k0_t2) hX fun v19 hv19 lv19 => ?_)
  refine assoc (assume (chkTab lv19) fun k0_hw1 => ?_)
  refine assoc (ldTab hv19 lv19 rfl fun v23_raw hv23_raw => ?_)
  refine assoc (load Sts.t11 fun v24_raw _ => ?_)
  refine assoc (stR 0 0 (by decide) (by decide) rfl rfl (stack10 v23_raw) hv23_raw ?_)
  refine assoc (sl (offAt (f := k0_off14) (n := 0) (by decide +kernel) k0_t2) hX fun v29 hv29 lv29 => ?_)
  refine assoc (assume (chkNorm lv29) fun k0_hw2 => ?_)
  refine assoc (ldNorm hv29 lv29 rfl fun v33 hv33 => ?_)
  refine assoc (load Sts.t12 fun v34 _ => ?_)
  refine assoc (stN 0 0 (by decide) (by decide) rfl rfl (shapeCast_id v33 _) hv33 ?_)
  refine assoc (sl (offAt (f := k0_off16) (n := 1) (by decide +kernel) k0_t2) hX fun v39 hv39 lv39 => ?_)
  refine assoc (assume (chkTab lv39) fun k0_hw3 => ?_)
  exact ret (hk _ _ _ hv39 lv39 _ _)

theorem part18 (hX : ∀ s, xid X s < 7936) (k0_t2 : Fin k0_t2_loop.trips) (v16 : BitVec 32) (v39 : BitVec 32) (hv39 : v39.toNat = xid X (32 * k0_t2.val + 1)) (lv39 : v39.toNat < 7936) (k0_hw3 : k0_chk3 v39) (c10_i32_30 : BitVec 32)
    {K : (Σ' (v63_hi : FVec F S10x128 .bf16), FVec F S10x128 .bf16) → Prog (TpuEff nD τ sig (Elt F) Λ₀ .tc) β}
    (hk : ∀ (v63_raw : Vec F S10x2x128 .bf16) (hv63_raw : ∀ x, v63_raw x = t8 (10 * xid X (32 * k0_t2.val + 2) + (x 0).val) (x 1).val (x 2).val), SV c arg1 arg6 arg7 arg8 arg9 arg10 arg11 arg12 X t8 t9 t10 k0_t2.val 2 2 0 0 R ⊢ wp frame (wpE defs₀ 𝒱 (c : Thread nD τ) bd) E (K ⟨k0_pay122 v63_raw, k0_pay123 v63_raw⟩) Q) :
    SV c arg1 arg6 arg7 arg8 arg9 arg10 arg11 arg12 X t8 t9 t10 k0_t2.val 1 1 0 0 R ⊢ wp frame (wpE defs₀ 𝒱 (c : Thread nD τ) bd) E (k0_part18 (F := F) i arg1 harg1 arg2 harg2 arg3 harg3 arg4 harg4 arg5 harg5 arg6 harg6 arg7 harg7 arg8 harg8 arg9 harg9 arg10 harg10 arg11 harg11 arg12 harg12 arg13 harg13 arg14 k0_t2 v16 v39 k0_hw3 c10_i32_30 >>= K) Q := by
  rw [k0_part18_eq_skeleton]
  unfold k0_part18_skel
  refine assoc (ldTab hv39 lv39 rfl fun v43_raw hv43_raw => ?_)
  refine assoc (load Sts.t11 fun v44_raw _ => ?_)
  refine assoc (stR 0 1 (by decide) (by decide) rfl rfl (stack10 v43_raw) hv43_raw ?_)
  refine assoc (sl (offAt (f := k0_off18) (n := 1) (by decide +kernel) k0_t2) hX fun v49 hv49 lv49 => ?_)
  refine assoc (assume (chkNorm lv49) fun k0_hw4 => ?_)
  refine assoc (ldNorm hv49 lv49 rfl fun v53 hv53 => ?_)
  refine assoc (load Sts.t12 fun v54 _ => ?_)
  refine assoc (stN 0 1 (by decide) (by decide) rfl rfl (shapeCast_id v53 _) hv53 ?_)
  refine assoc (sl (offAt (f := k0_off20) (n := 2) (by decide +kernel) k0_t2) hX fun v59 hv59 lv59 => ?_)
  refine assoc (assume (chkTab lv59) fun k0_hw5 => ?_)
  refine assoc (ldTab hv59 lv59 rfl fun v63_raw hv63_raw => ?_)
  refine assoc (load Sts.t11 fun v64_raw _ => ?_)
  exact ret (hk _ hv63_raw)

theorem part19 (hX : ∀ s, xid X s < 7936) (k0_t2 : Fin k0_t2_loop.trips) (v16 : BitVec 32) (v63_raw : Vec F S10x2x128 .bf16) (hv63_raw : ∀ x, v63_raw x = t8 (10 * xid X (32 * k0_t2.val + 2) + (x 0).val) (x 1).val (x 2).val)
    {K : (Σ' (v89 : Elt F .i32), k0_chk8 v89) → Prog (TpuEff nD τ sig (Elt F) Λ₀ .tc) β}
    (hk : ∀ (v89 : BitVec 32) (hv89 : v89.toNat = xid X (32 * k0_t2.val + 3)) (lv89 : v89.toNat < 7936) (k0_hw8 : k0_chk8 v89), SV c arg1 arg6 arg7 arg8 arg9 arg10 arg11 arg12 X t8 t9 t10 k0_t2.val 4 3 0 0 R ⊢ wp frame (wpE defs₀ 𝒱 (c : Thread nD τ) bd) E (K ⟨v89, k0_hw8⟩) Q) :
    SV c arg1 arg6 arg7 arg8 arg9 arg10 arg11 arg12 X t8 t9 t10 k0_t2.val 2 2 0 0 R ⊢ wp frame (wpE defs₀ 𝒱 (c : Thread nD τ) bd) E (k0_part19 (F := F) i arg1 harg1 arg2 harg2 arg3 harg3 arg4 harg4 arg5 harg5 arg6 harg6 arg7 harg7 arg8 harg8 arg9 harg9 arg10 harg10 arg11 harg11 arg12 harg12 arg13 harg13 arg14 k0_t2 v16 (k0_pay122 v63_raw) (k0_pay123 v63_raw) >>= K) Q := by
  rw [k0_part19_eq_skeleton]
  unfold k0_part19_skel
  refine assoc (stR 0 2 (by decide) (by decide) rfl rfl (stack10 v63_raw) hv63_raw ?_)
  refine assoc (sl (offAt (f := k0_off22) (n := 2) (by decide +kernel) k0_t2) hX fun v69 hv69 lv69 => ?_)
  refine assoc (assume (chkNorm lv69) fun k0_hw6 => ?_)
  refine assoc (ldNorm hv69 lv69 rfl fun v73 hv73 => ?_)
  refine assoc (load Sts.t12 fun v74 _ => ?_)
  refine assoc (stN 0 2 (by decide) (by decide) rfl rfl (shapeCast_id v73 _) hv73 ?_)
  refine assoc (sl (offAt (f := k0_off24) (n := 3) (by decide +kernel) k0_t2) hX fun v79 hv79 lv79 => ?_)
  refine assoc (assume (chkTab lv79) fun k0_hw7 => ?_)
  refine assoc (ldTab hv79 lv79 rfl fun v83_raw hv83_raw => ?_)
  refine assoc (load Sts.t11 fun v84_raw _ => ?_)
  refine assoc (stR 0 3 (by decide) (by decide) rfl rfl (stack10 v83_raw) hv83_raw ?_)
  refine assoc (sl (offAt (f := k0_off26) (n := 3) (by decide +kernel) k0_t2) hX fun v89 hv89 lv89 => ?_)
  refine assoc (assume (chkNorm lv89) fun k0_hw8 => ?_)
  exact ret (hk _ hv89 lv89 _)

theorem part20 (hX : ∀ s, xid X s < 7936) (k0_t2 : Fin k0_t2_loop.trips) (v16 : BitVec 32) (v89 : BitVec 32) (hv89 : v89.toNat = xid X (32 * k0_t2.val + 3)) (lv89 : v89.toNat < 7936) (k0_hw8 : k0_chk8 v89)
    {K : (Σ' (v119 : Elt F .i32) (k0_hw11 : k0_chk11 v119), BitVec 32) → Prog (TpuEff nD τ sig (Elt F) Λ₀ .tc) β}
    (hk : ∀ (v119 : BitVec 32) (hv119 : v119.toNat = xid X (32 * k0_t2.val + 5)) (lv119 : v119.toNat < 7936) (k0_hw11 : k0_chk11 v119) (c10_i32_80 : BitVec 32), SV c arg1 arg6 arg7 arg8 arg9 arg10 arg11 arg12 X t8 t9 t10 k0_t2.val 5 5 0 0 R ⊢ wp frame (wpE defs₀ 𝒱 (c : Thread nD τ) bd) E (K ⟨v119, k0_hw11, c10_i32_80⟩) Q) :
    SV c arg1 arg6 arg7 arg8 arg9 arg10 arg11 arg12 X t8 t9 t10 k0_t2.val 4 3 0 0 R ⊢ wp frame (wpE defs₀ 𝒱 (c : Thread nD τ) bd) E (k0_part20 (F := F) i arg1 harg1 arg2 harg2 arg3 harg3 arg4 harg4 arg5 harg5 arg6 harg6 arg7 harg7 arg8 harg8 arg9 harg9 arg10 harg10 arg11 harg11 arg12 harg12 arg13 harg13 arg14 k0_t2 v16 v89 k0_hw8 >>= K) Q := by
  rw [k0_part20_eq_skeleton]
  unfold k0_part20_skel
  refine assoc (ldNorm hv89 lv89 rfl fun v93 hv93 => ?_)
  refine assoc (load Sts.t12 fun v94 _ => ?_)
  refine assoc (stN 0 3 (by decide) (by decide) rfl rfl (shapeCast_id v93 _) hv93 ?_)
  refine assoc (sl (offAt (f := k0_off28) (n := 4) (by decide +kernel) k0_t2) hX fun v99 hv99 lv99 => ?_)
  refine assoc (assume (chkTab lv99) fun k0_hw9 => ?_)
  refine assoc (ldTab hv99 lv99 rfl fun v103_raw hv103_raw => ?_)
  refine assoc (load Sts.t11 fun v104_raw _ => ?_)
  refine assoc (stR 0 4 (by decide) (by decide) rfl rfl (stack10 v103_raw) hv103_raw ?_)
  refine assoc (sl (offAt (f := k0_off30) (n := 4) (by decide +kernel) k0_t2) hX fun v109 hv109 lv109 => ?_)
  refine assoc (assume (chkNorm lv109) fun k0_hw10 => ?_)
  refine assoc (ldNorm hv109 lv109 rfl fun v113 hv113 => ?_)
  refine assoc (load Sts.t12 fun v114 _ => ?_)
  refine assoc (stN 0 4 (by decide) (by decide) rfl rfl (shapeCast_id v113 _) hv113 ?_)
  refine assoc (sl (offAt (f := k0_off32) (n := 5) (by decide +kernel) k0_t2) hX fun v119 hv119 lv119 => ?_)
  refine assoc (assume (chkTab lv119) fun k0_hw11 => ?_)
  exact ret (hk _ hv119 lv119 _ _)

theorem part21 (hX : ∀ s, xid X s < 7936) (k0_t2 : Fin k0_t2_loop.trips) (v16 : BitVec 32) (v119 : BitVec 32) (hv119 : v119.toNat = xid X (32 * k0_t2.val + 5)) (lv119 : v119.toNat < 7936) (k0_hw11 : k0_chk11 v119) (c10_i32_80 : BitVec 32)
    {K : (Σ' (v143_hi : FVec F S10x128 .bf16), FVec F S10x128 .bf16) → Prog (TpuEff nD τ sig (Elt F) Λ₀ .tc) β}
    (hk : ∀ (v143_raw : Vec F S10x2x128 .bf16) (hv143_raw : ∀ x, v143_raw x = t8 (10 * xid X (32 * k0_t2.val + 6) + (x 0).val) (x 1).val (x 2).val), SV c arg1 arg6 arg7 arg8 arg9 arg10 arg11 arg12 X t8 t9 t10 k0_t2.val 6 6 0 0 R ⊢ wp frame (wpE defs₀ 𝒱 (c : Thread nD τ) bd) E (K ⟨k0_pay132 v143_raw, k0_pay133 v143_raw⟩) Q) :
    SV c arg1 arg6 arg7 arg8 arg9 arg10 arg11 arg12 X t8 t9 t10 k0_t2.val 5 5 0 0 R ⊢ wp frame (wpE defs₀ 𝒱 (c : Thread nD τ) bd) E (k0_part21 (F := F) i arg1 harg1 arg2 harg2 arg3 harg3 arg4 harg4 arg5 harg5 arg6 harg6 arg7 harg7 arg8 harg8 arg9 harg9 arg10 harg10 arg11 harg11 arg12 harg12 arg13 harg13 arg14 k0_t2 v16 v119 k0_hw11 c10_i32_80 >>= K) Q := by
  rw [k0_part21_eq_skeleton]
  unfold k0_part21_skel
  refine assoc (ldTab hv119 lv119 rfl fun v123_raw hv123_raw => ?_)
  refine assoc (load Sts.t11 fun v124_raw _ => ?_)
  refine assoc (stR 0 5 (by decide) (by decide) rfl rfl (stack10 v123_raw) hv123_raw ?_)
  refine assoc (sl (offAt (f := k0_off34) (n := 5) (by decide +kernel) k0_t2) hX fun v129 hv129 lv129 => ?_)
  refine assoc (assume (chkNorm lv129) fun k0_hw12 => ?_)
  refine assoc (ldNorm hv129 lv129 rfl fun v133 hv133 => ?_)
  refine assoc (load Sts.t12 fun v134 _ => ?_)
  refine assoc (stN 0 5 (by decide) (by decide) rfl rfl (shapeCast_id v133 _) hv133 ?_)
  refine assoc (sl (offAt (f := k0_off36) (n := 6) (by decide +kernel) k0_t2) hX fun v139 hv139 lv139 => ?_)
  refine assoc (assume (chkTab lv139) fun k0_hw13 => ?_)
  refine assoc (ldTab hv139 lv139 rfl fun v143_raw hv143_raw => ?_)
  refine assoc (load Sts.t11 fun v144_raw _ => ?_)
  exact ret (hk _ hv143_raw)

theorem part22 (hX : ∀ s, xid X s < 7936) (k0_t2 : Fin k0_t2_loop.trips) (v16 : BitVec 32) (v143_raw : Vec F S10x2x128 .bf16) (hv143_raw : ∀ x, v143_raw x = t8 (10 * xid X (32 * k0_t2.val + 6) + (x 0).val) (x 1).val (x 2).val)
    {K : (Σ' (v169 : Elt F .i32), k0_chk16 v169) → Prog (TpuEff nD τ sig (Elt F) Λ₀ .tc) β}
    (hk : ∀ (v169 : BitVec 32) (hv169 : v169.toNat = xid X (32 * k0_t2.val + 7)) (lv169 : v169.toNat < 7936) (k0_hw16 : k0_chk16 v169), SV c arg1 arg6 arg7 arg8 arg9 arg10 arg11 arg12 X t8 t9 t10 k0_t2.val 8 7 0 0 R ⊢ wp frame (wpE defs₀ 𝒱 (c : Thread nD τ) bd) E (K ⟨v169, k0_hw16⟩) Q) :
    SV c arg1 arg6 arg7 arg8 arg9 arg10 arg11 arg12 X t8 t9 t10 k0_t2.val 6 6 0 0 R ⊢ wp frame (wpE defs₀ 𝒱 (c : Thread nD τ) bd) E (k0_part22 (F := F) i arg1 harg1 arg2 harg2 arg3 harg3 arg4 harg4 arg5 harg5 arg6 harg6 arg7 harg7 arg8 harg8 arg9 harg9 arg10 harg10 arg11 harg11 arg12 harg12 arg13 harg13 arg14 k0_t2 v16 (k0_pay132 v143_raw) (k0_pay133 v143_raw) >>= K) Q := by
  rw [k0_part22_eq_skeleton]
  unfold k0_part22_skel
  refine assoc (stR 0 6 (by decide) (by decide) rfl rfl (stack10 v143_raw) hv143_raw ?_)
  refine assoc (sl (offAt (f := k0_off38) (n := 6) (by decide +kernel) k0_t2) hX fun v149 hv149 lv149 => ?_)
  refine assoc (assume (chkNorm lv149) fun k0_hw14 => ?_)
  refine assoc (ldNorm hv149 lv149 rfl fun v153 hv153 => ?_)
  refine assoc (load Sts.t12 fun v154 _ => ?_)
  refine assoc (stN 0 6 (by decide) (by decide) rfl rfl (shapeCast_id v153 _) hv153 ?_)
  refine assoc (sl (offAt (f := k0_off40) (n := 7) (by decide +kernel) k0_t2) hX fun v159 hv159 lv159 => ?_)
  refine assoc (assume (chkTab lv159) fun k0_hw15 => ?_)
  refine assoc (ldTab hv159 lv159 rfl fun v163_raw hv163_raw => ?_)
  refine assoc (load Sts.t11 fun v164_raw _ => ?_)
  refine assoc (stR 0 7 (by decide) (by decide) rfl rfl (stack10 v163_raw) hv163_raw ?_)
  refine assoc (sl (offAt (f := k0_off42) (n := 7) (by decide +kernel) k0_t2) hX fun v169 hv169 lv169 => ?_)
  refine assoc (assume (chkNorm lv169) fun k0_hw16 => ?_)
  exact ret (hk _ hv169 lv169 _)

theorem part23 (hX : ∀ s, xid X s < 7936) (k0_t2 : Fin k0_t2_loop.trips) (arg15 : BitVec 32) (v169 : BitVec 32) (hv169 : v169.toNat = xid X (32 * k0_t2.val + 7)) (lv169 : v169.toNat < 7936) (k0_hw16 : k0_chk16 v169)
    {K : (Σ' (v179 : BitVec 32), BitVec 32) → Prog (TpuEff nD τ sig (Elt F) Λ₀ .tc) β}
    (hk : ∀ (v179 : BitVec 32) (v200 : BitVec 32), SV c arg1 arg6 arg7 arg8 arg9 arg10 arg11 arg12 X t8 t9 t10 k0_t2.val 9 9 0 0 R ⊢ wp frame (wpE defs₀ 𝒱 (c : Thread nD τ) bd) E (K ⟨v179, v200⟩) Q) :
    SV c arg1 arg6 arg7 arg8 arg9 arg10 arg11 arg12 X t8 t9 t10 k0_t2.val 8 7 0 0 R ⊢ wp frame (wpE defs₀ 𝒱 (c : Thread nD τ) bd) E (k0_part23 (F := F) i arg1 harg1 arg2 harg2 arg3 harg3 arg4 harg4 arg5 harg5 arg6 harg6 arg7 harg7 arg8 harg8 arg9 harg9 arg10 harg10 arg11 harg11 arg12 harg12 arg13 harg13 arg14 k0_t2 arg15 v169 k0_hw16 >>= K) Q := by
  rw [k0_part23_eq_skeleton]
  unfold k0_part23_skel
  refine assoc (ldNorm hv169 lv169 rfl fun v173 hv173 => ?_)
  refine assoc (load Sts.t12 fun v174 _ => ?_)
  refine assoc (stN 0 7 (by decide) (by decide) rfl rfl (shapeCast_id v173 _) hv173 ?_)
  refine assoc (sl (offAt (f := k0_off44) (n := 8) (by decide +kernel) k0_t2) hX fun v182 hv182 lv182 => ?_)
  refine assoc (assume (chkTab lv182) fun k0_hw17 => ?_)
  refine assoc (ldTab hv182 lv182 rfl fun v186_raw hv186_raw => ?_)
  refine assoc (load Sts.t11 fun v187_raw _ => ?_)
  refine assoc (stR 1 0 (by decide) (by decide) rfl rfl (stack10 v186_raw) hv186_raw ?_)
  refine assoc (sl (offAt (f := k0_off46) (n := 8) (by decide +kernel) k0_t2) hX fun v192 hv192 lv192 => ?_)
  refine assoc (assume (chkNorm lv192) fun k0_hw18 => ?_)
  refine assoc (ldNorm hv192 lv192 rfl fun v196 hv196 => ?_)
  refine assoc (load Sts.t12 fun v197 _ => ?_)
  refine assoc (stN 1 0 (by decide) (by decide) rfl rfl (shapeCast_id v196 _) hv196 ?_)
  exact ret (hk _ _)

theorem part24 (hX : ∀ s, xid X s < 7936) (k0_t2 : Fin k0_t2_loop.trips) (v179 : BitVec 32) (v200 : BitVec 32)
    {K : (Σ' (v226_lo : FVec F S10x128 .bf16), FVec F S10x128 .bf16) → Prog (TpuEff nD τ sig (Elt F) Λ₀ .tc) β}
    (hk : ∀ (v226_raw : Vec F S10x2x128 .bf16) (hv226_raw : ∀ x, v226_raw x = t8 (10 * xid X (32 * k0_t2.val + 10) + (x 0).val) (x 1).val (x 2).val), SV c arg1 arg6 arg7 arg8 arg9 arg10 arg11 arg12 X t8 t9 t10 k0_t2.val 10 10 0 0 R ⊢ wp frame (wpE defs₀ 𝒱 (c : Thread nD τ) bd) E (K ⟨k0_pay142 v226_raw, k0_pay143 v226_raw⟩) Q) :
    SV c arg1 arg6 arg7 arg8 arg9 arg10 arg11 arg12 X t8 t9 t10 k0_t2.val 9 9 0 0 R ⊢ wp frame (wpE defs₀ 𝒱 (c : Thread nD τ) bd) E (k0_part24 (F := F) i arg1 harg1 arg2 harg2 arg3 harg3 arg4 harg4 arg5 harg5 arg6 harg6 arg7 harg7 arg8 harg8 arg9 harg9 arg10 harg10 arg11 harg11 arg12 harg12 arg13 harg13 arg14 k0_t2 v179 v200 >>= K) Q := by
  rw [k0_part24_eq_skeleton]
  unfold k0_part24_skel
  refine assoc (sl (offAt (f := k0_off48) (n := 9) (by decide +kernel) k0_t2) hX fun v202 hv202 lv202 => ?_)
  refine assoc (assume (chkTab lv202) fun k0_hw19 => ?_)
  refine assoc (ldTab hv202 lv202 rfl fun v206_raw hv206_raw => ?_)
  refine assoc (load Sts.t11 fun v207_raw _ => ?_)
  refine assoc (stR 1 1 (by decide) (by decide) rfl rfl (stack10 v206_raw) hv206_raw ?_)
  refine assoc (sl (offAt (f := k0_off50) (n := 9) (by decide +kernel) k0_t2) hX fun v212 hv212 lv212 => ?_)
  refine assoc (assume (chkNorm lv212) fun k0_hw20 => ?_)
  refine assoc (ldNorm hv212 lv212 rfl fun v216 hv216 => ?_)
  refine assoc (load Sts.t12 fun v217 _ => ?_)
  refine assoc (stN 1 1 (by decide) (by decide) rfl rfl (shapeCast_id v216 _) hv216 ?_)
  refine assoc (sl (offAt (f := k0_off52) (n := 10) (by decide +kernel) k0_t2) hX fun v222 hv222 lv222 => ?_)
  refine assoc (assume (chkTab lv222) fun k0_hw21 => ?_)
  refine assoc (ldTab hv222 lv222 rfl fun v226_raw hv226_raw => ?_)
  exact ret (hk _ hv226_raw)

theorem part25 (hX : ∀ s, xid X s < 7936) (k0_t2 : Fin k0_t2_loop.trips) (v179 : BitVec 32) (v226_raw : Vec F S10x2x128 .bf16) (hv226_raw : ∀ x, v226_raw x = t8 (10 * xid X (32 * k0_t2.val + 10) + (x 0).val) (x 1).val (x 2).val)
    {K : (Elt F .i32) → Prog (TpuEff nD τ sig (Elt F) Λ₀ .tc) β}
    (hk : ∀ (v252 : BitVec 32) (hv252 : v252.toNat = xid X (32 * k0_t2.val + 11)) (lv252 : v252.toNat < 7936), SV c arg1 arg6 arg7 arg8 arg9 arg10 arg11 arg12 X t8 t9 t10 k0_t2.val 12 11 0 0 R ⊢ wp frame (wpE defs₀ 𝒱 (c : Thread nD τ) bd) E (K (v252)) Q) :
    SV c arg1 arg6 arg7 arg8 arg9 arg10 arg11 arg12 X t8 t9 t10 k0_t2.val 10 10 0 0 R ⊢ wp frame (wpE defs₀ 𝒱 (c : Thread nD τ) bd) E (k0_part25 (F := F) i arg1 harg1 arg2 harg2 arg3 harg3 arg4 harg4 arg5 harg5 arg6 harg6 arg7 harg7 arg8 harg8 arg9 harg9 arg10 harg10 arg11 harg11 arg12 harg12 arg13 harg13 arg14 k0_t2 v179 (k0_pay142 v226_raw) (k0_pay143 v226_raw) >>= K) Q := by
  rw [k0_part25_eq_skeleton]
  unfold k0_part25_skel
  refine assoc (load Sts.t11 fun v227_raw _ => ?_)
  refine assoc (stR 1 2 (by decide) (by decide) rfl rfl (stack10 v226_raw) hv226_raw ?_)
  refine assoc (sl (offAt (f := k0_off54) (n := 10) (by decide +kernel) k0_t2) hX fun v232 hv232 lv232 => ?_)
  refine assoc (assume (chkNorm lv232) fun k0_hw22 => ?_)
  refine assoc (ldNorm hv232 lv232 rfl fun v236 hv236 => ?_)
  refine assoc (load Sts.t12 fun v237 _ => ?_)
  refine assoc (stN 1 2 (by decide) (by decide) rfl rfl (shapeCast_id v236 _) hv236 ?_)
  refine assoc (sl (offAt (f := k0_off56) (n := 11) (by decide +kernel) k0_t2) hX fun v242 hv242 lv242 => ?_)
  refine assoc (assume (chkTab lv242) fun k0_hw23 => ?_)
  refine assoc (ldTab hv242 lv242 rfl fun v246_raw hv246_raw => ?_)
  refine assoc (load Sts.t11 fun v247_raw _ => ?_)
  refine assoc (stR 1 3 (by decide) (by decide) rfl rfl (stack10 v246_raw) hv246_raw ?_)
  exact sl (offAt (f := k0_off58) (n := 11) (by decide +kernel) k0_t2) hX hk

theorem part26 (hX : ∀ s, xid X s < 7936) (k0_t2 : Fin k0_t2_loop.trips) (v179 : BitVec 32) (v252 : BitVec 32) (hv252 : v252.toNat = xid X (32 * k0_t2.val + 11)) (lv252 : v252.toNat < 7936)
    {K : (BitVec 32) → Prog (TpuEff nD τ sig (Elt F) Λ₀ .tc) β}
    (hk : ∀ (v280 : BitVec 32), SV c arg1 arg6 arg7 arg8 arg9 arg10 arg11 arg12 X t8 t9 t10 k0_t2.val 13 13 0 0 R ⊢ wp frame (wpE defs₀ 𝒱 (c : Thread nD τ) bd) E (K (v280)) Q) :
    SV c arg1 arg6 arg7 arg8 arg9 arg10 arg11 arg12 X t8 t9 t10 k0_t2.val 12 11 0 0 R ⊢ wp frame (wpE defs₀ 𝒱 (c : Thread nD τ) bd) E (k0_part26 (F := F) i arg1 harg1 arg2 harg2 arg3 harg3 arg4 harg4 arg5 harg5 arg6 harg6 arg7 harg7 arg8 harg8 arg9 harg9 arg10 harg10 arg11 harg11 arg12 harg12 arg13 harg13 arg14 k0_t2 v179 v252 >>= K) Q := by
  rw [k0_part26_eq_skeleton]
  unfold k0_part26_skel
  refine assoc (assume (chkNorm lv252) fun k0_hw24 => ?_)
  refine assoc (ldNorm hv252 lv252 rfl fun v256 hv256 => ?_)
  refine assoc (load Sts.t12 fun v257 _ => ?_)
  refine assoc (stN 1 3 (by decide) (by decide) rfl rfl (shapeCast_id v256 _) hv256 ?_)
  refine assoc (sl (offAt (f := k0_off60) (n := 12) (by decide +kernel) k0_t2) hX fun v262 hv262 lv262 => ?_)
  refine assoc (assume (chkTab lv262) fun k0_hw25 => ?_)
  refine assoc (ldTab hv262 lv262 rfl fun v266_raw hv266_raw => ?_)
  refine assoc (load Sts.t11 fun v267_raw _ => ?_)
  refine assoc (stR 1 4 (by decide) (by decide) rfl rfl (stack10 v266_raw) hv266_raw ?_)
  refine assoc (sl (offAt (f := k0_off62) (n := 12) (by decide +kernel) k0_t2) hX fun v272 hv272 lv272 => ?_)
  refine assoc (assume (chkNorm lv272) fun k0_hw26 => ?_)
  refine assoc (ldNorm hv272 lv272 rfl fun v276 hv276 => ?_)
  refine assoc (load Sts.t12 fun v277 _ => ?_)
  refine assoc (stN 1 4 (by decide) (by decide) rfl rfl (shapeCast_id v276 _) hv276 ?_)
  exact ret (hk _)

theorem part27 (hX : ∀ s, xid X s < 7936) (k0_t2 : Fin k0_t2_loop.trips) (v179 : BitVec 32) (v280 : BitVec 32)
    {K : (Σ' (v306_lo : FVec F S10x128 .bf16), FVec F S10x128 .bf16) → Prog (TpuEff nD τ sig (Elt F) Λ₀ .tc) β}
    (hk : ∀ (v306_raw : Vec F S10x2x128 .bf16) (hv306_raw : ∀ x, v306_raw x = t8 (10 * xid X (32 * k0_t2.val + 14) + (x 0).val) (x 1).val (x 2).val), SV c arg1 arg6 arg7 arg8 arg9 arg10 arg11 arg12 X t8 t9 t10 k0_t2.val 14 14 0 0 R ⊢ wp frame (wpE defs₀ 𝒱 (c : Thread nD τ) bd) E (K ⟨k0_pay152 v306_raw, k0_pay153 v306_raw⟩) Q) :
    SV c arg1 arg6 arg7 arg8 arg9 arg10 arg11 arg12 X t8 t9 t10 k0_t2.val 13 13 0 0 R ⊢ wp frame (wpE defs₀ 𝒱 (c : Thread nD τ) bd) E (k0_part27 (F := F) i arg1 harg1 arg2 harg2 arg3 harg3 arg4 harg4 arg5 harg5 arg6 harg6 arg7 harg7 arg8 harg8 arg9 harg9 arg10 harg10 arg11 harg11 arg12 harg12 arg13 harg13 arg14 k0_t2 v179 v280 >>= K) Q := by
  rw [k0_part27_eq_skeleton]
  unfold k0_part27_skel
  refine assoc (sl (offAt (f := k0_off64) (n := 13) (by decide +kernel) k0_t2) hX fun v282 hv282 lv282 => ?_)
  refine assoc (assume (chkTab lv282) fun k0_hw27 => ?_)
  refine assoc (ldTab hv282 lv282 rfl fun v286_raw hv286_raw => ?_)
  refine assoc (load Sts.t11 fun v287_raw _ => ?_)
  refine assoc (stR 1 5 (by decide) (by decide) rfl rfl (stack10 v286_raw) hv286_raw ?_)
  refine assoc (sl (offAt (f := k0_off66) (n := 13) (by decide +kernel) k0_t2) hX fun v292 hv292 lv292 => ?_)
  refine assoc (assume (chkNorm lv292) fun k0_hw28 => ?_)
  refine assoc (ldNorm hv292 lv292 rfl fun v296 hv296 => ?_)
  refine assoc (load Sts.t12 fun v297 _ => ?_)
  refine assoc (stN 1 5 (by decide) (by decide) rfl rfl (shapeCast_id v296 _) hv296 ?_)
  refine assoc (sl (offAt (f := k0_off68) (n := 14) (by decide +kernel) k0_t2) hX fun v302 hv302 lv302 => ?_)
  refine assoc (assume (chkTab lv302) fun k0_hw29 => ?_)
  refine assoc (ldTab hv302 lv302 rfl fun v306_raw hv306_raw => ?_)
  exact ret (hk _ hv306_raw)

end Cert.Proof.EmitParts

end
-- ==== Proof.EmitParts2.lean ====
/- What parts 28 to 40 of a trip of KernelIdeal's emission loop gather and store. -/
module

public import proofs.«01_k».proof.Proof.EmitParts1

@[expose] public section

set_option maxRecDepth 16384

noncomputable section

namespace Cert.Proof.EmitParts

open Cert.KernelIdeal Cert.KernelIdeal.Gen Cert.Proof.Hoare Cert.Proof.Target Cert.Proof.EmitRules
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

variable {𝒱 : Variants} {c : Dev nD} {bd : Option 𝒱.V} {E : Set ℕ} {β : Type}
  {Q : β → sProp (MT nD τ sig Unit (Elt F) ℕ (Pipeline.UD sig nD τ) ℕ)} {X : S1x1x256.Idx → Elt F .i32}
  {R : sProp (MT nD τ sig Unit (Elt F) ℕ (Pipeline.UD sig nD τ) ℕ)} {t8 : ℕ → ℕ → ℕ → F .bf16} {t9 t10 : ℕ → ℕ → F .f32}
variable (i : grid0.Coords) (arg1 : Memref sig .tc .smem S1x1x256 .i32) (harg1 : arg1.IsWhole) (arg2 : Memref sig .tc .hbm S7936x2560 .i8) (harg2 : arg2.IsWhole) (arg3 : Memref sig .tc .vmem S62x128 .f32) (harg3 : arg3.IsWhole) (arg4 : Memref sig .tc .vmem S62x128 .f32) (harg4 : arg4.IsWhole) (arg5 : Memref sig .tc .vmem S1x2560 .bf16) (harg5 : arg5.IsWhole) (arg6 : Memref sig .tc .vmem S5120x128 .bf16) (harg6 : arg6.IsWhole) (arg7 : Memref sig .tc .vmem S5120x128 .bf16) (harg7 : arg7.IsWhole) (arg8 : Memref sig .tc .vmem S79360x2x128 .bf16) (harg8 : arg8.IsWhole) (arg9 : Memref sig .tc .vmem S15872x128 .f32) (harg9 : arg9.IsWhole) (arg10 : Memref sig .tc .vmem S80x128 .f32) (harg10 : arg10.IsWhole) (arg11 : Memref sig .tc .vmem S320x2x128 .bf16) (harg11 : arg11.IsWhole) (arg12 : Memref sig .tc .vmem S64x128 .f32) (harg12 : arg12.IsWhole) (arg13 : Memref sig .tc .vmem S8x128x2560 .i8) (harg13 : arg13.IsWhole) (arg14 : DmaSems sig S8)

theorem part28 (hX : ∀ s, xid X s < 7936) (k0_t2 : Fin k0_t2_loop.trips) (v179 : BitVec 32) (v306_raw : Vec F S10x2x128 .bf16) (hv306_raw : ∀ x, v306_raw x = t8 (10 * xid X (32 * k0_t2.val + 14) + (x 0).val) (x 1).val (x 2).val)
    {K : (Elt F .i32) → Prog (TpuEff nD τ sig (Elt F) Λ₀ .tc) β}
    (hk : ∀ (v332 : BitVec 32) (hv332 : v332.toNat = xid X (32 * k0_t2.val + 15)) (lv332 : v332.toNat < 7936), SV c arg1 arg6 arg7 arg8 arg9 arg10 arg11 arg12 X t8 t9 t10 k0_t2.val 16 15 0 0 R ⊢ wp frame (wpE defs₀ 𝒱 (c : Thread nD τ) bd) E (K (v332)) Q) :
    SV c arg1 arg6 arg7 arg8 arg9 arg10 arg11 arg12 X t8 t9 t10 k0_t2.val 14 14 0 0 R ⊢ wp frame (wpE defs₀ 𝒱 (c : Thread nD τ) bd) E (k0_part28 (F := F) i arg1 harg1 arg2 harg2 arg3 harg3 arg4 harg4 arg5 harg5 arg6 harg6 arg7 harg7 arg8 harg8 arg9 harg9 arg10 harg10 arg11 harg11 arg12 harg12 arg13 harg13 arg14 k0_t2 v179 (k0_pay152 v306_raw) (k0_pay153 v306_raw) >>= K) Q := by
  rw [k0_part28_eq_skeleton]
  unfold k0_part28_skel
  refine assoc (load Sts.t11 fun v307_raw _ => ?_)
  refine assoc (stR 1 6 (by decide) (by decide) rfl rfl (stack10 v306_raw) hv306_raw ?_)
  refine assoc (sl (offAt (f := k0_off70) (n := 14) (by decide +kernel) k0_t2) hX fun v312 hv312 lv312 => ?_)
  refine assoc (assume (chkNorm lv312) fun k0_hw30 => ?_)
  refine assoc (ldNorm hv312 lv312 rfl fun v316 hv316 => ?_)
  refine assoc (load Sts.t12 fun v317 _ => ?_)
  refine assoc (stN 1 6 (by decide) (by decide) rfl rfl (shapeCast_id v316 _) hv316 ?_)
  refine assoc (sl (offAt (f := k0_off72) (n := 15) (by decide +kernel) k0_t2) hX fun v322 hv322 lv322 => ?_)
  refine assoc (assume (chkTab lv322) fun k0_hw31 => ?_)
  refine assoc (ldTab hv322 lv322 rfl fun v326_raw hv326_raw => ?_)
  refine assoc (load Sts.t11 fun v327_raw _ => ?_)
  refine assoc (stR 1 7 (by decide) (by decide) rfl rfl (stack10 v326_raw) hv326_raw ?_)
  exact sl (offAt (f := k0_off74) (n := 15) (by decide +kernel) k0_t2) hX hk

theorem part29 (hX : ∀ s, xid X s < 7936) (k0_t2 : Fin k0_t2_loop.trips) (arg15 : BitVec 32) (v332 : BitVec 32) (hv332 : v332.toNat = xid X (32 * k0_t2.val + 15)) (lv332 : v332.toNat < 7936)
    {K : (Σ' (v342 : BitVec 32), Vec F S2x128 .f32) → Prog (TpuEff nD τ sig (Elt F) Λ₀ .tc) β}
    (hk : ∀ (v342 : BitVec 32) (v359 : Vec F S2x128 .f32) (hv359 : ∀ x, v359 x = t9 (2 * xid X (32 * k0_t2.val + 16) + (x 0).val) (x 1).val), SV c arg1 arg6 arg7 arg8 arg9 arg10 arg11 arg12 X t8 t9 t10 k0_t2.val 17 16 0 0 R ⊢ wp frame (wpE defs₀ 𝒱 (c : Thread nD τ) bd) E (K ⟨v342, v359⟩) Q) :
    SV c arg1 arg6 arg7 arg8 arg9 arg10 arg11 arg12 X t8 t9 t10 k0_t2.val 16 15 0 0 R ⊢ wp frame (wpE defs₀ 𝒱 (c : Thread nD τ) bd) E (k0_part29 (F := F) i arg1 harg1 arg2 harg2 arg3 harg3 arg4 harg4 arg5 harg5 arg6 harg6 arg7 harg7 arg8 harg8 arg9 harg9 arg10 harg10 arg11 harg11 arg12 harg12 arg13 harg13 arg14 k0_t2 arg15 v332 >>= K) Q := by
  rw [k0_part29_eq_skeleton]
  unfold k0_part29_skel
  refine assoc (assume (chkNorm lv332) fun k0_hw32 => ?_)
  refine assoc (ldNorm hv332 lv332 rfl fun v336 hv336 => ?_)
  refine assoc (load Sts.t12 fun v337 _ => ?_)
  refine assoc (stN 1 7 (by decide) (by decide) rfl rfl (shapeCast_id v336 _) hv336 ?_)
  refine assoc (sl (offAt (f := k0_off76) (n := 16) (by decide +kernel) k0_t2) hX fun v345 hv345 lv345 => ?_)
  refine assoc (assume (chkTab lv345) fun k0_hw33 => ?_)
  refine assoc (ldTab hv345 lv345 rfl fun v349_raw hv349_raw => ?_)
  refine assoc (load Sts.t11 fun v350_raw _ => ?_)
  refine assoc (stR 2 0 (by decide) (by decide) rfl rfl (stack10 v349_raw) hv349_raw ?_)
  refine assoc (sl (offAt (f := k0_off78) (n := 16) (by decide +kernel) k0_t2) hX fun v355 hv355 lv355 => ?_)
  refine assoc (assume (chkNorm lv355) fun k0_hw34 => ?_)
  refine assoc (ldNorm hv355 lv355 rfl fun v359 hv359 => ?_)
  exact ret (hk _ _ hv359)

theorem part30 (hX : ∀ s, xid X s < 7936) (k0_t2 : Fin k0_t2_loop.trips) (v342 : BitVec 32) (v359 : Vec F S2x128 .f32) (hv359 : ∀ x, v359 x = t9 (2 * xid X (32 * k0_t2.val + 16) + (x 0).val) (x 1).val)
    {K : (Σ' (v385 : Elt F .i32), k0_chk37 v385) → Prog (TpuEff nD τ sig (Elt F) Λ₀ .tc) β}
    (hk : ∀ (v385 : BitVec 32) (hv385 : v385.toNat = xid X (32 * k0_t2.val + 18)) (lv385 : v385.toNat < 7936) (k0_hw37 : k0_chk37 v385), SV c arg1 arg6 arg7 arg8 arg9 arg10 arg11 arg12 X t8 t9 t10 k0_t2.val 18 18 0 0 R ⊢ wp frame (wpE defs₀ 𝒱 (c : Thread nD τ) bd) E (K ⟨v385, k0_hw37⟩) Q) :
    SV c arg1 arg6 arg7 arg8 arg9 arg10 arg11 arg12 X t8 t9 t10 k0_t2.val 17 16 0 0 R ⊢ wp frame (wpE defs₀ 𝒱 (c : Thread nD τ) bd) E (k0_part30 (F := F) i arg1 harg1 arg2 harg2 arg3 harg3 arg4 harg4 arg5 harg5 arg6 harg6 arg7 harg7 arg8 harg8 arg9 harg9 arg10 harg10 arg11 harg11 arg12 harg12 arg13 harg13 arg14 k0_t2 v342 v359 >>= K) Q := by
  rw [k0_part30_eq_skeleton]
  unfold k0_part30_skel
  refine assoc (load Sts.t12 fun v360 _ => ?_)
  refine assoc (stN 2 0 (by decide) (by decide) rfl rfl (shapeCast_id v359 _) hv359 ?_)
  refine assoc (sl (offAt (f := k0_off80) (n := 17) (by decide +kernel) k0_t2) hX fun v365 hv365 lv365 => ?_)
  refine assoc (assume (chkTab lv365) fun k0_hw35 => ?_)
  refine assoc (ldTab hv365 lv365 rfl fun v369_raw hv369_raw => ?_)
  refine assoc (load Sts.t11 fun v370_raw _ => ?_)
  refine assoc (stR 2 1 (by decide) (by decide) rfl rfl (stack10 v369_raw) hv369_raw ?_)
  refine assoc (sl (offAt (f := k0_off82) (n := 17) (by decide +kernel) k0_t2) hX fun v375 hv375 lv375 => ?_)
  refine assoc (assume (chkNorm lv375) fun k0_hw36 => ?_)
  refine assoc (ldNorm hv375 lv375 rfl fun v379 hv379 => ?_)
  refine assoc (load Sts.t12 fun v380 _ => ?_)
  refine assoc (stN 2 1 (by decide) (by decide) rfl rfl (shapeCast_id v379 _) hv379 ?_)
  refine assoc (sl (offAt (f := k0_off84) (n := 18) (by decide +kernel) k0_t2) hX fun v385 hv385 lv385 => ?_)
  refine assoc (assume (chkTab lv385) fun k0_hw37 => ?_)
  exact ret (hk _ hv385 lv385 _)

theorem part31 (hX : ∀ s, xid X s < 7936) (k0_t2 : Fin k0_t2_loop.trips) (v342 : BitVec 32) (v385 : BitVec 32) (hv385 : v385.toNat = xid X (32 * k0_t2.val + 18)) (lv385 : v385.toNat < 7936) (k0_hw37 : k0_chk37 v385)
    {K : PUnit → Prog (TpuEff nD τ sig (Elt F) Λ₀ .tc) β}
    (hk : SV c arg1 arg6 arg7 arg8 arg9 arg10 arg11 arg12 X t8 t9 t10 k0_t2.val 20 19 0 0 R ⊢ wp frame (wpE defs₀ 𝒱 (c : Thread nD τ) bd) E (K ⟨⟩) Q) :
    SV c arg1 arg6 arg7 arg8 arg9 arg10 arg11 arg12 X t8 t9 t10 k0_t2.val 18 18 0 0 R ⊢ wp frame (wpE defs₀ 𝒱 (c : Thread nD τ) bd) E (k0_part31 (F := F) i arg1 harg1 arg2 harg2 arg3 harg3 arg4 harg4 arg5 harg5 arg6 harg6 arg7 harg7 arg8 harg8 arg9 harg9 arg10 harg10 arg11 harg11 arg12 harg12 arg13 harg13 arg14 k0_t2 v342 v385 k0_hw37 >>= K) Q := by
  rw [k0_part31_eq_skeleton]
  unfold k0_part31_skel
  refine assoc (ldTab hv385 lv385 rfl fun v389_raw hv389_raw => ?_)
  refine assoc (load Sts.t11 fun v390_raw _ => ?_)
  refine assoc (stR 2 2 (by decide) (by decide) rfl rfl (stack10 v389_raw) hv389_raw ?_)
  refine assoc (sl (offAt (f := k0_off86) (n := 18) (by decide +kernel) k0_t2) hX fun v395 hv395 lv395 => ?_)
  refine assoc (assume (chkNorm lv395) fun k0_hw38 => ?_)
  refine assoc (ldNorm hv395 lv395 rfl fun v399 hv399 => ?_)
  refine assoc (load Sts.t12 fun v400 _ => ?_)
  refine assoc (stN 2 2 (by decide) (by decide) rfl rfl (shapeCast_id v399 _) hv399 ?_)
  refine assoc (sl (offAt (f := k0_off88) (n := 19) (by decide +kernel) k0_t2) hX fun v405 hv405 lv405 => ?_)
  refine assoc (assume (chkTab lv405) fun k0_hw39 => ?_)
  refine assoc (ldTab hv405 lv405 rfl fun v409_raw hv409_raw => ?_)
  refine assoc (load Sts.t11 fun v410_raw _ => ?_)
  refine assoc (stR 2 3 (by decide) (by decide) rfl rfl (stack10 v409_raw) hv409_raw ?_)
  exact ret (hk)

theorem part32 (hX : ∀ s, xid X s < 7936) (k0_t2 : Fin k0_t2_loop.trips) (v342 : BitVec 32)
    {K : (Vec F S2x128 .f32) → Prog (TpuEff nD τ sig (Elt F) Λ₀ .tc) β}
    (hk : ∀ (v439 : Vec F S2x128 .f32) (hv439 : ∀ x, v439 x = t9 (2 * xid X (32 * k0_t2.val + 20) + (x 0).val) (x 1).val), SV c arg1 arg6 arg7 arg8 arg9 arg10 arg11 arg12 X t8 t9 t10 k0_t2.val 21 20 0 0 R ⊢ wp frame (wpE defs₀ 𝒱 (c : Thread nD τ) bd) E (K (v439)) Q) :
    SV c arg1 arg6 arg7 arg8 arg9 arg10 arg11 arg12 X t8 t9 t10 k0_t2.val 20 19 0 0 R ⊢ wp frame (wpE defs₀ 𝒱 (c : Thread nD τ) bd) E (k0_part32 (F := F) i arg1 harg1 arg2 harg2 arg3 harg3 arg4 harg4 arg5 harg5 arg6 harg6 arg7 harg7 arg8 harg8 arg9 harg9 arg10 harg10 arg11 harg11 arg12 harg12 arg13 harg13 arg14 k0_t2 v342 >>= K) Q := by
  rw [k0_part32_eq_skeleton]
  unfold k0_part32_skel
  refine assoc (sl (offAt (f := k0_off90) (n := 19) (by decide +kernel) k0_t2) hX fun v415 hv415 lv415 => ?_)
  refine assoc (assume (chkNorm lv415) fun k0_hw40 => ?_)
  refine assoc (ldNorm hv415 lv415 rfl fun v419 hv419 => ?_)
  refine assoc (load Sts.t12 fun v420 _ => ?_)
  refine assoc (stN 2 3 (by decide) (by decide) rfl rfl (shapeCast_id v419 _) hv419 ?_)
  refine assoc (sl (offAt (f := k0_off92) (n := 20) (by decide +kernel) k0_t2) hX fun v425 hv425 lv425 => ?_)
  refine assoc (assume (chkTab lv425) fun k0_hw41 => ?_)
  refine assoc (ldTab hv425 lv425 rfl fun v429_raw hv429_raw => ?_)
  refine assoc (load Sts.t11 fun v430_raw _ => ?_)
  refine assoc (stR 2 4 (by decide) (by decide) rfl rfl (stack10 v429_raw) hv429_raw ?_)
  refine assoc (sl (offAt (f := k0_off94) (n := 20) (by decide +kernel) k0_t2) hX fun v435 hv435 lv435 => ?_)
  refine assoc (assume (chkNorm lv435) fun k0_hw42 => ?_)
  refine assoc (ldNorm hv435 lv435 rfl fun v439 hv439 => ?_)
  exact ret (hk _ hv439)

theorem part33 (hX : ∀ s, xid X s < 7936) (k0_t2 : Fin k0_t2_loop.trips) (v342 : BitVec 32) (v439 : Vec F S2x128 .f32) (hv439 : ∀ x, v439 x = t9 (2 * xid X (32 * k0_t2.val + 20) + (x 0).val) (x 1).val)
    {K : (Σ' (v465 : Elt F .i32), k0_chk45 v465) → Prog (TpuEff nD τ sig (Elt F) Λ₀ .tc) β}
    (hk : ∀ (v465 : BitVec 32) (hv465 : v465.toNat = xid X (32 * k0_t2.val + 22)) (lv465 : v465.toNat < 7936) (k0_hw45 : k0_chk45 v465), SV c arg1 arg6 arg7 arg8 arg9 arg10 arg11 arg12 X t8 t9 t10 k0_t2.val 22 22 0 0 R ⊢ wp frame (wpE defs₀ 𝒱 (c : Thread nD τ) bd) E (K ⟨v465, k0_hw45⟩) Q) :
    SV c arg1 arg6 arg7 arg8 arg9 arg10 arg11 arg12 X t8 t9 t10 k0_t2.val 21 20 0 0 R ⊢ wp frame (wpE defs₀ 𝒱 (c : Thread nD τ) bd) E (k0_part33 (F := F) i arg1 harg1 arg2 harg2 arg3 harg3 arg4 harg4 arg5 harg5 arg6 harg6 arg7 harg7 arg8 harg8 arg9 harg9 arg10 harg10 arg11 harg11 arg12 harg12 arg13 harg13 arg14 k0_t2 v342 v439 >>= K) Q := by
  rw [k0_part33_eq_skeleton]
  unfold k0_part33_skel
  refine assoc (load Sts.t12 fun v440 _ => ?_)
  refine assoc (stN 2 4 (by decide) (by decide) rfl rfl (shapeCast_id v439 _) hv439 ?_)
  refine assoc (sl (offAt (f := k0_off96) (n := 21) (by decide +kernel) k0_t2) hX fun v445 hv445 lv445 => ?_)
  refine assoc (assume (chkTab lv445) fun k0_hw43 => ?_)
  refine assoc (ldTab hv445 lv445 rfl fun v449_raw hv449_raw => ?_)
  refine assoc (load Sts.t11 fun v450_raw _ => ?_)
  refine assoc (stR 2 5 (by decide) (by decide) rfl rfl (stack10 v449_raw) hv449_raw ?_)
  refine assoc (sl (offAt (f := k0_off98) (n := 21) (by decide +kernel) k0_t2) hX fun v455 hv455 lv455 => ?_)
  refine assoc (assume (chkNorm lv455) fun k0_hw44 => ?_)
  refine assoc (ldNorm hv455 lv455 rfl fun v459 hv459 => ?_)
  refine assoc (load Sts.t12 fun v460 _ => ?_)
  refine assoc (stN 2 5 (by decide) (by decide) rfl rfl (shapeCast_id v459 _) hv459 ?_)
  refine assoc (sl (offAt (f := k0_off100) (n := 22) (by decide +kernel) k0_t2) hX fun v465 hv465 lv465 => ?_)
  refine assoc (assume (chkTab lv465) fun k0_hw45 => ?_)
  exact ret (hk _ hv465 lv465 _)

theorem part34 (hX : ∀ s, xid X s < 7936) (k0_t2 : Fin k0_t2_loop.trips) (v342 : BitVec 32) (v465 : BitVec 32) (hv465 : v465.toNat = xid X (32 * k0_t2.val + 22)) (lv465 : v465.toNat < 7936) (k0_hw45 : k0_chk45 v465)
    {K : PUnit → Prog (TpuEff nD τ sig (Elt F) Λ₀ .tc) β}
    (hk : SV c arg1 arg6 arg7 arg8 arg9 arg10 arg11 arg12 X t8 t9 t10 k0_t2.val 24 23 0 0 R ⊢ wp frame (wpE defs₀ 𝒱 (c : Thread nD τ) bd) E (K ⟨⟩) Q) :
    SV c arg1 arg6 arg7 arg8 arg9 arg10 arg11 arg12 X t8 t9 t10 k0_t2.val 22 22 0 0 R ⊢ wp frame (wpE defs₀ 𝒱 (c : Thread nD τ) bd) E (k0_part34 (F := F) i arg1 harg1 arg2 harg2 arg3 harg3 arg4 harg4 arg5 harg5 arg6 harg6 arg7 harg7 arg8 harg8 arg9 harg9 arg10 harg10 arg11 harg11 arg12 harg12 arg13 harg13 arg14 k0_t2 v342 v465 k0_hw45 >>= K) Q := by
  rw [k0_part34_eq_skeleton]
  unfold k0_part34_skel
  refine assoc (ldTab hv465 lv465 rfl fun v469_raw hv469_raw => ?_)
  refine assoc (load Sts.t11 fun v470_raw _ => ?_)
  refine assoc (stR 2 6 (by decide) (by decide) rfl rfl (stack10 v469_raw) hv469_raw ?_)
  refine assoc (sl (offAt (f := k0_off102) (n := 22) (by decide +kernel) k0_t2) hX fun v475 hv475 lv475 => ?_)
  refine assoc (assume (chkNorm lv475) fun k0_hw46 => ?_)
  refine assoc (ldNorm hv475 lv475 rfl fun v479 hv479 => ?_)
  refine assoc (load Sts.t12 fun v480 _ => ?_)
  refine assoc (stN 2 6 (by decide) (by decide) rfl rfl (shapeCast_id v479 _) hv479 ?_)
  refine assoc (sl (offAt (f := k0_off104) (n := 23) (by decide +kernel) k0_t2) hX fun v485 hv485 lv485 => ?_)
  refine assoc (assume (chkTab lv485) fun k0_hw47 => ?_)
  refine assoc (ldTab hv485 lv485 rfl fun v489_raw hv489_raw => ?_)
  refine assoc (load Sts.t11 fun v490_raw _ => ?_)
  refine assoc (stR 2 7 (by decide) (by decide) rfl rfl (stack10 v489_raw) hv489_raw ?_)
  exact ret (hk)

theorem part35 (hX : ∀ s, xid X s < 7936) (k0_t2 : Fin k0_t2_loop.trips) (arg15 : BitVec 32) (v342 : BitVec 32)
    {K : (Σ' (v505 : BitVec 32) (v518 : Elt F .i32) (k0_hw50 : k0_chk50 v518), BitVec 32) → Prog (TpuEff nD τ sig (Elt F) Λ₀ .tc) β}
    (hk : ∀ (v505 : BitVec 32) (v518 : BitVec 32) (hv518 : v518.toNat = xid X (32 * k0_t2.val + 24)) (lv518 : v518.toNat < 7936) (k0_hw50 : k0_chk50 v518) (v519 : BitVec 32), SV c arg1 arg6 arg7 arg8 arg9 arg10 arg11 arg12 X t8 t9 t10 k0_t2.val 25 24 0 0 R ⊢ wp frame (wpE defs₀ 𝒱 (c : Thread nD τ) bd) E (K ⟨v505, v518, k0_hw50, v519⟩) Q) :
    SV c arg1 arg6 arg7 arg8 arg9 arg10 arg11 arg12 X t8 t9 t10 k0_t2.val 24 23 0 0 R ⊢ wp frame (wpE defs₀ 𝒱 (c : Thread nD τ) bd) E (k0_part35 (F := F) i arg1 harg1 arg2 harg2 arg3 harg3 arg4 harg4 arg5 harg5 arg6 harg6 arg7 harg7 arg8 harg8 arg9 harg9 arg10 harg10 arg11 harg11 arg12 harg12 arg13 harg13 arg14 k0_t2 arg15 v342 >>= K) Q := by
  rw [k0_part35_eq_skeleton]
  unfold k0_part35_skel
  refine assoc (sl (offAt (f := k0_off106) (n := 23) (by decide +kernel) k0_t2) hX fun v495 hv495 lv495 => ?_)
  refine assoc (assume (chkNorm lv495) fun k0_hw48 => ?_)
  refine assoc (ldNorm hv495 lv495 rfl fun v499 hv499 => ?_)
  refine assoc (load Sts.t12 fun v500 _ => ?_)
  refine assoc (stN 2 7 (by decide) (by decide) rfl rfl (shapeCast_id v499 _) hv499 ?_)
  refine assoc (sl (offAt (f := k0_off108) (n := 24) (by decide +kernel) k0_t2) hX fun v508 hv508 lv508 => ?_)
  refine assoc (assume (chkTab lv508) fun k0_hw49 => ?_)
  refine assoc (ldTab hv508 lv508 rfl fun v512_raw hv512_raw => ?_)
  refine assoc (load Sts.t11 fun v513_raw _ => ?_)
  refine assoc (stR 3 0 (by decide) (by decide) rfl rfl (stack10 v512_raw) hv512_raw ?_)
  refine assoc (sl (offAt (f := k0_off110) (n := 24) (by decide +kernel) k0_t2) hX fun v518 hv518 lv518 => ?_)
  refine assoc (assume (chkNorm lv518) fun k0_hw50 => ?_)
  exact ret (hk _ _ hv518 lv518 _ _)

theorem part36 (hX : ∀ s, xid X s < 7936) (k0_t2 : Fin k0_t2_loop.trips) (v505 : BitVec 32) (v518 : BitVec 32) (hv518 : v518.toNat = xid X (32 * k0_t2.val + 24)) (lv518 : v518.toNat < 7936) (k0_hw50 : k0_chk50 v518) (v519 : BitVec 32)
    {K : PUnit → Prog (TpuEff nD τ sig (Elt F) Λ₀ .tc) β}
    (hk : SV c arg1 arg6 arg7 arg8 arg9 arg10 arg11 arg12 X t8 t9 t10 k0_t2.val 26 26 0 0 R ⊢ wp frame (wpE defs₀ 𝒱 (c : Thread nD τ) bd) E (K ⟨⟩) Q) :
    SV c arg1 arg6 arg7 arg8 arg9 arg10 arg11 arg12 X t8 t9 t10 k0_t2.val 25 24 0 0 R ⊢ wp frame (wpE defs₀ 𝒱 (c : Thread nD τ) bd) E (k0_part36 (F := F) i arg1 harg1 arg2 harg2 arg3 harg3 arg4 harg4 arg5 harg5 arg6 harg6 arg7 harg7 arg8 harg8 arg9 harg9 arg10 harg10 arg11 harg11 arg12 harg12 arg13 harg13 arg14 k0_t2 v505 v518 k0_hw50 v519 >>= K) Q := by
  rw [k0_part36_eq_skeleton]
  unfold k0_part36_skel
  refine assoc (ldNorm hv518 lv518 rfl fun v522 hv522 => ?_)
  refine assoc (load Sts.t12 fun v523 _ => ?_)
  refine assoc (stN 3 0 (by decide) (by decide) rfl rfl (shapeCast_id v522 _) hv522 ?_)
  refine assoc (sl (offAt (f := k0_off112) (n := 25) (by decide +kernel) k0_t2) hX fun v528 hv528 lv528 => ?_)
  refine assoc (assume (chkTab lv528) fun k0_hw51 => ?_)
  refine assoc (ldTab hv528 lv528 rfl fun v532_raw hv532_raw => ?_)
  refine assoc (load Sts.t11 fun v533_raw _ => ?_)
  refine assoc (stR 3 1 (by decide) (by decide) rfl rfl (stack10 v532_raw) hv532_raw ?_)
  refine assoc (sl (offAt (f := k0_off114) (n := 25) (by decide +kernel) k0_t2) hX fun v538 hv538 lv538 => ?_)
  refine assoc (assume (chkNorm lv538) fun k0_hw52 => ?_)
  refine assoc (ldNorm hv538 lv538 rfl fun v542 hv542 => ?_)
  refine assoc (load Sts.t12 fun v543 _ => ?_)
  refine assoc (stN 3 1 (by decide) (by decide) rfl rfl (shapeCast_id v542 _) hv542 ?_)
  exact ret (hk)

theorem part37 (hX : ∀ s, xid X s < 7936) (k0_t2 : Fin k0_t2_loop.trips) (v505 : BitVec 32)
    {K : (Σ' (v572_lo : FVec F S10x128 .bf16) (v572_hi : FVec F S10x128 .bf16) (v573_lo : FVec F S10x128 .bf16), FVec F S10x128 .bf16) → Prog (TpuEff nD τ sig (Elt F) Λ₀ .tc) β}
    (hk : ∀ (v572_raw : Vec F S10x2x128 .bf16) (hv572_raw : ∀ x, v572_raw x = t8 (10 * xid X (32 * k0_t2.val + 27) + (x 0).val) (x 1).val (x 2).val) (v573_raw : Vec F S10x2x128 .bf16), SV c arg1 arg6 arg7 arg8 arg9 arg10 arg11 arg12 X t8 t9 t10 k0_t2.val 27 27 0 0 R ⊢ wp frame (wpE defs₀ 𝒱 (c : Thread nD τ) bd) E (K ⟨k0_pay180 v572_raw, k0_pay181 v572_raw, k0_pay182 v573_raw, k0_pay183 v573_raw⟩) Q) :
    SV c arg1 arg6 arg7 arg8 arg9 arg10 arg11 arg12 X t8 t9 t10 k0_t2.val 26 26 0 0 R ⊢ wp frame (wpE defs₀ 𝒱 (c : Thread nD τ) bd) E (k0_part37 (F := F) i arg1 harg1 arg2 harg2 arg3 harg3 arg4 harg4 arg5 harg5 arg6 harg6 arg7 harg7 arg8 harg8 arg9 harg9 arg10 harg10 arg11 harg11 arg12 harg12 arg13 harg13 arg14 k0_t2 v505 >>= K) Q := by
  rw [k0_part37_eq_skeleton]
  unfold k0_part37_skel
  refine assoc (sl (offAt (f := k0_off116) (n := 26) (by decide +kernel) k0_t2) hX fun v548 hv548 lv548 => ?_)
  refine assoc (assume (chkTab lv548) fun k0_hw53 => ?_)
  refine assoc (ldTab hv548 lv548 rfl fun v552_raw hv552_raw => ?_)
  refine assoc (load Sts.t11 fun v553_raw _ => ?_)
  refine assoc (stR 3 2 (by decide) (by decide) rfl rfl (stack10 v552_raw) hv552_raw ?_)
  refine assoc (sl (offAt (f := k0_off118) (n := 26) (by decide +kernel) k0_t2) hX fun v558 hv558 lv558 => ?_)
  refine assoc (assume (chkNorm lv558) fun k0_hw54 => ?_)
  refine assoc (ldNorm hv558 lv558 rfl fun v562 hv562 => ?_)
  refine assoc (load Sts.t12 fun v563 _ => ?_)
  refine assoc (stN 3 2 (by decide) (by decide) rfl rfl (shapeCast_id v562 _) hv562 ?_)
  refine assoc (sl (offAt (f := k0_off120) (n := 27) (by decide +kernel) k0_t2) hX fun v568 hv568 lv568 => ?_)
  refine assoc (assume (chkTab lv568) fun k0_hw55 => ?_)
  refine assoc (ldTab hv568 lv568 rfl fun v572_raw hv572_raw => ?_)
  refine assoc (load Sts.t11 fun v573_raw _ => ?_)
  exact ret (hk _ hv572_raw _)

theorem part38 (hX : ∀ s, xid X s < 7936) (k0_t2 : Fin k0_t2_loop.trips) (v505 : BitVec 32) (v572_raw : Vec F S10x2x128 .bf16) (hv572_raw : ∀ x, v572_raw x = t8 (10 * xid X (32 * k0_t2.val + 27) + (x 0).val) (x 1).val (x 2).val) (v573_raw : Vec F S10x2x128 .bf16)
    {K : (Σ' (v598 : Elt F .i32) (k0_hw58 : k0_chk58 v598), BitVec 32) → Prog (TpuEff nD τ sig (Elt F) Λ₀ .tc) β}
    (hk : ∀ (v598 : BitVec 32) (hv598 : v598.toNat = xid X (32 * k0_t2.val + 28)) (lv598 : v598.toNat < 7936) (k0_hw58 : k0_chk58 v598) (v599 : BitVec 32), SV c arg1 arg6 arg7 arg8 arg9 arg10 arg11 arg12 X t8 t9 t10 k0_t2.val 29 28 0 0 R ⊢ wp frame (wpE defs₀ 𝒱 (c : Thread nD τ) bd) E (K ⟨v598, k0_hw58, v599⟩) Q) :
    SV c arg1 arg6 arg7 arg8 arg9 arg10 arg11 arg12 X t8 t9 t10 k0_t2.val 27 27 0 0 R ⊢ wp frame (wpE defs₀ 𝒱 (c : Thread nD τ) bd) E (k0_part38 (F := F) i arg1 harg1 arg2 harg2 arg3 harg3 arg4 harg4 arg5 harg5 arg6 harg6 arg7 harg7 arg8 harg8 arg9 harg9 arg10 harg10 arg11 harg11 arg12 harg12 arg13 harg13 arg14 k0_t2 v505 (k0_pay180 v572_raw) (k0_pay181 v572_raw) (k0_pay182 v573_raw) (k0_pay183 v573_raw) >>= K) Q := by
  rw [k0_part38_eq_skeleton]
  unfold k0_part38_skel
  refine assoc (stR 3 3 (by decide) (by decide) rfl rfl (stack10 v572_raw) hv572_raw ?_)
  refine assoc (sl (offAt (f := k0_off122) (n := 27) (by decide +kernel) k0_t2) hX fun v578 hv578 lv578 => ?_)
  refine assoc (assume (chkNorm lv578) fun k0_hw56 => ?_)
  refine assoc (ldNorm hv578 lv578 rfl fun v582 hv582 => ?_)
  refine assoc (load Sts.t12 fun v583 _ => ?_)
  refine assoc (stN 3 3 (by decide) (by decide) rfl rfl (shapeCast_id v582 _) hv582 ?_)
  refine assoc (sl (offAt (f := k0_off124) (n := 28) (by decide +kernel) k0_t2) hX fun v588 hv588 lv588 => ?_)
  refine assoc (assume (chkTab lv588) fun k0_hw57 => ?_)
  refine assoc (ldTab hv588 lv588 rfl fun v592_raw hv592_raw => ?_)
  refine assoc (load Sts.t11 fun v593_raw _ => ?_)
  refine assoc (stR 3 4 (by decide) (by decide) rfl rfl (stack10 v592_raw) hv592_raw ?_)
  refine assoc (sl (offAt (f := k0_off126) (n := 28) (by decide +kernel) k0_t2) hX fun v598 hv598 lv598 => ?_)
  refine assoc (assume (chkNorm lv598) fun k0_hw58 => ?_)
  exact ret (hk _ hv598 lv598 _ _)

theorem part39 (hX : ∀ s, xid X s < 7936) (k0_t2 : Fin k0_t2_loop.trips) (v505 : BitVec 32) (v598 : BitVec 32) (hv598 : v598.toNat = xid X (32 * k0_t2.val + 28)) (lv598 : v598.toNat < 7936) (k0_hw58 : k0_chk58 v598) (v599 : BitVec 32)
    {K : PUnit → Prog (TpuEff nD τ sig (Elt F) Λ₀ .tc) β}
    (hk : SV c arg1 arg6 arg7 arg8 arg9 arg10 arg11 arg12 X t8 t9 t10 k0_t2.val 30 30 0 0 R ⊢ wp frame (wpE defs₀ 𝒱 (c : Thread nD τ) bd) E (K ⟨⟩) Q) :
    SV c arg1 arg6 arg7 arg8 arg9 arg10 arg11 arg12 X t8 t9 t10 k0_t2.val 29 28 0 0 R ⊢ wp frame (wpE defs₀ 𝒱 (c : Thread nD τ) bd) E (k0_part39 (F := F) i arg1 harg1 arg2 harg2 arg3 harg3 arg4 harg4 arg5 harg5 arg6 harg6 arg7 harg7 arg8 harg8 arg9 harg9 arg10 harg10 arg11 harg11 arg12 harg12 arg13 harg13 arg14 k0_t2 v505 v598 k0_hw58 v599 >>= K) Q := by
  rw [k0_part39_eq_skeleton]
  unfold k0_part39_skel
  refine assoc (ldNorm hv598 lv598 rfl fun v602 hv602 => ?_)
  refine assoc (load Sts.t12 fun v603 _ => ?_)
  refine assoc (stN 3 4 (by decide) (by decide) rfl rfl (shapeCast_id v602 _) hv602 ?_)
  refine assoc (sl (offAt (f := k0_off128) (n := 29) (by decide +kernel) k0_t2) hX fun v608 hv608 lv608 => ?_)
  refine assoc (assume (chkTab lv608) fun k0_hw59 => ?_)
  refine assoc (ldTab hv608 lv608 rfl fun v612_raw hv612_raw => ?_)
  refine assoc (load Sts.t11 fun v613_raw _ => ?_)
  refine assoc (stR 3 5 (by decide) (by decide) rfl rfl (stack10 v612_raw) hv612_raw ?_)
  refine assoc (sl (offAt (f := k0_off130) (n := 29) (by decide +kernel) k0_t2) hX fun v618 hv618 lv618 => ?_)
  refine assoc (assume (chkNorm lv618) fun k0_hw60 => ?_)
  refine assoc (ldNorm hv618 lv618 rfl fun v622 hv622 => ?_)
  refine assoc (load Sts.t12 fun v623 _ => ?_)
  refine assoc (stN 3 5 (by decide) (by decide) rfl rfl (shapeCast_id v622 _) hv622 ?_)
  exact ret (hk)

theorem part40 (hX : ∀ s, xid X s < 7936) (k0_t2 : Fin k0_t2_loop.trips) (v505 : BitVec 32)
    {K : (Σ' (v652_lo : FVec F S10x128 .bf16) (v652_hi : FVec F S10x128 .bf16) (v653_lo : FVec F S10x128 .bf16), FVec F S10x128 .bf16) → Prog (TpuEff nD τ sig (Elt F) Λ₀ .tc) β}
    (hk : ∀ (v652_raw : Vec F S10x2x128 .bf16) (hv652_raw : ∀ x, v652_raw x = t8 (10 * xid X (32 * k0_t2.val + 31) + (x 0).val) (x 1).val (x 2).val) (v653_raw : Vec F S10x2x128 .bf16), SV c arg1 arg6 arg7 arg8 arg9 arg10 arg11 arg12 X t8 t9 t10 k0_t2.val 31 31 0 0 R ⊢ wp frame (wpE defs₀ 𝒱 (c : Thread nD τ) bd) E (K ⟨k0_pay192 v652_raw, k0_pay193 v652_raw, k0_pay194 v653_raw, k0_pay195 v653_raw⟩) Q) :
    SV c arg1 arg6 arg7 arg8 arg9 arg10 arg11 arg12 X t8 t9 t10 k0_t2.val 30 30 0 0 R ⊢ wp frame (wpE defs₀ 𝒱 (c : Thread nD τ) bd) E (k0_part40 (F := F) i arg1 harg1 arg2 harg2 arg3 harg3 arg4 harg4 arg5 harg5 arg6 harg6 arg7 harg7 arg8 harg8 arg9 harg9 arg10 harg10 arg11 harg11 arg12 harg12 arg13 harg13 arg14 k0_t2 v505 >>= K) Q := by
  rw [k0_part40_eq_skeleton]
  unfold k0_part40_skel
  refine assoc (sl (offAt (f := k0_off132) (n := 30) (by decide +kernel) k0_t2) hX fun v628 hv628 lv628 => ?_)
  refine assoc (assume (chkTab lv628) fun k0_hw61 => ?_)
  refine assoc (ldTab hv628 lv628 rfl fun v632_raw hv632_raw => ?_)
  refine assoc (load Sts.t11 fun v633_raw _ => ?_)
  refine assoc (stR 3 6 (by decide) (by decide) rfl rfl (stack10 v632_raw) hv632_raw ?_)
  refine assoc (sl (offAt (f := k0_off134) (n := 30) (by decide +kernel) k0_t2) hX fun v638 hv638 lv638 => ?_)
  refine assoc (assume (chkNorm lv638) fun k0_hw62 => ?_)
  refine assoc (ldNorm hv638 lv638 rfl fun v642 hv642 => ?_)
  refine assoc (load Sts.t12 fun v643 _ => ?_)
  refine assoc (stN 3 6 (by decide) (by decide) rfl rfl (shapeCast_id v642 _) hv642 ?_)
  refine assoc (sl (offAt (f := k0_off136) (n := 31) (by decide +kernel) k0_t2) hX fun v648 hv648 lv648 => ?_)
  refine assoc (assume (chkTab lv648) fun k0_hw63 => ?_)
  refine assoc (ldTab hv648 lv648 rfl fun v652_raw hv652_raw => ?_)
  refine assoc (load Sts.t11 fun v653_raw _ => ?_)
  exact ret (hk _ hv652_raw _)

end Cert.Proof.EmitParts

end
-- ==== Proof.EmitParts3.lean ====
/- What parts 41 to 50 of a trip of KernelIdeal's emission loop gather and store. -/
module

public import proofs.«01_k».proof.Proof.EmitParts2

@[expose] public section

set_option maxRecDepth 16384

noncomputable section

namespace Cert.Proof.EmitParts

open Cert.KernelIdeal Cert.KernelIdeal.Gen Cert.Proof.Hoare Cert.Proof.Target Cert.Proof.EmitRules
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

variable {𝒱 : Variants} {c : Dev nD} {bd : Option 𝒱.V} {E : Set ℕ} {β : Type}
  {Q : β → sProp (MT nD τ sig Unit (Elt F) ℕ (Pipeline.UD sig nD τ) ℕ)} {X : S1x1x256.Idx → Elt F .i32}
  {R : sProp (MT nD τ sig Unit (Elt F) ℕ (Pipeline.UD sig nD τ) ℕ)} {t8 : ℕ → ℕ → ℕ → F .bf16} {t9 t10 : ℕ → ℕ → F .f32}
variable (i : grid0.Coords) (arg1 : Memref sig .tc .smem S1x1x256 .i32) (harg1 : arg1.IsWhole) (arg2 : Memref sig .tc .hbm S7936x2560 .i8) (harg2 : arg2.IsWhole) (arg3 : Memref sig .tc .vmem S62x128 .f32) (harg3 : arg3.IsWhole) (arg4 : Memref sig .tc .vmem S62x128 .f32) (harg4 : arg4.IsWhole) (arg5 : Memref sig .tc .vmem S1x2560 .bf16) (harg5 : arg5.IsWhole) (arg6 : Memref sig .tc .vmem S5120x128 .bf16) (harg6 : arg6.IsWhole) (arg7 : Memref sig .tc .vmem S5120x128 .bf16) (harg7 : arg7.IsWhole) (arg8 : Memref sig .tc .vmem S79360x2x128 .bf16) (harg8 : arg8.IsWhole) (arg9 : Memref sig .tc .vmem S15872x128 .f32) (harg9 : arg9.IsWhole) (arg10 : Memref sig .tc .vmem S80x128 .f32) (harg10 : arg10.IsWhole) (arg11 : Memref sig .tc .vmem S320x2x128 .bf16) (harg11 : arg11.IsWhole) (arg12 : Memref sig .tc .vmem S64x128 .f32) (harg12 : arg12.IsWhole) (arg13 : Memref sig .tc .vmem S8x128x2560 .i8) (harg13 : arg13.IsWhole) (arg14 : DmaSems sig S8)

theorem part41 (hX : ∀ s, xid X s < 7936) (k0_t2 : Fin k0_t2_loop.trips) (arg15 : BitVec 32) (v505 : BitVec 32) (v652_raw : Vec F S10x2x128 .bf16) (hv652_raw : ∀ x, v652_raw x = t8 (10 * xid X (32 * k0_t2.val + 31) + (x 0).val) (x 1).val (x 2).val) (v653_raw : Vec F S10x2x128 .bf16)
    {K : (Σ' (v669 : BitVec 32) (v670 : Vec F S8x128 .f32) (v671 : Vec F S8x128 .f32) (v672_hi : FVec F S8x128 .bf16) (v673_hi : FVec F S8x128 .bf16) (v676 : FVec F S8x128 .f32) (v679 : FVec F S8x128 .f32) (v680 : BitVec 32), FVec F S16x128 .bf16) → Prog (TpuEff nD τ sig (Elt F) Λ₀ .tc) β}
    (hk : ∀ (v669 : BitVec 32) (v670 : Vec F S8x128 .f32) (hv670 : ∀ x, v670 x = t12 X t9 k0_t2.val (0 + (x 0).val) (x 1).val) (v671 : Vec F S8x128 .f32) (hv671 : ∀ x, v671 x = t12 X t9 k0_t2.val (8 + (x 0).val) (x 1).val) (v672_raw : Vec F S8x2x128 .bf16) (hv672_raw : ∀ x, v672_raw x = t11 X t8 k0_t2.val (0 + (x 0).val) (x 1).val (x 2).val) (v673_raw : Vec F S8x2x128 .bf16) (hv673_raw : ∀ x, v673_raw x = t11 X t8 k0_t2.val (40 + (x 0).val) (x 1).val (x 2).val) (v680 : BitVec 32), SV c arg1 arg6 arg7 arg8 arg9 arg10 arg11 arg12 X t8 t9 t10 k0_t2.val 32 32 0 0 R ⊢ wp frame (wpE defs₀ 𝒱 (c : Thread nD τ) bd) E (K ⟨v669, v670, v671, k0_pay198 v672_raw, k0_pay199 v673_raw, k0_pay200 v672_raw, k0_pay201 v673_raw, v680, k0_pay202 v672_raw v673_raw⟩) Q) :
    SV c arg1 arg6 arg7 arg8 arg9 arg10 arg11 arg12 X t8 t9 t10 k0_t2.val 31 31 0 0 R ⊢ wp frame (wpE defs₀ 𝒱 (c : Thread nD τ) bd) E (k0_part41 (F := F) i arg1 harg1 arg2 harg2 arg3 harg3 arg4 harg4 arg5 harg5 arg6 harg6 arg7 harg7 arg8 harg8 arg9 harg9 arg10 harg10 arg11 harg11 arg12 harg12 arg13 harg13 arg14 k0_t2 arg15 v505 (k0_pay192 v652_raw) (k0_pay193 v652_raw) (k0_pay194 v653_raw) (k0_pay195 v653_raw) >>= K) Q := by
  rw [k0_part41_eq_skeleton]
  unfold k0_part41_skel
  refine assoc (stR 3 7 (by decide) (by decide) rfl rfl (stack10 v652_raw) hv652_raw ?_)
  refine assoc (sl (offAt (f := k0_off138) (n := 31) (by decide +kernel) k0_t2) hX fun v658 hv658 lv658 => ?_)
  refine assoc (assume (chkNorm lv658) fun k0_hw64 => ?_)
  refine assoc (ldNorm hv658 lv658 rfl fun v662 hv662 => ?_)
  refine assoc (load Sts.t12 fun v663 _ => ?_)
  refine assoc (stN 3 7 (by decide) (by decide) rfl rfl (shapeCast_id v662 _) hv662 ?_)
  refine assoc (ldN (by decide +kernel) fun v670 hv670 => ?_)
  refine assoc (ldN (by decide +kernel) fun v671 hv671 => ?_)
  refine assoc (ldR (by decide +kernel) fun v672_raw hv672_raw => ?_)
  refine assoc (ldR (by decide +kernel) fun v673_raw hv673_raw => ?_)
  exact ret (hk _ _ hv670 _ hv671 _ hv672_raw _ hv673_raw _)

theorem part42 (hX : ∀ s, xid X s < 7936) (v3 : Vec F S8x128 .f32) (hv3 : ∀ x, v3 x = t10 (8 * 0 + (x 0).val) (x 1).val) (v4 : Vec F S8x128 .f32) (hv4 : ∀ x, v4 x = t10 (8 * 1 + (x 0).val) (x 1).val) (k0_t2 : Fin k0_t2_loop.trips) (v669 : BitVec 32) (v670 : Vec F S8x128 .f32) (hv670 : ∀ x, v670 x = t12 X t9 k0_t2.val (0 + (x 0).val) (x 1).val) (v671 : Vec F S8x128 .f32) (hv671 : ∀ x, v671 x = t12 X t9 k0_t2.val (8 + (x 0).val) (x 1).val) (v672_raw : Vec F S8x2x128 .bf16) (hv672_raw : ∀ x, v672_raw x = t11 X t8 k0_t2.val (0 + (x 0).val) (x 1).val (x 2).val) (v673_raw : Vec F S8x2x128 .bf16) (hv673_raw : ∀ x, v673_raw x = t11 X t8 k0_t2.val (40 + (x 0).val) (x 1).val (x 2).val) (v680 : BitVec 32)
    {K : (Σ' (v712_hi : FVec F S8x128 .bf16) (v713_hi : FVec F S8x128 .bf16) (v716 : FVec F S8x128 .f32) (v719 : FVec F S8x128 .f32) (v720 : BitVec 32) (v721_lo : FVec F S8x128 .bf16), FVec F S8x128 .bf16) → Prog (TpuEff nD τ sig (Elt F) Λ₀ .tc) β}
    (hk : ∀ (v712_raw : Vec F S8x2x128 .bf16) (hv712_raw : ∀ x, v712_raw x = t11 X t8 k0_t2.val (8 + (x 0).val) (x 1).val (x 2).val) (v713_raw : Vec F S8x2x128 .bf16) (hv713_raw : ∀ x, v713_raw x = t11 X t8 k0_t2.val (48 + (x 0).val) (x 1).val (x 2).val) (v720 : BitVec 32), SV c arg1 arg6 arg7 arg8 arg9 arg10 arg11 arg12 X t8 t9 t10 k0_t2.val 32 32 2 2 R ⊢ wp frame (wpE defs₀ 𝒱 (c : Thread nD τ) bd) E (K ⟨k0_pay208 v712_raw, k0_pay209 v713_raw, k0_pay210 v712_raw, k0_pay211 v713_raw, v720, k0_pay212 v712_raw, k0_pay213 v713_raw⟩) Q) :
    SV c arg1 arg6 arg7 arg8 arg9 arg10 arg11 arg12 X t8 t9 t10 k0_t2.val 32 32 0 0 R ⊢ wp frame (wpE defs₀ 𝒱 (c : Thread nD τ) bd) E (k0_part42 (F := F) i arg1 harg1 arg2 harg2 arg3 harg3 arg4 harg4 arg5 harg5 arg6 harg6 arg7 harg7 arg8 harg8 arg9 harg9 arg10 harg10 arg11 harg11 arg12 harg12 arg13 harg13 arg14 v3 v4 k0_t2 v669 v670 v671 (k0_pay198 v672_raw) (k0_pay199 v673_raw) (k0_pay200 v672_raw) (k0_pay201 v673_raw) v680 (k0_pay202 v672_raw v673_raw) >>= K) Q := by
  rw [k0_part42_eq_skeleton]
  unfold k0_part42_skel
  refine assoc (load Sts.t7 fun v684 _ => ?_)
  refine assoc (st7 0 0 (by decide) (by decide) rfl (offOut k0_t2 0 0) (p := 0) rfl rfl rfl rfl hv672_raw hv673_raw ?_)
  refine assoc (load Sts.t6 fun v692 _ => ?_)
  refine assoc (st6 0 0 (by decide) (by decide) rfl (offOut k0_t2 0 0) (p := 0) rfl rfl rfl rfl rfl rfl hv672_raw hv673_raw hv670 hv671 hv3 ?_)
  refine assoc (load Sts.t7 fun v703 _ => ?_)
  refine assoc (st7 0 1 (by decide) (by decide) rfl (offOut k0_t2 0 1) (p := 1) rfl rfl rfl rfl hv672_raw hv673_raw ?_)
  refine assoc (load Sts.t6 fun v711 _ => ?_)
  refine assoc (st6 0 1 (by decide) (by decide) rfl (offOut k0_t2 0 1) (p := 1) rfl rfl rfl rfl rfl rfl hv672_raw hv673_raw hv670 hv671 hv4 ?_)
  refine assoc (ldR (by decide +kernel) fun v712_raw hv712_raw => ?_)
  refine assoc (ldR (by decide +kernel) fun v713_raw hv713_raw => ?_)
  exact ret (hk _ hv712_raw _ hv713_raw _)

theorem part43 (hX : ∀ s, xid X s < 7936) (v5 : Vec F S8x128 .f32) (hv5 : ∀ x, v5 x = t10 (8 * 2 + (x 0).val) (x 1).val) (v6 : Vec F S8x128 .f32) (hv6 : ∀ x, v6 x = t10 (8 * 3 + (x 0).val) (x 1).val) (k0_t2 : Fin k0_t2_loop.trips) (v669 : BitVec 32) (v670 : Vec F S8x128 .f32) (hv670 : ∀ x, v670 x = t12 X t9 k0_t2.val (0 + (x 0).val) (x 1).val) (v671 : Vec F S8x128 .f32) (hv671 : ∀ x, v671 x = t12 X t9 k0_t2.val (8 + (x 0).val) (x 1).val) (v712_raw : Vec F S8x2x128 .bf16) (hv712_raw : ∀ x, v712_raw x = t11 X t8 k0_t2.val (8 + (x 0).val) (x 1).val (x 2).val) (v713_raw : Vec F S8x2x128 .bf16) (hv713_raw : ∀ x, v713_raw x = t11 X t8 k0_t2.val (48 + (x 0).val) (x 1).val (x 2).val) (v720 : BitVec 32)
    {K : (Σ' (v752_hi : FVec F S8x128 .bf16) (v753_hi : FVec F S8x128 .bf16) (v756 : FVec F S8x128 .f32) (v759 : FVec F S8x128 .f32), BitVec 32) → Prog (TpuEff nD τ sig (Elt F) Λ₀ .tc) β}
    (hk : ∀ (v752_raw : Vec F S8x2x128 .bf16) (hv752_raw : ∀ x, v752_raw x = t11 X t8 k0_t2.val (16 + (x 0).val) (x 1).val (x 2).val) (v753_raw : Vec F S8x2x128 .bf16) (hv753_raw : ∀ x, v753_raw x = t11 X t8 k0_t2.val (56 + (x 0).val) (x 1).val (x 2).val) (v760 : BitVec 32), SV c arg1 arg6 arg7 arg8 arg9 arg10 arg11 arg12 X t8 t9 t10 k0_t2.val 32 32 4 4 R ⊢ wp frame (wpE defs₀ 𝒱 (c : Thread nD τ) bd) E (K ⟨k0_pay220 v752_raw, k0_pay221 v753_raw, k0_pay222 v752_raw, k0_pay223 v753_raw, v760⟩) Q) :
    SV c arg1 arg6 arg7 arg8 arg9 arg10 arg11 arg12 X t8 t9 t10 k0_t2.val 32 32 2 2 R ⊢ wp frame (wpE defs₀ 𝒱 (c : Thread nD τ) bd) E (k0_part43 (F := F) i arg1 harg1 arg2 harg2 arg3 harg3 arg4 harg4 arg5 harg5 arg6 harg6 arg7 harg7 arg8 harg8 arg9 harg9 arg10 harg10 arg11 harg11 arg12 harg12 arg13 harg13 arg14 v5 v6 k0_t2 v669 v670 v671 (k0_pay208 v712_raw) (k0_pay209 v713_raw) (k0_pay210 v712_raw) (k0_pay211 v713_raw) v720 (k0_pay212 v712_raw) (k0_pay213 v713_raw) >>= K) Q := by
  rw [k0_part43_eq_skeleton]
  unfold k0_part43_skel
  refine assoc (load Sts.t7 fun v724 _ => ?_)
  refine assoc (st7 0 2 (by decide) (by decide) rfl (offOut k0_t2 0 2) (p := 0) rfl rfl rfl rfl hv712_raw hv713_raw ?_)
  refine assoc (load Sts.t6 fun v732 _ => ?_)
  refine assoc (st6 0 2 (by decide) (by decide) rfl (offOut k0_t2 0 2) (p := 0) rfl rfl rfl rfl rfl rfl hv712_raw hv713_raw hv670 hv671 hv5 ?_)
  refine assoc (load Sts.t7 fun v743 _ => ?_)
  refine assoc (st7 0 3 (by decide) (by decide) rfl (offOut k0_t2 0 3) (p := 1) rfl rfl rfl rfl hv712_raw hv713_raw ?_)
  refine assoc (load Sts.t6 fun v751 _ => ?_)
  refine assoc (st6 0 3 (by decide) (by decide) rfl (offOut k0_t2 0 3) (p := 1) rfl rfl rfl rfl rfl rfl hv712_raw hv713_raw hv670 hv671 hv6 ?_)
  refine assoc (ldR (by decide +kernel) fun v752_raw hv752_raw => ?_)
  refine assoc (ldR (by decide +kernel) fun v753_raw hv753_raw => ?_)
  exact ret (hk _ hv752_raw _ hv753_raw _)

theorem part44 (hX : ∀ s, xid X s < 7936) (v7 : Vec F S8x128 .f32) (hv7 : ∀ x, v7 x = t10 (8 * 4 + (x 0).val) (x 1).val) (v8 : Vec F S8x128 .f32) (hv8 : ∀ x, v8 x = t10 (8 * 5 + (x 0).val) (x 1).val) (k0_t2 : Fin k0_t2_loop.trips) (v669 : BitVec 32) (v670 : Vec F S8x128 .f32) (hv670 : ∀ x, v670 x = t12 X t9 k0_t2.val (0 + (x 0).val) (x 1).val) (v671 : Vec F S8x128 .f32) (hv671 : ∀ x, v671 x = t12 X t9 k0_t2.val (8 + (x 0).val) (x 1).val) (v752_raw : Vec F S8x2x128 .bf16) (hv752_raw : ∀ x, v752_raw x = t11 X t8 k0_t2.val (16 + (x 0).val) (x 1).val (x 2).val) (v753_raw : Vec F S8x2x128 .bf16) (hv753_raw : ∀ x, v753_raw x = t11 X t8 k0_t2.val (56 + (x 0).val) (x 1).val (x 2).val) (v760 : BitVec 32)
    {K : (Σ' (v792_hi : FVec F S8x128 .bf16) (v793_hi : FVec F S8x128 .bf16) (v796 : FVec F S8x128 .f32), FVec F S8x128 .f32) → Prog (TpuEff nD τ sig (Elt F) Λ₀ .tc) β}
    (hk : ∀ (v792_raw : Vec F S8x2x128 .bf16) (hv792_raw : ∀ x, v792_raw x = t11 X t8 k0_t2.val (24 + (x 0).val) (x 1).val (x 2).val) (v793_raw : Vec F S8x2x128 .bf16) (hv793_raw : ∀ x, v793_raw x = t11 X t8 k0_t2.val (64 + (x 0).val) (x 1).val (x 2).val), SV c arg1 arg6 arg7 arg8 arg9 arg10 arg11 arg12 X t8 t9 t10 k0_t2.val 32 32 6 6 R ⊢ wp frame (wpE defs₀ 𝒱 (c : Thread nD τ) bd) E (K ⟨k0_pay230 v792_raw, k0_pay231 v793_raw, k0_pay232 v792_raw, k0_pay233 v793_raw⟩) Q) :
    SV c arg1 arg6 arg7 arg8 arg9 arg10 arg11 arg12 X t8 t9 t10 k0_t2.val 32 32 4 4 R ⊢ wp frame (wpE defs₀ 𝒱 (c : Thread nD τ) bd) E (k0_part44 (F := F) i arg1 harg1 arg2 harg2 arg3 harg3 arg4 harg4 arg5 harg5 arg6 harg6 arg7 harg7 arg8 harg8 arg9 harg9 arg10 harg10 arg11 harg11 arg12 harg12 arg13 harg13 arg14 v7 v8 k0_t2 v669 v670 v671 (k0_pay220 v752_raw) (k0_pay221 v753_raw) (k0_pay222 v752_raw) (k0_pay223 v753_raw) v760 >>= K) Q := by
  rw [k0_part44_eq_skeleton]
  unfold k0_part44_skel
  refine assoc (load Sts.t7 fun v764 _ => ?_)
  refine assoc (st7 0 4 (by decide) (by decide) rfl (offOut k0_t2 0 4) (p := 0) rfl rfl rfl rfl hv752_raw hv753_raw ?_)
  refine assoc (load Sts.t6 fun v772 _ => ?_)
  refine assoc (st6 0 4 (by decide) (by decide) rfl (offOut k0_t2 0 4) (p := 0) rfl rfl rfl rfl rfl rfl hv752_raw hv753_raw hv670 hv671 hv7 ?_)
  refine assoc (load Sts.t7 fun v783 _ => ?_)
  refine assoc (st7 0 5 (by decide) (by decide) rfl (offOut k0_t2 0 5) (p := 1) rfl rfl rfl rfl hv752_raw hv753_raw ?_)
  refine assoc (load Sts.t6 fun v791 _ => ?_)
  refine assoc (st6 0 5 (by decide) (by decide) rfl (offOut k0_t2 0 5) (p := 1) rfl rfl rfl rfl rfl rfl hv752_raw hv753_raw hv670 hv671 hv8 ?_)
  refine assoc (ldR (by decide +kernel) fun v792_raw hv792_raw => ?_)
  refine assoc (ldR (by decide +kernel) fun v793_raw hv793_raw => ?_)
  exact ret (hk _ hv792_raw _ hv793_raw)

theorem part45 (hX : ∀ s, xid X s < 7936) (v9 : Vec F S8x128 .f32) (hv9 : ∀ x, v9 x = t10 (8 * 6 + (x 0).val) (x 1).val) (v10 : Vec F S8x128 .f32) (hv10 : ∀ x, v10 x = t10 (8 * 7 + (x 0).val) (x 1).val) (k0_t2 : Fin k0_t2_loop.trips) (v669 : BitVec 32) (v670 : Vec F S8x128 .f32) (hv670 : ∀ x, v670 x = t12 X t9 k0_t2.val (0 + (x 0).val) (x 1).val) (v671 : Vec F S8x128 .f32) (hv671 : ∀ x, v671 x = t12 X t9 k0_t2.val (8 + (x 0).val) (x 1).val) (v792_raw : Vec F S8x2x128 .bf16) (hv792_raw : ∀ x, v792_raw x = t11 X t8 k0_t2.val (24 + (x 0).val) (x 1).val (x 2).val) (v793_raw : Vec F S8x2x128 .bf16) (hv793_raw : ∀ x, v793_raw x = t11 X t8 k0_t2.val (64 + (x 0).val) (x 1).val (x 2).val)
    {K : (Σ' (v832_hi : FVec F S8x128 .bf16) (v833_lo : FVec F S8x128 .bf16) (v833_hi : FVec F S8x128 .bf16) (v836 : FVec F S8x128 .f32), BitVec 32) → Prog (TpuEff nD τ sig (Elt F) Λ₀ .tc) β}
    (hk : ∀ (v832_raw : Vec F S8x2x128 .bf16) (hv832_raw : ∀ x, v832_raw x = t11 X t8 k0_t2.val (32 + (x 0).val) (x 1).val (x 2).val) (v833_raw : Vec F S8x2x128 .bf16) (hv833_raw : ∀ x, v833_raw x = t11 X t8 k0_t2.val (72 + (x 0).val) (x 1).val (x 2).val) (c16_i32_477 : BitVec 32), SV c arg1 arg6 arg7 arg8 arg9 arg10 arg11 arg12 X t8 t9 t10 k0_t2.val 32 32 8 8 R ⊢ wp frame (wpE defs₀ 𝒱 (c : Thread nD τ) bd) E (K ⟨k0_pay240 v832_raw, k0_pay241 v833_raw, k0_pay242 v833_raw, k0_pay243 v832_raw, c16_i32_477⟩) Q) :
    SV c arg1 arg6 arg7 arg8 arg9 arg10 arg11 arg12 X t8 t9 t10 k0_t2.val 32 32 6 6 R ⊢ wp frame (wpE defs₀ 𝒱 (c : Thread nD τ) bd) E (k0_part45 (F := F) i arg1 harg1 arg2 harg2 arg3 harg3 arg4 harg4 arg5 harg5 arg6 harg6 arg7 harg7 arg8 harg8 arg9 harg9 arg10 harg10 arg11 harg11 arg12 harg12 arg13 harg13 arg14 v9 v10 k0_t2 v669 v670 v671 (k0_pay230 v792_raw) (k0_pay231 v793_raw) (k0_pay232 v792_raw) (k0_pay233 v793_raw) >>= K) Q := by
  rw [k0_part45_eq_skeleton]
  unfold k0_part45_skel
  refine assoc (load Sts.t7 fun v804 _ => ?_)
  refine assoc (st7 0 6 (by decide) (by decide) rfl (offOut k0_t2 0 6) (p := 0) rfl rfl rfl rfl hv792_raw hv793_raw ?_)
  refine assoc (load Sts.t6 fun v812 _ => ?_)
  refine assoc (st6 0 6 (by decide) (by decide) rfl (offOut k0_t2 0 6) (p := 0) rfl rfl rfl rfl rfl rfl hv792_raw hv793_raw hv670 hv671 hv9 ?_)
  refine assoc (load Sts.t7 fun v823 _ => ?_)
  refine assoc (st7 0 7 (by decide) (by decide) rfl (offOut k0_t2 0 7) (p := 1) rfl rfl rfl rfl hv792_raw hv793_raw ?_)
  refine assoc (load Sts.t6 fun v831 _ => ?_)
  refine assoc (st6 0 7 (by decide) (by decide) rfl (offOut k0_t2 0 7) (p := 1) rfl rfl rfl rfl rfl rfl hv792_raw hv793_raw hv670 hv671 hv10 ?_)
  refine assoc (ldR (by decide +kernel) fun v832_raw hv832_raw => ?_)
  refine assoc (ldR (by decide +kernel) fun v833_raw hv833_raw => ?_)
  exact ret (hk _ hv832_raw _ hv833_raw _)

theorem part46 (hX : ∀ s, xid X s < 7936) (v11 : Vec F S8x128 .f32) (hv11 : ∀ x, v11 x = t10 (8 * 8 + (x 0).val) (x 1).val) (v12 : Vec F S8x128 .f32) (hv12 : ∀ x, v12 x = t10 (8 * 9 + (x 0).val) (x 1).val) (k0_t2 : Fin k0_t2_loop.trips) (arg15 : BitVec 32) (v669 : BitVec 32) (v670 : Vec F S8x128 .f32) (hv670 : ∀ x, v670 x = t12 X t9 k0_t2.val (0 + (x 0).val) (x 1).val) (v671 : Vec F S8x128 .f32) (hv671 : ∀ x, v671 x = t12 X t9 k0_t2.val (8 + (x 0).val) (x 1).val) (v832_raw : Vec F S8x2x128 .bf16) (hv832_raw : ∀ x, v832_raw x = t11 X t8 k0_t2.val (32 + (x 0).val) (x 1).val (x 2).val) (v833_raw : Vec F S8x2x128 .bf16) (hv833_raw : ∀ x, v833_raw x = t11 X t8 k0_t2.val (72 + (x 0).val) (x 1).val (x 2).val) (c16_i32_477 : BitVec 32)
    {K : (Σ' (v875 : BitVec 32), Vec F S8x128 .f32) → Prog (TpuEff nD τ sig (Elt F) Λ₀ .tc) β}
    (hk : ∀ (v875 : BitVec 32) (v876 : Vec F S8x128 .f32) (hv876 : ∀ x, v876 x = t12 X t9 k0_t2.val (16 + (x 0).val) (x 1).val), SV c arg1 arg6 arg7 arg8 arg9 arg10 arg11 arg12 X t8 t9 t10 k0_t2.val 32 32 10 10 R ⊢ wp frame (wpE defs₀ 𝒱 (c : Thread nD τ) bd) E (K ⟨v875, v876⟩) Q) :
    SV c arg1 arg6 arg7 arg8 arg9 arg10 arg11 arg12 X t8 t9 t10 k0_t2.val 32 32 8 8 R ⊢ wp frame (wpE defs₀ 𝒱 (c : Thread nD τ) bd) E (k0_part46 (F := F) i arg1 harg1 arg2 harg2 arg3 harg3 arg4 harg4 arg5 harg5 arg6 harg6 arg7 harg7 arg8 harg8 arg9 harg9 arg10 harg10 arg11 harg11 arg12 harg12 arg13 harg13 arg14 v11 v12 k0_t2 arg15 v669 v670 v671 (k0_pay240 v832_raw) (k0_pay241 v833_raw) (k0_pay242 v833_raw) (k0_pay243 v832_raw) c16_i32_477 >>= K) Q := by
  rw [k0_part46_eq_skeleton]
  unfold k0_part46_skel
  refine assoc (load Sts.t7 fun v844 _ => ?_)
  refine assoc (st7 0 8 (by decide) (by decide) rfl (offOut k0_t2 0 8) (p := 0) rfl rfl rfl rfl hv832_raw hv833_raw ?_)
  refine assoc (load Sts.t6 fun v852 _ => ?_)
  refine assoc (st6 0 8 (by decide) (by decide) rfl (offOut k0_t2 0 8) (p := 0) rfl rfl rfl rfl rfl rfl hv832_raw hv833_raw hv670 hv671 hv11 ?_)
  refine assoc (load Sts.t7 fun v863 _ => ?_)
  refine assoc (st7 0 9 (by decide) (by decide) rfl (offOut k0_t2 0 9) (p := 1) rfl rfl rfl rfl hv832_raw hv833_raw ?_)
  refine assoc (load Sts.t6 fun v871 _ => ?_)
  refine assoc (st6 0 9 (by decide) (by decide) rfl (offOut k0_t2 0 9) (p := 1) rfl rfl rfl rfl rfl rfl hv832_raw hv833_raw hv670 hv671 hv12 ?_)
  refine assoc (ldN (by decide +kernel) fun v876 hv876 => ?_)
  exact ret (hk _ _ hv876)

theorem part47 (hX : ∀ s, xid X s < 7936) (v3 : Vec F S8x128 .f32) (hv3 : ∀ x, v3 x = t10 (8 * 0 + (x 0).val) (x 1).val) (v4 : Vec F S8x128 .f32) (hv4 : ∀ x, v4 x = t10 (8 * 1 + (x 0).val) (x 1).val) (k0_t2 : Fin k0_t2_loop.trips) (v875 : BitVec 32) (v876 : Vec F S8x128 .f32) (hv876 : ∀ x, v876 x = t12 X t9 k0_t2.val (16 + (x 0).val) (x 1).val)
    {K : (Σ' (v877 : Vec F S8x128 .f32), FVec F S16x128 .bf16) → Prog (TpuEff nD τ sig (Elt F) Λ₀ .tc) β}
    (hk : ∀ (v877 : Vec F S8x128 .f32) (hv877 : ∀ x, v877 x = t12 X t9 k0_t2.val (24 + (x 0).val) (x 1).val) (v878_raw : Vec F S8x2x128 .bf16) (hv878_raw : ∀ x, v878_raw x = t11 X t8 k0_t2.val (80 + (x 0).val) (x 1).val (x 2).val) (v879_raw : Vec F S8x2x128 .bf16) (hv879_raw : ∀ x, v879_raw x = t11 X t8 k0_t2.val (120 + (x 0).val) (x 1).val (x 2).val), SV c arg1 arg6 arg7 arg8 arg9 arg10 arg11 arg12 X t8 t9 t10 k0_t2.val 32 32 12 11 R ⊢ wp frame (wpE defs₀ 𝒱 (c : Thread nD τ) bd) E (K ⟨v877, k0_pay258 v4 v876 v877 v878_raw v879_raw⟩) Q) :
    SV c arg1 arg6 arg7 arg8 arg9 arg10 arg11 arg12 X t8 t9 t10 k0_t2.val 32 32 10 10 R ⊢ wp frame (wpE defs₀ 𝒱 (c : Thread nD τ) bd) E (k0_part47 (F := F) i arg1 harg1 arg2 harg2 arg3 harg3 arg4 harg4 arg5 harg5 arg6 harg6 arg7 harg7 arg8 harg8 arg9 harg9 arg10 harg10 arg11 harg11 arg12 harg12 arg13 harg13 arg14 v3 v4 k0_t2 v875 v876 >>= K) Q := by
  rw [k0_part47_eq_skeleton]
  unfold k0_part47_skel
  refine assoc (ldN (by decide +kernel) fun v877 hv877 => ?_)
  refine assoc (ldR (by decide +kernel) fun v878_raw hv878_raw => ?_)
  refine assoc (ldR (by decide +kernel) fun v879_raw hv879_raw => ?_)
  refine assoc (load Sts.t7 fun v890 _ => ?_)
  refine assoc (st7 1 0 (by decide) (by decide) rfl (offOut k0_t2 1 0) (p := 0) rfl rfl rfl rfl hv878_raw hv879_raw ?_)
  refine assoc (load Sts.t6 fun v898 _ => ?_)
  refine assoc (st6 1 0 (by decide) (by decide) rfl (offOut k0_t2 1 0) (p := 0) rfl rfl rfl rfl rfl rfl hv878_raw hv879_raw hv876 hv877 hv3 ?_)
  refine assoc (load Sts.t7 fun v909 _ => ?_)
  refine assoc (st7 1 1 (by decide) (by decide) rfl (offOut k0_t2 1 1) (p := 1) rfl rfl rfl rfl hv878_raw hv879_raw ?_)
  exact ret (hk _ hv877 _ hv878_raw _ hv879_raw)

theorem part48 (hX : ∀ s, xid X s < 7936) (v5 : Vec F S8x128 .f32) (hv5 : ∀ x, v5 x = t10 (8 * 2 + (x 0).val) (x 1).val) (v6 : Vec F S8x128 .f32) (hv6 : ∀ x, v6 x = t10 (8 * 3 + (x 0).val) (x 1).val) (k0_t2 : Fin k0_t2_loop.trips) (v875 : BitVec 32) (v876 : Vec F S8x128 .f32) (hv876 : ∀ x, v876 x = t12 X t9 k0_t2.val (16 + (x 0).val) (x 1).val) (v877 : Vec F S8x128 .f32) (hv877 : ∀ x, v877 x = t12 X t9 k0_t2.val (24 + (x 0).val) (x 1).val) (v4 : Vec F S8x128 .f32) (hv4 : ∀ x, v4 x = t10 (8 * 1 + (x 0).val) (x 1).val) (v878_raw : Vec F S8x2x128 .bf16) (hv878_raw : ∀ x, v878_raw x = t11 X t8 k0_t2.val (80 + (x 0).val) (x 1).val (x 2).val) (v879_raw : Vec F S8x2x128 .bf16) (hv879_raw : ∀ x, v879_raw x = t11 X t8 k0_t2.val (120 + (x 0).val) (x 1).val (x 2).val)
    {K : (Σ' (v945 : BitVec 32) (v954_lo : FVec F S8x128 .bf16), FVec F S8x128 .bf16) → Prog (TpuEff nD τ sig (Elt F) Λ₀ .tc) β}
    (hk : ∀ (v945 : BitVec 32) (v918_raw : Vec F S8x2x128 .bf16) (hv918_raw : ∀ x, v918_raw x = t11 X t8 k0_t2.val (88 + (x 0).val) (x 1).val (x 2).val) (v919_raw : Vec F S8x2x128 .bf16) (hv919_raw : ∀ x, v919_raw x = t11 X t8 k0_t2.val (128 + (x 0).val) (x 1).val (x 2).val), SV c arg1 arg6 arg7 arg8 arg9 arg10 arg11 arg12 X t8 t9 t10 k0_t2.val 32 32 14 13 R ⊢ wp frame (wpE defs₀ 𝒱 (c : Thread nD τ) bd) E (K ⟨v945, k0_pay266 v6 v876 v918_raw, k0_pay267 v6 v877 v919_raw⟩) Q) :
    SV c arg1 arg6 arg7 arg8 arg9 arg10 arg11 arg12 X t8 t9 t10 k0_t2.val 32 32 12 11 R ⊢ wp frame (wpE defs₀ 𝒱 (c : Thread nD τ) bd) E (k0_part48 (F := F) i arg1 harg1 arg2 harg2 arg3 harg3 arg4 harg4 arg5 harg5 arg6 harg6 arg7 harg7 arg8 harg8 arg9 harg9 arg10 harg10 arg11 harg11 arg12 harg12 arg13 harg13 arg14 v5 v6 k0_t2 v875 v876 v877 (k0_pay258 v4 v876 v877 v878_raw v879_raw) >>= K) Q := by
  rw [k0_part48_eq_skeleton]
  unfold k0_part48_skel
  refine assoc (load Sts.t6 fun v917 _ => ?_)
  refine assoc (st6 1 1 (by decide) (by decide) rfl (offOut k0_t2 1 1) (p := 1) rfl rfl rfl rfl rfl rfl hv878_raw hv879_raw hv876 hv877 hv4 ?_)
  refine assoc (ldR (by decide +kernel) fun v918_raw hv918_raw => ?_)
  refine assoc (ldR (by decide +kernel) fun v919_raw hv919_raw => ?_)
  refine assoc (load Sts.t7 fun v930 _ => ?_)
  refine assoc (st7 1 2 (by decide) (by decide) rfl (offOut k0_t2 1 2) (p := 0) rfl rfl rfl rfl hv918_raw hv919_raw ?_)
  refine assoc (load Sts.t6 fun v938 _ => ?_)
  refine assoc (st6 1 2 (by decide) (by decide) rfl (offOut k0_t2 1 2) (p := 0) rfl rfl rfl rfl rfl rfl hv918_raw hv919_raw hv876 hv877 hv5 ?_)
  refine assoc (load Sts.t7 fun v949 _ => ?_)
  refine assoc (st7 1 3 (by decide) (by decide) rfl (offOut k0_t2 1 3) (p := 1) rfl rfl rfl rfl hv918_raw hv919_raw ?_)
  exact ret (hk _ _ hv918_raw _ hv919_raw)

theorem part49 (hX : ∀ s, xid X s < 7936) (v7 : Vec F S8x128 .f32) (hv7 : ∀ x, v7 x = t10 (8 * 4 + (x 0).val) (x 1).val) (v8 : Vec F S8x128 .f32) (hv8 : ∀ x, v8 x = t10 (8 * 5 + (x 0).val) (x 1).val) (k0_t2 : Fin k0_t2_loop.trips) (v875 : BitVec 32) (v876 : Vec F S8x128 .f32) (hv876 : ∀ x, v876 x = t12 X t9 k0_t2.val (16 + (x 0).val) (x 1).val) (v877 : Vec F S8x128 .f32) (hv877 : ∀ x, v877 x = t12 X t9 k0_t2.val (24 + (x 0).val) (x 1).val) (v945 : BitVec 32) (v6 : Vec F S8x128 .f32) (hv6 : ∀ x, v6 x = t10 (8 * 3 + (x 0).val) (x 1).val) (v918_raw : Vec F S8x2x128 .bf16) (hv918_raw : ∀ x, v918_raw x = t11 X t8 k0_t2.val (88 + (x 0).val) (x 1).val (x 2).val) (v919_raw : Vec F S8x2x128 .bf16) (hv919_raw : ∀ x, v919_raw x = t11 X t8 k0_t2.val (128 + (x 0).val) (x 1).val (x 2).val)
    {K : (Σ' (v985 : BitVec 32) (v991 : FVec F S8x128 .f32), FVec F S8x128 .f32) → Prog (TpuEff nD τ sig (Elt F) Λ₀ .tc) β}
    (hk : ∀ (v985 : BitVec 32) (v958_raw : Vec F S8x2x128 .bf16) (hv958_raw : ∀ x, v958_raw x = t11 X t8 k0_t2.val (96 + (x 0).val) (x 1).val (x 2).val) (v959_raw : Vec F S8x2x128 .bf16) (hv959_raw : ∀ x, v959_raw x = t11 X t8 k0_t2.val (136 + (x 0).val) (x 1).val (x 2).val), SV c arg1 arg6 arg7 arg8 arg9 arg10 arg11 arg12 X t8 t9 t10 k0_t2.val 32 32 16 15 R ⊢ wp frame (wpE defs₀ 𝒱 (c : Thread nD τ) bd) E (K ⟨v985, k0_pay276 v8 v876 v958_raw, k0_pay277 v8 v877 v959_raw⟩) Q) :
    SV c arg1 arg6 arg7 arg8 arg9 arg10 arg11 arg12 X t8 t9 t10 k0_t2.val 32 32 14 13 R ⊢ wp frame (wpE defs₀ 𝒱 (c : Thread nD τ) bd) E (k0_part49 (F := F) i arg1 harg1 arg2 harg2 arg3 harg3 arg4 harg4 arg5 harg5 arg6 harg6 arg7 harg7 arg8 harg8 arg9 harg9 arg10 harg10 arg11 harg11 arg12 harg12 arg13 harg13 arg14 v7 v8 k0_t2 v875 v876 v877 v945 (k0_pay266 v6 v876 v918_raw) (k0_pay267 v6 v877 v919_raw) >>= K) Q := by
  rw [k0_part49_eq_skeleton]
  unfold k0_part49_skel
  refine assoc (load Sts.t6 fun v957 _ => ?_)
  refine assoc (st6 1 3 (by decide) (by decide) rfl (offOut k0_t2 1 3) (p := 1) rfl rfl rfl rfl rfl rfl hv918_raw hv919_raw hv876 hv877 hv6 ?_)
  refine assoc (ldR (by decide +kernel) fun v958_raw hv958_raw => ?_)
  refine assoc (ldR (by decide +kernel) fun v959_raw hv959_raw => ?_)
  refine assoc (load Sts.t7 fun v970 _ => ?_)
  refine assoc (st7 1 4 (by decide) (by decide) rfl (offOut k0_t2 1 4) (p := 0) rfl rfl rfl rfl hv958_raw hv959_raw ?_)
  refine assoc (load Sts.t6 fun v978 _ => ?_)
  refine assoc (st6 1 4 (by decide) (by decide) rfl (offOut k0_t2 1 4) (p := 0) rfl rfl rfl rfl rfl rfl hv958_raw hv959_raw hv876 hv877 hv7 ?_)
  refine assoc (load Sts.t7 fun v989 _ => ?_)
  refine assoc (st7 1 5 (by decide) (by decide) rfl (offOut k0_t2 1 5) (p := 1) rfl rfl rfl rfl hv958_raw hv959_raw ?_)
  exact ret (hk _ _ hv958_raw _ hv959_raw)

theorem part50 (hX : ∀ s, xid X s < 7936) (v9 : Vec F S8x128 .f32) (hv9 : ∀ x, v9 x = t10 (8 * 6 + (x 0).val) (x 1).val) (v10 : Vec F S8x128 .f32) (hv10 : ∀ x, v10 x = t10 (8 * 7 + (x 0).val) (x 1).val) (k0_t2 : Fin k0_t2_loop.trips) (v875 : BitVec 32) (v876 : Vec F S8x128 .f32) (hv876 : ∀ x, v876 x = t12 X t9 k0_t2.val (16 + (x 0).val) (x 1).val) (v877 : Vec F S8x128 .f32) (hv877 : ∀ x, v877 x = t12 X t9 k0_t2.val (24 + (x 0).val) (x 1).val) (v985 : BitVec 32) (v8 : Vec F S8x128 .f32) (hv8 : ∀ x, v8 x = t10 (8 * 5 + (x 0).val) (x 1).val) (v958_raw : Vec F S8x2x128 .bf16) (hv958_raw : ∀ x, v958_raw x = t11 X t8 k0_t2.val (96 + (x 0).val) (x 1).val (x 2).val) (v959_raw : Vec F S8x2x128 .bf16) (hv959_raw : ∀ x, v959_raw x = t11 X t8 k0_t2.val (136 + (x 0).val) (x 1).val (x 2).val)
    {K : (Σ' (v1024 : FVec F S8x128 .f32) (v1025 : BitVec 32), FVec F S8x128 .f32) → Prog (TpuEff nD τ sig (Elt F) Λ₀ .tc) β}
    (hk : ∀ (v999_raw : Vec F S8x2x128 .bf16) (hv999_raw : ∀ x, v999_raw x = t11 X t8 k0_t2.val (144 + (x 0).val) (x 1).val (x 2).val) (v1025 : BitVec 32) (v998_raw : Vec F S8x2x128 .bf16) (hv998_raw : ∀ x, v998_raw x = t11 X t8 k0_t2.val (104 + (x 0).val) (x 1).val (x 2).val), SV c arg1 arg6 arg7 arg8 arg9 arg10 arg11 arg12 X t8 t9 t10 k0_t2.val 32 32 18 17 R ⊢ wp frame (wpE defs₀ 𝒱 (c : Thread nD τ) bd) E (K ⟨k0_pay284 v999_raw, v1025, k0_pay286 v10 v876 v998_raw⟩) Q) :
    SV c arg1 arg6 arg7 arg8 arg9 arg10 arg11 arg12 X t8 t9 t10 k0_t2.val 32 32 16 15 R ⊢ wp frame (wpE defs₀ 𝒱 (c : Thread nD τ) bd) E (k0_part50 (F := F) i arg1 harg1 arg2 harg2 arg3 harg3 arg4 harg4 arg5 harg5 arg6 harg6 arg7 harg7 arg8 harg8 arg9 harg9 arg10 harg10 arg11 harg11 arg12 harg12 arg13 harg13 arg14 v9 v10 k0_t2 v875 v876 v877 v985 (k0_pay276 v8 v876 v958_raw) (k0_pay277 v8 v877 v959_raw) >>= K) Q := by
  rw [k0_part50_eq_skeleton]
  unfold k0_part50_skel
  refine assoc (load Sts.t6 fun v997 _ => ?_)
  refine assoc (st6 1 5 (by decide) (by decide) rfl (offOut k0_t2 1 5) (p := 1) rfl rfl rfl rfl rfl rfl hv958_raw hv959_raw hv876 hv877 hv8 ?_)
  refine assoc (ldR (by decide +kernel) fun v998_raw hv998_raw => ?_)
  refine assoc (ldR (by decide +kernel) fun v999_raw hv999_raw => ?_)
  refine assoc (load Sts.t7 fun v1010 _ => ?_)
  refine assoc (st7 1 6 (by decide) (by decide) rfl (offOut k0_t2 1 6) (p := 0) rfl rfl rfl rfl hv998_raw hv999_raw ?_)
  refine assoc (load Sts.t6 fun v1018 _ => ?_)
  refine assoc (st6 1 6 (by decide) (by decide) rfl (offOut k0_t2 1 6) (p := 0) rfl rfl rfl rfl rfl rfl hv998_raw hv999_raw hv876 hv877 hv9 ?_)
  refine assoc (load Sts.t7 fun v1029 _ => ?_)
  refine assoc (st7 1 7 (by decide) (by decide) rfl (offOut k0_t2 1 7) (p := 1) rfl rfl rfl rfl hv998_raw hv999_raw ?_)
  exact ret (hk _ hv999_raw _ _ hv998_raw)

end Cert.Proof.EmitParts

end
-- ==== Proof.EmitParts4.lean ====
/- What parts 51 to 61 of a trip of KernelIdeal's emission loop gather and store. -/
module

public import proofs.«01_k».proof.Proof.EmitParts3

@[expose] public section

set_option maxRecDepth 16384

noncomputable section

namespace Cert.Proof.EmitParts

open Cert.KernelIdeal Cert.KernelIdeal.Gen Cert.Proof.Hoare Cert.Proof.Target Cert.Proof.EmitRules
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

variable {𝒱 : Variants} {c : Dev nD} {bd : Option 𝒱.V} {E : Set ℕ} {β : Type}
  {Q : β → sProp (MT nD τ sig Unit (Elt F) ℕ (Pipeline.UD sig nD τ) ℕ)} {X : S1x1x256.Idx → Elt F .i32}
  {R : sProp (MT nD τ sig Unit (Elt F) ℕ (Pipeline.UD sig nD τ) ℕ)} {t8 : ℕ → ℕ → ℕ → F .bf16} {t9 t10 : ℕ → ℕ → F .f32}
variable (i : grid0.Coords) (arg1 : Memref sig .tc .smem S1x1x256 .i32) (harg1 : arg1.IsWhole) (arg2 : Memref sig .tc .hbm S7936x2560 .i8) (harg2 : arg2.IsWhole) (arg3 : Memref sig .tc .vmem S62x128 .f32) (harg3 : arg3.IsWhole) (arg4 : Memref sig .tc .vmem S62x128 .f32) (harg4 : arg4.IsWhole) (arg5 : Memref sig .tc .vmem S1x2560 .bf16) (harg5 : arg5.IsWhole) (arg6 : Memref sig .tc .vmem S5120x128 .bf16) (harg6 : arg6.IsWhole) (arg7 : Memref sig .tc .vmem S5120x128 .bf16) (harg7 : arg7.IsWhole) (arg8 : Memref sig .tc .vmem S79360x2x128 .bf16) (harg8 : arg8.IsWhole) (arg9 : Memref sig .tc .vmem S15872x128 .f32) (harg9 : arg9.IsWhole) (arg10 : Memref sig .tc .vmem S80x128 .f32) (harg10 : arg10.IsWhole) (arg11 : Memref sig .tc .vmem S320x2x128 .bf16) (harg11 : arg11.IsWhole) (arg12 : Memref sig .tc .vmem S64x128 .f32) (harg12 : arg12.IsWhole) (arg13 : Memref sig .tc .vmem S8x128x2560 .i8) (harg13 : arg13.IsWhole) (arg14 : DmaSems sig S8)

theorem part51 (hX : ∀ s, xid X s < 7936) (v10 : Vec F S8x128 .f32) (hv10 : ∀ x, v10 x = t10 (8 * 7 + (x 0).val) (x 1).val) (v11 : Vec F S8x128 .f32) (hv11 : ∀ x, v11 x = t10 (8 * 8 + (x 0).val) (x 1).val) (k0_t2 : Fin k0_t2_loop.trips) (v875 : BitVec 32) (v876 : Vec F S8x128 .f32) (hv876 : ∀ x, v876 x = t12 X t9 k0_t2.val (16 + (x 0).val) (x 1).val) (v877 : Vec F S8x128 .f32) (hv877 : ∀ x, v877 x = t12 X t9 k0_t2.val (24 + (x 0).val) (x 1).val) (v999_raw : Vec F S8x2x128 .bf16) (hv999_raw : ∀ x, v999_raw x = t11 X t8 k0_t2.val (144 + (x 0).val) (x 1).val (x 2).val) (v1025 : BitVec 32) (v998_raw : Vec F S8x2x128 .bf16) (hv998_raw : ∀ x, v998_raw x = t11 X t8 k0_t2.val (104 + (x 0).val) (x 1).val (x 2).val)
    {K : (Σ' (v1061 : FVec F S8x128 .f32) (v1064 : FVec F S8x128 .f32), BitVec 32) → Prog (TpuEff nD τ sig (Elt F) Λ₀ .tc) β}
    (hk : ∀ (v1038_raw : Vec F S8x2x128 .bf16) (hv1038_raw : ∀ x, v1038_raw x = t11 X t8 k0_t2.val (112 + (x 0).val) (x 1).val (x 2).val) (v1039_raw : Vec F S8x2x128 .bf16) (hv1039_raw : ∀ x, v1039_raw x = t11 X t8 k0_t2.val (152 + (x 0).val) (x 1).val (x 2).val) (v1065 : BitVec 32), SV c arg1 arg6 arg7 arg8 arg9 arg10 arg11 arg12 X t8 t9 t10 k0_t2.val 32 32 20 19 R ⊢ wp frame (wpE defs₀ 𝒱 (c : Thread nD τ) bd) E (K ⟨k0_pay292 v1038_raw, k0_pay293 v1039_raw, v1065⟩) Q) :
    SV c arg1 arg6 arg7 arg8 arg9 arg10 arg11 arg12 X t8 t9 t10 k0_t2.val 32 32 18 17 R ⊢ wp frame (wpE defs₀ 𝒱 (c : Thread nD τ) bd) E (k0_part51 (F := F) i arg1 harg1 arg2 harg2 arg3 harg3 arg4 harg4 arg5 harg5 arg6 harg6 arg7 harg7 arg8 harg8 arg9 harg9 arg10 harg10 arg11 harg11 arg12 harg12 arg13 harg13 arg14 v10 v11 k0_t2 v875 v876 v877 (k0_pay284 v999_raw) v1025 (k0_pay286 v10 v876 v998_raw) >>= K) Q := by
  rw [k0_part51_eq_skeleton]
  unfold k0_part51_skel
  refine assoc (load Sts.t6 fun v1037 _ => ?_)
  refine assoc (st6 1 7 (by decide) (by decide) rfl (offOut k0_t2 1 7) (p := 1) rfl rfl rfl rfl rfl rfl hv998_raw hv999_raw hv876 hv877 hv10 ?_)
  refine assoc (ldR (by decide +kernel) fun v1038_raw hv1038_raw => ?_)
  refine assoc (ldR (by decide +kernel) fun v1039_raw hv1039_raw => ?_)
  refine assoc (load Sts.t7 fun v1050 _ => ?_)
  refine assoc (st7 1 8 (by decide) (by decide) rfl (offOut k0_t2 1 8) (p := 0) rfl rfl rfl rfl hv1038_raw hv1039_raw ?_)
  refine assoc (load Sts.t6 fun v1058 _ => ?_)
  refine assoc (st6 1 8 (by decide) (by decide) rfl (offOut k0_t2 1 8) (p := 0) rfl rfl rfl rfl rfl rfl hv1038_raw hv1039_raw hv876 hv877 hv11 ?_)
  refine assoc (load Sts.t7 fun v1069 _ => ?_)
  refine assoc (st7 1 9 (by decide) (by decide) rfl (offOut k0_t2 1 9) (p := 1) rfl rfl rfl rfl hv1038_raw hv1039_raw ?_)
  exact ret (hk _ hv1038_raw _ hv1039_raw _)

theorem part52 (hX : ∀ s, xid X s < 7936) (v3 : Vec F S8x128 .f32) (hv3 : ∀ x, v3 x = t10 (8 * 0 + (x 0).val) (x 1).val) (v12 : Vec F S8x128 .f32) (hv12 : ∀ x, v12 x = t10 (8 * 9 + (x 0).val) (x 1).val) (k0_t2 : Fin k0_t2_loop.trips) (arg15 : BitVec 32) (v876 : Vec F S8x128 .f32) (hv876 : ∀ x, v876 x = t12 X t9 k0_t2.val (16 + (x 0).val) (x 1).val) (v877 : Vec F S8x128 .f32) (hv877 : ∀ x, v877 x = t12 X t9 k0_t2.val (24 + (x 0).val) (x 1).val) (v1038_raw : Vec F S8x2x128 .bf16) (hv1038_raw : ∀ x, v1038_raw x = t11 X t8 k0_t2.val (112 + (x 0).val) (x 1).val (x 2).val) (v1039_raw : Vec F S8x2x128 .bf16) (hv1039_raw : ∀ x, v1039_raw x = t11 X t8 k0_t2.val (152 + (x 0).val) (x 1).val (x 2).val) (v1065 : BitVec 32)
    {K : (Σ' (v1081 : BitVec 32) (v1082 : Vec F S8x128 .f32) (v1083 : Vec F S8x128 .f32) (v1084_hi : FVec F S8x128 .bf16), FVec F S8x128 .bf16) → Prog (TpuEff nD τ sig (Elt F) Λ₀ .tc) β}
    (hk : ∀ (v1081 : BitVec 32) (v1082 : Vec F S8x128 .f32) (hv1082 : ∀ x, v1082 x = t12 X t9 k0_t2.val (32 + (x 0).val) (x 1).val) (v1083 : Vec F S8x128 .f32) (hv1083 : ∀ x, v1083 x = t12 X t9 k0_t2.val (40 + (x 0).val) (x 1).val) (v1084_raw : Vec F S8x2x128 .bf16) (hv1084_raw : ∀ x, v1084_raw x = t11 X t8 k0_t2.val (160 + (x 0).val) (x 1).val (x 2).val) (v1085_raw : Vec F S8x2x128 .bf16) (hv1085_raw : ∀ x, v1085_raw x = t11 X t8 k0_t2.val (200 + (x 0).val) (x 1).val (x 2).val), SV c arg1 arg6 arg7 arg8 arg9 arg10 arg11 arg12 X t8 t9 t10 k0_t2.val 32 32 21 21 R ⊢ wp frame (wpE defs₀ 𝒱 (c : Thread nD τ) bd) E (K ⟨v1081, v1082, v1083, k0_pay296 v1084_raw, k0_pay297 v1085_raw⟩) Q) :
    SV c arg1 arg6 arg7 arg8 arg9 arg10 arg11 arg12 X t8 t9 t10 k0_t2.val 32 32 20 19 R ⊢ wp frame (wpE defs₀ 𝒱 (c : Thread nD τ) bd) E (k0_part52 (F := F) i arg1 harg1 arg2 harg2 arg3 harg3 arg4 harg4 arg5 harg5 arg6 harg6 arg7 harg7 arg8 harg8 arg9 harg9 arg10 harg10 arg11 harg11 arg12 harg12 arg13 harg13 arg14 v3 v12 k0_t2 arg15 v876 v877 (k0_pay292 v1038_raw) (k0_pay293 v1039_raw) v1065 >>= K) Q := by
  rw [k0_part52_eq_skeleton]
  unfold k0_part52_skel
  refine assoc (load Sts.t6 fun v1077 _ => ?_)
  refine assoc (st6 1 9 (by decide) (by decide) rfl (offOut k0_t2 1 9) (p := 1) rfl rfl rfl rfl rfl rfl hv1038_raw hv1039_raw hv876 hv877 hv12 ?_)
  refine assoc (ldN (by decide +kernel) fun v1082 hv1082 => ?_)
  refine assoc (ldN (by decide +kernel) fun v1083 hv1083 => ?_)
  refine assoc (ldR (by decide +kernel) fun v1084_raw hv1084_raw => ?_)
  refine assoc (ldR (by decide +kernel) fun v1085_raw hv1085_raw => ?_)
  refine assoc (load Sts.t7 fun v1096 _ => ?_)
  refine assoc (st7 2 0 (by decide) (by decide) rfl (offOut k0_t2 2 0) (p := 0) rfl rfl rfl rfl hv1084_raw hv1085_raw ?_)
  refine assoc (load Sts.t6 fun v1104 _ => ?_)
  refine assoc (st6 2 0 (by decide) (by decide) rfl (offOut k0_t2 2 0) (p := 0) rfl rfl rfl rfl rfl rfl hv1084_raw hv1085_raw hv1082 hv1083 hv3 ?_)
  exact ret (hk _ _ hv1082 _ hv1083 _ hv1084_raw _ hv1085_raw)

theorem part53 (hX : ∀ s, xid X s < 7936) (v4 : Vec F S8x128 .f32) (hv4 : ∀ x, v4 x = t10 (8 * 1 + (x 0).val) (x 1).val) (v5 : Vec F S8x128 .f32) (hv5 : ∀ x, v5 x = t10 (8 * 2 + (x 0).val) (x 1).val) (k0_t2 : Fin k0_t2_loop.trips) (v1081 : BitVec 32) (v1082 : Vec F S8x128 .f32) (hv1082 : ∀ x, v1082 x = t12 X t9 k0_t2.val (32 + (x 0).val) (x 1).val) (v1083 : Vec F S8x128 .f32) (hv1083 : ∀ x, v1083 x = t12 X t9 k0_t2.val (40 + (x 0).val) (x 1).val) (v1084_raw : Vec F S8x2x128 .bf16) (hv1084_raw : ∀ x, v1084_raw x = t11 X t8 k0_t2.val (160 + (x 0).val) (x 1).val (x 2).val) (v1085_raw : Vec F S8x2x128 .bf16) (hv1085_raw : ∀ x, v1085_raw x = t11 X t8 k0_t2.val (200 + (x 0).val) (x 1).val (x 2).val)
    {K : (Σ' (v1124_hi : FVec F S8x128 .bf16) (v1125_hi : FVec F S8x128 .bf16), FVec F S16x128 .bf16) → Prog (TpuEff nD τ sig (Elt F) Λ₀ .tc) β}
    (hk : ∀ (v1124_raw : Vec F S8x2x128 .bf16) (hv1124_raw : ∀ x, v1124_raw x = t11 X t8 k0_t2.val (168 + (x 0).val) (x 1).val (x 2).val) (v1125_raw : Vec F S8x2x128 .bf16) (hv1125_raw : ∀ x, v1125_raw x = t11 X t8 k0_t2.val (208 + (x 0).val) (x 1).val (x 2).val), SV c arg1 arg6 arg7 arg8 arg9 arg10 arg11 arg12 X t8 t9 t10 k0_t2.val 32 32 23 22 R ⊢ wp frame (wpE defs₀ 𝒱 (c : Thread nD τ) bd) E (K ⟨k0_pay306 v1124_raw, k0_pay307 v1125_raw, k0_pay311 v5 v1082 v1083 v1124_raw v1125_raw⟩) Q) :
    SV c arg1 arg6 arg7 arg8 arg9 arg10 arg11 arg12 X t8 t9 t10 k0_t2.val 32 32 21 21 R ⊢ wp frame (wpE defs₀ 𝒱 (c : Thread nD τ) bd) E (k0_part53 (F := F) i arg1 harg1 arg2 harg2 arg3 harg3 arg4 harg4 arg5 harg5 arg6 harg6 arg7 harg7 arg8 harg8 arg9 harg9 arg10 harg10 arg11 harg11 arg12 harg12 arg13 harg13 arg14 v4 v5 k0_t2 v1081 v1082 v1083 (k0_pay296 v1084_raw) (k0_pay297 v1085_raw) >>= K) Q := by
  rw [k0_part53_eq_skeleton]
  unfold k0_part53_skel
  refine assoc (load Sts.t7 fun v1115 _ => ?_)
  refine assoc (st7 2 1 (by decide) (by decide) rfl (offOut k0_t2 2 1) (p := 1) rfl rfl rfl rfl hv1084_raw hv1085_raw ?_)
  refine assoc (load Sts.t6 fun v1123 _ => ?_)
  refine assoc (st6 2 1 (by decide) (by decide) rfl (offOut k0_t2 2 1) (p := 1) rfl rfl rfl rfl rfl rfl hv1084_raw hv1085_raw hv1082 hv1083 hv4 ?_)
  refine assoc (ldR (by decide +kernel) fun v1124_raw hv1124_raw => ?_)
  refine assoc (ldR (by decide +kernel) fun v1125_raw hv1125_raw => ?_)
  refine assoc (load Sts.t7 fun v1136 _ => ?_)
  refine assoc (st7 2 2 (by decide) (by decide) rfl (offOut k0_t2 2 2) (p := 0) rfl rfl rfl rfl hv1124_raw hv1125_raw ?_)
  exact ret (hk _ hv1124_raw _ hv1125_raw)

theorem part54 (hX : ∀ s, xid X s < 7936) (v6 : Vec F S8x128 .f32) (hv6 : ∀ x, v6 x = t10 (8 * 3 + (x 0).val) (x 1).val) (v7 : Vec F S8x128 .f32) (hv7 : ∀ x, v7 x = t10 (8 * 4 + (x 0).val) (x 1).val) (k0_t2 : Fin k0_t2_loop.trips) (v1081 : BitVec 32) (v1082 : Vec F S8x128 .f32) (hv1082 : ∀ x, v1082 x = t12 X t9 k0_t2.val (32 + (x 0).val) (x 1).val) (v1083 : Vec F S8x128 .f32) (hv1083 : ∀ x, v1083 x = t12 X t9 k0_t2.val (40 + (x 0).val) (x 1).val) (v1124_raw : Vec F S8x2x128 .bf16) (hv1124_raw : ∀ x, v1124_raw x = t11 X t8 k0_t2.val (168 + (x 0).val) (x 1).val (x 2).val) (v1125_raw : Vec F S8x2x128 .bf16) (hv1125_raw : ∀ x, v1125_raw x = t11 X t8 k0_t2.val (208 + (x 0).val) (x 1).val (x 2).val) (v5 : Vec F S8x128 .f32) (hv5 : ∀ x, v5 x = t10 (8 * 2 + (x 0).val) (x 1).val)
    {K : (Σ' (v1164_hi : FVec F S8x128 .bf16) (v1165_hi : FVec F S8x128 .bf16) (v1172 : BitVec 32), FVec F S16x128 .bf16) → Prog (TpuEff nD τ sig (Elt F) Λ₀ .tc) β}
    (hk : ∀ (v1164_raw : Vec F S8x2x128 .bf16) (hv1164_raw : ∀ x, v1164_raw x = t11 X t8 k0_t2.val (176 + (x 0).val) (x 1).val (x 2).val) (v1165_raw : Vec F S8x2x128 .bf16) (hv1165_raw : ∀ x, v1165_raw x = t11 X t8 k0_t2.val (216 + (x 0).val) (x 1).val (x 2).val) (v1172 : BitVec 32), SV c arg1 arg6 arg7 arg8 arg9 arg10 arg11 arg12 X t8 t9 t10 k0_t2.val 32 32 25 24 R ⊢ wp frame (wpE defs₀ 𝒱 (c : Thread nD τ) bd) E (K ⟨k0_pay316 v1164_raw, k0_pay317 v1165_raw, v1172, k0_pay321 v7 v1082 v1083 v1164_raw v1165_raw⟩) Q) :
    SV c arg1 arg6 arg7 arg8 arg9 arg10 arg11 arg12 X t8 t9 t10 k0_t2.val 32 32 23 22 R ⊢ wp frame (wpE defs₀ 𝒱 (c : Thread nD τ) bd) E (k0_part54 (F := F) i arg1 harg1 arg2 harg2 arg3 harg3 arg4 harg4 arg5 harg5 arg6 harg6 arg7 harg7 arg8 harg8 arg9 harg9 arg10 harg10 arg11 harg11 arg12 harg12 arg13 harg13 arg14 v6 v7 k0_t2 v1081 v1082 v1083 (k0_pay306 v1124_raw) (k0_pay307 v1125_raw) (k0_pay311 v5 v1082 v1083 v1124_raw v1125_raw) >>= K) Q := by
  rw [k0_part54_eq_skeleton]
  unfold k0_part54_skel
  refine assoc (load Sts.t6 fun v1144 _ => ?_)
  refine assoc (st6 2 2 (by decide) (by decide) rfl (offOut k0_t2 2 2) (p := 0) rfl rfl rfl rfl rfl rfl hv1124_raw hv1125_raw hv1082 hv1083 hv5 ?_)
  refine assoc (load Sts.t7 fun v1155 _ => ?_)
  refine assoc (st7 2 3 (by decide) (by decide) rfl (offOut k0_t2 2 3) (p := 1) rfl rfl rfl rfl hv1124_raw hv1125_raw ?_)
  refine assoc (load Sts.t6 fun v1163 _ => ?_)
  refine assoc (st6 2 3 (by decide) (by decide) rfl (offOut k0_t2 2 3) (p := 1) rfl rfl rfl rfl rfl rfl hv1124_raw hv1125_raw hv1082 hv1083 hv6 ?_)
  refine assoc (ldR (by decide +kernel) fun v1164_raw hv1164_raw => ?_)
  refine assoc (ldR (by decide +kernel) fun v1165_raw hv1165_raw => ?_)
  refine assoc (load Sts.t7 fun v1176 _ => ?_)
  refine assoc (st7 2 4 (by decide) (by decide) rfl (offOut k0_t2 2 4) (p := 0) rfl rfl rfl rfl hv1164_raw hv1165_raw ?_)
  exact ret (hk _ hv1164_raw _ hv1165_raw _)

theorem part55 (hX : ∀ s, xid X s < 7936) (v8 : Vec F S8x128 .f32) (hv8 : ∀ x, v8 x = t10 (8 * 5 + (x 0).val) (x 1).val) (v9 : Vec F S8x128 .f32) (hv9 : ∀ x, v9 x = t10 (8 * 6 + (x 0).val) (x 1).val) (k0_t2 : Fin k0_t2_loop.trips) (v1081 : BitVec 32) (v1082 : Vec F S8x128 .f32) (hv1082 : ∀ x, v1082 x = t12 X t9 k0_t2.val (32 + (x 0).val) (x 1).val) (v1083 : Vec F S8x128 .f32) (hv1083 : ∀ x, v1083 x = t12 X t9 k0_t2.val (40 + (x 0).val) (x 1).val) (v1164_raw : Vec F S8x2x128 .bf16) (hv1164_raw : ∀ x, v1164_raw x = t11 X t8 k0_t2.val (176 + (x 0).val) (x 1).val (x 2).val) (v1165_raw : Vec F S8x2x128 .bf16) (hv1165_raw : ∀ x, v1165_raw x = t11 X t8 k0_t2.val (216 + (x 0).val) (x 1).val (x 2).val) (v1172 : BitVec 32) (v7 : Vec F S8x128 .f32) (hv7 : ∀ x, v7 x = t10 (8 * 4 + (x 0).val) (x 1).val)
    {K : (Σ' (v1204_hi : FVec F S8x128 .bf16) (v1205_hi : FVec F S8x128 .bf16) (v1212 : BitVec 32) (v1220 : FVec F S8x128 .f32), FVec F S8x128 .bf16) → Prog (TpuEff nD τ sig (Elt F) Λ₀ .tc) β}
    (hk : ∀ (v1204_raw : Vec F S8x2x128 .bf16) (hv1204_raw : ∀ x, v1204_raw x = t11 X t8 k0_t2.val (184 + (x 0).val) (x 1).val (x 2).val) (v1205_raw : Vec F S8x2x128 .bf16) (hv1205_raw : ∀ x, v1205_raw x = t11 X t8 k0_t2.val (224 + (x 0).val) (x 1).val (x 2).val) (v1212 : BitVec 32), SV c arg1 arg6 arg7 arg8 arg9 arg10 arg11 arg12 X t8 t9 t10 k0_t2.val 32 32 27 26 R ⊢ wp frame (wpE defs₀ 𝒱 (c : Thread nD τ) bd) E (K ⟨k0_pay326 v1204_raw, k0_pay327 v1205_raw, v1212, k0_pay331 v9 v1083 v1205_raw, k0_pay332 v9 v1082 v1204_raw⟩) Q) :
    SV c arg1 arg6 arg7 arg8 arg9 arg10 arg11 arg12 X t8 t9 t10 k0_t2.val 32 32 25 24 R ⊢ wp frame (wpE defs₀ 𝒱 (c : Thread nD τ) bd) E (k0_part55 (F := F) i arg1 harg1 arg2 harg2 arg3 harg3 arg4 harg4 arg5 harg5 arg6 harg6 arg7 harg7 arg8 harg8 arg9 harg9 arg10 harg10 arg11 harg11 arg12 harg12 arg13 harg13 arg14 v8 v9 k0_t2 v1081 v1082 v1083 (k0_pay316 v1164_raw) (k0_pay317 v1165_raw) v1172 (k0_pay321 v7 v1082 v1083 v1164_raw v1165_raw) >>= K) Q := by
  rw [k0_part55_eq_skeleton]
  unfold k0_part55_skel
  refine assoc (load Sts.t6 fun v1184 _ => ?_)
  refine assoc (st6 2 4 (by decide) (by decide) rfl (offOut k0_t2 2 4) (p := 0) rfl rfl rfl rfl rfl rfl hv1164_raw hv1165_raw hv1082 hv1083 hv7 ?_)
  refine assoc (load Sts.t7 fun v1195 _ => ?_)
  refine assoc (st7 2 5 (by decide) (by decide) rfl (offOut k0_t2 2 5) (p := 1) rfl rfl rfl rfl hv1164_raw hv1165_raw ?_)
  refine assoc (load Sts.t6 fun v1203 _ => ?_)
  refine assoc (st6 2 5 (by decide) (by decide) rfl (offOut k0_t2 2 5) (p := 1) rfl rfl rfl rfl rfl rfl hv1164_raw hv1165_raw hv1082 hv1083 hv8 ?_)
  refine assoc (ldR (by decide +kernel) fun v1204_raw hv1204_raw => ?_)
  refine assoc (ldR (by decide +kernel) fun v1205_raw hv1205_raw => ?_)
  refine assoc (load Sts.t7 fun v1216 _ => ?_)
  refine assoc (st7 2 6 (by decide) (by decide) rfl (offOut k0_t2 2 6) (p := 0) rfl rfl rfl rfl hv1204_raw hv1205_raw ?_)
  exact ret (hk _ hv1204_raw _ hv1205_raw _)

theorem part56 (hX : ∀ s, xid X s < 7936) (v10 : Vec F S8x128 .f32) (hv10 : ∀ x, v10 x = t10 (8 * 7 + (x 0).val) (x 1).val) (v11 : Vec F S8x128 .f32) (hv11 : ∀ x, v11 x = t10 (8 * 8 + (x 0).val) (x 1).val) (k0_t2 : Fin k0_t2_loop.trips) (v1081 : BitVec 32) (v1082 : Vec F S8x128 .f32) (hv1082 : ∀ x, v1082 x = t12 X t9 k0_t2.val (32 + (x 0).val) (x 1).val) (v1083 : Vec F S8x128 .f32) (hv1083 : ∀ x, v1083 x = t12 X t9 k0_t2.val (40 + (x 0).val) (x 1).val) (v1204_raw : Vec F S8x2x128 .bf16) (hv1204_raw : ∀ x, v1204_raw x = t11 X t8 k0_t2.val (184 + (x 0).val) (x 1).val (x 2).val) (v1205_raw : Vec F S8x2x128 .bf16) (hv1205_raw : ∀ x, v1205_raw x = t11 X t8 k0_t2.val (224 + (x 0).val) (x 1).val (x 2).val) (v1212 : BitVec 32) (v9 : Vec F S8x128 .f32) (hv9 : ∀ x, v9 x = t10 (8 * 6 + (x 0).val) (x 1).val)
    {K : (Σ' (v1244_hi : FVec F S8x128 .bf16) (v1245_hi : FVec F S8x128 .bf16) (v1252 : BitVec 32) (v1258 : FVec F S8x128 .f32), FVec F S8x128 .f32) → Prog (TpuEff nD τ sig (Elt F) Λ₀ .tc) β}
    (hk : ∀ (v1244_raw : Vec F S8x2x128 .bf16) (hv1244_raw : ∀ x, v1244_raw x = t11 X t8 k0_t2.val (192 + (x 0).val) (x 1).val (x 2).val) (v1245_raw : Vec F S8x2x128 .bf16) (hv1245_raw : ∀ x, v1245_raw x = t11 X t8 k0_t2.val (232 + (x 0).val) (x 1).val (x 2).val) (v1252 : BitVec 32), SV c arg1 arg6 arg7 arg8 arg9 arg10 arg11 arg12 X t8 t9 t10 k0_t2.val 32 32 29 28 R ⊢ wp frame (wpE defs₀ 𝒱 (c : Thread nD τ) bd) E (K ⟨k0_pay338 v1244_raw, k0_pay339 v1245_raw, v1252, k0_pay343 v11 v1082 v1244_raw, k0_pay344 v1083 v1245_raw⟩) Q) :
    SV c arg1 arg6 arg7 arg8 arg9 arg10 arg11 arg12 X t8 t9 t10 k0_t2.val 32 32 27 26 R ⊢ wp frame (wpE defs₀ 𝒱 (c : Thread nD τ) bd) E (k0_part56 (F := F) i arg1 harg1 arg2 harg2 arg3 harg3 arg4 harg4 arg5 harg5 arg6 harg6 arg7 harg7 arg8 harg8 arg9 harg9 arg10 harg10 arg11 harg11 arg12 harg12 arg13 harg13 arg14 v10 v11 k0_t2 v1081 v1082 v1083 (k0_pay326 v1204_raw) (k0_pay327 v1205_raw) v1212 (k0_pay331 v9 v1083 v1205_raw) (k0_pay332 v9 v1082 v1204_raw) >>= K) Q := by
  rw [k0_part56_eq_skeleton]
  unfold k0_part56_skel
  refine assoc (load Sts.t6 fun v1224 _ => ?_)
  refine assoc (st6 2 6 (by decide) (by decide) rfl (offOut k0_t2 2 6) (p := 0) rfl rfl rfl rfl rfl rfl hv1204_raw hv1205_raw hv1082 hv1083 hv9 ?_)
  refine assoc (load Sts.t7 fun v1235 _ => ?_)
  refine assoc (st7 2 7 (by decide) (by decide) rfl (offOut k0_t2 2 7) (p := 1) rfl rfl rfl rfl hv1204_raw hv1205_raw ?_)
  refine assoc (load Sts.t6 fun v1243 _ => ?_)
  refine assoc (st6 2 7 (by decide) (by decide) rfl (offOut k0_t2 2 7) (p := 1) rfl rfl rfl rfl rfl rfl hv1204_raw hv1205_raw hv1082 hv1083 hv10 ?_)
  refine assoc (ldR (by decide +kernel) fun v1244_raw hv1244_raw => ?_)
  refine assoc (ldR (by decide +kernel) fun v1245_raw hv1245_raw => ?_)
  refine assoc (load Sts.t7 fun v1256 _ => ?_)
  refine assoc (st7 2 8 (by decide) (by decide) rfl (offOut k0_t2 2 8) (p := 0) rfl rfl rfl rfl hv1244_raw hv1245_raw ?_)
  exact ret (hk _ hv1244_raw _ hv1245_raw _)

theorem part57 (hX : ∀ s, xid X s < 7936) (v11 : Vec F S8x128 .f32) (hv11 : ∀ x, v11 x = t10 (8 * 8 + (x 0).val) (x 1).val) (v12 : Vec F S8x128 .f32) (hv12 : ∀ x, v12 x = t10 (8 * 9 + (x 0).val) (x 1).val) (k0_t2 : Fin k0_t2_loop.trips) (arg15 : BitVec 32) (v1081 : BitVec 32) (v1082 : Vec F S8x128 .f32) (hv1082 : ∀ x, v1082 x = t12 X t9 k0_t2.val (32 + (x 0).val) (x 1).val) (v1083 : Vec F S8x128 .f32) (hv1083 : ∀ x, v1083 x = t12 X t9 k0_t2.val (40 + (x 0).val) (x 1).val) (v1244_raw : Vec F S8x2x128 .bf16) (hv1244_raw : ∀ x, v1244_raw x = t11 X t8 k0_t2.val (192 + (x 0).val) (x 1).val (x 2).val) (v1245_raw : Vec F S8x2x128 .bf16) (hv1245_raw : ∀ x, v1245_raw x = t11 X t8 k0_t2.val (232 + (x 0).val) (x 1).val (x 2).val) (v1252 : BitVec 32)
    {K : (Σ' (v1287 : BitVec 32) (v1288 : Vec F S8x128 .f32) (v1289 : Vec F S8x128 .f32) (v1290_hi : FVec F S8x128 .bf16) (v1291_lo : FVec F S8x128 .bf16) (v1291_hi : FVec F S8x128 .bf16), FVec F S8x128 .f32) → Prog (TpuEff nD τ sig (Elt F) Λ₀ .tc) β}
    (hk : ∀ (v1287 : BitVec 32) (v1288 : Vec F S8x128 .f32) (hv1288 : ∀ x, v1288 x = t12 X t9 k0_t2.val (48 + (x 0).val) (x 1).val) (v1289 : Vec F S8x128 .f32) (hv1289 : ∀ x, v1289 x = t12 X t9 k0_t2.val (56 + (x 0).val) (x 1).val) (v1290_raw : Vec F S8x2x128 .bf16) (hv1290_raw : ∀ x, v1290_raw x = t11 X t8 k0_t2.val (240 + (x 0).val) (x 1).val (x 2).val) (v1291_raw : Vec F S8x2x128 .bf16) (hv1291_raw : ∀ x, v1291_raw x = t11 X t8 k0_t2.val (280 + (x 0).val) (x 1).val (x 2).val), SV c arg1 arg6 arg7 arg8 arg9 arg10 arg11 arg12 X t8 t9 t10 k0_t2.val 32 32 30 30 R ⊢ wp frame (wpE defs₀ 𝒱 (c : Thread nD τ) bd) E (K ⟨v1287, v1288, v1289, k0_pay350 v1290_raw, k0_pay351 v1291_raw, k0_pay352 v1291_raw, k0_pay353 v1290_raw⟩) Q) :
    SV c arg1 arg6 arg7 arg8 arg9 arg10 arg11 arg12 X t8 t9 t10 k0_t2.val 32 32 29 28 R ⊢ wp frame (wpE defs₀ 𝒱 (c : Thread nD τ) bd) E (k0_part57 (F := F) i arg1 harg1 arg2 harg2 arg3 harg3 arg4 harg4 arg5 harg5 arg6 harg6 arg7 harg7 arg8 harg8 arg9 harg9 arg10 harg10 arg11 harg11 arg12 harg12 arg13 harg13 arg14 v11 v12 k0_t2 arg15 v1081 v1082 v1083 (k0_pay338 v1244_raw) (k0_pay339 v1245_raw) v1252 (k0_pay343 v11 v1082 v1244_raw) (k0_pay344 v1083 v1245_raw) >>= K) Q := by
  rw [k0_part57_eq_skeleton]
  unfold k0_part57_skel
  refine assoc (load Sts.t6 fun v1264 _ => ?_)
  refine assoc (st6 2 8 (by decide) (by decide) rfl (offOut k0_t2 2 8) (p := 0) rfl rfl rfl rfl rfl rfl hv1244_raw hv1245_raw hv1082 hv1083 hv11 ?_)
  refine assoc (load Sts.t7 fun v1275 _ => ?_)
  refine assoc (st7 2 9 (by decide) (by decide) rfl (offOut k0_t2 2 9) (p := 1) rfl rfl rfl rfl hv1244_raw hv1245_raw ?_)
  refine assoc (load Sts.t6 fun v1283 _ => ?_)
  refine assoc (st6 2 9 (by decide) (by decide) rfl (offOut k0_t2 2 9) (p := 1) rfl rfl rfl rfl rfl rfl hv1244_raw hv1245_raw hv1082 hv1083 hv12 ?_)
  refine assoc (ldN (by decide +kernel) fun v1288 hv1288 => ?_)
  refine assoc (ldN (by decide +kernel) fun v1289 hv1289 => ?_)
  refine assoc (ldR (by decide +kernel) fun v1290_raw hv1290_raw => ?_)
  refine assoc (ldR (by decide +kernel) fun v1291_raw hv1291_raw => ?_)
  exact ret (hk _ _ hv1288 _ hv1289 _ hv1290_raw _ hv1291_raw)

theorem part58 (hX : ∀ s, xid X s < 7936) (v3 : Vec F S8x128 .f32) (hv3 : ∀ x, v3 x = t10 (8 * 0 + (x 0).val) (x 1).val) (v4 : Vec F S8x128 .f32) (hv4 : ∀ x, v4 x = t10 (8 * 1 + (x 0).val) (x 1).val) (k0_t2 : Fin k0_t2_loop.trips) (v1287 : BitVec 32) (v1288 : Vec F S8x128 .f32) (hv1288 : ∀ x, v1288 x = t12 X t9 k0_t2.val (48 + (x 0).val) (x 1).val) (v1289 : Vec F S8x128 .f32) (hv1289 : ∀ x, v1289 x = t12 X t9 k0_t2.val (56 + (x 0).val) (x 1).val) (v1290_raw : Vec F S8x2x128 .bf16) (hv1290_raw : ∀ x, v1290_raw x = t11 X t8 k0_t2.val (240 + (x 0).val) (x 1).val (x 2).val) (v1291_raw : Vec F S8x2x128 .bf16) (hv1291_raw : ∀ x, v1291_raw x = t11 X t8 k0_t2.val (280 + (x 0).val) (x 1).val (x 2).val)
    {K : (Σ' (v1330_lo : FVec F S8x128 .bf16) (v1330_hi : FVec F S8x128 .bf16) (v1331_lo : FVec F S8x128 .bf16) (v1331_hi : FVec F S8x128 .bf16), BitVec 32) → Prog (TpuEff nD τ sig (Elt F) Λ₀ .tc) β}
    (hk : ∀ (v1330_raw : Vec F S8x2x128 .bf16) (hv1330_raw : ∀ x, v1330_raw x = t11 X t8 k0_t2.val (248 + (x 0).val) (x 1).val (x 2).val) (v1331_raw : Vec F S8x2x128 .bf16) (hv1331_raw : ∀ x, v1331_raw x = t11 X t8 k0_t2.val (288 + (x 0).val) (x 1).val (x 2).val) (c16_i32_645 : BitVec 32), SV c arg1 arg6 arg7 arg8 arg9 arg10 arg11 arg12 X t8 t9 t10 k0_t2.val 32 32 32 32 R ⊢ wp frame (wpE defs₀ 𝒱 (c : Thread nD τ) bd) E (K ⟨k0_pay361 v1330_raw, k0_pay362 v1330_raw, k0_pay363 v1331_raw, k0_pay364 v1331_raw, c16_i32_645⟩) Q) :
    SV c arg1 arg6 arg7 arg8 arg9 arg10 arg11 arg12 X t8 t9 t10 k0_t2.val 32 32 30 30 R ⊢ wp frame (wpE defs₀ 𝒱 (c : Thread nD τ) bd) E (k0_part58 (F := F) i arg1 harg1 arg2 harg2 arg3 harg3 arg4 harg4 arg5 harg5 arg6 harg6 arg7 harg7 arg8 harg8 arg9 harg9 arg10 harg10 arg11 harg11 arg12 harg12 arg13 harg13 arg14 v3 v4 k0_t2 v1287 v1288 v1289 (k0_pay350 v1290_raw) (k0_pay351 v1291_raw) (k0_pay352 v1291_raw) (k0_pay353 v1290_raw) >>= K) Q := by
  rw [k0_part58_eq_skeleton]
  unfold k0_part58_skel
  refine assoc (load Sts.t7 fun v1302 _ => ?_)
  refine assoc (st7 3 0 (by decide) (by decide) rfl (offOut k0_t2 3 0) (p := 0) rfl rfl rfl rfl hv1290_raw hv1291_raw ?_)
  refine assoc (load Sts.t6 fun v1310 _ => ?_)
  refine assoc (st6 3 0 (by decide) (by decide) rfl (offOut k0_t2 3 0) (p := 0) rfl rfl rfl rfl rfl rfl hv1290_raw hv1291_raw hv1288 hv1289 hv3 ?_)
  refine assoc (load Sts.t7 fun v1321 _ => ?_)
  refine assoc (st7 3 1 (by decide) (by decide) rfl (offOut k0_t2 3 1) (p := 1) rfl rfl rfl rfl hv1290_raw hv1291_raw ?_)
  refine assoc (load Sts.t6 fun v1329 _ => ?_)
  refine assoc (st6 3 1 (by decide) (by decide) rfl (offOut k0_t2 3 1) (p := 1) rfl rfl rfl rfl rfl rfl hv1290_raw hv1291_raw hv1288 hv1289 hv4 ?_)
  refine assoc (ldR (by decide +kernel) fun v1330_raw hv1330_raw => ?_)
  refine assoc (ldR (by decide +kernel) fun v1331_raw hv1331_raw => ?_)
  exact ret (hk _ hv1330_raw _ hv1331_raw _)

theorem part59 (hX : ∀ s, xid X s < 7936) (v5 : Vec F S8x128 .f32) (hv5 : ∀ x, v5 x = t10 (8 * 2 + (x 0).val) (x 1).val) (v6 : Vec F S8x128 .f32) (hv6 : ∀ x, v6 x = t10 (8 * 3 + (x 0).val) (x 1).val) (k0_t2 : Fin k0_t2_loop.trips) (v1287 : BitVec 32) (v1288 : Vec F S8x128 .f32) (hv1288 : ∀ x, v1288 x = t12 X t9 k0_t2.val (48 + (x 0).val) (x 1).val) (v1289 : Vec F S8x128 .f32) (hv1289 : ∀ x, v1289 x = t12 X t9 k0_t2.val (56 + (x 0).val) (x 1).val) (v1330_raw : Vec F S8x2x128 .bf16) (hv1330_raw : ∀ x, v1330_raw x = t11 X t8 k0_t2.val (248 + (x 0).val) (x 1).val (x 2).val) (v1331_raw : Vec F S8x2x128 .bf16) (hv1331_raw : ∀ x, v1331_raw x = t11 X t8 k0_t2.val (288 + (x 0).val) (x 1).val (x 2).val) (c16_i32_645 : BitVec 32)
    {K : (Σ' (v1370_lo : FVec F S8x128 .bf16) (v1370_hi : FVec F S8x128 .bf16) (v1371_raw : Vec F S8x2x128 .bf16), FVec F S8x128 .bf16) → Prog (TpuEff nD τ sig (Elt F) Λ₀ .tc) β}
    (hk : ∀ (v1370_raw : Vec F S8x2x128 .bf16) (hv1370_raw : ∀ x, v1370_raw x = t11 X t8 k0_t2.val (256 + (x 0).val) (x 1).val (x 2).val) (v1371_raw : Vec F S8x2x128 .bf16) (hv1371_raw : ∀ x, v1371_raw x = t11 X t8 k0_t2.val (296 + (x 0).val) (x 1).val (x 2).val), SV c arg1 arg6 arg7 arg8 arg9 arg10 arg11 arg12 X t8 t9 t10 k0_t2.val 32 32 34 34 R ⊢ wp frame (wpE defs₀ 𝒱 (c : Thread nD τ) bd) E (K ⟨k0_pay373 v1370_raw, k0_pay374 v1370_raw, v1371_raw, k0_pay375 v1371_raw⟩) Q) :
    SV c arg1 arg6 arg7 arg8 arg9 arg10 arg11 arg12 X t8 t9 t10 k0_t2.val 32 32 32 32 R ⊢ wp frame (wpE defs₀ 𝒱 (c : Thread nD τ) bd) E (k0_part59 (F := F) i arg1 harg1 arg2 harg2 arg3 harg3 arg4 harg4 arg5 harg5 arg6 harg6 arg7 harg7 arg8 harg8 arg9 harg9 arg10 harg10 arg11 harg11 arg12 harg12 arg13 harg13 arg14 v5 v6 k0_t2 v1287 v1288 v1289 (k0_pay361 v1330_raw) (k0_pay362 v1330_raw) (k0_pay363 v1331_raw) (k0_pay364 v1331_raw) c16_i32_645 >>= K) Q := by
  rw [k0_part59_eq_skeleton]
  unfold k0_part59_skel
  refine assoc (load Sts.t7 fun v1342 _ => ?_)
  refine assoc (st7 3 2 (by decide) (by decide) rfl (offOut k0_t2 3 2) (p := 0) rfl rfl rfl rfl hv1330_raw hv1331_raw ?_)
  refine assoc (load Sts.t6 fun v1350 _ => ?_)
  refine assoc (st6 3 2 (by decide) (by decide) rfl (offOut k0_t2 3 2) (p := 0) rfl rfl rfl rfl rfl rfl hv1330_raw hv1331_raw hv1288 hv1289 hv5 ?_)
  refine assoc (load Sts.t7 fun v1361 _ => ?_)
  refine assoc (st7 3 3 (by decide) (by decide) rfl (offOut k0_t2 3 3) (p := 1) rfl rfl rfl rfl hv1330_raw hv1331_raw ?_)
  refine assoc (load Sts.t6 fun v1369 _ => ?_)
  refine assoc (st6 3 3 (by decide) (by decide) rfl (offOut k0_t2 3 3) (p := 1) rfl rfl rfl rfl rfl rfl hv1330_raw hv1331_raw hv1288 hv1289 hv6 ?_)
  refine assoc (ldR (by decide +kernel) fun v1370_raw hv1370_raw => ?_)
  refine assoc (ldR (by decide +kernel) fun v1371_raw hv1371_raw => ?_)
  exact ret (hk _ hv1370_raw _ hv1371_raw)

theorem part60 (hX : ∀ s, xid X s < 7936) (v7 : Vec F S8x128 .f32) (hv7 : ∀ x, v7 x = t10 (8 * 4 + (x 0).val) (x 1).val) (v8 : Vec F S8x128 .f32) (hv8 : ∀ x, v8 x = t10 (8 * 5 + (x 0).val) (x 1).val) (k0_t2 : Fin k0_t2_loop.trips) (v1287 : BitVec 32) (v1288 : Vec F S8x128 .f32) (hv1288 : ∀ x, v1288 x = t12 X t9 k0_t2.val (48 + (x 0).val) (x 1).val) (v1289 : Vec F S8x128 .f32) (hv1289 : ∀ x, v1289 x = t12 X t9 k0_t2.val (56 + (x 0).val) (x 1).val) (v1370_raw : Vec F S8x2x128 .bf16) (hv1370_raw : ∀ x, v1370_raw x = t11 X t8 k0_t2.val (256 + (x 0).val) (x 1).val (x 2).val) (v1371_raw : Vec F S8x2x128 .bf16) (hv1371_raw : ∀ x, v1371_raw x = t11 X t8 k0_t2.val (296 + (x 0).val) (x 1).val (x 2).val)
    {K : (Σ' (v1410_lo : FVec F S8x128 .bf16), FVec F S8x128 .bf16) → Prog (TpuEff nD τ sig (Elt F) Λ₀ .tc) β}
    (hk : ∀ (v1410_raw : Vec F S8x2x128 .bf16) (hv1410_raw : ∀ x, v1410_raw x = t11 X t8 k0_t2.val (264 + (x 0).val) (x 1).val (x 2).val), SV c arg1 arg6 arg7 arg8 arg9 arg10 arg11 arg12 X t8 t9 t10 k0_t2.val 32 32 36 36 R ⊢ wp frame (wpE defs₀ 𝒱 (c : Thread nD τ) bd) E (K ⟨k0_pay384 v1410_raw, k0_pay385 v1410_raw⟩) Q) :
    SV c arg1 arg6 arg7 arg8 arg9 arg10 arg11 arg12 X t8 t9 t10 k0_t2.val 32 32 34 34 R ⊢ wp frame (wpE defs₀ 𝒱 (c : Thread nD τ) bd) E (k0_part60 (F := F) i arg1 harg1 arg2 harg2 arg3 harg3 arg4 harg4 arg5 harg5 arg6 harg6 arg7 harg7 arg8 harg8 arg9 harg9 arg10 harg10 arg11 harg11 arg12 harg12 arg13 harg13 arg14 v7 v8 k0_t2 v1287 v1288 v1289 (k0_pay373 v1370_raw) (k0_pay374 v1370_raw) v1371_raw (k0_pay375 v1371_raw) >>= K) Q := by
  rw [k0_part60_eq_skeleton]
  unfold k0_part60_skel
  refine assoc (load Sts.t7 fun v1382 _ => ?_)
  refine assoc (st7 3 4 (by decide) (by decide) rfl (offOut k0_t2 3 4) (p := 0) rfl rfl rfl rfl hv1370_raw hv1371_raw ?_)
  refine assoc (load Sts.t6 fun v1390 _ => ?_)
  refine assoc (st6 3 4 (by decide) (by decide) rfl (offOut k0_t2 3 4) (p := 0) rfl rfl rfl rfl rfl rfl hv1370_raw hv1371_raw hv1288 hv1289 hv7 ?_)
  refine assoc (load Sts.t7 fun v1401 _ => ?_)
  refine assoc (st7 3 5 (by decide) (by decide) rfl (offOut k0_t2 3 5) (p := 1) rfl rfl rfl rfl hv1370_raw hv1371_raw ?_)
  refine assoc (load Sts.t6 fun v1409 _ => ?_)
  refine assoc (st6 3 5 (by decide) (by decide) rfl (offOut k0_t2 3 5) (p := 1) rfl rfl rfl rfl rfl rfl hv1370_raw hv1371_raw hv1288 hv1289 hv8 ?_)
  refine assoc (ldR (by decide +kernel) fun v1410_raw hv1410_raw => ?_)
  exact ret (hk _ hv1410_raw)

theorem part61 (hX : ∀ s, xid X s < 7936) (v9 : Vec F S8x128 .f32) (hv9 : ∀ x, v9 x = t10 (8 * 6 + (x 0).val) (x 1).val) (v10 : Vec F S8x128 .f32) (hv10 : ∀ x, v10 x = t10 (8 * 7 + (x 0).val) (x 1).val) (k0_t2 : Fin k0_t2_loop.trips) (v1287 : BitVec 32) (v1288 : Vec F S8x128 .f32) (hv1288 : ∀ x, v1288 x = t12 X t9 k0_t2.val (48 + (x 0).val) (x 1).val) (v1289 : Vec F S8x128 .f32) (hv1289 : ∀ x, v1289 x = t12 X t9 k0_t2.val (56 + (x 0).val) (x 1).val) (v1410_raw : Vec F S8x2x128 .bf16) (hv1410_raw : ∀ x, v1410_raw x = t11 X t8 k0_t2.val (264 + (x 0).val) (x 1).val (x 2).val)
    {K : (Σ' (v1450_lo : FVec F S8x128 .bf16), FVec F S8x128 .bf16) → Prog (TpuEff nD τ sig (Elt F) Λ₀ .tc) β}
    (hk : ∀ (v1450_raw : Vec F S8x2x128 .bf16) (hv1450_raw : ∀ x, v1450_raw x = t11 X t8 k0_t2.val (272 + (x 0).val) (x 1).val (x 2).val), SV c arg1 arg6 arg7 arg8 arg9 arg10 arg11 arg12 X t8 t9 t10 k0_t2.val 32 32 38 38 R ⊢ wp frame (wpE defs₀ 𝒱 (c : Thread nD τ) bd) E (K ⟨k0_pay394 v1450_raw, k0_pay395 v1450_raw⟩) Q) :
    SV c arg1 arg6 arg7 arg8 arg9 arg10 arg11 arg12 X t8 t9 t10 k0_t2.val 32 32 36 36 R ⊢ wp frame (wpE defs₀ 𝒱 (c : Thread nD τ) bd) E (k0_part61 (F := F) i arg1 harg1 arg2 harg2 arg3 harg3 arg4 harg4 arg5 harg5 arg6 harg6 arg7 harg7 arg8 harg8 arg9 harg9 arg10 harg10 arg11 harg11 arg12 harg12 arg13 harg13 arg14 v9 v10 k0_t2 v1287 v1288 v1289 (k0_pay384 v1410_raw) (k0_pay385 v1410_raw) >>= K) Q := by
  rw [k0_part61_eq_skeleton]
  unfold k0_part61_skel
  refine assoc (ldR (by decide +kernel) fun v1411_raw hv1411_raw => ?_)
  refine assoc (load Sts.t7 fun v1422 _ => ?_)
  refine assoc (st7 3 6 (by decide) (by decide) rfl (offOut k0_t2 3 6) (p := 0) rfl rfl rfl rfl hv1410_raw hv1411_raw ?_)
  refine assoc (load Sts.t6 fun v1430 _ => ?_)
  refine assoc (st6 3 6 (by decide) (by decide) rfl (offOut k0_t2 3 6) (p := 0) rfl rfl rfl rfl rfl rfl hv1410_raw hv1411_raw hv1288 hv1289 hv9 ?_)
  refine assoc (load Sts.t7 fun v1441 _ => ?_)
  refine assoc (st7 3 7 (by decide) (by decide) rfl (offOut k0_t2 3 7) (p := 1) rfl rfl rfl rfl hv1410_raw hv1411_raw ?_)
  refine assoc (load Sts.t6 fun v1449 _ => ?_)
  refine assoc (st6 3 7 (by decide) (by decide) rfl (offOut k0_t2 3 7) (p := 1) rfl rfl rfl rfl rfl rfl hv1410_raw hv1411_raw hv1288 hv1289 hv10 ?_)
  refine assoc (ldR (by decide +kernel) fun v1450_raw hv1450_raw => ?_)
  exact ret (hk _ hv1450_raw)

end Cert.Proof.EmitParts

end
-- ==== Proof.EmitTrip.lean ====
/- A whole trip of KernelIdeal's emission loop. -/
module

public import proofs.«01_k».proof.Proof.EmitParts4

@[expose] public section

set_option maxRecDepth 16384

noncomputable section

namespace Cert.Proof.EmitParts

open Cert.KernelIdeal Cert.KernelIdeal.Gen Cert.Proof.Hoare Cert.Proof.Target Cert.Proof.EmitRules
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

variable {𝒱 : Variants} {c : Dev nD} {bd : Option 𝒱.V} {E : Set ℕ} {β : Type}
  {Q : β → sProp (MT nD τ sig Unit (Elt F) ℕ (Pipeline.UD sig nD τ) ℕ)} {X : S1x1x256.Idx → Elt F .i32}
  {R : sProp (MT nD τ sig Unit (Elt F) ℕ (Pipeline.UD sig nD τ) ℕ)} {t8 : ℕ → ℕ → ℕ → F .bf16} {t9 t10 : ℕ → ℕ → F .f32}
variable (i : grid0.Coords) (arg1 : Memref sig .tc .smem S1x1x256 .i32) (harg1 : arg1.IsWhole) (arg2 : Memref sig .tc .hbm S7936x2560 .i8) (harg2 : arg2.IsWhole) (arg3 : Memref sig .tc .vmem S62x128 .f32) (harg3 : arg3.IsWhole) (arg4 : Memref sig .tc .vmem S62x128 .f32) (harg4 : arg4.IsWhole) (arg5 : Memref sig .tc .vmem S1x2560 .bf16) (harg5 : arg5.IsWhole) (arg6 : Memref sig .tc .vmem S5120x128 .bf16) (harg6 : arg6.IsWhole) (arg7 : Memref sig .tc .vmem S5120x128 .bf16) (harg7 : arg7.IsWhole) (arg8 : Memref sig .tc .vmem S79360x2x128 .bf16) (harg8 : arg8.IsWhole) (arg9 : Memref sig .tc .vmem S15872x128 .f32) (harg9 : arg9.IsWhole) (arg10 : Memref sig .tc .vmem S80x128 .f32) (harg10 : arg10.IsWhole) (arg11 : Memref sig .tc .vmem S320x2x128 .bf16) (harg11 : arg11.IsWhole) (arg12 : Memref sig .tc .vmem S64x128 .f32) (harg12 : arg12.IsWhole) (arg13 : Memref sig .tc .vmem S8x128x2560 .i8) (harg13 : arg13.IsWhole) (arg14 : DmaSems sig S8)

theorem part62 (hX : ∀ s, xid X s < 7936) (v3 : Vec F S8x128 .f32) (hv3 : ∀ x, v3 x = t10 (8 * 0 + (x 0).val) (x 1).val) (v4 : Vec F S8x128 .f32) (hv4 : ∀ x, v4 x = t10 (8 * 1 + (x 0).val) (x 1).val) (v5 : Vec F S8x128 .f32) (hv5 : ∀ x, v5 x = t10 (8 * 2 + (x 0).val) (x 1).val) (v6 : Vec F S8x128 .f32) (hv6 : ∀ x, v6 x = t10 (8 * 3 + (x 0).val) (x 1).val) (v7 : Vec F S8x128 .f32) (hv7 : ∀ x, v7 x = t10 (8 * 4 + (x 0).val) (x 1).val) (v8 : Vec F S8x128 .f32) (hv8 : ∀ x, v8 x = t10 (8 * 5 + (x 0).val) (x 1).val) (v9 : Vec F S8x128 .f32) (hv9 : ∀ x, v9 x = t10 (8 * 6 + (x 0).val) (x 1).val) (v10 : Vec F S8x128 .f32) (hv10 : ∀ x, v10 x = t10 (8 * 7 + (x 0).val) (x 1).val) (v11 : Vec F S8x128 .f32) (hv11 : ∀ x, v11 x = t10 (8 * 8 + (x 0).val) (x 1).val) (v12 : Vec F S8x128 .f32) (hv12 : ∀ x, v12 x = t10 (8 * 9 + (x 0).val) (x 1).val) (c0_i32_11 : BitVec 32) (c1_i32 : BitVec 32) (k0_t2 : Fin k0_t2_loop.trips)
    {K : (Σ' (v1287 : BitVec 32) (v1288 : Vec F S8x128 .f32) (v1289 : Vec F S8x128 .f32) (v1450_hi : FVec F S8x128 .bf16) (v1451_hi : FVec F S8x128 .bf16) (v1454 : FVec F S8x128 .f32) (v1457 : FVec F S8x128 .f32) (v1458 : BitVec 32) (v1459_lo : FVec F S8x128 .bf16), FVec F S8x128 .bf16) → Prog (TpuEff nD τ sig (Elt F) Λ₀ .tc) β}
    (hk : ∀ (v1287 : BitVec 32) (v1288 : Vec F S8x128 .f32) (hv1288 : ∀ x, v1288 x = t12 X t9 k0_t2.val (48 + (x 0).val) (x 1).val) (v1289 : Vec F S8x128 .f32) (hv1289 : ∀ x, v1289 x = t12 X t9 k0_t2.val (56 + (x 0).val) (x 1).val) (v1450_raw : Vec F S8x2x128 .bf16) (hv1450_raw : ∀ x, v1450_raw x = t11 X t8 k0_t2.val (272 + (x 0).val) (x 1).val (x 2).val) (v1451_raw : Vec F S8x2x128 .bf16) (hv1451_raw : ∀ x, v1451_raw x = t11 X t8 k0_t2.val (312 + (x 0).val) (x 1).val (x 2).val) (v1458 : BitVec 32), SV c arg1 arg6 arg7 arg8 arg9 arg10 arg11 arg12 X t8 t9 t10 k0_t2.val 32 32 38 38 R ⊢ wp frame (wpE defs₀ 𝒱 (c : Thread nD τ) bd) E (K ⟨v1287, v1288, v1289, (k0_pay395 v1450_raw), k0_pay396 v1451_raw, k0_pay397 (k0_pay394 v1450_raw), k0_pay398 v1451_raw, v1458, k0_pay399 (k0_pay394 v1450_raw), k0_pay400 v1451_raw⟩) Q) :
    SV c arg1 arg6 arg7 arg8 arg9 arg10 arg11 arg12 X t8 t9 t10 k0_t2.val 0 0 0 0 R ⊢ wp frame (wpE defs₀ 𝒱 (c : Thread nD τ) bd) E (k0_part62 (F := F) i arg1 harg1 arg2 harg2 arg3 harg3 arg4 harg4 arg5 harg5 arg6 harg6 arg7 harg7 arg8 harg8 arg9 harg9 arg10 harg10 arg11 harg11 arg12 harg12 arg13 harg13 arg14 v3 v4 v5 v6 v7 v8 v9 v10 v11 v12 c0_i32_11 c1_i32 k0_t2 >>= K) Q := by
  rw [k0_part62_eq_skeleton]
  unfold k0_part62_skel
  refine assoc (part17 _ _ _ _ _ _ _ _ _ _ _ _ _ _ _ _ _ _ _ _ _ _ _ _ _ _ _ _ hX _ _ _ fun arg15 v16 v39 hv39 lv39 k0_hw3 c10_i32_30 => ?_)
  refine assoc (part18 _ _ _ _ _ _ _ _ _ _ _ _ _ _ _ _ _ _ _ _ _ _ _ _ _ _ _ _ hX _ _ _ hv39 lv39 _ _ fun v63_raw hv63_raw => ?_)
  refine assoc (part19 _ _ _ _ _ _ _ _ _ _ _ _ _ _ _ _ _ _ _ _ _ _ _ _ _ _ _ _ hX _ _ _ hv63_raw fun v89 hv89 lv89 k0_hw8 => ?_)
  refine assoc (part20 _ _ _ _ _ _ _ _ _ _ _ _ _ _ _ _ _ _ _ _ _ _ _ _ _ _ _ _ hX _ _ _ hv89 lv89 _ fun v119 hv119 lv119 k0_hw11 c10_i32_80 => ?_)
  refine assoc (part21 _ _ _ _ _ _ _ _ _ _ _ _ _ _ _ _ _ _ _ _ _ _ _ _ _ _ _ _ hX _ _ _ hv119 lv119 _ _ fun v143_raw hv143_raw => ?_)
  refine assoc (part22 _ _ _ _ _ _ _ _ _ _ _ _ _ _ _ _ _ _ _ _ _ _ _ _ _ _ _ _ hX _ _ _ hv143_raw fun v169 hv169 lv169 k0_hw16 => ?_)
  refine assoc (part23 _ _ _ _ _ _ _ _ _ _ _ _ _ _ _ _ _ _ _ _ _ _ _ _ _ _ _ _ hX _ _ _ hv169 lv169 _ fun v179 v200 => ?_)
  refine assoc (part24 _ _ _ _ _ _ _ _ _ _ _ _ _ _ _ _ _ _ _ _ _ _ _ _ _ _ _ _ hX _ _ _ fun v226_raw hv226_raw => ?_)
  refine assoc (part25 _ _ _ _ _ _ _ _ _ _ _ _ _ _ _ _ _ _ _ _ _ _ _ _ _ _ _ _ hX _ _ _ hv226_raw fun v252 hv252 lv252 => ?_)
  refine assoc (part26 _ _ _ _ _ _ _ _ _ _ _ _ _ _ _ _ _ _ _ _ _ _ _ _ _ _ _ _ hX _ _ _ hv252 lv252 fun v280 => ?_)
  refine assoc (part27 _ _ _ _ _ _ _ _ _ _ _ _ _ _ _ _ _ _ _ _ _ _ _ _ _ _ _ _ hX _ _ _ fun v306_raw hv306_raw => ?_)
  refine assoc (part28 _ _ _ _ _ _ _ _ _ _ _ _ _ _ _ _ _ _ _ _ _ _ _ _ _ _ _ _ hX _ _ _ hv306_raw fun v332 hv332 lv332 => ?_)
  refine assoc (part29 _ _ _ _ _ _ _ _ _ _ _ _ _ _ _ _ _ _ _ _ _ _ _ _ _ _ _ _ hX _ _ _ hv332 lv332 fun v342 v359 hv359 => ?_)
  refine assoc (part30 _ _ _ _ _ _ _ _ _ _ _ _ _ _ _ _ _ _ _ _ _ _ _ _ _ _ _ _ hX _ _ _ hv359 fun v385 hv385 lv385 k0_hw37 => ?_)
  refine assoc (part31 _ _ _ _ _ _ _ _ _ _ _ _ _ _ _ _ _ _ _ _ _ _ _ _ _ _ _ _ hX _ _ _ hv385 lv385 _ ?_)
  refine assoc (part32 _ _ _ _ _ _ _ _ _ _ _ _ _ _ _ _ _ _ _ _ _ _ _ _ _ _ _ _ hX _ _ fun v439 hv439 => ?_)
  refine assoc (part33 _ _ _ _ _ _ _ _ _ _ _ _ _ _ _ _ _ _ _ _ _ _ _ _ _ _ _ _ hX _ _ _ hv439 fun v465 hv465 lv465 k0_hw45 => ?_)
  refine assoc (part34 _ _ _ _ _ _ _ _ _ _ _ _ _ _ _ _ _ _ _ _ _ _ _ _ _ _ _ _ hX _ _ _ hv465 lv465 _ ?_)
  refine assoc (part35 _ _ _ _ _ _ _ _ _ _ _ _ _ _ _ _ _ _ _ _ _ _ _ _ _ _ _ _ hX _ _ _ fun v505 v518 hv518 lv518 k0_hw50 v519 => ?_)
  refine assoc (part36 _ _ _ _ _ _ _ _ _ _ _ _ _ _ _ _ _ _ _ _ _ _ _ _ _ _ _ _ hX _ _ _ hv518 lv518 _ _ ?_)
  refine assoc (part37 _ _ _ _ _ _ _ _ _ _ _ _ _ _ _ _ _ _ _ _ _ _ _ _ _ _ _ _ hX _ _ fun v572_raw hv572_raw v573_raw => ?_)
  refine assoc (part38 _ _ _ _ _ _ _ _ _ _ _ _ _ _ _ _ _ _ _ _ _ _ _ _ _ _ _ _ hX _ _ _ hv572_raw _ fun v598 hv598 lv598 k0_hw58 v599 => ?_)
  refine assoc (part39 _ _ _ _ _ _ _ _ _ _ _ _ _ _ _ _ _ _ _ _ _ _ _ _ _ _ _ _ hX _ _ _ hv598 lv598 _ _ ?_)
  refine assoc (part40 _ _ _ _ _ _ _ _ _ _ _ _ _ _ _ _ _ _ _ _ _ _ _ _ _ _ _ _ hX _ _ fun v652_raw hv652_raw v653_raw => ?_)
  refine assoc (part41 _ _ _ _ _ _ _ _ _ _ _ _ _ _ _ _ _ _ _ _ _ _ _ _ _ _ _ _ hX _ _ _ _ hv652_raw _ fun v669 v670 hv670 v671 hv671 v672_raw hv672_raw v673_raw hv673_raw v680 => ?_)
  refine assoc (part42 _ _ _ _ _ _ _ _ _ _ _ _ _ _ _ _ _ _ _ _ _ _ _ _ _ _ _ _ hX _ hv3 _ hv4 _ _ _ hv670 _ hv671 _ hv672_raw _ hv673_raw _ fun v712_raw hv712_raw v713_raw hv713_raw v720 => ?_)
  refine assoc (part43 _ _ _ _ _ _ _ _ _ _ _ _ _ _ _ _ _ _ _ _ _ _ _ _ _ _ _ _ hX _ hv5 _ hv6 _ _ _ hv670 _ hv671 _ hv712_raw _ hv713_raw _ fun v752_raw hv752_raw v753_raw hv753_raw v760 => ?_)
  refine assoc (part44 _ _ _ _ _ _ _ _ _ _ _ _ _ _ _ _ _ _ _ _ _ _ _ _ _ _ _ _ hX _ hv7 _ hv8 _ _ _ hv670 _ hv671 _ hv752_raw _ hv753_raw _ fun v792_raw hv792_raw v793_raw hv793_raw => ?_)
  refine assoc (part45 _ _ _ _ _ _ _ _ _ _ _ _ _ _ _ _ _ _ _ _ _ _ _ _ _ _ _ _ hX _ hv9 _ hv10 _ _ _ hv670 _ hv671 _ hv792_raw _ hv793_raw fun v832_raw hv832_raw v833_raw hv833_raw c16_i32_477 => ?_)
  refine assoc (part46 _ _ _ _ _ _ _ _ _ _ _ _ _ _ _ _ _ _ _ _ _ _ _ _ _ _ _ _ hX _ hv11 _ hv12 _ _ _ _ hv670 _ hv671 _ hv832_raw _ hv833_raw _ fun v875 v876 hv876 => ?_)
  refine assoc (part47 _ _ _ _ _ _ _ _ _ _ _ _ _ _ _ _ _ _ _ _ _ _ _ _ _ _ _ _ hX _ hv3 _ hv4 _ _ _ hv876 fun v877 hv877 v878_raw hv878_raw v879_raw hv879_raw => ?_)
  refine assoc (part48 _ _ _ _ _ _ _ _ _ _ _ _ _ _ _ _ _ _ _ _ _ _ _ _ _ _ _ _ hX _ hv5 _ hv6 _ _ _ hv876 _ hv877 _ hv4 _ hv878_raw _ hv879_raw fun v945 v918_raw hv918_raw v919_raw hv919_raw => ?_)
  refine assoc (part49 _ _ _ _ _ _ _ _ _ _ _ _ _ _ _ _ _ _ _ _ _ _ _ _ _ _ _ _ hX _ hv7 _ hv8 _ _ _ hv876 _ hv877 _ _ hv6 _ hv918_raw _ hv919_raw fun v985 v958_raw hv958_raw v959_raw hv959_raw => ?_)
  refine assoc (part50 _ _ _ _ _ _ _ _ _ _ _ _ _ _ _ _ _ _ _ _ _ _ _ _ _ _ _ _ hX _ hv9 _ hv10 _ _ _ hv876 _ hv877 _ _ hv8 _ hv958_raw _ hv959_raw fun v999_raw hv999_raw v1025 v998_raw hv998_raw => ?_)
  refine assoc (part51 _ _ _ _ _ _ _ _ _ _ _ _ _ _ _ _ _ _ _ _ _ _ _ _ _ _ _ _ hX _ hv10 _ hv11 _ _ _ hv876 _ hv877 _ hv999_raw _ _ hv998_raw fun v1038_raw hv1038_raw v1039_raw hv1039_raw v1065 => ?_)
  refine assoc (part52 _ _ _ _ _ _ _ _ _ _ _ _ _ _ _ _ _ _ _ _ _ _ _ _ _ _ _ _ hX _ hv3 _ hv12 _ _ _ hv876 _ hv877 _ hv1038_raw _ hv1039_raw _ fun v1081 v1082 hv1082 v1083 hv1083 v1084_raw hv1084_raw v1085_raw hv1085_raw => ?_)
  refine assoc (part53 _ _ _ _ _ _ _ _ _ _ _ _ _ _ _ _ _ _ _ _ _ _ _ _ _ _ _ _ hX _ hv4 _ hv5 _ _ _ hv1082 _ hv1083 _ hv1084_raw _ hv1085_raw fun v1124_raw hv1124_raw v1125_raw hv1125_raw => ?_)
  refine assoc (part54 _ _ _ _ _ _ _ _ _ _ _ _ _ _ _ _ _ _ _ _ _ _ _ _ _ _ _ _ hX _ hv6 _ hv7 _ _ _ hv1082 _ hv1083 _ hv1124_raw _ hv1125_raw _ hv5 fun v1164_raw hv1164_raw v1165_raw hv1165_raw v1172 => ?_)
  refine assoc (part55 _ _ _ _ _ _ _ _ _ _ _ _ _ _ _ _ _ _ _ _ _ _ _ _ _ _ _ _ hX _ hv8 _ hv9 _ _ _ hv1082 _ hv1083 _ hv1164_raw _ hv1165_raw _ _ hv7 fun v1204_raw hv1204_raw v1205_raw hv1205_raw v1212 => ?_)
  refine assoc (part56 _ _ _ _ _ _ _ _ _ _ _ _ _ _ _ _ _ _ _ _ _ _ _ _ _ _ _ _ hX _ hv10 _ hv11 _ _ _ hv1082 _ hv1083 _ hv1204_raw _ hv1205_raw _ _ hv9 fun v1244_raw hv1244_raw v1245_raw hv1245_raw v1252 => ?_)
  refine assoc (part57 _ _ _ _ _ _ _ _ _ _ _ _ _ _ _ _ _ _ _ _ _ _ _ _ _ _ _ _ hX _ hv11 _ hv12 _ _ _ _ hv1082 _ hv1083 _ hv1244_raw _ hv1245_raw _ fun v1287 v1288 hv1288 v1289 hv1289 v1290_raw hv1290_raw v1291_raw hv1291_raw => ?_)
  refine assoc (part58 _ _ _ _ _ _ _ _ _ _ _ _ _ _ _ _ _ _ _ _ _ _ _ _ _ _ _ _ hX _ hv3 _ hv4 _ _ _ hv1288 _ hv1289 _ hv1290_raw _ hv1291_raw fun v1330_raw hv1330_raw v1331_raw hv1331_raw c16_i32_645 => ?_)
  refine assoc (part59 _ _ _ _ _ _ _ _ _ _ _ _ _ _ _ _ _ _ _ _ _ _ _ _ _ _ _ _ hX _ hv5 _ hv6 _ _ _ hv1288 _ hv1289 _ hv1330_raw _ hv1331_raw _ fun v1370_raw hv1370_raw v1371_raw hv1371_raw => ?_)
  refine assoc (part60 _ _ _ _ _ _ _ _ _ _ _ _ _ _ _ _ _ _ _ _ _ _ _ _ _ _ _ _ hX _ hv7 _ hv8 _ _ _ hv1288 _ hv1289 _ hv1370_raw _ hv1371_raw fun v1410_raw hv1410_raw => ?_)
  refine assoc (part61 _ _ _ _ _ _ _ _ _ _ _ _ _ _ _ _ _ _ _ _ _ _ _ _ _ _ _ _ hX _ hv9 _ hv10 _ _ _ hv1288 _ hv1289 _ hv1410_raw fun v1450_raw hv1450_raw => ?_)
  refine assoc (ldR (by decide +kernel) fun v1451_raw hv1451_raw => ?_)
  exact ret (hk _ _ hv1288 _ hv1289 _ hv1450_raw _ hv1451_raw _)

theorem trip (hX : ∀ s, xid X s < 7936) (v3 : Vec F S8x128 .f32) (hv3 : ∀ x, v3 x = t10 (8 * 0 + (x 0).val) (x 1).val) (v4 : Vec F S8x128 .f32) (hv4 : ∀ x, v4 x = t10 (8 * 1 + (x 0).val) (x 1).val) (v5 : Vec F S8x128 .f32) (hv5 : ∀ x, v5 x = t10 (8 * 2 + (x 0).val) (x 1).val) (v6 : Vec F S8x128 .f32) (hv6 : ∀ x, v6 x = t10 (8 * 3 + (x 0).val) (x 1).val) (v7 : Vec F S8x128 .f32) (hv7 : ∀ x, v7 x = t10 (8 * 4 + (x 0).val) (x 1).val) (v8 : Vec F S8x128 .f32) (hv8 : ∀ x, v8 x = t10 (8 * 5 + (x 0).val) (x 1).val) (v9 : Vec F S8x128 .f32) (hv9 : ∀ x, v9 x = t10 (8 * 6 + (x 0).val) (x 1).val) (v10 : Vec F S8x128 .f32) (hv10 : ∀ x, v10 x = t10 (8 * 7 + (x 0).val) (x 1).val) (v11 : Vec F S8x128 .f32) (hv11 : ∀ x, v11 x = t10 (8 * 8 + (x 0).val) (x 1).val) (v12 : Vec F S8x128 .f32) (hv12 : ∀ x, v12 x = t10 (8 * 9 + (x 0).val) (x 1).val) (k0_t2 : Fin k0_t2_loop.trips) {K : Unit → Prog (TpuEff nD τ sig (Elt F) Λ₀ .tc) β}
    (hk : SV c arg1 arg6 arg7 arg8 arg9 arg10 arg11 arg12 X t8 t9 t10 k0_t2.val 32 32 40 40 R ⊢ wp frame (wpE defs₀ 𝒱 (c : Thread nD τ) bd) E (K ⟨⟩) Q) :
    SV c arg1 arg6 arg7 arg8 arg9 arg10 arg11 arg12 X t8 t9 t10 k0_t2.val 0 0 0 0 R ⊢ wp frame (wpE defs₀ 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 arg13 harg13 arg14 v3 v4 v5 v6 v7 v8 v9 v10 v11 v12 k0_t2 ⟨⟩ >>= K) Q := by
  unfold k0_t2_body
  refine assoc (part62 _ _ _ _ _ _ _ _ _ _ _ _ _ _ _ _ _ _ _ _ _ _ _ _ _ _ _ _ hX _ hv3 _ hv4 _ hv5 _ hv6 _ hv7 _ hv8 _ hv9 _ hv10 _ hv11 _ hv12 _ _ k0_t2 fun v1287 v1288 hv1288 v1289 hv1289 v1450_raw hv1450_raw v1451_raw hv1451_raw v1458 => ?_)
  refine assoc (load Sts.t7 fun v1462 _ => ?_)
  refine assoc (st7 3 8 (by decide) (by decide) rfl (offOut k0_t2 3 8) (p := 0) rfl rfl rfl rfl hv1450_raw hv1451_raw ?_)
  refine assoc (load Sts.t6 fun v1470 _ => ?_)
  refine assoc (st6 3 8 (by decide) (by decide) rfl (offOut k0_t2 3 8) (p := 0) rfl rfl rfl rfl rfl rfl hv1450_raw hv1451_raw hv1288 hv1289 hv11 ?_)
  refine assoc (load Sts.t7 fun v1481 _ => ?_)
  refine assoc (st7 3 9 (by decide) (by decide) rfl (offOut k0_t2 3 9) (p := 1) rfl rfl rfl rfl hv1450_raw hv1451_raw ?_)
  refine assoc (load Sts.t6 fun v1489 _ => ?_)
  refine assoc (st6 3 9 (by decide) (by decide) rfl (offOut k0_t2 3 9) (p := 1) rfl rfl rfl rfl rfl rfl hv1450_raw hv1451_raw hv1288 hv1289 hv12 ?_)
  exact ret hk

end Cert.Proof.EmitParts

end
-- ==== Proof.BodyValue.lean ====
/- What the body of KernelIdeal leaves at a grid point: at the first point the table, the inverse norms and the gain are built, and at
   every point the two output blocks are written from them. -/
module

public import proofs.«01_k».proof.Proof.KernelIdealRing
public import proofs.«01_k».proof.Proof.BuildTrip
public import proofs.«01_k».proof.Proof.EmitTrip

@[expose] public section

set_option maxRecDepth 16384

noncomputable section

namespace Cert.Proof.BodyValue

open Cert.KernelIdeal Cert.KernelIdeal.Gen Cert.Proof.Hoare Cert.Proof.Target Cert.Proof.EmitRules Cert.Proof.BuildRules
open Cert.Proof.KernelIdealRing (lt62 off1_eq off2_eq off9_eq off10_eq off11_eq cond2_iff)
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

/-- The dequantised table: row, column. -/
def eTab (C : S7936x2560.Idx → Elt F .i8) (X3 X4 : S62x128.Idx → Elt F .f32) (r q : ℕ) : F .bf16 :=
  FloatOps.mulf (FloatOps.subf (FloatOps.sitofp .bf16 (C (ix2 (Fin.ofNat 7936 r) (Fin.ofNat 2560 q)))) (truncS (X4 (ix2 (Fin.ofNat 62 (r / 128)) (Fin.ofNat 128 r)))))
    (truncS (X3 (ix2 (Fin.ofNat 62 (r / 128)) (Fin.ofNat 128 r))))
/-- The weights along the columns. -/
def wRow (X5 : S1x2560.Idx → Elt F .bf16) (q : ℕ) : F .bf16 := X5 (ix2 0 (Fin.ofNat 2560 q))

theorem deq (C : S7936x2560.Idx → Elt F .i8) (X3 X4 : S62x128.Idx → Elt F .f32) (k : Fin k0_t1_loop.trips) (T : S128x2560.Idx → Elt F .i8)
    (hT : ∀ x : S128x2560.Idx, T x = C (ix2 (Fin.ofNat 7936 (128 * k.val + (x 0).val)) (x 1)))
    (v214 v221 : Vec F S1x128 .f32) (h3 : ∀ x : S1x128.Idx, v214 x = X3 (ix2 (k.cast trips1) (x 1))) (h4 : ∀ x : S1x128.Idx, v221 x = X4 (ix2 (k.cast trips1) (x 1))) :
    Deq T (k0_pay13 v214) (k0_pay14 v221) (eTab C X3 X4) k.val := by
  intro ct hct v hv
  funext x
  have hx0 : (x 0).val < 128 := (x 0).isLt
  have hx1 : (x 1).val < 128 := (x 1).isLt
  have hk := lt62 k
  have e1 : (Fin.ofNat 62 ((128 * k.val + (x 0).val) / 128) : Fin 62) = k.cast trips1 := Fin.ext (show (128 * k.val + (x 0).val) / 128 % 62 = k.val by omega)
  have e2 : (Fin.ofNat 128 (128 * k.val + (x 0).val) : Fin 128) = x 0 := Fin.ext (show (128 * k.val + (x 0).val) % 128 = (x 0).val by omega)
  unfold eT eTab
  rw [e1, e2]
  pointwise [k0_pay16, k0_pay15, k0_pay14, k0_pay13]
  rw [h3, h4, hv, hT]
  rw [show (Fin.ofNat 2560 (128 * ct + (x 1).val) : Fin 2560) = ⟨128 * ct + (x 1).val, by omega⟩ from Fin.ext (Nat.mod_eq_of_lt (by omega))]
  rfl

/-- A buffer known nowhere is a buffer owned. -/
theorem own_none {sp : Space} {s : Shape} {e : EltTy} (c : Dev nD) (m : Memref sig .tc sp s e) {P : s.Idx → Prop} {T : s.Idx → Elt F e} (h : ∀ y, ¬ P y) :
    (Own (c : Thread nD τ) m : sProp 𝕄) ⊢ Holds (c : Thread nD τ) m P T := by
  unfold Own Holds
  iintro ⟨%f, Hf⟩
  iexists f
  isplitl [Hf]; · iexact Hf
  ipureintro; exact fun y hy => absurd hy (h y)
theorem holds_own {sp : Space} {s : Shape} {e : EltTy} (c : Dev nD) (m : Memref sig .tc sp s e) {P : s.Idx → Prop} {T : s.Idx → Elt F e} :
    Holds (c : Thread nD τ) m P T ⊢ (Own (c : Thread nD τ) m : sProp 𝕄) := by
  unfold Own Holds
  iintro ⟨%f, Hf, -⟩
  iexists f
  iexact Hf
theorem Sts.mono {A1 A6 A7 A8 A9 A10 A11 A12 R B6 B7 B8 B9 B10 B11 B12 : sProp 𝕄} (h6 : A6 ⊢ B6) (h7 : A7 ⊢ B7) (h8 : A8 ⊢ B8) (h9 : A9 ⊢ B9) (h10 : A10 ⊢ B10) (h11 : A11 ⊢ B11) (h12 : A12 ⊢ B12) :
    Sts A1 A6 A7 A8 A9 A10 A11 A12 R ⊢ Sts A1 B6 B7 B8 B9 B10 B11 B12 R := by
  unfold Sts
  exact BIClass.sep_mono .rfl (BIClass.sep_mono h6 (BIClass.sep_mono h7 (BIClass.sep_mono h8 (BIClass.sep_mono h9 (BIClass.sep_mono h10 (BIClass.sep_mono h11 (BIClass.sep_mono h12 .rfl)))))))

variable {𝒱 : Variants} {c : Dev nD} {bd : Option 𝒱.V} {X : S1x1x256.Idx → Elt F .i32} {X3 X4 : S62x128.Idx → Elt F .f32} {X5 : S1x2560.Idx → Elt F .bf16}
variable {A1 A5 A6 A7 A8 A9 A10 A11 A12 O R : sProp (MT nD τ sig Unit (Elt F) ℕ (Pipeline.UD sig nD τ) ℕ)} {t8' : ℕ → ℕ → ℕ → F .bf16} {t9' t10' : ℕ → ℕ → F .f32}
variable (i : grid0.Coords) (arg1 : Memref sig .tc .smem S1x1x256 .i32) (harg1 : arg1.IsWhole) (arg2 : Memref sig .tc .hbm S7936x2560 .i8) (harg2 : arg2.IsWhole) (arg3 : Memref sig .tc .vmem S62x128 .f32) (harg3 : arg3.IsWhole) (arg4 : Memref sig .tc .vmem S62x128 .f32) (harg4 : arg4.IsWhole) (arg5 : Memref sig .tc .vmem S1x2560 .bf16) (harg5 : arg5.IsWhole) (arg6 : Memref sig .tc .vmem S5120x128 .bf16) (harg6 : arg6.IsWhole) (arg7 : Memref sig .tc .vmem S5120x128 .bf16) (harg7 : arg7.IsWhole) (arg8 : Memref sig .tc .vmem S79360x2x128 .bf16) (harg8 : arg8.IsWhole) (arg9 : Memref sig .tc .vmem S15872x128 .f32) (harg9 : arg9.IsWhole) (arg10 : Memref sig .tc .vmem S80x128 .f32) (harg10 : arg10.IsWhole) (arg11 : Memref sig .tc .vmem S320x2x128 .bf16) (harg11 : arg11.IsWhole) (arg12 : Memref sig .tc .vmem S64x128 .f32) (harg12 : arg12.IsWhole) (arg13 : Memref sig .tc .vmem S8x128x2560 .i8) (harg13 : arg13.IsWhole) (arg14 : DmaSems sig S8) (CT : Buf (Elt F) (arg2.view.loc (c : Thread nD τ)))

/-- The table of codes as the buffer `arg2` holds it. -/
def codesOf (arg2 : Memref sig .tc .hbm S7936x2560 .i8) (c : Dev nD) (CT : Buf (Elt F) (arg2.view.loc (c : Thread nD τ))) : S7936x2560.Idx → Elt F .i8 := arg2.view.read (Elt F) CT

theorem blk_read (k : Fin k0_t1_loop.trips) (x : S128x2560.Idx) :
    (blkOf arg2 k.val (lt62 k)).view.read (Elt F) CT x = codesOf arg2 c CT (ix2 (Fin.ofNat 7936 (128 * k.val + (x 0).val)) (x 1)) := by
  have hx0 : (x 0).val < 128 := (x 0).isLt
  have hk := lt62 k
  show arg2.view.read (Elt F) CT _ = arg2.view.read (Elt F) CT _
  congr 1
  funext b
  fin_cases b
  · exact Fin.ext (show 128 * k.val + 1 * (x 0).val = (128 * k.val + (x 0).val) % 7936 by omega)
  · exact Fin.ext (show 0 + 1 * (x 1).val = (x 1).val by omega)

theorem D8_next (k : ℕ) : (H3 c arg8 (D8 k 20) t8' : sProp 𝕄) ⊢ H3 c arg8 (D8 (k + 1) 0) t8' :=
  Holds.mono fun y hy => ⟨by unfold D8 at hy ⊢; omega, rfl⟩
theorem D9_next (k : ℕ) : (H2 c arg9 (D9 k 2) t9' : sProp 𝕄) ⊢ H2 c arg9 (D9 (k + 1) 0) t9' :=
  Holds.mono fun y hy => ⟨by unfold D9 at hy ⊢; omega, rfl⟩

set_option backward.isDefEq.respectTransparency.types false in
/-- One trip of the table-building loop. -/
theorem t1_trip (k0_h1 : k0_cond1 i = 1#1) (k : Fin k0_t1_loop.trips) :
    Sts A1 A6 A7 (H3 c arg8 (D8 k.val 0) (t8 (eTab (codesOf arg2 c CT) X3 X4))) (H2 c arg9 (D9 k.val 0) (t9 (eTab (codesOf arg2 c CT) X3 X4))) A10 A11 A12 (Rst (Holds (c : Thread nD τ) arg3 (fun _ => True) X3) (Holds (c : Thread nD τ) arg4 (fun _ => True) X4) A5 (RingAt c arg13 arg2 arg14 CT k.val) (Owes (c : Thread nD τ)))
      ⊢ wp frame (wpE defs₀ 𝒱 (c : Thread nD τ) bd) Set.univ (k0_t1_body (F := F) i arg1 harg1 arg2 harg2 arg3 harg3 arg4 harg4 arg5 harg5 arg6 harg6 arg7 harg7 arg8 harg8 arg9 harg9 arg10 harg10 arg11 harg11 arg12 harg12 arg13 harg13 arg14 k0_h1 k ⟨⟩)
        (fun _ => Sts A1 A6 A7 (H3 c arg8 (D8 (k.val + 1) 0) (t8 (eTab (codesOf arg2 c CT) X3 X4))) (H2 c arg9 (D9 (k.val + 1) 0) (t9 (eTab (codesOf arg2 c CT) X3 X4))) A10 A11 A12 (Rst (Holds (c : Thread nD τ) arg3 (fun _ => True) X3) (Holds (c : Thread nD τ) arg4 (fun _ => True) X4) A5 (RingAt c arg13 arg2 arg14 CT (k.val + 1)) (Owes (c : Thread nD τ)))) := by
  have hw := ring_wait (Val := Elt F) (U := Pipeline.UD sig nD τ) c arg13 arg2 arg14 CT (lt62 k) (A1 := A1) (A3 := Holds (c : Thread nD τ) arg3 (fun _ => True) X3) (A4 := Holds (c : Thread nD τ) arg4 (fun _ => True) X4) (A5 := A5) (A6 := A6) (A7 := A7) (A10 := A10) (A11 := A11) (A12 := A12) (A8 := H3 c arg8 (D8 k.val 0) (t8 (eTab (codesOf arg2 c CT) X3 X4))) (A9 := H2 c arg9 (D9 k.val 0) (t9 (eTab (codesOf arg2 c CT) X3 X4)))
  unfold InTrip at hw
  refine BIBase.Entails.trans ?_ (wp_mono _ _ _ fun _ => Sts.mono .rfl .rfl (D8_next arg8 _) (D9_next arg9 _) .rfl .rfl .rfl)
  have hD := fun v214 v221 h3 h4 => deq (codesOf arg2 c CT) X3 X4 k _ (blk_read arg2 CT k) v214 v221 h3 h4
  by_cases h : k.val + 8 < 62
  · have hn := ring_next (Val := Elt F) (U := Pipeline.UD sig nD τ) c arg13 arg2 arg14 CT h (T := (blkOf arg2 k.val (lt62 k)).view.read (Elt F) CT) (A1 := A1) (A3 := Holds (c : Thread nD τ) arg3 (fun _ => True) X3) (A4 := Holds (c : Thread nD τ) arg4 (fun _ => True) X4) (A5 := A5) (A6 := A6) (A7 := A7) (A10 := A10) (A11 := A11) (A12 := A12) (A8 := H3 c arg8 (D8 k.val 20) (t8 (eTab (codesOf arg2 c CT) X3 X4))) (A9 := H2 c arg9 (D9 k.val 2) (t9 (eTab (codesOf arg2 c CT) X3 X4)))
    unfold InTrip at hn
    exact BuildParts.trip i arg1 harg1 arg2 harg2 arg3 harg3 arg4 harg4 arg5 harg5 arg6 harg6 arg7 harg7 arg8 harg8 arg9 harg9 arg10 harg10 arg11 harg11 arg12 harg12 arg13 harg13 arg14 k0_h1 k (sem_congr arg14 (off1_eq k) _ _) (slot_congr arg13 (off2_eq k) _ _ _) hw hD
      (fun h2 => sem_congr arg14 (off9_eq k h2) _ _) (fun h2 => slot_congr arg13 (off10_eq k h2) _ _ _) (fun h2 => blk_congr arg2 h (off11_eq k h2) _ _) (fun _ => hn) (fun h2 => absurd ((cond2_iff k).mpr h) h2)
  · have hn := ring_last (Val := Elt F) (U := Pipeline.UD sig nD τ) c arg13 arg2 arg14 CT h (T := (blkOf arg2 k.val (lt62 k)).view.read (Elt F) CT) (A1 := A1) (A3 := Holds (c : Thread nD τ) arg3 (fun _ => True) X3) (A4 := Holds (c : Thread nD τ) arg4 (fun _ => True) X4) (A5 := A5) (A6 := A6) (A7 := A7) (A10 := A10) (A11 := A11) (A12 := A12) (A8 := H3 c arg8 (D8 k.val 20) (t8 (eTab (codesOf arg2 c CT) X3 X4))) (A9 := H2 c arg9 (D9 k.val 2) (t9 (eTab (codesOf arg2 c CT) X3 X4)))
    unfold InTrip at hn
    exact BuildParts.trip i arg1 harg1 arg2 harg2 arg3 harg3 arg4 harg4 arg5 harg5 arg6 harg6 arg7 harg7 arg8 harg8 arg9 harg9 arg10 harg10 arg11 harg11 arg12 harg12 arg13 harg13 arg14 k0_h1 k (sm' := semOf arg14 (at8 k.val)) (dst' := slotOf arg13 (at8 k.val)) (src' := blkOf arg2 k.val (lt62 k)) (X' := CT) (sem_congr arg14 (off1_eq k) _ _) (slot_congr arg13 (off2_eq k) _ _ _) hw hD
      (fun h2 => absurd ((cond2_iff k).mp h2) h) (fun h2 => absurd ((cond2_iff k).mp h2) h) (fun h2 => absurd ((cond2_iff k).mp h2) h) (fun h2 => absurd ((cond2_iff k).mp h2) h) (fun _ => hn)

set_option backward.isDefEq.respectTransparency.types false in
theorem part13 {β : Type} {Q : β → sProp 𝕄} {K : PUnit → Prog (TpuEff nD τ sig (Elt F) Λ₀ .tc) β}
    (hk : Sts A1 A6 A7 A8 A9 A10 A11 A12 (Rst (Holds (c : Thread nD τ) arg3 (fun _ => True) X3) (Holds (c : Thread nD τ) arg4 (fun _ => True) X4) (Holds (c : Thread nD τ) arg5 (fun _ => True) X5) (Filling c arg13 arg2 arg14 CT 4) (Owes (c : Thread nD τ))) ⊢ wp frame (wpE defs₀ 𝒱 (c : Thread nD τ) bd) Set.univ (K ⟨⟩) Q) :
    Sts A1 A6 A7 A8 A9 A10 A11 A12 (Rst (Holds (c : Thread nD τ) arg3 (fun _ => True) X3) (Holds (c : Thread nD τ) arg4 (fun _ => True) X4) (Holds (c : Thread nD τ) arg5 (fun _ => True) X5) (Filling c arg13 arg2 arg14 CT 0) (Owes (c : Thread nD τ))) ⊢ wp frame (wpE defs₀ 𝒱 (c : Thread nD τ) bd) Set.univ (k0_part13 (F := F) i arg1 harg1 arg2 harg2 arg3 harg3 arg4 harg4 arg5 harg5 arg6 harg6 arg7 harg7 arg8 harg8 arg9 harg9 arg10 harg10 arg11 harg11 arg12 harg12 arg13 harg13 arg14 >>= K) Q := by
  rw [k0_part13_eq_skeleton]
  unfold k0_part13_skel
  refine assoc (enqueue () (View.amount_pos _ _ (by decide +kernel)) (fill c arg13 arg2 arg14 CT (0 : Fin 8) rfl (by decide)) ?_)
  refine assoc (enqueue () (View.amount_pos _ _ (by decide +kernel)) (fill c arg13 arg2 arg14 CT (1 : Fin 8) rfl (by decide)) ?_)
  refine assoc (enqueue () (View.amount_pos _ _ (by decide +kernel)) (fill c arg13 arg2 arg14 CT (2 : Fin 8) rfl (by decide)) ?_)
  refine assoc (enqueue () (View.amount_pos _ _ (by decide +kernel)) (fill c arg13 arg2 arg14 CT (3 : Fin 8) rfl (by decide)) ?_)
  exact ret hk

set_option backward.isDefEq.respectTransparency.types false in
theorem part14 (k0_h1 : k0_cond1 i = 1#1) {β : Type} {Q : β → sProp 𝕄} {K : (Σ' (v65 : FVec F S1x2560 .f32), FVec F S4x128 .f32) → Prog (TpuEff nD τ sig (Elt F) Λ₀ .tc) β}
    (hk : ∀ v63 : Vec F S1x2560 .bf16, (∀ x, v63 x = wRow X5 (x 1).val) → Sts A1 A6 A7 (H3 c arg8 (D8 62 0) (t8 (eTab (codesOf arg2 c CT) X3 X4))) (H2 c arg9 (D9 62 0) (t9 (eTab (codesOf arg2 c CT) X3 X4))) A10 A11 A12 (Rst (Holds (c : Thread nD τ) arg3 (fun _ => True) X3) (Holds (c : Thread nD τ) arg4 (fun _ => True) X4) (Holds (c : Thread nD τ) arg5 (fun _ => True) X5) (RingAt c arg13 arg2 arg14 CT k0_t1_loop.trips) (Owes (c : Thread nD τ))) ⊢ wp frame (wpE defs₀ 𝒱 (c : Thread nD τ) bd) Set.univ (K ⟨k0_pay101 v63, k0_pay102 v63⟩) Q) :
    Sts A1 A6 A7 (H3 c arg8 (D8 0 0) (t8 (eTab (codesOf arg2 c CT) X3 X4))) (H2 c arg9 (D9 0 0) (t9 (eTab (codesOf arg2 c CT) X3 X4))) A10 A11 A12 (Rst (Holds (c : Thread nD τ) arg3 (fun _ => True) X3) (Holds (c : Thread nD τ) arg4 (fun _ => True) X4) (Holds (c : Thread nD τ) arg5 (fun _ => True) X5) (Filling c arg13 arg2 arg14 CT 4) (Owes (c : Thread nD τ))) ⊢ wp frame (wpE defs₀ 𝒱 (c : Thread nD τ) bd) Set.univ (k0_part14 (F := F) i arg1 harg1 arg2 harg2 arg3 harg3 arg4 harg4 arg5 harg5 arg6 harg6 arg7 harg7 arg8 harg8 arg9 harg9 arg10 harg10 arg11 harg11 arg12 harg12 arg13 harg13 arg14 k0_h1 >>= K) Q := by
  rw [k0_part14_eq_skeleton]
  unfold k0_part14_skel
  refine assoc (enqueue () (View.amount_pos _ _ (by decide +kernel)) (fill c arg13 arg2 arg14 CT (4 : Fin 8) rfl (by decide)) ?_)
  refine assoc (enqueue () (View.amount_pos _ _ (by decide +kernel)) (fill c arg13 arg2 arg14 CT (5 : Fin 8) rfl (by decide)) ?_)
  refine assoc (enqueue () (View.amount_pos _ _ (by decide +kernel)) (fill c arg13 arg2 arg14 CT (6 : Fin 8) rfl (by decide)) ?_)
  refine assoc (enqueue () (View.amount_pos _ _ (by decide +kernel)) (fill c arg13 arg2 arg14 CT (7 : Fin 8) rfl (by decide)) ?_)
  refine assoc ?_
  refine (show Sts A1 A6 A7 (H3 c arg8 (D8 0 0) (t8 (eTab (codesOf arg2 c CT) X3 X4))) (H2 c arg9 (D9 0 0) (t9 (eTab (codesOf arg2 c CT) X3 X4))) A10 A11 A12 (Rst (Holds (c : Thread nD τ) arg3 (fun _ => True) X3) (Holds (c : Thread nD τ) arg4 (fun _ => True) X4) (Holds (c : Thread nD τ) arg5 (fun _ => True) X5) (Filling c arg13 arg2 arg14 CT 8) (Owes (c : Thread nD τ))) ⊢ Sts A1 A6 A7 (H3 c arg8 (D8 0 0) (t8 (eTab (codesOf arg2 c CT) X3 X4))) (H2 c arg9 (D9 0 0) (t9 (eTab (codesOf arg2 c CT) X3 X4))) A10 A11 A12 (Rst (Holds (c : Thread nD τ) arg3 (fun _ => True) X3) (Holds (c : Thread nD τ) arg4 (fun _ => True) X4) (Holds (c : Thread nD τ) arg5 (fun _ => True) X5) (RingAt c arg13 arg2 arg14 CT 0) (Owes (c : Thread nD τ))) by rw [filling_all]).trans ?_
  refine for_bind (c := (c : Thread nD τ)) (defs := defs₀) k0_t1_loop (k0_t1_ok i k0_h1) (k0_t1_body (F := F) i arg1 harg1 arg2 harg2 arg3 harg3 arg4 harg4 arg5 harg5 arg6 harg6 arg7 harg7 arg8 harg8 arg9 harg9 arg10 harg10 arg11 harg11 arg12 harg12 arg13 harg13 arg14 k0_h1)
    (fun k _ => Sts A1 A6 A7 (H3 c arg8 (D8 k 0) (t8 (eTab (codesOf arg2 c CT) X3 X4))) (H2 c arg9 (D9 k 0) (t9 (eTab (codesOf arg2 c CT) X3 X4))) A10 A11 A12 (Rst (Holds (c : Thread nD τ) arg3 (fun _ => True) X3) (Holds (c : Thread nD τ) arg4 (fun _ => True) X4) (Holds (c : Thread nD τ) arg5 (fun _ => True) X5) (RingAt c arg13 arg2 arg14 CT k) (Owes (c : Thread nD τ)))) ?_ ?_
  · exact fun k _ => t1_trip i arg1 harg1 arg2 harg2 arg3 harg3 arg4 harg4 arg5 harg5 arg6 harg6 arg7 harg7 arg8 harg8 arg9 harg9 arg10 harg10 arg11 harg11 arg12 harg12 arg13 harg13 arg14 CT k0_h1 k
  intro _
  refine assoc (load Rst.t5 fun v63 h63 => ?_)
  refine ret (hk _ fun x => (h63 x trivial).trans ?_)
  have hx0 : (x 0).val = 0 := by have h : (x 0).val < 1 := (x 0).isLt; omega
  have hx1 : (x 1).val < 2560 := (x 1).isLt
  show X5 _ = X5 _
  congr 1
  funext b
  fin_cases b
  · exact Fin.ext (show 0 + 1 * (x 0).val = 0 by omega)
  · exact Fin.ext (show 0 + 1 * (x 1).val = (x 1).val % 2560 by omega)

theorem part15 {v63 : Vec F S1x2560 .bf16} (hv : ∀ x, v63 x = wRow X5 (x 1).val) {β : Type} {Q : β → sProp 𝕄} {K : FVec F S1x128 .f32 → Prog (TpuEff nD τ sig (Elt F) Λ₀ .tc) β}
    (hk : Sts A1 A6 A7 A8 A9 (H2 c arg10 (fun r => r < 4 * 7) (t10 (wRow X5))) A11 A12 R ⊢ wp frame (wpE defs₀ 𝒱 (c : Thread nD τ) bd) Set.univ (K (k0_pay110 (k0_pay101 v63))) Q) :
    Sts A1 A6 A7 A8 A9 (H2 c arg10 (fun r => r < 4 * 0) (t10 (wRow X5))) A11 A12 R ⊢ wp frame (wpE defs₀ 𝒱 (c : Thread nD τ) bd) Set.univ (k0_part15 (F := F) i arg1 harg1 arg2 harg2 arg3 harg3 arg4 harg4 arg5 harg5 arg6 harg6 arg7 harg7 arg8 harg8 arg9 harg9 arg10 harg10 arg11 harg11 arg12 harg12 arg13 harg13 arg14 (k0_pay101 v63) (k0_pay102 v63) >>= K) Q := by
  rw [k0_part15_eq_skeleton]
  unfold k0_part15_skel
  refine assoc (load Sts.t10 fun v69 _ => ?_)
  refine assoc (st10 (n := 0) rfl (fun x => gainRow hv 0 (by decide) slices_S1x2560_o0_0_S1x128 x) ?_)
  refine assoc (load Sts.t10 fun v75 _ => ?_)
  refine assoc (st10 (n := 1) rfl (fun x => gainRow hv 1 (by decide) slices_S1x2560_o0_128_S1x128 x) ?_)
  refine assoc (load Sts.t10 fun v81 _ => ?_)
  refine assoc (st10 (n := 2) rfl (fun x => gainRow hv 2 (by decide) slices_S1x2560_o0_256_S1x128 x) ?_)
  refine assoc (load Sts.t10 fun v87 _ => ?_)
  refine assoc (st10 (n := 3) rfl (fun x => gainRow hv 3 (by decide) slices_S1x2560_o0_384_S1x128 x) ?_)
  refine assoc (load Sts.t10 fun v93 _ => ?_)
  refine assoc (st10 (n := 4) rfl (fun x => gainRow hv 4 (by decide) slices_S1x2560_o0_512_S1x128 x) ?_)
  refine assoc (load Sts.t10 fun v99 _ => ?_)
  refine assoc (st10 (n := 5) rfl (fun x => gainRow hv 5 (by decide) slices_S1x2560_o0_640_S1x128 x) ?_)
  refine assoc (load Sts.t10 fun v105 _ => ?_)
  refine assoc (st10 (n := 6) rfl (fun x => gainRow hv 6 (by decide) slices_S1x2560_o0_768_S1x128 x) ?_)
  exact ret hk

theorem part16 {v63 : Vec F S1x2560 .bf16} (hv : ∀ x, v63 x = wRow X5 (x 1).val) {β : Type} {Q : β → sProp 𝕄} {K : FVec F S4x128 .f32 → Prog (TpuEff nD τ sig (Elt F) Λ₀ .tc) β}
    (hk : Sts A1 A6 A7 A8 A9 (H2 c arg10 (fun r => r < 4 * 13) (t10 (wRow X5))) A11 A12 R ⊢ wp frame (wpE defs₀ 𝒱 (c : Thread nD τ) bd) Set.univ (K (k0_pay117 (k0_pay101 v63))) Q) :
    Sts A1 A6 A7 A8 A9 (H2 c arg10 (fun r => r < 4 * 7) (t10 (wRow X5))) A11 A12 R ⊢ wp frame (wpE defs₀ 𝒱 (c : Thread nD τ) bd) Set.univ (k0_part16 (F := F) i arg1 harg1 arg2 harg2 arg3 harg3 arg4 harg4 arg5 harg5 arg6 harg6 arg7 harg7 arg8 harg8 arg9 harg9 arg10 harg10 arg11 harg11 arg12 harg12 arg13 harg13 arg14 (k0_pay101 v63) (k0_pay110 (k0_pay101 v63)) >>= K) Q := by
  rw [k0_part16_eq_skeleton]
  unfold k0_part16_skel
  refine assoc (load Sts.t10 fun v111 _ => ?_)
  refine assoc (st10 (n := 7) rfl (fun x => gainRow hv 7 (by decide) slices_S1x2560_o0_896_S1x128 x) ?_)
  refine assoc (load Sts.t10 fun v117 _ => ?_)
  refine assoc (st10 (n := 8) rfl (fun x => gainRow hv 8 (by decide) slices_S1x2560_o0_1024_S1x128 x) ?_)
  refine assoc (load Sts.t10 fun v123 _ => ?_)
  refine assoc (st10 (n := 9) rfl (fun x => gainRow hv 9 (by decide) slices_S1x2560_o0_1152_S1x128 x) ?_)
  refine assoc (load Sts.t10 fun v129 _ => ?_)
  refine assoc (st10 (n := 10) rfl (fun x => gainRow hv 10 (by decide) slices_S1x2560_o0_1280_S1x128 x) ?_)
  refine assoc (load Sts.t10 fun v135 _ => ?_)
  refine assoc (st10 (n := 11) rfl (fun x => gainRow hv 11 (by decide) slices_S1x2560_o0_1408_S1x128 x) ?_)
  refine assoc (load Sts.t10 fun v141 _ => ?_)
  refine assoc (st10 (n := 12) rfl (fun x => gainRow hv 12 (by decide) slices_S1x2560_o0_1536_S1x128 x) ?_)
  refine assoc (load Sts.t10 fun v147 _ => ?_)
  exact ret hk

theorem SV_next (k : ℕ) : EmitParts.SV c arg1 arg6 arg7 arg8 arg9 arg10 arg11 arg12 X t8' t9' t10' k 32 32 40 40 R ⊢ EmitParts.SV c arg1 arg6 arg7 arg8 arg9 arg10 arg11 arg12 X t8' t9' t10' (k + 1) 0 0 0 0 R :=
  Sts.mono (Holds.mono fun y hy => ⟨by omega, rfl⟩) (Holds.mono fun y hy => ⟨by omega, rfl⟩) .rfl .rfl .rfl (Holds.mono fun y hy => absurd hy (Nat.not_lt_zero _)) (Holds.mono fun y hy => absurd hy (Nat.not_lt_zero _))

theorem trips2 : k0_t2_loop.trips = 8 := by decide +kernel

/-- From the loads of the gain rows on. -/
theorem emit (hX : ∀ s, xid X s < 7936) :
    Sts (Holds (c : Thread nD τ) arg1 (fun _ => True) X) (Own (c : Thread nD τ) arg6) (Own (c : Thread nD τ) arg7) (H3 c arg8 (fun _ => True) t8') (H2 c arg9 (fun _ => True) t9') (H2 c arg10 (fun _ => True) t10') (Own (c : Thread nD τ) arg11) (Own (c : Thread nD τ) arg12) R ⊢ wp frame (wpE defs₀ 𝒱 (c : Thread nD τ) bd) Set.univ ((do
    let v3 : Vec F S8x128 .f32 ← Prog.lift (.load arg10 (Rect.unit (s := S80x128) ![0, 0] S8x128.size inb_S80x128_S8x128_0_0).toLoadRect (View.loadsAt_vmem h_S8x128))
    let v4 : Vec F S8x128 .f32 ← Prog.lift (.load arg10 (Rect.unit (s := S80x128) ![8, 0] S8x128.size inb_S80x128_S8x128_8_0).toLoadRect (View.loadsAt_vmem h_S8x128))
    let v5 : Vec F S8x128 .f32 ← Prog.lift (.load arg10 (Rect.unit (s := S80x128) ![16, 0] S8x128.size inb_S80x128_S8x128_16_0).toLoadRect (View.loadsAt_vmem h_S8x128))
    let v6 : Vec F S8x128 .f32 ← Prog.lift (.load arg10 (Rect.unit (s := S80x128) ![24, 0] S8x128.size inb_S80x128_S8x128_24_0).toLoadRect (View.loadsAt_vmem h_S8x128))
    let v7 : Vec F S8x128 .f32 ← Prog.lift (.load arg10 (Rect.unit (s := S80x128) ![32, 0] S8x128.size inb_S80x128_S8x128_32_0).toLoadRect (View.loadsAt_vmem h_S8x128))
    let v8 : Vec F S8x128 .f32 ← Prog.lift (.load arg10 (Rect.unit (s := S80x128) ![40, 0] S8x128.size inb_S80x128_S8x128_40_0).toLoadRect (View.loadsAt_vmem h_S8x128))
    let v9 : Vec F S8x128 .f32 ← Prog.lift (.load arg10 (Rect.unit (s := S80x128) ![48, 0] S8x128.size inb_S80x128_S8x128_48_0).toLoadRect (View.loadsAt_vmem h_S8x128))
    let v10 : Vec F S8x128 .f32 ← Prog.lift (.load arg10 (Rect.unit (s := S80x128) ![56, 0] S8x128.size inb_S80x128_S8x128_56_0).toLoadRect (View.loadsAt_vmem h_S8x128))
    let v11 : Vec F S8x128 .f32 ← Prog.lift (.load arg10 (Rect.unit (s := S80x128) ![64, 0] S8x128.size inb_S80x128_S8x128_64_0).toLoadRect (View.loadsAt_vmem h_S8x128))
    let v12 : Vec F S8x128 .f32 ← Prog.lift (.load arg10 (Rect.unit (s := S80x128) ![72, 0] S8x128.size inb_S80x128_S8x128_72_0).toLoadRect (View.loadsAt_vmem h_S8x128))
    Scf.Loop.for k0_t2_loop k0_t2_ok ⟨⟩ (k0_t2_body i arg1 harg1 arg2 harg2 arg3 harg3 arg4 harg4 arg5 harg5 arg6 harg6 arg7 harg7 arg8 harg8 arg9 harg9 arg10 harg10 arg11 harg11 arg12 harg12 arg13 harg13 arg14 v3 v4 v5 v6 v7 v8 v9 v10 v11 v12)
    pure ⟨⟩) : Prog (TpuEff nD τ sig (Elt F) Λ₀ .tc) PUnit) (fun _ => Sts (Holds (c : Thread nD τ) arg1 (fun _ => True) X) (H2 c arg6 (fun _ => True) (t6 X t8' t9' t10')) (H2 c arg7 (fun _ => True) (t7 X t8')) (H3 c arg8 (fun _ => True) t8') (H2 c arg9 (fun _ => True) t9') (H2 c arg10 (fun _ => True) t10') (Own (c : Thread nD τ) arg11) (Own (c : Thread nD τ) arg12) R) := by
  refine ldGain (j := 0) rfl fun v3 h3 => ?_
  refine ldGain (j := 1) rfl fun v4 h4 => ?_
  refine ldGain (j := 2) rfl fun v5 h5 => ?_
  refine ldGain (j := 3) rfl fun v6 h6 => ?_
  refine ldGain (j := 4) rfl fun v7 h7 => ?_
  refine ldGain (j := 5) rfl fun v8 h8 => ?_
  refine ldGain (j := 6) rfl fun v9 h9 => ?_
  refine ldGain (j := 7) rfl fun v10 h10 => ?_
  refine ldGain (j := 8) rfl fun v11 h11 => ?_
  refine ldGain (j := 9) rfl fun v12 h12 => ?_
  refine (show Sts (Holds (c : Thread nD τ) arg1 (fun _ => True) X) (Own (c : Thread nD τ) arg6) (Own (c : Thread nD τ) arg7) (H3 c arg8 (fun _ => True) t8') (H2 c arg9 (fun _ => True) t9') (H2 c arg10 (fun _ => True) t10') (Own (c : Thread nD τ) arg11) (Own (c : Thread nD τ) arg12) R ⊢ EmitParts.SV c arg1 arg6 arg7 arg8 arg9 arg10 arg11 arg12 X t8' t9' t10' 0 0 0 0 0 R from
    Sts.mono (own_none c arg6 fun y hy => by omega) (own_none c arg7 fun y hy => by omega) .rfl .rfl .rfl (own_none c arg11 fun y hy => absurd hy (Nat.not_lt_zero _)) (own_none c arg12 fun y hy => absurd hy (Nat.not_lt_zero _))).trans ?_
  refine for_bind (c := (c : Thread nD τ)) (defs := defs₀) k0_t2_loop k0_t2_ok (k0_t2_body (F := F) i arg1 harg1 arg2 harg2 arg3 harg3 arg4 harg4 arg5 harg5 arg6 harg6 arg7 harg7 arg8 harg8 arg9 harg9 arg10 harg10 arg11 harg11 arg12 harg12 arg13 harg13 arg14 v3 v4 v5 v6 v7 v8 v9 v10 v11 v12)
    (fun k _ => EmitParts.SV c arg1 arg6 arg7 arg8 arg9 arg10 arg11 arg12 X t8' t9' t10' k 0 0 0 0 R) ?_ ?_
  · intro k _
    have ht := EmitParts.trip (c := c) (𝒱 := 𝒱) (bd := bd) (E := Set.univ) (R := R) (X := X) (t8 := t8') (t9 := t9') (t10 := t10') i arg1 harg1 arg2 harg2 arg3 harg3 arg4 harg4 arg5 harg5 arg6 harg6 arg7 harg7 arg8 harg8 arg9 harg9 arg10 harg10 arg11 harg11 arg12 harg12 arg13 harg13 arg14 hX v3 h3 v4 h4 v5 h5 v6 h6 v7 h7 v8 h8 v9 h9 v10 h10 v11 h11 v12 h12 k
      (K := fun _ => (pure ⟨⟩ : Prog (TpuEff nD τ sig (Elt F) Λ₀ .tc) PUnit)) (Q := fun _ => EmitParts.SV c arg1 arg6 arg7 arg8 arg9 arg10 arg11 arg12 X t8' t9' t10' (k.val + 1) 0 0 0 0 R) (done (SV_next arg1 arg6 arg7 arg8 arg9 arg10 arg11 arg12 k.val))
    rw [bind_pure] at ht
    exact ht
  intro _
  refine done ?_
  rw [trips2]
  refine Sts.mono (Holds.mono fun y _ => ⟨?_, rfl⟩) (Holds.mono fun y _ => ⟨?_, rfl⟩) .rfl .rfl .rfl (holds_own c arg11) (holds_own c arg12)
  all_goals
    have hy : (y 0).val < 5120 := (y 0).isLt
    show (y 0).val < 16 * (40 * 8 + 0)
    omega

/-- At a later grid point: the two output blocks, from the tables as they stand. -/
theorem body_later (k0_h1 : ¬ k0_cond1 i = 1#1) (hX : ∀ s, xid X s < 7936) :
    Sts (Holds (c : Thread nD τ) arg1 (fun _ => True) X) (Own (c : Thread nD τ) arg6) (Own (c : Thread nD τ) arg7) (H3 c arg8 (fun _ => True) t8') (H2 c arg9 (fun _ => True) t9') (H2 c arg10 (fun _ => True) t10') (Own (c : Thread nD τ) arg11) (Own (c : Thread nD τ) arg12) R ⊢ wp frame (wpE defs₀ 𝒱 (c : Thread nD τ) bd) Set.univ (cc0_embed_rmsnorm (F := F) i arg1 harg1 arg2 harg2 arg3 harg3 arg4 harg4 arg5 harg5 arg6 harg6 arg7 harg7 arg8 harg8 arg9 harg9 arg10 harg10 arg11 harg11 arg12 harg12 arg13 harg13 arg14) (fun _ => Sts (Holds (c : Thread nD τ) arg1 (fun _ => True) X) (H2 c arg6 (fun _ => True) (t6 X t8' t9' t10')) (H2 c arg7 (fun _ => True) (t7 X t8')) (H3 c arg8 (fun _ => True) t8') (H2 c arg9 (fun _ => True) t9') (H2 c arg10 (fun _ => True) t10') (Own (c : Thread nD τ) arg11) (Own (c : Thread nD τ) arg12) R) := by
  rw [cc0_embed_rmsnorm_eq_skeleton]
  unfold cc0_embed_rmsnorm_skel
  rw [dif_neg k0_h1]
  show _ ⊢ wp _ _ _ _ _
  exact emit i arg1 harg1 arg2 harg2 arg3 harg3 arg4 harg4 arg5 harg5 arg6 harg6 arg7 harg7 arg8 harg8 arg9 harg9 arg10 harg10 arg11 harg11 arg12 harg12 arg13 harg13 arg14 hX

/-- At the first grid point: the tables too. -/
theorem body_first (k0_h1 : k0_cond1 i = 1#1) (hX : ∀ s, xid X s < 7936) :
    Sts (Holds (c : Thread nD τ) arg1 (fun _ => True) X) (Own (c : Thread nD τ) arg6) (Own (c : Thread nD τ) arg7) (Own (c : Thread nD τ) arg8) (Own (c : Thread nD τ) arg9) (Own (c : Thread nD τ) arg10) (Own (c : Thread nD τ) arg11) (Own (c : Thread nD τ) arg12) (Rst (Holds (c : Thread nD τ) arg3 (fun _ => True) X3) (Holds (c : Thread nD τ) arg4 (fun _ => True) X4) (Holds (c : Thread nD τ) arg5 (fun _ => True) X5) (bigSep Finset.univ (Idle c arg13 arg2 arg14 CT)) (Owes (c : Thread nD τ))) ⊢ wp frame (wpE defs₀ 𝒱 (c : Thread nD τ) bd) Set.univ (cc0_embed_rmsnorm (F := F) i arg1 harg1 arg2 harg2 arg3 harg3 arg4 harg4 arg5 harg5 arg6 harg6 arg7 harg7 arg8 harg8 arg9 harg9 arg10 harg10 arg11 harg11 arg12 harg12 arg13 harg13 arg14) (fun _ => Sts (Holds (c : Thread nD τ) arg1 (fun _ => True) X) (H2 c arg6 (fun _ => True) (t6 X (t8 (eTab (codesOf arg2 c CT) X3 X4)) (t9 (eTab (codesOf arg2 c CT) X3 X4)) (t10 (wRow X5)))) (H2 c arg7 (fun _ => True) (t7 X (t8 (eTab (codesOf arg2 c CT) X3 X4)))) (H3 c arg8 (fun _ => True) (t8 (eTab (codesOf arg2 c CT) X3 X4))) (H2 c arg9 (fun _ => True) (t9 (eTab (codesOf arg2 c CT) X3 X4))) (H2 c arg10 (fun _ => True) (t10 (wRow X5))) (Own (c : Thread nD τ) arg11) (Own (c : Thread nD τ) arg12) (Rst (Holds (c : Thread nD τ) arg3 (fun _ => True) X3) (Holds (c : Thread nD τ) arg4 (fun _ => True) X4) (Holds (c : Thread nD τ) arg5 (fun _ => True) X5) (bigSep Finset.univ (Idle c arg13 arg2 arg14 CT)) (Owes (c : Thread nD τ)))) := by
  rw [cc0_embed_rmsnorm_eq_skeleton]
  unfold cc0_embed_rmsnorm_skel
  have he := emit (c := c) (𝒱 := 𝒱) (bd := bd) (R := (Rst (Holds (c : Thread nD τ) arg3 (fun _ => True) X3) (Holds (c : Thread nD τ) arg4 (fun _ => True) X4) (Holds (c : Thread nD τ) arg5 (fun _ => True) X5) (bigSep Finset.univ (Idle c arg13 arg2 arg14 CT)) (Owes (c : Thread nD τ)))) (t8' := t8 (eTab (codesOf arg2 c CT) X3 X4)) (t9' := t9 (eTab (codesOf arg2 c CT) X3 X4)) (t10' := t10 (wRow X5)) i arg1 harg1 arg2 harg2 arg3 harg3 arg4 harg4 arg5 harg5 arg6 harg6 arg7 harg7 arg8 harg8 arg9 harg9 arg10 harg10 arg11 harg11 arg12 harg12 arg13 harg13 arg14 hX
  rw [dif_pos k0_h1]
  refine (Sts.mono (B8 := H3 c arg8 (D8 0 0) (t8 (eTab (codesOf arg2 c CT) X3 X4))) (B9 := H2 c arg9 (D9 0 0) (t9 (eTab (codesOf arg2 c CT) X3 X4))) (B10 := H2 c arg10 (fun r => r < 4 * 0) (t10 (wRow X5))) .rfl .rfl
    (own_none c arg8 fun y hy => by unfold D8 at hy; omega) (own_none c arg9 fun y hy => by unfold D9 at hy; omega) (own_none c arg10 fun y hy => by omega) .rfl .rfl).trans ?_
  rw [← filling_zero]
  rw [← filling_zero] at he
  refine assoc (part13 i arg1 harg1 arg2 harg2 arg3 harg3 arg4 harg4 arg5 harg5 arg6 harg6 arg7 harg7 arg8 harg8 arg9 harg9 arg10 harg10 arg11 harg11 arg12 harg12 arg13 harg13 arg14 CT ?_)
  refine assoc (part14 i arg1 harg1 arg2 harg2 arg3 harg3 arg4 harg4 arg5 harg5 arg6 harg6 arg7 harg7 arg8 harg8 arg9 harg9 arg10 harg10 arg11 harg11 arg12 harg12 arg13 harg13 arg14 CT k0_h1 fun v63 hv => ?_)
  refine assoc (part15 i arg1 harg1 arg2 harg2 arg3 harg3 arg4 harg4 arg5 harg5 arg6 harg6 arg7 harg7 arg8 harg8 arg9 harg9 arg10 harg10 arg11 harg11 arg12 harg12 arg13 harg13 arg14 hv ?_)
  refine assoc (part16 i arg1 harg1 arg2 harg2 arg3 harg3 arg4 harg4 arg5 harg5 arg6 harg6 arg7 harg7 arg8 harg8 arg9 harg9 arg10 harg10 arg11 harg11 arg12 harg12 arg13 harg13 arg14 hv ?_)
  refine assoc (st10 (n := 13) rfl (fun x => gainRow hv 13 (by decide) slices_S1x2560_o0_1664_S1x128 x) ?_)
  refine assoc (load Sts.t10 fun v153 _ => ?_)
  refine assoc (st10 (n := 14) rfl (fun x => gainRow hv 14 (by decide) slices_S1x2560_o0_1792_S1x128 x) ?_)
  refine assoc (load Sts.t10 fun v159 _ => ?_)
  refine assoc (st10 (n := 15) rfl (fun x => gainRow hv 15 (by decide) slices_S1x2560_o0_1920_S1x128 x) ?_)
  refine assoc (load Sts.t10 fun v165 _ => ?_)
  refine assoc (st10 (n := 16) rfl (fun x => gainRow hv 16 (by decide) slices_S1x2560_o0_2048_S1x128 x) ?_)
  refine assoc (load Sts.t10 fun v171 _ => ?_)
  refine assoc (st10 (n := 17) rfl (fun x => gainRow hv 17 (by decide) slices_S1x2560_o0_2176_S1x128 x) ?_)
  refine assoc (load Sts.t10 fun v177 _ => ?_)
  refine assoc (st10 (n := 18) rfl (fun x => gainRow hv 18 (by decide) slices_S1x2560_o0_2304_S1x128 x) ?_)
  refine assoc (load Sts.t10 fun v183 _ => ?_)
  refine assoc (st10 (n := 19) rfl (fun x => gainRow hv 19 (by decide) slices_S1x2560_o0_2432_S1x128 x) ?_)
  show _ ⊢ wp _ _ _ _ _
  refine BIBase.Entails.trans ?_ he
  rw [trips1, ring_end, filling_zero]
  refine Sts.mono .rfl .rfl (Holds.mono fun y _ => ⟨?_, rfl⟩) (Holds.mono fun y _ => ⟨?_, rfl⟩) (Holds.mono fun y _ => ⟨?_, rfl⟩) .rfl .rfl
  · have hy : (y 0).val < 79360 := (y 0).isLt
    unfold D8; omega
  · have hy : (y 0).val < 15872 := (y 0).isLt
    unfold D9; omega
  · have hy : (y 0).val < 80 := (y 0).isLt
    show (y 0).val < 4 * (19 + 1)
    omega

end Cert.Proof.BodyValue

end
-- ==== Proof.KernelIdealRun.lean ====
/- What a run of KernelIdeal leaves in its arrays: the two result arrays of the region, block by block what the body leaves in
   them, when every token id names a row of the table. -/
module

public import proofs.«01_k».proof.Proof.KernelIdealRegion
public import proofs.«01_k».proof.Proof.BodyValue
public import Idealize.ShloMosaic.Lib.Pipeline.FrameSuffixV

@[expose] public section

set_option maxRecDepth 16384

noncomputable section

namespace Cert.Proof.KernelIdealRun

open Cert.KernelIdeal Cert.KernelIdeal.Gen Cert.Proof.Hoare Cert.Proof.Target Cert.Proof.EmitRules Cert.Proof.BuildRules Cert.Proof.BodyValue
open Cert.Proof.KernelIdealRegion (osem ownSemFacts H0 H0_sub codes hst0 hst1 hst2 hst3 hst4 hst5 prog_eq ids_lt hmain owns_holds holds_owns owns_own)
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

/-- The scales, the zeros and the weights as the region finds them. -/
abbrev A3 (c : Dev nD) : S62x128.Idx → Elt F .f32 := V m c main_v1
abbrev A4 (c : Dev nD) : S62x128.Idx → Elt F .f32 := V m c main_v3
abbrev A5 (c : Dev nD) : S1x2560.Idx → Elt F .bf16 := V m c main_v4
/-- The block of ids of a grid point. -/
abbrev ids (c : Dev nD) (t : Fin cfg0.N) : S1x1x256.Idx → Elt F .i32 := iblk m c 0 t
/-- The table of codes. -/
abbrev CTs (c : Dev nD) : S7936x2560.Idx → Elt F .i8 := codesOf codes c (V m c main_arg1)
/-- The dequantised table, the packed table, the inverse norms, the gain. -/
abbrev tab (c : Dev nD) : ℕ → ℕ → F .bf16 := eTab (CTs m c) (A3 m c) (A4 m c)
abbrev T8 (c : Dev nD) : ℕ → ℕ → ℕ → F .bf16 := t8 (tab m c)
abbrev T9 (c : Dev nD) : ℕ → ℕ → F .f32 := t9 (tab m c)
abbrev T10 (c : Dev nD) : ℕ → ℕ → F .f32 := t10 (wRow (A5 m c))
/-- The two output blocks of a grid point. -/
def O6 (c : Dev nD) (t : Fin cfg0.N) : S5120x128.Idx → Elt F .bf16 := fun x => t6 (ids m c t) (T8 m c) (T9 m c) (T10 m c) (x 0).val (x 1).val
def O7 (c : Dev nD) (t : Fin cfg0.N) : S5120x128.Idx → Elt F .bf16 := fun x => t7 (ids m c t) (T8 m c) (x 0).val (x 1).val

theorem iblk1 (c : Dev nD) (t : Fin cfg0.N) : (iblk m c 1 t : S62x128.Idx → Elt F .f32) = A3 m c := by
  funext x
  show V m c main_v1 _ = V m c main_v1 _
  congr 1
  funext a
  fin_cases a <;> exact Fin.ext (Pipeline.Window.rect_emb_val_of_index_zero win0_1 t _ rfl x)
theorem iblk2 (c : Dev nD) (t : Fin cfg0.N) : (iblk m c 2 t : S62x128.Idx → Elt F .f32) = A4 m c := by
  funext x
  show V m c main_v3 _ = V m c main_v3 _
  congr 1
  funext a
  fin_cases a <;> exact Fin.ext (Pipeline.Window.rect_emb_val_of_index_zero win0_2 t _ rfl x)
theorem iblk3 (c : Dev nD) (t : Fin cfg0.N) : (iblk m c 3 t : S1x2560.Idx → Elt F .bf16) = A5 m c := by
  funext x
  show V m c main_v4 _ = V m c main_v4 _
  congr 1
  funext a
  fin_cases a <;> exact Fin.ext (Pipeline.Window.rect_emb_val_of_index_zero win0_3 t _ rfl x)

/-- The tables not yet built, and built. -/
def Raw (c : Dev nD) : sProp 𝕄 :=
  iprop(Own (c : Thread nD τ) (Memref.whole cc0_scratch0) ∗ Own (c : Thread nD τ) (Memref.whole cc0_scratch1) ∗ Own (c : Thread nD τ) (Memref.whole cc0_scratch2))
def Built (c : Dev nD) : sProp 𝕄 :=
  iprop(H3 c (Memref.whole cc0_scratch0) (fun _ => True) (T8 m c) ∗ H2 c (Memref.whole cc0_scratch1) (fun _ => True) (T9 m c) ∗ H2 c (Memref.whole cc0_scratch2) (fun _ => True) (T10 m c))
/-- The rest of the region's own part. -/
def Tail (c : Dev nD) : sProp 𝕄 :=
  iprop((Own (c : Thread nD τ) (Memref.whole cc0_scratch3) ∗ Own (c : Thread nD τ) (Memref.whole cc0_scratch4) ∗ Own (c : Thread nD τ) (Memref.whole cc0_scratch5))
    ∗ bigSep Finset.univ (fun p : Fin 8 => (semVal ((c : Thread nD τ), .dma (semOf cc0_scratch6 p)) 0 : sProp 𝕄))
    ∗ Part (c : Thread nD τ) codes fullShare (V m c main_arg1) ∗ (bigSep (∅ : Finset (Ref sig .tc)) fun b => ((c.tc : Thread nD τ).loc b) ↦{fullShare} V m c b))

/-- The region's own part, conjunct by conjunct. -/
theorem own_eq (c : Dev nD) :
    (Pipeline.ΦDRV osem spec0 H0 ∅ (V m) (V m) c : sProp 𝕄)
      = iprop((Own (c : Thread nD τ) (Memref.whole cc0_scratch0) ∗ Own (c : Thread nD τ) (Memref.whole cc0_scratch1) ∗ Own (c : Thread nD τ) (Memref.whole cc0_scratch2)
          ∗ Own (c : Thread nD τ) (Memref.whole cc0_scratch3) ∗ Own (c : Thread nD τ) (Memref.whole cc0_scratch4) ∗ Own (c : Thread nD τ) (Memref.whole cc0_scratch5))
        ∗ bigSep Finset.univ (fun p : Fin 8 => (semVal ((c : Thread nD τ), .dma (semOf cc0_scratch6 p)) 0 : sProp 𝕄))
        ∗ Part (c : Thread nD τ) codes fullShare (V m c main_arg1) ∗ (bigSep (∅ : Finset (Ref sig .tc)) fun b => ((c.tc : Thread nD τ).loc b) ↦{fullShare} V m c b)) := by
  unfold Pipeline.ΦDRV
  rw [scopedRest0_eq, show (bigSep H0 fun b => ((c : Thread nD τ).loc b ↦{fullShare} V m c b) : sProp 𝕄) = Part (c : Thread nD τ) codes fullShare (V m c main_arg1) from by
    rw [BI.bigSep_eq_bigSepL_of_eq [main_arg1] (by decide) (by decide)]; rfl]
  rfl

theorem enter (c : Dev nD) : (Pipeline.ΦDRV osem spec0 H0 ∅ (V m) (V m) c : sProp 𝕄) ⊢ iprop(Raw (F := F) c ∗ Tail m c) := by
  rw [own_eq]
  unfold Raw Tail
  iintro ⟨⟨S0, S1, S2, S3, S4, S5⟩, HT⟩
  isplitl [S0 S1 S2]
  · isplitl [S0]; · iexact S0
    isplitl [S1]; · iexact S1
    iexact S2
  isplitl [S3 S4 S5]
  · isplitl [S3]; · iexact S3
    isplitl [S4]; · iexact S4
    iexact S5
  iexact HT
theorem leave (c : Dev nD) : iprop(Built m c ∗ Tail m c) ⊢ (Pipeline.ΦDRV osem spec0 H0 ∅ (V m) (V m) c : sProp 𝕄) := by
  rw [own_eq]
  unfold Built Tail
  iintro ⟨⟨S0, S1, S2⟩, ⟨S3, S4, S5⟩, HT⟩
  isplitr [HT]
  · isplitl [S0]; · iapply (holds_own c (Memref.whole cc0_scratch0)); iexact S0
    isplitl [S1]; · iapply (holds_own c (Memref.whole cc0_scratch1)); iexact S1
    isplitl [S2]; · iapply (holds_own c (Memref.whole cc0_scratch2)); iexact S2
    isplitl [S3]; · iexact S3
    isplitl [S4]; · iexact S4
    iexact S5
  iexact HT

/-- The proof data: the inputs' windows unchanged by the body, the outputs' at the two blocks, and the tables built after the
    first grid point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => O6 m c t
    | ⟨5, _⟩ => O7 m c t
  Φ t := if t.val = 0 then iprop(Raw (F := F) c ∗ Tail m c) else iprop(Built m c ∗ Tail m c)
  q _ := fullShare
  owed _ := 0

theorem before_w0 (c : Dev nD) (t : Fin cfg0.N) (d) : (dats m 0 c).before 0 t d = iblk m c 0 t :=
  ((dats m 0 c).before_in_eq_fetched 0 rfl (fun _ => rfl) (fun _ _ _ => rfl) (fun t => rfl) t d).trans rfl
theorem before_w1 (c : Dev nD) (t : Fin cfg0.N) (d) : (dats m 0 c).before 1 t d = iblk m c 1 t :=
  ((dats m 0 c).before_in_eq_fetched 1 rfl (fun _ => rfl) (fun _ _ _ => rfl) (fun t => rfl) t d).trans rfl
theorem before_w2 (c : Dev nD) (t : Fin cfg0.N) (d) : (dats m 0 c).before 2 t d = iblk m c 2 t :=
  ((dats m 0 c).before_in_eq_fetched 2 rfl (fun _ => rfl) (fun _ _ _ => rfl) (fun t => rfl) t d).trans rfl
theorem before_w3 (c : Dev nD) (t : Fin cfg0.N) (d) : (dats m 0 c).before 3 t d = iblk m c 3 t :=
  ((dats m 0 c).before_in_eq_fetched 3 rfl (fun _ => rfl) (fun _ _ _ => rfl) (fun t => rfl) t d).trans rfl

/-- From what the pipeline hands the body to what the body's theorems ask, and back. -/
theorem around (c : Dev nD) (t : Fin cfg0.N) {P8 P9 P10 : sProp 𝕄}
    (hb : Sts (Holds (c : Thread nD τ) (st0_0 t) (fun _ => True) (ids m c t)) (Own (c : Thread nD τ) (st0_4 t)) (Own (c : Thread nD τ) (st0_5 t)) P8 P9 P10 (Own (c : Thread nD τ) (Memref.whole cc0_scratch3)) (Own (c : Thread nD τ) (Memref.whole cc0_scratch4)) (Rst (Holds (c : Thread nD τ) (st0_1 t) (fun _ => True) (A3 m c)) (Holds (c : Thread nD τ) (st0_2 t) (fun _ => True) (A4 m c)) (Holds (c : Thread nD τ) (st0_3 t) (fun _ => True) (A5 m c)) (bigSep Finset.univ (Idle c (Memref.whole cc0_scratch5) codes cc0_scratch6 (V m c main_arg1))) (Owes (c : Thread nD τ))) ⊢ wp frame (wpE (defs₀ (F := F)) Variants.none (c : Thread nD τ) none) Set.univ (bodyAt0 t) (fun _ => Sts (Holds (c : Thread nD τ) (st0_0 t) (fun _ => True) (ids m c t)) (H2 c (st0_4 t) (fun _ => True) (t6 (ids m c t) (T8 m c) (T9 m c) (T10 m c))) (H2 c (st0_5 t) (fun _ => True) (t7 (ids m c t) (T8 m c))) (H3 c (Memref.whole cc0_scratch0) (fun _ => True) (T8 m c)) (H2 c (Memref.whole cc0_scratch1) (fun _ => True) (T9 m c)) (H2 c (Memref.whole cc0_scratch2) (fun _ => True) (T10 m c)) (Own (c : Thread nD τ) (Memref.whole cc0_scratch3)) (Own (c : Thread nD τ) (Memref.whole cc0_scratch4)) (Rst (Holds (c : Thread nD τ) (st0_1 t) (fun _ => True) (A3 m c)) (Holds (c : Thread nD τ) (st0_2 t) (fun _ => True) (A4 m c)) (Holds (c : Thread nD τ) (st0_3 t) (fun _ => True) (A5 m c)) (bigSep Finset.univ (Idle c (Memref.whole cc0_scratch5) codes cc0_scratch6 (V m c main_arg1))) (Owes (c : Thread nD τ))))) :
    iprop(((P8 ∗ P9 ∗ P10) ∗ Tail m c) ∗ (∃ W : Waits sig Unit, owes (c : Thread nD τ) 0 W) ∗ owns (c : Thread nD τ) (st0_0 t) fullShare (ids m c t) ∗ owns (c : Thread nD τ) (st0_1 t) fullShare (A3 m c) ∗ owns (c : Thread nD τ) (st0_2 t) fullShare (A4 m c) ∗ owns (c : Thread nD τ) (st0_3 t) fullShare (A5 m c) ∗ (∃ X, owns (c : Thread nD τ) (st0_4 t) fullShare X) ∗ (∃ X, owns (c : Thread nD τ) (st0_5 t) fullShare X))
      ⊢ wp frame (wpE (defs₀ (F := F)) Variants.none (c : Thread nD τ) none) Set.univ (bodyAt0 t) (fun _ =>
    iprop((Built m c ∗ Tail m c) ∗ (∃ W : Waits sig Unit, owes (c : Thread nD τ) 0 W) ∗ owns (c : Thread nD τ) (st0_0 t) fullShare (ids m c t) ∗ owns (c : Thread nD τ) (st0_1 t) fullShare (A3 m c) ∗ owns (c : Thread nD τ) (st0_2 t) fullShare (A4 m c) ∗ owns (c : Thread nD τ) (st0_3 t) fullShare (A5 m c) ∗ owns (c : Thread nD τ) (st0_4 t) fullShare (O6 m c t) ∗ owns (c : Thread nD τ) (st0_5 t) fullShare (O7 m c t))) := by
  have hin : iprop(((P8 ∗ P9 ∗ P10) ∗ Tail m c) ∗ (∃ W : Waits sig Unit, owes (c : Thread nD τ) 0 W) ∗ owns (c : Thread nD τ) (st0_0 t) fullShare (ids m c t) ∗ owns (c : Thread nD τ) (st0_1 t) fullShare (A3 m c) ∗ owns (c : Thread nD τ) (st0_2 t) fullShare (A4 m c) ∗ owns (c : Thread nD τ) (st0_3 t) fullShare (A5 m c) ∗ (∃ X, owns (c : Thread nD τ) (st0_4 t) fullShare X) ∗ (∃ X, owns (c : Thread nD τ) (st0_5 t) fullShare X))
      ⊢ iprop((Sts (Holds (c : Thread nD τ) (st0_0 t) (fun _ => True) (ids m c t)) (Own (c : Thread nD τ) (st0_4 t)) (Own (c : Thread nD τ) (st0_5 t)) P8 P9 P10 (Own (c : Thread nD τ) (Memref.whole cc0_scratch3)) (Own (c : Thread nD τ) (Memref.whole cc0_scratch4)) (Rst (Holds (c : Thread nD τ) (st0_1 t) (fun _ => True) (A3 m c)) (Holds (c : Thread nD τ) (st0_2 t) (fun _ => True) (A4 m c)) (Holds (c : Thread nD τ) (st0_3 t) (fun _ => True) (A5 m c)) (bigSep Finset.univ (Idle c (Memref.whole cc0_scratch5) codes cc0_scratch6 (V m c main_arg1))) (Owes (c : Thread nD τ)))) ∗ (bigSep (∅ : Finset (Ref sig .tc)) fun b => ((c.tc : Thread nD τ).loc b) ↦{fullShare} V m c b)) := by
    unfold Tail Sts Rst Hoare.Owes
    iintro ⟨⟨⟨S0, S1, S2⟩, ⟨S3, S4, S5⟩, Hq, Hc, Hn⟩, HW, H0, H1, H2, H3, H4, H5⟩
    isplitr [Hn]
    · isplitl [H0]; · iapply (owns_holds c (st0_0 t) (hst0 t) _); iexact H0
      isplitl [H4]; · iapply (owns_own c (st0_4 t) (hst4 t)); iexact H4
      isplitl [H5]; · iapply (owns_own c (st0_5 t) (hst5 t)); iexact H5
      isplitl [S0]; · iexact S0
      isplitl [S1]; · iexact S1
      isplitl [S2]; · iexact S2
      isplitl [S3]; · iexact S3
      isplitl [S4]; · iexact S4
      isplitl [H1]; · iapply (owns_holds c (st0_1 t) (hst1 t) _); iexact H1
      isplitl [H2]; · iapply (owns_holds c (st0_2 t) (hst2 t) _); iexact H2
      isplitl [H3]; · iapply (owns_holds c (st0_3 t) (hst3 t) _); iexact H3
      isplitl [S5 Hq Hc]
      · iapply (idle_split (Val := Elt F) (U := Pipeline.UD sig nD τ) c (Memref.whole cc0_scratch5) codes cc0_scratch6 (V m c main_arg1) (Memref.isWhole_whole _))
        isplitl [S5]; · iexact S5
        isplitl [Hq]; · iexact Hq
        iexact Hc
      · iexact HW
    · iexact Hn
  refine hin.trans ((BIClass.sep_mono hb .rfl).trans ((wp_frame_r _ _ _).trans (wp_mono _ _ _ fun _ => ?_)))
  unfold Built Tail Sts Rst Hoare.Owes
  iintro ⟨⟨H0, H4, H5, S0, S1, S2, S3, S4, H1, H2, H3, HI, HW⟩, Hn⟩
  ihave HJ := (idle_join (Val := Elt F) (U := Pipeline.UD sig nD τ) c (Memref.whole cc0_scratch5) codes cc0_scratch6 (V m c main_arg1) (Memref.isWhole_whole _)) $$ HI
  icases HJ with ⟨S5, Hq, Hc⟩
  isplitl [S0 S1 S2 S3 S4 S5 Hq Hc Hn]
  · isplitl [S0 S1 S2]
    · isplitl [S0]; · iexact S0
      isplitl [S1]; · iexact S1
      iexact S2
    isplitl [S3 S4 S5]
    · isplitl [S3]; · iexact S3
      isplitl [S4]; · iexact S4
      iexact S5
    isplitl [Hq]; · iexact Hq
    isplitl [Hc]; · iexact Hc
    iexact Hn
  isplitl [HW]; · iexact HW
  isplitl [H0]; · iapply (holds_owns c (st0_0 t) (hst0 t) _); iexact H0
  isplitl [H1]; · iapply (holds_owns c (st0_1 t) (hst1 t) _); iexact H1
  isplitl [H2]; · iapply (holds_owns c (st0_2 t) (hst2 t) _); iexact H2
  isplitl [H3]; · iapply (holds_owns c (st0_3 t) (hst3 t) _); iexact H3
  isplitl [H4]; · iapply (holds_owns c (st0_4 t) (hst4 t) (O6 m c t)); iexact H4
  iapply (holds_owns c (st0_5 t) (hst5 t) (O7 m c t)); iexact H5

theorem cond1_iff : ∀ t : Fin grid0.N, k0_cond1 (grid0.coords t) = 1#1 ↔ t.val = 0 := by decide +kernel

theorem xid_lt {X : S1x1x256.Idx → Elt F .i32} (h : ∀ x, (X x).toNat < 7936) (s : ℕ) : xid X s < 7936 := by
  unfold xid
  split
  · exact h _
  · decide

theorem Phi_eq (c : Dev nD) (t : Fin (cfg0.N + 1)) : (dats m 0 c).Φ t = if t.val = 0 then iprop(Raw (F := F) c ∗ Tail m c) else iprop(Built m c ∗ Tail m c) := rfl

/-- The body at a grid point. -/
theorem sound_body (c : Dev nD) (t : Fin cfg0.N) (hX : ∀ x, (ids m c t x).toNat < 7936) :
    iprop((dats m 0 c).Φ t.castSucc ∗ (∃ W : Waits sig Unit, owes (c : Thread nD τ) 0 W) ∗ owns (c : Thread nD τ) (st0_0 t) fullShare (ids m c t) ∗ owns (c : Thread nD τ) (st0_1 t) fullShare (A3 m c) ∗ owns (c : Thread nD τ) (st0_2 t) fullShare (A4 m c) ∗ owns (c : Thread nD τ) (st0_3 t) fullShare (A5 m c) ∗ (∃ X, owns (c : Thread nD τ) (st0_4 t) fullShare X) ∗ (∃ X, owns (c : Thread nD τ) (st0_5 t) fullShare X))
      ⊢ wp frame (wpE (defs₀ (F := F)) Variants.none (c : Thread nD τ) none) Set.univ (bodyAt0 t) (fun _ =>
    iprop((dats m 0 c).Φ t.succ ∗ (∃ W : Waits sig Unit, owes (c : Thread nD τ) 0 W) ∗ owns (c : Thread nD τ) (st0_0 t) fullShare (ids m c t) ∗ owns (c : Thread nD τ) (st0_1 t) fullShare (A3 m c) ∗ owns (c : Thread nD τ) (st0_2 t) fullShare (A4 m c) ∗ owns (c : Thread nD τ) (st0_3 t) fullShare (A5 m c) ∗ owns (c : Thread nD τ) (st0_4 t) fullShare (O6 m c t) ∗ owns (c : Thread nD τ) (st0_5 t) fullShare (O7 m c t))) := by
  have e1 : (dats m 0 c).Φ t.succ = iprop(Built m c ∗ Tail m c) := by
    rw [Phi_eq]; exact if_neg (Nat.succ_ne_zero t.val)
  rw [e1]
  by_cases h : k0_cond1 (grid0.coords t) = 1#1
  · have e0 : (dats m 0 c).Φ t.castSucc = iprop(Raw (F := F) c ∗ Tail m c) := by
      rw [Phi_eq]; exact if_pos ((cond1_iff t).mp h)
    rw [e0]
    exact around m c t (BodyValue.body_first (𝒱 := Variants.none) (bd := none) (c := c) (grid0.coords t) (st0_0 t) (hst0 t) codes (Memref.isWhole_whole _) (st0_1 t) (hst1 t) (st0_2 t) (hst2 t) (st0_3 t) (hst3 t) (st0_4 t) (hst4 t) (st0_5 t) (hst5 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 (V m c main_arg1) h (xid_lt hX))
  · have e0 : (dats m 0 c).Φ t.castSucc = iprop(Built m c ∗ Tail m c) := by
      rw [Phi_eq]; exact if_neg fun e => h ((cond1_iff t).mpr e)
    rw [e0]
    exact around m c t (BodyValue.body_later (𝒱 := Variants.none) (bd := none) (c := c) (grid0.coords t) (st0_0 t) (hst0 t) codes (Memref.isWhole_whole _) (st0_1 t) (hst1 t) (st0_2 t) (hst2 t) (st0_3 t) (hst3 t) (st0_4 t) (hst4 t) (st0_5 t) (hst5 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 h (xid_lt hX))

theorem owns_eq {sp : Space} {s : Shape} {e : EltTy} (c : Dev nD) (M : Memref sig .tc sp s e) {X Y : s.Idx → Elt F e} (h : X = Y) :
    (owns (c : Thread nD τ) M fullShare X : sProp 𝕄) ⊢ owns (c : Thread nD τ) M fullShare Y := by rw [h]

/-- The pipeline's obligation on the body. -/
theorem body_obligation (c : Dev nD) (hX : ∀ t x, (ids m c t x).toNat < 7936) :
    BodyObligationLoose (dats m 0 c) (defs₀ (F := F)) Variants.none () Set.univ := fun t => by
  rw [bigSep_W0, bigSep_W0, prog_eq]
  have hs := sound_body m c t (hX t)
  show iprop((dats m 0 c).Φ t.castSucc ∗ (dats m 0 c).owesAt () t.castSucc
        ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d))
        ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)))
      ⊢ wp frame (wpE (defs₀ (F := F)) Variants.none (c : Thread nD τ) none) Set.univ (bodyAt0 t) (fun _ =>
    iprop((dats m 0 c).Φ t.succ ∗ (dats m 0 c).owesAt () t.succ
        ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t)
        ∗ owns (c : Thread nD τ) (st0_4 t) fullShare (O6 m c t) ∗ owns (c : Thread nD τ) (st0_5 t) fullShare (O7 m c t)))
  refine BIBase.Entails.trans ?_ (hs.trans (wp_mono _ _ _ fun _ => ?_))
  · unfold Dat.owesAt Pipeline.owesWithin
    iintro ⟨HP, ⟨%W, -, HW⟩, ⟨%d0, H0⟩, ⟨%d1, H1⟩, ⟨%d2, H2⟩, ⟨%d3, H3⟩, ⟨%d4, H4⟩, ⟨%d5, H5⟩⟩
    isplitl [HP]; · iexact HP
    isplitl [HW]; · iexists W; iexact HW
    isplitl [H0]; · iapply (owns_eq c (st0_0 t) (before_w0 m c t d0)); iexact H0
    isplitl [H1]; · iapply (owns_eq c (st0_1 t) ((before_w1 m c t d1).trans (iblk1 m c t))); iexact H1
    isplitl [H2]; · iapply (owns_eq c (st0_2 t) ((before_w2 m c t d2).trans (iblk2 m c t))); iexact H2
    isplitl [H3]; · iapply (owns_eq c (st0_3 t) ((before_w3 m c t d3).trans (iblk3 m c t))); iexact H3
    isplitl [H4]
    · iexists _; iexact H4
    iexists _; iexact H5
  · unfold Dat.owesAt Pipeline.owesWithin
    iintro ⟨HP, ⟨%W, HW⟩, H0, H1, H2, H3, H4, H5⟩
    isplitl [HP]; · iexact HP
    isplitl [HW]
    · iexists W
      isplitr
      · ipureintro; exact fun _ _ => Or.inl trivial
      iexact HW
    isplitl [H0]; · iexact H0
    isplitl [H1]; · iapply (owns_eq c (st0_1 t) (iblk1 m c t).symm); iexact H1
    isplitl [H2]; · iapply (owns_eq c (st0_2 t) (iblk2 m c t).symm); iexact H2
    isplitl [H3]; · iapply (owns_eq c (st0_3 t) (iblk3 m c t).symm); iexact H3
    isplitl [H4]; · iexact H4
    iexact H5

/-- The two result arrays of the region: row, lane. -/
def g6 (c : Dev nD) (R l : ℕ) : F .bf16 := t6 (ids m c (Fin.ofNat 128 (R / 5120))) (T8 m c) (T9 m c) (T10 m c) (R % 5120) l
def g7 (c : Dev nD) (R l : ℕ) : F .bf16 := t7 (ids m c (Fin.ofNat 128 (R / 5120))) (T8 m c) (R % 5120) l
def G6 (c : Dev nD) : S655360x128.Idx → Elt F .bf16 := fun y => g6 m c (y 0).val (y 1).val
def G7 (c : Dev nD) : S655360x128.Idx → Elt F .bf16 := fun y => g7 m c (y 0).val (y 1).val
theorem point_at (t : Fin cfg0.N) {r : ℕ} (h : r < 5120) : (Fin.ofNat 128 ((5120 * t.val + r) / 5120) : Fin 128) = t :=
  Fin.ext (show (5120 * t.val + r) / 5120 % 128 = t.val by have ht : t.val < 128 := t.isLt; omega)
theorem g6_at (c : Dev nD) (t : Fin cfg0.N) {r : ℕ} (h : r < 5120) (l : ℕ) : g6 m c (5120 * t.val + r) l = t6 (ids m c t) (T8 m c) (T9 m c) (T10 m c) r l := by
  unfold g6
  rw [point_at t h, show (5120 * t.val + r) % 5120 = r by omega]
theorem g7_at (c : Dev nD) (t : Fin cfg0.N) {r : ℕ} (h : r < 5120) (l : ℕ) : g7 m c (5120 * t.val + r) l = t7 (ids m c t) (T8 m c) r l := by
  unfold g7
  rw [point_at t h, show (5120 * t.val + r) % 5120 = r by omega]
theorem mem_of_eq {α : Type} {s : Finset α} {a b : α} (e : a = b) (h : b ∈ s) : a ∈ s := e ▸ h

theorem idx4 : ∀ t : Fin grid0.N, win0_4.index t 0 = t.val ∧ win0_4.index t 1 = 0 := by decide +kernel
theorem emb4 (t : Fin cfg0.N) (x : S5120x128.Idx) : (((cfg0.win 4).blk t).view.emb x : S655360x128.Idx) = ix2 ⟨5120 * t.val + (x 0).val, by have h : (x 0).val < 5120 := (x 0).isLt; have ht : t.val < 128 := t.isLt; omega⟩ (x 1) := by
  funext a
  fin_cases a
  · refine Fin.ext ((Pipeline.Window.rect_emb_val win0_4 t x 0).trans ?_)
    rw [(idx4 t).1]
    show t.val * 5120 + (x 0).val = 5120 * t.val + (x 0).val
    omega
  · exact Fin.ext (Pipeline.Window.rect_emb_val_of_index_zero win0_4 t _ (idx4 t).2 x)
theorem arr4 (c : Dev nD) : (dats m 0 c).arrAt 4 cfg0.N = G6 m c := by
  refine (dats m 0 c).arrAt_eq_of_cover 4 (G6 m c) (fun t _ => ?_) (fun y => ?_)
  · funext x
    have h : (x 0).val < 5120 := (x 0).isLt
    refine Eq.trans ?_ (congrArg (G6 m c) (emb4 t x)).symm
    exact (g6_at m c t h (x 1).val).symm
  · have hy : (y 0).val < 655360 := (y 0).isLt
    refine ⟨⟨(y 0).val / 5120, (show (y 0).val / 5120 < 128 by omega)⟩, flush0_4 _, ?_⟩
    have h := ((cfg0.win 4).blk ⟨(y 0).val / 5120, (show (y 0).val / 5120 < 128 by omega)⟩).view.emb_mem_set (ix2 ⟨(y 0).val % 5120, Nat.mod_lt _ (by decide)⟩ (y 1) : S5120x128.Idx)
    refine mem_of_eq (Eq.trans ?_ (emb4 _ _).symm) h
    funext a
    fin_cases a
    · exact Fin.ext (show (y 0).val = 5120 * ((y 0).val / 5120) + (y 0).val % 5120 by omega)
    · rfl

theorem idx5 : ∀ t : Fin grid0.N, win0_5.index t 0 = t.val ∧ win0_5.index t 1 = 0 := by decide +kernel
theorem emb5 (t : Fin cfg0.N) (x : S5120x128.Idx) : (((cfg0.win 5).blk t).view.emb x : S655360x128.Idx) = ix2 ⟨5120 * t.val + (x 0).val, by have h : (x 0).val < 5120 := (x 0).isLt; have ht : t.val < 128 := t.isLt; omega⟩ (x 1) := by
  funext a
  fin_cases a
  · refine Fin.ext ((Pipeline.Window.rect_emb_val win0_5 t x 0).trans ?_)
    rw [(idx5 t).1]
    show t.val * 5120 + (x 0).val = 5120 * t.val + (x 0).val
    omega
  · exact Fin.ext (Pipeline.Window.rect_emb_val_of_index_zero win0_5 t _ (idx5 t).2 x)
theorem arr5 (c : Dev nD) : (dats m 0 c).arrAt 5 cfg0.N = G7 m c := by
  refine (dats m 0 c).arrAt_eq_of_cover 5 (G7 m c) (fun t _ => ?_) (fun y => ?_)
  · funext x
    have h : (x 0).val < 5120 := (x 0).isLt
    refine Eq.trans ?_ (congrArg (G7 m c) (emb5 t x)).symm
    exact (g7_at m c t h (x 1).val).symm
  · have hy : (y 0).val < 655360 := (y 0).isLt
    refine ⟨⟨(y 0).val / 5120, (show (y 0).val / 5120 < 128 by omega)⟩, flush0_5 _, ?_⟩
    have h := ((cfg0.win 5).blk ⟨(y 0).val / 5120, (show (y 0).val / 5120 < 128 by omega)⟩).view.emb_mem_set (ix2 ⟨(y 0).val % 5120, Nat.mod_lt _ (by decide)⟩ (y 1) : S5120x128.Idx)
    refine mem_of_eq (Eq.trans ?_ (emb5 _ _).symm) h
    funext a
    fin_cases a
    · exact Fin.ext (show (y 0).val = 5120 * ((y 0).val / 5120) + (y 0).val % 5120 by omega)
    · rfl

/-- What the host operations after the kernel find. -/
abbrev found (c : Dev nD) : Valuation τ sig (Elt F) :=
  Pipeline.withArrays spec0 c (Pipeline.withR (V0 m c) ∅ c (V m c)) fun w => (dats m 0 c).arrAt w cfg0.N

set_option backward.isDefEq.respectTransparency.types false in
/-- Every run of KernelIdeal ends, each buffer that is no array of the region as the host operations after it leave it. -/
theorem run (h : ∀ (c : Dev nD) j, ((m ((c : Thread nD τ).loc main_arg0) : S8x4096.Idx → BitVec 32) j).toNat < 7936) :
    θ_run defs (onTc (τ := τ) (main (F := F))) ⟨m, fun _ => 0, ρ⟩ (fun r => (∀ c : Dev nD, ∀ b ∈ Pipeline.restRefs sig spec0, r.2.mem ((c.tc : Thread nD τ).loc b) = StableHlo.after hostOps1 (found m c) (Proc.devRef .tc b))
      ∧ r.2.sem = fun _ => 0) := by
  refine Pipeline.θ_run_frame_dmaR_aroundV (Q' := _) cfgs (dats m) (0 : Fin 1) launch0 osem defs₀ Variants.none ownSemFacts H0 ∅ H0_sub (Finset.empty_subset _) m ρ main
    (hbody := fun c => body_obligation m c (fun t x => ids_lt m c (h c) t x)) (hshare := fun c => (dats m 0 c).share_full fun _ => rfl)
    (howed := fun _ _ => rfl) (V₀ := V0 m) (opss := [hostOps1]) (hsub := sfx_sub) (hfresh := sfx_fresh) (hkeep := sfx_keeps) (G := V m)
    (hmain := hmain m) (hA := fun _ _ => rfl) (hin := fun c => enter m c) (hout := fun c => leave m c) (hQ' := ?_)
  intro r hr
  exact ⟨fun c b hb => (hr.1 c).2 b hb, hr.2⟩

/-- An argument that no host operation writes and that is no array of the region is found as the region was. -/
theorem found_arg (c : Dev nD) (b : Ref sig .tc) (hb : ∀ w, Pipeline.arrRef spec0 w ≠ b) : found m c (Proc.devRef .tc b) = V m c b :=
  (Pipeline.withArrays_of_ne spec0 c _ _ b hb).trans (Pipeline.withR_of_not_mem _ _ _ _ b (Finset.notMem_empty b))

/-- THE FRAME, for ids that name rows of the table. -/
theorem frame (h : ∀ (c : Dev nD) j, ((m ((c : Thread nD τ).loc main_arg0) : S8x4096.Idx → BitVec 32) j).toNat < 7936) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine θ_run_mono (run m ρ h) fun r hr => ⟨fun c => ⟨?_, ?_, ?_, ?_, ?_⟩, hr.2⟩
  · refine (hr.1 c main_arg0 (Pipeline.mem_restRefs_of main_arg0 (by decide) (by decide))).trans (Eq.trans ?_ ((found_arg m c main_arg0 (by decide)).trans (V_main_arg0 m c)))
    after_results
  · refine (hr.1 c main_arg1 (Pipeline.mem_restRefs_of main_arg1 (by decide) (by decide))).trans (Eq.trans ?_ ((found_arg m c main_arg1 (by decide)).trans (V_main_arg1 m c)))
    after_results
  · refine (hr.1 c main_arg2 (Pipeline.mem_restRefs_of main_arg2 (by decide) (by decide))).trans (Eq.trans ?_ ((found_arg m c main_arg2 (by decide)).trans (V_main_arg2 m c)))
    after_results
  · refine (hr.1 c main_arg3 (Pipeline.mem_restRefs_of main_arg3 (by decide) (by decide))).trans (Eq.trans ?_ ((found_arg m c main_arg3 (by decide)).trans (V_main_arg3 m c)))
    after_results
  · refine (hr.1 c main_arg4 (Pipeline.mem_restRefs_of main_arg4 (by decide) (by decide))).trans (Eq.trans ?_ ((found_arg m c main_arg4 (by decide)).trans (V_main_arg4 m c)))
    after_results

end Cert.Proof.KernelIdealRun

end
-- ==== Proof.Spec.lean ====
/- The two results over the reals, written plainly: a row of the table decoded, and that row normalised and weighted. Every sum
   and product is of extended reals; a change of format is the identity. -/
module

public import Idealize.ShloMosaic.Lib.Pointwise

@[expose] public section

noncomputable section

namespace Cert.Proof.Spec

open Idealize.ShloMosaic

abbrev ST : Shape := ⟨2, ![7936, 2560]⟩
abbrev SR : Shape := ⟨1, ![7936]⟩
abbrev SW : Shape := ⟨1, ![2560]⟩

/-- An entry of the decoded table: (code - zero) * scale. -/
def entry (C : ST.Idx → BitVec 8) (S Z : SR.Idx → EReal) (r : Fin 7936) (q : Fin 2560) : EReal :=
  (FloatOps.sitofp (F := Ideal) .bf16 (C (ix2 r q)) - Z (ix1 r)) * S (ix1 r)

/-- The sum of the squares of a row. -/
def squares (C : ST.Idx → BitVec 8) (S Z : SR.Idx → EReal) (r : Fin 7936) : EReal :=
  ∑ q : Fin 2560, entry C S Z r q * entry C S Z r q

/-- One over the root of the mean square of a row, the small constant added. -/
def invNorm (s : EReal) : EReal := Ideal.rsqrt (Ideal.div s (Ideal.ofBits .f32 0x45200000#32) + Ideal.ofBits .f32 0x358637BD#32)

/-- An entry of the normalised and weighted table. -/
def normed (C : ST.Idx → BitVec 8) (S Z : SR.Idx → EReal) (W : SW.Idx → EReal) (r : Fin 7936) (q : Fin 2560) : EReal :=
  entry C S Z r q * invNorm (squares C S Z r) * W (ix1 q)

/-- The row an id names. -/
def row (i : BitVec 32) : Fin 7936 := Fin.ofNat 7936 i.toNat

end Cert.Proof.Spec

end
-- ==== Proof.KernelIdealValue.lean ====
/- What the kernel's results hold, index by index: the host operations after the kernel undo its tiling, so that the entry of
   token (b, s) at column q is the table's entry of that token's id at column q. -/
module

public import proofs.«01_k».proof.Proof.KernelIdealRun
public import proofs.«01_k».proof.Proof.Spec

@[expose] public section

set_option maxRecDepth 16384

noncomputable section

namespace Cert.Proof.KernelIdealValue

open Cert.KernelIdeal Cert.KernelIdeal.Gen Cert.Proof.Target Cert.Proof.BuildRules Cert.Proof.BodyValue Cert.Proof.KernelIdealRun Cert.Proof.Spec
open Idealize.ShloMosaic Idealize.ShloMosaic.TcCoe Idealize.SL.Sem

/-! ## The tiling undone -/

/-- The host operations after the kernel, on one result array. -/
def untile {α : Type} (G : S655360x128.Idx → α) : S8x4096x2560.Idx → α :=
  shapeCast S8x4096x2560 (transpose S4096x8x20x128 [0, 2, 1, 3] (shapeCast S4096x20x8x128 G shapeCasts_S655360x128_S4096x20x8x128)
    transposes_S4096x20x8x128_S4096x8x20x128_0_2_1_3) shapeCasts_S4096x8x20x128_S8x4096x2560

/-- The row of the tiled array that holds token `n`'s column tile `ct`. -/
def rowOf (n ct : ℕ) : ℕ := 160 * (n / 8) + 8 * ct + n % 8

theorem untile_apply {α : Type} (g : ℕ → ℕ → α) (b : Fin 8) (s : Fin 4096) (q : Fin 2560) :
    untile (fun y : S655360x128.Idx => g (y 0).val (y 1).val) (ix3 b s q) = g (rowOf (4096 * b.val + s.val) (q.val / 128)) (q.val % 128) := by
  unfold untile rowOf
  pointwise
  congr 1
  omega

section
variable {F : FTy → Type} [FloatOps F]

/-- An entry of the packed table, read back at the row and half where column tile `ct` lies. -/
theorem t8_at (e : ℕ → ℕ → F .bf16) (i ct l : ℕ) (hct : ct < 20) : t8 e (10 * i + (2 * (ct / 4) + ct % 2)) (ct % 4 / 2) l = e i (128 * ct + l) := by
  have h1 : (10 * i + (2 * (ct / 4) + ct % 2)) / 10 = i := by omega
  have h2 : (10 * i + (2 * (ct / 4) + ct % 2)) % 10 = 2 * (ct / 4) + ct % 2 := by omega
  unfold t8
  rw [h1, h2]
  congr 2
  omega

variable (m : (ℓ : Loc nD τ sig) → Buf (Elt F) ℓ) (c : Dev nD)

/-- The token ids. -/
abbrev I0 : S8x4096.Idx → BitVec 32 := m ((c : Thread nD τ).loc main_arg0)

theorem reshape_ids (x : S8x4096.Idx → BitVec 32) (t : Fin 128) (k : Fin 256) :
    shapeCast S128x1x256 x shapeCasts_S8x4096_S128x1x256 (ix3 t 0 k) = x (ix2 ⟨(256 * t.val + k.val) / 4096, by omega⟩ ⟨(256 * t.val + k.val) % 4096, by omega⟩) := by
  pointwise
  refine congrArg x ?_
  congr 1 <;> exact Fin.ext (by simp only; omega)

theorem idx0 : ∀ t : Fin grid0.N, win0_0.index t 0 = t.val ∧ win0_0.index t 1 = 0 ∧ win0_0.index t 2 = 0 := by decide +kernel
/-- A place in a grid point's block of ids. -/
theorem ids_apply (t : Fin 128) (k : Fin 256) :
    ids m c t (ix3 0 0 k) = I0 m c (ix2 ⟨(256 * t.val + k.val) / 4096, by omega⟩ ⟨(256 * t.val + k.val) % 4096, by omega⟩) := by
  show V m c main_v0 (((cfg0.win 0).blk t).view.emb (ix3 0 0 k)) = _
  have e : ((cfg0.win 0).blk t).view.emb (ix3 0 0 k) = (ix3 t 0 k : S128x1x256.Idx) := by
    funext a
    fin_cases a
    · refine Fin.ext ((Pipeline.Window.rect_emb_val win0_0 t (ix3 0 0 k) 0).trans ?_)
      rw [(idx0 t).1]
      show t.val * 1 + 0 = t.val
      omega
    · exact Fin.ext (Pipeline.Window.rect_emb_val_of_index_zero win0_0 t _ (idx0 t).2.1 (ix3 0 0 k))
    · exact Fin.ext (Pipeline.Window.rect_emb_val_of_index_zero win0_0 t _ (idx0 t).2.2 (ix3 0 0 k))
  rw [e, KernelIdealRegion.V_ids]
  exact reshape_ids _ t k

/-- The id the kernel reads for a token. -/
theorem xid_at (b : Fin 8) (s : Fin 4096) :
    xid (ids m c (Fin.ofNat 128 ((4096 * b.val + s.val) / 256))) ((4096 * b.val + s.val) % 256) = (I0 m c (ix2 b s)).toNat := by
  unfold xid
  rw [dif_pos (Nat.mod_lt _ (by decide))]
  congr 1
  refine (ids_apply m c _ _).trans ?_
  congr 2
  all_goals (refine Fin.ext ?_; show _ = _; simp only [Fin.ofNat]; omega)

theorem row_facts (n ct : ℕ) (hn : n < 32768) (hct : ct < 20) :
    rowOf n ct / 5120 = n / 256 ∧ tokO (rowOf n ct % 5120) = n % 256 ∧ ctO (rowOf n ct % 5120) = ct ∧ rowOf n ct % 5120 % 8 = n % 8 := by
  unfold rowOf tokO ctO
  omega

/-- A token's row of the embedding result. -/
theorem emb_at (b : Fin 8) (s : Fin 4096) (q : Fin 2560) :
    untile (G7 m c) (ix3 b s q) = truncS (extS (tab m c (I0 m c (ix2 b s)).toNat q.val)) := by
  have hn : 4096 * b.val + s.val < 32768 := by omega
  have hq : q.val / 128 < 20 := by omega
  obtain ⟨h1, h2, h3, h4⟩ := row_facts _ _ hn hq
  refine (untile_apply (g7 m c) b s q).trans ?_
  unfold g7 t7
  rw [h1, h2, h3, xid_at, show T8 m c = t8 (tab m c) from rfl, t8_at _ _ _ _ hq, Nat.div_add_mod]

/-- A token's row of the normalised result. -/
theorem out_at (b : Fin 8) (s : Fin 4096) (q : Fin 2560) :
    untile (G6 m c) (ix3 b s q) = truncS (FloatOps.mulf (FloatOps.mulf (extS (tab m c (I0 m c (ix2 b s)).toNat q.val))
      (T9 m c (2 * (I0 m c (ix2 b s)).toNat + q.val / 128 % 2) (q.val % 128))) (extS (wRow (A5 m c) q.val))) := by
  have hn : 4096 * b.val + s.val < 32768 := by omega
  have hq : q.val / 128 < 20 := by omega
  obtain ⟨h1, h2, h3, h4⟩ := row_facts _ _ hn hq
  refine (untile_apply (g6 m c) b s q).trans ?_
  unfold g6 t6
  rw [h1, h2, h3, h4, xid_at, show T8 m c = t8 (tab m c) from rfl, t8_at _ _ _ _ hq, Nat.div_add_mod]
  have h5 : (4 * (q.val / 128) + (4096 * b.val + s.val) % 8 / 2) / 4 = q.val / 128 := by omega
  rw [show T10 m c = t10 (wRow (A5 m c)) from rfl]
  unfold t10
  rw [h5, Nat.div_add_mod]

end

end Cert.Proof.KernelIdealValue

end
-- ==== Proof.Equation.lean ====
/- The kernel's tables and the reference's are the same extended reals: the decoded entries are the same expression, and the sum of
   a row's squares taken tile by tile and lane by lane is the sum along the row. -/
module

public import proofs.«01_k».proof.Proof.KernelIdealValue

@[expose] public section

set_option maxRecDepth 16384

noncomputable section

namespace Cert.Proof.Equation

open Cert.KernelIdeal Cert.KernelIdeal.Gen Cert.Proof.Target Cert.Proof.BuildRules Cert.Proof.BodyValue Cert.Proof.KernelIdealRun Cert.Proof.KernelIdealValue Cert.Proof.Spec
open Idealize.ShloMosaic Idealize.ShloMosaic.TcCoe Idealize.SL.Sem

/-! ## Sums -/

/-- A sum along a row, tile by tile. -/
theorem sum_tiles (f : ℕ → EReal) : ∀ n, ∑ q ∈ Finset.range (128 * n), f q = ∑ t ∈ Finset.range n, ∑ l ∈ Finset.range 128, f (128 * t + l)
  | 0 => rfl
  | n + 1 => by rw [Nat.mul_succ, Finset.sum_range_add, sum_tiles f n, Finset.sum_range_succ (fun t => ∑ l ∈ Finset.range 128, f (128 * t + l))]

/-- The sum of squares over the column tiles, at a lane. -/
theorem accN_apply (f : ℕ → FVec Ideal S128x128 .bf16) (x : S128x128.Idx) : ∀ n, (accN f n x : EReal) = ∑ t ∈ Finset.range n, (f t x : EReal) * f t x
  | 0 => by
    rw [Finset.sum_range_zero]
    show Ideal.ofBits .f32 0x00000000#32 = 0
    simp
  | n + 1 => by
    rw [Finset.sum_range_succ, ← accN_apply f x n]
    rfl

theorem pay98_apply (A : S128x128.Idx → EReal) (r l : Fin 128) : k0_pay98 (F := Ideal) A (ix2 r l) = invNorm (∑ k : Fin 128, A (ix2 r k)) := by
  unfold k0_pay98
  pointwise
  rfl

/-- The inverse norm the kernel keeps of row `i`: of the sum of the squares along the row. -/
theorem t9_apply (e : ℕ → ℕ → EReal) (i p l : ℕ) (hp : p < 2) (hi : i < 7936) :
    t9 (F := Ideal) e (2 * i + p) l = invNorm (∑ q ∈ Finset.range 2560, e i q * e i q) := by
  have h1 : (2 * i + p) / 256 = i / 128 := by omega
  have h2 : (2 * i + p) / 2 = i := by omega
  unfold t9
  rw [h1, h2]
  refine (pay98_apply _ _ _).trans (congrArg invNorm ?_)
  rw [show 2560 = 128 * 20 from rfl, sum_tiles, Finset.sum_comm, Finset.sum_range]
  refine Finset.sum_congr rfl fun k _ => ?_
  rw [accN_apply]
  refine Finset.sum_congr rfl fun t _ => ?_
  have h3 : 128 * (i / 128) + (Fin.ofNat 128 i).val = i := by show 128 * (i / 128) + i % 128 = i; omega
  show e (128 * (i / 128) + (Fin.ofNat 128 i).val) (128 * t + k.val) * e (128 * (i / 128) + (Fin.ofNat 128 i).val) (128 * t + k.val) = _
  rw [h3]

/-! ## The arguments as the kernel finds them -/

variable (m : (ℓ : Loc nD τ sig) → Buf (Elt Ideal) ℓ) (c : Dev nD)

abbrev C1 : S7936x2560.Idx → BitVec 8 := m ((c : Thread nD τ).loc main_arg1)
abbrev S2 : S7936.Idx → EReal := m ((c : Thread nD τ).loc main_arg2)
abbrev Z3 : S7936.Idx → EReal := m ((c : Thread nD τ).loc main_arg3)
abbrev W4 : S2560.Idx → EReal := m ((c : Thread nD τ).loc main_arg4)

theorem reshape_rows (x : S7936.Idx → EReal) (r : Fin 7936) :
    shapeCast S62x128 x shapeCasts_S7936_S62x128 (ix2 (Fin.ofNat 62 (r.val / 128)) (Fin.ofNat 128 r.val)) = x (ix1 r) := by
  pointwise
  refine congrArg x (congrArg ix1 (Fin.ext ?_))
  show r.val / 128 % 62 * 128 + r.val % 128 = r.val
  omega
theorem reshape_weights (x : S2560.Idx → EReal) (q : Fin 2560) : shapeCast S1x2560 x shapeCasts_S2560_S1x2560 (ix2 0 q) = x (ix1 q) := by
  pointwise

theorem A3_eq : A3 m c = shapeCast S62x128 (S2 m c) shapeCasts_S7936_S62x128 := by
  show StableHlo.after hostOps0 _ (Proc.devRef .tc main_v1) = _
  after_results
  rfl
theorem A4_eq : A4 m c = shapeCast S62x128 (Z3 m c) shapeCasts_S7936_S62x128 := by
  show StableHlo.after hostOps0 _ (Proc.devRef .tc main_v3) = _
  after_results
  rfl
theorem A5_eq : A5 m c = shapeCast S1x2560 (W4 m c) shapeCasts_S2560_S1x2560 := by
  show StableHlo.after hostOps0 _ (Proc.devRef .tc main_v4) = _
  after_results
  rfl
theorem CTs_eq : CTs m c = C1 m c := V_main_arg1 m c

/-- The kernel's decoded entry is the plain one. -/
theorem tab_eq (r : Fin 7936) (q : Fin 2560) : (tab m c r.val q.val : EReal) = entry (C1 m c) (S2 m c) (Z3 m c) r q := by
  have hr : Fin.ofNat 7936 r.val = r := Fin.ext (Nat.mod_eq_of_lt r.isLt)
  have hq : Fin.ofNat 2560 q.val = q := Fin.ext (Nat.mod_eq_of_lt q.isLt)
  have h3 := (congrFun (A3_eq m c) (ix2 (Fin.ofNat 62 (r.val / 128)) (Fin.ofNat 128 r.val))).trans (reshape_rows (S2 m c) r)
  have h4 := (congrFun (A4_eq m c) (ix2 (Fin.ofNat 62 (r.val / 128)) (Fin.ofNat 128 r.val))).trans (reshape_rows (Z3 m c) r)
  show (FloatOps.sitofp (F := Ideal) .bf16 (CTs m c (ix2 (Fin.ofNat 7936 r.val) (Fin.ofNat 2560 q.val))) - A4 m c (ix2 (Fin.ofNat 62 (r.val / 128)) (Fin.ofNat 128 r.val)))
    * A3 m c (ix2 (Fin.ofNat 62 (r.val / 128)) (Fin.ofNat 128 r.val)) = _
  rw [hr, hq, CTs_eq, h3, h4]
  rfl

/-- The kernel's inverse norm is of the sum of the squares along the row. -/
theorem T9_eq (r : Fin 7936) (p l : ℕ) (hp : p < 2) : (T9 m c (2 * r.val + p) l : EReal) = invNorm (squares (C1 m c) (S2 m c) (Z3 m c) r) := by
  refine (t9_apply (tab m c) r.val p l hp r.isLt).trans (congrArg invNorm ?_)
  rw [Finset.sum_range]
  exact Finset.sum_congr rfl fun q _ => congrArg₂ (· * ·) (tab_eq m c r q) (tab_eq m c r q)

/-! ## The results -/

variable (h : ∀ j, (I0 m c j).toNat < 7936)

theorem row_val {i : BitVec 32} (h : i.toNat < 7936) : (row i).val = i.toNat := Nat.mod_eq_of_lt h

include h in
theorem emb (b : Fin 8) (s : Fin 4096) (q : Fin 2560) :
    (untile (G7 m c) (ix3 b s q) : EReal) = entry (C1 m c) (S2 m c) (Z3 m c) (row (I0 m c (ix2 b s))) q := by
  rw [emb_at, ← row_val (h (ix2 b s))]
  exact tab_eq m c _ q

include h in
theorem out (b : Fin 8) (s : Fin 4096) (q : Fin 2560) :
    (untile (G6 m c) (ix3 b s q) : EReal) = normed (C1 m c) (S2 m c) (Z3 m c) (W4 m c) (row (I0 m c (ix2 b s))) q := by
  have hq : Fin.ofNat 2560 q.val = q := Fin.ext (Nat.mod_eq_of_lt q.isLt)
  rw [out_at, ← row_val (h (ix2 b s))]
  refine congrArg₂ (fun x y : EReal => x * y) (congrArg₂ (fun x y : EReal => x * y) (tab_eq m c _ q) (T9_eq m c _ _ _ (Nat.mod_lt _ (by decide)))) ?_
  show A5 m c (ix2 0 (Fin.ofNat 2560 q.val)) = _
  rw [hq]
  exact (congrFun (A5_eq m c) (ix2 0 q)).trans (reshape_weights (W4 m c) q)

end Cert.Proof.Equation

end
-- ==== Proof.ReferenceValue.lean ====
/- What the reference computes: its two tables, and of each the rows the ids name. -/
module

public import proofs.«01_k».proof.Proof.Gen.ReferenceIdeal
public import proofs.«01_k».proof.Proof.Gen.ReferenceIdeal.Frame
public import proofs.«01_k».proof.Proof.Spec
public import Idealize.ShloMosaic.Lib.Pipeline.Value

@[expose] public section

set_option maxRecDepth 16384

noncomputable section

namespace Cert.Proof.ReferenceValue

open Cert.ReferenceIdeal Cert.ReferenceIdeal.Gen Cert.Proof.Spec
open Idealize.ShloMosaic Idealize.ShloMosaic.TcCoe Idealize.SL.Sem

variable (m : (ℓ : Loc nD τ sig) → Buf (Elt Ideal) ℓ) (ρ : Dev nD → PrngReg) (c : Dev nD)

/-! ## The arguments -/

abbrev I0 : S8x4096.Idx → BitVec 32 := m ((c : Thread nD τ).loc main_arg0)
abbrev C1 : S7936x2560.Idx → BitVec 8 := m ((c : Thread nD τ).loc main_arg1)
abbrev S2 : S7936.Idx → EReal := m ((c : Thread nD τ).loc main_arg2)
abbrev Z3 : S7936.Idx → EReal := m ((c : Thread nD τ).loc main_arg3)
abbrev W4 : S2560.Idx → EReal := m ((c : Thread nD τ).loc main_arg4)

theorem iblk_0 : (iblk m c 0 t0_0 : S7936x2560.Idx → BitVec 8) = C1 m c := by
  show (win0_0.blk t0_0).view.read (Elt Ideal) (V m c main_arg1) = _
  rw [V_main_arg1]
  exact Memref.read_access_unit_zero (Elt Ideal) main_arg1
    (show (fun a => (win0_0.index t0_0) a * main_arg1.ty.shape.size a) = fun _ => 0 from
      funext fun a => by fin_cases a <;> decide) (fun a => by fin_cases a <;> decide) _
theorem iblk_1 : (iblk m c 1 t0_0 : S7936x1.Idx → EReal) = broadcastInDim S7936x1 ![0] bcast_S7936_S7936x1_0 (S2 m c) := by
  show (win0_1.blk t0_0).view.read (Elt Ideal) (V m c main_v0) = _
  refine (Memref.read_access_unit_zero (Elt Ideal) main_v0
    (show (fun a => (win0_1.index t0_0) a * main_v0.ty.shape.size a) = fun _ => 0 from
      funext fun a => by fin_cases a <;> decide) (fun a => by fin_cases a <;> decide) _).trans ?_
  show StableHlo.after hostOps0 _ (Proc.devRef .tc main_v0) = _
  after_results
theorem iblk_2 : (iblk m c 2 t0_0 : S7936x1.Idx → EReal) = broadcastInDim S7936x1 ![0] bcast_S7936_S7936x1_0 (Z3 m c) := by
  show (win0_2.blk t0_0).view.read (Elt Ideal) (V m c main_v1) = _
  refine (Memref.read_access_unit_zero (Elt Ideal) main_v1
    (show (fun a => (win0_2.index t0_0) a * main_v1.ty.shape.size a) = fun _ => 0 from
      funext fun a => by fin_cases a <;> decide) (fun a => by fin_cases a <;> decide) _).trans ?_
  show StableHlo.after hostOps0 _ (Proc.devRef .tc main_v1) = _
  after_results
theorem iblk_3 : (iblk m c 3 t0_0 : S1x2560.Idx → EReal) = broadcastInDim S1x2560 ![1] bcast_S2560_S1x2560_1 (W4 m c) := by
  show (win0_3.blk t0_0).view.read (Elt Ideal) (V m c main_v2) = _
  refine (Memref.read_access_unit_zero (Elt Ideal) main_v2
    (show (fun a => (win0_3.index t0_0) a * main_v2.ty.shape.size a) = fun _ => 0 from
      funext fun a => by fin_cases a <;> decide) (fun a => by fin_cases a <;> decide) _).trans ?_
  show StableHlo.after hostOps0 _ (Proc.devRef .tc main_v2) = _
  after_results

/-! ## The two tables -/

theorem pay1_apply (v0 v5 : S7936x1.Idx → EReal) (v3 : S7936x2560.Idx → BitVec 8) (r : Fin 7936) (q : Fin 2560) :
    k0_pay1 (F := Ideal) v0 v3 v5 (ix2 r q) = (FloatOps.sitofp (F := Ideal) .bf16 (v3 (ix2 r q)) - v5 (ix2 r 0)) * v0 (ix2 r 0) := by
  pointwise [k0_pay1]

theorem pay2_apply (v0 v5 : S7936x1.Idx → EReal) (v3 : S7936x2560.Idx → BitVec 8) (v23 : S1x2560.Idx → EReal) (r : Fin 7936) (q : Fin 2560) :
    k0_pay2 (F := Ideal) v0 v3 v5 v23 (ix2 r q)
      = k0_pay1 (F := Ideal) v0 v3 v5 (ix2 r q) * invNorm (∑ k : Fin 2560, k0_pay1 (F := Ideal) v0 v3 v5 (ix2 r k) * k0_pay1 (F := Ideal) v0 v3 v5 (ix2 r k)) * v23 (ix2 0 q) := by
  unfold k0_pay2
  pointwise
  rfl

theorem hz : (![0, 0] : Fin 2 → Nat) = fun _ => 0 := funext fun a => by fin_cases a <;> rfl

theorem arr4 : (dats m 0 c).arrAt 4 cfg0.N
    = (k0_pay1 (F := Ideal) (broadcastInDim S7936x1 ![0] bcast_S7936_S7936x1_0 (S2 m c)) (C1 m c) (broadcastInDim S7936x1 ![0] bcast_S7936_S7936x1_0 (Z3 m c)) : S7936x2560.Idx → EReal) := by
  have hw : ((cfg0.win 4).blk t0_0).view.read (Elt Ideal) ((dats m 0 c).arrAt 4 cfg0.N)
      = (dats m 0 c).flushed 4 t0_0 := by
    rw [show cfg0.N = t0_0.val + 1 from rfl, (dats m 0 c).arrAt_succ (4 : Fin 6) t0_0, flush0_4, if_pos rfl]
    exact View.read_write_univ _ _
  refine ((Memref.read_access_unit_zero (Elt Ideal) main_v3_0
    (show (fun a => (win0_4.index t0_0) a * main_v3_0.ty.shape.size a) = fun _ => 0 from
      funext fun a => by fin_cases a <;> decide) (fun a => by fin_cases a <;> decide) _).symm.trans hw).trans ?_
  show (cfg0.win 4).cut _ ((dats m 0 c).after 4 t0_0) = _
  rw [after0_4, iblk_0, iblk_1, iblk_2, iblk_3]
  show out0_4 _ _ _ _ = _
  unfold out0_4
  rw [View.canon_unit_zero hz]
  simp only [View.ld_unit_zero (S := S7936x1) hz, View.ld_unit_zero (S := S7936x2560) hz]

theorem arr5 : (dats m 0 c).arrAt 5 cfg0.N
    = (k0_pay2 (F := Ideal) (broadcastInDim S7936x1 ![0] bcast_S7936_S7936x1_0 (S2 m c)) (C1 m c) (broadcastInDim S7936x1 ![0] bcast_S7936_S7936x1_0 (Z3 m c))
        (broadcastInDim S1x2560 ![1] bcast_S2560_S1x2560_1 (W4 m c)) : S7936x2560.Idx → EReal) := by
  have hw : ((cfg0.win 5).blk t0_0).view.read (Elt Ideal) ((dats m 0 c).arrAt 5 cfg0.N)
      = (dats m 0 c).flushed 5 t0_0 := by
    rw [show cfg0.N = t0_0.val + 1 from rfl, (dats m 0 c).arrAt_succ (5 : Fin 6) t0_0, flush0_5, if_pos rfl]
    exact View.read_write_univ _ _
  refine ((Memref.read_access_unit_zero (Elt Ideal) main_v3_1
    (show (fun a => (win0_5.index t0_0) a * main_v3_1.ty.shape.size a) = fun _ => 0 from
      funext fun a => by fin_cases a <;> decide) (fun a => by fin_cases a <;> decide) _).symm.trans hw).trans ?_
  show (cfg0.win 5).cut _ ((dats m 0 c).after 5 t0_0) = _
  rw [after0_5, iblk_0, iblk_1, iblk_2, iblk_3]
  show out0_5 _ _ _ _ = _
  unfold out0_5
  rw [View.canon_unit_zero hz]
  simp only [View.ld_unit_zero (S := S7936x1) hz, View.ld_unit_zero (S := S7936x2560) hz, View.ld_unit_zero (S := S1x2560) hz]

theorem bc1 (x : S7936.Idx → EReal) (r : Fin 7936) : broadcastInDim S7936x1 ![0] bcast_S7936_S7936x1_0 x (ix2 r 0) = x (ix1 r) :=
  congrArg x (funext fun k => by fin_cases k; rfl)
theorem bc2 (x : S2560.Idx → EReal) (q : Fin 2560) : broadcastInDim S1x2560 ![1] bcast_S2560_S1x2560_1 x (ix2 0 q) = x (ix1 q) :=
  congrArg x (funext fun k => by fin_cases k; rfl)

theorem pay1_entry (r : Fin 7936) (q : Fin 2560) :
    k0_pay1 (F := Ideal) (broadcastInDim S7936x1 ![0] bcast_S7936_S7936x1_0 (S2 m c)) (C1 m c) (broadcastInDim S7936x1 ![0] bcast_S7936_S7936x1_0 (Z3 m c)) (ix2 r q)
      = entry (C1 m c) (S2 m c) (Z3 m c) r q :=
  (pay1_apply _ _ _ r q).trans (congrArg₂ (fun s z => (FloatOps.sitofp (F := Ideal) .bf16 (C1 m c (ix2 r q)) - z) * s) (bc1 (S2 m c) r) (bc1 (Z3 m c) r))

theorem arr4_apply (r : Fin 7936) (q : Fin 2560) : ((dats m 0 c).arrAt 4 cfg0.N : S7936x2560.Idx → EReal) (ix2 r q) = entry (C1 m c) (S2 m c) (Z3 m c) r q := by
  rw [arr4, pay1_entry]
theorem arr5_apply (r : Fin 7936) (q : Fin 2560) : ((dats m 0 c).arrAt 5 cfg0.N : S7936x2560.Idx → EReal) (ix2 r q) = normed (C1 m c) (S2 m c) (Z3 m c) (W4 m c) r q := by
  rw [arr5, pay2_apply]
  exact congrArg₂ (· * ·) (congrArg₂ (fun a b => a * invNorm b) (pay1_entry m c r q)
    (Finset.sum_congr rfl fun k _ => congrArg₂ (· * ·) (pay1_entry m c r k) (pay1_entry m c r k))) (bc2 (W4 m c) q)

/-! ## The rows the ids name -/

abbrev dims : GatherDims S7936x2560 S8x4096x1 S8x4096x2560 := gather_S7936x2560_S8x4096x1_S8x4096x2560_2_0_n_n_0_2_12560

/-- The gather read at an index: the operand's row named by the start index, clamped, at the index's column. -/
theorem gather_apply {α : Type} (x : S7936x2560.Idx → α) (i : IVec S8x4096x1 32) (y : S8x4096x2560.Idx) :
    Host.gather dims x i y = x (ix2 ⟨min (i (ix3 (y 0) (y 1) 0)).toInt.toNat 7935, by omega⟩ (y 2)) := by
  unfold Host.gather
  congr 1
  funext a
  refine Fin.ext ?_
  show dims.start y i a + dims.batchCoord y a + dims.offCoord y a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ dims.startIndexMap from List.mem_singleton.mpr rfl)]
    have hsi : dims.siIdx y ⟨List.idxOf (0 : Fin 2) dims.startIndexMap,
        List.idxOf_lt_length_iff.2 (List.mem_singleton.mpr rfl)⟩ = ix3 (y 0) (y 1) 0 := by
      funext b; refine Fin.ext ?_
      match b with
      | ⟨0, _⟩ => rfl
      | ⟨1, _⟩ => rfl
      | ⟨2, _⟩ => rfl
    rw [hsi]
    rfl
  · rw [GatherDims.batchCoord_eq_zero _ _ _ List.not_mem_nil]
    unfold GatherDims.start
    rw [dif_neg (by decide)]
    simp only [Nat.zero_add, Nat.add_zero]
    unfold GatherDims.offCoord
    rw [dif_pos (by decide)]
    rfl

/-- The row numbers the host takes from the ids: one below zero counts from the table's end. -/
def starts (I : S8x4096.Idx → BitVec 32) : IVec S8x4096x1 32 :=
  broadcastInDim S8x4096x1 ![0, 1] bcast_S8x4096_S8x4096x1_0_1
    (select (cmpi .slt I (broadcastInDim S8x4096 ![] bcast_S_S8x4096 (constantI S_ 32 0#32))) (addi I (broadcastInDim S8x4096 ![] bcast_S_S8x4096 (constantI S_ 32 7936#32))) I)

theorem bc3 (x : S8x4096.Idx → BitVec 32) (a : Fin 8) (b : Fin 4096) : broadcastInDim S8x4096x1 ![0, 1] bcast_S8x4096_S8x4096x1_0_1 x (ix3 a b 0) = x (ix2 a b) :=
  congrArg x (funext fun k => by fin_cases k <;> rfl)

/-- The row numbers the host takes from the ids, and that a small id is its own. -/
theorem start_eq (I : S8x4096.Idx → BitVec 32) (h : ∀ j, (I j).toNat < 7936) (y : S8x4096x2560.Idx) :
    (⟨min (starts I (ix3 (y 0) (y 1) 0)).toInt.toNat 7935, by omega⟩ : Fin 7936) = row (I (ix2 (y 0) (y 1))) := by
  have e : starts I (ix3 (y 0) (y 1) 0) = I (ix2 (y 0) (y 1)) := by
    have hlt := h (ix2 (y 0) (y 1))
    have hs : (I (ix2 (y 0) (y 1))).slt 0#32 = false := by
      have hb := BitVec.toInt_eq_toNat_cond (I (ix2 (y 0) (y 1)))
      have h0 : (0#32).toInt = 0 := by decide
      rw [BitVec.slt_eq_decide, h0, decide_eq_false_iff_not]
      split at hb <;> omega
    refine (bc3 _ (y 0) (y 1)).trans ?_
    show (if BitVec.ofBool ((I (ix2 (y 0) (y 1))).slt 0#32) = 1#1 then _ else I (ix2 (y 0) (y 1))) = _
    rw [hs]
    rfl
  have hlt := h (ix2 (y 0) (y 1))
  have hb := BitVec.toInt_eq_toNat_cond (I (ix2 (y 0) (y 1)))
  refine Fin.ext ?_
  show min _ 7935 = (I (ix2 (y 0) (y 1))).toNat % 7936
  rw [e]
  split at hb <;> omega

/-- What the host operations after the kernel find: the two tables, and the ids. -/
abbrev found : Valuation τ sig (Elt Ideal) := Pipeline.withArrays spec0 c (V0 m c) fun w => (dats m 0 c).arrAt w cfg0.N
theorem arrays_4 : found m c (Proc.devRef .tc main_v3_0) = (dats m 0 c).arrAt 4 cfg0.N :=
  Pipeline.withArrays_arr spec0 launch0.win.arr_inj c (V0 m c) (fun w => (dats m 0 c).arrAt w cfg0.N) 4
theorem arrays_5 : found m c (Proc.devRef .tc main_v3_1) = (dats m 0 c).arrAt 5 cfg0.N :=
  Pipeline.withArrays_arr spec0 launch0.win.arr_inj c (V0 m c) (fun w => (dats m 0 c).arrAt w cfg0.N) 5
theorem arrays_ids : found m c (Proc.devRef .tc main_arg0) = I0 m c :=
  (Pipeline.withArrays_of_ne spec0 c (V0 m c) (fun w => (dats m 0 c).arrAt w cfg0.N) main_arg0 (by decide)).trans (V_main_arg0 m c)

/-- The reference's second result: each token's row, decoded. -/
theorem emb (h : ∀ j, (I0 m c j).toNat < 7936) (y : S8x4096x2560.Idx) :
    (Pipeline.afterTail₀ cfgs (dats m) 0 (V0 m) [hostOps1] c main_v10 : S8x4096x2560.Idx → EReal) y
      = entry (C1 m c) (S2 m c) (Z3 m c) (row (I0 m c (ix2 (y 0) (y 1)))) (y 2) := by
  have e : (Pipeline.afterTail₀ cfgs (dats m) 0 (V0 m) [hostOps1] c main_v10 : S8x4096x2560.Idx → EReal)
      = Host.gather dims ((dats m 0 c).arrAt 4 cfg0.N : S7936x2560.Idx → EReal) (starts (I0 m c)) := by
    show StableHlo.after hostOps1 (Pipeline.withArrays spec0 c (V0 m c) fun w => (dats m 0 c).arrAt w cfg0.N) (Proc.devRef .tc main_v10) = _
    after_results
    exact congrArg₂ (Host.gather dims) (arrays_4 m c) (congrArg starts (arrays_ids m c))
  rw [e, gather_apply, start_eq _ h]
  exact arr4_apply m c _ _

/-- The reference's first result: each token's row, normalised and weighted. -/
theorem out (h : ∀ j, (I0 m c j).toNat < 7936) (y : S8x4096x2560.Idx) :
    (Pipeline.afterTail₀ cfgs (dats m) 0 (V0 m) [hostOps1] c main_v17 : S8x4096x2560.Idx → EReal) y
      = normed (C1 m c) (S2 m c) (Z3 m c) (W4 m c) (row (I0 m c (ix2 (y 0) (y 1)))) (y 2) := by
  have e : (Pipeline.afterTail₀ cfgs (dats m) 0 (V0 m) [hostOps1] c main_v17 : S8x4096x2560.Idx → EReal)
      = Host.gather dims ((dats m 0 c).arrAt 5 cfg0.N : S7936x2560.Idx → EReal) (starts (I0 m c)) := by
    show StableHlo.after hostOps1 (Pipeline.withArrays spec0 c (V0 m c) fun w => (dats m 0 c).arrAt w cfg0.N) (Proc.devRef .tc main_v17) = _
    after_results
    exact congrArg₂ (Host.gather dims) (arrays_5 m c) (congrArg starts (arrays_ids m c))
  rw [e, gather_apply, start_eq _ h]
  exact arr5_apply m c _ _

end Cert.Proof.ReferenceValue

end
-- ==== Proof.Algebraic.lean ====
/- The claim over the extended reals: the kernel's two results are the reference's. -/
module

public import proofs.«01_k».proof.Defs
public import proofs.«01_k».proof.Proof.Ids
public import proofs.«01_k».proof.Proof.Equation
public import proofs.«01_k».proof.Proof.ReferenceValue
public import proofs.«01_k».proof.Proof.Gen.Pre_ids_name_rows
public import Idealize.ShloMosaic.Lib.Claim

@[expose] public section

set_option maxRecDepth 16384

noncomputable section

namespace Cert.Proof.Algebraic

open Idealize.ShloMosaic Idealize.ShloMosaic.TcCoe Idealize.SL.Sem

section Kernel
open Cert.KernelIdeal Cert.KernelIdeal.Gen Cert.Proof.KernelIdealRun Cert.Proof.KernelIdealValue

variable (m : (ℓ : Loc nD τ sig) → Buf (Elt Ideal) ℓ) (ρ : Dev nD → PrngReg)

/-! What the host operations after the kernel find in its two result arrays, and what they leave of it in the results. -/
theorem found_4 (c : Dev nD) : found m c (Proc.devRef .tc main_v5_0) = G6 m c :=
  (Pipeline.withArrays_arr spec0 launch0.win.arr_inj c _ (fun w => (dats m 0 c).arrAt w cfg0.N) 4).trans (arr4 m c)
theorem found_5 (c : Dev nD) : found m c (Proc.devRef .tc main_v5_1) = G7 m c :=
  (Pipeline.withArrays_arr spec0 launch0.win.arr_inj c _ (fun w => (dats m 0 c).arrAt w cfg0.N) 5).trans (arr5 m c)
theorem after_out (c : Dev nD) : StableHlo.after hostOps1 (found m c) (Proc.devRef .tc main_v8) = untile (G6 m c) := by
  rw [← found_4]
  after_results
  rfl
theorem after_emb (c : Dev nD) : StableHlo.after hostOps1 (found m c) (Proc.devRef .tc main_v11) = untile (G7 m c) := by
  rw [← found_5]
  after_results
  rfl

/-- Every run of the ideal program ends with the two results untiled from the two arrays, and the arguments unchanged. -/
theorem run_kernel (h : ∀ (c : Dev nD) j, ((m ((c : Thread nD τ).loc main_arg0) : S8x4096.Idx → BitVec 32) j).toNat < 7936) :
    θ_run defs (onTc (τ := τ) (main (F := Ideal))) ⟨m, fun _ => 0, ρ⟩ (fun r => ∀ c : Dev nD,
      r.2.mem ((c.tc : Thread nD τ).loc main_v8) = untile (G6 m c)
      ∧ r.2.mem ((c.tc : Thread nD τ).loc main_v11) = untile (G7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  θ_run_mono (θ_run_and (KernelIdealRun.run m ρ h) (KernelIdealRun.frame m ρ h)) fun _ hr c =>
    ⟨(hr.1.1 c main_v8 (Pipeline.mem_restRefs_of main_v8 (by decide) (by decide))).trans (after_out m c),
      (hr.1.1 c main_v11 (Pipeline.mem_restRefs_of main_v11 (by decide) (by decide))).trans (after_emb m c), hr.2.1 c⟩

end Kernel

section Reference
open Cert.ReferenceIdeal Cert.ReferenceIdeal.Gen

variable (m : (ℓ : Loc nD τ sig) → Buf (Elt Ideal) ℓ) (ρ : Dev nD → PrngReg)

theorem run_reference :
    θ_run defs (onTc (τ := τ) (main (F := Ideal))) ⟨m, fun _ => 0, ρ⟩ (fun r => ∀ c : Dev nD,
      r.2.mem ((c.tc : Thread nD τ).loc main_v17) = Pipeline.afterTail₀ cfgs (dats m) 0 (V0 m) [hostOps1] c main_v17
      ∧ r.2.mem ((c.tc : Thread nD τ).loc main_v10) = Pipeline.afterTail₀ cfgs (dats m) 0 (V0 m) [hostOps1] c main_v10
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  θ_run_mono (θ_run_and (run_main m ρ) (unchanged m ρ)) fun _ hr c =>
    ⟨(hr.1 c).2 main_v17 (Pipeline.mem_restRefs_of main_v17 (by decide) (by decide)),
      (hr.1 c).2 main_v10 (Pipeline.mem_restRefs_of main_v10 (by decide) (by decide)), hr.2 c⟩

end Reference

/-- An index of a result is its three coordinates. -/
theorem ext_results {f g : (⟨3, ![8, 4096, 2560]⟩ : Shape).Idx → EReal} (h : ∀ (b : Fin 8) (s : Fin 4096) (q : Fin 2560), f (ix3 b s q) = g (ix3 b s q)) : f = g := by
  funext y
  have e : y = ix3 (y 0) (y 1) (y 2) := funext fun a => by fin_cases a <;> rfl
  rw [e]
  exact h _ _ _

/-- Both programs end with the same two results. -/
theorem algebraic : Cert.algebraic_KernelIdeal_ReferenceIdeal := by
  intro m ρ m' ρ' hpre hagree
  have h := fun c j => Ids.lt_of_pre (hpre c) j
  refine ⟨fun c => KernelIdealValue.untile (KernelIdealRun.G6 m c), fun c => KernelIdealValue.untile (KernelIdealRun.G7 m c), run_kernel m ρ h, ?_⟩
  refine θ_run_mono (run_reference m' ρ') fun r hr c => ?_
  obtain ⟨h17, h10, hargs⟩ := hr c
  obtain ⟨e0, e1, e2, e3, e4⟩ := hagree c
  have h' : ∀ j, (ReferenceValue.I0 m' c j).toNat < 7936 := fun j => by
    show ((m' ((c.tc : Thread _ _).loc Cert.ReferenceIdeal.main_arg0) : Cert.ReferenceIdeal.S8x4096.Idx → BitVec 32) j).toNat < 7936
    rw [e0]
    exact h c j
  refine ⟨h17.trans (ext_results fun b s q => ?_), h10.trans (ext_results fun b s q => ?_), hargs⟩
  · refine (ReferenceValue.out m' c h' (ix3 b s q)).trans (Eq.trans ?_ (Equation.out m c (h c) b s q).symm)
    show Spec.normed (m' ((c.tc : Thread _ _).loc Cert.ReferenceIdeal.main_arg1)) (m' ((c.tc : Thread _ _).loc Cert.ReferenceIdeal.main_arg2)) (m' ((c.tc : Thread _ _).loc Cert.ReferenceIdeal.main_arg3))
      (m' ((c.tc : Thread _ _).loc Cert.ReferenceIdeal.main_arg4)) (Spec.row ((m' ((c.tc : Thread _ _).loc Cert.ReferenceIdeal.main_arg0) : Cert.ReferenceIdeal.S8x4096.Idx → BitVec 32) (ix2 b s))) q = _
    rw [e0, e1, e2, e3, e4]
  · refine (ReferenceValue.emb m' c h' (ix3 b s q)).trans (Eq.trans ?_ (Equation.emb m c (h c) b s q).symm)
    show Spec.entry (m' ((c.tc : Thread _ _).loc Cert.ReferenceIdeal.main_arg1)) (m' ((c.tc : Thread _ _).loc Cert.ReferenceIdeal.main_arg2)) (m' ((c.tc : Thread _ _).loc Cert.ReferenceIdeal.main_arg3))
      (Spec.row ((m' ((c.tc : Thread _ _).loc Cert.ReferenceIdeal.main_arg0) : Cert.ReferenceIdeal.S8x4096.Idx → BitVec 32) (ix2 b s))) q = _
    rw [e0, e1, e2, e3]

end Cert.Proof.Algebraic

end
-- ==== Proof.lean ====
module

public import proofs.«01_k».proof.Defs
public import proofs.«01_k».proof.Proof.KernelFrame
public import proofs.«01_k».proof.Proof.Algebraic
public import proofs.«01_k».proof.Proof.Gen.ReferenceIdeal.Frame
public import proofs.«01_k».proof.Proof.Gen.Pre_ids_name_rows
public import Idealize.ShloMosaic.Lib.Bf16PairInverse

@[expose] public section

noncomputable section

namespace Cert.Proof

open Idealize.ShloMosaic Idealize.SL.Sem

/-- The ideal program's rewrites are instances of the two rules' statements. -/
theorem preserves : Cert.preserves_Kernel_KernelIdeal :=
  ⟨IdealRules.bf16_pair.bufferStatement _ _, IdealRules.bf16_pair.bufferStatement _ _,
    IdealRules.bf16_pair.statement _ _, IdealRules.bf16_pair.statement _ _, IdealRules.bf16_pair.statement _ _,
    IdealRules.bf16_pair.statement _ _, IdealRules.bf16_pair.statement _ _, IdealRules.bf16_pair.packStatement _⟩

theorem claim : Cert.Claim :=
  ⟨Cert.Kernel.Gen.facts, Cert.KernelIdeal.Gen.facts, Cert.ReferenceIdeal.Gen.facts, Cert.Pre_ids_name_rows.Gen.facts,
    fun m ρ h => KernelFrame.frame m ρ fun c j => Ids.lt_of_pre (h c) j,
    fun m ρ h => KernelIdealRun.frame m ρ fun c j => Ids.lt_of_pre (h c) j,
    fun m ρ _ => Cert.ReferenceIdeal.Gen.frame m ρ, fun m ρ _ => Cert.ReferenceIdeal.Gen.frame m ρ, preserves, Algebraic.algebraic⟩

end Cert.Proof

end
